-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_loss_args_finite [hPre_loss_args_finite : Cert.Pre_loss_args_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_loss_args_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_loss_args_finite [hPre_loss_args_finite : Cert.Pre_loss_args_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_loss_args_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_merge_args_finite [hPre_merge_args_finite : Cert.Pre_merge_args_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_merge_args_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_merge_args_finite [hPre_merge_args_finite : Cert.Pre_merge_args_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_merge_args_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_xgrad_args_finite [hPre_xgrad_args_finite : Cert.Pre_xgrad_args_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_xgrad_args_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_xgrad_args_finite [hPre_xgrad_args_finite : Cert.Pre_xgrad_args_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_xgrad_args_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_loss_args_finite [hKernel3Ideal : Cert.Kernel3Ideal.Facts] [hPre_loss_args_finite : Cert.Pre_loss_args_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_loss_args_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_loss_args_finite [hReference3Ideal : Cert.Reference3Ideal.Facts] [hPre_loss_args_finite : Cert.Pre_loss_args_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_loss_args_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_merge_args_finite [hKernel5Ideal : Cert.Kernel5Ideal.Facts] [hPre_merge_args_finite : Cert.Pre_merge_args_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_merge_args_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_merge_args_finite [hReference5Ideal : Cert.Reference5Ideal.Facts] [hPre_merge_args_finite : Cert.Pre_merge_args_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_merge_args_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_xgrad_args_finite [hKernel6Ideal : Cert.Kernel6Ideal.Facts] [hPre_xgrad_args_finite : Cert.Pre_xgrad_args_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_xgrad_args_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_xgrad_args_finite [hReference6Ideal : Cert.Reference6Ideal.Facts] [hPre_xgrad_args_finite : Cert.Pre_xgrad_args_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_xgrad_args_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def preserves_Kernel3_Kernel3Ideal : Prop :=
  IdealRules.named_const.Statement Cert.Kernel3Ideal.κ "gelu_c" .f32 0x3D372713#32 ((8943 / 200000 : ℝ) : EReal)
  ∧ IdealRules.named_const.Statement Cert.Kernel3Ideal.κ "gelu_3c" .f32 0x3E095D4F#32 ((26829 / 200000 : ℝ) : EReal)

def algebraic_Kernel3Ideal_Reference3Ideal_pre_loss_args_finite [hKernel3Ideal : Cert.Kernel3Ideal.Facts] [hReference3Ideal : Cert.Reference3Ideal.Facts] [hPre_loss_args_finite : Cert.Pre_loss_args_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_loss_args_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v101) = v1 c
          ∧ r.2.mem ((c.tc : Thread Cert.Reference3Ideal.nD Cert.Reference3Ideal.τ).loc Cert.Reference3Ideal.main_v102) = v2 c
          ∧ r.2.mem ((c.tc : Thread Cert.Reference3Ideal.nD Cert.Reference3Ideal.τ).loc Cert.Reference3Ideal.main_v103) = v3 c
          ∧ r.2.mem ((c.tc : Thread Cert.Reference3Ideal.nD Cert.Reference3Ideal.τ).loc Cert.Reference3Ideal.main_v104) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_v68) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_merge_args_finite [hKernel5Ideal : Cert.Kernel5Ideal.Facts] [hReference5Ideal : Cert.Reference5Ideal.Facts] [hPre_merge_args_finite : Cert.Pre_merge_args_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_merge_args_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v73_0)) (v1 : (c : Dev Cert.Kernel5Ideal.nD) → Buf (Elt Ideal) ((c.tc : Thread Cert.Kernel5Ideal.nD Cert.Kernel5Ideal.τ).loc Cert.Kernel5Ideal.main_v73_1)) (v2 : (c : Dev Cert.Kernel5Ideal.nD) → Buf (Elt Ideal) ((c.tc : Thread Cert.Kernel5Ideal.nD Cert.Kernel5Ideal.τ).loc Cert.Kernel5Ideal.main_v73_2)) (v3 : (c : Dev Cert.Kernel5Ideal.nD) → Buf (Elt Ideal) ((c.tc : Thread Cert.Kernel5Ideal.nD Cert.Kernel5Ideal.τ).loc Cert.Kernel5Ideal.main_v73_3)) (v4 : (c : Dev Cert.Kernel5Ideal.nD) → Buf (Elt Ideal) ((c.tc : Thread Cert.Kernel5Ideal.nD Cert.Kernel5Ideal.τ).loc Cert.Kernel5Ideal.main_v73_4)) (v5 : (c : Dev Cert.Kernel5Ideal.nD) → Buf (Elt Ideal) ((c.tc : Thread Cert.Kernel5Ideal.nD Cert.Kernel5Ideal.τ).loc Cert.Kernel5Ideal.main_v73_5)) (v6 : (c : Dev Cert.Kernel5Ideal.nD) → Buf (Elt Ideal) ((c.tc : Thread Cert.Kernel5Ideal.nD Cert.Kernel5Ideal.τ).loc Cert.Kernel5Ideal.main_v73_6)) (v7 : (c : Dev Cert.Kernel5Ideal.nD) → Buf (Elt Ideal) ((c.tc : Thread Cert.Kernel5Ideal.nD Cert.Kernel5Ideal.τ).loc Cert.Kernel5Ideal.main_v73_7)) (v8 : (c : Dev Cert.Kernel5Ideal.nD) → Buf (Elt Ideal) ((c.tc : Thread Cert.Kernel5Ideal.nD Cert.Kernel5Ideal.τ).loc Cert.Kernel5Ideal.main_v73_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v73_0) = v0 c
          ∧ r.2.mem ((c.tc : Thread Cert.Kernel5Ideal.nD Cert.Kernel5Ideal.τ).loc Cert.Kernel5Ideal.main_v73_1) = v1 c
          ∧ r.2.mem ((c.tc : Thread Cert.Kernel5Ideal.nD Cert.Kernel5Ideal.τ).loc Cert.Kernel5Ideal.main_v73_2) = v2 c
          ∧ r.2.mem ((c.tc : Thread Cert.Kernel5Ideal.nD Cert.Kernel5Ideal.τ).loc Cert.Kernel5Ideal.main_v73_3) = v3 c
          ∧ r.2.mem ((c.tc : Thread Cert.Kernel5Ideal.nD Cert.Kernel5Ideal.τ).loc Cert.Kernel5Ideal.main_v73_4) = v4 c
          ∧ r.2.mem ((c.tc : Thread Cert.Kernel5Ideal.nD Cert.Kernel5Ideal.τ).loc Cert.Kernel5Ideal.main_v73_5) = v5 c
          ∧ r.2.mem ((c.tc : Thread Cert.Kernel5Ideal.nD Cert.Kernel5Ideal.τ).loc Cert.Kernel5Ideal.main_v73_6) = v6 c
          ∧ r.2.mem ((c.tc : Thread Cert.Kernel5Ideal.nD Cert.Kernel5Ideal.τ).loc Cert.Kernel5Ideal.main_v73_7) = v7 c
          ∧ r.2.mem ((c.tc : Thread Cert.Kernel5Ideal.nD Cert.Kernel5Ideal.τ).loc Cert.Kernel5Ideal.main_v73_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v85) = v0 c
          ∧ r.2.mem ((c.tc : Thread Cert.Reference5Ideal.nD Cert.Reference5Ideal.τ).loc Cert.Reference5Ideal.main_v116) = v1 c
          ∧ r.2.mem ((c.tc : Thread Cert.Reference5Ideal.nD Cert.Reference5Ideal.τ).loc Cert.Reference5Ideal.main_v117) = v2 c
          ∧ r.2.mem ((c.tc : Thread Cert.Reference5Ideal.nD Cert.Reference5Ideal.τ).loc Cert.Reference5Ideal.main_v118) = v3 c
          ∧ r.2.mem ((c.tc : Thread Cert.Reference5Ideal.nD Cert.Reference5Ideal.τ).loc Cert.Reference5Ideal.main_v119) = v4 c
          ∧ r.2.mem ((c.tc : Thread Cert.Reference5Ideal.nD Cert.Reference5Ideal.τ).loc Cert.Reference5Ideal.main_v120) = v5 c
          ∧ r.2.mem ((c.tc : Thread Cert.Reference5Ideal.nD Cert.Reference5Ideal.τ).loc Cert.Reference5Ideal.main_v124) = v6 c
          ∧ r.2.mem ((c.tc : Thread Cert.Reference5Ideal.nD Cert.Reference5Ideal.τ).loc Cert.Reference5Ideal.main_v125) = v7 c
          ∧ r.2.mem ((c.tc : Thread Cert.Reference5Ideal.nD Cert.Reference5Ideal.τ).loc Cert.Reference5Ideal.main_v126) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal_pre_xgrad_args_finite [hKernel6Ideal : Cert.Kernel6Ideal.Facts] [hReference6Ideal : Cert.Reference6Ideal.Facts] [hPre_xgrad_args_finite : Cert.Pre_xgrad_args_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_xgrad_args_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v53) = v0 c
          ∧ r.2.mem ((c.tc : Thread Cert.Reference8Ideal.nD Cert.Reference8Ideal.τ).loc Cert.Reference8Ideal.main_v54) = v1 c
          ∧ r.2.mem ((c.tc : Thread Cert.Reference8Ideal.nD Cert.Reference8Ideal.τ).loc Cert.Reference8Ideal.main_v55) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_v39) = v4 c
          ∧ r.2.mem ((c.tc : Thread Cert.Reference8Ideal.nD Cert.Reference8Ideal.τ).loc Cert.Reference8Ideal.main_v57) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_v48) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v20)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v20) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v33) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v16) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_loss_args_finite : Cert.Pre_loss_args_finite.Facts) (hPre_merge_args_finite : Cert.Pre_merge_args_finite.Facts) (hPre_xgrad_args_finite : Cert.Pre_xgrad_args_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_loss_args_finite (hKernel3Ideal := hKernel3Ideal) (hPre_loss_args_finite := hPre_loss_args_finite)
    ∧ quiescent_Reference3Ideal (hReference3Ideal := hReference3Ideal)
    ∧ quiescent_Reference3Ideal_pre_loss_args_finite (hReference3Ideal := hReference3Ideal) (hPre_loss_args_finite := hPre_loss_args_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_merge_args_finite (hKernel5Ideal := hKernel5Ideal) (hPre_merge_args_finite := hPre_merge_args_finite)
    ∧ quiescent_Reference5Ideal (hReference5Ideal := hReference5Ideal)
    ∧ quiescent_Reference5Ideal_pre_merge_args_finite (hReference5Ideal := hReference5Ideal) (hPre_merge_args_finite := hPre_merge_args_finite)
    ∧ quiescent_Kernel6 (hKernel6 := hKernel6)
    ∧ quiescent_Kernel6Ideal (hKernel6Ideal := hKernel6Ideal)
    ∧ quiescent_Kernel6Ideal_pre_xgrad_args_finite (hKernel6Ideal := hKernel6Ideal) (hPre_xgrad_args_finite := hPre_xgrad_args_finite)
    ∧ quiescent_Reference6Ideal (hReference6Ideal := hReference6Ideal)
    ∧ quiescent_Reference6Ideal_pre_xgrad_args_finite (hReference6Ideal := hReference6Ideal) (hPre_xgrad_args_finite := hPre_xgrad_args_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ algebraic_Kernel3Ideal_Reference3Ideal_pre_loss_args_finite (hKernel3Ideal := hKernel3Ideal) (hReference3Ideal := hReference3Ideal) (hPre_loss_args_finite := hPre_loss_args_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_merge_args_finite (hKernel5Ideal := hKernel5Ideal) (hReference5Ideal := hReference5Ideal) (hPre_merge_args_finite := hPre_merge_args_finite)
    ∧ preserves_Kernel6_Kernel6Ideal
    ∧ algebraic_Kernel6Ideal_Reference6Ideal_pre_xgrad_args_finite (hKernel6Ideal := hKernel6Ideal) (hReference6Ideal := hReference6Ideal) (hPre_xgrad_args_finite := hPre_xgrad_args_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_loss_args_finite.lean ====
abbrev S2048x6144 : Shape := ⟨2, ![2048, 6144]⟩
abbrev S3072x1024 : Shape := ⟨2, ![3072, 1024]⟩
abbrev S2048x1024 : Shape := ⟨2, ![2048, 1024]⟩
abbrev S1024 : Shape := ⟨1, ![1024]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2048x6144 .bf16) (main_arg1 : FVec F S3072x1024 .bf16) (main_arg2 : FVec F S2048x1024 .f32) (main_arg3 : FVec F S2048x1024 .f32) (main_arg4 : FVec F S1024 .f32) : IVec S_ 1 :=
  let main_v0 : FVec F S2048x6144 .bf16 := Host.absf main_arg0
  let main_cst : FVec F S_ .bf16 := constant S_ .bf16 0x7F80#16
  let main_v1 : FVec F S2048x6144 .bf16 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S3072x1024 .bf16 := Host.absf main_arg1
  let main_cst_0 : FVec F S_ .bf16 := constant S_ .bf16 0x7F80#16
  let main_v5 : FVec F S3072x1024 .bf16 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Pre_merge_args_finite.lean ====
abbrev S2048x1024 : Shape := ⟨2, ![2048, 1024]⟩
abbrev S2048x7168 : Shape := ⟨2, ![2048, 7168]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_arg9 : FVec F S2048x1024 .f32) (main_arg10 : FVec F S2048x1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2048x1024 .f32 := Host.absf main_arg9
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048x1024 .f32 := Host.absf main_arg10
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  main_v48

def fn_part1 {F : FTy → Type} [FloatOps F] (main_arg5 : FVec F S1024x1024 .bf16) (main_arg6 : FVec F S1024x1024 .bf16) (main_arg7 : FVec F S1024 .f32) (main_arg8 : FVec F S1024 .f32) (main_arg9 : FVec F S2048x1024 .f32) (main_arg10 : FVec F S2048x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .bf16 := Host.absf main_arg5
  let main_cst_6 : FVec F S_ .bf16 := constant S_ .bf16 0x7F80#16
  let main_v20 : FVec F S1024x1024 .bf16 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .bf16 := Host.absf main_arg6
  let main_cst_8 : FVec F S_ .bf16 := constant S_ .bf16 0x7F80#16
  let main_v25 : FVec F S1024x1024 .bf16 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_v33

def fn {F : FTy → Type} [FloatOps F] (main_arg0 : FVec F S2048x1024 .bf16) (main_arg1 : FVec F S2048x1024 .bf16) (main_arg2 : FVec F S2048x7168 .bf16) (main_arg3 : FVec F S2048x1024 .f32) (main_arg4 : FVec F S1024x1024 .bf16) (main_arg5 : FVec F S1024x1024 .bf16) (main_arg6 : FVec F S1024x1024 .bf16) (main_arg7 : FVec F S1024 .f32) (main_arg8 : FVec F S1024 .f32) (main_arg9 : FVec F S2048x1024 .f32) (main_arg10 : FVec F S2048x1024 .f32) : IVec S_ 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .bf16 := Host.absf main_arg1
  let main_cst_0 : FVec F S_ .bf16 := constant S_ .bf16 0x7F80#16
  let main_v5 : FVec F S2048x1024 .bf16 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x1024 .bf16 := Host.absf main_arg4
  let main_cst_4 : FVec F S_ .bf16 := constant S_ .bf16 0x7F80#16
  let main_v15 : FVec F S1024x1024 .bf16 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_v13 main_v16
-- ==== Pre_xgrad_args_finite.lean ====
abbrev S3x2048x1024 : Shape := ⟨3, ![3, 2048, 1024]⟩
abbrev S2x2048x1024 : Shape := ⟨3, ![2, 2048, 1024]⟩
abbrev S1024x7168 : Shape := ⟨2, ![1024, 7168]⟩
abbrev S2048x1024 : Shape := ⟨2, ![2048, 1024]⟩
abbrev S1024 : Shape := ⟨1, ![1024]⟩
abbrev S_ : Shape := ⟨0, ![]⟩

class Facts : Prop where
  bcast_S_S3x2048x1024 : S_.BroadcastsInDim S3x2048x1024 (![] : Fin 0 → Fin S3x2048x1024.rank)
  reducesTo_S3x2048x1024_S_d0_1_2 : S3x2048x1024.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024x7168 : S_.BroadcastsInDim S1024x7168 (![] : Fin 0 → Fin S1024x7168.rank)
  reducesTo_S1024x7168_S_d0_1 : S1024x7168.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg6 : FVec F S1024 .f32) (main_v13 : IVec S_ 1) (main_v16 : IVec S1024x7168 1) : IVec S_ 1 :=
  let main_c_5 : IVec S_ 1 := constantI S_ 1 1#1
  let main_v17 : IVec S_ 1 := (fun x v => Host.reduce IntOp.andi x v reducesTo_S1024x7168_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S3x2048x1024 .bf16) (main_arg1 : FVec F S2x2048x1024 .bf16) (main_arg2 : FVec F S2x2048x1024 .bf16) (main_arg3 : FVec F S1024x7168 .bf16) (main_arg4 : FVec F S2048x1024 .f32) (main_arg5 : FVec F S2048x1024 .f32) (main_arg6 : FVec F S1024 .f32) : IVec S_ 1 :=
  let main_v0 : FVec F S3x2048x1024 .bf16 := Host.absf main_arg0
  let main_cst : FVec F S_ .bf16 := constant S_ .bf16 0x7F80#16
  let main_v1 : FVec F S3x2048x1024 .bf16 := broadcastInDim S3x2048x1024 ![] bcast_S_S3x2048x1024 main_cst
  let main_v2 : IVec S3x2048x1024 1 := cmpf .olt main_v0 main_v1
  let main_c : IVec S_ 1 := constantI S_ 1 1#1
  let main_v3 : IVec S_ 1 := (fun x v => Host.reduce IntOp.andi x v reducesTo_S3x2048x1024_S_d0_1_2 h_S_) main_v2 main_c
  let main_v4 : FVec F S2x2048x1024 .bf16 := Host.absf main_arg1
  let main_cst_0 : FVec F S_ .bf16 := constant S_ .bf16 0x7F80#16
  let main_v5 : FVec F S2x2048x1024 .bf16 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .bf16 := Host.absf main_arg2
  let main_cst_2 : FVec F S_ .bf16 := constant S_ .bf16 0x7F80#16
  let main_v10 : FVec F S2x2048x1024 .bf16 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x7168 .bf16 := Host.absf main_arg3
  let main_cst_4 : FVec F S_ .bf16 := constant S_ .bf16 0x7F80#16
  let main_v15 : FVec F S1024x7168 .bf16 := broadcastInDim S1024x7168 ![] bcast_S_S1024x7168 main_cst_4
  let main_v16 : IVec S1024x7168 1 := cmpf .olt main_v14 main_v15
  fn_part1 (F := F) main_arg4 main_arg6 main_v13 main_v16
-- ==== Kernel.lean ====
abbrev S2048x7168 : Shape := ⟨2, ![2048, 7168]⟩
abbrev S2048x1024 : Shape := ⟨2, ![2048, 1024]⟩
abbrev S3x1024 : Shape := ⟨2, ![3, 1024]⟩
abbrev S3x2048x1024 : Shape := ⟨3, ![3, 2048, 1024]⟩
abbrev S2048x256 : Shape := ⟨2, ![2048, 256]⟩
abbrev S3x256 : Shape := ⟨2, ![3, 256]⟩
abbrev S3x2048x256 : Shape := ⟨3, ![3, 2048, 256]⟩
abbrev S2056x256 : Shape := ⟨2, ![2056, 256]⟩
abbrev S8x256 : Shape := ⟨2, ![8, 256]⟩
abbrev S256x256 : Shape := ⟨2, ![256, 256]⟩
abbrev S1x256 : Shape := ⟨2, ![1, 256]⟩
abbrev S248x256 : Shape := ⟨2, ![248, 256]⟩
abbrev S1x256x256 : Shape := ⟨3, ![1, 256, 256]⟩
abbrev S256 : Shape := ⟨1, ![256]⟩

abbrev nBuf : Space → Nat
  | .hbm => 5
  | .vmem => 16
  | .smem => 0
  | _ => 0

abbrev bufTy : (tb : Table) → Fin (tcTables nBuf tb) → BufTy
  | .hbm, ⟨0, _⟩ => ⟨S2048x7168, .bf16⟩
  | .hbm, ⟨1, _⟩ => ⟨S2048x1024, .bf16⟩
  | .hbm, ⟨2, _⟩ => ⟨S3x1024, .f32⟩
  | .hbm, ⟨3, _⟩ => ⟨S3x2048x1024, .bf16⟩
  | .hbm, ⟨4, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S3x2048x256, .bf16⟩
  | .local _ .vmem, ⟨11, _⟩ => ⟨S3x2048x256, .bf16⟩
  | .local _ .vmem, ⟨12, _⟩ => ⟨S3x256, .f32⟩
  | .local _ .vmem, ⟨13, _⟩ => ⟨S3x256, .f32⟩
  | .local _ .vmem, ⟨14, _⟩ => ⟨S2056x256, .f32⟩
  | .local _ .vmem, ⟨15, _⟩ => ⟨S2056x256, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x7168 : Shape := ⟨2, ![2048, 7168]⟩
abbrev S2048x1024 : Shape := ⟨2, ![2048, 1024]⟩
abbrev S3x1024 : Shape := ⟨2, ![3, 1024]⟩
abbrev S1x2048x7168 : Shape := ⟨3, ![1, 2048, 7168]⟩
abbrev S1x2048x1024 : Shape := ⟨3, ![1, 2048, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S3x2048x1024 : Shape := ⟨3, ![3, 2048, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2048x1024, .bf16⟩
  | .hbm, ⟨2, _⟩ => ⟨S3x1024, .f32⟩
  | .hbm, ⟨3, _⟩ => ⟨S2048x7168, .f32⟩
  | .hbm, ⟨4, _⟩ => ⟨S1x2048x7168, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S2048x1024, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2x1024, .f32⟩
  | .hbm, ⟨13, _⟩ => ⟨S1x2050x1024, .f32⟩
  | .hbm, ⟨14, _⟩ => ⟨S_, .f32⟩
  | .hbm, ⟨15, _⟩ => ⟨S1x2x1024, .f32⟩
  | .hbm, ⟨16, _⟩ => ⟨S1x2048x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S1x2048x1024, .f32⟩
  | .hbm, ⟨36, _⟩ => ⟨S1x2048x1024, .f32⟩
  | .hbm, ⟨37, _⟩ => ⟨S1x2048x1024, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1x1024, .f32⟩
  | .hbm, ⟨42, _⟩ => ⟨S1x1x1024, .f32⟩
  | .hbm, ⟨43, _⟩ => ⟨S1x2048x1024, .f32⟩
  | .hbm, ⟨44, _⟩ => ⟨S1x2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S3x1024, .f32⟩
  | .hbm, ⟨50, _⟩ => ⟨S_, .f32⟩
  | .hbm, ⟨51, _⟩ => ⟨S1x2050x1024, .f32⟩
  | .hbm, ⟨52, _⟩ => ⟨S1x2048x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x2048x1024, .f32⟩
  | .hbm, ⟨57, _⟩ => ⟨S1x2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S_, .f32⟩
  | .hbm, ⟨65, _⟩ => ⟨S1x2050x1024, .f32⟩
  | .hbm, ⟨66, _⟩ => ⟨S1x2050x1024, .f32⟩
  | .hbm, ⟨67, _⟩ => ⟨S1x2048x1024, .f32⟩
  | .hbm, ⟨68, _⟩ => ⟨S_, .f32⟩
  | .hbm, ⟨69, _⟩ => ⟨S1x1024, .f32⟩
  | .hbm, ⟨70, _⟩ => ⟨S1x1x1024, .f32⟩
  | .hbm, ⟨71, _⟩ => ⟨S1x2048x1024, .f32⟩
  | .hbm, ⟨72, _⟩ => ⟨S1x2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S_, .f32⟩
  | .hbm, ⟨80, _⟩ => ⟨S1x2050x1024, .f32⟩
  | .hbm, ⟨81, _⟩ => ⟨S1x2050x1024, .f32⟩
  | .hbm, ⟨82, _⟩ => ⟨S1x2x1024, .f32⟩
  | .hbm, ⟨83, _⟩ => ⟨S1x2048x1024, .f32⟩
  | .hbm, ⟨84, _⟩ => ⟨S1x2048x1024, .f32⟩
  | .hbm, ⟨85, _⟩ => ⟨S1x2048x1024, .f32⟩
  | .hbm, ⟨86, _⟩ => ⟨S3x2048x1024, .f32⟩
  | .hbm, ⟨87, _⟩ => ⟨S3x2048x1024, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel2.lean ====
abbrev S2048x7168 : Shape := ⟨2, ![2048, 7168]⟩
abbrev S2048x1024 : Shape := ⟨2, ![2048, 1024]⟩
abbrev S4x1024 : Shape := ⟨2, ![4, 1024]⟩
abbrev S1024 : Shape := ⟨1, ![1024]⟩
abbrev S4x256x256 : Shape := ⟨3, ![4, 256, 256]⟩
abbrev S4x256 : Shape := ⟨2, ![4, 256]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S2048x4x256x1 : Shape := ⟨4, ![2048, 4, 256, 1]⟩
abbrev S1x4x256x256 : Shape := ⟨4, ![1, 4, 256, 256]⟩
abbrev S2048x4x256x256 : Shape := ⟨4, ![2048, 4, 256, 256]⟩
abbrev S2048x4x256 : Shape := ⟨3, ![2048, 4, 256]⟩
abbrev S2048 : Shape := ⟨1, ![2048]⟩
abbrev S2048x1 : Shape := ⟨2, ![2048, 1]⟩
abbrev S1x2048x1024 : Shape := ⟨3, ![1, 2048, 1024]⟩
abbrev S3x2048x1024 : Shape := ⟨3, ![3, 2048, 1024]⟩
abbrev S1x2048 : Shape := ⟨2, ![1, 2048]⟩
abbrev S2048x2048 : Shape := ⟨2, ![2048, 2048]⟩
abbrev S2048x2048x1 : Shape := ⟨3, ![2048, 2048, 1]⟩
abbrev S2048x2048x1024 : Shape := ⟨3, ![2048, 2048, 1024]⟩
abbrev S2048x1x1024 : Shape := ⟨3, ![2048, 1, 1024]⟩
abbrev S4x8x32x256 : Shape := ⟨4, ![4, 8, 32, 256]⟩
abbrev S8x4x32x256 : Shape := ⟨4, ![8, 4, 32, 256]⟩
abbrev S2x2048x1024 : Shape := ⟨3, ![2, 2048, 1024]⟩
abbrev S8x1024 : Shape := ⟨2, ![8, 1024]⟩
abbrev S2048x256 : Shape := ⟨2, ![2048, 256]⟩
abbrev S3x2048x256 : Shape := ⟨3, ![3, 2048, 256]⟩
abbrev S8x1x32x256 : Shape := ⟨4, ![8, 1, 32, 256]⟩
abbrev S1x256 : Shape := ⟨2, ![1, 256]⟩
abbrev S2x2048x256 : Shape := ⟨3, ![2, 2048, 256]⟩
abbrev S8x256 : Shape := ⟨2, ![8, 256]⟩
abbrev S2056x256 : Shape := ⟨2, ![2056, 256]⟩
abbrev S256x256 : Shape := ⟨2, ![256, 256]⟩
abbrev S32x256 : Shape := ⟨2, ![32, 256]⟩
abbrev S1x32x256 : Shape := ⟨3, ![1, 32, 256]⟩
abbrev S8x32x256 : Shape := ⟨3, ![8, 32, 256]⟩
abbrev S24x256 : Shape := ⟨2, ![24, 256]⟩
abbrev S4x8x256 : Shape := ⟨3, ![4, 8, 256]⟩
abbrev S1x256x256 : Shape := ⟨3, ![1, 256, 256]⟩
abbrev S256 : Shape := ⟨1, ![256]⟩

abbrev nBuf : Space → Nat
  | .hbm => 174
  | .vmem => 38
  | .smem => 0
  | _ => 0

abbrev hbmTy0_0 (i : Nat) : BufTy := match i % 128 with
  | 0 => ⟨S2048x7168, .bf16⟩
  | 1 => ⟨S2048x1024, .bf16⟩
  | 2 => ⟨S4x1024, .f32⟩
  | 3 => ⟨S1024, .f32⟩
  | 4 => ⟨S4x256x256, .f32⟩
  | 5 => ⟨S4x256, .f32⟩
  | 6 => ⟨S4x256x256, .f32⟩
  | 7 => ⟨S4x256, .f32⟩
  | 8 => ⟨S1024, .f32⟩
  | 9 => ⟨S2048x1024, .bf16⟩
  | 10 => ⟨S2048x1024, .f32⟩
  | 11 => ⟨S_, .f32⟩
  | 12 => ⟨S3x1024, .f32⟩
  | 13 => ⟨S2051x1024, .f32⟩
  | 14 => ⟨S2048x1024, .f32⟩
  | 15 => ⟨S1x1024, .f32⟩
  | 16 => ⟨S1024, .f32⟩
  | 17 => ⟨S1x1024, .f32⟩
  | 18 => ⟨S2048x1024, .f32⟩
  | 19 => ⟨S2048x1024, .f32⟩
  | 20 => ⟨S2048x1024, .f32⟩
  | 21 => ⟨S1x1024, .f32⟩
  | 22 => ⟨S1024, .f32⟩
  | 23 => ⟨S1x1024, .f32⟩
  | 24 => ⟨S2048x1024, .f32⟩
  | 25 => ⟨S2048x1024, .f32⟩
  | 26 => ⟨S2048x1024, .f32⟩
  | 27 => ⟨S2048x1024, .f32⟩
  | 28 => ⟨S1x1024, .f32⟩
  | 29 => ⟨S1024, .f32⟩
  | 30 => ⟨S1x1024, .f32⟩
  | 31 => ⟨S2048x1024, .f32⟩
  | 32 => ⟨S2048x1024, .f32⟩
  | 33 => ⟨S2048x1024, .f32⟩
  | 34 => ⟨S2048x1024, .f32⟩
  | 35 => ⟨S1x1024, .f32⟩
  | 36 => ⟨S1024, .f32⟩
  | 37 => ⟨S1x1024, .f32⟩
  | 38 => ⟨S2048x1024, .f32⟩
  | 39 => ⟨S2048x1024, .f32⟩
  | 40 => ⟨S2048x1024, .f32⟩
  | 41 => ⟨S1x1024, .f32⟩
  | 42 => ⟨S2048x1024, .f32⟩
  | 43 => ⟨S2048x1024, .f32⟩
  | 44 => ⟨S2048x4x256x1, .f32⟩
  | 45 => ⟨S1x4x256x256, .f32⟩
  | 46 => ⟨S2048x4x256x256, .f32⟩
  | 47 => ⟨S2048x4x256x256, .f32⟩
  | 48 => ⟨S2048x4x256x256, .f32⟩
  | 49 => ⟨S_, .f32⟩
  | 50 => ⟨S2048x4x256, .f32⟩
  | 51 => ⟨S2048x1024, .f32⟩
  | 52 => ⟨S2048x4x256x1, .f32⟩
  | 53 => ⟨S1x4x256x256, .f32⟩
  | 54 => ⟨S2048x4x256x256, .f32⟩
  | 55 => ⟨S2048x4x256x256, .f32⟩
  | 56 => ⟨S2048x4x256x256, .f32⟩
  | 57 => ⟨S_, .f32⟩
  | 58 => ⟨S2048x4x256, .f32⟩
  | 59 => ⟨S2048x1024, .f32⟩
  | 60 => ⟨S1024, .f32⟩
  | 61 => ⟨S1x1024, .f32⟩
  | 62 => ⟨S2048x1024, .f32⟩
  | 63 => ⟨S2048x1024, .f32⟩
  | 64 => ⟨S2048x1024, .f32⟩
  | 65 => ⟨S2048x1024, .f32⟩
  | 66 => ⟨S_, .f32⟩
  | 67 => ⟨S2048x1024, .f32⟩
  | 68 => ⟨S2048x1024, .f32⟩
  | 69 => ⟨S_, .f32⟩
  | 70 => ⟨S2048x1024, .f32⟩
  | 71 => ⟨S2048x1024, .f32⟩
  | 72 => ⟨S1024, .f32⟩
  | 73 => ⟨S1x1024, .f32⟩
  | 74 => ⟨S2048x1024, .f32⟩
  | 75 => ⟨S2048x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S1024, .f32⟩
  | 93 => ⟨S1024, .i1⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1x1024, .f32⟩
  | 104 => ⟨S2048x1024, .f32⟩
  | 105 => ⟨S2048x1024, .f32⟩
  | 106 => ⟨S_, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048, .i32⟩
  | 113 => ⟨S_, .i32⟩
  | 114 => ⟨S2048, .i32⟩
  | 115 => ⟨S2048, .i1⟩
  | 116 => ⟨S2048x1, .i1⟩
  | 117 => ⟨S_, .f32⟩
  | 118 => ⟨S_, .f32⟩
  | 119 => ⟨S2048x1024, .i1⟩
  | 120 => ⟨S2048x1024, .f32⟩
  | 121 => ⟨S2048x1024, .f32⟩
  | 122 => ⟨S2048x1024, .f32⟩
  | 123 => ⟨S2048x1024, .f32⟩
  | 124 => ⟨S1x2048x1024, .f32⟩
  | 125 => ⟨S1x2048x1024, .f32⟩
  | 126 => ⟨S1x2048x1024, .f32⟩
  | 127 => ⟨S3x2048x1024, .f32⟩
  | _ => ⟨S2048x7168, .bf16⟩

abbrev hbmTy0_1 (i : Nat) : BufTy := match i % 128 with
  | 0 => ⟨S3x2048x1024, .bf16⟩
  | 1 => ⟨S2048, .i32⟩
  | 2 => ⟨S2048x1, .i32⟩
  | 3 => ⟨S2048, .i32⟩
  | 4 => ⟨S1x2048, .i32⟩
  | 5 => ⟨S2048x2048, .i32⟩
  | 6 => ⟨S2048x2048, .i32⟩
  | 7 => ⟨S2048x2048, .i1⟩
  | 8 => ⟨S2048x2048x1, .i1⟩
  | 9 => ⟨S1x2048x1024, .f32⟩
  | 10 => ⟨S_, .f32⟩
  | 11 => ⟨S_, .f32⟩
  | 12 => ⟨S2048x2048x1024, .i1⟩
  | 13 => ⟨S2048x2048x1024, .f32⟩
  | 14 => ⟨S2048x2048x1024, .f32⟩
  | 15 => ⟨S2048x2048x1024, .f32⟩
  | 16 => ⟨S_, .f32⟩
  | 17 => ⟨S2048x1024, .f32⟩
  | 18 => ⟨S2048x1x1024, .f32⟩
  | 19 => ⟨S1x2048x1024, .f32⟩
  | 20 => ⟨S2048x2048x1024, .f32⟩
  | 21 => ⟨S2048x2048x1024, .f32⟩
  | 22 => ⟨S2048x2048x1024, .f32⟩
  | 23 => ⟨S2048x2048x1024, .f32⟩
  | 24 => ⟨S_, .f32⟩
  | 25 => ⟨S_, .f32⟩
  | 26 => ⟨S2048x2048x1024, .i1⟩
  | 27 => ⟨S2048x2048x1024, .f32⟩
  | 28 => ⟨S2048x2048x1024, .f32⟩
  | 29 => ⟨S1x2048x1024, .f32⟩
  | 30 => ⟨S2048x2048x1024, .f32⟩
  | 31 => ⟨S2048x2048x1024, .f32⟩
  | 32 => ⟨S_, .f32⟩
  | 33 => ⟨S2048x1024, .f32⟩
  | 34 => ⟨S2048x1024, .f32⟩
  | 35 => ⟨S4x8x32x256, .f32⟩
  | 36 => ⟨S8x4x32x256, .f32⟩
  | 37 => ⟨S8x4x32x256, .bf16⟩
  | 38 => ⟨S4x8x32x256, .f32⟩
  | 39 => ⟨S8x4x32x256, .f32⟩
  | 40 => ⟨S8x4x32x256, .bf16⟩
  | 41 => ⟨S1x1024, .f32⟩
  | 42 => ⟨S2x2048x1024, .bf16⟩
  | 43 => ⟨S8x4x32x256, .bf16⟩
  | 44 => ⟨S8x4x32x256, .bf16⟩
  | 45 => ⟨S8x1024, .f32⟩
  | _ => ⟨S2048x7168, .bf16⟩

abbrev hbmTy (i : Nat) : BufTy := match i / 128 with
  | 0 => hbmTy0_0 i
  | 1 => hbmTy0_1 i
  | _ => ⟨S2048x7168, .bf16⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S3x2048x256, .bf16⟩
  | .local _ .vmem, ⟨9, _⟩ => ⟨S3x2048x256, .bf16⟩
  | .local _ .vmem, ⟨10, _⟩ => ⟨S2048x256, .bf16⟩
  | .local _ .vmem, ⟨11, _⟩ => ⟨S2048x256, .bf16⟩
  | .local _ .vmem, ⟨12, _⟩ => ⟨S4x256, .f32⟩
  | .local _ .vmem, ⟨13, _⟩ => ⟨S4x256, .f32⟩
  | .local _ .vmem, ⟨14, _⟩ => ⟨S8x1x32x256, .bf16⟩
  | .local _ .vmem, ⟨15, _⟩ => ⟨S8x1x32x256, .bf16⟩
  | .local _ .vmem, ⟨16, _⟩ => ⟨S8x1x32x256, .bf16⟩
  | .local _ .vmem, ⟨17, _⟩ => ⟨S8x1x32x256, .bf16⟩
  | .local _ .vmem, ⟨18, _⟩ => ⟨S1x256, .f32⟩
  | .local _ .vmem, ⟨19, _⟩ => ⟨S1x256, .f32⟩
  | .local _ .vmem, ⟨20, _⟩ => ⟨S2x2048x256, .bf16⟩
  | .local _ .vmem, ⟨21, _⟩ => ⟨S2x2048x256, .bf16⟩
  | .local _ .vmem, ⟨22, _⟩ => ⟨S8x1x32x256, .bf16⟩
  | .local _ .vmem, ⟨23, _⟩ => ⟨S8x1x32x256, .bf16⟩
  | .local _ .vmem, ⟨24, _⟩ => ⟨S8x1x32x256, .bf16⟩
  | .local _ .vmem, ⟨25, _⟩ => ⟨S8x1x32x256, .bf16⟩
  | .local _ .vmem, ⟨26, _⟩ => ⟨S8x256, .f32⟩
  | .local _ .vmem, ⟨27, _⟩ => ⟨S8x256, .f32⟩
  | .local _ .vmem, ⟨28, _⟩ => ⟨S2056x256, .f32⟩
  | .local _ .vmem, ⟨29, _⟩ => ⟨S2056x256, .f32⟩
  | .local _ .vmem, ⟨30, _⟩ => ⟨S2048x256, .f32⟩
  | .local _ .vmem, ⟨31, _⟩ => ⟨S2048x256, .f32⟩
  | .local _ .vmem, ⟨32, _⟩ => ⟨S2056x256, .f32⟩
  | .local _ .vmem, ⟨33, _⟩ => ⟨S2056x256, .f32⟩
  | .local _ .vmem, ⟨34, _⟩ => ⟨S256x256, .f32⟩
  | .local _ .vmem, ⟨35, _⟩ => ⟨S256x256, .f32⟩
  | .local _ .vmem, ⟨36, _⟩ => ⟨S256x256, .bf16⟩
  | .local _ .vmem, ⟨37, _⟩ => ⟨S256x256, .bf16⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_1 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_2 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_call0_v0 : Ref sig .tc := ⟨.hbm, 87, rfl⟩
abbrev main_call0_call0_cst : Ref sig .tc := ⟨.hbm, 88, rfl⟩
abbrev main_call0_call0_v0 : Ref sig .tc := ⟨.hbm, 89, rfl⟩
abbrev main_call0_call0_v1 : Ref sig .tc := ⟨.hbm, 90, rfl⟩
abbrev main_call0_call0_v2 : Ref sig .tc := ⟨.hbm, 91, rfl⟩
abbrev main_call0_call0_v3 : Ref sig .tc := ⟨.hbm, 92, rfl⟩
abbrev main_call0_call0_v4 : Ref sig .tc := ⟨.hbm, 93, rfl⟩
abbrev main_call0_call0_v5 : Ref sig .tc := ⟨.hbm, 94, rfl⟩
abbrev main_call0_call0_v6 : Ref sig .tc := ⟨.hbm, 95, rfl⟩
abbrev main_call0_call0_v7 : Ref sig .tc := ⟨.hbm, 96, rfl⟩
abbrev main_call0_call0_v8 : Ref sig .tc := ⟨.hbm, 97, rfl⟩
abbrev main_call0_call0_v9 : Ref sig .tc := ⟨.hbm, 98, rfl⟩
abbrev main_call0_call0_v10 : Ref sig .tc := ⟨.hbm, 99, rfl⟩
abbrev main_call0_call0_v11 : Ref sig .tc := ⟨.hbm, 100, rfl⟩
abbrev main_call0_v1 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_8 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_9 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_v100 : Ref sig .tc := ⟨.hbm, 143, rfl⟩
abbrev main_cst_10 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_11 : Ref sig .tc := ⟨.hbm, 152, rfl⟩
abbrev main_call3_v0 : Ref sig .tc := ⟨.hbm, 153, rfl⟩
abbrev main_call3_v1 : Ref sig .tc := ⟨.hbm, 154, rfl⟩
abbrev main_call3_v2 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_12 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121_0 : Ref sig .tc := ⟨.hbm, 170, rfl⟩
abbrev main_v121_1 : Ref sig .tc := ⟨.hbm, 171, rfl⟩
abbrev main_v121_2 : Ref sig .tc := ⟨.hbm, 172, rfl⟩
abbrev main_v121_3 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v4064 : BitVec 32 := Scalar.addi c0_i32 c32_i32
  let c1_i32 : BitVec 32 := 1#32
  ⟨c0_i32, v4064, c1_i32⟩
def k0_mult1 (k0_t1 : Fin k0_t1_loop.trips) : BitVec 32 :=
  let c255_i32 : BitVec 32 := 255#32
  let c0_i32 : BitVec 32 := 0#32
  let c1_i32 : BitVec 32 := 1#32
  let arg25 : BitVec 32 := Scf.iv c0_i32 c1_i32 k0_t1
  let c8_i32 : BitVec 32 := 8#32
  let v15851 : BitVec 32 := Scalar.muli arg25 c8_i32
  let c0_i32_8011 : BitVec 32 := 0#32
  let v15852 : BitVec 32 := Scalar.addi v15851 c0_i32_8011
  let v15853 : BitVec 32 := Scalar.subi c255_i32 v15852
  let c8_i32_8012 : BitVec 32 := 8#32
  let v15854 : BitVec 32 := Scalar.muli v15853 c8_i32_8012
  v15854
def k0_off1 (k0_t1 : Fin k0_t1_loop.trips) (c0_i32_8011 : BitVec 32) : Fin 2 → Nat :=
  let c8_i32_8013 : BitVec 32 := 8#32
  let c255_i32 : BitVec 32 := 255#32
  let c0_i32 : BitVec 32 := 0#32
  let c1_i32 : BitVec 32 := 1#32
  let arg25 : BitVec 32 := Scf.iv c0_i32 c1_i32 k0_t1
  let c8_i32 : BitVec 32 := 8#32
  let v15851 : BitVec 32 := Scalar.muli arg25 c8_i32
  let v15852 : BitVec 32 := Scalar.addi v15851 c0_i32_8011
  let v15853 : BitVec 32 := Scalar.subi c255_i32 v15852
  let c8_i32_8012 : BitVec 32 := 8#32
  let v15854 : BitVec 32 := Scalar.muli v15853 c8_i32_8012
  let v15855 : BitVec 32 := v15854
  let v15856 : BitVec 32 := Scalar.addi c8_i32_8013 v15855
  let v15857 : Index := Scalar.indexCast v15856
  let c0_8014 : Index := 0#32
  ![v15857.toNat, 0]
def k0_off2 (k0_t1 : Fin k0_t1_loop.trips) (c0_i32_8011 : BitVec 32) : Fin 2 → Nat :=
  let c255_i32 : BitVec 32 := 255#32
  let c0_i32 : BitVec 32 := 0#32
  let c1_i32 : BitVec 32 := 1#32
  let arg25 : BitVec 32 := Scf.iv c0_i32 c1_i32 k0_t1
  let c8_i32 : BitVec 32 := 8#32
  let v15851 : BitVec 32 := Scalar.muli arg25 c8_i32
  let v15852 : BitVec 32 := Scalar.addi v15851 c0_i32_8011
  let v15853 : BitVec 32 := Scalar.subi c255_i32 v15852
  let c8_i32_8012 : BitVec 32 := 8#32
  let v15854 : BitVec 32 := Scalar.muli v15853 c8_i32_8012
  let v15855 : BitVec 32 := v15854
  let v15859 : Index := Scalar.indexCast v15855
  let c0_8015 : Index := 0#32
  ![v15859.toNat, 0]
def k0_mult2 (k0_t1 : Fin k0_t1_loop.trips) : BitVec 32 :=
  let c255_i32_8027 : BitVec 32 := 255#32
  let c0_i32 : BitVec 32 := 0#32
  let c1_i32 : BitVec 32 := 1#32
  let arg25 : BitVec 32 := Scf.iv c0_i32 c1_i32 k0_t1
  let c8_i32_8025 : BitVec 32 := 8#32
  let v15897 : BitVec 32 := Scalar.muli arg25 c8_i32_8025
  let c1_i32_8026 : BitVec 32 := 1#32
  let v15898 : BitVec 32 := Scalar.addi v15897 c1_i32_8026
  let v15899 : BitVec 32 := Scalar.subi c255_i32_8027 v15898
  let c8_i32_8028 : BitVec 32 := 8#32
  let v15900 : BitVec 32 := Scalar.muli v15899 c8_i32_8028
  v15900
def k0_mult3 (k0_t1 : Fin k0_t1_loop.trips) : BitVec 32 :=
  let c255_i32_8044 : BitVec 32 := 255#32
  let c0_i32 : BitVec 32 := 0#32
  let c1_i32 : BitVec 32 := 1#32
  let arg25 : BitVec 32 := Scf.iv c0_i32 c1_i32 k0_t1
  let c8_i32_8042 : BitVec 32 := 8#32
  let v15943 : BitVec 32 := Scalar.muli arg25 c8_i32_8042
  let c2_i32_8043 : BitVec 32 := 2#32
  let v15944 : BitVec 32 := Scalar.addi v15943 c2_i32_8043
  let v15945 : BitVec 32 := Scalar.subi c255_i32_8044 v15944
  let c8_i32_8045 : BitVec 32 := 8#32
  let v15946 : BitVec 32 := Scalar.muli v15945 c8_i32_8045
  v15946
def k0_mult4 (k0_t1 : Fin k0_t1_loop.trips) : BitVec 32 :=
  let c255_i32_8061 : BitVec 32 := 255#32
  let c0_i32 : BitVec 32 := 0#32
  let c1_i32 : BitVec 32 := 1#32
  let arg25 : BitVec 32 := Scf.iv c0_i32 c1_i32 k0_t1
  let c8_i32_8059 : BitVec 32 := 8#32
  let v15989 : BitVec 32 := Scalar.muli arg25 c8_i32_8059
  let c3_i32_8060 : BitVec 32 := 3#32
  let v15990 : BitVec 32 := Scalar.addi v15989 c3_i32_8060
  let v15991 : BitVec 32 := Scalar.subi c255_i32_8061 v15990
  let c8_i32_8062 : BitVec 32 := 8#32
  let v15992 : BitVec 32 := Scalar.muli v15991 c8_i32_8062
  v15992
def k0_mult5 (k0_t1 : Fin k0_t1_loop.trips) : BitVec 32 :=
  let c255_i32_8078 : BitVec 32 := 255#32
  let c0_i32 : BitVec 32 := 0#32
  let c1_i32 : BitVec 32 := 1#32
  let arg25 : BitVec 32 := Scf.iv c0_i32 c1_i32 k0_t1
  let c8_i32_8076 : BitVec 32 := 8#32
  let v16035 : BitVec 32 := Scalar.muli arg25 c8_i32_8076
  let c4_i32_8077 : BitVec 32 := 4#32
  let v16036 : BitVec 32 := Scalar.addi v16035 c4_i32_8077
  let v16037 : BitVec 32 := Scalar.subi c255_i32_8078 v16036
  let c8_i32_8079 : BitVec 32 := 8#32
  let v16038 : BitVec 32 := Scalar.muli v16037 c8_i32_8079
  v16038
def k0_mult6 (k0_t1 : Fin k0_t1_loop.trips) : BitVec 32 :=
  let c255_i32_8095 : BitVec 32 := 255#32
  let c0_i32 : BitVec 32 := 0#32
  let c1_i32 : BitVec 32 := 1#32
  let arg25 : BitVec 32 := Scf.iv c0_i32 c1_i32 k0_t1
  let c8_i32_8093 : BitVec 32 := 8#32
  let v16081 : BitVec 32 := Scalar.muli arg25 c8_i32_8093
  let c5_i32_8094 : BitVec 32 := 5#32
  let v16082 : BitVec 32 := Scalar.addi v16081 c5_i32_8094
  let v16083 : BitVec 32 := Scalar.subi c255_i32_8095 v16082
  let c8_i32_8096 : BitVec 32 := 8#32
  let v16084 : BitVec 32 := Scalar.muli v16083 c8_i32_8096
  v16084
def k0_mult7 (k0_t1 : Fin k0_t1_loop.trips) : BitVec 32 :=
  let c255_i32_8112 : BitVec 32 := 255#32
  let c0_i32 : BitVec 32 := 0#32
  let c1_i32 : BitVec 32 := 1#32
  let arg25 : BitVec 32 := Scf.iv c0_i32 c1_i32 k0_t1
  let c8_i32_8110 : BitVec 32 := 8#32
  let v16127 : BitVec 32 := Scalar.muli arg25 c8_i32_8110
  let c6_i32_8111 : BitVec 32 := 6#32
  let v16128 : BitVec 32 := Scalar.addi v16127 c6_i32_8111
  let v16129 : BitVec 32 := Scalar.subi c255_i32_8112 v16128
  let c8_i32_8113 : BitVec 32 := 8#32
  let v16130 : BitVec 32 := Scalar.muli v16129 c8_i32_8113
  v16130
def k0_mult8 (k0_t1 : Fin k0_t1_loop.trips) : BitVec 32 :=
  let c255_i32_8129 : BitVec 32 := 255#32
  let c0_i32 : BitVec 32 := 0#32
  let c1_i32 : BitVec 32 := 1#32
  let arg25 : BitVec 32 := Scf.iv c0_i32 c1_i32 k0_t1
  let c8_i32_8127 : BitVec 32 := 8#32
  let v16173 : BitVec 32 := Scalar.muli arg25 c8_i32_8127
  let c7_i32_8128 : BitVec 32 := 7#32
  let v16174 : BitVec 32 := Scalar.addi v16173 c7_i32_8128
  let v16175 : BitVec 32 := Scalar.subi c255_i32_8129 v16174
  let c8_i32_8130 : BitVec 32 := 8#32
  let v16176 : BitVec 32 := Scalar.muli v16175 c8_i32_8130
  v16176
def cc0_transform_0 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x32x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x32x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x32x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2048x7168 : Shape := ⟨2, ![2048, 7168]⟩
abbrev S2048x1024 : Shape := ⟨2, ![2048, 1024]⟩
abbrev S4x1024 : Shape := ⟨2, ![4, 1024]⟩
abbrev S1024 : Shape := ⟨1, ![1024]⟩
abbrev S4x256x256 : Shape := ⟨3, ![4, 256, 256]⟩
abbrev S4x256 : Shape := ⟨2, ![4, 256]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S2048x4x256 : Shape := ⟨3, ![2048, 4, 256]⟩
abbrev S4x256x2048 : Shape := ⟨3, ![4, 256, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S1x2048x1024 : Shape := ⟨3, ![1, 2048, 1024]⟩
abbrev S2048x2048x1024 : Shape := ⟨3, ![2048, 2048, 1024]⟩
abbrev S2048x1x1024 : Shape := ⟨3, ![2048, 1, 1024]⟩
abbrev S4x2048x256 : Shape := ⟨3, ![4, 2048, 256]⟩
abbrev S2x2048x1024 : Shape := ⟨3, ![2, 2048, 1024]⟩
abbrev S4x8x32x256 : Shape := ⟨4, ![4, 8, 32, 256]⟩
abbrev S8x4x32x256 : Shape := ⟨4, ![8, 4, 32, 256]⟩
abbrev S8x1024 : Shape := ⟨2, ![8, 1024]⟩

abbrev nBuf : Space → Nat
  | .hbm => 421
  | .vmem => 0
  | .smem => 0
  | _ => 0

abbrev hbmTy0_0 (i : Nat) : BufTy := match i % 128 with
  | 0 => ⟨S2048x7168, .bf16⟩
  | 1 => ⟨S2048x1024, .bf16⟩
  | 2 => ⟨S4x1024, .f32⟩
  | 3 => ⟨S1024, .f32⟩
  | 4 => ⟨S4x256x256, .f32⟩
  | 5 => ⟨S4x256, .f32⟩
  | 6 => ⟨S4x256x256, .f32⟩
  | 7 => ⟨S4x256, .f32⟩
  | 8 => ⟨S1024, .f32⟩
  | 9 => ⟨S2048x7168, .f32⟩
  | 10 => ⟨S2048x1024, .f32⟩
  | 11 => ⟨S2048x1024, .f32⟩
  | 12 => ⟨S_, .f32⟩
  | 13 => ⟨S3x1024, .f32⟩
  | 14 => ⟨S2051x1024, .f32⟩
  | 15 => ⟨S_, .f32⟩
  | 16 => ⟨S3x1024, .f32⟩
  | 17 => ⟨S2048x1024, .f32⟩
  | 18 => ⟨S1x1024, .f32⟩
  | 19 => ⟨S1024, .f32⟩
  | 20 => ⟨S1x1024, .f32⟩
  | 21 => ⟨S2048x1024, .f32⟩
  | 22 => ⟨S2048x1024, .f32⟩
  | 23 => ⟨S2048x1024, .f32⟩
  | 24 => ⟨S1x1024, .f32⟩
  | 25 => ⟨S1024, .f32⟩
  | 26 => ⟨S1x1024, .f32⟩
  | 27 => ⟨S2048x1024, .f32⟩
  | 28 => ⟨S2048x1024, .f32⟩
  | 29 => ⟨S2048x1024, .f32⟩
  | 30 => ⟨S2048x1024, .f32⟩
  | 31 => ⟨S1x1024, .f32⟩
  | 32 => ⟨S1024, .f32⟩
  | 33 => ⟨S1x1024, .f32⟩
  | 34 => ⟨S2048x1024, .f32⟩
  | 35 => ⟨S2048x1024, .f32⟩
  | 36 => ⟨S2048x1024, .f32⟩
  | 37 => ⟨S2048x1024, .f32⟩
  | 38 => ⟨S1x1024, .f32⟩
  | 39 => ⟨S1024, .f32⟩
  | 40 => ⟨S1x1024, .f32⟩
  | 41 => ⟨S2048x1024, .f32⟩
  | 42 => ⟨S2048x1024, .f32⟩
  | 43 => ⟨S2048x1024, .f32⟩
  | 44 => ⟨S1x1024, .f32⟩
  | 45 => ⟨S2048x1024, .f32⟩
  | 46 => ⟨S2048x1024, .f32⟩
  | 47 => ⟨S2048x4x256, .f32⟩
  | 48 => ⟨S4x256x2048, .f32⟩
  | 49 => ⟨S2048x4x256, .f32⟩
  | 50 => ⟨S2048x1024, .f32⟩
  | 51 => ⟨S2048x4x256, .f32⟩
  | 52 => ⟨S4x256x2048, .f32⟩
  | 53 => ⟨S2048x4x256, .f32⟩
  | 54 => ⟨S2048x1024, .f32⟩
  | 55 => ⟨S1024, .f32⟩
  | 56 => ⟨S1x1024, .f32⟩
  | 57 => ⟨S2048x1024, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S2048x1024, .f32⟩
  | 71 => ⟨S1024, .f32⟩
  | 72 => ⟨S1x1024, .f32⟩
  | 73 => ⟨S2048x1024, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S1024, .f32⟩
  | 96 => ⟨S1024, .i1⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .i1⟩
  | 108 => ⟨S_, .f32⟩
  | 109 => ⟨S1024, .f32⟩
  | 110 => ⟨S1024, .f32⟩
  | 111 => ⟨S_, .f32⟩
  | 112 => ⟨S1024, .f32⟩
  | 113 => ⟨S1024, .i1⟩
  | 114 => ⟨S_, .f32⟩
  | 115 => ⟨S1024, .f32⟩
  | 116 => ⟨S1024, .f32⟩
  | 117 => ⟨S1024, .f32⟩
  | 118 => ⟨S1024, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S1024, .f32⟩
  | 127 => ⟨S1024, .i1⟩
  | _ => ⟨S2048x7168, .bf16⟩

abbrev hbmTy0_1 (i : Nat) : BufTy := match i % 128 with
  | 0 => ⟨S_, .f32⟩
  | 1 => ⟨S1024, .f32⟩
  | 2 => ⟨S1024, .f32⟩
  | 3 => ⟨S1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S1024, .f32⟩
  | 10 => ⟨S1x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S2048, .i32⟩
  | 24 => ⟨S_, .i32⟩
  | 25 => ⟨S2048, .i32⟩
  | 26 => ⟨S2048, .i1⟩
  | 27 => ⟨S2048x1, .i1⟩
  | 28 => ⟨S_, .f32⟩
  | 29 => ⟨S_, .f32⟩
  | 30 => ⟨S2048x1024, .i1⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S2048, .i32⟩
  | 38 => ⟨S2048x1, .i32⟩
  | 39 => ⟨S2048, .i32⟩
  | 40 => ⟨S1x2048, .i32⟩
  | 41 => ⟨S2048x2048, .i32⟩
  | 42 => ⟨S2048x2048, .i32⟩
  | 43 => ⟨S2048x2048, .i1⟩
  | 44 => ⟨S2048x2048x1, .i1⟩
  | 45 => ⟨S1x2048x1024, .f32⟩
  | 46 => ⟨S_, .f32⟩
  | 47 => ⟨S_, .f32⟩
  | 48 => ⟨S2048x2048x1024, .i1⟩
  | 49 => ⟨S2048x2048x1024, .f32⟩
  | 50 => ⟨S2048x2048x1024, .f32⟩
  | 51 => ⟨S2048x2048x1024, .f32⟩
  | 52 => ⟨S_, .f32⟩
  | 53 => ⟨S2048x2048x1024, .f32⟩
  | 54 => ⟨S_, .f32⟩
  | 55 => ⟨S2048x1024, .f32⟩
  | 56 => ⟨S2048x1x1024, .f32⟩
  | 57 => ⟨S1x2048x1024, .f32⟩
  | 58 => ⟨S2048x2048x1024, .f32⟩
  | 59 => ⟨S2048x2048x1024, .f32⟩
  | 60 => ⟨S2048x2048x1024, .f32⟩
  | 61 => ⟨S2048x2048x1024, .f32⟩
  | 62 => ⟨S_, .f32⟩
  | 63 => ⟨S_, .f32⟩
  | 64 => ⟨S2048x2048x1024, .i1⟩
  | 65 => ⟨S2048x2048x1024, .f32⟩
  | 66 => ⟨S2048x2048x1024, .f32⟩
  | 67 => ⟨S_, .f32⟩
  | 68 => ⟨S2048x2048x1024, .f32⟩
  | 69 => ⟨S1x2048x1024, .f32⟩
  | 70 => ⟨S2048x2048x1024, .f32⟩
  | 71 => ⟨S2048x2048x1024, .f32⟩
  | 72 => ⟨S_, .f32⟩
  | 73 => ⟨S2048x1024, .f32⟩
  | 74 => ⟨S2048x1024, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S2048x1024, .f32⟩
  | 88 => ⟨S_, .f32⟩
  | 89 => ⟨S2048x1024, .f32⟩
  | 90 => ⟨S2048x1024, .f32⟩
  | 91 => ⟨S_, .f32⟩
  | 92 => ⟨S2048x1024, .f32⟩
  | 93 => ⟨S2048x1024, .f32⟩
  | 94 => ⟨S2048x1024, .f32⟩
  | 95 => ⟨S_, .f32⟩
  | 96 => ⟨S2048x1024, .f32⟩
  | 97 => ⟨S2048x1024, .f32⟩
  | 98 => ⟨S_, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S2048x1024, .f32⟩
  | 112 => ⟨S_, .f32⟩
  | 113 => ⟨S2048x1024, .f32⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S2048x1024, .f32⟩
  | 120 => ⟨S2048x1024, .f32⟩
  | 121 => ⟨S2048x2048x1024, .f32⟩
  | 122 => ⟨S2048x2048x1024, .f32⟩
  | 123 => ⟨S_, .f32⟩
  | 124 => ⟨S2048x1024, .f32⟩
  | 125 => ⟨S1x2048x1024, .f32⟩
  | 126 => ⟨S2048x2048x1024, .f32⟩
  | 127 => ⟨S2048x2048x1024, .f32⟩
  | _ => ⟨S2048x7168, .bf16⟩

abbrev hbmTy0_2 (i : Nat) : BufTy := match i % 128 with
  | 0 => ⟨S_, .f32⟩
  | 1 => ⟨S2048x1024, .f32⟩
  | 2 => ⟨S_, .f32⟩
  | 3 => ⟨S2048x2048x1024, .f32⟩
  | 4 => ⟨S2048x2048x1024, .f32⟩
  | 5 => ⟨S2048x2048x1024, .f32⟩
  | 6 => ⟨S_, .f32⟩
  | 7 => ⟨S2048x1024, .f32⟩
  | 8 => ⟨S2048x1x1024, .f32⟩
  | 9 => ⟨S2048x2048x1024, .f32⟩
  | 10 => ⟨S_, .f32⟩
  | 11 => ⟨S2048x1024, .f32⟩
  | 12 => ⟨S1x2048x1024, .f32⟩
  | 13 => ⟨S_, .f32⟩
  | 14 => ⟨S2048x1024, .f32⟩
  | 15 => ⟨S_, .f32⟩
  | 16 => ⟨S2048x1024, .f32⟩
  | 17 => ⟨S2048x1024, .f32⟩
  | 18 => ⟨S2048x2048x1024, .f32⟩
  | 19 => ⟨S_, .f32⟩
  | 20 => ⟨S2048x2048x1024, .f32⟩
  | 21 => ⟨S2048x2048x1024, .f32⟩
  | 22 => ⟨S_, .f32⟩
  | 23 => ⟨S2048x1024, .f32⟩
  | 24 => ⟨S1x2048x1024, .f32⟩
  | 25 => ⟨S_, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S_, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S1024, .f32⟩
  | 44 => ⟨S1x1024, .f32⟩
  | 45 => ⟨S2048x1024, .f32⟩
  | 46 => ⟨S2048x1024, .f32⟩
  | 47 => ⟨S_, .f32⟩
  | 48 => ⟨S1024, .f32⟩
  | 49 => ⟨S1024, .f32⟩
  | 50 => ⟨S1024, .f32⟩
  | 51 => ⟨S1024, .f32⟩
  | 52 => ⟨S_, .f32⟩
  | 53 => ⟨S2048x1024, .f32⟩
  | 54 => ⟨S2048x1024, .f32⟩
  | 55 => ⟨S2048x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S4x256, .f32⟩
  | 62 => ⟨S2048x1024, .f32⟩
  | 63 => ⟨S_, .f32⟩
  | 64 => ⟨S1024, .f32⟩
  | 65 => ⟨S1x1024, .f32⟩
  | 66 => ⟨S_, .f32⟩
  | 67 => ⟨S1024, .f32⟩
  | 68 => ⟨S4x256, .f32⟩
  | 69 => ⟨S2048x4x256, .f32⟩
  | 70 => ⟨S4x256x2048, .f32⟩
  | 71 => ⟨S4x2048x256, .f32⟩
  | 72 => ⟨S2048x4x256, .f32⟩
  | 73 => ⟨S4x256x256, .f32⟩
  | 74 => ⟨S4x256x256, .f32⟩
  | 75 => ⟨S2048x1024, .f32⟩
  | 76 => ⟨S2048x1024, .f32⟩
  | 77 => ⟨S2048x4x256, .f32⟩
  | 78 => ⟨S4x256x2048, .f32⟩
  | 79 => ⟨S4x2048x256, .f32⟩
  | 80 => ⟨S2048x4x256, .f32⟩
  | 81 => ⟨S4x256x256, .f32⟩
  | 82 => ⟨S4x256x256, .f32⟩
  | 83 => ⟨S2048x1024, .f32⟩
  | 84 => ⟨S2048x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S2048x1024, .f32⟩
  | 96 => ⟨S_, .f32⟩
  | 97 => ⟨S1024, .f32⟩
  | 98 => ⟨S1x1024, .f32⟩
  | 99 => ⟨S_, .f32⟩
  | 100 => ⟨S4x1024, .f32⟩
  | 101 => ⟨S_, .f32⟩
  | 102 => ⟨S2051x1024, .f32⟩
  | 103 => ⟨S2048x1024, .f32⟩
  | 104 => ⟨S_, .f32⟩
  | 105 => ⟨S1024, .f32⟩
  | 106 => ⟨S1x1024, .f32⟩
  | 107 => ⟨S2048x1024, .f32⟩
  | 108 => ⟨S2048x1024, .f32⟩
  | 109 => ⟨S_, .f32⟩
  | 110 => ⟨S1024, .f32⟩
  | 111 => ⟨S1x1024, .f32⟩
  | 112 => ⟨S_, .f32⟩
  | 113 => ⟨S4x1024, .f32⟩
  | 114 => ⟨S4x1024, .f32⟩
  | 115 => ⟨S_, .f32⟩
  | 116 => ⟨S2051x1024, .f32⟩
  | 117 => ⟨S2051x1024, .f32⟩
  | 118 => ⟨S2048x1024, .f32⟩
  | 119 => ⟨S_, .f32⟩
  | 120 => ⟨S1024, .f32⟩
  | 121 => ⟨S1x1024, .f32⟩
  | 122 => ⟨S2048x1024, .f32⟩
  | 123 => ⟨S2048x1024, .f32⟩
  | 124 => ⟨S_, .f32⟩
  | 125 => ⟨S1024, .f32⟩
  | 126 => ⟨S1x1024, .f32⟩
  | 127 => ⟨S_, .f32⟩
  | _ => ⟨S2048x7168, .bf16⟩

abbrev hbmTy0_3 (i : Nat) : BufTy := match i % 128 with
  | 0 => ⟨S4x1024, .f32⟩
  | 1 => ⟨S4x1024, .f32⟩
  | 2 => ⟨S_, .f32⟩
  | 3 => ⟨S2051x1024, .f32⟩
  | 4 => ⟨S2051x1024, .f32⟩
  | 5 => ⟨S2048x1024, .f32⟩
  | 6 => ⟨S_, .f32⟩
  | 7 => ⟨S1024, .f32⟩
  | 8 => ⟨S1x1024, .f32⟩
  | 9 => ⟨S2048x1024, .f32⟩
  | 10 => ⟨S2048x1024, .f32⟩
  | 11 => ⟨S_, .f32⟩
  | 12 => ⟨S1024, .f32⟩
  | 13 => ⟨S1x1024, .f32⟩
  | 14 => ⟨S_, .f32⟩
  | 15 => ⟨S4x1024, .f32⟩
  | 16 => ⟨S4x1024, .f32⟩
  | 17 => ⟨S_, .f32⟩
  | 18 => ⟨S2051x1024, .f32⟩
  | 19 => ⟨S2051x1024, .f32⟩
  | 20 => ⟨S3x1024, .f32⟩
  | 21 => ⟨S2048x1024, .f32⟩
  | 22 => ⟨S1x2048x1024, .f32⟩
  | 23 => ⟨S1x2048x1024, .f32⟩
  | 24 => ⟨S2x2048x1024, .f32⟩
  | 25 => ⟨S2x2048x1024, .bf16⟩
  | 26 => ⟨S4x8x32x256, .f32⟩
  | 27 => ⟨S8x4x32x256, .f32⟩
  | 28 => ⟨S8x4x32x256, .bf16⟩
  | 29 => ⟨S4x8x32x256, .f32⟩
  | 30 => ⟨S8x4x32x256, .f32⟩
  | 31 => ⟨S8x4x32x256, .bf16⟩
  | 32 => ⟨S1x1024, .f32⟩
  | 33 => ⟨S1x1024, .f32⟩
  | 34 => ⟨S1x1024, .f32⟩
  | 35 => ⟨S1x1024, .f32⟩
  | 36 => ⟨S8x1024, .f32⟩
  | _ => ⟨S2048x7168, .bf16⟩

abbrev hbmTy (i : Nat) : BufTy := match i / 128 with
  | 0 => hbmTy0_0 i
  | 1 => hbmTy0_1 i
  | 2 => hbmTy0_2 i
  | 3 => hbmTy0_3 i
  | _ => ⟨S2048x7168, .bf16⟩

abbrev bufTy : (tb : Table) → Fin (tcTables nBuf tb) → BufTy
  | .hbm, ⟨i, _⟩ => hbmTy i
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_4 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_call0_v0 : Ref sig .tc := ⟨.hbm, 90, rfl⟩
abbrev main_call0_call0_cst : Ref sig .tc := ⟨.hbm, 91, rfl⟩
abbrev main_call0_call0_v0 : Ref sig .tc := ⟨.hbm, 92, rfl⟩
abbrev main_call0_call0_v1 : Ref sig .tc := ⟨.hbm, 93, rfl⟩
abbrev main_call0_call0_v2 : Ref sig .tc := ⟨.hbm, 94, rfl⟩
abbrev main_call0_call0_v3 : Ref sig .tc := ⟨.hbm, 95, rfl⟩
abbrev main_call0_call0_v4 : Ref sig .tc := ⟨.hbm, 96, rfl⟩
abbrev main_call0_call0_v5 : Ref sig .tc := ⟨.hbm, 97, rfl⟩
abbrev main_call0_call0_v6 : Ref sig .tc := ⟨.hbm, 98, rfl⟩
abbrev main_call0_call0_v7 : Ref sig .tc := ⟨.hbm, 99, rfl⟩
abbrev main_call0_call0_v8 : Ref sig .tc := ⟨.hbm, 100, rfl⟩
abbrev main_call0_call0_v9 : Ref sig .tc := ⟨.hbm, 101, rfl⟩
abbrev main_call0_call0_v10 : Ref sig .tc := ⟨.hbm, 102, rfl⟩
abbrev main_call0_call0_v11 : Ref sig .tc := ⟨.hbm, 103, rfl⟩
abbrev main_call0_v1_0 : Ref sig .tc := ⟨.hbm, 104, rfl⟩
abbrev main_call0_call0_cst_0 : Ref sig .tc := ⟨.hbm, 105, rfl⟩
abbrev main_call0_call0_v13 : Ref sig .tc := ⟨.hbm, 106, rfl⟩
abbrev main_call0_call0_v14 : Ref sig .tc := ⟨.hbm, 107, rfl⟩
abbrev main_call0_call0_cst_1 : Ref sig .tc := ⟨.hbm, 108, rfl⟩
abbrev main_call0_call0_v15 : Ref sig .tc := ⟨.hbm, 109, rfl⟩
abbrev main_call0_call0_v16 : Ref sig .tc := ⟨.hbm, 110, rfl⟩
abbrev main_call0_call0_cst_2 : Ref sig .tc := ⟨.hbm, 111, rfl⟩
abbrev main_call0_call0_v17 : Ref sig .tc := ⟨.hbm, 112, rfl⟩
abbrev main_call0_call0_v18 : Ref sig .tc := ⟨.hbm, 113, rfl⟩
abbrev main_call0_call0_cst_3 : Ref sig .tc := ⟨.hbm, 114, rfl⟩
abbrev main_call0_call0_v19 : Ref sig .tc := ⟨.hbm, 115, rfl⟩
abbrev main_call0_call0_v20 : Ref sig .tc := ⟨.hbm, 116, rfl⟩
abbrev main_call0_call0_v21 : Ref sig .tc := ⟨.hbm, 117, rfl⟩
abbrev main_v72_1 : Ref sig .tc := ⟨.hbm, 118, rfl⟩
abbrev main_call0_call0_cst_4 : Ref sig .tc := ⟨.hbm, 119, rfl⟩
abbrev main_call0_call0_cst_5 : Ref sig .tc := ⟨.hbm, 120, rfl⟩
abbrev main_call0_call0_v23 : Ref sig .tc := ⟨.hbm, 121, rfl⟩
abbrev main_call0_call0_cst_6 : Ref sig .tc := ⟨.hbm, 122, rfl⟩
abbrev main_call0_call0_cst_7 : Ref sig .tc := ⟨.hbm, 123, rfl⟩
abbrev main_call0_call0_v24 : Ref sig .tc := ⟨.hbm, 124, rfl⟩
abbrev main_call0_call0_cst_8 : Ref sig .tc := ⟨.hbm, 125, rfl⟩
abbrev main_call0_call0_v25 : Ref sig .tc := ⟨.hbm, 126, rfl⟩
abbrev main_call0_call0_v26 : Ref sig .tc := ⟨.hbm, 127, rfl⟩
abbrev main_call0_call0_cst_9 : Ref sig .tc := ⟨.hbm, 128, rfl⟩
abbrev main_call0_call0_v27 : Ref sig .tc := ⟨.hbm, 129, rfl⟩
abbrev main_call0_call0_v28 : Ref sig .tc := ⟨.hbm, 130, rfl⟩
abbrev main_call0_call0_v29 : Ref sig .tc := ⟨.hbm, 131, rfl⟩
abbrev main_call0_call0_v30 : Ref sig .tc := ⟨.hbm, 132, rfl⟩
abbrev main_call0_call0_v31 : Ref sig .tc := ⟨.hbm, 133, rfl⟩
abbrev main_call0_call0_cst_10 : Ref sig .tc := ⟨.hbm, 134, rfl⟩
abbrev main_call0_call0_v32 : Ref sig .tc := ⟨.hbm, 135, rfl⟩
abbrev main_v72_2 : Ref sig .tc := ⟨.hbm, 136, rfl⟩
abbrev main_v72_0 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_8 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_cst_9 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_c : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_10 : Ref sig .tc := ⟨.hbm, 156, rfl⟩
abbrev main_call1_v0 : Ref sig .tc := ⟨.hbm, 157, rfl⟩
abbrev main_v88_1 : Ref sig .tc := ⟨.hbm, 158, rfl⟩
abbrev main_call1_v2 : Ref sig .tc := ⟨.hbm, 159, rfl⟩
abbrev main_v88_0 : Ref sig .tc := ⟨.hbm, 160, rfl⟩
abbrev main_call1_cst : Ref sig .tc := ⟨.hbm, 161, rfl⟩
abbrev main_v88_2 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_cst_11 : Ref sig .tc := ⟨.hbm, 174, rfl⟩
abbrev main_call2_v0 : Ref sig .tc := ⟨.hbm, 175, rfl⟩
abbrev main_v100_1 : Ref sig .tc := ⟨.hbm, 176, rfl⟩
abbrev main_call2_v2 : Ref sig .tc := ⟨.hbm, 177, rfl⟩
abbrev main_call2_v3 : Ref sig .tc := ⟨.hbm, 178, rfl⟩
abbrev main_v100_0 : Ref sig .tc := ⟨.hbm, 179, rfl⟩
abbrev main_call2_cst : Ref sig .tc := ⟨.hbm, 180, rfl⟩
abbrev main_v100_2 : Ref sig .tc := ⟨.hbm, 181, rfl⟩
abbrev main_cst_12 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_13 : Ref sig .tc := ⟨.hbm, 190, rfl⟩
abbrev main_call3_v0 : Ref sig .tc := ⟨.hbm, 191, rfl⟩
abbrev main_v108_1 : Ref sig .tc := ⟨.hbm, 192, rfl⟩
abbrev main_call3_v2 : Ref sig .tc := ⟨.hbm, 193, rfl⟩
abbrev main_v108_0 : Ref sig .tc := ⟨.hbm, 194, rfl⟩
abbrev main_call3_cst : Ref sig .tc := ⟨.hbm, 195, rfl⟩
abbrev main_v108_2 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_cst_14 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_cst_15 : Ref sig .tc := ⟨.hbm, 205, rfl⟩
abbrev main_v116 : Ref sig .tc := ⟨.hbm, 206, rfl⟩
abbrev main_v117 : Ref sig .tc := ⟨.hbm, 207, rfl⟩
abbrev main_cst_16 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_cst_17 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_cst_18 : Ref sig .tc := ⟨.hbm, 216, rfl⟩
abbrev main_v124 : Ref sig .tc := ⟨.hbm, 217, rfl⟩
abbrev main_v125 : Ref sig .tc := ⟨.hbm, 218, rfl⟩
abbrev main_cst_19 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_cst_20 : Ref sig .tc := ⟨.hbm, 223, rfl⟩
abbrev main_v129 : Ref sig .tc := ⟨.hbm, 224, rfl⟩
abbrev main_v130 : Ref sig .tc := ⟨.hbm, 225, rfl⟩
abbrev main_cst_21 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_cst_22 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_cst_23 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_cst_24 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_cst_25 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_cst_26 : Ref sig .tc := ⟨.hbm, 256, rfl⟩
abbrev main_v156 : Ref sig .tc := ⟨.hbm, 257, rfl⟩
abbrev main_call4_cst : Ref sig .tc := ⟨.hbm, 258, rfl⟩
abbrev main_call4_v0 : Ref sig .tc := ⟨.hbm, 259, rfl⟩
abbrev main_v157 : Ref sig .tc := ⟨.hbm, 260, rfl⟩
abbrev main_v158 : Ref sig .tc := ⟨.hbm, 261, rfl⟩
abbrev main_cst_27 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_cst_28 : Ref sig .tc := ⟨.hbm, 266, rfl⟩
abbrev main_v162 : Ref sig .tc := ⟨.hbm, 267, rfl⟩
abbrev main_v163 : Ref sig .tc := ⟨.hbm, 268, rfl⟩
abbrev main_cst_29 : Ref sig .tc := ⟨.hbm, 269, rfl⟩
abbrev main_v164 : Ref sig .tc := ⟨.hbm, 270, rfl⟩
abbrev main_cst_30 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_call5_cst : Ref sig .tc := ⟨.hbm, 275, rfl⟩
abbrev main_call5_v0 : Ref sig .tc := ⟨.hbm, 276, rfl⟩
abbrev main_call5_v1 : Ref sig .tc := ⟨.hbm, 277, rfl⟩
abbrev main_call5_cst_0 : Ref sig .tc := ⟨.hbm, 278, rfl⟩
abbrev main_call5_v2 : Ref sig .tc := ⟨.hbm, 279, rfl⟩
abbrev main_v168 : Ref sig .tc := ⟨.hbm, 280, rfl⟩
abbrev main_cst_31 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_call6_cst : Ref sig .tc := ⟨.hbm, 287, rfl⟩
abbrev main_call6_v0 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_cst_32 : Ref sig .tc := ⟨.hbm, 293, rfl⟩
abbrev main_v178 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_cst_33 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_cst_34 : Ref sig .tc := ⟨.hbm, 303, rfl⟩
abbrev main_v186 : Ref sig .tc := ⟨.hbm, 304, rfl⟩
abbrev main_call7_v0 : Ref sig .tc := ⟨.hbm, 305, rfl⟩
abbrev main_call7_v1 : Ref sig .tc := ⟨.hbm, 306, rfl⟩
abbrev main_v187 : Ref sig .tc := ⟨.hbm, 307, rfl⟩
abbrev main_cst_35 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_cst_36 : Ref sig .tc := ⟨.hbm, 312, rfl⟩
abbrev main_v191 : Ref sig .tc := ⟨.hbm, 313, rfl⟩
abbrev main_v192 : Ref sig .tc := ⟨.hbm, 314, rfl⟩
abbrev main_cst_37 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_cst_38 : Ref sig .tc := ⟨.hbm, 319, rfl⟩
abbrev main_v196 : Ref sig .tc := ⟨.hbm, 320, rfl⟩
abbrev main_v197 : Ref sig .tc := ⟨.hbm, 321, rfl⟩
abbrev main_cst_39 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_v212 : Ref sig .tc := ⟨.hbm, 337, rfl⟩
abbrev main_v213 : Ref sig .tc := ⟨.hbm, 338, rfl⟩
abbrev main_v214 : Ref sig .tc := ⟨.hbm, 339, rfl⟩
abbrev main_v215 : Ref sig .tc := ⟨.hbm, 340, rfl⟩
abbrev main_cst_40 : Ref sig .tc := ⟨.hbm, 341, rfl⟩
abbrev main_v216 : Ref sig .tc := ⟨.hbm, 342, rfl⟩
abbrev main_v217 : Ref sig .tc := ⟨.hbm, 343, rfl⟩
abbrev main_cst_41 : Ref sig .tc := ⟨.hbm, 344, rfl⟩
abbrev main_v218 : Ref sig .tc := ⟨.hbm, 345, rfl⟩
abbrev main_v219 : Ref sig .tc := ⟨.hbm, 346, rfl⟩
abbrev main_cst_42 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_43 : Ref sig .tc := ⟨.hbm, 352, rfl⟩
abbrev main_v224 : Ref sig .tc := ⟨.hbm, 353, rfl⟩
abbrev main_v225 : Ref sig .tc := ⟨.hbm, 354, rfl⟩
abbrev main_cst_44 : Ref sig .tc := ⟨.hbm, 355, rfl⟩
abbrev main_v226 : Ref sig .tc := ⟨.hbm, 356, rfl⟩
abbrev main_cst_45 : Ref sig .tc := ⟨.hbm, 357, rfl⟩
abbrev main_v227 : Ref sig .tc := ⟨.hbm, 358, rfl⟩
abbrev main_v228 : Ref sig .tc := ⟨.hbm, 359, rfl⟩
abbrev main_cst_46 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_cst_47 : Ref sig .tc := ⟨.hbm, 365, rfl⟩
abbrev main_v233 : Ref sig .tc := ⟨.hbm, 366, rfl⟩
abbrev main_v234 : Ref sig .tc := ⟨.hbm, 367, rfl⟩
abbrev main_cst_48 : Ref sig .tc := ⟨.hbm, 368, rfl⟩
abbrev main_v235 : Ref sig .tc := ⟨.hbm, 369, rfl⟩
abbrev main_v236 : Ref sig .tc := ⟨.hbm, 370, rfl⟩
abbrev main_cst_49 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_cst_50 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_cst_51 : Ref sig .tc := ⟨.hbm, 380, rfl⟩
abbrev main_v244 : Ref sig .tc := ⟨.hbm, 381, rfl⟩
abbrev main_v245 : Ref sig .tc := ⟨.hbm, 382, rfl⟩
abbrev main_cst_52 : Ref sig .tc := ⟨.hbm, 383, rfl⟩
abbrev main_v246 : Ref sig .tc := ⟨.hbm, 384, rfl⟩
abbrev main_v247 : Ref sig .tc := ⟨.hbm, 385, rfl⟩
abbrev main_cst_53 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_cst_54 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_cst_55 : Ref sig .tc := ⟨.hbm, 395, rfl⟩
abbrev main_v255 : Ref sig .tc := ⟨.hbm, 396, rfl⟩
abbrev main_v256 : Ref sig .tc := ⟨.hbm, 397, rfl⟩
abbrev main_cst_56 : Ref sig .tc := ⟨.hbm, 398, rfl⟩
abbrev main_v257 : Ref sig .tc := ⟨.hbm, 399, rfl⟩
abbrev main_v258 : Ref sig .tc := ⟨.hbm, 400, rfl⟩
abbrev main_cst_57 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩

abbrev nD : Nat := 1
abbrev τ : Topo := Topo.v7x

variable {F : FTy → Type} [FloatOps F]
-- ==== Kernel3.lean ====
abbrev S2048x6144 : Shape := ⟨2, ![2048, 6144]⟩
abbrev S3072x1024 : Shape := ⟨2, ![3072, 1024]⟩
abbrev S2048x1024 : Shape := ⟨2, ![2048, 1024]⟩
abbrev S1024 : Shape := ⟨1, ![1024]⟩
abbrev S2048x3072 : Shape := ⟨2, ![2048, 3072]⟩
abbrev S_ : Shape := ⟨0, ![]⟩
abbrev S1x1024 : Shape := ⟨2, ![1, 1024]⟩
abbrev S8x128 : Shape := ⟨2, ![8, 128]⟩
abbrev S256x3072 : Shape := ⟨2, ![256, 3072]⟩
abbrev S256x6144 : Shape := ⟨2, ![256, 6144]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S512x1024 : Shape := ⟨2, ![512, 1024]⟩
abbrev S256x512 : Shape := ⟨2, ![256, 512]⟩

abbrev nBuf : Space → Nat
  | .hbm => 36
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S3072x1024, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x6144, .f32⟩
  | .hbm, ⟨6, _⟩ => ⟨S2048x3072, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S_, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .bf16⟩
  | .hbm, ⟨30, _⟩ => ⟨S1x1024, .f32⟩
  | .hbm, ⟨31, _⟩ => ⟨S2048x1024, .f32⟩
  | .hbm, ⟨32, _⟩ => ⟨S2048x1024, .bf16⟩
  | .hbm, ⟨33, _⟩ => ⟨S2048x6144, .bf16⟩
  | .hbm, ⟨34, _⟩ => ⟨S1x1024, .f32⟩
  | .hbm, ⟨35, _⟩ => ⟨S8x128, .f32⟩
  | .local _ .vmem, ⟨0, _⟩ => ⟨S256x3072, .bf16⟩
  | .local _ .vmem, ⟨1, _⟩ => ⟨S256x3072, .bf16⟩
  | .local _ .vmem, ⟨2, _⟩ => ⟨S256x6144, .bf16⟩
  | .local _ .vmem, ⟨3, _⟩ => ⟨S256x6144, .bf16⟩
  | .local _ .vmem, ⟨4, _⟩ => ⟨S3072x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x6144, .bf16⟩
  | .local _ .vmem, ⟨15, _⟩ => ⟨S256x6144, .bf16⟩
  | .local _ .vmem, ⟨16, _⟩ => ⟨S1x1024, .f32⟩
  | .local _ .vmem, ⟨17, _⟩ => ⟨S8x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel3Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference3Ideal.lean ====
abbrev S2048x6144 : Shape := ⟨2, ![2048, 6144]⟩
abbrev S3072x1024 : Shape := ⟨2, ![3072, 1024]⟩
abbrev S2048x1024 : Shape := ⟨2, ![2048, 1024]⟩
abbrev S1024 : Shape := ⟨1, ![1024]⟩
abbrev S2048x3072 : Shape := ⟨2, ![2048, 3072]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x128 : Shape := ⟨2, ![8, 128]⟩

abbrev nBuf : Space → Nat
  | .hbm => 138
  | .vmem => 0
  | .smem => 0
  | _ => 0

abbrev hbmTy0_0 (i : Nat) : BufTy := match i % 128 with
  | 0 => ⟨S2048x6144, .bf16⟩
  | 1 => ⟨S3072x1024, .bf16⟩
  | 2 => ⟨S2048x1024, .f32⟩
  | 3 => ⟨S2048x1024, .f32⟩
  | 4 => ⟨S1024, .f32⟩
  | 5 => ⟨S2048x6144, .f32⟩
  | 6 => ⟨S2048x3072, .f32⟩
  | 7 => ⟨S2048x3072, .f32⟩
  | 8 => ⟨S_, .f32⟩
  | 9 => ⟨S2048x3072, .f32⟩
  | 10 => ⟨S2048x3072, .f32⟩
  | 11 => ⟨S2048x3072, .f32⟩
  | 12 => ⟨S2048x3072, .f32⟩
  | 13 => ⟨S_, .f32⟩
  | 14 => ⟨S2048x3072, .f32⟩
  | 15 => ⟨S2048x3072, .f32⟩
  | 16 => ⟨S_, .f32⟩
  | 17 => ⟨S2048x3072, .f32⟩
  | 18 => ⟨S2048x3072, .f32⟩
  | 19 => ⟨S2048x3072, .f32⟩
  | 20 => ⟨S_, .f32⟩
  | 21 => ⟨S2048x3072, .f32⟩
  | 22 => ⟨S2048x3072, .f32⟩
  | 23 => ⟨S2048x3072, .f32⟩
  | 24 => ⟨S_, .f32⟩
  | 25 => ⟨S2048x3072, .f32⟩
  | 26 => ⟨S2048x3072, .f32⟩
  | 27 => ⟨S_, .f32⟩
  | 28 => ⟨S2048x3072, .f32⟩
  | 29 => ⟨S2048x3072, .f32⟩
  | 30 => ⟨S2048x3072, .f32⟩
  | 31 => ⟨S_, .f32⟩
  | 32 => ⟨S2048x3072, .f32⟩
  | 33 => ⟨S2048x3072, .f32⟩
  | 34 => ⟨S2048x3072, .f32⟩
  | 35 => ⟨S2048x3072, .f32⟩
  | 36 => ⟨S3072x1024, .f32⟩
  | 37 => ⟨S2048x1024, .f32⟩
  | 38 => ⟨S2048x1024, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048x1, .f32⟩
  | 47 => ⟨S2048x1, .f32⟩
  | 48 => ⟨S2048x1, .f32⟩
  | 49 => ⟨S2048x1, .f32⟩
  | 50 => ⟨S_, .f32⟩
  | 51 => ⟨S2048x1, .f32⟩
  | 52 => ⟨S2048x1, .f32⟩
  | 53 => ⟨S2048x1024, .f32⟩
  | 54 => ⟨S2048x1024, .f32⟩
  | 55 => ⟨S1x1024, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S_, .f32⟩
  | 65 => ⟨S2048, .f32⟩
  | 66 => ⟨S_, .f32⟩
  | 67 => ⟨S2048, .f32⟩
  | 68 => ⟨S2048, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S2048, .f32⟩
  | 77 => ⟨S_, .f32⟩
  | 78 => ⟨S2048, .f32⟩
  | 79 => ⟨S2048, .f32⟩
  | 80 => ⟨S2048x1024, .f32⟩
  | 81 => ⟨S2048x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S_, .f32⟩
  | 89 => ⟨S1024, .f32⟩
  | 90 => ⟨S2048x1024, .f32⟩
  | 91 => ⟨S_, .f32⟩
  | 92 => ⟨S2048, .f32⟩
  | 93 => ⟨S2048x1, .f32⟩
  | 94 => ⟨S2048x1024, .f32⟩
  | 95 => ⟨S2048x1024, .f32⟩
  | 96 => ⟨S2048x1, .f32⟩
  | 97 => ⟨S_, .f32⟩
  | 98 => ⟨S2048x1, .f32⟩
  | 99 => ⟨S2048x1, .f32⟩
  | 100 => ⟨S_, .f32⟩
  | 101 => ⟨S2048, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S2048x3072, .f32⟩
  | 108 => ⟨S2048x3072, .f32⟩
  | 109 => ⟨S2048x3072, .f32⟩
  | 110 => ⟨S2048x3072, .f32⟩
  | 111 => ⟨S2048x3072, .f32⟩
  | 112 => ⟨S2048x3072, .f32⟩
  | 113 => ⟨S_, .f32⟩
  | 114 => ⟨S2048x3072, .f32⟩
  | 115 => ⟨S2048x3072, .f32⟩
  | 116 => ⟨S_, .f32⟩
  | 117 => ⟨S2048x3072, .f32⟩
  | 118 => ⟨S2048x3072, .f32⟩
  | 119 => ⟨S_, .f32⟩
  | 120 => ⟨S2048x3072, .f32⟩
  | 121 => ⟨S2048x3072, .f32⟩
  | 122 => ⟨S2048x3072, .f32⟩
  | 123 => ⟨S2048x3072, .f32⟩
  | 124 => ⟨S2048x3072, .f32⟩
  | 125 => ⟨S2048x3072, .f32⟩
  | 126 => ⟨S2048x3072, .f32⟩
  | 127 => ⟨S2048x3072, .f32⟩
  | _ => ⟨S2048x6144, .bf16⟩

abbrev hbmTy0_1 (i : Nat) : BufTy := match i % 128 with
  | 0 => ⟨S2048x3072, .f32⟩
  | 1 => ⟨S_, .f32⟩
  | 2 => ⟨S2048x3072, .f32⟩
  | 3 => ⟨S2048x3072, .f32⟩
  | 4 => ⟨S2048x3072, .f32⟩
  | 5 => ⟨S2048x6144, .f32⟩
  | 6 => ⟨S2048x1024, .bf16⟩
  | 7 => ⟨S2048x6144, .bf16⟩
  | 8 => ⟨S1x1024, .f32⟩
  | 9 => ⟨S8x128, .f32⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_cst_14 : Ref sig .tc := ⟨.hbm, 71, rfl⟩
abbrev main_v51 : Ref sig .tc := ⟨.hbm, 72, rfl⟩
abbrev main_cst_15 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_21 : Ref sig .tc := ⟨.hbm, 97, rfl⟩
abbrev main_v70 : Ref sig .tc := ⟨.hbm, 98, rfl⟩
abbrev main_v71 : Ref sig .tc := ⟨.hbm, 99, rfl⟩
abbrev main_cst_22 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_23 : Ref sig .tc := ⟨.hbm, 113, rfl⟩
abbrev main_v84 : Ref sig .tc := ⟨.hbm, 114, rfl⟩
abbrev main_v85 : Ref sig .tc := ⟨.hbm, 115, rfl⟩
abbrev main_cst_24 : Ref sig .tc := ⟨.hbm, 116, rfl⟩
abbrev main_v86 : Ref sig .tc := ⟨.hbm, 117, rfl⟩
abbrev main_v87 : Ref sig .tc := ⟨.hbm, 118, rfl⟩
abbrev main_cst_25 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_26 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Kernel4.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S2048x6144 : Shape := ⟨2, ![2048, 6144]⟩
abbrev S2048x1024x1 : Shape := ⟨3, ![2048, 1024, 1]⟩
abbrev S1x1024x6144 : Shape := ⟨3, ![1, 1024, 6144]⟩
abbrev S2048x1024x6144 : Shape := ⟨3, ![2048, 1024, 6144]⟩
abbrev S_ : Shape := ⟨0, ![]⟩
abbrev S1x6144 : Shape := ⟨2, ![1, 6144]⟩
abbrev S2048x512 : Shape := ⟨2, ![2048, 512]⟩
abbrev S3x512 : Shape := ⟨2, ![3, 512]⟩
abbrev S1024x512 : Shape := ⟨2, ![1024, 512]⟩
abbrev S1x512 : Shape := ⟨2, ![1, 512]⟩
abbrev S2056x512 : Shape := ⟨2, ![2056, 512]⟩
abbrev S8x512 : Shape := ⟨2, ![8, 512]⟩
abbrev S256x512 : Shape := ⟨2, ![256, 512]⟩
abbrev S32x512 : Shape := ⟨2, ![32, 512]⟩
abbrev S24x512 : Shape := ⟨2, ![24, 512]⟩
abbrev S4x8x512 : Shape := ⟨3, ![4, 8, 512]⟩
abbrev S256x1024 : Shape := ⟨2, ![256, 1024]⟩
abbrev S512 : Shape := ⟨1, ![512]⟩

abbrev nBuf : Space → Nat
  | .hbm => 19
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S3x6144, .f32⟩
  | .hbm, ⟨3, _⟩ => ⟨S6144, .f32⟩
  | .hbm, ⟨4, _⟩ => ⟨S2048x6144, .bf16⟩
  | .hbm, ⟨5, _⟩ => ⟨S2048x1024, .f32⟩
  | .hbm, ⟨6, _⟩ => ⟨S1024x6144, .f32⟩
  | .hbm, ⟨7, _⟩ => ⟨S2048x1024x1, .f32⟩
  | .hbm, ⟨8, _⟩ => ⟨S1x1024x6144, .f32⟩
  | .hbm, ⟨9, _⟩ => ⟨S2048x1024x6144, .f32⟩
  | .hbm, ⟨10, _⟩ => ⟨S2048x1024x6144, .f32⟩
  | .hbm, ⟨11, _⟩ => ⟨S2048x1024x6144, .f32⟩
  | .hbm, ⟨12, _⟩ => ⟨S_, .f32⟩
  | .hbm, ⟨13, _⟩ => ⟨S2048x6144, .f32⟩
  | .hbm, ⟨14, _⟩ => ⟨S2048x6144, .bf16⟩
  | .hbm, ⟨15, _⟩ => ⟨S1024x6144, .bf16⟩
  | .hbm, ⟨16, _⟩ => ⟨S3x6144, .f32⟩
  | .hbm, ⟨17, _⟩ => ⟨S1x6144, .f32⟩
  | .hbm, ⟨18, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S3x512, .f32⟩
  | .local _ .vmem, ⟨5, _⟩ => ⟨S3x512, .f32⟩
  | .local _ .vmem, ⟨6, _⟩ => ⟨S2048x1024, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S2048x1024, .f32⟩
  | .local _ .vmem, ⟨16, _⟩ => ⟨S2056x512, .f32⟩
  | .local _ .vmem, ⟨17, _⟩ => ⟨S2056x512, .f32⟩
  | .local _ .vmem, ⟨18, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S2048x6144 : Shape := ⟨2, ![2048, 6144]⟩
abbrev S_ : Shape := ⟨0, ![]⟩
abbrev S2x6144 : Shape := ⟨2, ![2, 6144]⟩
abbrev S2050x6144 : Shape := ⟨2, ![2050, 6144]⟩
abbrev S1x6144 : Shape := ⟨2, ![1, 6144]⟩
abbrev S6144x1024 : Shape := ⟨2, ![6144, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S3x6144, .f32⟩
  | .hbm, ⟨3, _⟩ => ⟨S6144, .f32⟩
  | .hbm, ⟨4, _⟩ => ⟨S2048x6144, .bf16⟩
  | .hbm, ⟨5, _⟩ => ⟨S2048x1024, .f32⟩
  | .hbm, ⟨6, _⟩ => ⟨S1024x6144, .f32⟩
  | .hbm, ⟨7, _⟩ => ⟨S2048x6144, .f32⟩
  | .hbm, ⟨8, _⟩ => ⟨S_, .f32⟩
  | .hbm, ⟨9, _⟩ => ⟨S2x6144, .f32⟩
  | .hbm, ⟨10, _⟩ => ⟨S2050x6144, .f32⟩
  | .hbm, ⟨11, _⟩ => ⟨S_, .f32⟩
  | .hbm, ⟨12, _⟩ => ⟨S2x6144, .f32⟩
  | .hbm, ⟨13, _⟩ => ⟨S2048x6144, .f32⟩
  | .hbm, ⟨14, _⟩ => ⟨S1x6144, .f32⟩
  | .hbm, ⟨15, _⟩ => ⟨S6144, .f32⟩
  | .hbm, ⟨16, _⟩ => ⟨S1x6144, .f32⟩
  | .hbm, ⟨17, _⟩ => ⟨S2048x6144, .f32⟩
  | .hbm, ⟨18, _⟩ => ⟨S2048x6144, .f32⟩
  | .hbm, ⟨19, _⟩ => ⟨S2048x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S2048x6144, .f32⟩
  | .hbm, ⟨24, _⟩ => ⟨S2048x6144, .f32⟩
  | .hbm, ⟨25, _⟩ => ⟨S2048x6144, .f32⟩
  | .hbm, ⟨26, _⟩ => ⟨S2048x6144, .f32⟩
  | .hbm, ⟨27, _⟩ => ⟨S1x6144, .f32⟩
  | .hbm, ⟨28, _⟩ => ⟨S6144, .f32⟩
  | .hbm, ⟨29, _⟩ => ⟨S1x6144, .f32⟩
  | .hbm, ⟨30, _⟩ => ⟨S2048x6144, .f32⟩
  | .hbm, ⟨31, _⟩ => ⟨S2048x6144, .f32⟩
  | .hbm, ⟨32, _⟩ => ⟨S2048x6144, .f32⟩
  | .hbm, ⟨33, _⟩ => ⟨S1x6144, .f32⟩
  | .hbm, ⟨34, _⟩ => ⟨S2048x6144, .f32⟩
  | .hbm, ⟨35, _⟩ => ⟨S2048x6144, .f32⟩
  | .hbm, ⟨36, _⟩ => ⟨S2048x6144, .f32⟩
  | .hbm, ⟨37, _⟩ => ⟨S_, .f32⟩
  | .hbm, ⟨38, _⟩ => ⟨S6144, .f32⟩
  | .hbm, ⟨39, _⟩ => ⟨S1x6144, .f32⟩
  | .hbm, ⟨40, _⟩ => ⟨S_, .f32⟩
  | .hbm, ⟨41, _⟩ => ⟨S6144, .f32⟩
  | .hbm, ⟨42, _⟩ => ⟨S2048x6144, .f32⟩
  | .hbm, ⟨43, _⟩ => ⟨S_, .f32⟩
  | .hbm, ⟨44, _⟩ => ⟨S6144, .f32⟩
  | .hbm, ⟨45, _⟩ => ⟨S1x6144, .f32⟩
  | .hbm, ⟨46, _⟩ => ⟨S2048x6144, .f32⟩
  | .hbm, ⟨47, _⟩ => ⟨S2048x6144, .f32⟩
  | .hbm, ⟨48, _⟩ => ⟨S_, .f32⟩
  | .hbm, ⟨49, _⟩ => ⟨S6144, .f32⟩
  | .hbm, ⟨50, _⟩ => ⟨S1x6144, .f32⟩
  | .hbm, ⟨51, _⟩ => ⟨S_, .f32⟩
  | .hbm, ⟨52, _⟩ => ⟨S3x6144, .f32⟩
  | .hbm, ⟨53, _⟩ => ⟨S_, .f32⟩
  | .hbm, ⟨54, _⟩ => ⟨S2050x6144, .f32⟩
  | .hbm, ⟨55, _⟩ => ⟨S2048x6144, .f32⟩
  | .hbm, ⟨56, _⟩ => ⟨S_, .f32⟩
  | .hbm, ⟨57, _⟩ => ⟨S6144, .f32⟩
  | .hbm, ⟨58, _⟩ => ⟨S1x6144, .f32⟩
  | .hbm, ⟨59, _⟩ => ⟨S2048x6144, .f32⟩
  | .hbm, ⟨60, _⟩ => ⟨S2048x6144, .f32⟩
  | .hbm, ⟨61, _⟩ => ⟨S_, .f32⟩
  | .hbm, ⟨62, _⟩ => ⟨S6144, .f32⟩
  | .hbm, ⟨63, _⟩ => ⟨S1x6144, .f32⟩
  | .hbm, ⟨64, _⟩ => ⟨S_, .f32⟩
  | .hbm, ⟨65, _⟩ => ⟨S3x6144, .f32⟩
  | .hbm, ⟨66, _⟩ => ⟨S3x6144, .f32⟩
  | .hbm, ⟨67, _⟩ => ⟨S_, .f32⟩
  | .hbm, ⟨68, _⟩ => ⟨S2050x6144, .f32⟩
  | .hbm, ⟨69, _⟩ => ⟨S2050x6144, .f32⟩
  | .hbm, ⟨70, _⟩ => ⟨S2048x6144, .f32⟩
  | .hbm, ⟨71, _⟩ => ⟨S_, .f32⟩
  | .hbm, ⟨72, _⟩ => ⟨S6144, .f32⟩
  | .hbm, ⟨73, _⟩ => ⟨S1x6144, .f32⟩
  | .hbm, ⟨74, _⟩ => ⟨S2048x6144, .f32⟩
  | .hbm, ⟨75, _⟩ => ⟨S2048x6144, .f32⟩
  | .hbm, ⟨76, _⟩ => ⟨S_, .f32⟩
  | .hbm, ⟨77, _⟩ => ⟨S6144, .f32⟩
  | .hbm, ⟨78, _⟩ => ⟨S1x6144, .f32⟩
  | .hbm, ⟨79, _⟩ => ⟨S_, .f32⟩
  | .hbm, ⟨80, _⟩ => ⟨S3x6144, .f32⟩
  | .hbm, ⟨81, _⟩ => ⟨S3x6144, .f32⟩
  | .hbm, ⟨82, _⟩ => ⟨S_, .f32⟩
  | .hbm, ⟨83, _⟩ => ⟨S2050x6144, .f32⟩
  | .hbm, ⟨84, _⟩ => ⟨S2050x6144, .f32⟩
  | .hbm, ⟨85, _⟩ => ⟨S2x6144, .f32⟩
  | .hbm, ⟨86, _⟩ => ⟨S2048x6144, .f32⟩
  | .hbm, ⟨87, _⟩ => ⟨S6144x1024, .f32⟩
  | .hbm, ⟨88, _⟩ => ⟨S1024x6144, .f32⟩
  | .hbm, ⟨89, _⟩ => ⟨S2048x1024, .f32⟩
  | .hbm, ⟨90, _⟩ => ⟨S1024x6144, .bf16⟩
  | .hbm, ⟨91, _⟩ => ⟨S1x6144, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel5.lean ====
abbrev S2048x1024 : Shape := ⟨2, ![2048, 1024]⟩
abbrev S2048x7168 : Shape := ⟨2, ![2048, 7168]⟩
abbrev S1024x1024 : Shape := ⟨2, ![1024, 1024]⟩
abbrev S1024 : Shape := ⟨1, ![1024]⟩
abbrev S2048x1024x1 : Shape := ⟨3, ![2048, 1024, 1]⟩
abbrev S1x1024x1024 : Shape := ⟨3, ![1, 1024, 1024]⟩
abbrev S2048x1024x1024 : Shape := ⟨3, ![2048, 1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2x2048x1024 : Shape := ⟨3, ![2, 2048, 1024]⟩
abbrev S256x1024 : Shape := ⟨2, ![256, 1024]⟩
abbrev S2x256x1024 : Shape := ⟨3, ![2, 256, 1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 106
  | .vmem => 37
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x7168, .bf16⟩
  | .hbm, ⟨3, _⟩ => ⟨S2048x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024, .f32⟩
  | .hbm, ⟨8, _⟩ => ⟨S1024, .f32⟩
  | .hbm, ⟨9, _⟩ => ⟨S2048x1024, .f32⟩
  | .hbm, ⟨10, _⟩ => ⟨S2048x1024, .f32⟩
  | .hbm, ⟨11, _⟩ => ⟨S2048x7168, .f32⟩
  | .hbm, ⟨12, _⟩ => ⟨S2048x1024, .f32⟩
  | .hbm, ⟨13, _⟩ => ⟨S2048x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S2048x1024x1, .f32⟩
  | .hbm, ⟨18, _⟩ => ⟨S1x1024x1024, .f32⟩
  | .hbm, ⟨19, _⟩ => ⟨S2048x1024x1024, .f32⟩
  | .hbm, ⟨20, _⟩ => ⟨S2048x1024x1024, .f32⟩
  | .hbm, ⟨21, _⟩ => ⟨S2048x1024x1024, .f32⟩
  | .hbm, ⟨22, _⟩ => ⟨S_, .f32⟩
  | .hbm, ⟨23, _⟩ => ⟨S2048x1024, .f32⟩
  | .hbm, ⟨24, _⟩ => ⟨S2048x1024x1, .f32⟩
  | .hbm, ⟨25, _⟩ => ⟨S1x1024x1024, .f32⟩
  | .hbm, ⟨26, _⟩ => ⟨S2048x1024x1024, .f32⟩
  | .hbm, ⟨27, _⟩ => ⟨S2048x1024x1024, .f32⟩
  | .hbm, ⟨28, _⟩ => ⟨S2048x1024x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024x1, .f32⟩
  | .hbm, ⟨53, _⟩ => ⟨S1x1024x1024, .f32⟩
  | .hbm, ⟨54, _⟩ => ⟨S2048x1024x1024, .f32⟩
  | .hbm, ⟨55, _⟩ => ⟨S2048x1024x1024, .f32⟩
  | .hbm, ⟨56, _⟩ => ⟨S2048x1024x1024, .f32⟩
  | .hbm, ⟨57, _⟩ => ⟨S_, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S2048x1, .f32⟩
  | .hbm, ⟨87, _⟩ => ⟨S2048x1024, .f32⟩
  | .hbm, ⟨88, _⟩ => ⟨S2048x1024, .f32⟩
  | .hbm, ⟨89, _⟩ => ⟨S1x1024, .f32⟩
  | .hbm, ⟨90, _⟩ => ⟨S2048x1024, .f32⟩
  | .hbm, ⟨91, _⟩ => ⟨S2048x1024, .f32⟩
  | .hbm, ⟨92, _⟩ => ⟨S2048x1024, .bf16⟩
  | .hbm, ⟨93, _⟩ => ⟨S2048x1024, .bf16⟩
  | .hbm, ⟨94, _⟩ => ⟨S2048x1024, .bf16⟩
  | .hbm, ⟨95, _⟩ => ⟨S1x1024, .f32⟩
  | .hbm, ⟨96, _⟩ => ⟨S1x1024, .f32⟩
  | .hbm, ⟨97, _⟩ => ⟨S2048x1024, .f32⟩
  | .hbm, ⟨98, _⟩ => ⟨S2048x1024, .bf16⟩
  | .hbm, ⟨99, _⟩ => ⟨S2048x1024, .bf16⟩
  | .hbm, ⟨100, _⟩ => ⟨S2048x1024, .bf16⟩
  | .hbm, ⟨101, _⟩ => ⟨S2048x1024, .bf16⟩
  | .hbm, ⟨102, _⟩ => ⟨S2048x1024, .bf16⟩
  | .hbm, ⟨103, _⟩ => ⟨S2x2048x1024, .bf16⟩
  | .hbm, ⟨104, _⟩ => ⟨S1x1024, .f32⟩
  | .hbm, ⟨105, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S2x256x1024, .bf16⟩
  | .local _ .vmem, ⟨34, _⟩ => ⟨S2x256x1024, .bf16⟩
  | .local _ .vmem, ⟨35, _⟩ => ⟨S1x1024, .f32⟩
  | .local _ .vmem, ⟨36, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73_0 : Ref sig .tc := ⟨.hbm, 97, rfl⟩
abbrev main_v73_1 : Ref sig .tc := ⟨.hbm, 98, rfl⟩
abbrev main_v73_2 : Ref sig .tc := ⟨.hbm, 99, rfl⟩
abbrev main_v73_3 : Ref sig .tc := ⟨.hbm, 100, rfl⟩
abbrev main_v73_4 : Ref sig .tc := ⟨.hbm, 101, rfl⟩
abbrev main_v73_5 : Ref sig .tc := ⟨.hbm, 102, rfl⟩
abbrev main_v73_6 : Ref sig .tc := ⟨.hbm, 103, rfl⟩
abbrev main_v73_7 : Ref sig .tc := ⟨.hbm, 104, rfl⟩
abbrev main_v73_8 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg21_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem21_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_12 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference5Ideal.lean ====
abbrev S2048x1024 : Shape := ⟨2, ![2048, 1024]⟩
abbrev S2048x7168 : Shape := ⟨2, ![2048, 7168]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1024 : Shape := ⟨3, ![1, 2048, 1024]⟩
abbrev S2x2048x1024 : Shape := ⟨3, ![2, 2048, 1024]⟩

abbrev nBuf : Space → Nat
  | .hbm => 162
  | .vmem => 0
  | .smem => 0
  | _ => 0

abbrev hbmTy0_0 (i : Nat) : BufTy := match i % 128 with
  | 0 => ⟨S2048x1024, .bf16⟩
  | 1 => ⟨S2048x1024, .bf16⟩
  | 2 => ⟨S2048x7168, .bf16⟩
  | 3 => ⟨S2048x1024, .f32⟩
  | 4 => ⟨S1024x1024, .bf16⟩
  | 5 => ⟨S1024x1024, .bf16⟩
  | 6 => ⟨S1024x1024, .bf16⟩
  | 7 => ⟨S1024, .f32⟩
  | 8 => ⟨S1024, .f32⟩
  | 9 => ⟨S2048x1024, .f32⟩
  | 10 => ⟨S2048x1024, .f32⟩
  | 11 => ⟨S2048x7168, .f32⟩
  | 12 => ⟨S2048x1024, .f32⟩
  | 13 => ⟨S2048x1024, .f32⟩
  | 14 => ⟨S1024x1024, .f32⟩
  | 15 => ⟨S1024x1024, .f32⟩
  | 16 => ⟨S1024x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S2048x1024, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S_, .f32⟩
  | 57 => ⟨S2048x1, .f32⟩
  | 58 => ⟨S2048x1, .f32⟩
  | 59 => ⟨S2048x1, .f32⟩
  | 60 => ⟨S2048x1, .f32⟩
  | 61 => ⟨S_, .f32⟩
  | 62 => ⟨S2048x1, .f32⟩
  | 63 => ⟨S2048x1, .f32⟩
  | 64 => ⟨S2048x1024, .f32⟩
  | 65 => ⟨S2048x1024, .f32⟩
  | 66 => ⟨S1x1024, .f32⟩
  | 67 => ⟨S2048x1024, .f32⟩
  | 68 => ⟨S2048x1024, .f32⟩
  | 69 => ⟨S2048x1024, .f32⟩
  | 70 => ⟨S2048x1024, .f32⟩
  | 71 => ⟨S_, .f32⟩
  | 72 => ⟨S2048, .f32⟩
  | 73 => ⟨S2048x1, .f32⟩
  | 74 => ⟨S_, .f32⟩
  | 75 => ⟨S2048x1, .f32⟩
  | 76 => ⟨S2048x1, .f32⟩
  | 77 => ⟨S_, .f32⟩
  | 78 => ⟨S2048x1, .f32⟩
  | 79 => ⟨S2048x1, .f32⟩
  | 80 => ⟨S2048x1, .f32⟩
  | 81 => ⟨S2048x1, .f32⟩
  | 82 => ⟨S_, .f32⟩
  | 83 => ⟨S2048x1, .f32⟩
  | 84 => ⟨S2048x1, .f32⟩
  | 85 => ⟨S2048x1024, .f32⟩
  | 86 => ⟨S2048x1024, .f32⟩
  | 87 => ⟨S1x1024, .f32⟩
  | 88 => ⟨S2048x1024, .f32⟩
  | 89 => ⟨S2048x1024, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S2048x1024, .f32⟩
  | 96 => ⟨S_, .f32⟩
  | 97 => ⟨S1024, .f32⟩
  | 98 => ⟨S2048x1024, .f32⟩
  | 99 => ⟨S_, .f32⟩
  | 100 => ⟨S2048, .f32⟩
  | 101 => ⟨S2048x1, .f32⟩
  | 102 => ⟨S2048x1024, .f32⟩
  | 103 => ⟨S2048x1024, .f32⟩
  | 104 => ⟨S2048x1024, .f32⟩
  | 105 => ⟨S2048x1, .f32⟩
  | 106 => ⟨S_, .f32⟩
  | 107 => ⟨S2048x1, .f32⟩
  | 108 => ⟨S2048x1, .f32⟩
  | 109 => ⟨S_, .f32⟩
  | 110 => ⟨S2048, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S_, .f32⟩
  | 119 => ⟨S1024, .f32⟩
  | 120 => ⟨S1x1024, .f32⟩
  | 121 => ⟨S2048x1024, .f32⟩
  | 122 => ⟨S2048x1024, .f32⟩
  | 123 => ⟨S_, .f32⟩
  | 124 => ⟨S1024, .f32⟩
  | 125 => ⟨S2048x1024, .f32⟩
  | 126 => ⟨S_, .f32⟩
  | 127 => ⟨S2048, .f32⟩
  | _ => ⟨S2048x1024, .bf16⟩

abbrev hbmTy0_1 (i : Nat) : BufTy := match i % 128 with
  | 0 => ⟨S2048x1, .f32⟩
  | 1 => ⟨S2048x1024, .f32⟩
  | 2 => ⟨S2048x1024, .f32⟩
  | 3 => ⟨S2048x1, .f32⟩
  | 4 => ⟨S_, .f32⟩
  | 5 => ⟨S2048x1, .f32⟩
  | 6 => ⟨S2048x1, .f32⟩
  | 7 => ⟨S_, .f32⟩
  | 8 => ⟨S2048, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S2048x1024, .bf16⟩
  | 24 => ⟨S2048x1024, .bf16⟩
  | 25 => ⟨S2048x1024, .bf16⟩
  | 26 => ⟨S2048x1024, .bf16⟩
  | 27 => ⟨S2048x1024, .bf16⟩
  | 28 => ⟨S1x2048x1024, .f32⟩
  | 29 => ⟨S1x2048x1024, .f32⟩
  | 30 => ⟨S2x2048x1024, .f32⟩
  | 31 => ⟨S2x2048x1024, .bf16⟩
  | 32 => ⟨S1x1024, .f32⟩
  | 33 => ⟨S1x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_19 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_21 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩

abbrev nD : Nat := 1
abbrev τ : Topo := Topo.v7x

variable {F : FTy → Type} [FloatOps F]
-- ==== Kernel6.lean ====
abbrev S3x2048x1024 : Shape := ⟨3, ![3, 2048, 1024]⟩
abbrev S2x2048x1024 : Shape := ⟨3, ![2, 2048, 1024]⟩
abbrev S1024x7168 : Shape := ⟨2, ![1024, 7168]⟩
abbrev S2048x1024 : Shape := ⟨2, ![2048, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 10
  | .vmem => 17
  | .smem => 0
  | _ => 0

abbrev bufTy : (tb : Table) → Fin (tcTables nBuf tb) → BufTy
  | .hbm, ⟨0, _⟩ => ⟨S3x2048x1024, .bf16⟩
  | .hbm, ⟨1, _⟩ => ⟨S2x2048x1024, .bf16⟩
  | .hbm, ⟨2, _⟩ => ⟨S2x2048x1024, .bf16⟩
  | .hbm, ⟨3, _⟩ => ⟨S1024x7168, .bf16⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1x1024, .f32⟩
  | .hbm, ⟨8, _⟩ => ⟨S2048x1024, .f32⟩
  | .hbm, ⟨9, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 7], ![false, false]⟩

def k0_cond6 (i : grid0.Coords) : BitVec 1 :=
  let arg1 : BitVec 32 := BitVec.ofNat 32 (i 1).val
  let c6_i32 : BitVec 32 := 6#32
  let v19 : BitVec 1 := Scalar.cmpi .eq arg1 c6_i32
  let v20 : BitVec 32 := Scalar.extui v19
  let c0_i32_9 : BitVec 32 := 0#32
  let v21 : BitVec 1 := Scalar.cmpi .ne v20 c0_i32_9
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c3_i32 : BitVec 32 := 3#32
  let v1 : BitVec 1 := Scalar.cmpi .slt arg1 c3_i32
  let c0_i32 : BitVec 32 := 0#32
  let c0_i32_0 : BitVec 32 := 0#32
  let v2 : BitVec 32 := Scalar.select v1 c0_i32 c0_i32_0
  let c0_i32_1 : BitVec 32 := 0#32
  let c0_i32_2 : BitVec 32 := 0#32
  ![v0.toNat, arg0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c3_i32_0 : BitVec 32 := 3#32
  let v3 : BitVec 1 := Scalar.cmpi .slt arg1 c3_i32_0
  let c5_i32 : BitVec 32 := 5#32
  let v4 : BitVec 1 := Scalar.cmpi .slt arg1 c5_i32
  let c0_i32_1 : BitVec 32 := 0#32
  let c0_i32_2 : BitVec 32 := 0#32
  let v5 : BitVec 32 := Scalar.select v4 c0_i32_1 c0_i32_2
  let c0_i32_3 : BitVec 32 := 0#32
  let v6 : BitVec 32 := Scalar.select v3 c0_i32_3 v5
  let c0_i32_4 : BitVec 32 := 0#32
  let c0_i32_5 : BitVec 32 := 0#32
  ![v2.toNat, arg0.toNat, c0_i32_4.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c1_i32 : BitVec 32 := 1#32
  let v1 : BitVec 32 := Scalar.maxsi c0_i32 v0
  let v2 : BitVec 32 := Scalar.minsi c1_i32 v1
  let c5_i32_0 : BitVec 32 := 5#32
  let v3 : BitVec 1 := Scalar.cmpi .slt arg1 c5_i32_0
  let c0_i32_1 : BitVec 32 := 0#32
  let c0_i32_2 : BitVec 32 := 0#32
  let v4 : BitVec 32 := Scalar.select v3 c0_i32_1 c0_i32_2
  let c0_i32_3 : BitVec 32 := 0#32
  let c0_i32_4 : BitVec 32 := 0#32
  ![v2.toNat, arg0.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference6Ideal.lean ====
abbrev S3x2048x1024 : Shape := ⟨3, ![3, 2048, 1024]⟩
abbrev S2x2048x1024 : Shape := ⟨3, ![2, 2048, 1024]⟩
abbrev S1024x7168 : Shape := ⟨2, ![1024, 7168]⟩
abbrev S2048x1024 : Shape := ⟨2, ![2048, 1024]⟩
abbrev S1024 : Shape := ⟨1, ![1024]⟩
abbrev S1x2048x1024 : Shape := ⟨3, ![1, 2048, 1024]⟩
abbrev S2048x7168 : Shape := ⟨2, ![2048, 7168]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S2x2048x1024, .bf16⟩
  | .hbm, ⟨2, _⟩ => ⟨S2x2048x1024, .bf16⟩
  | .hbm, ⟨3, _⟩ => ⟨S1024x7168, .bf16⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S1x2048x1024, .bf16⟩
  | .hbm, ⟨8, _⟩ => ⟨S2048x1024, .bf16⟩
  | .hbm, ⟨9, _⟩ => ⟨S1x2048x1024, .bf16⟩
  | .hbm, ⟨10, _⟩ => ⟨S2048x1024, .bf16⟩
  | .hbm, ⟨11, _⟩ => ⟨S1x2048x1024, .bf16⟩
  | .hbm, ⟨12, _⟩ => ⟨S2048x1024, .bf16⟩
  | .hbm, ⟨13, _⟩ => ⟨S1x2048x1024, .bf16⟩
  | .hbm, ⟨14, _⟩ => ⟨S2048x1024, .bf16⟩
  | .hbm, ⟨15, _⟩ => ⟨S1x2048x1024, .bf16⟩
  | .hbm, ⟨16, _⟩ => ⟨S2048x1024, .bf16⟩
  | .hbm, ⟨17, _⟩ => ⟨S1x2048x1024, .bf16⟩
  | .hbm, ⟨18, _⟩ => ⟨S2048x1024, .bf16⟩
  | .hbm, ⟨19, _⟩ => ⟨S1x2048x1024, .bf16⟩
  | .hbm, ⟨20, _⟩ => ⟨S2048x1024, .bf16⟩
  | .hbm, ⟨21, _⟩ => ⟨S2048x7168, .bf16⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S1024x7168, .f32⟩
  | .hbm, ⟨43, _⟩ => ⟨S2048x7168, .f32⟩
  | .hbm, ⟨44, _⟩ => ⟨S2048x7168, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S1x1024, .f32⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Kernel7.lean ====
abbrev S2048x7168 : Shape := ⟨2, ![2048, 7168]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S2056x256 : Shape := ⟨2, ![2056, 256]⟩
abbrev S8x256 : Shape := ⟨2, ![8, 256]⟩
abbrev S256x256 : Shape := ⟨2, ![256, 256]⟩
abbrev S1x256 : Shape := ⟨2, ![1, 256]⟩
abbrev S248x256 : Shape := ⟨2, ![248, 256]⟩

abbrev nBuf : Space → Nat
  | .hbm => 3
  | .vmem => 11
  | .smem => 0
  | _ => 0

abbrev bufTy : (tb : Table) → Fin (tcTables nBuf tb) → BufTy
  | .hbm, ⟨0, _⟩ => ⟨S2048x7168, .bf16⟩
  | .hbm, ⟨1, _⟩ => ⟨S3x1024, .f32⟩
  | .hbm, ⟨2, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | .local _ .vmem, ⟨10, _⟩ => ⟨S2056x256, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S2048x7168 : Shape := ⟨2, ![2048, 7168]⟩
abbrev S3x1024 : Shape := ⟨2, ![3, 1024]⟩
abbrev S1x2048x7168 : Shape := ⟨3, ![1, 2048, 7168]⟩
abbrev S1x2048x1024 : Shape := ⟨3, ![1, 2048, 1024]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S2048x1024 : Shape := ⟨2, ![2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S3x1024, .f32⟩
  | .hbm, ⟨2, _⟩ => ⟨S2048x7168, .f32⟩
  | .hbm, ⟨3, _⟩ => ⟨S1x2048x7168, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S_, .f32⟩
  | .hbm, ⟨9, _⟩ => ⟨S1x2x1024, .f32⟩
  | .hbm, ⟨10, _⟩ => ⟨S1x2050x1024, .f32⟩
  | .hbm, ⟨11, _⟩ => ⟨S1x2048x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x2048x1024, .f32⟩
  | .hbm, ⟨32, _⟩ => ⟨S2048x1024, .f32⟩
  | .hbm, ⟨33, _⟩ => ⟨S2048x1024, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Kernel8.lean ====
abbrev S2048x1024 : Shape := ⟨2, ![2048, 1024]⟩
abbrev S2048x7168 : Shape := ⟨2, ![2048, 7168]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 27
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x7168, .bf16⟩
  | .hbm, ⟨3, _⟩ => ⟨S2048x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x1024, .f32⟩
  | .hbm, ⟨16, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S2048x1024 : Shape := ⟨2, ![2048, 1024]⟩
abbrev S2048x7168 : Shape := ⟨2, ![2048, 7168]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x7168, .bf16⟩
  | .hbm, ⟨3, _⟩ => ⟨S2048x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024, .f32⟩
  | .hbm, ⟨8, _⟩ => ⟨S1024, .f32⟩
  | .hbm, ⟨9, _⟩ => ⟨S2048x7168, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | .hbm, ⟨73, _⟩ => ⟨S2048x1024, .bf16⟩
  | .hbm, ⟨74, _⟩ => ⟨S2048x1024, .bf16⟩
  | .hbm, ⟨75, _⟩ => ⟨S2048x1024, .bf16⟩
  | .hbm, ⟨76, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel9.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S1x6144 : Shape := ⟨2, ![1, 6144]⟩
abbrev S2048x6144 : Shape := ⟨2, ![2048, 6144]⟩
abbrev S2048x3072 : Shape := ⟨2, ![2048, 3072]⟩
abbrev S1024x256 : Shape := ⟨2, ![1024, 256]⟩
abbrev S3x256 : Shape := ⟨2, ![3, 256]⟩
abbrev S1x256 : Shape := ⟨2, ![1, 256]⟩
abbrev S2048x256 : Shape := ⟨2, ![2048, 256]⟩
abbrev S2056x256 : Shape := ⟨2, ![2056, 256]⟩
abbrev S8x256 : Shape := ⟨2, ![8, 256]⟩
abbrev S256x1024 : Shape := ⟨2, ![256, 1024]⟩
abbrev S256x256 : Shape := ⟨2, ![256, 256]⟩
abbrev S248x256 : Shape := ⟨2, ![248, 256]⟩

abbrev nBuf : Space → Nat
  | .hbm => 8
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S3x6144, .f32⟩
  | .hbm, ⟨3, _⟩ => ⟨S6144, .f32⟩
  | .hbm, ⟨4, _⟩ => ⟨S1x6144, .f32⟩
  | .hbm, ⟨5, _⟩ => ⟨S2048x6144, .bf16⟩
  | .hbm, ⟨6, _⟩ => ⟨S2048x6144, .bf16⟩
  | .hbm, ⟨7, _⟩ => ⟨S2048x3072, .bf16⟩
  | .local _ .vmem, ⟨0, _⟩ => ⟨S2048x1024, .bf16⟩
  | .local _ .vmem, ⟨1, _⟩ => ⟨S1024x256, .bf16⟩
  | .local _ .vmem, ⟨2, _⟩ => ⟨S1024x256, .bf16⟩
  | .local _ .vmem, ⟨3, _⟩ => ⟨S3x256, .f32⟩
  | .local _ .vmem, ⟨4, _⟩ => ⟨S3x256, .f32⟩
  | .local _ .vmem, ⟨5, _⟩ => ⟨S1x256, .f32⟩
  | .local _ .vmem, ⟨6, _⟩ => ⟨S1x256, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2056x256, .f32⟩
  | .local _ .vmem, ⟨14, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg1 : BitVec 32 := BitVec.ofNat 32 (i 1).val
  let c0_i32 : BitVec 32 := 0#32
  let v76 : BitVec 1 := Scalar.cmpi .eq arg1 c0_i32
  let v77 : BitVec 32 := Scalar.extui v76
  let c0_i32_58 : BitVec 32 := 0#32
  let v78 : BitVec 1 := Scalar.cmpi .ne v77 c0_i32_58
  v78

def k0_cond2 (i : grid0.Coords) : BitVec 1 :=
  let arg1 : BitVec 32 := BitVec.ofNat 32 (i 1).val
  let c1_i32 : BitVec 32 := 1#32
  let v79 : BitVec 1 := Scalar.cmpi .eq arg1 c1_i32
  let v80 : BitVec 32 := Scalar.extui v79
  let c0_i32_59 : BitVec 32 := 0#32
  let v81 : BitVec 1 := Scalar.cmpi .ne v80 c0_i32_59
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli c12_i32 arg1
  let v1 : BitVec 32 := Scalar.addi v0 arg0
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli c12_i32 arg1
  let v1 : BitVec 32 := Scalar.addi v0 arg0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli c12_i32 arg1
  let v1 : BitVec 32 := Scalar.addi v0 arg0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli c12_i32 arg1
  let v1 : BitVec 32 := Scalar.addi v0 arg0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli c12_i32 arg1
  let v1 : BitVec 32 := Scalar.addi v0 arg0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S2048x6144 : Shape := ⟨2, ![2048, 6144]⟩
abbrev S1x2048x6144 : Shape := ⟨3, ![1, 2048, 6144]⟩
abbrev S_ : Shape := ⟨0, ![]⟩
abbrev S1x2x6144 : Shape := ⟨3, ![1, 2, 6144]⟩
abbrev S1x2050x6144 : Shape := ⟨3, ![1, 2050, 6144]⟩
abbrev S1x6144 : Shape := ⟨2, ![1, 6144]⟩
abbrev S1x1x6144 : Shape := ⟨3, ![1, 1, 6144]⟩
abbrev S2048x3072 : Shape := ⟨2, ![2048, 3072]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S3x6144, .f32⟩
  | .hbm, ⟨3, _⟩ => ⟨S6144, .f32⟩
  | .hbm, ⟨4, _⟩ => ⟨S2048x1024, .f32⟩
  | .hbm, ⟨5, _⟩ => ⟨S1024x6144, .f32⟩
  | .hbm, ⟨6, _⟩ => ⟨S2048x6144, .f32⟩
  | .hbm, ⟨7, _⟩ => ⟨S1x2048x6144, .f32⟩
  | .hbm, ⟨8, _⟩ => ⟨S_, .f32⟩
  | .hbm, ⟨9, _⟩ => ⟨S1x2x6144, .f32⟩
  | .hbm, ⟨10, _⟩ => ⟨S1x2050x6144, .f32⟩
  | .hbm, ⟨11, _⟩ => ⟨S1x2048x6144, .f32⟩
  | .hbm, ⟨12, _⟩ => ⟨S1x6144, .f32⟩
  | .hbm, ⟨13, _⟩ => ⟨S6144, .f32⟩
  | .hbm, ⟨14, _⟩ => ⟨S1x1x6144, .f32⟩
  | .hbm, ⟨15, _⟩ => ⟨S1x2048x6144, .f32⟩
  | .hbm, ⟨16, _⟩ => ⟨S1x2048x6144, .f32⟩
  | .hbm, ⟨17, _⟩ => ⟨S1x2048x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S1x2048x6144, .f32⟩
  | .hbm, ⟨22, _⟩ => ⟨S1x2048x6144, .f32⟩
  | .hbm, ⟨23, _⟩ => ⟨S1x2048x6144, .f32⟩
  | .hbm, ⟨24, _⟩ => ⟨S1x2048x6144, .f32⟩
  | .hbm, ⟨25, _⟩ => ⟨S1x6144, .f32⟩
  | .hbm, ⟨26, _⟩ => ⟨S6144, .f32⟩
  | .hbm, ⟨27, _⟩ => ⟨S1x1x6144, .f32⟩
  | .hbm, ⟨28, _⟩ => ⟨S1x2048x6144, .f32⟩
  | .hbm, ⟨29, _⟩ => ⟨S1x2048x6144, .f32⟩
  | .hbm, ⟨30, _⟩ => ⟨S1x2048x6144, .f32⟩
  | .hbm, ⟨31, _⟩ => ⟨S1x1x6144, .f32⟩
  | .hbm, ⟨32, _⟩ => ⟨S1x2048x6144, .f32⟩
  | .hbm, ⟨33, _⟩ => ⟨S1x2048x6144, .f32⟩
  | .hbm, ⟨34, _⟩ => ⟨S2048x6144, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S_, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S_, .f32⟩
  | .hbm, ⟨44, _⟩ => ⟨S2048x3072, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | .hbm, ⟨50, _⟩ => ⟨S_, .f32⟩
  | .hbm, ⟨51, _⟩ => ⟨S2048x3072, .f32⟩
  | .hbm, ⟨52, _⟩ => ⟨S2048x3072, .f32⟩
  | .hbm, ⟨53, _⟩ => ⟨S2048x3072, .f32⟩
  | .hbm, ⟨54, _⟩ => ⟨S2048x3072, .f32⟩
  | .hbm, ⟨55, _⟩ => ⟨S2048x6144, .bf16⟩
  | .hbm, ⟨56, _⟩ => ⟨S2048x6144, .bf16⟩
  | .hbm, ⟨57, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_0 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Kernel10.lean ====
abbrev S2048x6144 : Shape := ⟨2, ![2048, 6144]⟩
abbrev S2048x1024 : Shape := ⟨2, ![2048, 1024]⟩
abbrev S2048x3072 : Shape := ⟨2, ![2048, 3072]⟩
abbrev S_ : Shape := ⟨0, ![]⟩
abbrev S3072x1024 : Shape := ⟨2, ![3072, 1024]⟩
abbrev S1024x1024 : Shape := ⟨2, ![1024, 1024]⟩

abbrev nBuf : Space → Nat
  | .hbm => 28
  | .vmem => 5
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S2048x6144, .f32⟩
  | .hbm, ⟨3, _⟩ => ⟨S2048x3072, .f32⟩
  | .hbm, ⟨4, _⟩ => ⟨S2048x3072, .f32⟩
  | .hbm, ⟨5, _⟩ => ⟨S_, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x3072, .f32⟩
  | .hbm, ⟨10, _⟩ => ⟨S_, .f32⟩
  | .hbm, ⟨11, _⟩ => ⟨S2048x3072, .f32⟩
  | .hbm, ⟨12, _⟩ => ⟨S2048x3072, .f32⟩
  | .hbm, ⟨13, _⟩ => ⟨S_, .f32⟩
  | .hbm, ⟨14, _⟩ => ⟨S2048x3072, .f32⟩
  | .hbm, ⟨15, _⟩ => ⟨S2048x3072, .f32⟩
  | .hbm, ⟨16, _⟩ => ⟨S2048x3072, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S2048x3072, .f32⟩
  | .hbm, ⟨21, _⟩ => ⟨S_, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S2048x3072, .bf16⟩
  | .hbm, ⟨27, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x6144 : Shape := ⟨2, ![2048, 6144]⟩
abbrev S2048x1024 : Shape := ⟨2, ![2048, 1024]⟩
abbrev S_ : Shape := ⟨0, ![]⟩
abbrev S3072x1024 : Shape := ⟨2, ![3072, 1024]⟩
abbrev S2048x3072 : Shape := ⟨2, ![2048, 3072]⟩
abbrev S1024x3072 : Shape := ⟨2, ![1024, 3072]⟩

abbrev nBuf : Space → Nat
  | .hbm => 33
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S_, .f32⟩
  | .hbm, ⟨3, _⟩ => ⟨S3072x1024, .f32⟩
  | .hbm, ⟨4, _⟩ => ⟨S2048x6144, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S2048x3072, .f32⟩
  | .hbm, ⟨28, _⟩ => ⟨S2048x1024, .f32⟩
  | .hbm, ⟨29, _⟩ => ⟨S2048x1024, .f32⟩
  | .hbm, ⟨30, _⟩ => ⟨S1024x3072, .f32⟩
  | .hbm, ⟨31, _⟩ => ⟨S3072x1024, .f32⟩
  | .hbm, ⟨32, _⟩ => ⟨S3072x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel11.lean ====
abbrev S2048x1024 : Shape := ⟨2, ![2048, 1024]⟩
abbrev S1024 : Shape := ⟨1, ![1024]⟩
abbrev S3x2048x1024 : Shape := ⟨3, ![3, 2048, 1024]⟩
abbrev S2x2048x1024 : Shape := ⟨3, ![2, 2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x7168 : Shape := ⟨2, ![1024, 7168]⟩
abbrev S1x2048x1024 : Shape := ⟨3, ![1, 2048, 1024]⟩
abbrev S1024x1024 : Shape := ⟨2, ![1024, 1024]⟩

abbrev nBuf : Space → Nat
  | .hbm => 23
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S3x2048x1024, .bf16⟩
  | .hbm, ⟨3, _⟩ => ⟨S2x2048x1024, .bf16⟩
  | .hbm, ⟨4, _⟩ => ⟨S2x2048x1024, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S1024x7168, .bf16⟩
  | .local _ .vmem, ⟨0, _⟩ => ⟨S2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .slt v16 c3_i32
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32_6 : BitVec 32 := 3#32
  let v20 : BitVec 1 := Scalar.cmpi .sge v16 c3_i32_6
  let c5_i32 : BitVec 32 := 5#32
  let v21 : BitVec 1 := Scalar.cmpi .slt v16 c5_i32
  let v22 : BitVec 1 := Scalar.andi v20 v21
  let v23 : BitVec 32 := Scalar.extui v22
  let c0_i32_7 : BitVec 32 := 0#32
  let v24 : BitVec 1 := Scalar.cmpi .ne v23 c0_i32_7
  v24

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c5_i32_8 : BitVec 32 := 5#32
  let v25 : BitVec 1 := Scalar.cmpi .sge v16 c5_i32_8
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.minsi v16 c2_i32
  let c3_i32 : BitVec 32 := 3#32
  let v28 : BitVec 1 := Scalar.cmpi .slt v16 c3_i32
  let c0_i32_11 : BitVec 32 := 0#32
  let v29 : BitVec 32 := Scalar.select v28 v26 c0_i32_11
  let c0_i32_12 : BitVec 32 := 0#32
  let c0_i32_13 : BitVec 32 := 0#32
  ![v27.toNat, c0_i32_12.toNat, v29.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v16 c3_i32
  let c0_i32_11 : BitVec 32 := 0#32
  let c1_i32_12 : BitVec 32 := 1#32
  let v28 : BitVec 32 := Scalar.maxsi c0_i32_11 v27
  let v29 : BitVec 32 := Scalar.minsi c1_i32_12 v28
  let c3_i32_13 : BitVec 32 := 3#32
  let v30 : BitVec 1 := Scalar.cmpi .slt v16 c3_i32_13
  let c5_i32 : BitVec 32 := 5#32
  let v31 : BitVec 1 := Scalar.cmpi .slt v16 c5_i32
  let c0_i32_14 : BitVec 32 := 0#32
  let v32 : BitVec 32 := Scalar.select v31 v26 c0_i32_14
  let c0_i32_15 : BitVec 32 := 0#32
  let v33 : BitVec 32 := Scalar.select v30 c0_i32_15 v32
  let c0_i32_16 : BitVec 32 := 0#32
  let c0_i32_17 : BitVec 32 := 0#32
  ![v29.toNat, c0_i32_16.toNat, v33.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.subi v16 c5_i32
  let c0_i32_11 : BitVec 32 := 0#32
  let c1_i32_12 : BitVec 32 := 1#32
  let v28 : BitVec 32 := Scalar.maxsi c0_i32_11 v27
  let v29 : BitVec 32 := Scalar.minsi c1_i32_12 v28
  let c5_i32_13 : BitVec 32 := 5#32
  let v30 : BitVec 1 := Scalar.cmpi .slt v16 c5_i32_13
  let c0_i32_14 : BitVec 32 := 0#32
  let v31 : BitVec 32 := Scalar.select v30 c0_i32_14 v26
  let c0_i32_15 : BitVec 32 := 0#32
  let c0_i32_16 : BitVec 32 := 0#32
  ![v29.toNat, c0_i32_15.toNat, v31.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S2048x1024 : Shape := ⟨2, ![2048, 1024]⟩
abbrev S1024 : Shape := ⟨1, ![1024]⟩
abbrev S3x2048x1024 : Shape := ⟨3, ![3, 2048, 1024]⟩
abbrev S2x2048x1024 : Shape := ⟨3, ![2, 2048, 1024]⟩
abbrev S1x2048x1024 : Shape := ⟨3, ![1, 2048, 1024]⟩
abbrev S2048x7168 : Shape := ⟨2, ![2048, 7168]⟩
abbrev S_ : Shape := ⟨0, ![]⟩
abbrev S1024x7168 : Shape := ⟨2, ![1024, 7168]⟩
abbrev S2048 : Shape := ⟨1, ![2048]⟩
abbrev S2048x1 : Shape := ⟨2, ![2048, 1]⟩
abbrev S1x1024 : Shape := ⟨2, ![1, 1024]⟩
abbrev S7168x1024 : Shape := ⟨2, ![7168, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S3x2048x1024, .bf16⟩
  | .hbm, ⟨3, _⟩ => ⟨S2x2048x1024, .bf16⟩
  | .hbm, ⟨4, _⟩ => ⟨S2x2048x1024, .bf16⟩
  | .hbm, ⟨5, _⟩ => ⟨S1x2048x1024, .bf16⟩
  | .hbm, ⟨6, _⟩ => ⟨S2048x1024, .bf16⟩
  | .hbm, ⟨7, _⟩ => ⟨S1x2048x1024, .bf16⟩
  | .hbm, ⟨8, _⟩ => ⟨S2048x1024, .bf16⟩
  | .hbm, ⟨9, _⟩ => ⟨S1x2048x1024, .bf16⟩
  | .hbm, ⟨10, _⟩ => ⟨S2048x1024, .bf16⟩
  | .hbm, ⟨11, _⟩ => ⟨S1x2048x1024, .bf16⟩
  | .hbm, ⟨12, _⟩ => ⟨S2048x1024, .bf16⟩
  | .hbm, ⟨13, _⟩ => ⟨S1x2048x1024, .bf16⟩
  | .hbm, ⟨14, _⟩ => ⟨S2048x1024, .bf16⟩
  | .hbm, ⟨15, _⟩ => ⟨S1x2048x1024, .bf16⟩
  | .hbm, ⟨16, _⟩ => ⟨S2048x1024, .bf16⟩
  | .hbm, ⟨17, _⟩ => ⟨S1x2048x1024, .bf16⟩
  | .hbm, ⟨18, _⟩ => ⟨S2048x1024, .bf16⟩
  | .hbm, ⟨19, _⟩ => ⟨S2048x7168, .bf16⟩
  | .hbm, ⟨20, _⟩ => ⟨S2048x7168, .f32⟩
  | .hbm, ⟨21, _⟩ => ⟨S_, .f32⟩
  | .hbm, ⟨22, _⟩ => ⟨S1024x7168, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x7168, .f32⟩
  | .hbm, ⟨40, _⟩ => ⟨S7168x1024, .f32⟩
  | .hbm, ⟨41, _⟩ => ⟨S1024x7168, .f32⟩
  | .hbm, ⟨42, _⟩ => ⟨S1024x7168, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Kernel12.lean ====
abbrev S1024x896 : Shape := ⟨2, ![1024, 896]⟩
abbrev S4x1024x896 : Shape := ⟨3, ![4, 1024, 896]⟩
abbrev S3x1024x896 : Shape := ⟨3, ![3, 1024, 896]⟩
abbrev S512x896 : Shape := ⟨2, ![512, 896]⟩
abbrev S1x512x896 : Shape := ⟨3, ![1, 512, 896]⟩
abbrev S3x512x896 : Shape := ⟨3, ![3, 512, 896]⟩

abbrev nBuf : Space → Nat
  | .hbm => 9
  | .vmem => 18
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S4x1024x896, .bf16⟩
  | .hbm, ⟨4, _⟩ => ⟨S3x1024x896, .bf16⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S1x512x896, .bf16⟩
  | .local _ .vmem, ⟨7, _⟩ => ⟨S1x512x896, .bf16⟩
  | .local _ .vmem, ⟨8, _⟩ => ⟨S3x512x896, .bf16⟩
  | .local _ .vmem, ⟨9, _⟩ => ⟨S3x512x896, .bf16⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | .local _ .vmem, ⟨14, _⟩ => ⟨S512x896, .f32⟩
  | .local _ .vmem, ⟨15, _⟩ => ⟨S512x896, .f32⟩
  | .local _ .vmem, ⟨16, _⟩ => ⟨S512x896, .f32⟩
  | .local _ .vmem, ⟨17, _⟩ => ⟨S512x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S1024x896 : Shape := ⟨2, ![1024, 896]⟩
abbrev S4x1024x896 : Shape := ⟨3, ![4, 1024, 896]⟩
abbrev S3x1024x896 : Shape := ⟨3, ![3, 1024, 896]⟩
abbrev S1x1024x896 : Shape := ⟨3, ![1, 1024, 896]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S4x1024x896, .bf16⟩
  | .hbm, ⟨4, _⟩ => ⟨S3x1024x896, .bf16⟩
  | .hbm, ⟨5, _⟩ => ⟨S1x1024x896, .bf16⟩
  | .hbm, ⟨6, _⟩ => ⟨S1024x896, .bf16⟩
  | .hbm, ⟨7, _⟩ => ⟨S1024x896, .f32⟩
  | .hbm, ⟨8, _⟩ => ⟨S3x1024x896, .f32⟩
  | .hbm, ⟨9, _⟩ => ⟨S_, .f32⟩
  | .hbm, ⟨10, _⟩ => ⟨S1024x896, .f32⟩
  | .hbm, ⟨11, _⟩ => ⟨S1024x896, .f32⟩
  | .hbm, ⟨12, _⟩ => ⟨S_, .f32⟩
  | .hbm, ⟨13, _⟩ => ⟨S1024x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S1024x896, .f32⟩
  | .hbm, ⟨19, _⟩ => ⟨S_, .f32⟩
  | .hbm, ⟨20, _⟩ => ⟨S1024x896, .f32⟩
  | .hbm, ⟨21, _⟩ => ⟨S1024x896, .f32⟩
  | .hbm, ⟨22, _⟩ => ⟨S1024x896, .f32⟩
  | .hbm, ⟨23, _⟩ => ⟨S_, .f32⟩
  | .hbm, ⟨24, _⟩ => ⟨S1024x896, .f32⟩
  | .hbm, ⟨25, _⟩ => ⟨S1024x896, .f32⟩
  | .hbm, ⟨26, _⟩ => ⟨S1024x896, .f32⟩
  | .hbm, ⟨27, _⟩ => ⟨S_, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | .hbm, ⟨37, _⟩ => ⟨S1024x896, .f32⟩
  | .hbm, ⟨38, _⟩ => ⟨S_, .f32⟩
  | .hbm, ⟨39, _⟩ => ⟨S1024x896, .f32⟩
  | .hbm, ⟨40, _⟩ => ⟨S1024x896, .f32⟩
  | .hbm, ⟨41, _⟩ => ⟨S1024x896, .f32⟩
  | .hbm, ⟨42, _⟩ => ⟨S_, .f32⟩
  | .hbm, ⟨43, _⟩ => ⟨S1024x896, .f32⟩
  | .hbm, ⟨44, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Conv.Rows.lean ====
/- Rows of a tall array read at a small distance: the kernel takes a chunk of 256 rows and the eight rows beside it, turns both round and joins
   them. Here that is brought to the plain statement: the tall array, read some rows earlier or later. -/
module

public import proofs.«01_k».proof.Proof.Gen.KernelIdeal.Frame
public import Idealize.ShloMosaic.Lib.Pointwise

@[expose] public section

set_option maxRecDepth 16384

noncomputable section

namespace Cert.KernelIdeal.Conv

open Cert.KernelIdeal Cert.KernelIdeal.Gen Idealize.ShloMosaic

/-- The chunk `cur` read `j` rows earlier, its first `j` rows coming from the end of the eight rows before it. -/
def rowsBack (j : BitVec 32) (cur : FVec Ideal S256x256 .f32) (before : FVec Ideal S8x256 .f32) : FVec Ideal S256x256 .f32 :=
  concatenate S256x256 0 [⟨S8x256, select (cmpi .slt (iota .tc S8x256 32 [0] iota_S8x256_d0_w32) (broadcast S8x256 j))
      (dynamicRotate 0 j none before rotates_S8x256_d0)
      (extractStridedSlice S8x256 ![0, 0] (dynamicRotate 0 j none cur rotates_S256x256_d0) slices_S256x256_o0_0_S8x256)⟩,
    ⟨S248x256, extractStridedSlice S248x256 ![8, 0] (dynamicRotate 0 j none cur rotates_S256x256_d0) slices_S256x256_o8_0_S248x256⟩]
    concatenates_S8x256_S248x256_S256x256_d0

/-- The chunk `cur` read some rows later, its last rows coming from the start of the eight rows after it: `a` and `b` are the two turns. -/
def rowsAhead (a b : BitVec 32) (cur : FVec Ideal S256x256 .f32) (after : FVec Ideal S8x256 .f32) : FVec Ideal S256x256 .f32 :=
  concatenate S256x256 0 [⟨S248x256, extractStridedSlice S248x256 ![0, 0] (dynamicRotate 0 a none cur rotates_S256x256_d0) slices_S256x256_o0_0_S248x256⟩,
    ⟨S8x256, select (cmpi .sge (iota .tc S8x256 32 [0] iota_S8x256_d0_w32) (broadcast S8x256 b))
      (dynamicRotate 0 b none after rotates_S8x256_d0)
      (extractStridedSlice S8x256 ![248, 0] (dynamicRotate 0 a none cur rotates_S256x256_d0) slices_S256x256_o248_0_S8x256)⟩]
    concatenates_S248x256_S8x256_S256x256_d0

/-- Which of eight rows lie before row `k`, as the kernel decides it. -/
theorem slt_row (k : ℕ) (hk : k < 8) : ∀ r : Fin 8, IntOp.cmpi CmpIPredicate.slt (BitVec.ofNat 32 r.val) (BitVec.ofNat 32 k) = BitVec.ofBool (decide (r.val < k)) := by
  have : ∀ k : Fin 8, ∀ r : Fin 8, IntOp.cmpi CmpIPredicate.slt (BitVec.ofNat 32 r.val) (BitVec.ofNat 32 k.val) = BitVec.ofBool (decide (r.val < k.val)) := by
    decide +kernel
  exact this ⟨k, hk⟩

/-- Which of eight rows lie at or after row `k`, as the kernel decides it. -/
theorem sge_row (k : ℕ) (hk : k < 8) : ∀ r : Fin 8, IntOp.cmpi CmpIPredicate.sge (BitVec.ofNat 32 r.val) (BitVec.ofNat 32 k) = BitVec.ofBool (decide (k ≤ r.val)) := by
  have : ∀ k : Fin 8, ∀ r : Fin 8, IntOp.cmpi CmpIPredicate.sge (BitVec.ofNat 32 r.val) (BitVec.ofNat 32 k.val) = BitVec.ofBool (decide (k.val ≤ r.val)) := by
    decide +kernel
  exact this ⟨k, hk⟩

/-- A chunk of the array `g` read one row earlier. -/
theorem rowsBack_one (cur : FVec Ideal S256x256 .f32) (before : FVec Ideal S8x256 .f32) (g : ℕ → Fin 256 → Ideal .f32) (r0 : ℕ)
    (hc : ∀ r l : Fin 256, cur (ix2 r l) = g (r0 + 8 + r.val) l) (hb : ∀ (r : Fin 8) (l : Fin 256), before (ix2 r l) = g (r0 + r.val) l) (r l : Fin 256) :
    rowsBack 1#32 cur before (ix2 r l) = g (r0 + 7 + r.val) l := by
  unfold rowsBack
  pointwise
  simp only [hc, hb]
  split
  · rw [slt_row 1 (by omega) ⟨r.val, by assumption⟩]
    by_cases h1 : r.val < 1
    · simp only [h1, decide_true, BitVec.ofBool_true, Scalar.select]; simp; congr 1; omega
    · simp only [h1, decide_false, BitVec.ofBool_false, Scalar.select]; simp; congr 1; omega
  · congr 1; omega

/-- A chunk of the array `g` read two rows earlier. -/
theorem rowsBack_two (cur : FVec Ideal S256x256 .f32) (before : FVec Ideal S8x256 .f32) (g : ℕ → Fin 256 → Ideal .f32) (r0 : ℕ)
    (hc : ∀ r l : Fin 256, cur (ix2 r l) = g (r0 + 8 + r.val) l) (hb : ∀ (r : Fin 8) (l : Fin 256), before (ix2 r l) = g (r0 + r.val) l) (r l : Fin 256) :
    rowsBack 2#32 cur before (ix2 r l) = g (r0 + 6 + r.val) l := by
  unfold rowsBack
  pointwise
  simp only [hc, hb]
  split
  · rw [slt_row 2 (by omega) ⟨r.val, by assumption⟩]
    by_cases h1 : r.val < 2
    · simp only [h1, decide_true, BitVec.ofBool_true, Scalar.select]; simp; congr 1; omega
    · simp only [h1, decide_false, BitVec.ofBool_false, Scalar.select]; simp; congr 1; omega
  · congr 1; omega

/-- A chunk of the array `g` read one row later. -/
theorem rowsAhead_one (cur : FVec Ideal S256x256 .f32) (after : FVec Ideal S8x256 .f32) (g : ℕ → Fin 256 → Ideal .f32) (r0 : ℕ)
    (hc : ∀ r l : Fin 256, cur (ix2 r l) = g (r0 + r.val) l) (ha : ∀ (r : Fin 8) (l : Fin 256), after (ix2 r l) = g (r0 + 256 + r.val) l) (r l : Fin 256) :
    rowsAhead 255#32 7#32 cur after (ix2 r l) = g (r0 + 1 + r.val) l := by
  unfold rowsAhead
  pointwise
  simp only [hc, ha]
  split
  · congr 1; omega
  · rw [sge_row 7 (by omega) ⟨r.val - 248, by omega⟩]
    by_cases h1 : 7 ≤ r.val - 248
    · simp only [h1, decide_true, BitVec.ofBool_true, Scalar.select]; simp; congr 1; omega
    · simp only [h1, decide_false, BitVec.ofBool_false, Scalar.select]; simp; congr 1; omega

/-- A chunk of the array `g` read two rows later. -/
theorem rowsAhead_two (cur : FVec Ideal S256x256 .f32) (after : FVec Ideal S8x256 .f32) (g : ℕ → Fin 256 → Ideal .f32) (r0 : ℕ)
    (hc : ∀ r l : Fin 256, cur (ix2 r l) = g (r0 + r.val) l) (ha : ∀ (r : Fin 8) (l : Fin 256), after (ix2 r l) = g (r0 + 256 + r.val) l) (r l : Fin 256) :
    rowsAhead 254#32 6#32 cur after (ix2 r l) = g (r0 + 2 + r.val) l := by
  unfold rowsAhead
  pointwise
  simp only [hc, ha]
  split
  · congr 1; omega
  · rw [sge_row 6 (by omega) ⟨r.val - 248, by omega⟩]
    by_cases h1 : 6 ≤ r.val - 248
    · simp only [h1, decide_true, BitVec.ofBool_true, Scalar.select]; simp; congr 1; omega
    · simp only [h1, decide_false, BitVec.ofBool_false, Scalar.select]; simp; congr 1; omega

end Cert.KernelIdeal.Conv

end
-- ==== Proof.Conv.Stage.lean ====
/- What one block of the kernel keeps in its two scratch buffers: the product `c·x` under eight rows of zeros, and the product `dy·b` over eight
   rows of zeros. Both are filled by chunks of 256 rows; read back they are one array each. -/
module

public import proofs.«01_k».proof.Proof.Conv.Rows
public import Idealize.ShloMosaic.Lib.Pipeline.ValueKit
public import Idealize.ShloMosaic.Lib.Pipeline.ReadBack

@[expose] public section

set_option maxRecDepth 16384

noncomputable section

namespace Cert.KernelIdeal.Conv

open Cert.KernelIdeal Cert.KernelIdeal.Gen Idealize.ShloMosaic Idealize.ShloMosaic.TcCoe

/-- The product of two blocks of 2048 rows under eight rows of zeros, by the row's number. -/
def padG (p q : Vec Ideal S2048x256 .bf16) (n : ℕ) (l : Fin 256) : EReal :=
  if h : 8 ≤ n ∧ n < 2056 then p (ix2 ⟨n - 8, by omega⟩ l) * q (ix2 ⟨n - 8, by omega⟩ l) else 0

/-- The product of two blocks of 2048 rows over zeros, by the row's number. -/
def backG (p q : Vec Ideal S2048x256 .bf16) (n : ℕ) (l : Fin 256) : EReal :=
  if h : n < 2048 then p (ix2 ⟨n, h⟩ l) * q (ix2 ⟨n, h⟩ l) else 0

/-- A function of a row's number and a lane, as a buffer of 2056 rows. -/
def tall (g : ℕ → Fin 256 → EReal) : Vec Ideal S2056x256 .f32 := fun y => g (y 0).val (y 1)

/-- A piece of a buffer of 2056 rows, placed: row `x` of the piece at row `o` is row `o + x` of the buffer. -/
theorem tall_emb (g : ℕ → Fin 256 → EReal) (o n : ℕ) (inb : ∀ a, (![o, 0] : Fin 2 → ℕ) a + (![n, 256] : Fin 2 → ℕ) a ≤ S2056x256.size a)
    (r : Fin n) (l : Fin 256) :
    tall g ((Rect.unit (s := S2056x256) ![o, 0] ![n, 256] inb).emb (ix2 r l)) = g (o + r.val) l := by
  unfold tall
  have h0 : (((Rect.unit (s := S2056x256) ![o, 0] ![n, 256] inb).emb (ix2 r l)) 0).val = o + r.val := ValueKit.rect_emb_unit_val _ _ _ _ _
  have h1 : (((Rect.unit (s := S2056x256) ![o, 0] ![n, 256] inb).emb (ix2 r l)) 1).val = 0 + l.val := ValueKit.rect_emb_unit_val _ _ _ _ _
  rw [h0]
  congr 1
  exact Fin.ext (by rw [h1]; omega)

/-- A chunk of `n` rows loaded from a buffer of 2056 rows. -/
theorem tall_load (g : ℕ → Fin 256 → EReal) (o n : ℕ) (inb : ∀ a, (![o, 0] : Fin 2 → ℕ) a + (![n, 256] : Fin 2 → ℕ) a ≤ S2056x256.size a)
    (r : Fin n) (l : Fin 256) :
    View.ld (Val := Elt Ideal) (e' := .f32) (tall g) (Rect.unit (s := S2056x256) ![o, 0] ![n, 256] inb) (ix2 r l) = g (o + r.val) l :=
  tall_emb g o n inb r l

/-- The product under eight zero rows, at a row that holds one. -/
theorem padG_eq (p q : Vec Ideal S2048x256 .bf16) (n : ℕ) (hn : n < 2048) (k : ℕ) (hk : k = n + 8) (l : Fin 256) :
    padG p q k l = p (ix2 ⟨n, hn⟩ l) * q (ix2 ⟨n, hn⟩ l) := by
  subst hk
  unfold padG
  rw [dif_pos ⟨by omega, by omega⟩]
  rfl

/-- The eight rows of zeros above it. -/
theorem padG_zero (p q : Vec Ideal S2048x256 .bf16) (k : ℕ) (hk : k < 8) (l : Fin 256) : padG p q k l = 0 :=
  dif_neg (by omega)

/-- The product over eight zero rows, at a row that holds one. -/
theorem backG_eq (p q : Vec Ideal S2048x256 .bf16) (n : ℕ) (hn : n < 2048) (l : Fin 256) :
    backG p q n l = p (ix2 ⟨n, hn⟩ l) * q (ix2 ⟨n, hn⟩ l) := dif_pos hn

/-- The eight rows of zeros below it. -/
theorem backG_zero (p q : Vec Ideal S2048x256 .bf16) (k : ℕ) (hk : 2048 ≤ k) (l : Fin 256) : backG p q k l = 0 :=
  dif_neg (by omega)

variable (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S3x256 .f32) (harg5 : arg5.IsWhole) (arg6 : Memref sig .tc .vmem S3x2048x256 .bf16) (harg6 : arg6.IsWhole) (arg7 : Memref sig .tc .vmem S3x256 .f32) (harg7 : arg7.IsWhole) (arg8 : Memref sig .tc .vmem S2056x256 .f32) (harg8 : arg8.IsWhole) (arg9 : Memref sig .tc .vmem S2056x256 .f32) (harg9 : arg9.IsWhole)
  (x0 x1 x2 x3 : Vec Ideal S2048x256 .bf16) (x4 : Vec Ideal S3x256 .f32)

/-- The first scratch buffer, filled: `c·x` under eight rows of zeros. -/
theorem pad_filled :
    View.canon (kernelRun0_A c i arg1 harg1 arg2 harg2 arg3 harg3 arg4 harg4 arg5 harg5 arg6 harg6 arg7 harg7 arg8 harg8 arg9 harg9 x0 x1 x2 x3 x4).2.2.1
      = tall (padG x1 x2) := by
  funext y
  have hc := View.cover_of_tiledBy (kernelRun0_A c i arg1 harg1 arg2 harg2 arg3 harg3 arg4 harg4 arg5 harg5 arg6 harg6 arg7 harg7 arg8 harg8 arg9 harg9 x0 x1 x2 x3 x4).2.2.1
    S8x256.size (by sl_kernel_rfl) y
  refine (congrArg (fun L => View.canon L y) (List.append_nil _).symm).trans
    (View.canon_append_of_piecesOf (tall (padG x1 x2)) [] _ ?_ y hc)
  unfold kernelRun0_A
  dsimp only
  sl_unfold_words
  simp only [View.readAt_eq_ld, harg2.read_unread, harg3.read_unread]
  refine ⟨?_, ?_, ?_, ?_, ?_, ?_, ?_, ?_, ?_, trivial⟩
  all_goals
    intro x
    idx_vars x
    refine Eq.trans ?_ (tall_emb _ _ _ _ _ _).symm
    unfold_payloads
    pointwise
    first
    | exact (padG_zero _ _ _ (by omega) _).symm
    | exact (padG_eq _ _ _ _ _ (by omega) _).symm

/-- The second scratch buffer, filled: `dy·b` over eight rows of zeros. -/
theorem back_filled :
    View.canon (kernelRun0_A c i arg1 harg1 arg2 harg2 arg3 harg3 arg4 harg4 arg5 harg5 arg6 harg6 arg7 harg7 arg8 harg8 arg9 harg9 x0 x1 x2 x3 x4).2.2.2.1
      = tall (backG x3 x0) := by
  funext y
  have hc := View.cover_of_tiledBy (kernelRun0_A c i arg1 harg1 arg2 harg2 arg3 harg3 arg4 harg4 arg5 harg5 arg6 harg6 arg7 harg7 arg8 harg8 arg9 harg9 x0 x1 x2 x3 x4).2.2.2.1
    S8x256.size (by sl_kernel_rfl) y
  refine (congrArg (fun L => View.canon L y) (List.append_nil _).symm).trans
    (View.canon_append_of_piecesOf (tall (backG x3 x0)) [] _ ?_ y hc)
  unfold kernelRun0_A
  dsimp only
  sl_unfold_words
  simp only [View.readAt_eq_ld, harg1.read_unread, harg4.read_unread]
  refine ⟨?_, ?_, ?_, ?_, ?_, ?_, ?_, ?_, ?_, trivial⟩
  all_goals
    intro x
    idx_vars x
    refine Eq.trans ?_ (tall_emb _ _ _ _ _ _).symm
    unfold_payloads
    pointwise
    first
    | exact (backG_zero _ _ _ (by omega) _).symm
    | exact (backG_eq _ _ _ _ _).symm

end Cert.KernelIdeal.Conv

end
-- ==== Proof.Conv.Planes.lean ====
/- What one block of the kernel writes to its first output, the gradients of the gate and of the two factors under the convolution: row by row a
   short sum of shifted rows of the two scratch buffers. -/
module

public import proofs.«01_k».proof.Proof.Conv.Stage

@[expose] public section

set_option maxRecDepth 16384

noncomputable section

namespace Cert.KernelIdeal.Conv

open Cert.KernelIdeal Cert.KernelIdeal.Gen Idealize.ShloMosaic Idealize.ShloMosaic.TcCoe

/-- The convolution of three taps, row `n`: it reads the rows 6, 7 and 8 places down of a buffer whose first eight rows are zeros. -/
def causal (w : Vec Ideal S3x256 .f32) (g : ℕ → Fin 256 → EReal) (n : ℕ) (l : Fin 256) : EReal :=
  w (ix2 0 l) * g (n + 6) l + w (ix2 1 l) * g (n + 7) l + w (ix2 2 l) * g (n + 8) l

/-- Its transpose, row `n`: it reads the same row and the two below. -/
def anticausal (w : Vec Ideal S3x256 .f32) (g : ℕ → Fin 256 → EReal) (n : ℕ) (l : Fin 256) : EReal :=
  w (ix2 0 l) * g (n + 2) l + w (ix2 1 l) * g (n + 1) l + w (ix2 2 l) * g n l

/-- Three chunks weighted by the three taps and added, as the kernel writes it. -/
def weigh (w : Vec Ideal S3x256 .f32) (a b d : FVec Ideal S256x256 .f32) : FVec Ideal S256x256 .f32 :=
  addf (addf (mulf (broadcastTo S256x256 (extractStridedSlice S1x256 ![0, 0] w slices_S3x256_o0_0_S1x256) broadcasts_S1x256_S256x256) a)
      (mulf (broadcastTo S256x256 (extractStridedSlice S1x256 ![1, 0] w slices_S3x256_o1_0_S1x256) broadcasts_S1x256_S256x256) b))
    (mulf (broadcastTo S256x256 (extractStridedSlice S1x256 ![2, 0] w slices_S3x256_o2_0_S1x256) broadcasts_S1x256_S256x256) d)

theorem weigh_apply (w : Vec Ideal S3x256 .f32) (a b d : FVec Ideal S256x256 .f32) (r l : Fin 256) :
    weigh w a b d (ix2 r l) = w (ix2 0 l) * a (ix2 r l) + w (ix2 1 l) * b (ix2 r l) + w (ix2 2 l) * d (ix2 r l) := by
  pointwise [weigh]

/-- A chunk of the gate's gradient: `dy` times the convolution. -/
def gateChunk (w : Vec Ideal S3x256 .f32) (dy : Vec Ideal S256x256 .bf16) (cur : FVec Ideal S256x256 .f32) (before : FVec Ideal S8x256 .f32) :
    FVec Ideal S1x256x256 .bf16 :=
  shapeCast S1x256x256 (truncf .bf16 (mulf (extf .f32 dy bitsLt_bf16_f32) (weigh w (rowsBack 2#32 cur before) (rowsBack 1#32 cur before) cur)) bitsLt_bf16_f32)
    shapeCasts_S256x256_S1x256x256

/-- A chunk of a factor's gradient: the transposed convolution times the other factor. -/
def factorChunk (w : Vec Ideal S3x256 .f32) (f : Vec Ideal S256x256 .bf16) (cur : FVec Ideal S256x256 .f32) (after : FVec Ideal S8x256 .f32) :
    FVec Ideal S1x256x256 .bf16 :=
  shapeCast S1x256x256 (truncf .bf16 (mulf (weigh w (rowsAhead 254#32 6#32 cur after) (rowsAhead 255#32 7#32 cur after) cur) (extf .f32 f bitsLt_bf16_f32)) bitsLt_bf16_f32)
    shapeCasts_S256x256_S1x256x256

/-- The block of the first output, at a plane, a row and a lane. -/
def planeG (dy b p q : Vec Ideal S2048x256 .bf16) (w : Vec Ideal S3x256 .f32) (k : ℕ) (n : Fin 2048) (l : Fin 256) : EReal :=
  if k = 0 then dy (ix2 n l) * causal w (padG p q) n.val l
  else if k = 1 then anticausal w (backG dy b) n.val l * q (ix2 n l)
  else anticausal w (backG dy b) n.val l * p (ix2 n l)

/-- The block of the first output as an array. -/
def planes (dy b p q : Vec Ideal S2048x256 .bf16) (w : Vec Ideal S3x256 .f32) : Vec Ideal S3x2048x256 .bf16 :=
  fun y => planeG dy b p q w (y 0).val (y 1) (y 2)

theorem planes_emb (dy b p q : Vec Ideal S2048x256 .bf16) (w : Vec Ideal S3x256 .f32) (k o : ℕ) (inb : ∀ a, (![k, o, 0] : Fin 3 → ℕ) a + (![1, 256, 256] : Fin 3 → ℕ) a ≤ S3x2048x256.size a)
    (ho : o + 256 ≤ 2048) (z : Fin 1) (r l : Fin 256) :
    planes dy b p q w ((Rect.unit (s := S3x2048x256) ![k, o, 0] ![1, 256, 256] inb).emb (ix3 z r l)) = planeG dy b p q w k ⟨o + r.val, by omega⟩ l := by
  unfold planes
  have h0 : (((Rect.unit (s := S3x2048x256) ![k, o, 0] ![1, 256, 256] inb).emb (ix3 z r l)) 0).val = k + z.val := ValueKit.rect_emb_unit_val _ _ _ _ _
  have h1 : (((Rect.unit (s := S3x2048x256) ![k, o, 0] ![1, 256, 256] inb).emb (ix3 z r l)) 1).val = o + r.val := ValueKit.rect_emb_unit_val _ _ _ _ _
  have h2 : (((Rect.unit (s := S3x2048x256) ![k, o, 0] ![1, 256, 256] inb).emb (ix3 z r l)) 2).val = 0 + l.val := ValueKit.rect_emb_unit_val _ _ _ _ _
  rw [h0, show k + z.val = k by omega]
  congr 1
  · exact Fin.ext h1
  · exact Fin.ext (by rw [h2]; omega)

/-- A chunk of 256 rows loaded from a block of 2048. -/
theorem block_load (x : Vec Ideal S2048x256 .bf16) (o : ℕ) (inb : ∀ a, (![o, 0] : Fin 2 → ℕ) a + (![256, 256] : Fin 2 → ℕ) a ≤ S2048x256.size a)
    (ho : o + 256 ≤ 2048) (r l : Fin 256) :
    View.ld (Val := Elt Ideal) (e' := .bf16) x (Rect.unit (s := S2048x256) ![o, 0] ![256, 256] inb) (ix2 r l) = x (ix2 ⟨o + r.val, by omega⟩ l) := by
  refine congrArg x (funext fun a => Fin.ext ?_)
  match a with
  | ⟨0, _⟩ => exact ValueKit.rect_emb_unit_val _ _ _ _ _
  | ⟨1, _⟩ => exact (ValueKit.rect_emb_unit_val _ _ _ _ _).trans (by show 0 + l.val = l.val; omega)

/-- The gate's chunk at row `o` of its block. -/
theorem gateChunk_apply (w : Vec Ideal S3x256 .f32) (dy : Vec Ideal S2048x256 .bf16) (g : ℕ → Fin 256 → EReal) (o oc : ℕ) (hoc : oc = o + 8) (ho : o + 256 ≤ 2048)
    (i1) (i2) (i3) (z : Fin 1) (r l : Fin 256) :
    gateChunk w (View.ld (Val := Elt Ideal) (e' := .bf16) dy (Rect.unit (s := S2048x256) ![o, 0] ![256, 256] i1))
      (View.ld (Val := Elt Ideal) (e' := .f32) (tall g) (Rect.unit (s := S2056x256) ![oc, 0] ![256, 256] i2))
      (View.ld (Val := Elt Ideal) (e' := .f32) (tall g) (Rect.unit (s := S2056x256) ![o, 0] ![8, 256] i3)) (ix3 z r l)
      = dy (ix2 ⟨o + r.val, by omega⟩ l) * causal w g (o + r.val) l := by
  subst hoc
  unfold gateChunk
  generalize hd : View.ld (Val := Elt Ideal) (e' := .bf16) dy (Rect.unit (s := S2048x256) ![o, 0] ![256, 256] i1) = d
  generalize hcur : View.ld (Val := Elt Ideal) (e' := .f32) (tall g) (Rect.unit (s := S2056x256) ![o + 8, 0] ![256, 256] i2) = cur
  generalize hbef : View.ld (Val := Elt Ideal) (e' := .f32) (tall g) (Rect.unit (s := S2056x256) ![o, 0] ![8, 256] i3) = bef
  have hc : ∀ r l : Fin 256, cur (ix2 r l) = g (o + 8 + r.val) l := fun r l => by rw [← hcur]; exact tall_load g _ _ _ _ _
  have hb : ∀ (r : Fin 8) (l : Fin 256), bef (ix2 r l) = g (o + r.val) l := fun r l => by rw [← hbef]; exact tall_load g _ _ _ _ _
  pointwise
  rw [weigh_apply, rowsBack_one cur bef g o hc hb, rowsBack_two cur bef g o hc hb, hc, ← hd, block_load dy o i1 ho]
  unfold causal
  rw [show o + 6 + r.val = o + r.val + 6 by omega, show o + 7 + r.val = o + r.val + 7 by omega, show o + 8 + r.val = o + r.val + 8 by omega]

/-- A factor's chunk at row `o` of its block. -/
theorem factorChunk_apply (w : Vec Ideal S3x256 .f32) (f : Vec Ideal S2048x256 .bf16) (g : ℕ → Fin 256 → EReal) (o oa : ℕ) (hoa : oa = o + 256) (ho : o + 256 ≤ 2048)
    (i1) (i2) (i3) (z : Fin 1) (r l : Fin 256) :
    factorChunk w (View.ld (Val := Elt Ideal) (e' := .bf16) f (Rect.unit (s := S2048x256) ![o, 0] ![256, 256] i1))
      (View.ld (Val := Elt Ideal) (e' := .f32) (tall g) (Rect.unit (s := S2056x256) ![o, 0] ![256, 256] i2))
      (View.ld (Val := Elt Ideal) (e' := .f32) (tall g) (Rect.unit (s := S2056x256) ![oa, 0] ![8, 256] i3)) (ix3 z r l)
      = anticausal w g (o + r.val) l * f (ix2 ⟨o + r.val, by omega⟩ l) := by
  subst hoa
  unfold factorChunk
  generalize hd : View.ld (Val := Elt Ideal) (e' := .bf16) f (Rect.unit (s := S2048x256) ![o, 0] ![256, 256] i1) = d
  generalize hcur : View.ld (Val := Elt Ideal) (e' := .f32) (tall g) (Rect.unit (s := S2056x256) ![o, 0] ![256, 256] i2) = cur
  generalize haft : View.ld (Val := Elt Ideal) (e' := .f32) (tall g) (Rect.unit (s := S2056x256) ![o + 256, 0] ![8, 256] i3) = aft
  have hc : ∀ r l : Fin 256, cur (ix2 r l) = g (o + r.val) l := fun r l => by rw [← hcur]; exact tall_load g _ _ _ _ _
  have ha : ∀ (r : Fin 8) (l : Fin 256), aft (ix2 r l) = g (o + 256 + r.val) l := fun r l => by rw [← haft]; exact tall_load g _ _ _ _ _
  pointwise
  rw [weigh_apply, rowsAhead_one cur aft g o hc ha, rowsAhead_two cur aft g o hc ha, hc, ← hd, block_load f o i1 ho]
  unfold anticausal
  rw [show o + 2 + r.val = o + r.val + 2 by omega, show o + 1 + r.val = o + r.val + 1 by omega]

variable (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S3x256 .f32) (harg5 : arg5.IsWhole) (arg6 : Memref sig .tc .vmem S3x2048x256 .bf16) (harg6 : arg6.IsWhole) (arg7 : Memref sig .tc .vmem S3x256 .f32) (harg7 : arg7.IsWhole) (arg8 : Memref sig .tc .vmem S2056x256 .f32) (harg8 : arg8.IsWhole) (arg9 : Memref sig .tc .vmem S2056x256 .f32) (harg9 : arg9.IsWhole)
  (x0 x1 x2 x3 : Vec Ideal S2048x256 .bf16) (x4 : Vec Ideal S3x256 .f32)

/-- What the kernel loads of a scratch buffer after its last store there. -/
theorem loaded {κ : Kind} {sp : Space} (v : View sig κ sp S2056x256 .f32) (L : List (View.Piece (Elt Ideal) S2056x256 .f32)) (g : ℕ → Fin 256 → EReal)
    (hL : View.canon L = tall g) (o n : ℕ) (inb : ∀ a, (![o, 0] : Fin 2 → ℕ) a + (![n, 256] : Fin 2 → ℕ) a ≤ S2056x256.size a) :
    v.readCov L (Rect.unit (s := S2056x256) ![o, 0] ![n, 256] inb).toLoadRect
      = View.ld (Val := Elt Ideal) (e' := .f32) (tall g) (Rect.unit (s := S2056x256) ![o, 0] ![n, 256] inb) := by
  rw [View.readCov_eq_canon', hL]

/-- A chunk of the gate's gradient as the kernel's loads give it. -/
theorem gate_piece {κ : Kind} {sp : Space} (v : View sig κ sp S2056x256 .f32) (L : List (View.Piece (Elt Ideal) S2056x256 .f32))
    (hL : View.canon L = tall (padG x1 x2)) (o : ℕ) (ho : o + 256 ≤ 2048) (i0) (i1) (i2) (i3) (z : Fin 1) (r l : Fin 256) :
    planeG x3 x0 x1 x2 x4 0 ⟨o + r.val, by omega⟩ l
      = gateChunk (View.readAt (Elt Ideal) arg5.view (Rect.unit (s := S3x256) ![0, 0] ![3, 256] i0).toLoadRect (harg5.unread x4))
        (View.readAt (Elt Ideal) arg4.view (Rect.unit (s := S2048x256) ![o, 0] ![256, 256] i1).toLoadRect (harg4.unread x3))
        (v.readCov L (Rect.unit (s := S2056x256) ![8 + o, 0] ![256, 256] i2).toLoadRect)
        (v.readCov L (Rect.unit (s := S2056x256) ![o, 0] ![8, 256] i3).toLoadRect) (ix3 z r l) := by
  rw [loaded v L _ hL, loaded v L _ hL]
  simp only [View.readAt_eq_ld, harg4.read_unread, harg5.read_unread]
  rw [View.ld_unit_lit _ _ (by decide), gateChunk_apply _ _ _ o (8 + o) (by omega) ho]
  rfl

/-- A chunk of a factor's gradient as the kernel's loads give it. -/
theorem factor_piece {κ : Kind} {sp : Space} (v : View sig κ sp S2056x256 .f32) (L : List (View.Piece (Elt Ideal) S2056x256 .f32))
    (f : Vec Ideal S2048x256 .bf16) (arg : Memref sig .tc .vmem S2048x256 .bf16) (harg : arg.IsWhole)
    (hL : View.canon L = tall (backG x3 x0)) (o : ℕ) (ho : o + 256 ≤ 2048) (i0) (i1) (i2) (i3) (z : Fin 1) (r l : Fin 256) :
    anticausal x4 (backG x3 x0) (o + r.val) l * f (ix2 ⟨o + r.val, by omega⟩ l)
      = factorChunk (View.readAt (Elt Ideal) arg5.view (Rect.unit (s := S3x256) ![0, 0] ![3, 256] i0).toLoadRect (harg5.unread x4))
        (View.readAt (Elt Ideal) arg.view (Rect.unit (s := S2048x256) ![o, 0] ![256, 256] i1).toLoadRect (harg.unread f))
        (v.readCov L (Rect.unit (s := S2056x256) ![o, 0] ![256, 256] i2).toLoadRect)
        (v.readCov L (Rect.unit (s := S2056x256) ![o + 256, 0] ![8, 256] i3).toLoadRect) (ix3 z r l) := by
  rw [loaded v L _ hL, loaded v L _ hL]
  simp only [View.readAt_eq_ld, harg.read_unread, harg5.read_unread]
  rw [View.ld_unit_lit _ _ (by decide), factorChunk_apply _ _ _ o (o + 256) rfl ho]

set_option maxHeartbeats 2000000 in
/-- The block of the first output, once its twenty-four chunks are stored. -/
theorem planes_stored :
    View.canon (kernelRun0_A c i arg1 harg1 arg2 harg2 arg3 harg3 arg4 harg4 arg5 harg5 arg6 harg6 arg7 harg7 arg8 harg8 arg9 harg9 x0 x1 x2 x3 x4).1
      = planes x3 x0 x1 x2 x4 := by
  funext y
  have hp := pad_filled c i arg1 harg1 arg2 harg2 arg3 harg3 arg4 harg4 arg5 harg5 arg6 harg6 arg7 harg7 arg8 harg8 arg9 harg9 x0 x1 x2 x3 x4
  have hb := back_filled c i arg1 harg1 arg2 harg2 arg3 harg3 arg4 harg4 arg5 harg5 arg6 harg6 arg7 harg7 arg8 harg8 arg9 harg9 x0 x1 x2 x3 x4
  refine (congrArg (fun L => View.canon L y) (List.append_nil _).symm).trans
    (View.canon_append_of_piecesOf (planes x3 x0 x1 x2 x4) [] _ ?_ y (cover0_A_5 c i arg1 harg1 arg2 harg2 arg3 harg3 arg4 harg4 arg5 harg5 arg6 harg6 arg7 harg7 arg8 harg8 arg9 harg9 x0 x1 x2 x3 x4 y))
  unfold kernelRun0_A at hp hb ⊢
  dsimp only at hp hb ⊢
  refine ⟨?_, ?_, ?_, ?_, ?_, ?_, ?_, ?_, ?_, ?_, ?_, ?_, ?_, ?_, ?_, ?_, ?_, ?_, ?_, ?_, ?_, ?_, ?_, ?_, trivial⟩
  all_goals
    intro j
    idx_vars j
    rw [planes_emb _ _ _ _ _ _ _ _ (by decide)]
    symm
  iterate 8
    exact factor_piece arg5 harg5 x0 x3 x4 _ _ x1 arg2 harg2 hb _ (by decide) _ _ _ _ _ _ _
    exact factor_piece arg5 harg5 x0 x3 x4 _ _ x2 arg3 harg3 hb _ (by decide) _ _ _ _ _ _ _
  all_goals exact gate_piece arg4 harg4 arg5 harg5 x0 x1 x2 x3 x4 _ _ hp _ (by decide) _ _ _ _ _ _ _

end Cert.KernelIdeal.Conv

end
-- ==== Proof.Conv.Taps.lean ====
/- What one block of the kernel writes to its second output, the gradient of the three taps: each is a sum over all rows of a product of the two
   scratch buffers, shifted against one another. The kernel takes eight partial sums of 256 rows each. -/
module

public import proofs.«01_k».proof.Proof.Conv.Planes

@[expose] public section

set_option maxRecDepth 16384

noncomputable section

namespace Cert.KernelIdeal.Conv

open Cert.KernelIdeal Cert.KernelIdeal.Gen Idealize.ShloMosaic Idealize.ShloMosaic.TcCoe

/-- The gradient of tap `k` at a lane. -/
def tapG (b p : ℕ → Fin 256 → EReal) (k : ℕ) (l : Fin 256) : EReal := ∑ n : Fin 2048, b n.val l * p (n.val + (6 + k)) l

/-- The block of the second output. -/
def tapsG (dy b p q : Vec Ideal S2048x256 .bf16) : Vec Ideal S3x256 .f32 := fun y => tapG (backG dy b) (padG p q) (y 0).val (y 1)

/-- The sum over the rows of a product of two chunks, as a row. -/
def rowSum (a b : FVec Ideal S256x256 .f32) : FVec Ideal S1x256 .f32 :=
  shapeCast S1x256 (multiReduction .add [0] S256 (mulf a b) 0x00000000#32 reduces_S256x256_S256 (.inl rfl) rfl) shapeCasts_S256_S1x256

theorem rowSum_apply (a b : FVec Ideal S256x256 .f32) (z : Fin 1) (l : Fin 256) :
    rowSum a b (ix2 z l) = ∑ r : Fin 256, a (ix2 r l) * b (ix2 r l) := by
  unfold rowSum
  pointwise

/-- Eight rows added one after the other to a row of zeros. -/
def running (f : ℕ → FVec Ideal S1x256 .f32) : FVec Ideal S1x256 .f32 :=
  addf (addf (addf (addf (addf (addf (addf (addf (broadcast S1x256 (Scalar.ofBits .f32 0x00000000#32)) (f 0)) (f 256)) (f 512)) (f 768)) (f 1024)) (f 1280)) (f 1536)) (f 1792)

/-- Eight partial sums of 256 rows are the sum of 2048 rows. -/
theorem running_apply (f : ℕ → FVec Ideal S1x256 .f32) (g : ℕ → EReal) (l : Fin 256)
    (hf : ∀ o, o + 256 ≤ 2048 → f o (ix2 0 l) = ∑ r : Fin 256, g (o + r.val)) : running f (ix2 0 l) = ∑ n : Fin 2048, g n.val := by
  have h := Fin.sum_univ_univ_mul_add 8 256 g
  simp only [Fin.sum_univ_eight] at h
  unfold running
  pointwise
  rw [hf 0 (by decide), hf 256 (by decide), hf 512 (by decide), hf 768 (by decide), hf 1024 (by decide), hf 1280 (by decide), hf 1536 (by decide), hf 1792 (by decide)]
  refine Eq.trans ?_ h
  simp

variable (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S3x256 .f32) (harg5 : arg5.IsWhole) (arg6 : Memref sig .tc .vmem S3x2048x256 .bf16) (harg6 : arg6.IsWhole) (arg7 : Memref sig .tc .vmem S3x256 .f32) (harg7 : arg7.IsWhole) (arg8 : Memref sig .tc .vmem S2056x256 .f32) (harg8 : arg8.IsWhole) (arg9 : Memref sig .tc .vmem S2056x256 .f32) (harg9 : arg9.IsWhole)
  (x0 x1 x2 x3 : Vec Ideal S2048x256 .bf16) (x4 : Vec Ideal S3x256 .f32)

/-- The three taps' gradients as the kernel adds them, of what it reads of the two buffers at each row. -/
def tapsOf (back cur : ℕ → Vec Ideal S256x256 .f32) (before : ℕ → Vec Ideal S8x256 .f32) : FVec Ideal S3x256 .f32 :=
  concatenate S3x256 0 [⟨S1x256, running fun o => rowSum (back o) (rowsBack 2#32 (cur o) (before o))⟩,
    ⟨S1x256, running fun o => rowSum (back o) (rowsBack 1#32 (cur o) (before o))⟩,
    ⟨S1x256, running fun o => rowSum (back o) (cur o)⟩] concatenates_S1x256_S1x256_S1x256_S3x256_d0

theorem tapsOf_eq (back cur : ℕ → Vec Ideal S256x256 .f32) (before : ℕ → Vec Ideal S8x256 .f32) (b p : ℕ → Fin 256 → EReal)
    (hb : ∀ o, o + 256 ≤ 2048 → ∀ r l : Fin 256, back o (ix2 r l) = b (o + r.val) l)
    (hc : ∀ o, o + 256 ≤ 2048 → ∀ r l : Fin 256, cur o (ix2 r l) = p (o + 8 + r.val) l)
    (hbef : ∀ o, o + 256 ≤ 2048 → ∀ (r : Fin 8) (l : Fin 256), before o (ix2 r l) = p (o + r.val) l) :
    tapsOf back cur before = fun y => tapG b p (y 0).val (y 1) := by
  have h2 : ∀ l, running (fun o => rowSum (back o) (rowsBack 2#32 (cur o) (before o))) (ix2 0 l) = tapG b p 0 l := fun l =>
    running_apply _ (fun n => b n l * p (n + (6 + 0)) l) l fun o ho => by
      rw [rowSum_apply]
      refine Finset.sum_congr rfl fun r _ => ?_
      rw [hb o ho, rowsBack_two _ _ p o (hc o ho) (hbef o ho)]
      congr 2; omega
  have h1 : ∀ l, running (fun o => rowSum (back o) (rowsBack 1#32 (cur o) (before o))) (ix2 0 l) = tapG b p 1 l := fun l =>
    running_apply _ (fun n => b n l * p (n + (6 + 1)) l) l fun o ho => by
      rw [rowSum_apply]
      refine Finset.sum_congr rfl fun r _ => ?_
      rw [hb o ho, rowsBack_one _ _ p o (hc o ho) (hbef o ho)]
      congr 2; omega
  have h0 : ∀ l, running (fun o => rowSum (back o) (cur o)) (ix2 0 l) = tapG b p 2 l := fun l =>
    running_apply _ (fun n => b n l * p (n + (6 + 2)) l) l fun o ho => by
      rw [rowSum_apply]
      refine Finset.sum_congr rfl fun r _ => ?_
      rw [hb o ho, hc o ho]
      congr 2; omega
  funext j
  idx_vars j
  unfold tapsOf
  match j0 with
  | ⟨0, _⟩ => exact Eq.trans (by pointwise) (h2 j1)
  | ⟨1, _⟩ => exact Eq.trans (by pointwise) (h1 j1)
  | ⟨2, _⟩ => exact Eq.trans (by pointwise) (h0 j1)

theorem inb_rows (n : ℕ) (o : ℕ) (h : o + n ≤ 2056) : ∀ a, (![o, 0] : Fin 2 → ℕ) a + (![n, 256] : Fin 2 → ℕ) a ≤ S2056x256.size a := by
  intro a
  match a with
  | ⟨0, _⟩ => exact h
  | ⟨1, _⟩ => exact le_refl 256

/-- A load of `n` rows at row `o` of a buffer the kernel has filled. -/
def rowsAt {κ : Kind} {sp : Space} (v : View sig κ sp S2056x256 .f32) (L : List (View.Piece (Elt Ideal) S2056x256 .f32)) (n o : ℕ) :
    Vec Ideal ⟨2, ![n, 256]⟩ .f32 :=
  if h : o + n ≤ 2056 then v.readCov L (Rect.unit (s := S2056x256) ![o, 0] ![n, 256] (inb_rows n o h)).toLoadRect else fun _ => 0

theorem rowsAt_pos {κ : Kind} {sp : Space} (v : View sig κ sp S2056x256 .f32) (L : List (View.Piece (Elt Ideal) S2056x256 .f32)) (n o : ℕ) (h : o + n ≤ 2056) :
    rowsAt v L n o = v.readCov L (Rect.unit (s := S2056x256) ![o, 0] ![n, 256] (inb_rows n o h)).toLoadRect := dif_pos h

theorem rowsAt_apply {κ : Kind} {sp : Space} (v : View sig κ sp S2056x256 .f32) (L : List (View.Piece (Elt Ideal) S2056x256 .f32))
    (g : ℕ → Fin 256 → EReal) (hL : View.canon L = tall g) (n o : ℕ) (h : o + n ≤ 2056) (r : Fin n) (l : Fin 256) :
    rowsAt v L n o (ix2 r l) = g (o + r.val) l := by
  rw [rowsAt_pos v L n o h, loaded v L g hL]
  exact tall_load g _ _ _ _ _

set_option maxHeartbeats 2000000 in
/-- The block of the second output. -/
theorem taps_stored :
    View.canon (kernelRun0_A c i arg1 harg1 arg2 harg2 arg3 harg3 arg4 harg4 arg5 harg5 arg6 harg6 arg7 harg7 arg8 harg8 arg9 harg9 x0 x1 x2 x3 x4).2.1
      = tapsG x3 x0 x1 x2 := by
  have hp := pad_filled c i arg1 harg1 arg2 harg2 arg3 harg3 arg4 harg4 arg5 harg5 arg6 harg6 arg7 harg7 arg8 harg8 arg9 harg9 x0 x1 x2 x3 x4
  have hb := back_filled c i arg1 harg1 arg2 harg2 arg3 harg3 arg4 harg4 arg5 harg5 arg6 harg6 arg7 harg7 arg8 harg8 arg9 harg9 x0 x1 x2 x3 x4
  unfold kernelRun0_A at hp hb ⊢
  dsimp only at hp hb ⊢
  refine (View.canon_cons_unit_lit _ _ _ (by decide)).trans ?_
  refine Eq.trans ?_ (tapsOf_eq (rowsAt _ _ 256) (fun o => rowsAt _ _ 256 (8 + o)) (rowsAt _ _ 8) (backG x3 x0) (padG x1 x2)
    (fun o ho r l => rowsAt_apply arg9.view _ _ hb 256 o (by omega) r l)
    (fun o ho r l => (rowsAt_apply arg8.view _ _ hp 256 (8 + o) (by omega) r l).trans (by rw [Nat.add_comm 8 o]))
    (fun o ho r l => rowsAt_apply arg8.view _ _ hp 8 o (by omega) r l))
  simp (discharger := decide) only [tapsOf, running, rowsAt_pos]
  rfl

end Cert.KernelIdeal.Conv

end
-- ==== Proof.Conv.Closed.lean ====
/- The two results of the gradient of the gated short convolution in closed form, as functions of the three arguments: what both programs are
   shown to compute. Column `j` of the projection's three sections holds the gate, and the two factors whose product is convolved. -/
module

public import proofs.«01_k».proof.Proof.Conv.Taps

@[expose] public section

set_option maxRecDepth 16384

noncomputable section

namespace Cert.KernelIdeal.Conv

open Cert.KernelIdeal Cert.KernelIdeal.Gen Idealize.ShloMosaic Idealize.ShloMosaic.TcCoe

variable (A0 : Vec Ideal S2048x7168 .bf16) (A1 : Vec Ideal S2048x1024 .bf16) (A2 : Vec Ideal S3x1024 .f32)

/-- Entry `j` of section `s` of the projection at row `n`. -/
def sect (s : Fin 3) (n : Fin 2048) (j : Fin 1024) : EReal := A0 (ix2 n ⟨1024 * s.val + j.val, by omega⟩)

/-- The product under the convolution, eight rows of zeros above it. -/
def prodPad (n : ℕ) (j : Fin 1024) : EReal :=
  if h : 8 ≤ n ∧ n < 2056 then sect A0 1 ⟨n - 8, by omega⟩ j * sect A0 2 ⟨n - 8, by omega⟩ j else 0

/-- The cotangent of the convolution, zeros below it. -/
def cotBack (n : ℕ) (j : Fin 1024) : EReal :=
  if h : n < 2048 then A1 (ix2 ⟨n, h⟩ j) * sect A0 0 ⟨n, h⟩ j else 0

/-- The gradients of the gate and of the two factors. -/
def grads (k : ℕ) (n : Fin 2048) (j : Fin 1024) : EReal :=
  if k = 0 then
    A1 (ix2 n j) * (A2 (ix2 0 j) * prodPad A0 (n.val + 6) j + A2 (ix2 1 j) * prodPad A0 (n.val + 7) j + A2 (ix2 2 j) * prodPad A0 (n.val + 8) j)
  else
    (A2 (ix2 0 j) * cotBack A0 A1 (n.val + 2) j + A2 (ix2 1 j) * cotBack A0 A1 (n.val + 1) j + A2 (ix2 2 j) * cotBack A0 A1 n.val j)
      * (if k = 1 then sect A0 2 n j else sect A0 1 n j)

/-- The gradient of the taps. -/
def tapGrad (k : ℕ) (j : Fin 1024) : EReal := ∑ n : Fin 2048, cotBack A0 A1 n.val j * prodPad A0 (n.val + (6 + k)) j

/-- The first result. -/
def gradsArr : Vec Ideal S3x2048x1024 .bf16 := fun y => grads A0 A1 A2 (y 0).val (y 1) (y 2)

/-- The second result. -/
def tapArr : Vec Ideal S3x1024 .f32 := fun y => tapGrad A0 A1 (y 0).val (y 1)

/-- The first result at an index whose coordinates are known. -/
theorem gradsArr_at (y : S3x2048x1024.Idx) (k : ℕ) (n : Fin 2048) (j : Fin 1024) (hk : (y 0).val = k) (hn : (y 1).val = n.val) (hj : (y 2).val = j.val) :
    gradsArr A0 A1 A2 y = grads A0 A1 A2 k n j := by
  unfold gradsArr
  rw [hk, show y 1 = n from Fin.ext hn, show y 2 = j from Fin.ext hj]

/-- The second result at an index whose coordinates are known. -/
theorem tapArr_at (y : S3x1024.Idx) (k : ℕ) (j : Fin 1024) (hk : (y 0).val = k) (hj : (y 1).val = j.val) : tapArr A0 A1 y = tapGrad A0 A1 k j := by
  unfold tapArr
  rw [hk, show y 1 = j from Fin.ext hj]

/-- The blocks of 256 columns hold the closed form's values: the first result. -/
theorem planeG_eq (x0 x1 x2 x3 : Vec Ideal S2048x256 .bf16) (x4 : Vec Ideal S3x256 .f32) (t : ℕ) (ht : t < 4)
    (h0 : ∀ n l, x0 (ix2 n l) = sect A0 0 n ⟨256 * t + l.val, by omega⟩) (h1 : ∀ n l, x1 (ix2 n l) = sect A0 1 n ⟨256 * t + l.val, by omega⟩)
    (h2 : ∀ n l, x2 (ix2 n l) = sect A0 2 n ⟨256 * t + l.val, by omega⟩) (h3 : ∀ n l, x3 (ix2 n l) = A1 (ix2 n ⟨256 * t + l.val, by omega⟩))
    (h4 : ∀ k l, x4 (ix2 k l) = A2 (ix2 k ⟨256 * t + l.val, by omega⟩)) (k : ℕ) (n : Fin 2048) (l : Fin 256) :
    planeG x3 x0 x1 x2 x4 k n l = grads A0 A1 A2 k n ⟨256 * t + l.val, by omega⟩ := by
  have hp : ∀ n l, padG x1 x2 n l = prodPad A0 n ⟨256 * t + l.val, by omega⟩ := fun n l => by simp only [padG, prodPad, h1, h2]
  have hb : ∀ n l, backG x3 x0 n l = cotBack A0 A1 n ⟨256 * t + l.val, by omega⟩ := fun n l => by simp only [backG, cotBack, h3, h0]
  unfold planeG grads causal anticausal
  simp only [hp, hb, h1, h2, h3, h4]
  split
  · rfl
  · split <;> rfl

/-- … and the second. -/
theorem tapG_eq (x0 x1 x2 x3 : Vec Ideal S2048x256 .bf16) (t : ℕ) (ht : t < 4)
    (h0 : ∀ n l, x0 (ix2 n l) = sect A0 0 n ⟨256 * t + l.val, by omega⟩) (h1 : ∀ n l, x1 (ix2 n l) = sect A0 1 n ⟨256 * t + l.val, by omega⟩)
    (h2 : ∀ n l, x2 (ix2 n l) = sect A0 2 n ⟨256 * t + l.val, by omega⟩) (h3 : ∀ n l, x3 (ix2 n l) = A1 (ix2 n ⟨256 * t + l.val, by omega⟩))
    (k : ℕ) (l : Fin 256) :
    tapG (backG x3 x0) (padG x1 x2) k l = tapGrad A0 A1 k ⟨256 * t + l.val, by omega⟩ := by
  have hp : ∀ n l, padG x1 x2 n l = prodPad A0 n ⟨256 * t + l.val, by omega⟩ := fun n l => by simp only [padG, prodPad, h1, h2]
  have hb : ∀ n l, backG x3 x0 n l = cotBack A0 A1 n ⟨256 * t + l.val, by omega⟩ := fun n l => by simp only [backG, cotBack, h3, h0]
  unfold tapG tapGrad
  simp only [hp, hb]

end Cert.KernelIdeal.Conv

end
-- ==== Proof.Conv.Arrays.lean ====
/- The kernel's two result arrays after the run: the closed form at the arguments. -/
module

public import proofs.«01_k».proof.Proof.Conv.Closed
public import proofs.«01_k».proof.Proof.Gen.KernelIdeal.Value

@[expose] public section

set_option maxRecDepth 16384

noncomputable section

namespace Cert.KernelIdeal.Conv

open Cert.KernelIdeal Cert.KernelIdeal.Gen Idealize.ShloMosaic Idealize.ShloMosaic.TcCoe Idealize.SL.Sem

variable (m : (ℓ : Loc nD τ sig) → Buf (Elt Ideal) ℓ) (c : Dev nD)

/-- Which block of each array a grid point reads or writes. -/
theorem idx_sections : ∀ t : Fin cfg0.N, win0_0.index t 0 = 0 ∧ win0_0.index t 1 = t.val ∧ win0_1.index t 0 = 0 ∧ win0_1.index t 1 = 4 + t.val
    ∧ win0_2.index t 0 = 0 ∧ win0_2.index t 1 = 8 + t.val ∧ win0_3.index t 0 = 0 ∧ win0_3.index t 1 = t.val ∧ win0_4.index t 0 = 0 ∧ win0_4.index t 1 = t.val
    ∧ win0_5.index t 0 = 0 ∧ win0_5.index t 1 = 0 ∧ win0_5.index t 2 = t.val ∧ win0_6.index t 0 = 0 ∧ win0_6.index t 1 = t.val :=
  (by decide +kernel : ∀ t : Fin grid0.N, _)

theorem lt_four (t : Fin cfg0.N) : t.val < 4 := t.isLt

/-- The gate's block. -/
theorem block0 (t : Fin cfg0.N) (n : Fin 2048) (l : Fin 256) :
    (iblk m c 0 t : Vec Ideal S2048x256 .bf16) (ix2 n l) = sect (m ((c : Thread nD τ).loc main_arg0)) 0 n ⟨256 * t.val + l.val, by have := lt_four t; omega⟩ := by
  obtain ⟨z0, h0, z1, h1, z2, h2, z3, h3, z4, h4, z5, o5, h5, z6, h6⟩ := idx_sections t
  blk_simp [iblk, V, sect, h0, z0]
  blk_ext
  all_goals (simp only [h0, z0]; omega)

/-- The first factor's block. -/
theorem block1 (t : Fin cfg0.N) (n : Fin 2048) (l : Fin 256) :
    (iblk m c 1 t : Vec Ideal S2048x256 .bf16) (ix2 n l) = sect (m ((c : Thread nD τ).loc main_arg0)) 1 n ⟨256 * t.val + l.val, by have := lt_four t; omega⟩ := by
  obtain ⟨z0, h0, z1, h1, z2, h2, z3, h3, z4, h4, z5, o5, h5, z6, h6⟩ := idx_sections t
  blk_simp [iblk, V, sect, h1, z1]
  blk_ext
  all_goals (simp only [h1, z1]; omega)

/-- The second factor's block. -/
theorem block2 (t : Fin cfg0.N) (n : Fin 2048) (l : Fin 256) :
    (iblk m c 2 t : Vec Ideal S2048x256 .bf16) (ix2 n l) = sect (m ((c : Thread nD τ).loc main_arg0)) 2 n ⟨256 * t.val + l.val, by have := lt_four t; omega⟩ := by
  obtain ⟨z0, h0, z1, h1, z2, h2, z3, h3, z4, h4, z5, o5, h5, z6, h6⟩ := idx_sections t
  blk_simp [iblk, V, sect, h2, z2]
  blk_ext
  all_goals (simp only [h2, z2]; omega)

/-- The cotangent's block. -/
theorem block3 (t : Fin cfg0.N) (n : Fin 2048) (l : Fin 256) :
    (iblk m c 3 t : Vec Ideal S2048x256 .bf16) (ix2 n l)
      = (m ((c : Thread nD τ).loc main_arg1) : Vec Ideal S2048x1024 .bf16) (ix2 n ⟨256 * t.val + l.val, by have := lt_four t; omega⟩) := by
  obtain ⟨z0, h0, z1, h1, z2, h2, z3, h3, z4, h4, z5, o5, h5, z6, h6⟩ := idx_sections t
  blk_simp [iblk, V, h3, z3]
  blk_ext
  all_goals (simp only [h3, z3]; omega)

/-- The taps' block. -/
theorem block4 (t : Fin cfg0.N) (n : Fin 3) (l : Fin 256) :
    (iblk m c 4 t : Vec Ideal S3x256 .f32) (ix2 n l)
      = (m ((c : Thread nD τ).loc main_arg2) : Vec Ideal S3x1024 .f32) (ix2 n ⟨256 * t.val + l.val, by have := lt_four t; omega⟩) := by
  obtain ⟨z0, h0, z1, h1, z2, h2, z3, h3, z4, h4, z5, o5, h5, z6, h6⟩ := idx_sections t
  blk_simp [iblk, V, h4, z4]
  blk_ext
  all_goals (simp only [h4, z4]; omega)

/-- The first result array. -/
theorem first_result : (dats m 0 c).arrAt 5 cfg0.N
    = gradsArr (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨z0, h0, z1, h1, z2, h2, z3, h3, z4, h4, z5, o5, h5, z6, h6⟩ := idx_sections t
  have e := planeG_eq (m ((c : Thread nD τ).loc main_arg0)) (m ((c : Thread nD τ).loc main_arg1)) (m ((c : Thread nD τ).loc main_arg2))
    (iblk m c 0 t) (iblk m c 1 t) (iblk m c 2 t) (iblk m c 3 t) (iblk m c 4 t) t.val (lt_four t)
    (block0 m c t) (block1 m c t) (block2 m c t) (block3 m c t) (block4 m c t)
  blk_simp
  rw [after0_5]
  simp only [outsAt0, out0_A_5]
  rw [View.read_writes_eq_canon _ _ _ (cover0_A_5 c _ _ _ _ _ _ _ _ _ _ _ _ _ _ _ _ _ _ _ _ _ _ _ _), planes_stored]
  idx_vars y
  refine (e y0.val y1 y2).trans (gradsArr_at _ _ _ _ _ _ _ ?_ ?_ ?_).symm
  all_goals (blk_simp [z5, o5, h5]; try first | omega | (dsimp only; omega))

/-- The second. -/
theorem second_result : (dats m 0 c).arrAt 6 cfg0.N
    = tapArr (m ((c : Thread nD τ).loc main_arg0)) (m ((c : Thread nD τ).loc main_arg1)) := by
  refine (dats m 0 c).arrAt_eq_of_covers 6 _ (by decide +kernel) fun t hf y => ?_
  obtain ⟨z0, h0, z1, h1, z2, h2, z3, h3, z4, h4, z5, o5, h5, z6, h6⟩ := idx_sections t
  have e := tapG_eq (m ((c : Thread nD τ).loc main_arg0)) (m ((c : Thread nD τ).loc main_arg1))
    (iblk m c 0 t) (iblk m c 1 t) (iblk m c 2 t) (iblk m c 3 t) t.val (lt_four t)
    (block0 m c t) (block1 m c t) (block2 m c t) (block3 m c t)
  blk_simp
  rw [after0_6]
  simp only [outsAt0, out0_A_6]
  rw [View.read_writes_eq_canon _ _ _ (cover0_A_6 c _ _ _ _ _ _ _ _ _ _ _ _ _ _ _ _ _ _ _ _ _ _ _ _), taps_stored]
  idx_vars y
  refine (e y0.val y1).trans (tapArr_at _ _ _ _ _ ?_ ?_).symm
  all_goals (blk_simp [z6, h6]; try first | omega | (dsimp only; omega))

end Cert.KernelIdeal.Conv

end
-- ==== Proof.Conv.Plain.lean ====
/- The reference's two results: the same closed form. -/
module

public import proofs.«01_k».proof.Proof.Conv.Closed
public import proofs.«01_k».proof.Proof.Gen.ReferenceIdeal.Run
public import Idealize.ShloMosaic.Lib.Tactic.CleanTypes

@[expose] public section

set_option maxRecDepth 16384

noncomputable section

namespace Cert.ReferenceIdeal.Conv

open Cert.ReferenceIdeal Cert.ReferenceIdeal.Gen Cert.ReferenceIdeal.Value Idealize.ShloMosaic Idealize.ShloMosaic.TcCoe
open Cert.KernelIdeal.Conv (gradsArr tapArr grads tapGrad sect prodPad cotBack)

variable (m : (ℓ : Loc nD τ sig) → Buf (Elt Ideal) ℓ) (c : Dev nD)

/-- A sum over two axes of extent one, at an index. -/
theorem unit_sum (v : S1x1x1024.Idx → EReal) (init : EReal) (j : Fin 1024) :
    Ideal.hostReduceAdd reducesTo_S1x1x1024_S1024_d0_1 v init (ix1 j) = init + v (ix3 0 0 j) := by
  have hd : ∀ i : S1x1x1024.Idx, ((reducesTo_S1x1x1024_S1024_d0_1.drop i) 0).val = (i 2).val := fun i => rfl
  have hf : (Finset.univ.filter fun i : S1x1x1024.Idx => reducesTo_S1x1x1024_S1024_d0_1.drop i = ix1 j) = {ix3 0 0 j} := by
    ext i
    simp only [Finset.mem_filter, Finset.mem_univ, true_and, Finset.mem_singleton]
    constructor
    · intro e
      idx_vars i
      have h2 := (hd _).symm.trans (congrArg Fin.val (congrFun e 0))
      funext a
      match a with
      | ⟨0, _⟩ => exact Subsingleton.elim (α := Fin 1) _ _
      | ⟨1, _⟩ => exact Subsingleton.elim (α := Fin 1) _ _
      | ⟨2, _⟩ => exact Fin.ext h2
    · rintro rfl
      funext a
      match a with
      | ⟨0, _⟩ => exact Fin.ext (hd _)
  show init + ∑ i ∈ _, _ = _
  rw [hf, Finset.sum_singleton]

variable (A0 : Vec Ideal S2048x7168 .bf16) (A1 : Vec Ideal S2048x1024 .bf16)

/-- An entry of the projection by its section. -/
theorem sect_at (s : Fin 3) (n n' : Fin 2048) (q : Fin 7168) (j : Fin 1024) (hn : n.val = n'.val) (hq : q.val = 1024 * s.val + j.val) :
    A0 (ix2 n q) = sect A0 s n' j := by
  obtain rfl := Fin.ext hn
  unfold sect
  congr 2
  exact Fin.ext hq

/-- The padded product at a row that holds one. -/
theorem prodPad_at (n n' : Fin 2048) (q q' : Fin 7168) (j : Fin 1024) (k : ℕ) (hk : k = n'.val + 8) (hn : n.val = n'.val) (hq : q.val = 1024 + j.val) (hq' : q'.val = 2048 + j.val) :
    A0 (ix2 n q) * A0 (ix2 n q') = prodPad A0 k j := by
  subst hk
  rw [prodPad, dif_pos ⟨by omega, by omega⟩, sect_at A0 1 n n' q j hn hq, sect_at A0 2 n n' q' j hn hq']
  rfl

/-- The padded product at its zero rows. -/
theorem prodPad_low (k : ℕ) (hk : k < 8) (j : Fin 1024) : prodPad A0 k j = 0 := dif_neg (by omega)

/-- The cotangent of the convolution at a row. -/
theorem cotBack_at (n n' : Fin 2048) (q : Fin 7168) (j : Fin 1024) (k : ℕ) (hk : n'.val = k) (hn : n.val = n'.val) (hq : q.val = j.val) (w : EReal) :
    A0 (ix2 n q) * A1 (ix2 n j) * w = w * cotBack A0 A1 k j := by
  subst hk
  obtain rfl := Fin.ext hn
  rw [cotBack, dif_pos n.isLt, sect_at A0 0 n n q j rfl (by rw [hq]; simp), mul_comm (sect A0 0 n j), mul_comm]

/-- Below its last row there are zeros. -/
theorem cotBack_high (k : ℕ) (hk : 2048 ≤ k) (j : Fin 1024) : cotBack A0 A1 k j = 0 := dif_neg (by omega)

/-- One term of a tap's gradient. -/
theorem tap_term (p : EReal) (n : Fin 2048) (q : Fin 7168) (j : Fin 1024) (k : ℕ) (hq : q.val = j.val) (hp : p = prodPad A0 k j) :
    p * (A0 (ix2 n q) * A1 (ix2 n j)) = cotBack A0 A1 n.val j * prodPad A0 k j := by
  have h := cotBack_at A0 A1 n n q j n.val rfl rfl hq 1
  rw [mul_one, one_mul] at h
  rw [hp, h, mul_comm]

variable (A2 : Vec Ideal S3x1024 .f32)

/-- The gate's gradient. -/
theorem grads_zero (n : Fin 2048) (j : Fin 1024) : grads A0 A1 A2 0 n j
    = A1 (ix2 n j) * (A2 (ix2 0 j) * prodPad A0 (n.val + 6) j + A2 (ix2 1 j) * prodPad A0 (n.val + 7) j + A2 (ix2 2 j) * prodPad A0 (n.val + 8) j) := if_pos rfl

/-- The first factor's gradient. -/
theorem grads_one (n : Fin 2048) (j : Fin 1024) : grads A0 A1 A2 1 n j
    = (A2 (ix2 0 j) * cotBack A0 A1 (n.val + 2) j + A2 (ix2 1 j) * cotBack A0 A1 (n.val + 1) j + A2 (ix2 2 j) * cotBack A0 A1 n.val j) * sect A0 2 n j := by
  rw [grads, if_neg (by decide), if_pos rfl]

/-- The second factor's gradient. -/
theorem grads_two (n : Fin 2048) (j : Fin 1024) : grads A0 A1 A2 2 n j
    = (A2 (ix2 0 j) * cotBack A0 A1 (n.val + 2) j + A2 (ix2 1 j) * cotBack A0 A1 (n.val + 1) j + A2 (ix2 2 j) * cotBack A0 A1 n.val j) * sect A0 1 n j := by
  rw [grads, if_neg (by decide), if_neg (by decide)]

/-- The padded product as the reference's concatenation reads it. -/
theorem prodPad_dite (b : ℕ) (P : Prop) [Decidable P] (n : ¬P → Fin 2048) (q q' : Fin 7168) (j : Fin 1024) (hP : P → b + 6 < 8)
    (hk : ∀ h, b + 6 = (n h).val + 8) (hq : q.val = 1024 + j.val) (hq' : q'.val = 2048 + j.val) (w : EReal) :
    (if h : P then 0 else A0 (ix2 (n h) q) * A0 (ix2 (n h) q')) * w = w * prodPad A0 (b + 6) j := by
  rw [mul_comm]
  congr 1
  split
  · next h => exact (prodPad_low A0 _ (hP h) _).symm
  · next h => exact prodPad_at A0 _ (n h) _ _ _ _ (hk h) rfl hq hq'

set_option maxHeartbeats 2000000 in
/-- The second result. -/
theorem second_plain : (res_out1 m c : Vec Ideal S3x1024 .f32) = tapArr (m ((c : Thread nD τ).loc main_arg0)) (m ((c : Thread nD τ).loc main_arg1)) := by
  unfold res_out1 res_main_v62
  generalize m ((c : Thread nD τ).loc main_arg0) = A0
  change Vec Ideal S2048x7168 .bf16 at A0
  generalize m ((c : Thread nD τ).loc main_arg1) = A1
  change Vec Ideal S2048x1024 .bf16 at A1
  clean_types
  funext j
  idx_vars j
  pointwise [unit_sum]
  show _ = tapGrad A0 A1 j0.val j1
  match j0 with
  | ⟨0, _⟩ =>
    rw [dif_neg (by dsimp only; omega), dif_neg (by dsimp only; omega), dif_pos (by dsimp only; omega), zero_add, zero_add]
    refine Eq.trans (congrArg₂ (· + ·) (Finset.sum_congr rfl fun x _ => ?_) (Finset.sum_congr rfl fun x _ => ?_)) (Fin.sum_univ_add (a := 2) (b := 2046) fun n =>
      cotBack A0 A1 n.val j1 * prodPad A0 (n.val + (6 + 0)) j1).symm
    · exact tap_term A0 A1 _ _ _ _ (x.val + 6) rfl (prodPad_low A0 _ (by omega) _).symm
    · exact (tap_term A0 A1 _ _ _ _ (2 + x.val + 6) rfl (prodPad_at A0 _ ⟨x.val, by omega⟩ _ _ _ _ (by dsimp only; omega) rfl rfl rfl))
  | ⟨1, _⟩ =>
    rw [dif_neg (by dsimp only; omega), dif_pos (by dsimp only; omega), dif_neg (by dsimp only; omega), zero_add, add_zero]
    refine Finset.sum_congr rfl fun x _ => ?_
    refine tap_term A0 A1 _ _ _ _ (x.val + 7) rfl ?_
    split
    · exact (prodPad_low A0 _ (by omega) _).symm
    · exact prodPad_at A0 _ ⟨1 + x.val - 2, by omega⟩ _ _ _ _ (by dsimp only; omega) rfl rfl rfl
  | ⟨2, _⟩ =>
    rw [dif_pos (by dsimp only; omega), dif_neg (by dsimp only; omega), dif_neg (by dsimp only; omega), add_zero, add_zero]
    refine Finset.sum_congr rfl fun x _ => ?_
    exact tap_term A0 A1 _ _ _ _ (x.val + 8) rfl (prodPad_at A0 _ x _ _ _ _ rfl rfl rfl rfl)

/-- The transposed convolution's term one row down, as the reference's padding gives it. -/
theorem cotBack_dite (k : ℕ) (P : Prop) [Decidable P] (n : P → Fin 2048) (q : Fin 7168) (j : Fin 1024) (hP : ¬P → 2048 ≤ k)
    (hk : ∀ h, (n h).val = k) (hq : q.val = j.val) (w : EReal) :
    (if h : P then A0 (ix2 (n h) q) * A1 (ix2 (n h) j) * w else 0) = w * cotBack A0 A1 k j := by
  split
  · next h => exact cotBack_at A0 A1 _ (n h) _ _ _ (hk h) rfl hq w
  · next h => rw [cotBack_high A0 A1 _ (hP h), mul_zero]

/-- The transposed convolution in the reference's order of terms. -/
theorem anti_sum (n : Fin 2048) (j : Fin 1024) :
    (A0 (ix2 n ⟨j.val, by omega⟩) * A1 (ix2 n j) * A2 (ix2 2 j)
      + (if h : 1 ≤ 2 + n.val ∧ 2 + n.val - 1 < 2048 then A0 (ix2 ⟨2 + n.val - 1, by omega⟩ ⟨j.val, by omega⟩) * A1 (ix2 ⟨2 + n.val - 1, by omega⟩ j) * A2 (ix2 1 j) else 0))
      + (if h : 2 + n.val < 2048 then A0 (ix2 ⟨2 + n.val, by omega⟩ ⟨j.val, by omega⟩) * A1 (ix2 ⟨2 + n.val, by omega⟩ j) * A2 (ix2 0 j) else 0)
      = A2 (ix2 0 j) * cotBack A0 A1 (n.val + 2) j + A2 (ix2 1 j) * cotBack A0 A1 (n.val + 1) j + A2 (ix2 2 j) * cotBack A0 A1 n.val j := by
  rw [cotBack_dite A0 A1 (n.val + 1) _ (fun h => ⟨2 + n.val - 1, by omega⟩) _ j (by omega) (by intro h; dsimp only; omega) rfl,
    cotBack_dite A0 A1 (n.val + 2) _ (fun h => ⟨2 + n.val, by omega⟩) _ j (by omega) (by intro h; dsimp only; omega) rfl,
    cotBack_at A0 A1 n n _ j n.val rfl rfl rfl, add_comm (_ + _), add_comm (A2 (ix2 2 j) * _), add_assoc]

/-- The first result, plane 0. -/
theorem plane_zero (n : Fin 2048) (j : Fin 1024) : (res_out0 m c : Vec Ideal S3x2048x1024 .bf16) (ix3 0 n j)
    = grads (m ((c : Thread nD τ).loc main_arg0)) (m ((c : Thread nD τ).loc main_arg1)) (m ((c : Thread nD τ).loc main_arg2)) 0 n j := by
  unfold res_out0 res_main_v70
  generalize m ((c : Thread nD τ).loc main_arg0) = A0
  change Vec Ideal S2048x7168 .bf16 at A0
  generalize m ((c : Thread nD τ).loc main_arg1) = A1
  change Vec Ideal S2048x1024 .bf16 at A1
  generalize m ((c : Thread nD τ).loc main_arg2) = A2
  change Vec Ideal S3x1024 .f32 at A2
  clean_types
  pointwise
  refine (congrArg (A1 (ix2 n j) * ·) (congrArg₂ (· + ·) (congrArg₂ (· + ·)
    (prodPad_dite A0 n.val (n.val < 2) (fun h => ⟨n.val - 2, by omega⟩) ⟨1024 + j.val, by omega⟩ ⟨2048 + j.val, by omega⟩ j (by omega) (by intro h; dsimp only; omega) rfl rfl _)
    (prodPad_dite A0 (1 + n.val) (1 + n.val < 2) (fun h => ⟨1 + n.val - 2, by omega⟩) ⟨1024 + j.val, by omega⟩ ⟨2048 + j.val, by omega⟩ j (by omega) (by intro h; dsimp only; omega) rfl rfl _))
    ((congrArg (· * A2 (ix2 2 j)) (prodPad_at A0 n n ⟨1024 + j.val, by omega⟩ ⟨2048 + j.val, by omega⟩ j (n.val + 8) rfl rfl rfl rfl)).trans (mul_comm _ _)))).trans ?_
  rw [show 1 + n.val + 6 = n.val + 7 by omega]
  exact (grads_zero A0 A1 A2 n j).symm

/-- The first result, plane 1. -/
theorem plane_one (n : Fin 2048) (j : Fin 1024) : (res_out0 m c : Vec Ideal S3x2048x1024 .bf16) (ix3 1 n j)
    = grads (m ((c : Thread nD τ).loc main_arg0)) (m ((c : Thread nD τ).loc main_arg1)) (m ((c : Thread nD τ).loc main_arg2)) 1 n j := by
  unfold res_out0 res_main_v70
  generalize m ((c : Thread nD τ).loc main_arg0) = A0
  change Vec Ideal S2048x7168 .bf16 at A0
  generalize m ((c : Thread nD τ).loc main_arg1) = A1
  change Vec Ideal S2048x1024 .bf16 at A1
  generalize m ((c : Thread nD τ).loc main_arg2) = A2
  change Vec Ideal S3x1024 .f32 at A2
  clean_types
  pointwise
  exact (congrArg₂ (· * ·) (anti_sum A0 A1 A2 n j) (sect_at A0 2 n n _ j rfl rfl)).trans (grads_one A0 A1 A2 n j).symm

/-- The first result, plane 2. -/
theorem plane_two (n : Fin 2048) (j : Fin 1024) : (res_out0 m c : Vec Ideal S3x2048x1024 .bf16) (ix3 2 n j)
    = grads (m ((c : Thread nD τ).loc main_arg0)) (m ((c : Thread nD τ).loc main_arg1)) (m ((c : Thread nD τ).loc main_arg2)) 2 n j := by
  unfold res_out0 res_main_v70
  generalize m ((c : Thread nD τ).loc main_arg0) = A0
  change Vec Ideal S2048x7168 .bf16 at A0
  generalize m ((c : Thread nD τ).loc main_arg1) = A1
  change Vec Ideal S2048x1024 .bf16 at A1
  generalize m ((c : Thread nD τ).loc main_arg2) = A2
  change Vec Ideal S3x1024 .f32 at A2
  clean_types
  pointwise
  exact ((mul_comm _ _).trans (congrArg₂ (· * ·) (anti_sum A0 A1 A2 n j) (sect_at A0 1 n n _ j rfl rfl))).trans (grads_two A0 A1 A2 n j).symm

/-- The first result. -/
theorem first_plain : (res_out0 m c : Vec Ideal S3x2048x1024 .bf16) = gradsArr (m ((c : Thread nD τ).loc main_arg0)) (m ((c : Thread nD τ).loc main_arg1)) (m ((c : Thread nD τ).loc main_arg2)) := by
  funext y
  idx_vars y
  match y0 with
  | ⟨0, _⟩ => exact plane_zero m c y1 y2
  | ⟨1, _⟩ => exact plane_one m c y1 y2
  | ⟨2, _⟩ => exact plane_two m c y1 y2

end Cert.ReferenceIdeal.Conv

end
-- ==== Proof.Conv.Claim.lean ====
/- The claims about the gradient of the gated short convolution: the reference's frame, and that both programs compute the same two arrays. -/
module

public import proofs.«01_k».proof.Defs
public import proofs.«01_k».proof.Proof.Conv.Arrays
public import proofs.«01_k».proof.Proof.Conv.Plain
public import Idealize.ShloMosaic.Lib.Quiescent

@[expose] public section

noncomputable section

namespace Cert.Proof.Conv

open Idealize.ShloMosaic Idealize.ShloMosaic.TcCoe Idealize.SL.Sem
open Cert.KernelIdeal.Conv (gradsArr tapArr)

/-- The reference terminates, leaves its arguments as they were, and no semaphore is ever raised. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- Both programs end with the closed form of the arguments in their two result arrays. -/
theorem algebraic : Cert.algebraic_KernelIdeal_ReferenceIdeal := by
  intro m ρ m' ρ' _ hagree
  refine ⟨fun c => gradsArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => tapArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun _ h c => ?_) (Cert.KernelIdeal.Value.run_blocks (F := Ideal) m ρ)
    exact ⟨(h c).1.trans (Cert.KernelIdeal.Conv.first_result m c), (h c).2.1.trans (Cert.KernelIdeal.Conv.second_result m c), (h c).2.2⟩
  · refine (θ_run Cert.ReferenceIdeal.defs _ _).mono (fun _ h c => ?_) (Cert.ReferenceIdeal.Value.run (F := Ideal) m' ρ')
    refine ⟨(h c).1.trans ?_, (h c).2.1.trans ?_, (h c).2.2⟩
    · refine (Cert.ReferenceIdeal.Conv.first_plain m' c).trans ?_
      rw [(hagree c).1, (hagree c).2.1, (hagree c).2.2]
    · refine (Cert.ReferenceIdeal.Conv.second_plain m' c).trans ?_
      rw [(hagree c).1, (hagree c).2.1]

end Cert.Proof.Conv

end
-- ==== Proof.Lru.Loop.lean ====
module

public import proofs.«01_k».proof.Proof.Gen.Kernel2Ideal.Loops
public import Idealize.ShloMosaic.Lib.Pointwise
public import Idealize.ShloMosaic.Lib.Pipeline.FrameBody
public import Idealize.ShloMosaic.Lib.WritesUnit

/-! # The scan loop of the recurrence's backward call

The loop walks the rows from the last to the first, eight at a time.  `scanned A B` is what it leaves: `A` the decay
rows, `B` the cotangent rows.  The exit below restates the written buffer as `scanned` of what the two read buffers
hold. -/

@[expose] public section

noncomputable section

namespace Cert.Kernel2Ideal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]

/-- One doubling of the scan inside eight rows: a row whose partner `8 - n` rows on exists takes it in. -/
def combine (n : BitVec 32) (p : FVec F S8x256 .f32 × FVec F S8x256 .f32) : FVec F S8x256 .f32 × FVec F S8x256 .f32 :=
  let keep : IVec S8x256 1 := cmpi .slt (iota .tc S8x256 32 [0] iota_S8x256_d0_w32) (broadcast S8x256 n)
  (select keep (mulf p.1 (dynamicRotate 0 n none p.1 rotates_S8x256_d0)) p.1,
   select keep (addf (mulf p.1 (dynamicRotate 0 n none p.2 rotates_S8x256_d0)) p.2) p.2)

/-- The eight rows of the answer, from the eight rows of decay and cotangent and the row that comes after them. -/
def slab (a b carry : FVec F S8x256 .f32) : FVec F S8x256 .f32 :=
  let q := combine 4#32 (combine 6#32 (combine 7#32 (a, b)))
  addf q.2 (mulf q.1 carry)

/-- The first row, in all eight rows: what the next eight rows up take in. -/
def first (d : FVec F S8x256 .f32) : FVec F S8x256 .f32 := fun j => d (ix2 (n0 := 8) (n1 := 256) 0 (j 1))

/-- Rows `2040 - 8 g …` of an array of 2048 rows. -/
def group (A : Vec F S2048x256 .f32) (g : ℕ) : FVec F S8x256 .f32 := fun j =>
  A (ix2 (n0 := 2048) (n1 := 256) ⟨(255 - g) * 8 + (j 0).val, by have : (j 0).val < 8 := (j 0).isLt; omega⟩ (j 1))

/-- The row carried into group `g`, in all eight rows; before the last rows of all it is zero. -/
def carried (A B : Vec F S2048x256 .f32) : ℕ → FVec F S8x256 .f32
  | 0 => k0_pay728
  | g + 1 => first (slab (group A g) (group B g) (carried A B g))

/-- What the loop leaves. -/
def scanned (A B : Vec F S2048x256 .f32) : Vec F S2048x256 .f32 := fun j =>
  slab (group A (255 - (j 0).val / 8)) (group B (255 - (j 0).val / 8)) (carried A B (255 - (j 0).val / 8))
    (ix2 (n0 := 8) (n1 := 256) ⟨(j 0).val % 8, Nat.mod_lt _ (by decide)⟩ (j 1))

/-- The rows of the wider buffer that the loop reads: all but the first eight. -/
abbrev lower : Rect S2056x256 := Rect.unit (s := S2056x256) ![8, 0] S2048x256.size (by decide)

section trip

variable (arg16 : Memref sig .tc .vmem S2056x256 .f32) (arg17 : Memref sig .tc .vmem S2048x256 .f32)
  (X16 : BufTy.Contents (Elt F) arg16.view.ty) (X17 : BufTy.Contents (Elt F) arg17.view.ty) (k : Fin k0_t1_loop.trips)
  (acc : FVec F S8x256 .f32)

/-- The decay rows trip `k` reads at its step `j`. -/
def decayAt (j : Fin 8) : FVec F S8x256 .f32 :=
  View.readAt (Elt F) arg16.view (Rect.unit (s := S2056x256) (k0_off1 k (BitVec.ofNat 32 j.val)) S8x256.size (k0_off1_inb k j)).toLoadRect X16

/-- The cotangent rows trip `k` reads at its step `j`. -/
def cotAt (j : Fin 8) : FVec F S8x256 .f32 :=
  View.readAt (Elt F) arg17.view (Rect.unit (s := S2048x256) (k0_off2 k (BitVec.ofNat 32 j.val)) S8x256.size (k0_off2_inb k j)).toLoadRect X17

/-- The row carried into step `j` of trip `k`. -/
def carryAt : ℕ → FVec F S8x256 .f32
  | 0 => acc
  | j + 1 => if h : j < 8 then first (slab (decayAt arg16 X16 k ⟨j, h⟩) (cotAt arg17 X17 k ⟨j, h⟩) (carryAt j)) else acc

/-- The eight rows step `j` of trip `k` stores. -/
def storedAt (j : Fin 8) : FVec F S8x256 .f32 := slab (decayAt arg16 X16 k j) (cotAt arg17 X17 k j) (carryAt arg16 arg17 X16 X17 k acc j.val)

/-- Row 0 broadcast to eight rows, as printed. -/
theorem first_eq (d : FVec F S8x256 .f32) (h1 h3) :
    broadcastTo S8x256 (extractStridedSlice S1x256 ![0, 0] d h1) h3 = first d := by
  funext j
  pointwise
  rfl

/-- The row number of each entry. -/
abbrev rowNos : IVec S8x256 32 := iota .tc S8x256 32 [0] iota_S8x256_d0_w32

theorem step0 : k0_pay3 (trip_k0_t1.sl.r arg16 arg17 rowNos X16 X17 k acc) = slab (decayAt arg16 X16 k 0) (cotAt arg17 X17 k 0) acc := by
  unfold trip_k0_t1.sl.r
  simp only [k0_pay2, k0_pay3, shapeCast_id, slab, combine, decayAt, cotAt]
  rfl

theorem step1 : k0_pay5 (trip_k0_t1.sl.r_1 arg16 arg17 rowNos X16 X17 k acc) = slab (decayAt arg16 X16 k 1) (cotAt arg17 X17 k 1) (first (trip_k0_t1.sl.r arg16 arg17 rowNos X16 X17 k acc)) := by
  unfold trip_k0_t1.sl.r_1
  simp only [k0_pay4, k0_pay5, shapeCast_id, first_eq, slab, combine, decayAt, cotAt]
  rfl

theorem step2 : k0_pay15 (trip_k0_t1.sl.r_2 arg16 arg17 rowNos X16 X17 k acc) (trip_k0_t1.sl.r_3 arg16 rowNos X16 k) (k0_pay11 rowNos) (trip_k0_t1.sl.r_4 arg16 arg17 rowNos X16 X17 k) (trip_k0_t1.sl.r_5 arg16 rowNos X16 k) = slab (decayAt arg16 X16 k 2) (cotAt arg17 X17 k 2) (trip_k0_t1.sl.r_2 arg16 arg17 rowNos X16 X17 k acc) := by
  unfold trip_k0_t1.sl.r_3 trip_k0_t1.sl.r_4 trip_k0_t1.sl.r_5
  simp only [k0_pay7, k0_pay8, k0_pay9, k0_pay10, k0_pay11, k0_pay12, k0_pay13, k0_pay14, k0_pay15, shapeCast_id, slab, combine, decayAt, cotAt]
  rfl

theorem step3 : k0_pay25 (trip_k0_t1.sl.r_6 arg16 arg17 rowNos X16 X17 k acc) (trip_k0_t1.sl.r_7 arg16 arg17 rowNos X16 X17 k) (trip_k0_t1.sl.r_8 arg16 rowNos X16 k) (k0_pay22 rowNos) (trip_k0_t1.sl.r_9 arg16 arg17 rowNos X16 X17 k) = slab (decayAt arg16 X16 k 3) (cotAt arg17 X17 k 3) (trip_k0_t1.sl.r_6 arg16 arg17 rowNos X16 X17 k acc) := by
  unfold trip_k0_t1.sl.r_7 trip_k0_t1.sl.r_8 trip_k0_t1.sl.r_9
  simp only [k0_pay17, k0_pay18, k0_pay19, k0_pay20, k0_pay21, k0_pay22, k0_pay23, k0_pay24, k0_pay25, shapeCast_id, slab, combine, decayAt, cotAt]
  rfl

theorem step4 : k0_pay34 rowNos (trip_k0_t1.sl.r_10 arg16 arg17 rowNos X16 X17 k acc) (trip_k0_t1.sl.r_11 arg16 arg17 rowNos X16 X17 k) (trip_k0_t1.sl.r_12 arg16 rowNos X16 k) (k0_pay32) = slab (decayAt arg16 X16 k 4) (cotAt arg17 X17 k 4) (trip_k0_t1.sl.r_10 arg16 arg17 rowNos X16 X17 k acc) := by
  unfold trip_k0_t1.sl.r_11 trip_k0_t1.sl.r_12
  simp only [k0_pay27, k0_pay28, k0_pay29, k0_pay30, k0_pay31, k0_pay32, k0_pay33, k0_pay34, shapeCast_id, slab, combine, decayAt, cotAt]
  rfl

theorem step5 : k0_pay42 rowNos (trip_k0_t1.sl.r_13 arg16 arg17 rowNos X16 X17 k acc) (trip_k0_t1.sl.r_14 arg16 rowNos X16 k) (k0_pay38 rowNos) (trip_k0_t1.sl.r_15 arg16 arg17 rowNos X16 X17 k) (trip_k0_t1.sl.r_16 arg16 rowNos X16 k) = slab (decayAt arg16 X16 k 5) (cotAt arg17 X17 k 5) (trip_k0_t1.sl.r_13 arg16 arg17 rowNos X16 X17 k acc) := by
  unfold trip_k0_t1.sl.r_14 trip_k0_t1.sl.r_15 trip_k0_t1.sl.r_16
  simp only [k0_pay36, k0_pay37, k0_pay38, k0_pay39, k0_pay40, k0_pay41, k0_pay42, shapeCast_id, slab, combine, decayAt, cotAt]
  rfl

theorem step6 : k0_pay50 rowNos (trip_k0_t1.sl.r_17 arg16 arg17 rowNos X16 X17 k acc) (trip_k0_t1.sl.r_18 arg16 arg17 rowNos X16 X17 k) (trip_k0_t1.sl.r_19 arg16 rowNos X16 k) (k0_pay47 rowNos) (trip_k0_t1.sl.r_20 arg16 arg17 rowNos X16 X17 k) = slab (decayAt arg16 X16 k 6) (cotAt arg17 X17 k 6) (trip_k0_t1.sl.r_17 arg16 arg17 rowNos X16 X17 k acc) := by
  unfold trip_k0_t1.sl.r_18 trip_k0_t1.sl.r_19 trip_k0_t1.sl.r_20
  simp only [k0_pay44, k0_pay45, k0_pay46, k0_pay47, k0_pay48, k0_pay49, k0_pay50, shapeCast_id, slab, combine, decayAt, cotAt]
  rfl

theorem step7 : k0_pay730 (trip_k0_t1.sl.r_21 arg16 arg17 rowNos X16 X17 k acc) (trip_k0_t1.sl.r_22 arg16 arg17 rowNos X16 X17 k) (trip_k0_t1.sl.r_23 arg16 rowNos X16 k) (k0_pay55) = slab (decayAt arg16 X16 k 7) (cotAt arg17 X17 k 7) (trip_k0_t1.sl.r_21 arg16 arg17 rowNos X16 X17 k acc) := by
  unfold trip_k0_t1.sl.r_22 trip_k0_t1.sl.r_23
  simp only [k0_pay52, k0_pay53, k0_pay54, k0_pay55, k0_pay729, k0_pay730, shapeCast_id, slab, combine, decayAt, cotAt]
  rfl

theorem carry1 : (trip_k0_t1.sl.r_2 arg16 arg17 rowNos X16 X17 k acc) = first (k0_pay5 (trip_k0_t1.sl.r_1 arg16 arg17 rowNos X16 X17 k acc)) := by
  unfold trip_k0_t1.sl.r_2
  simp only [k0_pay5, k0_pay6, shapeCast_id, first_eq]

theorem carry2 : (trip_k0_t1.sl.r_6 arg16 arg17 rowNos X16 X17 k acc) = first (k0_pay15 (trip_k0_t1.sl.r_2 arg16 arg17 rowNos X16 X17 k acc) (trip_k0_t1.sl.r_3 arg16 rowNos X16 k) (k0_pay11 rowNos) (trip_k0_t1.sl.r_4 arg16 arg17 rowNos X16 X17 k) (trip_k0_t1.sl.r_5 arg16 rowNos X16 k)) := by
  unfold trip_k0_t1.sl.r_6
  simp only [k0_pay11, k0_pay14, k0_pay15, k0_pay16, shapeCast_id, first_eq]

theorem carry3 : (trip_k0_t1.sl.r_10 arg16 arg17 rowNos X16 X17 k acc) = first (k0_pay25 (trip_k0_t1.sl.r_6 arg16 arg17 rowNos X16 X17 k acc) (trip_k0_t1.sl.r_7 arg16 arg17 rowNos X16 X17 k) (trip_k0_t1.sl.r_8 arg16 rowNos X16 k) (k0_pay22 rowNos) (trip_k0_t1.sl.r_9 arg16 arg17 rowNos X16 X17 k)) := by
  unfold trip_k0_t1.sl.r_10
  simp only [k0_pay22, k0_pay24, k0_pay25, k0_pay26, shapeCast_id, first_eq]

theorem carry4 : (trip_k0_t1.sl.r_13 arg16 arg17 rowNos X16 X17 k acc) = first (k0_pay34 rowNos (trip_k0_t1.sl.r_10 arg16 arg17 rowNos X16 X17 k acc) (trip_k0_t1.sl.r_11 arg16 arg17 rowNos X16 X17 k) (trip_k0_t1.sl.r_12 arg16 rowNos X16 k) (k0_pay32)) := by
  unfold trip_k0_t1.sl.r_13
  simp only [k0_pay32, k0_pay33, k0_pay34, k0_pay35, shapeCast_id, first_eq]

theorem carry5 : (trip_k0_t1.sl.r_17 arg16 arg17 rowNos X16 X17 k acc) = first (k0_pay42 rowNos (trip_k0_t1.sl.r_13 arg16 arg17 rowNos X16 X17 k acc) (trip_k0_t1.sl.r_14 arg16 rowNos X16 k) (k0_pay38 rowNos) (trip_k0_t1.sl.r_15 arg16 arg17 rowNos X16 X17 k) (trip_k0_t1.sl.r_16 arg16 rowNos X16 k)) := by
  unfold trip_k0_t1.sl.r_17
  simp only [k0_pay38, k0_pay41, k0_pay42, k0_pay43, shapeCast_id, first_eq]

theorem carry6 : (trip_k0_t1.sl.r_21 arg16 arg17 rowNos X16 X17 k acc) = first (k0_pay50 rowNos (trip_k0_t1.sl.r_17 arg16 arg17 rowNos X16 X17 k acc) (trip_k0_t1.sl.r_18 arg16 arg17 rowNos X16 X17 k) (trip_k0_t1.sl.r_19 arg16 rowNos X16 k) (k0_pay47 rowNos) (trip_k0_t1.sl.r_20 arg16 arg17 rowNos X16 X17 k)) := by
  unfold trip_k0_t1.sl.r_21
  simp only [k0_pay47, k0_pay49, k0_pay50, k0_pay51, shapeCast_id, first_eq]

theorem carry7 : k0_pay731 (trip_k0_t1.sl.r_21 arg16 arg17 rowNos X16 X17 k acc) (trip_k0_t1.sl.r_22 arg16 arg17 rowNos X16 X17 k) (trip_k0_t1.sl.r_23 arg16 rowNos X16 k) (k0_pay55) = first (k0_pay730 (trip_k0_t1.sl.r_21 arg16 arg17 rowNos X16 X17 k acc) (trip_k0_t1.sl.r_22 arg16 arg17 rowNos X16 X17 k) (trip_k0_t1.sl.r_23 arg16 rowNos X16 k) (k0_pay55)) := by
  simp only [k0_pay55, k0_pay729, k0_pay730, k0_pay731, shapeCast_id, first_eq]

theorem trips_eq : k0_t1_loop.trips = 32 := by decide

theorem off1_eq : ∀ (k : Fin k0_t1_loop.trips) (j : Fin 8), k0_off1 k (BitVec.ofNat 32 j.val) = ![8 + (255 - (8 * k.val + j.val)) * 8, 0] := by
  decide +kernel

theorem off2_eq : ∀ (k : Fin k0_t1_loop.trips) (j : Fin 8), k0_off2 k (BitVec.ofNat 32 j.val) = ![(255 - (8 * k.val + j.val)) * 8, 0] := by
  decide +kernel

/-- The rows the loop reads of the wider buffer, and of the other. -/
abbrev decays : Vec F S2048x256 .f32 := View.readAt (Elt F) arg16.view lower.toLoadRect X16

abbrev cots : Vec F S2048x256 .f32 := arg17.view.read (Elt F) X17

theorem decayAt_eq (j : Fin 8) : decayAt arg16 X16 k j = group (decays arg16 X16) (8 * k.val + j.val) := by
  funext x
  unfold decayAt group decays
  rw [View.readAt_eq_ld, View.readAt_eq_ld]
  unfold View.ld
  refine congrArg _ (funext fun a => Fin.ext ?_)
  have hk : k.val < 32 := lt_of_lt_of_eq k.isLt trips_eq
  fin_cases a
  · simp [ix2, off1_eq]; omega
  · simp [ix2, off1_eq]

theorem cotAt_eq (j : Fin 8) : cotAt arg17 X17 k j = group (cots arg17 X17) (8 * k.val + j.val) := by
  funext x
  unfold cotAt group cots
  rw [View.readAt_eq_ld]
  unfold View.ld
  refine congrArg _ (funext fun a => Fin.ext ?_)
  fin_cases a
  · simp [ix2, off2_eq]
  · simp [ix2, off2_eq]

theorem carryAt_eq (hacc : acc = carried (decays arg16 X16) (cots arg17 X17) (8 * k.val)) : ∀ j : ℕ, j ≤ 8 →
    carryAt arg16 arg17 X16 X17 k acc j = carried (decays arg16 X16) (cots arg17 X17) (8 * k.val + j)
  | 0, _ => hacc
  | j + 1, hj => by
    have hj' : j < 8 := hj
    rw [carryAt, dif_pos hj', decayAt_eq, cotAt_eq, carryAt_eq hacc j (by omega)]
    rfl

theorem storedAt_eq (hacc : acc = carried (decays arg16 X16) (cots arg17 X17) (8 * k.val)) (j : Fin 8) (y : S2048x256.Idx)
    (h : ∀ a, (![(255 - (8 * k.val + j.val)) * 8, 0] : Fin 2 → ℕ) a ≤ (y a).val ∧ (y a).val < (![(255 - (8 * k.val + j.val)) * 8, 0] : Fin 2 → ℕ) a + S8x256.size a) :
    storedAt arg16 arg17 X16 X17 k acc j (Rect.unitLocal (s := S2048x256) (off := ![(255 - (8 * k.val + j.val)) * 8, 0]) (size := S8x256.size) y h)
      = scanned (decays arg16 X16) (cots arg17 X17) y := by
  have hk : k.val < 32 := lt_of_lt_of_eq k.isLt trips_eq
  have h0 := h 0
  simp only [Matrix.cons_val_zero] at h0
  have e : 255 - (y 0).val / 8 = 8 * k.val + j.val := by omega
  unfold storedAt scanned
  rw [decayAt_eq, cotAt_eq, carryAt_eq arg16 arg17 X16 X17 k acc hacc j.val (by omega), e]
  refine congrArg _ (funext fun a => Fin.ext ?_)
  fin_cases a
  · simp [Rect.unitLocal, ix2]; omega
  · simp [Rect.unitLocal, ix2]

/-! What each step stores and carries, named. -/

theorem carried1 : first (trip_k0_t1.sl.r arg16 arg17 rowNos X16 X17 k acc) = carryAt arg16 arg17 X16 X17 k acc 1 := by
  have h := step0 arg16 arg17 X16 X17 k acc
  simp only [k0_pay3, shapeCast_id] at h
  rw [h]
  rfl

theorem stored0 : k0_pay3 (trip_k0_t1.sl.r arg16 arg17 rowNos X16 X17 k acc) = storedAt arg16 arg17 X16 X17 k acc 0 := step0 arg16 arg17 X16 X17 k acc

theorem stored1 : k0_pay5 (trip_k0_t1.sl.r_1 arg16 arg17 rowNos X16 X17 k acc) = storedAt arg16 arg17 X16 X17 k acc 1 := by
  rw [step1, carried1]
  rfl

theorem carried2 : (trip_k0_t1.sl.r_2 arg16 arg17 rowNos X16 X17 k acc) = carryAt arg16 arg17 X16 X17 k acc 2 := by
  rw [carry1, stored1]
  rfl

theorem stored2 : k0_pay15 (trip_k0_t1.sl.r_2 arg16 arg17 rowNos X16 X17 k acc) (trip_k0_t1.sl.r_3 arg16 rowNos X16 k) (k0_pay11 rowNos) (trip_k0_t1.sl.r_4 arg16 arg17 rowNos X16 X17 k) (trip_k0_t1.sl.r_5 arg16 rowNos X16 k) = storedAt arg16 arg17 X16 X17 k acc 2 := by
  rw [step2, carried2]
  rfl

theorem carried3 : (trip_k0_t1.sl.r_6 arg16 arg17 rowNos X16 X17 k acc) = carryAt arg16 arg17 X16 X17 k acc 3 := by
  rw [carry2, stored2]
  rfl

theorem stored3 : k0_pay25 (trip_k0_t1.sl.r_6 arg16 arg17 rowNos X16 X17 k acc) (trip_k0_t1.sl.r_7 arg16 arg17 rowNos X16 X17 k) (trip_k0_t1.sl.r_8 arg16 rowNos X16 k) (k0_pay22 rowNos) (trip_k0_t1.sl.r_9 arg16 arg17 rowNos X16 X17 k) = storedAt arg16 arg17 X16 X17 k acc 3 := by
  rw [step3, carried3]
  rfl

theorem carried4 : (trip_k0_t1.sl.r_10 arg16 arg17 rowNos X16 X17 k acc) = carryAt arg16 arg17 X16 X17 k acc 4 := by
  rw [carry3, stored3]
  rfl

theorem stored4 : k0_pay34 rowNos (trip_k0_t1.sl.r_10 arg16 arg17 rowNos X16 X17 k acc) (trip_k0_t1.sl.r_11 arg16 arg17 rowNos X16 X17 k) (trip_k0_t1.sl.r_12 arg16 rowNos X16 k) (k0_pay32) = storedAt arg16 arg17 X16 X17 k acc 4 := by
  rw [step4, carried4]
  rfl

theorem carried5 : (trip_k0_t1.sl.r_13 arg16 arg17 rowNos X16 X17 k acc) = carryAt arg16 arg17 X16 X17 k acc 5 := by
  rw [carry4, stored4]
  rfl

theorem stored5 : k0_pay42 rowNos (trip_k0_t1.sl.r_13 arg16 arg17 rowNos X16 X17 k acc) (trip_k0_t1.sl.r_14 arg16 rowNos X16 k) (k0_pay38 rowNos) (trip_k0_t1.sl.r_15 arg16 arg17 rowNos X16 X17 k) (trip_k0_t1.sl.r_16 arg16 rowNos X16 k) = storedAt arg16 arg17 X16 X17 k acc 5 := by
  rw [step5, carried5]
  rfl

theorem carried6 : (trip_k0_t1.sl.r_17 arg16 arg17 rowNos X16 X17 k acc) = carryAt arg16 arg17 X16 X17 k acc 6 := by
  rw [carry5, stored5]
  rfl

theorem stored6 : k0_pay50 rowNos (trip_k0_t1.sl.r_17 arg16 arg17 rowNos X16 X17 k acc) (trip_k0_t1.sl.r_18 arg16 arg17 rowNos X16 X17 k) (trip_k0_t1.sl.r_19 arg16 rowNos X16 k) (k0_pay47 rowNos) (trip_k0_t1.sl.r_20 arg16 arg17 rowNos X16 X17 k) = storedAt arg16 arg17 X16 X17 k acc 6 := by
  rw [step6, carried6]
  rfl

theorem carried7 : (trip_k0_t1.sl.r_21 arg16 arg17 rowNos X16 X17 k acc) = carryAt arg16 arg17 X16 X17 k acc 7 := by
  rw [carry6, stored6]
  rfl

theorem stored7 : k0_pay730 (trip_k0_t1.sl.r_21 arg16 arg17 rowNos X16 X17 k acc) (trip_k0_t1.sl.r_22 arg16 arg17 rowNos X16 X17 k) (trip_k0_t1.sl.r_23 arg16 rowNos X16 k) (k0_pay55) = storedAt arg16 arg17 X16 X17 k acc 7 := by
  rw [step7, carried7]
  rfl

theorem carried8 : k0_pay731 (trip_k0_t1.sl.r_21 arg16 arg17 rowNos X16 X17 k acc) (trip_k0_t1.sl.r_22 arg16 arg17 rowNos X16 X17 k) (trip_k0_t1.sl.r_23 arg16 rowNos X16 k) (k0_pay55) = carryAt arg16 arg17 X16 X17 k acc 8 := by
  rw [carry7, stored7]
  rfl

variable (arg18 : Memref sig .tc .vmem S2048x256 .f32)
/-- The piece of step `j`. -/
def piece (j : Fin 8) : View.Piece (Elt F) S2048x256 .f32 :=
  ⟨Rect.unit (s := S2048x256) (k0_off2 k (BitVec.ofNat 32 j.val)) S8x256.size (k0_off2_inb k j), storedAt arg16 arg17 X16 X17 k acc j⟩

theorem read_piece (hacc : acc = carried (decays arg16 X16) (cots arg17 X17) (8 * k.val)) (f : BufTy.Contents (Elt F) arg18.view.ty) (y : S2048x256.Idx)
    (j : Fin 8) (L : List (View.Piece (Elt F) S2048x256 .f32))
    (h : 255 - (y 0).val / 8 ≠ 8 * k.val + j.val → arg18.view.read (Elt F) (arg18.view.writes (Elt F) f L) y = scanned (decays arg16 X16) (cots arg17 X17) y) :
    arg18.view.read (Elt F) (arg18.view.writes (Elt F) f (piece arg16 arg17 X16 X17 k acc j :: L)) y = scanned (decays arg16 X16) (cots arg17 X17) y := by
  have hk : k.val < 32 := lt_of_lt_of_eq k.isLt trips_eq
  have hy0 : (y 0).val < 2048 := (y 0).isLt
  have hy1 : (y 1).val < 256 := (y 1).isLt
  unfold piece
  rw [View.read_writes_cons_unit _ _ _ _ _ _ (off2_eq k j)]
  by_cases hc : ∀ a, (![(255 - (8 * k.val + j.val)) * 8, 0] : Fin 2 → ℕ) a ≤ (y a).val ∧ (y a).val < (![(255 - (8 * k.val + j.val)) * 8, 0] : Fin 2 → ℕ) a + S8x256.size a
  · rw [dif_pos hc]
    exact storedAt_eq _ _ _ _ _ _ hacc _ y _
  · rw [dif_neg hc]
    refine h fun e => hc fun a => ?_
    fin_cases a
    · simp only [Fin.zero_eta, Fin.isValue, Matrix.cons_val_zero]; omega
    · exact ⟨Nat.zero_le _, by simpa [S8x256] using hy1⟩

/-- What trip `k` stores: eight groups of eight rows, the last first. -/
def pieces : List (View.Piece (Elt F) S2048x256 .f32) :=
  [piece arg16 arg17 X16 X17 k acc 7, piece arg16 arg17 X16 X17 k acc 6, piece arg16 arg17 X16 X17 k acc 5, piece arg16 arg17 X16 X17 k acc 4, piece arg16 arg17 X16 X17 k acc 3, piece arg16 arg17 X16 X17 k acc 2, piece arg16 arg17 X16 X17 k acc 1, piece arg16 arg17 X16 X17 k acc 0]

theorem read_pieces (hacc : acc = carried (decays arg16 X16) (cots arg17 X17) (8 * k.val)) (f : BufTy.Contents (Elt F) arg18.view.ty) (y : S2048x256.Idx)
    (hf : 2048 - 64 * k.val ≤ (y 0).val → arg18.view.read (Elt F) f y = scanned (decays arg16 X16) (cots arg17 X17) y)
    (hy : 2048 - 64 * (k.val + 1) ≤ (y 0).val) :
    arg18.view.read (Elt F) (arg18.view.writes (Elt F) f (pieces arg16 arg17 X16 X17 k acc)) y = scanned (decays arg16 X16) (cots arg17 X17) y := by
  have hk : k.val < 32 := lt_of_lt_of_eq k.isLt trips_eq
  have hy0 : (y 0).val < 2048 := (y 0).isLt
  unfold pieces
  refine read_piece arg16 arg17 X16 X17 k acc arg18 hacc f y 7 _ fun n7 => ?_
  refine read_piece arg16 arg17 X16 X17 k acc arg18 hacc f y 6 _ fun n6 => ?_
  refine read_piece arg16 arg17 X16 X17 k acc arg18 hacc f y 5 _ fun n5 => ?_
  refine read_piece arg16 arg17 X16 X17 k acc arg18 hacc f y 4 _ fun n4 => ?_
  refine read_piece arg16 arg17 X16 X17 k acc arg18 hacc f y 3 _ fun n3 => ?_
  refine read_piece arg16 arg17 X16 X17 k acc arg18 hacc f y 2 _ fun n2 => ?_
  refine read_piece arg16 arg17 X16 X17 k acc arg18 hacc f y 1 _ fun n1 => ?_
  refine read_piece arg16 arg17 X16 X17 k acc arg18 hacc f y 0 _ fun n0 => ?_
  rw [View.writes_nil]
  refine hf ?_
  change _ ≠ 8 * k.val + 7 at n7
  change _ ≠ 8 * k.val + 6 at n6
  change _ ≠ 8 * k.val + 5 at n5
  change _ ≠ 8 * k.val + 4 at n4
  change _ ≠ 8 * k.val + 3 at n3
  change _ ≠ 8 * k.val + 2 at n2
  change _ ≠ 8 * k.val + 1 at n1
  change _ ≠ 8 * k.val + 0 at n0
  omega

end trip

theorem trip_listed (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S3x2048x256 .bf16) (harg5 : arg5.IsWhole) (arg6 : Memref sig .tc .vmem S2048x256 .bf16) (harg6 : arg6.IsWhole) (arg7 : Memref sig .tc .vmem S4x256 .f32) (harg7 : arg7.IsWhole) (arg8 : Memref sig .tc .vmem S8x1x32x256 .bf16) (harg8 : arg8.IsWhole) (arg9 : Memref sig .tc .vmem S8x1x32x256 .bf16) (harg9 : arg9.IsWhole) (arg10 : Memref sig .tc .vmem S1x256 .f32) (harg10 : arg10.IsWhole) (arg11 : Memref sig .tc .vmem S2x2048x256 .bf16) (harg11 : arg11.IsWhole) (arg12 : Memref sig .tc .vmem S8x1x32x256 .bf16) (harg12 : arg12.IsWhole) (arg13 : Memref sig .tc .vmem S8x1x32x256 .bf16) (harg13 : arg13.IsWhole) (arg14 : Memref sig .tc .vmem S8x256 .f32) (harg14 : arg14.IsWhole) (arg15 : Memref sig .tc .vmem S2056x256 .f32) (harg15 : arg15.IsWhole) (arg16 : Memref sig .tc .vmem S2056x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S2056x256 .f32) (harg19 : arg19.IsWhole) (arg20 : Memref sig .tc .vmem S2056x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .bf16) (harg23 : arg23.IsWhole) (arg24 : Memref sig .tc .vmem S256x256 .bf16) (harg24 : arg24.IsWhole) (v4030 v4032 v4036 : FVec F S32x256 .f32)
    (X16 : BufTy.Contents (Elt F) arg16.view.ty) (X17 : BufTy.Contents (Elt F) arg17.view.ty) (k : Fin k0_t1_loop.trips) (acc : FVec F S8x256 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 rowNos X16 X17 k acc = pieces arg16 arg17 X16 X17 k acc
    ∧ tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 rowNos X16 X17 k acc = carryAt arg16 arg17 X16 X17 k acc 8 := by
  unfold tripL_k0_t1 tripR_k0_t1 trip_k0_t1
  dsimp only
  refine ⟨?_, carried8 _ _ _ _ _ _⟩
  rw [stored7, stored6, stored5, stored4, stored3, stored2, stored1, stored0]
  rfl

/-- Before trip `k` the loop carries `carried … (8 k)` and has written the last `64 k` rows. -/
theorem state_eq (𝒱 : Variants) (c : Dev nD) (bd : Option 𝒱.V) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S3x2048x256 .bf16) (harg5 : arg5.IsWhole) (arg6 : Memref sig .tc .vmem S2048x256 .bf16) (harg6 : arg6.IsWhole) (arg7 : Memref sig .tc .vmem S4x256 .f32) (harg7 : arg7.IsWhole) (arg8 : Memref sig .tc .vmem S8x1x32x256 .bf16) (harg8 : arg8.IsWhole) (arg9 : Memref sig .tc .vmem S8x1x32x256 .bf16) (harg9 : arg9.IsWhole) (arg10 : Memref sig .tc .vmem S1x256 .f32) (harg10 : arg10.IsWhole) (arg11 : Memref sig .tc .vmem S2x2048x256 .bf16) (harg11 : arg11.IsWhole) (arg12 : Memref sig .tc .vmem S8x1x32x256 .bf16) (harg12 : arg12.IsWhole) (arg13 : Memref sig .tc .vmem S8x1x32x256 .bf16) (harg13 : arg13.IsWhole) (arg14 : Memref sig .tc .vmem S8x256 .f32) (harg14 : arg14.IsWhole) (arg15 : Memref sig .tc .vmem S2056x256 .f32) (harg15 : arg15.IsWhole) (arg16 : Memref sig .tc .vmem S2056x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S2056x256 .f32) (harg19 : arg19.IsWhole) (arg20 : Memref sig .tc .vmem S2056x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .bf16) (harg23 : arg23.IsWhole) (arg24 : Memref sig .tc .vmem S256x256 .bf16) (harg24 : arg24.IsWhole) (v4030 v4032 v4036 : FVec F S32x256 .f32)
    (X16 : BufTy.Contents (Elt F) arg16.view.ty) (X17 : BufTy.Contents (Elt F) arg17.view.ty) (G : BufTy.Contents (Elt F) arg18.view.ty) : ∀ k : ℕ, k ≤ 32 →
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 rowNos X16 X17 (k0_pay728 (F := F)) k).1 = carried (decays arg16 X16) (cots arg17 X17) (8 * k)
    ∧ ∀ y : S2048x256.Idx, 2048 - 64 * k ≤ (y 0).val → arg18.view.read (Elt F) (arg18.view.writes (Elt F) G
        (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 rowNos X16 X17 (k0_pay728 (F := F)) k).2) y = scanned (decays arg16 X16) (cots arg17 X17) y
  | 0, _ => ⟨rfl, fun y hy => absurd hy (by have : (y 0).val < 2048 := (y 0).isLt; omega)⟩
  | k + 1, hk => by
    have ih := state_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 X16 X17 G k (by omega)
    have hk' : k < k0_t1_loop.trips := lt_of_lt_of_eq hk trips_eq.symm
    have ht := trip_listed 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 X16 X17 ⟨k, hk'⟩
      (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 rowNos X16 X17 (k0_pay728 (F := F)) k).1
    rw [show k + 1 = (⟨k, hk'⟩ : Fin k0_t1_loop.trips).val + 1 from rfl, st_k0_t1_succ, ht.1, ht.2]
    refine ⟨carryAt_eq arg16 arg17 X16 X17 _ _ ih.1 8 le_rfl, fun y hy => ?_⟩
    dsimp only
    rw [View.writes_append]
    exact read_pieces arg16 arg17 X16 X17 ⟨k, hk'⟩ _ arg18 ih.1 _ y (ih.2 y) hy

set_option warn.classDefReducibility false in
/-- After the loop the written buffer holds `scanned` of the rows the loop reads. -/
instance loopExit (𝒱 : Variants) (c : Dev nD) (bd : Option 𝒱.V) (E : Set ℕ) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S3x2048x256 .bf16) (harg5 : arg5.IsWhole) (arg6 : Memref sig .tc .vmem S2048x256 .bf16) (harg6 : arg6.IsWhole) (arg7 : Memref sig .tc .vmem S4x256 .f32) (harg7 : arg7.IsWhole) (arg8 : Memref sig .tc .vmem S8x1x32x256 .bf16) (harg8 : arg8.IsWhole) (arg9 : Memref sig .tc .vmem S8x1x32x256 .bf16) (harg9 : arg9.IsWhole) (arg10 : Memref sig .tc .vmem S1x256 .f32) (harg10 : arg10.IsWhole) (arg11 : Memref sig .tc .vmem S2x2048x256 .bf16) (harg11 : arg11.IsWhole) (arg12 : Memref sig .tc .vmem S8x1x32x256 .bf16) (harg12 : arg12.IsWhole) (arg13 : Memref sig .tc .vmem S8x1x32x256 .bf16) (harg13 : arg13.IsWhole) (arg14 : Memref sig .tc .vmem S8x256 .f32) (harg14 : arg14.IsWhole) (arg15 : Memref sig .tc .vmem S2056x256 .f32) (harg15 : arg15.IsWhole) (arg16 : Memref sig .tc .vmem S2056x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S2056x256 .f32) (harg19 : arg19.IsWhole) (arg20 : Memref sig .tc .vmem S2056x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .bf16) (harg23 : arg23.IsWhole) (arg24 : Memref sig .tc .vmem S256x256 .bf16) (harg24 : arg24.IsWhole) (v4030 v4032 v4036 : FVec F S32x256 .f32)
    (X16 : BufTy.Contents (Elt F) arg16.view.ty) (X17 : BufTy.Contents (Elt F) arg17.view.ty) (G : BufTy.Contents (Elt F) arg18.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 rowNos X16 X17 G (k0_pay728 (F := F))) where
  post _ := iprop((arg16.view.loc (c : Thread nD τ) ↦[arg16.view.set]{fullShare} X16) ∗ (arg17.view.loc (c : Thread nD τ) ↦[arg17.view.set]{fullShare} X17)
    ∗ (arg18.view.loc (c : Thread nD τ) ↦[arg18.view.set]{fullShare} harg18.unread (scanned (View.readAt (Elt F) arg16.view lower.toLoadRect X16) (arg17.view.read (Elt F) X17))))
  exit acc := by
    have h := (state_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 X16 X17 G 32 le_rfl).2
    change inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4030 v4032 v4036 rowNos X16 X17 G (k0_pay728 (F := F)) (Scf.trips k0_t1_loop.lb k0_t1_loop.ub k0_t1_loop.st) acc ⊢ _
    rw [show Scf.trips k0_t1_loop.lb k0_t1_loop.ub k0_t1_loop.st = 32 from trips_eq]
    iintro ⟨H16, H17, ⟨%f, H18, %hf⟩, %hacc⟩
    isplitl [H16]; · iexact H16
    isplitl [H17]; · iexact H17
    have e : f = harg18.unread (scanned (View.readAt (Elt F) arg16.view lower.toLoadRect X16) (arg17.view.read (Elt F) X17)) := by
      rw [hf]
      refine harg18.eq_unread (funext fun y => h y (by omega))
    rw [← e]
    iexact H18

end Cert.Kernel2Ideal.Lru

end
-- ==== Proof.Lru.Run.lean ====
module

public import proofs.«01_k».proof.Proof.Lru.Loop
public import proofs.«01_k».proof.Proof.Gen.Kernel2Ideal.Frame

/-! # One run of the backward call of the recurrence, and what it leaves in its four outputs -/

@[expose] public section

set_option maxRecDepth 16384

noncomputable section

namespace Cert.Kernel2Ideal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- How the slices of 32 rows, laid from row 7 on, and the eight rows of zeros at the end cover the rows the loop reads:
    the slices after the first. -/
def sliceCover : ℕ → LoadRect.Cov
  | 0 => .split 0 32 (.leaf 0) (.leaf 64)
  | n + 1 => .split 0 32 (.leaf (n + 1)) (sliceCover n)

/-- The whole of that cover. -/
def decayCover : LoadRect.Cov := .split 0 31 (.leaf 63) (sliceCover 62)

set_option maxHeartbeats 0 in
/-- What the body's stores leave in each output, as pieces, last first, with the proof that the body runs to the
    continuation holding the inputs as they were, each output with its pieces written and the scratch buffers at
    anything. -/
noncomputable def ran (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S3x2048x256 .bf16) (harg5 : arg5.IsWhole) (arg6 : Memref sig .tc .vmem S2048x256 .bf16) (harg6 : arg6.IsWhole) (arg7 : Memref sig .tc .vmem S4x256 .f32) (harg7 : arg7.IsWhole) (arg8 : Memref sig .tc .vmem S8x1x32x256 .bf16) (harg8 : arg8.IsWhole) (arg9 : Memref sig .tc .vmem S8x1x32x256 .bf16) (harg9 : arg9.IsWhole) (arg10 : Memref sig .tc .vmem S1x256 .f32) (harg10 : arg10.IsWhole) (arg11 : Memref sig .tc .vmem S2x2048x256 .bf16) (harg11 : arg11.IsWhole) (arg12 : Memref sig .tc .vmem S8x1x32x256 .bf16) (harg12 : arg12.IsWhole) (arg13 : Memref sig .tc .vmem S8x1x32x256 .bf16) (harg13 : arg13.IsWhole) (arg14 : Memref sig .tc .vmem S8x256 .f32) (harg14 : arg14.IsWhole) (arg15 : Memref sig .tc .vmem S2056x256 .f32) (harg15 : arg15.IsWhole) (arg16 : Memref sig .tc .vmem S2056x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S2056x256 .f32) (harg19 : arg19.IsWhole) (arg20 : Memref sig .tc .vmem S2056x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .bf16) (harg23 : arg23.IsWhole) (arg24 : Memref sig .tc .vmem S256x256 .bf16) (harg24 : arg24.IsWhole)
    (x0 : Vec F S2048x256 .bf16) (x1 : Vec F S2048x256 .bf16) (x2 : Vec F S2048x256 .f32) (x3 : Vec F S2048x256 .f32) (x4 : Vec F S3x2048x256 .bf16) (x5 : Vec F S2048x256 .bf16) (x6 : Vec F S4x256 .f32) (x7 : Vec F S8x1x32x256 .bf16) (x8 : Vec F S8x1x32x256 .bf16) (x9 : Vec F S1x256 .f32) :
    Σ' (L10 : List (View.Piece (Elt F) S2x2048x256 .bf16)), Σ' (L11 : List (View.Piece (Elt F) S8x1x32x256 .bf16)), Σ' (L12 : List (View.Piece (Elt F) S8x1x32x256 .bf16)), { L13 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f) ∗ (∃ f, arg23.view.loc (c : Thread nD τ) ↦[arg23.view.set]{fullShare} f) ∗ (∃ f, arg24.view.loc (c : Thread nD τ) ↦[arg24.view.set]{fullShare} f)) -∗ K ⟨⟩))
          ⊢ wp frame (wpE (defs₀ (F := F)) Variants.none c none) E (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, fun E K => ?run⟩
  case run =>
    simp only [cc0_lru_bwd_eq_skeleton]; unfold cc0_lru_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    set_option sl_exec.stopBefore "k0_part119" in sl_exec
    rw [readAt_writes_eq_readCov (m := arg16) (c : Thread nD τ) f16 _ lower.toLoadRect decayCover ?hc]
    case hc => sl_kernel_rfl
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HL0]; · iexists _; iexact HL0
    isplitl [HL1]; · iexists _; iexact HL1
    isplitl [HL2]; · iexists _; iexact HL2
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.Kernel2Ideal.Lru

end
-- ==== Proof.Lru.Frame.lean ====
module

public import proofs.«01_k».proof.Proof.Lru.Run
public import Idealize.ShloMosaic.Lib.Claim

/-! # The frame of the recurrence's backward call

What the four outputs hold after each grid point, the launch's proof data, the body's obligation and the run of the
whole program, at any element semantics.  The launch's set-up is the usual one of a kernel with scratch buffers. -/

@[expose] public section

set_option maxRecDepth 16384

noncomputable section

namespace Cert.Kernel2Ideal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

section cover

variable (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S3x2048x256 .bf16) (harg5 : arg5.IsWhole) (arg6 : Memref sig .tc .vmem S2048x256 .bf16) (harg6 : arg6.IsWhole) (arg7 : Memref sig .tc .vmem S4x256 .f32) (harg7 : arg7.IsWhole) (arg8 : Memref sig .tc .vmem S8x1x32x256 .bf16) (harg8 : arg8.IsWhole) (arg9 : Memref sig .tc .vmem S8x1x32x256 .bf16) (harg9 : arg9.IsWhole) (arg10 : Memref sig .tc .vmem S1x256 .f32) (harg10 : arg10.IsWhole) (arg11 : Memref sig .tc .vmem S2x2048x256 .bf16) (harg11 : arg11.IsWhole) (arg12 : Memref sig .tc .vmem S8x1x32x256 .bf16) (harg12 : arg12.IsWhole) (arg13 : Memref sig .tc .vmem S8x1x32x256 .bf16) (harg13 : arg13.IsWhole) (arg14 : Memref sig .tc .vmem S8x256 .f32) (harg14 : arg14.IsWhole) (arg15 : Memref sig .tc .vmem S2056x256 .f32) (harg15 : arg15.IsWhole) (arg16 : Memref sig .tc .vmem S2056x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S2056x256 .f32) (harg19 : arg19.IsWhole) (arg20 : Memref sig .tc .vmem S2056x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x256 .bf16) (harg23 : arg23.IsWhole) (arg24 : Memref sig .tc .vmem S256x256 .bf16) (harg24 : arg24.IsWhole)
    (x0 : Vec F S2048x256 .bf16) (x1 : Vec F S2048x256 .bf16) (x2 : Vec F S2048x256 .f32) (x3 : Vec F S2048x256 .f32) (x4 : Vec F S3x2048x256 .bf16) (x5 : Vec F S2048x256 .bf16) (x6 : Vec F S4x256 .f32) (x7 : Vec F S8x1x32x256 .bf16) (x8 : Vec F S8x1x32x256 .bf16) (x9 : Vec F S1x256 .f32)

theorem cover10 (y : S2x2048x256.Idx) : ∃ pc ∈ (ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).1, y ∈ pc.1.set :=
  View.cover_of_tiledBy (ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).1 S1x32x256.size (by sl_kernel_rfl) y

theorem cover11 (y : S8x1x32x256.Idx) : ∃ pc ∈ (ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.1, y ∈ pc.1.set :=
  View.cover_of_tiledBy _ ![1, 1, 32, 256] (by sl_kernel_rfl) y

theorem cover12 (y : S8x1x32x256.Idx) : ∃ pc ∈ (ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.1, y ∈ pc.1.set :=
  View.cover_of_tiledBy _ ![1, 1, 32, 256] (by sl_kernel_rfl) y

theorem cover13 (y : S8x256.Idx) : ∃ pc ∈ (ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.1, y ∈ pc.1.set :=
  View.cover_of_tiledBy (ran (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.1 S8x256.size (by sl_kernel_rfl) y

end cover

variable (m : (ℓ : Loc nD τ sig) → Buf (Elt F) ℓ) (ρ : Dev nD → PrngReg)

/-! Each window's staging memref at a point, the outputs' staging buffers, and the scratch buffers. -/

abbrev ms0 (t : Fin cfg0.N) : Memref sig .tc .vmem S2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x2048x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8x1x32x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1x32x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x2048x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S8x1x32x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S8x1x32x256 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S8x256 .f32 := win0_13.stage (cfg0.slots t 13)
abbrev hs13 (t : Fin cfg0.N) : (ms13 t).IsWhole := hstage0_13 ((cfg0.slots t 13).cast nbuf0_13)
abbrev VO10 : View sig .tc .vmem S2x2048x256 .bf16 := (Memref.whole cc0_stg10_0 : Memref sig .tc .vmem S2x2048x256 .bf16).view
abbrev VO11 : View sig .tc .vmem S8x1x32x256 .bf16 := (Memref.whole cc0_stg11_0 : Memref sig .tc .vmem S8x1x32x256 .bf16).view
abbrev VO12 : View sig .tc .vmem S8x1x32x256 .bf16 := (Memref.whole cc0_stg12_0 : Memref sig .tc .vmem S8x1x32x256 .bf16).view
abbrev VO13 : View sig .tc .vmem S8x256 .f32 := (Memref.whole cc0_stg13_0 : Memref sig .tc .vmem S8x256 .f32).view
abbrev sc0 : Memref sig .tc .vmem S2056x256 .f32 := Memref.whole cc0_scratch0
abbrev sc1 : Memref sig .tc .vmem S2056x256 .f32 := Memref.whole cc0_scratch1
abbrev sc2 : Memref sig .tc .vmem S2048x256 .f32 := Memref.whole cc0_scratch2
abbrev sc3 : Memref sig .tc .vmem S2048x256 .f32 := Memref.whole cc0_scratch3
abbrev sc4 : Memref sig .tc .vmem S2056x256 .f32 := Memref.whole cc0_scratch4
abbrev sc5 : Memref sig .tc .vmem S2056x256 .f32 := Memref.whole cc0_scratch5
abbrev sc6 : Memref sig .tc .vmem S256x256 .f32 := Memref.whole cc0_scratch6
abbrev sc7 : Memref sig .tc .vmem S256x256 .f32 := Memref.whole cc0_scratch7
abbrev sc8 : Memref sig .tc .vmem S256x256 .bf16 := Memref.whole cc0_scratch8
abbrev sc9 : Memref sig .tc .vmem S256x256 .bf16 := Memref.whole cc0_scratch9

/-- What the launch lends the body besides the windows: the scratch buffers at some contents, and the generator. -/
theorem lent_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

/-- The run of the body at point `t`. -/
abbrev ranAt (c : Dev nD) (t : Fin cfg0.N) :=
  ran (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- What output 10 holds after the body at point `t`. -/
def outAt10 (c : Dev nD) (t : Fin cfg0.N) : Vec F S2x2048x256 .bf16 :=
  VO10.read (Elt F) (VO10.writes (Elt F) VO10.junk (ranAt m c t).1)

/-- What output 11 holds after the body at point `t`. -/
def outAt11 (c : Dev nD) (t : Fin cfg0.N) : Vec F S8x1x32x256 .bf16 :=
  VO11.read (Elt F) (VO11.writes (Elt F) VO11.junk (ranAt m c t).2.1)

/-- What output 12 holds after the body at point `t`. -/
def outAt12 (c : Dev nD) (t : Fin cfg0.N) : Vec F S8x1x32x256 .bf16 :=
  VO12.read (Elt F) (VO12.writes (Elt F) VO12.junk (ranAt m c t).2.2.1)

/-- What output 13 holds after the body at point `t`. -/
def outAt13 (c : Dev nD) (t : Fin cfg0.N) : Vec F S8x256 .f32 :=
  VO13.read (Elt F) (VO13.writes (Elt F) VO13.junk (ranAt m c t).2.2.2.1)

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt10 m c t
    | ⟨11, _⟩ => outAt11 m c t
    | ⟨12, _⟩ => outAt12 m c t
    | ⟨13, _⟩ => outAt13 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outAt10 m c t := by dsimp only [dats]
theorem after11 (c : Dev nD) (t : Fin cfg0.N) : (dats m 0 c).after 11 t = outAt11 m c t := by dsimp only [dats]
theorem after12 (c : Dev nD) (t : Fin cfg0.N) : (dats m 0 c).after 12 t = outAt12 m c t := by dsimp only [dats]
theorem after13 (c : Dev nD) (t : Fin cfg0.N) : (dats m 0 c).after 13 t = outAt13 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  rw [show (dats m 0 c).Φ t.castSucc = Pipeline.ΦA spec0 c from rfl, lent_eq]
  unfold outAt10 outAt11 outAt12 outAt13
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((ran (F := F) c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, H8, H9, ⟨%e10, H10⟩, ⟨%e11, H11⟩, ⟨%e12, H12⟩, ⟨%e13, H13⟩, ⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩
  isplitl [S0 S1 S2 S3 S4 S5 S6 S7 S8 S9 Hg]
  · isplitl [S0 S1 S2 S3 S4 S5 S6 S7 S8 S9]
    · isplitl [S0]
      · iexists _; unfold owns; iexists _; isplitr
        swap; · iexact S0
        ipureintro; rfl
      isplitl [S1]
      · iexists _; unfold owns; iexists _; isplitr
        swap; · iexact S1
        ipureintro; rfl
      isplitl [S2]
      · iexists _; unfold owns; iexists _; isplitr
        swap; · iexact S2
        ipureintro; rfl
      isplitl [S3]
      · iexists _; unfold owns; iexists _; isplitr
        swap; · iexact S3
        ipureintro; rfl
      isplitl [S4]
      · iexists _; unfold owns; iexists _; isplitr
        swap; · iexact S4
        ipureintro; rfl
      isplitl [S5]
      · iexists _; unfold owns; iexists _; isplitr
        swap; · iexact S5
        ipureintro; rfl
      isplitl [S6]
      · iexists _; unfold owns; iexists _; isplitr
        swap; · iexact S6
        ipureintro; rfl
      isplitl [S7]
      · iexists _; unfold owns; iexists _; isplitr
        swap; · iexact S7
        ipureintro; rfl
      isplitl [S8]
      · iexists _; unfold owns; iexists _; isplitr
        swap; · iexact S8
        ipureintro; rfl
      iexists _; unfold owns; iexists _; isplitr
      swap; · iexact S9
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover10 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover11 c _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover12 c _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover13 c _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots. -/
theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The program runs to the launch's post, every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.Kernel2Ideal.Lru

end
-- ==== Proof.Lru.Claim.lean ====
/- The frames of the recurrence's backward call: of the kernel over any arithmetic, and of the plain reference. -/
module

public import proofs.«01_k».proof.Defs
public import proofs.«01_k».proof.Proof.Lru.Frame
public import proofs.«01_k».proof.Proof.Gen.Kernel2.Frame
public import proofs.«01_k».proof.Proof.Gen.Reference2Ideal.Run
public import Idealize.ShloMosaic.Lib.Quiescent

@[expose] public section

noncomputable section

namespace Cert.Proof.Lru

open Idealize.ShloMosaic Idealize.ShloMosaic.TcCoe Idealize.ShloMosaic.Tactic Idealize.SL.Sem

/-- What the kernel's frame says, for the program as it stands on the chip's words, is what it says of the idealized program read at the words. -/
theorem same_frame : Cert.quiescent_Kernel2 (hKernel2 := Cert.Kernel2.Gen.facts) = ∀ (m : (ℓ : Loc Cert.Kernel2Ideal.nD Cert.Kernel2Ideal.τ Cert.Kernel2Ideal.sig) → Buf (Elt Bits) ℓ) (g : Dev Cert.Kernel2Ideal.nD → PrngReg), Cert.Pre_Kernel2 m →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0) := by
  sl_kernel_rfl

/-- The kernel's frame on the chip's words. -/
theorem frame_words : Cert.quiescent_Kernel2 (hKernel2 := Cert.Kernel2.Gen.facts) := by
  rw [same_frame]
  exact fun m ρ _ => Cert.Kernel2Ideal.Lru.frame m ρ

/-- The reference terminates, leaves its arguments as they were, and no semaphore is ever raised. -/
theorem frame_reference : Cert.quiescent_Reference2Ideal := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run (F := Ideal) m ρ)

end Cert.Proof.Lru

end
-- ==== Proof.Steps.Frames.lean ====
/- The frames of three plain references: each terminates, leaves its arguments as they were, and no semaphore is ever raised. -/
module

public import proofs.«01_k».proof.Defs
public import proofs.«01_k».proof.Proof.Gen.Reference3Ideal.Run
public import proofs.«01_k».proof.Proof.Gen.Reference4Ideal.Run
public import proofs.«01_k».proof.Proof.Gen.Reference6Ideal.Run
public import Idealize.ShloMosaic.Lib.Quiescent

@[expose] public section

noncomputable section

namespace Cert.Proof.Steps

open Idealize.ShloMosaic Idealize.ShloMosaic.TcCoe Idealize.SL.Sem

/-- The frame of the reference of the last norm, the loss and the gated unit. -/
theorem frame_reference3 : Cert.quiescent_Reference3Ideal := fun m ρ _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m ρ)

/-- The frame of the reference of the feed-forward layer's convolution. -/
theorem frame_reference4 : Cert.quiescent_Reference4Ideal := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)

/-- The frame of the reference of the first norm. -/
theorem frame_reference6 : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

end Cert.Proof.Steps

end
-- ==== Proof.Steps.Reals.lean ====
/- Extended-real expressions whose parts are all finite, read as real ones: sums, quotients, roots, and the constants that the programs write. -/
module

public import Idealize.ShloMosaic.Lib.Pointwise
public import Idealize.ShloMosaic.PureOps.Ideal

@[expose] public section

noncomputable section

namespace Cert.Proof.Reals

open Idealize.ShloMosaic

/-- A sum of finite terms is finite. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a number that is not zero. -/
theorem coe_div {y : ℝ} (h : y ≠ 0) (x : ℝ) : Ideal.div (x : EReal) (y : EReal) = ((x / y : ℝ) : EReal) := by
  rw [Ideal.div_coe h, ← EReal.coe_mul, mul_one_div]

/-- The reciprocal root of a positive number. -/
theorem coe_rsqrt {x : ℝ} (h : 0 < x) : Ideal.rsqrt (x : EReal) = (((Real.sqrt x)⁻¹ : ℝ) : EReal) := by
  rw [Ideal.rsqrt_coe, if_neg (not_lt.mpr h.le), if_neg h.ne']

/-- A finite extended real is a real number. -/
theorem coe_of_abs_lt {x : EReal} (h : Ideal.cmp .olt (max x (-x)) ⊤ = 1#1) : ((x.toReal : ℝ) : EReal) = x := by
  refine EReal.coe_toReal ?_ ?_
  · rintro rfl; simp [Ideal.cmp] at h
  · rintro rfl; simp [Ideal.cmp] at h

theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_minus_half : Ideal.ofBits .f32 0xBF000000#32 = ((-(1 / 2) : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_inv1024 : Ideal.ofBits .f32 0x3A800000#32 = ((1 / 1024 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num

/-- The number added under the root of every norm. -/
def eps : ℝ := 8796093 / 8796093022208
theorem word_eps : Ideal.ofBits .f32 0x358637BD#32 = ((eps : ℝ) : EReal) := by
  simp [Ideal.ofBits, Ideal.ieee, -EReal.coe_mul, eps]; norm_num
theorem eps_pos : 0 < eps := by norm_num [eps]

/-- The factor inside the unit's hyperbolic tangent. -/
def geluK : ℝ := 6693141 / 8388608
theorem word_geluK : Ideal.ofBits .f32 0x3F4C422A#32 = ((geluK : ℝ) : EReal) := by
  simp [Ideal.ofBits, Ideal.ieee, -EReal.coe_mul, geluK]; norm_num
theorem word_44715 : Ideal.ofBits .f32 0x472EAB00#32 = ((44715 : ℝ) : EReal) := by
  simp [Ideal.ofBits, Ideal.ieee, -EReal.coe_mul]; norm_num
theorem word_million : Ideal.ofBits .f32 0x49742400#32 = ((1000000 : ℝ) : EReal) := by
  simp [Ideal.ofBits, Ideal.ieee, -EReal.coe_mul]; norm_num

end Cert.Proof.Reals

end
-- ==== Proof.Steps.Norm.lean ====
/- The norm of a row of 1024 reals and its gradient, in the two forms the programs write. -/
module

public import proofs.«01_k».proof.Proof.Steps.Reals

@[expose] public section

noncomputable section

namespace Cert.Proof.Reals

open Idealize.ShloMosaic

/-- The mean square of a row, with the small number added. -/
def meanSq (o : Fin 1024 → ℝ) : ℝ := (∑ d, o d * o d) / 1024 + eps

theorem meanSq_pos (o : Fin 1024 → ℝ) : 0 < meanSq o :=
  add_pos_of_nonneg_of_pos (div_nonneg (Finset.sum_nonneg fun d _ => mul_self_nonneg (o d)) (by norm_num)) eps_pos

/-- The reciprocal root of it. -/
def root (o : Fin 1024 → ℝ) : ℝ := (Real.sqrt (meanSq o))⁻¹

theorem root_sq (o : Fin 1024 → ℝ) : root o * root o = (meanSq o)⁻¹ := by
  rw [root, ← mul_inv, Real.mul_self_sqrt (meanSq_pos o).le]

/-- The gradient of the norm of a row at a cotangent, as the kernels compute it. -/
def normBack (o v : Fin 1024 → ℝ) (d : Fin 1024) : ℝ :=
  root o * (v d - o d * root o * ((∑ d', o d' * root o * v d') / 1024))

/-- … and as differentiating the square and the root one after the other gives it. -/
theorem normBack_eq (o v : Fin 1024 → ℝ) (d : Fin 1024) (s : ℝ)
    (hs : s = (∑ d', o d' * v d') * (-(1 / 2) * (root o / meanSq o)) / 1024) :
    v d * root o + o d * s + s * o d = normBack o v d := by
  have e : ∑ d', o d' * root o * v d' = root o * ∑ d', o d' * v d' := by
    rw [Finset.mul_sum]; exact Finset.sum_congr rfl fun _ _ => by ring
  have h := root_sq o
  subst hs
  rw [normBack, e, div_eq_mul_inv (root o) (meanSq o), ← h]
  ring

/-- The mean square of a row of finite extended reals, as the programs write it. -/
theorem meanSq_coe (o : Fin 1024 → ℝ) :
    Ideal.div (((∑ d, o d * o d : ℝ)) : EReal) (Ideal.ofBits .f32 0x44800000#32) + Ideal.ofBits .f32 0x358637BD#32 = ((meanSq o : ℝ) : EReal) := by
  rw [word_1024, word_eps, coe_div (by norm_num), ← EReal.coe_add]; rfl

/-- … and its reciprocal root. -/
theorem root_coe (o : Fin 1024 → ℝ) : Ideal.rsqrt ((meanSq o : ℝ) : EReal) = ((root o : ℝ) : EReal) := coe_rsqrt (meanSq_pos o)

end Cert.Proof.Reals

end
-- ==== Proof.FfnDown.Closed.lean ====
/- The last norm, the loss and the gated unit: what both programs compute, as real functions of finite arguments. -/
module

public import proofs.«01_k».proof.Proof.Steps.Norm

@[expose] public section

noncomputable section

namespace Cert.Proof.FfnDown

open Cert.Proof.Reals

/-- What stands inside the hyperbolic tangent. -/
def inner (x : ℝ) : ℝ := geluK * (x + 8943 / 200000 * x * x * x)

/-- The unit's gate function. -/
def gelu (x : ℝ) : ℝ := 1 / 2 * x * (1 + Real.tanh (inner x))

/-- Its derivative. -/
def geluD (x : ℝ) : ℝ :=
  1 / 2 * (1 + Real.tanh (inner x)) + 1 / 2 * x * (1 - Real.tanh (inner x) * Real.tanh (inner x)) * geluK * (1 + 26829 / 200000 * x * x)

section Row

variable (o x t g : Fin 1024 → ℝ)

/-- The error of a row: the norm of the product's row added to the residual, less the target. -/
def err (d : Fin 1024) : ℝ := x d + o d * root o * g d - t d

/-- The gradient of the loss at it. -/
def dy (d : Fin 1024) : ℝ := err o x t g d * (1 / 1024)

/-- The gradient at the product's row. -/
def dOut (d : Fin 1024) : ℝ := normBack o (fun d => dy o x t g d * g d) d

end Row

section Arrays

variable (a : Fin 2048 → Fin 6144 → ℝ) (w : Fin 3072 → Fin 1024 → ℝ) (x t : Fin 2048 → Fin 1024 → ℝ) (g : Fin 1024 → ℝ)

/-- The gated unit. -/
def unit (n : Fin 2048) (k : Fin 3072) : ℝ := gelu (a n ⟨k.val, by omega⟩) * a n ⟨3072 + k.val, by omega⟩

/-- The product with the matrix after it. -/
def out (n : Fin 2048) (d : Fin 1024) : ℝ := ∑ k, unit a n k * w k d

/-- The gradient at the loss's argument. -/
def dyA (n : Fin 2048) (d : Fin 1024) : ℝ := dy (out a w n) (x n) (t n) g d

/-- The gradient at the product. -/
def dOutA (n : Fin 2048) (d : Fin 1024) : ℝ := dOut (out a w n) (x n) (t n) g d

/-- The gradient at the unit. -/
def dUnit (n : Fin 2048) (k : Fin 3072) : ℝ := ∑ d, dOutA a w x t g n d * w k d

/-- The gradient at the unit's argument. -/
def back (n : Fin 2048) (q : Fin 6144) : ℝ :=
  if h : q.val < 3072 then dUnit a w x t g n ⟨q.val, h⟩ * a n ⟨3072 + q.val, by omega⟩ * geluD (a n q)
  else dUnit a w x t g n ⟨q.val - 3072, by omega⟩ * gelu (a n ⟨q.val - 3072, by omega⟩)

/-- The gradient of the norm's scale. -/
def dScale (d : Fin 1024) : ℝ := ∑ n, dyA a w x t g n d * (out a w n d * root (out a w n))

/-- The loss. -/
def loss : ℝ := 1 / 2048 * ∑ n, ∑ d, err (out a w n) (x n) (t n) g d * err (out a w n) (x n) (t n) g d

end Arrays

end Cert.Proof.FfnDown

end
-- ==== Proof.FfnDown.Block.lean ====
/- One block of 256 rows of the kernel, from finite inputs: what each stored value is, as a real number. -/
module

public import proofs.«01_k».proof.Proof.FfnDown.Closed
public import proofs.«01_k».proof.Proof.Gen.Kernel3Ideal.Skeleton
public import Idealize.ShloMosaic.PureOps.IdealRules

@[expose] public section

set_option maxRecDepth 16384

noncomputable section

namespace Cert.Kernel3Ideal.FfnDown

open Cert.Kernel3Ideal Cert.Kernel3Ideal.Gen Idealize.ShloMosaic Idealize.ShloMosaic.TcCoe
open Cert.Proof.Reals Cert.Proof.FfnDown

theorem named_c : Named.named (F := Ideal) κ "gelu_c" (φ := .f32) 0x3D372713#32 = ((8943 / 200000 : ℝ) : EReal) :=
  (IdealRules.named_const.statement κ "gelu_c" .f32 0x3D372713#32 _ rfl).2.2
theorem named_3c : Named.named (F := Ideal) κ "gelu_3c" (φ := .f32) 0x3E095D4F#32 = ((26829 / 200000 : ℝ) : EReal) :=
  (IdealRules.named_const.statement κ "gelu_3c" .f32 0x3E095D4F#32 _ rfl).2.2

section Rows

variable {x0 : Vec Ideal S256x3072 .bf16} {x2 : Vec Ideal S3072x1024 .bf16} {o : Fin 256 → Fin 1024 → ℝ}
  {f : Fin 256 → Fin 3072 → ℝ} {w : Fin 3072 → Fin 1024 → ℝ}

/-- The product's rows. -/
theorem out_real (h0 : ∀ r k, x0 (ix2 r k) = ((f r k : ℝ) : EReal)) (h2 : ∀ k d, x2 (ix2 k d) = ((w k d : ℝ) : EReal)) (r : Fin 256) (d : Fin 1024) :
    k0_pay5 x0 x2 (ix2 r d) = ((∑ k, f r k * w k d : ℝ) : EReal) := by
  pointwise [k0_pay5]
  simp only [h0, h2, ← EReal.coe_mul, coe_sum]

variable (ho : ∀ r d, k0_pay5 x0 x2 (ix2 r d) = ((o r d : ℝ) : EReal))
include ho

/-- The reciprocal root of a row. -/
theorem root_real (r : Fin 256) (z : Fin 1) : k0_pay6 x0 x2 (ix2 r z) = ((root (o r) : ℝ) : EReal) := by
  pointwise [k0_pay6]
  simp only [ho, ← EReal.coe_mul, coe_sum, meanSq_coe, root_coe]

/-- A row over its root. -/
theorem normed_real (r : Fin 256) (d : Fin 1024) : k0_pay7 x0 x2 (ix2 r d) = ((o r d * root (o r) : ℝ) : EReal) := by
  pointwise [k0_pay7]
  rw [root_real ho, ho, ← EReal.coe_mul]

variable {x3 x4 : Vec Ideal S256x1024 .f32} {x5 : Vec Ideal S1x1024 .f32} {x t : Fin 256 → Fin 1024 → ℝ} {g : Fin 1024 → ℝ}

/-- The error. -/
theorem err_real (h3 : ∀ r d, x3 (ix2 r d) = ((x r d : ℝ) : EReal)) (h4 : ∀ r d, x4 (ix2 r d) = ((t r d : ℝ) : EReal))
    (h5 : ∀ z d, x5 (ix2 z d) = ((g d : ℝ) : EReal)) (r : Fin 256) (d : Fin 1024) :
    k0_pay8 x0 x2 x3 x5 x4 (ix2 r d) = ((err (o r) (x r) (t r) g d : ℝ) : EReal) := by
  pointwise [k0_pay8]
  rw [normed_real ho, h3, h4, h5]
  simp only [← EReal.coe_mul, ← EReal.coe_add, ← EReal.coe_sub]; rfl

end Rows

section Results

variable {v14 : FVec Ideal S256x1 .f32} {v16 v24 : FVec Ideal S256x1024 .f32} {x5 : Vec Ideal S1x1024 .f32}
  {o x t : Fin 256 → Fin 1024 → ℝ} {g : Fin 1024 → ℝ}
  (hr : ∀ r z, v14 (ix2 r z) = ((root (o r) : ℝ) : EReal)) (hn : ∀ r d, v16 (ix2 r d) = ((o r d * root (o r) : ℝ) : EReal))
  (he : ∀ r d, v24 (ix2 r d) = ((err (o r) (x r) (t r) g d : ℝ) : EReal)) (h5 : ∀ z d, x5 (ix2 z d) = ((g d : ℝ) : EReal))

include he in
/-- The first result's block. -/
theorem dy_real (r : Fin 256) (d : Fin 1024) : k0_pay10 v24 (ix2 r d) = ((dy (o r) (x r) (t r) g d : ℝ) : EReal) := by
  pointwise [k0_pay10]
  rw [he, word_inv1024, ← EReal.coe_mul]; rfl

include hr hn he h5 in
/-- The second's. -/
theorem dOut_real (r : Fin 256) (d : Fin 1024) : k0_pay12 v14 v16 v24 x5 (ix2 r d) = ((dOut (o r) (x r) (t r) g d : ℝ) : EReal) := by
  have e := dy_real he
  unfold k0_pay12
  generalize k0_pay10 v24 = u at e
  pointwise
  simp only [hr, hn, e, h5, word_1024, ← EReal.coe_mul, coe_sum]
  rw [coe_div (by norm_num)]
  simp only [← EReal.coe_mul, ← EReal.coe_sub]; rfl

include hn he in
/-- What a block adds to the fourth result. -/
theorem scale_real (v40 : Vec Ideal S1x1024 .f32) (z : Fin 1) (d : Fin 1024) :
    k0_pay11 v16 v24 v40 (ix2 z d) = v40 (ix2 z d) + ((∑ r, dy (o r) (x r) (t r) g d * (o r d * root (o r)) : ℝ) : EReal) := by
  have e := dy_real he
  unfold k0_pay11
  generalize k0_pay10 v24 = u at e
  pointwise
  simp only [hn, e, ← EReal.coe_mul, coe_sum]

end Results

/-- What a block adds to the loss. -/
theorem loss_real {x0 : Vec Ideal S256x3072 .bf16} {x2 : Vec Ideal S3072x1024 .bf16} {x3 x4 : Vec Ideal S256x1024 .f32} {x5 : Vec Ideal S1x1024 .f32}
    {e : Fin 256 → Fin 1024 → ℝ} (he : ∀ r d, k0_pay8 x0 x2 x3 x5 x4 (ix2 r d) = ((e r d : ℝ) : EReal)) (v25 : Vec Ideal S8x128 .f32) (i : Fin 8) (l : Fin 128) :
    k0_pay9 x0 x2 x3 x5 x4 v25 (ix2 i l) = v25 (ix2 i l) + ((1 / 2048 * ∑ r, ∑ d, e r d * e r d : ℝ) : EReal) := by
  unfold k0_pay9
  generalize k0_pay8 x0 x2 x3 x5 x4 = u at he
  pointwise
  simp only [he, word_inv2048, ← EReal.coe_mul, coe_sum]

section Unit

/-- The gradient at the unit for a chunk of 512 columns, as the kernel writes it. -/
def dUnitChunk (d : FVec Ideal S256x1024 .bf16) (w : Vec Ideal S512x1024 .bf16) : FVec Ideal S256x512 .f32 :=
  matmul (φ₂ := .bf16) dot_S256x1024_S512x1024_S256x512_1_1_0_0_n_n none d w (constant S256x512 .f32 0x00000000#32)

/-- The hyperbolic tangent in the gate function. -/
def tanhChunk (a : Vec Ideal S256x512 .bf16) : FVec Ideal S256x512 .f32 := k0_pay21 a

/-- The gradient at the gate's argument. -/
def gateChunk (u : FVec Ideal S256x512 .f32) (a v : Vec Ideal S256x512 .bf16) : FVec Ideal S256x512 .bf16 := k0_pay22 u a v

/-- The gradient at the other factor. -/
def valueChunk (u : FVec Ideal S256x512 .f32) (a : Vec Ideal S256x512 .bf16) : FVec Ideal S256x512 .bf16 := k0_pay23 u a

theorem dUnitChunk_real {d : FVec Ideal S256x1024 .bf16} {w : Vec Ideal S512x1024 .bf16} {dR : Fin 256 → Fin 1024 → ℝ} {wR : Fin 512 → Fin 1024 → ℝ}
    (hd : ∀ r k, d (ix2 r k) = ((dR r k : ℝ) : EReal)) (hw : ∀ q k, w (ix2 q k) = ((wR q k : ℝ) : EReal)) (r : Fin 256) (q : Fin 512) :
    dUnitChunk d w (ix2 r q) = ((∑ k, dR r k * wR q k : ℝ) : EReal) := by
  pointwise [dUnitChunk]
  simp only [hd, hw, ← EReal.coe_mul, coe_sum]

variable {u : FVec Ideal S256x512 .f32} {a v : Vec Ideal S256x512 .bf16} {uR aR vR : Fin 256 → Fin 512 → ℝ}
  (hu : ∀ r q, u (ix2 r q) = ((uR r q : ℝ) : EReal)) (ha : ∀ r q, a (ix2 r q) = ((aR r q : ℝ) : EReal)) (hv : ∀ r q, v (ix2 r q) = ((vR r q : ℝ) : EReal))

include ha in
theorem tanhChunk_real (r : Fin 256) (q : Fin 512) : tanhChunk a (ix2 r q) = ((Real.tanh (inner (aR r q)) : ℝ) : EReal) := by
  pointwise [tanhChunk, k0_pay21, k0_pay20]
  simp only [ha, named_c, word_geluK, ← EReal.coe_mul, ← EReal.coe_add, Ideal.tanh_coe]; rfl

include hu ha hv in
theorem gateChunk_real (r : Fin 256) (q : Fin 512) : gateChunk u a v (ix2 r q) = ((uR r q * vR r q * geluD (aR r q) : ℝ) : EReal) := by
  have e := tanhChunk_real ha
  unfold tanhChunk at e
  unfold gateChunk k0_pay22
  generalize k0_pay21 a = th at e
  pointwise [k0_pay20]
  simp only [hu, hv, ha, e, named_3c, word_geluK, word_half, ← EReal.coe_one, ← EReal.coe_mul, ← EReal.coe_add, ← EReal.coe_sub]; rfl

include hu ha in
theorem valueChunk_real (r : Fin 256) (q : Fin 512) : valueChunk u a (ix2 r q) = ((uR r q * gelu (aR r q) : ℝ) : EReal) := by
  have e := tanhChunk_real ha
  unfold tanhChunk at e
  unfold valueChunk k0_pay23
  generalize k0_pay21 a = th at e
  pointwise [k0_pay20]
  simp only [hu, ha, e, word_half, ← EReal.coe_one, ← EReal.coe_mul, ← EReal.coe_add]; rfl

end Unit

end Cert.Kernel3Ideal.FfnDown

end
-- ==== Proof.FfnDown.Stored.lean ====
/- What one grid point leaves in each output's buffer, from blocks of finite reals: at the first point and at a later one. -/
module

public import proofs.«01_k».proof.Proof.FfnDown.Block
public import proofs.«01_k».proof.Proof.Gen.Kernel3Ideal.Frame
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Kernel3Ideal.FfnDown

open Cert.Kernel3Ideal Cert.Kernel3Ideal.Gen Idealize.ShloMosaic Idealize.ShloMosaic.TcCoe
open Cert.Proof.Reals Cert.Proof.FfnDown

/-- A block of reals, as the program holds it. -/
def block {n k : ℕ} (f : Fin n → Fin k → ℝ) : ({ rank := 2, size := ![n, k] } : Shape).Idx → EReal := fun y => ((f (y 0) (y 1) : ℝ) : EReal)

/-- The gradient at the unit's argument, by the row's gradient at the product. -/
def backRow (d : Fin 256 → Fin 1024 → ℝ) (w : Fin 3072 → Fin 1024 → ℝ) (a : Fin 256 → Fin 6144 → ℝ) (r : Fin 256) (q : Fin 6144) : ℝ :=
  if h : q.val < 3072 then (∑ k, d r k * w ⟨q.val, h⟩ k) * a r ⟨3072 + q.val, by omega⟩ * geluD (a r q)
  else (∑ k, d r k * w ⟨q.val - 3072, by omega⟩ k) * gelu (a r ⟨q.val - 3072, by omega⟩)

/-- A load of a whole block is the block. -/
theorem whole {n k : ℕ} {e : EltTy} (v : Vec Ideal { rank := 2, size := ![n, k] } e)
    (inb : ∀ b, (![0, 0] : Fin 2 → ℕ) b + (![n, k] : Fin 2 → ℕ) b ≤ (![n, k] : Fin 2 → ℕ) b) :
    View.ld v (Rect.unit (s := { rank := 2, size := ![n, k] }) ![0, 0] ![n, k] inb) = v :=
  View.ld_unit_lit _ _ fun b => match b with | ⟨0, _⟩ => rfl | ⟨1, _⟩ => rfl

section Pieces

variable {D : FVec Ideal S256x1024 .bf16} {x1 : Vec Ideal S256x6144 .bf16} {x2 : Vec Ideal S3072x1024 .bf16}
  {d : Fin 256 → Fin 1024 → ℝ} {w : Fin 3072 → Fin 1024 → ℝ} {a : Fin 256 → Fin 6144 → ℝ}
  (hD : ∀ r k, D (ix2 r k) = ((d r k : ℝ) : EReal)) (h1 : ∀ r q, x1 (ix2 r q) = ((a r q : ℝ) : EReal)) (h2 : ∀ k l, x2 (ix2 k l) = ((w k l : ℝ) : EReal))

include h1 in
/-- A chunk of 512 columns loaded from the unit's argument. -/
theorem columns (o : ℕ) (inb : ∀ b, (![0, o] : Fin 2 → ℕ) b + (![256, 512] : Fin 2 → ℕ) b ≤ S256x6144.size b) (ho : o + 512 ≤ 6144) (r : Fin 256) (q : Fin 512) :
    View.ld x1 (Rect.unit (s := S256x6144) ![0, o] ![256, 512] inb) (ix2 r q) = ((a r ⟨o + q.val, by omega⟩ : ℝ) : EReal) := by
  rw [← h1]
  refine congrArg x1 (funext fun b => Fin.ext ?_)
  refine (ValueKit.rect_emb_unit_val _ _ _ _ _).trans ?_
  match b with
  | ⟨0, _⟩ => exact Nat.zero_add _
  | ⟨1, _⟩ => rfl

include h2 in
/-- A chunk of 512 rows loaded from the matrix. -/
theorem matrixRows (o : ℕ) (inb : ∀ b, (![o, 0] : Fin 2 → ℕ) b + (![512, 1024] : Fin 2 → ℕ) b ≤ S3072x1024.size b) (ho : o + 512 ≤ 3072) (q : Fin 512) (k : Fin 1024) :
    View.ld x2 (Rect.unit (s := S3072x1024) ![o, 0] ![512, 1024] inb) (ix2 q k) = ((w ⟨o + q.val, by omega⟩ k : ℝ) : EReal) := by
  rw [← h2]
  refine congrArg x2 (funext fun b => Fin.ext ?_)
  refine (ValueKit.rect_emb_unit_val _ _ _ _ _).trans ?_
  match b with
  | ⟨0, _⟩ => rfl
  | ⟨1, _⟩ => exact Nat.zero_add _

/-- A chunk's place in the buffer. -/
theorem block_emb (f : Fin 256 → Fin 6144 → ℝ) (o : ℕ) (inb : ∀ b, (![0, o] : Fin 2 → ℕ) b + (![256, 512] : Fin 2 → ℕ) b ≤ S256x6144.size b) (ho : o + 512 ≤ 6144)
    (r : Fin 256) (q : Fin 512) :
    (block f : Vec Ideal S256x6144 .bf16) ((Rect.unit (s := S256x6144) ![0, o] ![256, 512] inb).emb (ix2 r q)) = ((f r ⟨o + q.val, by omega⟩ : ℝ) : EReal) :=
  columns (a := f) (x1 := (block f : Vec Ideal S256x6144 .bf16)) (fun _ _ => rfl) o inb ho r q

include hD h1 h2 in
/-- A stored chunk of the gate's half. -/
theorem gate_piece (o p : ℕ) (ho : o + 512 ≤ 3072) (hp : p = 3072 + o)
    (inb : ∀ b, (![0, o] : Fin 2 → ℕ) b + (![256, 512] : Fin 2 → ℕ) b ≤ S256x6144.size b)
    (inb' : ∀ b, (![0, p] : Fin 2 → ℕ) b + (![256, 512] : Fin 2 → ℕ) b ≤ S256x6144.size b)
    (inw : ∀ b, (![o, 0] : Fin 2 → ℕ) b + (![512, 1024] : Fin 2 → ℕ) b ≤ S3072x1024.size b) (y : S256x512.Idx) :
    gateChunk (dUnitChunk D (View.ld x2 (Rect.unit (s := S3072x1024) ![o, 0] ![512, 1024] inw))) (View.ld x1 (Rect.unit (s := S256x6144) ![0, o] ![256, 512] inb))
        (View.ld x1 (Rect.unit (s := S256x6144) ![0, p] ![256, 512] inb')) y
      = (block (backRow d w a) : Vec Ideal S256x6144 .bf16) ((Rect.unit (s := S256x6144) ![0, o] ![256, 512] inb).emb y) := by
  subst hp
  idx_vars y
  rw [block_emb _ o inb (by omega), gateChunk_real (dUnitChunk_real hD (matrixRows h2 o inw ho)) (columns h1 o inb (by omega)) (columns h1 (3072 + o) inb' (by omega)),
    backRow, dif_pos (show o + y1.val < 3072 by omega)]
  simp only [Nat.add_assoc]

include hD h1 h2 in
/-- A stored chunk of the other half. -/
theorem value_piece (o p : ℕ) (ho : o + 512 ≤ 3072) (hp : p = 3072 + o)
    (inb : ∀ b, (![0, o] : Fin 2 → ℕ) b + (![256, 512] : Fin 2 → ℕ) b ≤ S256x6144.size b)
    (inb' : ∀ b, (![0, p] : Fin 2 → ℕ) b + (![256, 512] : Fin 2 → ℕ) b ≤ S256x6144.size b)
    (inw : ∀ b, (![o, 0] : Fin 2 → ℕ) b + (![512, 1024] : Fin 2 → ℕ) b ≤ S3072x1024.size b) (y : S256x512.Idx) :
    valueChunk (dUnitChunk D (View.ld x2 (Rect.unit (s := S3072x1024) ![o, 0] ![512, 1024] inw))) (View.ld x1 (Rect.unit (s := S256x6144) ![0, o] ![256, 512] inb)) y
      = (block (backRow d w a) : Vec Ideal S256x6144 .bf16) ((Rect.unit (s := S256x6144) ![0, p] ![256, 512] inb').emb y) := by
  subst hp
  idx_vars y
  rw [block_emb _ (3072 + o) inb' (by omega), valueChunk_real (dUnitChunk_real hD (matrixRows h2 o inw ho)) (columns h1 o inb (by omega)),
    backRow, dif_neg (show ¬3072 + o + y1.val < 3072 by omega)]
  simp only [show 3072 + o + y1.val - 3072 = o + y1.val by omega]

end Pieces

variable (c : Dev nD) (i : grid0.Coords) (arg1 : Memref sig .tc .vmem S256x3072 .bf16) (harg1 : arg1.IsWhole) (arg2 : Memref sig .tc .vmem S256x6144 .bf16) (harg2 : arg2.IsWhole) (arg3 : Memref sig .tc .vmem S3072x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S256x6144 .bf16) (harg9 : arg9.IsWhole) (arg10 : Memref sig .tc .vmem S1x1024 .f32) (harg10 : arg10.IsWhole) (arg11 : Memref sig .tc .vmem S8x128 .f32) (harg11 : arg11.IsWhole)
  (x0 : Vec Ideal S256x3072 .bf16) (x1 : Vec Ideal S256x6144 .bf16) (x2 : Vec Ideal S3072x1024 .bf16) (x3 x4 : Vec Ideal S256x1024 .f32) (x5 : Vec Ideal S1x1024 .f32)
  (x9 : Vec Ideal S1x1024 .f32) (x10 : Vec Ideal S8x128 .f32)

/-- At a later point the first three results' pieces are those of the first point. -/
theorem later_pieces (hc0 : cond0_0 i) (i' : grid0.Coords) (hc : ¬cond0_0 i') :
    (kernelRun0_B c i' arg1 harg1 arg2 harg2 arg3 harg3 arg4 harg4 arg5 harg5 arg6 harg6 arg7 harg7 arg8 harg8 arg9 harg9 arg10 harg10 arg11 harg11  hc x0 x1 x2 x3 x4 x5 x9 x10).1 = (kernelRun0_A c i arg1 harg1 arg2 harg2 arg3 harg3 arg4 harg4 arg5 harg5 arg6 harg6 arg7 harg7 arg8 harg8 arg9 harg9 arg10 harg10 arg11 harg11  hc0 x0 x1 x2 x3 x4 x5).1
    ∧ (kernelRun0_B c i' arg1 harg1 arg2 harg2 arg3 harg3 arg4 harg4 arg5 harg5 arg6 harg6 arg7 harg7 arg8 harg8 arg9 harg9 arg10 harg10 arg11 harg11  hc x0 x1 x2 x3 x4 x5 x9 x10).2.1 = (kernelRun0_A c i arg1 harg1 arg2 harg2 arg3 harg3 arg4 harg4 arg5 harg5 arg6 harg6 arg7 harg7 arg8 harg8 arg9 harg9 arg10 harg10 arg11 harg11  hc0 x0 x1 x2 x3 x4 x5).2.1
    ∧ (kernelRun0_B c i' arg1 harg1 arg2 harg2 arg3 harg3 arg4 harg4 arg5 harg5 arg6 harg6 arg7 harg7 arg8 harg8 arg9 harg9 arg10 harg10 arg11 harg11  hc x0 x1 x2 x3 x4 x5 x9 x10).2.2.1 = (kernelRun0_A c i arg1 harg1 arg2 harg2 arg3 harg3 arg4 harg4 arg5 harg5 arg6 harg6 arg7 harg7 arg8 harg8 arg9 harg9 arg10 harg10 arg11 harg11  hc0 x0 x1 x2 x3 x4 x5).2.2.1 := by
  refine ⟨?_, ?_, ?_⟩ <;> sl_kernel_rfl

/-- The gradient at the loss's argument, as it is stored. -/
theorem first_stored (hc0 : cond0_0 i) :
    View.canon (kernelRun0_A c i arg1 harg1 arg2 harg2 arg3 harg3 arg4 harg4 arg5 harg5 arg6 harg6 arg7 harg7 arg8 harg8 arg9 harg9 arg10 harg10 arg11 harg11  hc0 x0 x1 x2 x3 x4 x5).1 = k0_pay10 (k0_pay8 x0 x2 x3 x5 x4) := by
  unfold kernelRun0_A
  dsimp only
  rw [View.canon_cons_unit_lit _ _ _ (by decide)]
  sl_unfold_words
  simp only [View.readAt_eq_ld, harg1.read_unread, harg3.read_unread, harg4.read_unread, harg5.read_unread, harg6.read_unread, whole]

/-- The gradient at the product, as it is stored. -/
def dBlock (x0 : Vec Ideal S256x3072 .bf16) (x2 : Vec Ideal S3072x1024 .bf16) (x3 x4 : Vec Ideal S256x1024 .f32) (x5 : Vec Ideal S1x1024 .f32) : FVec Ideal S256x1024 .bf16 :=
  k0_pay12 (k0_pay6 x0 x2) (k0_pay7 x0 x2) (k0_pay8 x0 x2 x3 x5 x4) x5

theorem second_stored (hc0 : cond0_0 i) :
    View.canon (kernelRun0_A c i arg1 harg1 arg2 harg2 arg3 harg3 arg4 harg4 arg5 harg5 arg6 harg6 arg7 harg7 arg8 harg8 arg9 harg9 arg10 harg10 arg11 harg11  hc0 x0 x1 x2 x3 x4 x5).2.1 = dBlock x0 x2 x3 x4 x5 := by
  unfold kernelRun0_A
  dsimp only
  rw [View.canon_cons_unit_lit _ _ _ (by decide)]
  sl_unfold_words
  simp only [View.readAt_eq_ld, harg1.read_unread, harg3.read_unread, harg4.read_unread, harg5.read_unread, harg6.read_unread, whole]
  rfl

/-- The gradient at the unit's argument, as it is stored: twelve pieces. -/
theorem third_stored (hc0 : cond0_0 i) {d : Fin 256 → Fin 1024 → ℝ} {w : Fin 3072 → Fin 1024 → ℝ} {a : Fin 256 → Fin 6144 → ℝ}
    (hD : ∀ r k, dBlock x0 x2 x3 x4 x5 (ix2 r k) = ((d r k : ℝ) : EReal)) (h1 : ∀ r q, x1 (ix2 r q) = ((a r q : ℝ) : EReal)) (h2 : ∀ k l, x2 (ix2 k l) = ((w k l : ℝ) : EReal)) :
    View.canon (kernelRun0_A c i arg1 harg1 arg2 harg2 arg3 harg3 arg4 harg4 arg5 harg5 arg6 harg6 arg7 harg7 arg8 harg8 arg9 harg9 arg10 harg10 arg11 harg11  hc0 x0 x1 x2 x3 x4 x5).2.2.1 = block (backRow d w a) := by
  funext y
  have hc := cover0_A_8 c i arg1 harg1 arg2 harg2 arg3 harg3 arg4 harg4 arg5 harg5 arg6 harg6 arg7 harg7 arg8 harg8 arg9 harg9 arg10 harg10 arg11 harg11  hc0 x0 x1 x2 x3 x4 x5 y
  refine (congrArg (fun L => View.canon L y) (List.append_nil _).symm).trans
    (View.canon_append_of_piecesOf (block (backRow d w a)) [] _ ?_ y hc)
  unfold kernelRun0_A
  dsimp only
  sl_unfold_words
  simp only [View.readAt_eq_ld, harg1.read_unread, harg2.read_unread, harg3.read_unread, harg4.read_unread, harg5.read_unread, harg6.read_unread]
  simp only [whole]
  exact ⟨value_piece hD h1 h2 2560 5632 (by decide) rfl inb_S256x6144_S256x512_0_2560 inb_S256x6144_S256x512_0_5632 _,
    gate_piece hD h1 h2 2560 5632 (by decide) rfl inb_S256x6144_S256x512_0_2560 inb_S256x6144_S256x512_0_5632 _,
    value_piece hD h1 h2 2048 5120 (by decide) rfl inb_S256x6144_S256x512_0_2048 inb_S256x6144_S256x512_0_5120 _,
    gate_piece hD h1 h2 2048 5120 (by decide) rfl inb_S256x6144_S256x512_0_2048 inb_S256x6144_S256x512_0_5120 _,
    value_piece hD h1 h2 1536 4608 (by decide) rfl inb_S256x6144_S256x512_0_1536 inb_S256x6144_S256x512_0_4608 _,
    gate_piece hD h1 h2 1536 4608 (by decide) rfl inb_S256x6144_S256x512_0_1536 inb_S256x6144_S256x512_0_4608 _,
    value_piece hD h1 h2 1024 4096 (by decide) rfl inb_S256x6144_S256x512_0_1024 inb_S256x6144_S256x512_0_4096 _,
    gate_piece hD h1 h2 1024 4096 (by decide) rfl inb_S256x6144_S256x512_0_1024 inb_S256x6144_S256x512_0_4096 _,
    value_piece hD h1 h2 512 3584 (by decide) rfl inb_S256x6144_S256x512_0_512 inb_S256x6144_S256x512_0_3584 _,
    gate_piece hD h1 h2 512 3584 (by decide) rfl inb_S256x6144_S256x512_0_512 inb_S256x6144_S256x512_0_3584 _,
    value_piece hD h1 h2 0 3072 (by decide) rfl inb_S256x6144_S256x512_0_0 inb_S256x6144_S256x512_0_3072 _,
    gate_piece hD h1 h2 0 3072 (by decide) rfl inb_S256x6144_S256x512_0_0 inb_S256x6144_S256x512_0_3072 _, trivial⟩

/-- The scale's gradient and the loss after the first point: over zeros. -/
theorem fourth_stored (hc0 : cond0_0 i) :
    View.canon (kernelRun0_A c i arg1 harg1 arg2 harg2 arg3 harg3 arg4 harg4 arg5 harg5 arg6 harg6 arg7 harg7 arg8 harg8 arg9 harg9 arg10 harg10 arg11 harg11  hc0 x0 x1 x2 x3 x4 x5).2.2.2.1 = k0_pay11 (k0_pay7 x0 x2) (k0_pay8 x0 x2 x3 x5 x4) (k0_pay3 (F := Ideal)) := by
  unfold kernelRun0_A
  dsimp only
  rw [View.canon_cons_unit_lit _ _ _ (by decide)]
  sl_unfold_words
  simp only [View.readAt_eq_ld, harg1.read_unread, harg3.read_unread, harg4.read_unread, harg5.read_unread, harg6.read_unread, whole]
  rw [View.readCov_full]

theorem fifth_stored (hc0 : cond0_0 i) :
    View.canon (kernelRun0_A c i arg1 harg1 arg2 harg2 arg3 harg3 arg4 harg4 arg5 harg5 arg6 harg6 arg7 harg7 arg8 harg8 arg9 harg9 arg10 harg10 arg11 harg11  hc0 x0 x1 x2 x3 x4 x5).2.2.2.2.1 = k0_pay9 x0 x2 x3 x5 x4 (k0_pay4 (F := Ideal)) := by
  unfold kernelRun0_A
  dsimp only
  rw [View.canon_cons_unit_lit _ _ _ (by decide)]
  sl_unfold_words
  simp only [View.readAt_eq_ld, harg1.read_unread, harg3.read_unread, harg4.read_unread, harg5.read_unread, harg6.read_unread, whole]
  rw [View.readCov_full]

/-- They after a later point: over what the point before left. -/
theorem fourth_added (hc : ¬cond0_0 i) :
    View.canon (kernelRun0_B c i arg1 harg1 arg2 harg2 arg3 harg3 arg4 harg4 arg5 harg5 arg6 harg6 arg7 harg7 arg8 harg8 arg9 harg9 arg10 harg10 arg11 harg11  hc x0 x1 x2 x3 x4 x5 x9 x10).2.2.2.1 = k0_pay11 (k0_pay7 x0 x2) (k0_pay8 x0 x2 x3 x5 x4) x9 := by
  unfold kernelRun0_B
  dsimp only
  rw [View.canon_cons_unit_lit _ _ _ (by decide)]
  sl_unfold_words
  simp only [View.readAt_eq_ld, harg1.read_unread, harg3.read_unread, harg4.read_unread, harg5.read_unread, harg6.read_unread, harg10.read_unread, whole]

theorem fifth_added (hc : ¬cond0_0 i) :
    View.canon (kernelRun0_B c i arg1 harg1 arg2 harg2 arg3 harg3 arg4 harg4 arg5 harg5 arg6 harg6 arg7 harg7 arg8 harg8 arg9 harg9 arg10 harg10 arg11 harg11  hc x0 x1 x2 x3 x4 x5 x9 x10).2.2.2.2.1 = k0_pay9 x0 x2 x3 x5 x4 x10 := by
  unfold kernelRun0_B
  dsimp only
  rw [View.canon_cons_unit_lit _ _ _ (by decide)]
  sl_unfold_words
  simp only [View.readAt_eq_ld, harg1.read_unread, harg3.read_unread, harg4.read_unread, harg5.read_unread, harg6.read_unread, harg11.read_unread, whole]

end Cert.Kernel3Ideal.FfnDown

end
-- ==== Proof.FfnDown.Inputs.lean ====
/- The kernel's blocks at a grid point, from finite arguments, and the values computed from them. -/
module

public import proofs.«01_k».proof.Proof.FfnDown.Stored
public import proofs.«01_k».proof.Proof.Gen.Kernel3Ideal.Value

@[expose] public section

set_option maxRecDepth 16384

noncomputable section

namespace Cert.Kernel3Ideal.FfnDown

open Cert.Kernel3Ideal Cert.Kernel3Ideal.Gen Idealize.ShloMosaic Idealize.ShloMosaic.TcCoe
open Cert.Proof.Reals Cert.Proof.FfnDown

variable (m : (ℓ : Loc nD τ sig) → Buf (Elt Ideal) ℓ) (c : Dev nD)

/-- The arguments are these real numbers. -/
structure Args (a : Fin 2048 → Fin 6144 → ℝ) (w : Fin 3072 → Fin 1024 → ℝ) (x t : Fin 2048 → Fin 1024 → ℝ) (g : Fin 1024 → ℝ) : Prop where
  act : ∀ n q, (m ((c : Thread nD τ).loc main_arg0) : Vec Ideal S2048x6144 .bf16) (ix2 n q) = ((a n q : ℝ) : EReal)
  matrix : ∀ k d, (m ((c : Thread nD τ).loc main_arg1) : Vec Ideal S3072x1024 .bf16) (ix2 k d) = ((w k d : ℝ) : EReal)
  residual : ∀ n d, (m ((c : Thread nD τ).loc main_arg2) : Vec Ideal S2048x1024 .f32) (ix2 n d) = ((x n d : ℝ) : EReal)
  target : ∀ n d, (m ((c : Thread nD τ).loc main_arg3) : Vec Ideal S2048x1024 .f32) (ix2 n d) = ((t n d : ℝ) : EReal)
  scale : ∀ d, (m ((c : Thread nD τ).loc main_arg4) : Vec Ideal S1024 .f32) (ix1 d) = ((g d : ℝ) : EReal)

/-- The rows of block `j`. -/
def row (j : Fin 8) (r : Fin 256) : Fin 2048 := ⟨256 * j.val + r.val, by omega⟩

/-- Which block of each array a grid point reads or writes. -/
theorem idx_rows : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 ∧ win0_4.index t 0 = t.val ∧ win0_4.index t 1 = 0
    ∧ win0_5.index t 0 = 0 ∧ win0_5.index t 1 = 0 :=
  (by decide +kernel : ∀ t : Fin grid0.N, _)

theorem idx_results : ∀ t : Fin cfg0.N, win0_6.index t 0 = t.val ∧ win0_6.index t 1 = 0 ∧ win0_7.index t 0 = t.val ∧ win0_7.index t 1 = 0
    ∧ win0_8.index t 0 = t.val ∧ win0_8.index t 1 = 0 ∧ win0_9.index t 0 = 0 ∧ win0_9.index t 1 = 0 ∧ win0_10.index t 0 = 0 ∧ win0_10.index t 1 = 0 :=
  (by decide +kernel : ∀ t : Fin grid0.N, _)

section Inputs

variable {m c} {a : Fin 2048 → Fin 6144 → ℝ} {w : Fin 3072 → Fin 1024 → ℝ} {x tg : Fin 2048 → Fin 1024 → ℝ} {g : Fin 1024 → ℝ} (hA : Args m c a w x tg g)
include hA

/-- The unit, as the host's lines leave it. -/
theorem hostUnit (n : Fin 2048) (k : Fin 3072) : (V m c main_v19 : Vec Ideal S2048x3072 .bf16) (ix2 n k) = ((unit a n k : ℝ) : EReal) := by
  have h := hA.act
  unfold V hostOps0
  after_results_simp
  generalize m ((c : Thread nD τ).loc main_arg0) = A at h
  change Vec Ideal S2048x6144 .bf16 at A
  pointwise
  simp only [h, word_half, word_one, word_geluK, word_44715, word_million, ← EReal.coe_mul, ← EReal.coe_add]
  rw [coe_div (by norm_num)]
  simp only [← EReal.coe_one, ← EReal.coe_mul, ← EReal.coe_add, Ideal.tanh_coe]
  refine congrArg Real.toEReal ?_
  unfold unit gelu Cert.Proof.FfnDown.inner
  refine congrArg (· * _) (congrArg (_ * ·) (congrArg (1 + ·) (congrArg Real.tanh (congrArg (geluK * ·) ?_))))
  ring

/-- The norm's scale, as the host's line leaves it. -/
theorem hostScale (z : Fin 1) (d : Fin 1024) : (V m c main_v20 : Vec Ideal S1x1024 .f32) (ix2 z d) = ((g d : ℝ) : EReal) := by
  have h := hA.scale
  unfold V hostOps0
  after_results_simp
  generalize m ((c : Thread nD τ).loc main_arg4) = A at h
  change Vec Ideal S1024 .f32 at A
  pointwise
  exact h d

theorem block0 (t : Fin cfg0.N) (r : Fin 256) (k : Fin 3072) : (iblk m c 0 t : Vec Ideal S256x3072 .bf16) (ix2 r k) = ((unit a (row t r) k : ℝ) : EReal) := by
  obtain ⟨h, z, -⟩ := idx_rows t
  rw [← hostUnit hA]
  blk_simp [iblk, h, z]
  blk_ext
  all_goals (simp only [h, z, row]; omega)

theorem block1 (t : Fin cfg0.N) (r : Fin 256) (q : Fin 6144) : (iblk m c 1 t : Vec Ideal S256x6144 .bf16) (ix2 r q) = ((a (row t r) q : ℝ) : EReal) := by
  obtain ⟨-, -, h, z, -⟩ := idx_rows t
  rw [← hA.act, ← V_main_arg0 m c]
  blk_simp [iblk, h, z]
  blk_ext
  all_goals (simp only [h, z, row]; omega)

theorem block2 (t : Fin cfg0.N) (k : Fin 3072) (d : Fin 1024) : (iblk m c 2 t : Vec Ideal S3072x1024 .bf16) (ix2 k d) = ((w k d : ℝ) : EReal) := by
  obtain ⟨-, -, -, -, h, z, -⟩ := idx_rows t
  rw [← hA.matrix, ← V_main_arg1 m c]
  blk_simp [iblk, h, z]
  blk_ext
  all_goals (simp only [h, z]; omega)

theorem block3 (t : Fin cfg0.N) (r : Fin 256) (d : Fin 1024) : (iblk m c 3 t : Vec Ideal S256x1024 .f32) (ix2 r d) = ((x (row t r) d : ℝ) : EReal) := by
  obtain ⟨-, -, -, -, -, -, h, z, -⟩ := idx_rows t
  rw [← hA.residual, ← V_main_arg2 m c]
  blk_simp [iblk, h, z]
  blk_ext
  all_goals (simp only [h, z, row]; omega)

theorem block4 (t : Fin cfg0.N) (r : Fin 256) (d : Fin 1024) : (iblk m c 4 t : Vec Ideal S256x1024 .f32) (ix2 r d) = ((tg (row t r) d : ℝ) : EReal) := by
  obtain ⟨-, -, -, -, -, -, -, -, h, z, -⟩ := idx_rows t
  rw [← hA.target, ← V_main_arg3 m c]
  blk_simp [iblk, h, z]
  blk_ext
  all_goals (simp only [h, z, row]; omega)

theorem block5 (t : Fin cfg0.N) (y : Fin 1) (d : Fin 1024) : (iblk m c 5 t : Vec Ideal S1x1024 .f32) (ix2 y d) = ((g d : ℝ) : EReal) := by
  obtain ⟨-, -, -, -, -, -, -, -, -, -, h, z⟩ := idx_rows t
  rw [← hostScale hA y]
  blk_simp [iblk, h, z]
  blk_ext
  all_goals (simp only [h, z]; omega)

/-! The values computed from a point's blocks. -/

theorem out_at (t : Fin cfg0.N) (r : Fin 256) (d : Fin 1024) : k0_pay5 (iblk m c 0 t) (iblk m c 2 t) (ix2 r d) = ((out a w (row t r) d : ℝ) : EReal) :=
  out_real (block0 hA t) (block2 hA t) r d

theorem normed_at (t : Fin cfg0.N) (r : Fin 256) (d : Fin 1024) :
    k0_pay7 (iblk m c 0 t) (iblk m c 2 t) (ix2 r d) = ((out a w (row t r) d * root (out a w (row t r)) : ℝ) : EReal) :=
  normed_real (o := fun r => out a w (row t r)) (out_at hA t) r d

theorem err_at (t : Fin cfg0.N) (r : Fin 256) (d : Fin 1024) :
    k0_pay8 (iblk m c 0 t) (iblk m c 2 t) (iblk m c 3 t) (iblk m c 5 t) (iblk m c 4 t) (ix2 r d)
      = ((err (out a w (row t r)) (x (row t r)) (tg (row t r)) g d : ℝ) : EReal) :=
  err_real (o := fun r => out a w (row t r)) (x := fun r => x (row t r)) (t := fun r => tg (row t r)) (out_at hA t) (block3 hA t) (block4 hA t) (block5 hA t) r d

theorem dOut_at (t : Fin cfg0.N) (r : Fin 256) (d : Fin 1024) :
    dBlock (iblk m c 0 t) (iblk m c 2 t) (iblk m c 3 t) (iblk m c 4 t) (iblk m c 5 t) (ix2 r d) = ((dOutA a w x tg g (row t r) d : ℝ) : EReal) :=
  dOut_real (o := fun r => out a w (row t r)) (x := fun r => x (row t r)) (t := fun r => tg (row t r))
    (root_real (o := fun r => out a w (row t r)) (out_at hA t)) (normed_at hA t) (err_at hA t) (block5 hA t) r d

end Inputs

end Cert.Kernel3Ideal.FfnDown

end
-- ==== Proof.FfnDown.Arrays.lean ====
/- The kernel's five result arrays after the run, from finite arguments: the closed forms. -/
module

public import proofs.«01_k».proof.Proof.FfnDown.Inputs

@[expose] public section

set_option maxRecDepth 16384

noncomputable section

namespace Cert.Kernel3Ideal.FfnDown

open Cert.Kernel3Ideal Cert.Kernel3Ideal.Gen Idealize.ShloMosaic Idealize.ShloMosaic.TcCoe Idealize.SL.Sem
open Cert.Proof.Reals Cert.Proof.FfnDown

variable {m : (ℓ : Loc nD τ sig) → Buf (Elt Ideal) ℓ} {c : Dev nD}
  {a : Fin 2048 → Fin 6144 → ℝ} {w : Fin 3072 → Fin 1024 → ℝ} {x tg : Fin 2048 → Fin 1024 → ℝ} {g : Fin 1024 → ℝ} (hA : Args m c a w x tg g)

section Points

include hA

/-- After every point the first result's buffer holds that block's rows. -/
theorem first_at (t : Fin cfg0.N) (r : Fin 256) (d : Fin 1024) : (outsAt0 m c t.val t.isLt).1 (ix2 r d) = ((dyA a w x tg g (row t r) d : ℝ) : EReal) := by
  have e := dy_real (o := fun r => out a w (row t r)) (x := fun r => x (row t r)) (t := fun r => tg (row t r)) (err_at hA t) r d
  by_cases h0 : t.val % 8 = 0
  · rw [outsAt0_A m c t h0]
    unfold out0_A_6
    dsimp only
    rw [View.read_writes_eq_canon _ _ _ (cover0_A_6 c _ _ _ _ _ _ _ _ _ _ _ _ _ _ _ _ _ _ _ _ _ _ _ _ _ _ _ _ _ _), first_stored]
    exact e
  · rw [outsAt0_B m c t h0]
    unfold out0_B_6
    dsimp only
    rw [View.read_writes_eq_canon _ _ _ (cover0_B_6 c _ _ _ _ _ _ _ _ _ _ _ _ _ _ _ _ _ _ _ _ _ _ _ _ _ _ _ _ _ _ _ _), (later_pieces c (grid0.coords ⟨0, by decide⟩) _ _ _ _ _ _ _ _ _ _ _ _ _ _ _ _ _ _ _ _ _ _ _ _ _ _ _ _ _ _ ((hcond0_0 ⟨0, by decide⟩).mpr (Nat.zero_mod 8)) _ _).1, first_stored]
    exact e

/-- … the second's … -/
theorem second_at (t : Fin cfg0.N) (r : Fin 256) (d : Fin 1024) : (outsAt0 m c t.val t.isLt).2.1 (ix2 r d) = ((dOutA a w x tg g (row t r) d : ℝ) : EReal) := by
  by_cases h0 : t.val % 8 = 0
  · rw [outsAt0_A m c t h0]
    unfold out0_A_7
    dsimp only
    rw [View.read_writes_eq_canon _ _ _ (cover0_A_7 c _ _ _ _ _ _ _ _ _ _ _ _ _ _ _ _ _ _ _ _ _ _ _ _ _ _ _ _ _ _), second_stored]
    exact dOut_at hA t r d
  · rw [outsAt0_B m c t h0]
    unfold out0_B_7
    dsimp only
    rw [View.read_writes_eq_canon _ _ _ (cover0_B_7 c _ _ _ _ _ _ _ _ _ _ _ _ _ _ _ _ _ _ _ _ _ _ _ _ _ _ _ _ _ _ _ _), (later_pieces c (grid0.coords ⟨0, by decide⟩) _ _ _ _ _ _ _ _ _ _ _ _ _ _ _ _ _ _ _ _ _ _ _ _ _ _ _ _ _ _ ((hcond0_0 ⟨0, by decide⟩).mpr (Nat.zero_mod 8)) _ _).2.1, second_stored]
    exact dOut_at hA t r d

/-- … and the third's. -/
theorem third_at (t : Fin cfg0.N) (r : Fin 256) (q : Fin 6144) : (outsAt0 m c t.val t.isLt).2.2.1 (ix2 r q) = ((back a w x tg g (row t r) q : ℝ) : EReal) := by
  have e : (block (backRow (fun r => dOutA a w x tg g (row t r)) w (fun r => a (row t r))) : Vec Ideal S256x6144 .bf16) (ix2 r q)
      = ((back a w x tg g (row t r) q : ℝ) : EReal) := rfl
  by_cases h0 : t.val % 8 = 0
  · rw [outsAt0_A m c t h0]
    unfold out0_A_8
    dsimp only
    rw [View.read_writes_eq_canon _ _ _ (cover0_A_8 c _ _ _ _ _ _ _ _ _ _ _ _ _ _ _ _ _ _ _ _ _ _ _ _ _ _ _ _ _ _), third_stored (hD := dOut_at hA t) (h1 := block1 hA t) (h2 := block2 hA t)]
    exact e
  · rw [outsAt0_B m c t h0]
    unfold out0_B_8
    dsimp only
    rw [View.read_writes_eq_canon _ _ _ (cover0_B_8 c _ _ _ _ _ _ _ _ _ _ _ _ _ _ _ _ _ _ _ _ _ _ _ _ _ _ _ _ _ _ _ _), (later_pieces c (grid0.coords ⟨0, by decide⟩) _ _ _ _ _ _ _ _ _ _ _ _ _ _ _ _ _ _ _ _ _ _ _ _ _ _ _ _ _ _ ((hcond0_0 ⟨0, by decide⟩).mpr (Nat.zero_mod 8)) _ _).2.2,
      third_stored (hD := dOut_at hA t) (h1 := block1 hA t) (h2 := block2 hA t)]
    exact e

end Points

/-- A function's sum over the rows of block `j`. -/
def partSum (f : Fin 2048 → ℝ) (j : ℕ) : ℝ := if h : j < 8 then ∑ r, f (row ⟨j, h⟩ r) else 0

/-- All blocks' sums make the sum over the rows. -/
theorem partSum_all (f : Fin 2048 → ℝ) : ∑ j ∈ Finset.range 8, partSum f j = ∑ n, f n := by
  have e := Fin.sum_univ_univ_mul_add 8 256 fun l => if h : l < 2048 then f ⟨l, h⟩ else 0
  rw [Finset.sum_range]
  refine Eq.trans (Finset.sum_congr rfl fun j _ => (dif_pos j.isLt).trans (Finset.sum_congr rfl fun r _ => ?_)) (e.trans (Finset.sum_congr rfl fun l _ => dif_pos l.isLt))
  rw [dif_pos (show j.val * 256 + r.val < 2048 by omega)]
  exact congrArg f (Fin.ext (by simp only [row]; omega))

/-- A row's part of the gradient of the norm's scale. -/
def scaleTerm (a : Fin 2048 → Fin 6144 → ℝ) (w : Fin 3072 → Fin 1024 → ℝ) (x tg : Fin 2048 → Fin 1024 → ℝ) (g : Fin 1024 → ℝ) (d : Fin 1024) (n : Fin 2048) : ℝ :=
  dyA a w x tg g n d * (out a w n d * root (out a w n))

/-- A row's part of the loss. -/
def lossTerm (a : Fin 2048 → Fin 6144 → ℝ) (w : Fin 3072 → Fin 1024 → ℝ) (x tg : Fin 2048 → Fin 1024 → ℝ) (g : Fin 1024 → ℝ) (n : Fin 2048) : ℝ :=
  ∑ d, err (out a w n) (x n) (tg n) g d * err (out a w n) (x n) (tg n) g d

section Sums

include hA

/-- The first point stores its block's part of the scale's gradient … -/
theorem scale_first (t : Fin cfg0.N) (h0 : t.val % 8 = 0) (z : Fin 1) (d : Fin 1024) :
    (outsAt0 m c t.val t.isLt).2.2.2.1 (ix2 z d) = ((∑ r, scaleTerm a w x tg g d (row t r) : ℝ) : EReal) := by
  have e := scale_real (o := fun r => out a w (row t r)) (x := fun r => x (row t r)) (t := fun r => tg (row t r))
    (normed_at hA t) (err_at hA t) (k0_pay3 (F := Ideal)) z d
  rw [outsAt0_A m c t h0]
  unfold out0_A_9
  dsimp only
  rw [View.read_writes_eq_canon _ _ _ (cover0_A_9 c _ _ _ _ _ _ _ _ _ _ _ _ _ _ _ _ _ _ _ _ _ _ _ _ _ _ _ _ _ _), fourth_stored]
  refine e.trans ?_
  pointwise [k0_pay3]
  rfl

/-- … and a later one adds its own. -/
theorem scale_later (t : Fin cfg0.N) (h0 : ¬t.val % 8 = 0) (z : Fin 1) (d : Fin 1024) :
    (outsAt0 m c t.val t.isLt).2.2.2.1 (ix2 z d) = (outsAt0 m c (t.val - 1) (Nat.lt_of_le_of_lt (Nat.sub_le _ _) t.isLt)).2.2.2.1 (ix2 z d)
      + ((∑ r, scaleTerm a w x tg g d (row t r) : ℝ) : EReal) := by
  have e := scale_real (o := fun r => out a w (row t r)) (x := fun r => x (row t r)) (t := fun r => tg (row t r))
    (normed_at hA t) (err_at hA t) (outsAt0 m c (t.val - 1) (Nat.lt_of_le_of_lt (Nat.sub_le _ _) t.isLt)).2.2.2.1 z d
  rw [outsAt0_B m c t h0]
  unfold out0_B_9
  dsimp only
  rw [View.read_writes_eq_canon _ _ _ (cover0_B_9 c _ _ _ _ _ _ _ _ _ _ _ _ _ _ _ _ _ _ _ _ _ _ _ _ _ _ _ _ _ _ _ _), fourth_added]
  refine e.trans ?_
  rfl

/-- The same of the loss. -/
theorem loss_first (t : Fin cfg0.N) (h0 : t.val % 8 = 0) (i : Fin 8) (l : Fin 128) :
    (outsAt0 m c t.val t.isLt).2.2.2.2 (ix2 i l) = ((1 / 2048 * ∑ r, lossTerm a w x tg g (row t r) : ℝ) : EReal) := by
  have e := loss_real (err_at hA t) (k0_pay4 (F := Ideal)) i l
  rw [outsAt0_A m c t h0]
  unfold out0_A_10
  dsimp only
  rw [View.read_writes_eq_canon _ _ _ (cover0_A_10 c _ _ _ _ _ _ _ _ _ _ _ _ _ _ _ _ _ _ _ _ _ _ _ _ _ _ _ _ _ _), fifth_stored]
  refine e.trans ?_
  pointwise [k0_pay4]
  rfl

/-- … and later. -/
theorem loss_later (t : Fin cfg0.N) (h0 : ¬t.val % 8 = 0) (i : Fin 8) (l : Fin 128) :
    (outsAt0 m c t.val t.isLt).2.2.2.2 (ix2 i l) = (outsAt0 m c (t.val - 1) (Nat.lt_of_le_of_lt (Nat.sub_le _ _) t.isLt)).2.2.2.2 (ix2 i l)
      + ((1 / 2048 * ∑ r, lossTerm a w x tg g (row t r) : ℝ) : EReal) := by
  have e := loss_real (err_at hA t) (outsAt0 m c (t.val - 1) (Nat.lt_of_le_of_lt (Nat.sub_le _ _) t.isLt)).2.2.2.2 i l
  rw [outsAt0_B m c t h0]
  unfold out0_B_10
  dsimp only
  rw [View.read_writes_eq_canon _ _ _ (cover0_B_10 c _ _ _ _ _ _ _ _ _ _ _ _ _ _ _ _ _ _ _ _ _ _ _ _ _ _ _ _ _ _ _ _), fifth_added]
  refine e.trans ?_
  rfl

/-- After point `n` the last two results' buffers hold the sums over the blocks so far. -/
theorem sums_at (n : ℕ) : ∀ hn : n < cfg0.N,
    (∀ z d, (outsAt0 m c n hn).2.2.2.1 (ix2 z d) = ((∑ j ∈ Finset.range (n + 1), partSum (scaleTerm a w x tg g d) j : ℝ) : EReal))
    ∧ (∀ i l, (outsAt0 m c n hn).2.2.2.2 (ix2 i l) = ((∑ j ∈ Finset.range (n + 1), 1 / 2048 * partSum (lossTerm a w x tg g) j : ℝ) : EReal)) := by
  induction n with
  | zero =>
    intro hn
    have e := scale_first hA ⟨0, hn⟩ (Nat.zero_mod 8)
    have e' := loss_first hA ⟨0, hn⟩ (Nat.zero_mod 8)
    refine ⟨fun z d => (e z d).trans ?_, fun i l => (e' i l).trans ?_⟩
    · rw [Finset.sum_range_one, partSum, dif_pos (show _ < 8 from hn)]; rfl
    · rw [Finset.sum_range_one, partSum, dif_pos (show _ < 8 from hn)]; rfl
  | succ n ih =>
    intro hn
    have h0 : ¬(⟨n + 1, hn⟩ : Fin cfg0.N).val % 8 = 0 := by
      have : n + 1 < 8 := hn
      dsimp only; omega
    obtain ⟨i1, i2⟩ := ih (Nat.lt_of_succ_lt hn)
    have e := scale_later hA ⟨n + 1, hn⟩ h0
    have e' := loss_later hA ⟨n + 1, hn⟩ h0
    refine ⟨fun z d => (e z d).trans ?_, fun i l => (e' i l).trans ?_⟩
    · refine (congrArg (· + _) (i1 z d)).trans ?_
      rw [← EReal.coe_add, Finset.sum_range_succ _ (n + 1), partSum, dif_pos (show _ < 8 from hn)]; rfl
    · refine (congrArg (· + _) (i2 i l)).trans ?_
      rw [← EReal.coe_add, Finset.sum_range_succ _ (n + 1), partSum, dif_pos (show _ < 8 from hn)]; rfl

end Sums

section Results

include hA

/-- The first result array. -/
theorem dy_array : (dats m 0 c).arrAt 6 cfg0.N = (fun y : S2048x1024.Idx => (((dyA a w x tg g (y 0) (y 1)) : ℝ) : EReal) : Vec Ideal S2048x1024 .f32) := by
  refine (dats m 0 c).arrAt_eq_of_covers 6 _ (by decide +kernel) fun t hf y => ?_
  obtain ⟨h6, z6, h7, z7, h8, z8, h9, z9, h10, z10⟩ := idx_results t
  blk_simp
  rw [after0_6]
  idx_vars y
  refine (first_at hA t y0 y1).trans (congrArg Real.toEReal (congrArg₂ (dyA a w x tg g) (Fin.ext ?_) (Fin.ext ?_)))
  all_goals (blk_simp [h6, z6, row]; try first | omega | (dsimp only; omega))

/-- The second. -/
theorem dOut_array : (dats m 0 c).arrAt 7 cfg0.N = (fun y : S2048x1024.Idx => (((dOutA a w x tg g (y 0) (y 1)) : ℝ) : EReal) : Vec Ideal S2048x1024 .bf16) := by
  refine (dats m 0 c).arrAt_eq_of_covers 7 _ (by decide +kernel) fun t hf y => ?_
  obtain ⟨h6, z6, h7, z7, h8, z8, h9, z9, h10, z10⟩ := idx_results t
  blk_simp
  rw [after0_7]
  idx_vars y
  refine (second_at hA t y0 y1).trans (congrArg Real.toEReal (congrArg₂ (dOutA a w x tg g) (Fin.ext ?_) (Fin.ext ?_)))
  all_goals (blk_simp [h7, z7, row]; try first | omega | (dsimp only; omega))

/-- The third. -/
theorem back_array : (dats m 0 c).arrAt 8 cfg0.N = (fun y : S2048x6144.Idx => (((back a w x tg g (y 0) (y 1)) : ℝ) : EReal) : Vec Ideal S2048x6144 .bf16) := by
  refine (dats m 0 c).arrAt_eq_of_covers 8 _ (by decide +kernel) fun t hf y => ?_
  obtain ⟨h6, z6, h7, z7, h8, z8, h9, z9, h10, z10⟩ := idx_results t
  blk_simp
  rw [after0_8]
  idx_vars y
  refine (third_at hA t y0 y1).trans (congrArg Real.toEReal (congrArg₂ (back a w x tg g) (Fin.ext ?_) (Fin.ext ?_)))
  all_goals (blk_simp [h8, z8, row]; try first | omega | (dsimp only; omega))

/-- The fourth. -/
theorem scale_array : (dats m 0 c).arrAt 9 cfg0.N = (fun y : S1x1024.Idx => (((dScale a w x tg g (y 1)) : ℝ) : EReal) : Vec Ideal S1x1024 .f32) := by
  refine (dats m 0 c).arrAt_eq_of_covers 9 _ (by decide +kernel) fun t hf y => ?_
  obtain ⟨h6, z6, h7, z7, h8, z8, h9, z9, h10, z10⟩ := idx_results t
  blk_simp
  rw [after0_9]
  idx_vars y
  have ht : t.val = 7 := by have := (by decide +kernel : ∀ t : Fin cfg0.N, (win0 9).flush t = true → t.val = 7) t hf; exact this
  refine ((sums_at hA t.val t.isLt).1 y0 y1).trans (congrArg Real.toEReal ?_)
  rw [ht, partSum_all]
  refine congrArg (fun d => dScale a w x tg g d) (Fin.ext ?_)
  blk_simp [h9, z9]; try omega

/-- The fifth. -/
theorem loss_array : (dats m 0 c).arrAt 10 cfg0.N = (fun y : S8x128.Idx => (((loss a w x tg g) : ℝ) : EReal) : Vec Ideal S8x128 .f32) := by
  refine (dats m 0 c).arrAt_eq_of_covers 10 _ (by decide +kernel) fun t hf y => ?_
  obtain ⟨h6, z6, h7, z7, h8, z8, h9, z9, h10, z10⟩ := idx_results t
  blk_simp
  rw [after0_10]
  idx_vars y
  have ht : t.val = 7 := by have := (by decide +kernel : ∀ t : Fin cfg0.N, (win0 10).flush t = true → t.val = 7) t hf; exact this
  refine ((sums_at hA t.val t.isLt).2 y0 y1).trans (congrArg Real.toEReal ?_)
  rw [ht, ← Finset.mul_sum, partSum_all]
  rfl

end Results

end Cert.Kernel3Ideal.FfnDown

end
-- ==== Proof.FfnDown.Plain.lean ====
/- The reference's five results, from finite arguments: the same closed forms. -/
module

public import proofs.«01_k».proof.Proof.FfnDown.Closed
public import proofs.«01_k».proof.Proof.Gen.Reference3Ideal.Run
public import Idealize.ShloMosaic.Lib.Tactic.CleanTypes

@[expose] public section

set_option maxRecDepth 16384

noncomputable section

namespace Cert.Reference3Ideal.FfnDown

open Cert.Reference3Ideal Cert.Reference3Ideal.Gen Cert.Reference3Ideal.Value Idealize.ShloMosaic Idealize.ShloMosaic.TcCoe Idealize.ShloMosaic.StableHlo
open Cert.Proof.Reals Cert.Proof.FfnDown

/-- The arguments are these real numbers. -/
structure Args (V0 : Valuation τ sig (Elt Ideal)) (a : Fin 2048 → Fin 6144 → ℝ) (w : Fin 3072 → Fin 1024 → ℝ) (x t : Fin 2048 → Fin 1024 → ℝ)
    (g : Fin 1024 → ℝ) : Prop where
  act : ∀ n q, (V0 (Proc.devRef .tc main_arg0) : Vec Ideal S2048x6144 .bf16) (ix2 n q) = ((a n q : ℝ) : EReal)
  matrix : ∀ k d, (V0 (Proc.devRef .tc main_arg1) : Vec Ideal S3072x1024 .bf16) (ix2 k d) = ((w k d : ℝ) : EReal)
  residual : ∀ n d, (V0 (Proc.devRef .tc main_arg2) : Vec Ideal S2048x1024 .f32) (ix2 n d) = ((x n d : ℝ) : EReal)
  target : ∀ n d, (V0 (Proc.devRef .tc main_arg3) : Vec Ideal S2048x1024 .f32) (ix2 n d) = ((t n d : ℝ) : EReal)
  scale : ∀ d, (V0 (Proc.devRef .tc main_arg4) : Vec Ideal S1024 .f32) (ix1 d) = ((g d : ℝ) : EReal)

/-- The gate's gradient as differentiating the factors one after the other gives it. -/
theorem gate_identity (u v y : ℝ) :
    geluK * (1 / 2 * y * (u * v) * ((1 + Real.tanh (Cert.Proof.FfnDown.inner y)) * (1 - Real.tanh (Cert.Proof.FfnDown.inner y))))
        + y * y * (44715 * (geluK * (1 / 2 * y * (u * v) * ((1 + Real.tanh (Cert.Proof.FfnDown.inner y)) * (1 - Real.tanh (Cert.Proof.FfnDown.inner y)))) / 1000000))
        + y * (44715 * (geluK * (1 / 2 * y * (u * v) * ((1 + Real.tanh (Cert.Proof.FfnDown.inner y)) * (1 - Real.tanh (Cert.Proof.FfnDown.inner y)))) / 1000000) * y)
        + 44715 * (geluK * (1 / 2 * y * (u * v) * ((1 + Real.tanh (Cert.Proof.FfnDown.inner y)) * (1 - Real.tanh (Cert.Proof.FfnDown.inner y)))) / 1000000) * y * y
        + 1 / 2 * (u * v * (1 + Real.tanh (Cert.Proof.FfnDown.inner y)))
      = u * v * geluD y := by
  unfold geluD
  ring

variable {V0 : Valuation τ sig (Elt Ideal)} {a : Fin 2048 → Fin 6144 → ℝ} {w : Fin 3072 → Fin 1024 → ℝ} {x t : Fin 2048 → Fin 1024 → ℝ} {g : Fin 1024 → ℝ}
  (hA : Args V0 a w x t g)
include hA

/-- The gate. -/
theorem v1_real (n : Fin 2048) (k : Fin 3072) : (res_main_v1 V0 : Vec Ideal S2048x3072 .f32) (ix2 n k) = ((a n ⟨k.val, by omega⟩ : ℝ) : EReal) := by
  have h0 := hA.act
  unfold res_main_v1 res_main_v0
  generalize V0 (Proc.devRef .tc main_arg0) = A0 at h0
  change Vec Ideal S2048x6144 .bf16 at A0
  clean_types
  pointwise
  simp only [h0]

/-- The other factor. -/
theorem v2_real (n : Fin 2048) (k : Fin 3072) : (res_main_v2 V0 : Vec Ideal S2048x3072 .f32) (ix2 n k) = ((a n ⟨3072 + k.val, by omega⟩ : ℝ) : EReal) := by
  have h0 := hA.act
  unfold res_main_v2 res_main_v0
  generalize V0 (Proc.devRef .tc main_arg0) = A0 at h0
  change Vec Ideal S2048x6144 .bf16 at A0
  clean_types
  pointwise
  simp only [h0]

/-- Half the gate. -/
theorem v4_real (n : Fin 2048) (k : Fin 3072) : (res_main_v4 V0 : Vec Ideal S2048x3072 .f32) (ix2 n k) = ((1 / 2 * a n ⟨k.val, by omega⟩ : ℝ) : EReal) := by
  have e1 := v1_real hA
  unfold res_main_v4
  generalize res_main_v1 (F := Ideal) V0 = u1 at e1
  change Vec Ideal S2048x3072 .f32 at u1
  clean_types
  pointwise
  simp only [e1, word_half, ← EReal.coe_mul]

/-- Its square. -/
theorem v5_real (n : Fin 2048) (k : Fin 3072) : (res_main_v5 V0 : Vec Ideal S2048x3072 .f32) (ix2 n k) = ((a n ⟨k.val, by omega⟩ * a n ⟨k.val, by omega⟩ : ℝ) : EReal) := by
  have e1 := v1_real hA
  unfold res_main_v5
  generalize res_main_v1 (F := Ideal) V0 = u1 at e1
  change Vec Ideal S2048x3072 .f32 at u1
  clean_types
  pointwise
  simp only [e1, ← EReal.coe_mul]

/-- The hyperbolic tangent. -/
theorem v14_real (n : Fin 2048) (k : Fin 3072) : (res_main_v14 V0 : Vec Ideal S2048x3072 .f32) (ix2 n k) = ((Real.tanh (Cert.Proof.FfnDown.inner (a n ⟨k.val, by omega⟩)) : ℝ) : EReal) := by
  have e1 := v1_real hA
  have e5 := v5_real hA
  unfold res_main_v14
  generalize res_main_v1 (F := Ideal) V0 = u1 at e1
  change Vec Ideal S2048x3072 .f32 at u1
  generalize res_main_v5 (F := Ideal) V0 = u5 at e5
  change Vec Ideal S2048x3072 .f32 at u5
  clean_types
  pointwise
  simp only [e1, e5, word_geluK, word_44715, word_million, ← EReal.coe_mul]
  rw [coe_div (by norm_num)]
  simp only [← EReal.coe_mul, ← EReal.coe_add, Ideal.tanh_coe]
  refine congrArg Real.toEReal (congrArg Real.tanh (congrArg (geluK * ·) ?_))
  ring

/-- One more. -/
theorem v21_real (n : Fin 2048) (k : Fin 3072) : (res_main_v21 V0 : Vec Ideal S2048x3072 .f32) (ix2 n k) = ((1 + Real.tanh (Cert.Proof.FfnDown.inner (a n ⟨k.val, by omega⟩)) : ℝ) : EReal) := by
  have e14 := v14_real hA
  unfold res_main_v21
  generalize res_main_v14 (F := Ideal) V0 = u14 at e14
  change Vec Ideal S2048x3072 .f32 at u14
  clean_types
  pointwise
  simp only [e14, ← EReal.coe_one, ← EReal.coe_add]

/-- The gate function. -/
theorem v22_real (n : Fin 2048) (k : Fin 3072) : (res_main_v22 V0 : Vec Ideal S2048x3072 .f32) (ix2 n k) = ((gelu (a n ⟨k.val, by omega⟩) : ℝ) : EReal) := by
  have e4 := v4_real hA
  have e21 := v21_real hA
  unfold res_main_v22
  generalize res_main_v4 (F := Ideal) V0 = u4 at e4
  change Vec Ideal S2048x3072 .f32 at u4
  generalize res_main_v21 (F := Ideal) V0 = u21 at e21
  change Vec Ideal S2048x3072 .f32 at u21
  clean_types
  pointwise
  simp only [e4, e21, ← EReal.coe_mul]
  rfl

/-- The matrix. -/
theorem v24_real (k : Fin 3072) (d : Fin 1024) : (res_main_v24 V0 : Vec Ideal S3072x1024 .f32) (ix2 k d) = ((w k d : ℝ) : EReal) := by
  have h1 := hA.matrix
  unfold res_main_v24
  generalize V0 (Proc.devRef .tc main_arg1) = A1 at h1
  change Vec Ideal S3072x1024 .bf16 at A1
  clean_types
  pointwise
  simp only [h1]

/-- The product. -/
theorem v25_real (n : Fin 2048) (d : Fin 1024) : (res_main_v25 V0 : Vec Ideal S2048x1024 .f32) (ix2 n d) = ((out a w n d : ℝ) : EReal) := by
  have e22 := v22_real hA
  have e2 := v2_real hA
  have e24 := v24_real hA
  unfold res_main_v25
  generalize res_main_v22 (F := Ideal) V0 = u22 at e22
  change Vec Ideal S2048x3072 .f32 at u22
  generalize res_main_v2 (F := Ideal) V0 = u2 at e2
  change Vec Ideal S2048x3072 .f32 at u2
  generalize res_main_v24 (F := Ideal) V0 = u24 at e24
  change Vec Ideal S3072x1024 .f32 at u24
  clean_types
  pointwise
  simp only [e22, e2, e24, ← EReal.coe_mul, coe_sum]
  rfl

/-- The mean square of a row. -/
theorem v32_real (n : Fin 2048) (z : Fin 1) : (res_main_v32 V0 : Vec Ideal S2048x1 .f32) (ix2 n z) = ((meanSq (out a w n) : ℝ) : EReal) := by
  have e25 := v25_real hA
  unfold res_main_v32
  generalize res_main_v25 (F := Ideal) V0 = u25 at e25
  change Vec Ideal S2048x1024 .f32 at u25
  clean_types
  pointwise
  simp only [e25, ← EReal.coe_mul, coe_sum]
  rw [meanSq_coe]

/-- Its reciprocal root. -/
theorem v33_real (n : Fin 2048) (z : Fin 1) : (res_main_v33 V0 : Vec Ideal S2048x1 .f32) (ix2 n z) = ((root (out a w n) : ℝ) : EReal) := by
  have e32 := v32_real hA
  unfold res_main_v33
  generalize res_main_v32 (F := Ideal) V0 = u32 at e32
  change Vec Ideal S2048x1 .f32 at u32
  clean_types
  pointwise
  rw [e32, root_coe]

/-- A row over its root. -/
theorem v38_real (n : Fin 2048) (d : Fin 1024) : (res_main_v38 V0 : Vec Ideal S2048x1024 .f32) (ix2 n d) = ((out a w n d * root (out a w n) : ℝ) : EReal) := by
  have e25 := v25_real hA
  have e33 := v33_real hA
  unfold res_main_v38
  generalize res_main_v25 (F := Ideal) V0 = u25 at e25
  change Vec Ideal S2048x1024 .f32 at u25
  generalize res_main_v33 (F := Ideal) V0 = u33 at e33
  change Vec Ideal S2048x1 .f32 at u33
  clean_types
  pointwise
  simp only [e25, e33, ← EReal.coe_mul]

/-- The norm's scale. -/
theorem v39_real (z : Fin 1) (d : Fin 1024) : (res_main_v39 V0 : Vec Ideal S1x1024 .f32) (ix2 z d) = ((g d : ℝ) : EReal) := by
  have h4 := hA.scale
  unfold res_main_v39
  generalize V0 (Proc.devRef .tc main_arg4) = A4 at h4
  change Vec Ideal S1024 .f32 at A4
  clean_types
  pointwise
  rw [h4]

/-- The error. -/
theorem v43_real (n : Fin 2048) (d : Fin 1024) : (res_main_v43 V0 : Vec Ideal S2048x1024 .f32) (ix2 n d) = ((err (out a w n) (x n) (t n) g d : ℝ) : EReal) := by
  have e38 := v38_real hA
  have e39 := v39_real hA
  have h2 := hA.residual
  have h3 := hA.target
  unfold res_main_v43
  generalize res_main_v38 (F := Ideal) V0 = u38 at e38
  change Vec Ideal S2048x1024 .f32 at u38
  generalize res_main_v39 (F := Ideal) V0 = u39 at e39
  change Vec Ideal S1x1024 .f32 at u39
  generalize V0 (Proc.devRef .tc main_arg2) = A2 at h2
  change Vec Ideal S2048x1024 .f32 at A2
  generalize V0 (Proc.devRef .tc main_arg3) = A3 at h3
  change Vec Ideal S2048x1024 .f32 at A3
  clean_types
  pointwise
  simp only [e38, e39, h2, h3, ← EReal.coe_mul, ← EReal.coe_add, ← EReal.coe_sub]
  rfl

/-- The first result. -/
theorem v57_real (n : Fin 2048) (d : Fin 1024) : (res_main_v57 V0 : Vec Ideal S2048x1024 .f32) (ix2 n d) = ((dyA a w x t g n d : ℝ) : EReal) := by
  have e43 := v43_real hA
  unfold res_main_v57
  generalize res_main_v43 (F := Ideal) V0 = u43 at e43
  change Vec Ideal S2048x1024 .f32 at u43
  clean_types
  pointwise
  simp only [e43, word_half, word_two, word_1024, ← EReal.coe_mul]
  rw [coe_div (by norm_num)]
  simp only [← EReal.coe_mul]
  refine congrArg Real.toEReal ?_
  unfold dyA dy
  ring

/-- It times the scale. -/
theorem v62_real (n : Fin 2048) (d : Fin 1024) : (res_main_v62 V0 : Vec Ideal S2048x1024 .f32) (ix2 n d) = ((dyA a w x t g n d * g d : ℝ) : EReal) := by
  have e57 := v57_real hA
  have e39 := v39_real hA
  unfold res_main_v62
  generalize res_main_v57 (F := Ideal) V0 = u57 at e57
  change Vec Ideal S2048x1024 .f32 at u57
  generalize res_main_v39 (F := Ideal) V0 = u39 at e39
  change Vec Ideal S1x1024 .f32 at u39
  clean_types
  pointwise
  simp only [e57, e39, ← EReal.coe_mul]

/-- The gradient of a row's mean square, to each entry. -/
theorem v73_real (n : Fin 2048) (d : Fin 1024) : (res_main_v73 V0 : Vec Ideal S2048x1024 .f32) (ix2 n d) = (((∑ d', out a w n d' * (dyA a w x t g n d' * g d')) * (-(1 / 2) * (root (out a w n) / meanSq (out a w n))) / 1024 : ℝ) : EReal) := by
  have e25 := v25_real hA
  have e62 := v62_real hA
  have e32 := v32_real hA
  have e33 := v33_real hA
  unfold res_main_v73
  generalize res_main_v25 (F := Ideal) V0 = u25 at e25
  change Vec Ideal S2048x1024 .f32 at u25
  generalize res_main_v62 (F := Ideal) V0 = u62 at e62
  change Vec Ideal S2048x1024 .f32 at u62
  generalize res_main_v32 (F := Ideal) V0 = u32 at e32
  change Vec Ideal S2048x1 .f32 at u32
  generalize res_main_v33 (F := Ideal) V0 = u33 at e33
  change Vec Ideal S2048x1 .f32 at u33
  clean_types
  pointwise
  simp only [e25, e62, e32, e33, word_minus_half, word_1024, ← EReal.coe_mul, coe_sum]
  rw [coe_div (meanSq_pos _).ne']
  simp only [← EReal.coe_mul]
  rw [coe_div (by norm_num)]
  exact Fin.sum_univ_one _

/-- The gradient at the product. -/
theorem v77_real (n : Fin 2048) (d : Fin 1024) : (res_main_v77 V0 : Vec Ideal S2048x1024 .f32) (ix2 n d) = ((dOutA a w x t g n d : ℝ) : EReal) := by
  have e62 := v62_real hA
  have e33 := v33_real hA
  have e25 := v25_real hA
  have e73 := v73_real hA
  unfold res_main_v77
  generalize res_main_v62 (F := Ideal) V0 = u62 at e62
  change Vec Ideal S2048x1024 .f32 at u62
  generalize res_main_v33 (F := Ideal) V0 = u33 at e33
  change Vec Ideal S2048x1 .f32 at u33
  generalize res_main_v25 (F := Ideal) V0 = u25 at e25
  change Vec Ideal S2048x1024 .f32 at u25
  generalize res_main_v73 (F := Ideal) V0 = u73 at e73
  change Vec Ideal S2048x1024 .f32 at u73
  clean_types
  pointwise
  simp only [e62, e33, e25, e73, ← EReal.coe_mul, ← EReal.coe_add]
  exact congrArg Real.toEReal (normBack_eq (out a w n) (fun d => dyA a w x t g n d * g d) d _ rfl)

/-- The gradient at the unit. -/
theorem v78_real (n : Fin 2048) (k : Fin 3072) : (res_main_v78 V0 : Vec Ideal S2048x3072 .f32) (ix2 n k) = ((dUnit a w x t g n k : ℝ) : EReal) := by
  have e77 := v77_real hA
  have e24 := v24_real hA
  unfold res_main_v78
  generalize res_main_v77 (F := Ideal) V0 = u77 at e77
  change Vec Ideal S2048x1024 .f32 at u77
  generalize res_main_v24 (F := Ideal) V0 = u24 at e24
  change Vec Ideal S3072x1024 .f32 at u24
  clean_types
  pointwise
  simp only [e77, e24, ← EReal.coe_mul, coe_sum]
  rfl

/-- It times the other factor. -/
theorem v80_real (n : Fin 2048) (k : Fin 3072) : (res_main_v80 V0 : Vec Ideal S2048x3072 .f32) (ix2 n k) = ((dUnit a w x t g n k * a n ⟨3072 + k.val, by omega⟩ : ℝ) : EReal) := by
  have e78 := v78_real hA
  have e2 := v2_real hA
  unfold res_main_v80
  generalize res_main_v78 (F := Ideal) V0 = u78 at e78
  change Vec Ideal S2048x3072 .f32 at u78
  generalize res_main_v2 (F := Ideal) V0 = u2 at e2
  change Vec Ideal S2048x3072 .f32 at u2
  clean_types
  pointwise
  simp only [e78, e2, ← EReal.coe_mul]

/-- The gradient at what stands inside the tangent. -/
theorem v85_real (n : Fin 2048) (k : Fin 3072) : (res_main_v85 V0 : Vec Ideal S2048x3072 .f32) (ix2 n k) = ((geluK * (1 / 2 * a n ⟨k.val, by omega⟩ * (dUnit a w x t g n k * a n ⟨3072 + k.val, by omega⟩) * ((1 + Real.tanh (Cert.Proof.FfnDown.inner (a n ⟨k.val, by omega⟩))) * (1 - Real.tanh (Cert.Proof.FfnDown.inner (a n ⟨k.val, by omega⟩))))) : ℝ) : EReal) := by
  have e4 := v4_real hA
  have e80 := v80_real hA
  have e14 := v14_real hA
  unfold res_main_v85
  generalize res_main_v4 (F := Ideal) V0 = u4 at e4
  change Vec Ideal S2048x3072 .f32 at u4
  generalize res_main_v80 (F := Ideal) V0 = u80 at e80
  change Vec Ideal S2048x3072 .f32 at u80
  generalize res_main_v14 (F := Ideal) V0 = u14 at e14
  change Vec Ideal S2048x3072 .f32 at u14
  clean_types
  pointwise
  simp only [e4, e80, e14, word_geluK, ← EReal.coe_one, ← EReal.coe_mul, ← EReal.coe_add, ← EReal.coe_sub]

/-- Its part through the cube. -/
theorem v89_real (n : Fin 2048) (k : Fin 3072) : (res_main_v89 V0 : Vec Ideal S2048x3072 .f32) (ix2 n k) = ((44715 * (geluK * (1 / 2 * a n ⟨k.val, by omega⟩ * (dUnit a w x t g n k * a n ⟨3072 + k.val, by omega⟩) * ((1 + Real.tanh (Cert.Proof.FfnDown.inner (a n ⟨k.val, by omega⟩))) * (1 - Real.tanh (Cert.Proof.FfnDown.inner (a n ⟨k.val, by omega⟩))))) / 1000000) : ℝ) : EReal) := by
  have e85 := v85_real hA
  unfold res_main_v89
  generalize res_main_v85 (F := Ideal) V0 = u85 at e85
  change Vec Ideal S2048x3072 .f32 at u85
  clean_types
  pointwise
  simp only [e85, word_44715, word_million]
  rw [coe_div (by norm_num), ← EReal.coe_mul]

/-- That times the gate. -/
theorem v92_real (n : Fin 2048) (k : Fin 3072) : (res_main_v92 V0 : Vec Ideal S2048x3072 .f32) (ix2 n k) = ((44715 * (geluK * (1 / 2 * a n ⟨k.val, by omega⟩ * (dUnit a w x t g n k * a n ⟨3072 + k.val, by omega⟩) * ((1 + Real.tanh (Cert.Proof.FfnDown.inner (a n ⟨k.val, by omega⟩))) * (1 - Real.tanh (Cert.Proof.FfnDown.inner (a n ⟨k.val, by omega⟩))))) / 1000000) * a n ⟨k.val, by omega⟩ : ℝ) : EReal) := by
  have e89 := v89_real hA
  have e1 := v1_real hA
  unfold res_main_v92
  generalize res_main_v89 (F := Ideal) V0 = u89 at e89
  change Vec Ideal S2048x3072 .f32 at u89
  generalize res_main_v1 (F := Ideal) V0 = u1 at e1
  change Vec Ideal S2048x3072 .f32 at u1
  clean_types
  pointwise
  simp only [e89, e1, ← EReal.coe_mul]

/-- The first result … -/
theorem first_real (n : Fin 2048) (d : Fin 1024) : (res_out0 V0 : Vec Ideal S2048x1024 .f32) (ix2 n d) = ((dyA a w x t g n d : ℝ) : EReal) := v57_real hA n d

/-- … the second … -/
theorem second_real (n : Fin 2048) (d : Fin 1024) : (truncf (F := Ideal) .bf16 (res_main_v77 (F := Ideal) V0 : FVec Ideal S2048x1024 .f32) bitsLt_bf16_f32 : FVec Ideal S2048x1024 .bf16) (ix2 n d)
    = ((dOutA a w x t g n d : ℝ) : EReal) := v77_real hA n d

/-- … the fifth. -/
theorem fifth_real (i : Fin 8) (l : Fin 128) :
    (broadcastInDim S8x128 ![] bcast_S_S8x128 (mulf (constant (F := Ideal) S_ .f32 0x3F000000#32) (Host.reduceAdd (Host.divf (Host.reduceAdd (mulf (res_main_v43 V0) (res_main_v43 V0)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) : Vec Ideal S8x128 .f32) (ix2 i l)
      = ((loss a w x t g : ℝ) : EReal) := by
  have e43 := v43_real hA
  generalize res_main_v43 (F := Ideal) V0 = u43 at e43
  change Vec Ideal S2048x1024 .f32 at u43
  clean_types
  pointwise
  simp only [e43, word_half, word_1024, ← EReal.coe_mul, coe_sum]
  have e : ∀ n : Fin 2048, Ideal.div ((∑ i, err (out a w n) (x n) (t n) g i * err (out a w n) (x n) (t n) g i : ℝ) : EReal) ((1024 : ℝ) : EReal)
      = (((∑ i, err (out a w n) (x n) (t n) g i * err (out a w n) (x n) (t n) g i) / 1024 : ℝ) : EReal) := fun n => coe_div (by norm_num) _
  simp only [e, coe_sum, ← EReal.coe_mul]
  refine congrArg Real.toEReal ?_
  rw [loss, ← Finset.sum_div]
  ring

/-- … the fourth. -/
theorem fourth_real (z : Fin 1) (d : Fin 1024) :
    (broadcastInDim S1x1024 ![1] bcast_S1024_S1x1024_1 (Host.reduceAdd (shapeCast _ (Host.reduceAdd (mulf (res_main_v38 (F := Ideal) V0) (res_main_v57 V0)) (constant S_ .f32 0x00000000#32) reducesTo_S2048x1024_S1024_d0 h_S_) shapeCasts_S1024_S1x1024) (constant S_ .f32 0x00000000#32) reducesTo_S1x1024_S1024_d0 h_S_) : Vec Ideal S1x1024 .f32) (ix2 z d)
      = ((dScale a w x t g d : ℝ) : EReal) := by
  have e38 := v38_real hA
  have e57 := v57_real hA
  generalize res_main_v38 (F := Ideal) V0 = u38 at e38
  change Vec Ideal S2048x1024 .f32 at u38
  generalize res_main_v57 (F := Ideal) V0 = u57 at e57
  change Vec Ideal S2048x1024 .f32 at u57
  clean_types
  pointwise
  simp only [e38, e57, ← EReal.coe_mul, coe_sum]
  refine congrArg Real.toEReal ((Fin.sum_univ_one _).trans (Finset.sum_congr rfl fun n _ => mul_comm _ _))

/-- … and the third. -/
theorem third_real (n : Fin 2048) (q : Fin 6144) :
    (truncf .bf16 (concatenate S2048x6144 1 [⟨S2048x3072, (addf (addf (addf (addf (res_main_v85 (F := Ideal) V0) (mulf (res_main_v5 V0) (res_main_v89 V0))) (mulf (res_main_v1 V0) (res_main_v92 V0))) (mulf (res_main_v92 V0) (res_main_v1 V0))) (mulf (broadcastInDim S2048x3072 ![] bcast_S_S2048x3072 (constant S_ .f32 0x3F000000#32)) (mulf (res_main_v80 V0) (res_main_v21 V0))))⟩, ⟨S2048x3072, (mulf (res_main_v22 V0) (res_main_v78 V0))⟩] concatenates_S2048x3072_S2048x3072_S2048x6144_d1) bitsLt_bf16_f32 : Vec Ideal S2048x6144 .bf16) (ix2 n q)
      = ((back a w x t g n q : ℝ) : EReal) := by
  have e85 := v85_real hA
  have e5 := v5_real hA
  have e89 := v89_real hA
  have e1 := v1_real hA
  have e92 := v92_real hA
  have e80 := v80_real hA
  have e21 := v21_real hA
  have e22 := v22_real hA
  have e78 := v78_real hA
  generalize res_main_v85 (F := Ideal) V0 = u85 at e85
  change Vec Ideal S2048x3072 .f32 at u85
  generalize res_main_v5 (F := Ideal) V0 = u5 at e5
  change Vec Ideal S2048x3072 .f32 at u5
  generalize res_main_v89 (F := Ideal) V0 = u89 at e89
  change Vec Ideal S2048x3072 .f32 at u89
  generalize res_main_v1 (F := Ideal) V0 = u1 at e1
  change Vec Ideal S2048x3072 .f32 at u1
  generalize res_main_v92 (F := Ideal) V0 = u92 at e92
  change Vec Ideal S2048x3072 .f32 at u92
  generalize res_main_v80 (F := Ideal) V0 = u80 at e80
  change Vec Ideal S2048x3072 .f32 at u80
  generalize res_main_v21 (F := Ideal) V0 = u21 at e21
  change Vec Ideal S2048x3072 .f32 at u21
  generalize res_main_v22 (F := Ideal) V0 = u22 at e22
  change Vec Ideal S2048x3072 .f32 at u22
  generalize res_main_v78 (F := Ideal) V0 = u78 at e78
  change Vec Ideal S2048x3072 .f32 at u78
  clean_types
  pointwise
  simp only [e85, e5, e89, e1, e92, e80, e21, e22, e78, word_half, ← EReal.coe_mul, ← EReal.coe_add]
  unfold back
  by_cases h : q.val < 3072
  · rw [dif_pos h, dif_pos h]
    exact congrArg Real.toEReal (gate_identity _ _ _)
  · rw [dif_neg h, dif_neg h]
    exact congrArg Real.toEReal (mul_comm _ _)

end Cert.Reference3Ideal.FfnDown

end
-- ==== Proof.Steps.Finite.lean ====
/- What a printed test of finite arguments says: the entries are real numbers. -/
module

public import proofs.«01_k».proof.Proof.Steps.Reals
public import Idealize.ShloMosaic.Lib.ReduceAll
public import Idealize.ShloMosaic.Lib.StableHlo
public import Idealize.ShloMosaic.PureOps

@[expose] public section

noncomputable section

namespace Cert.Proof.Reals

open Idealize.ShloMosaic

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- Where a printed test finds every entry of an array finite, the entries are real numbers. -/
theorem real_of_all {s t u : Shape} [Subsingleton t.Idx] {φ : FTy} (x b : FVec Ideal s φ) (init : IVec u 1) {dims : List (Fin s.rank)} (hr : s.ReducesTo dims t)
    (hu : 0 < u.numel) (hb : ∀ i, b i = (⊤ : EReal)) (j : t.Idx) (e : Host.reduce IntOp.andi (cmpf .olt (Host.absf x) b) init hr hu j = 1#1) (i : s.Idx) :
    (((x i : EReal).toReal : ℝ) : EReal) = x i := by
  have h' : Ideal.cmp .olt (max (x i : EReal) (-(x i : EReal))) (b i) = 1#1 := Host.reduce_andi_all _ init hr hu j e i
  rw [hb] at h'
  exact coe_of_abs_lt h'

end Cert.Proof.Reals

end
-- ==== Proof.FfnDown.Claim.lean ====
/- The claim about the last product, the loss and the gated unit: from finite arguments both programs compute the same five arrays. -/
module

public import proofs.«01_k».proof.Defs
public import proofs.«01_k».proof.Proof.FfnDown.Arrays
public import proofs.«01_k».proof.Proof.FfnDown.Plain
public import proofs.«01_k».proof.Proof.Steps.Finite

@[expose] public section

set_option maxRecDepth 16384

noncomputable section

namespace Cert.Proof.FfnDown

open Idealize.ShloMosaic Idealize.ShloMosaic.TcCoe Idealize.SL.Sem Cert.Proof.Reals

/-- A finite array of two axes as real numbers. -/
def realOf {n k : ℕ} (A : ({ rank := 2, size := ![n, k] } : Shape).Idx → EReal) (r : Fin n) (q : Fin k) : ℝ := (A (ix2 r q)).toReal

section Args

variable [hF : Cert.Pre_loss_args_finite.Facts]
open Cert.Pre_loss_args_finite

/-- What the test of the arguments says of them. -/
theorem args_real (A0 : FVec Ideal S2048x6144 .bf16) (A1 : FVec Ideal S3072x1024 .bf16) (A2 A3 : FVec Ideal S2048x1024 .f32) (A4 : FVec Ideal S1024 .f32)
    (e : Cert.Pre_loss_args_finite.fn (F := Ideal) A0 A1 A2 A3 A4 = fun _ => 1#1) :
    (∀ n q, A0 (ix2 n q) = ((realOf A0 n q : ℝ) : EReal)) ∧ (∀ n q, A1 (ix2 n q) = ((realOf A1 n q : ℝ) : EReal))
      ∧ (∀ n q, A2 (ix2 n q) = ((realOf A2 n q : ℝ) : EReal)) ∧ (∀ n q, A3 (ix2 n q) = ((realOf A3 n q : ℝ) : EReal))
      ∧ (∀ d, A4 (ix1 d) = (((A4 (ix1 d) : EReal).toReal : ℝ) : EReal)) := by
  have e' := congrFun e (fun a => a.elim0)
  haveI : Subsingleton S_.Idx := ⟨fun a b => funext fun i => i.elim0⟩
  unfold Cert.Pre_loss_args_finite.fn Cert.Pre_loss_args_finite.fn_part1 at e'
  dsimp only at e'
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨fun n q => (real_of_all A0 _ _ _ _ (fun _ => inf_bf16) _ h0 _).symm, fun n q => (real_of_all A1 _ _ _ _ (fun _ => inf_bf16) _ h1 _).symm,
    fun n q => (real_of_all A2 _ _ _ _ (fun _ => inf_f32) _ h2 _).symm, fun n q => (real_of_all A3 _ _ _ _ (fun _ => inf_f32) _ h3 _).symm,
    fun d => (real_of_all A4 _ _ _ _ (fun _ => inf_f32) _ h4 _).symm⟩

end Args

section Claim

variable (m : (ℓ : Loc Cert.Kernel3Ideal.nD Cert.Kernel3Ideal.τ Cert.Kernel3Ideal.sig) → Buf (Elt Ideal) ℓ)
  (c : Dev Cert.Kernel3Ideal.nD)

/-- The arguments of the kernel as real numbers. -/
def actOf : Fin 2048 → Fin 6144 → ℝ := realOf (m ((c.tc : Thread Cert.Kernel3Ideal.nD Cert.Kernel3Ideal.τ).loc Cert.Kernel3Ideal.main_arg0) : Vec Ideal Cert.Kernel3Ideal.S2048x6144 .bf16)
def matrixOf : Fin 3072 → Fin 1024 → ℝ := realOf (m ((c.tc : Thread Cert.Kernel3Ideal.nD Cert.Kernel3Ideal.τ).loc Cert.Kernel3Ideal.main_arg1) : Vec Ideal Cert.Kernel3Ideal.S3072x1024 .bf16)
def residualOf : Fin 2048 → Fin 1024 → ℝ := realOf (m ((c.tc : Thread Cert.Kernel3Ideal.nD Cert.Kernel3Ideal.τ).loc Cert.Kernel3Ideal.main_arg2) : Vec Ideal Cert.Kernel3Ideal.S2048x1024 .f32)
def targetOf : Fin 2048 → Fin 1024 → ℝ := realOf (m ((c.tc : Thread Cert.Kernel3Ideal.nD Cert.Kernel3Ideal.τ).loc Cert.Kernel3Ideal.main_arg3) : Vec Ideal Cert.Kernel3Ideal.S2048x1024 .f32)
def scaleOf (d : Fin 1024) : ℝ :=
  ((m ((c.tc : Thread Cert.Kernel3Ideal.nD Cert.Kernel3Ideal.τ).loc Cert.Kernel3Ideal.main_arg4) : Vec Ideal Cert.Kernel3Ideal.S1024 .f32) (ix1 d)).toReal

end Claim

/-- From finite arguments both programs end with the closed forms in their five result arrays. -/
theorem algebraic [Cert.Kernel3Ideal.Facts] [Cert.Reference3Ideal.Facts] [Cert.Pre_loss_args_finite.Facts] :
    Cert.algebraic_Kernel3Ideal_Reference3Ideal_pre_loss_args_finite := by
  intro m ρ m' ρ' hpre hagree
  have hA : ∀ c, Cert.Kernel3Ideal.FfnDown.Args m c (actOf m c) (matrixOf m c) (residualOf m c) (targetOf m c) (scaleOf m c) := fun c => by
    obtain ⟨h0, h1, h2, h3, h4⟩ := args_real _ _ _ _ _ (hpre c)
    exact ⟨h0, h1, h2, h3, h4⟩
  have hR : ∀ c, Cert.Reference3Ideal.FfnDown.Args (StableHlo.launchContents m' c) (actOf m c) (matrixOf m c) (residualOf m c) (targetOf m c) (scaleOf m c) := fun c => by
    obtain ⟨g0, g1, g2, g3, g4⟩ := hagree c
    refine ⟨fun n q => ?_, fun n q => ?_, fun n q => ?_, fun n q => ?_, fun d => ?_⟩
    · exact (congrFun g0 _).trans ((hA c).act n q)
    · exact (congrFun g1 _).trans ((hA c).matrix n q)
    · exact (congrFun g2 _).trans ((hA c).residual n q)
    · exact (congrFun g3 _).trans ((hA c).target n q)
    · exact (congrFun g4 _).trans ((hA c).scale d)
  refine ⟨fun c => (fun y : Cert.Kernel3Ideal.S2048x1024.Idx => ((dyA (actOf m c) (matrixOf m c) (residualOf m c) (targetOf m c) (scaleOf m c) (y 0) (y 1) : ℝ) : EReal)),
    fun c => (fun y : Cert.Kernel3Ideal.S2048x1024.Idx => ((dOutA (actOf m c) (matrixOf m c) (residualOf m c) (targetOf m c) (scaleOf m c) (y 0) (y 1) : ℝ) : EReal)),
    fun c => (fun y : Cert.Kernel3Ideal.S2048x6144.Idx => ((back (actOf m c) (matrixOf m c) (residualOf m c) (targetOf m c) (scaleOf m c) (y 0) (y 1) : ℝ) : EReal)),
    fun c => (fun y : Cert.Kernel3Ideal.S1x1024.Idx => ((dScale (actOf m c) (matrixOf m c) (residualOf m c) (targetOf m c) (scaleOf m c) (y 1) : ℝ) : EReal)),
    fun c => (fun y : Cert.Kernel3Ideal.S8x128.Idx => ((loss (actOf m c) (matrixOf m c) (residualOf m c) (targetOf m c) (scaleOf m c) : ℝ) : EReal)), ?_, ?_⟩
  · refine (θ_run Cert.Kernel3Ideal.defs _ _).mono (fun _ h c => ?_) (Cert.Kernel3Ideal.Value.run_blocks (F := Ideal) m ρ)
    exact ⟨(h c).1.trans (Cert.Kernel3Ideal.FfnDown.dy_array (hA c)), (h c).2.1.trans (Cert.Kernel3Ideal.FfnDown.dOut_array (hA c)),
      (h c).2.2.1.trans (Cert.Kernel3Ideal.FfnDown.back_array (hA c)), (h c).2.2.2.1.trans (Cert.Kernel3Ideal.FfnDown.scale_array (hA c)),
      (h c).2.2.2.2.1.trans (Cert.Kernel3Ideal.FfnDown.loss_array (hA c)), (h c).2.2.2.2.2⟩
  · refine (θ_run Cert.Reference3Ideal.defs _ _).mono (fun _ h c => ?_) (Cert.Reference3Ideal.Value.run (F := Ideal) m' ρ')
    refine ⟨(h c).1.trans ?_, (h c).2.1.trans ?_, (h c).2.2.1.trans ?_, (h c).2.2.2.1.trans ?_, (h c).2.2.2.2.1.trans ?_, (h c).2.2.2.2.2⟩
    · funext y
      idx_vars y
      exact Cert.Reference3Ideal.FfnDown.first_real (hR c) y0 y1
    · funext y
      idx_vars y
      exact Cert.Reference3Ideal.FfnDown.second_real (hR c) y0 y1
    · funext y
      idx_vars y
      exact Cert.Reference3Ideal.FfnDown.third_real (hR c) y0 y1
    · funext y
      idx_vars y
      exact Cert.Reference3Ideal.FfnDown.fourth_real (hR c) y0 y1
    · funext y
      idx_vars y
      exact Cert.Reference3Ideal.FfnDown.fifth_real (hR c) y0 y1

end Cert.Proof.FfnDown

end
-- ==== Proof.FfnUp.Rows.lean ====
/- Rows of a tall array read one or two rows earlier or later, as the kernel does it: it takes a slice of 32 rows and the eight rows beside it, turns
   both round and joins them. -/
module

public import proofs.«01_k».proof.Proof.Gen.Kernel4Ideal.Frame
public import Idealize.ShloMosaic.Lib.Pointwise

@[expose] public section

set_option maxRecDepth 16384

noncomputable section

namespace Cert.Kernel4Ideal.FfnUp

open Cert.Kernel4Ideal Cert.Kernel4Ideal.Gen Idealize.ShloMosaic

/-- The slice `cur` read `j` rows earlier, its first `j` rows coming from the end of the eight rows before it. -/
def rowsBack (j : BitVec 32) (cur : FVec Ideal S32x512 .f32) (before : FVec Ideal S8x512 .f32) : FVec Ideal S32x512 .f32 :=
  concatenate S32x512 0 [⟨S8x512, select (cmpi .slt (iota .tc S8x512 32 [0] iota_S8x512_d0_w32) (broadcast S8x512 j))
      (dynamicRotate 0 j none before rotates_S8x512_d0)
      (extractStridedSlice S8x512 ![0, 0] (dynamicRotate 0 j none cur rotates_S32x512_d0) slices_S32x512_o0_0_S8x512)⟩,
    ⟨S24x512, extractStridedSlice S24x512 ![8, 0] (dynamicRotate 0 j none cur rotates_S32x512_d0) slices_S32x512_o8_0_S24x512⟩]
    concatenates_S8x512_S24x512_S32x512_d0

/-- The slice `cur` read some rows later, its last rows coming from the start of the eight rows after it: `a` and `b` are the two turns. -/
def rowsAhead (a b : BitVec 32) (cur : FVec Ideal S32x512 .f32) (after : FVec Ideal S8x512 .f32) : FVec Ideal S32x512 .f32 :=
  concatenate S32x512 0 [⟨S24x512, extractStridedSlice S24x512 ![0, 0] (dynamicRotate 0 a none cur rotates_S32x512_d0) slices_S32x512_o0_0_S24x512⟩,
    ⟨S8x512, select (cmpi .sge (iota .tc S8x512 32 [0] iota_S8x512_d0_w32) (broadcast S8x512 b))
      (dynamicRotate 0 b none after rotates_S8x512_d0)
      (extractStridedSlice S8x512 ![24, 0] (dynamicRotate 0 a none cur rotates_S32x512_d0) slices_S32x512_o24_0_S8x512)⟩]
    concatenates_S24x512_S8x512_S32x512_d0

/-- Which of eight rows lie before row `k`, as the kernel decides it. -/
theorem slt_row : ∀ k r : Fin 8, IntOp.cmpi CmpIPredicate.slt (BitVec.ofNat 32 r.val) (BitVec.ofNat 32 k.val) = BitVec.ofBool (decide (r.val < k.val)) := by
  decide +kernel

/-- Which of eight rows lie at or after row `k`, as the kernel decides it. -/
theorem sge_row : ∀ k r : Fin 8, IntOp.cmpi CmpIPredicate.sge (BitVec.ofNat 32 r.val) (BitVec.ofNat 32 k.val) = BitVec.ofBool (decide (k.val ≤ r.val)) := by
  decide +kernel

/-- A slice of the array `g` read one or two rows earlier. -/
theorem rowsBack_apply (k : Fin 8) (hk : k = 1 ∨ k = 2) (cur : FVec Ideal S32x512 .f32) (before : FVec Ideal S8x512 .f32) (g : ℕ → Fin 512 → Ideal .f32) (r0 : ℕ)
    (hc : ∀ (r : Fin 32) (l : Fin 512), cur (ix2 r l) = g (r0 + 8 + r.val) l) (hb : ∀ (r : Fin 8) (l : Fin 512), before (ix2 r l) = g (r0 + r.val) l)
    (r : Fin 32) (l : Fin 512) : rowsBack (BitVec.ofNat 32 k.val) cur before (ix2 r l) = g (r0 + (8 - k.val) + r.val) l := by
  rcases hk with rfl | rfl
  all_goals
    have hs := slt_row
    unfold rowsBack
    dsimp only [Fin.val_one, Fin.val_two]
    pointwise
    simp only [hc, hb]
    split
    · rename_i h8
      first
      | rw [show IntOp.cmpi CmpIPredicate.slt (BitVec.ofNat 32 r.val) 1#32 = BitVec.ofBool (decide (r.val < 1)) from hs 1 ⟨r.val, h8⟩]
        by_cases h1 : r.val < 1
        · simp only [h1, decide_true, BitVec.ofBool_true, Scalar.select]; simp; congr 1; omega
        · simp only [h1, decide_false, BitVec.ofBool_false, Scalar.select]; simp; congr 1; omega
      | rw [show IntOp.cmpi CmpIPredicate.slt (BitVec.ofNat 32 r.val) 2#32 = BitVec.ofBool (decide (r.val < 2)) from hs 2 ⟨r.val, h8⟩]
        by_cases h1 : r.val < 2
        · simp only [h1, decide_true, BitVec.ofBool_true, Scalar.select]; simp; congr 1; omega
        · simp only [h1, decide_false, BitVec.ofBool_false, Scalar.select]; simp; congr 1; omega
    · congr 1; omega

/-- A slice of the array `g` read one or two rows later. -/
theorem rowsAhead_apply (k : Fin 8) (hk : k = 1 ∨ k = 2) (cur : FVec Ideal S32x512 .f32) (after : FVec Ideal S8x512 .f32) (g : ℕ → Fin 512 → Ideal .f32) (r0 : ℕ)
    (hc : ∀ (r : Fin 32) (l : Fin 512), cur (ix2 r l) = g (r0 + r.val) l) (ha : ∀ (r : Fin 8) (l : Fin 512), after (ix2 r l) = g (r0 + 32 + r.val) l)
    (r : Fin 32) (l : Fin 512) :
    rowsAhead (BitVec.ofNat 32 (32 - k.val)) (BitVec.ofNat 32 (8 - k.val)) cur after (ix2 r l) = g (r0 + k.val + r.val) l := by
  rcases hk with rfl | rfl
  all_goals
    have hs := sge_row
    unfold rowsAhead
    dsimp only [Fin.val_one, Fin.val_two, Nat.reduceSub]
    pointwise
    simp only [hc, ha]
    split
    · congr 1; omega
    · first
      | rw [show IntOp.cmpi CmpIPredicate.sge (BitVec.ofNat 32 (r.val - 24)) 7#32 = BitVec.ofBool (decide (7 ≤ r.val - 24)) from hs 7 ⟨r.val - 24, by omega⟩]
        by_cases h1 : 7 ≤ r.val - 24
        · simp only [h1, decide_true, BitVec.ofBool_true, Scalar.select]; simp; congr 1; omega
        · simp only [h1, decide_false, BitVec.ofBool_false, Scalar.select]; simp; congr 1; omega
      | rw [show IntOp.cmpi CmpIPredicate.sge (BitVec.ofNat 32 (r.val - 24)) 6#32 = BitVec.ofBool (decide (6 ≤ r.val - 24)) from hs 6 ⟨r.val - 24, by omega⟩]
        by_cases h1 : 6 ≤ r.val - 24
        · simp only [h1, decide_true, BitVec.ofBool_true, Scalar.select]; simp; congr 1; omega
        · simp only [h1, decide_false, BitVec.ofBool_false, Scalar.select]; simp; congr 1; omega

end Cert.Kernel4Ideal.FfnUp

end
-- ==== Proof.FfnUp.Stage.lean ====
/- What one point of the kernel keeps in its first two scratch buffers: the block of the saved product under eight rows of zeros, and the block of the
   cotangent over eight rows of zeros. Both are filled by chunks of 256 rows; read back they are one array each. -/
module

public import proofs.«01_k».proof.Proof.FfnUp.Rows
public import Idealize.ShloMosaic.Lib.Pipeline.ValueKit
public import Idealize.ShloMosaic.Lib.Pipeline.ReadBack

@[expose] public section

set_option maxRecDepth 16384

noncomputable section

namespace Cert.Kernel4Ideal.FfnUp

open Cert.Kernel4Ideal Cert.Kernel4Ideal.Gen Idealize.ShloMosaic Idealize.ShloMosaic.TcCoe

/-- A block of 2048 rows under eight rows of zeros, by the row's number. -/
def padG (p : Vec Ideal S2048x512 .bf16) (n : ℕ) (l : Fin 512) : EReal :=
  if h : 8 ≤ n ∧ n < 2056 then p (ix2 ⟨n - 8, by omega⟩ l) else 0

/-- A block of 2048 rows over zeros, by the row's number. -/
def backG (p : Vec Ideal S2048x512 .bf16) (n : ℕ) (l : Fin 512) : EReal :=
  if h : n < 2048 then p (ix2 ⟨n, h⟩ l) else 0

/-- A function of a row's number and a lane, as a buffer of 2056 rows. -/
def tall (g : ℕ → Fin 512 → EReal) : Vec Ideal S2056x512 .f32 := fun y => g (y 0).val (y 1)

/-- A piece of a buffer of 2056 rows, placed: row `x` of the piece at row `o` is row `o + x` of the buffer. -/
theorem tall_emb (g : ℕ → Fin 512 → EReal) (o n : ℕ) (inb : ∀ a, (![o, 0] : Fin 2 → ℕ) a + (![n, 512] : Fin 2 → ℕ) a ≤ S2056x512.size a)
    (r : Fin n) (l : Fin 512) :
    tall g ((Rect.unit (s := S2056x512) ![o, 0] ![n, 512] inb).emb (ix2 r l)) = g (o + r.val) l := by
  unfold tall
  have h0 : (((Rect.unit (s := S2056x512) ![o, 0] ![n, 512] inb).emb (ix2 r l)) 0).val = o + r.val := ValueKit.rect_emb_unit_val _ _ _ _ _
  have h1 : (((Rect.unit (s := S2056x512) ![o, 0] ![n, 512] inb).emb (ix2 r l)) 1).val = 0 + l.val := ValueKit.rect_emb_unit_val _ _ _ _ _
  rw [h0]
  congr 1
  exact Fin.ext (by rw [h1]; omega)

/-- The block under eight zero rows, at a row that holds one. -/
theorem padG_eq (p : Vec Ideal S2048x512 .bf16) (n : ℕ) (hn : n < 2048) (k : ℕ) (hk : k = n + 8) (l : Fin 512) :
    padG p k l = p (ix2 ⟨n, hn⟩ l) := by
  subst hk
  unfold padG
  rw [dif_pos ⟨by omega, by omega⟩]
  rfl

/-- The eight rows of zeros above it. -/
theorem padG_zero (p : Vec Ideal S2048x512 .bf16) (k : ℕ) (hk : k < 8) (l : Fin 512) : padG p k l = 0 :=
  dif_neg (by omega)

/-- The block over eight zero rows, at a row that holds one. -/
theorem backG_eq (p : Vec Ideal S2048x512 .bf16) (n : ℕ) (hn : n < 2048) (l : Fin 512) : backG p n l = p (ix2 ⟨n, hn⟩ l) := dif_pos hn

/-- The eight rows of zeros below it. -/
theorem backG_zero (p : Vec Ideal S2048x512 .bf16) (k : ℕ) (hk : 2048 ≤ k) (l : Fin 512) : backG p k l = 0 :=
  dif_neg (by omega)

variable (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S3x512 .f32) (harg3 : arg3.IsWhole) (arg4 : Memref sig .tc .vmem S2048x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x1024 .f32) (harg9 : arg9.IsWhole) (arg10 : Memref sig .tc .vmem S2056x512 .f32) (harg10 : arg10.IsWhole) (arg11 : Memref sig .tc .vmem S2056x512 .f32) (harg11 : arg11.IsWhole) (arg12 : Memref sig .tc .vmem S2048x512 .bf16) (harg12 : arg12.IsWhole) (hc0 : cond0_0 i)
    (x0 x1 : Vec Ideal S2048x512 .bf16) (x2 : Vec Ideal S3x512 .f32) (x3 : Vec Ideal S2048x1024 .bf16) (x4 : Vec Ideal S1024x512 .bf16)

/-- The first scratch buffer, filled: the saved product's block under eight rows of zeros. -/
theorem pad_filled :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1
      = tall (padG x0) := by
  funext y
  have hc := View.cover_of_tiledBy (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1
    S8x512.size (by sl_kernel_rfl) y
  refine (congrArg (fun L => View.canon L y) (List.append_nil _).symm).trans
    (View.canon_append_of_piecesOf (tall (padG x0)) [] _ ?_ y hc)
  unfold kernelRun0_A
  dsimp only
  sl_unfold_words
  simp only [View.readAt_eq_ld, harg1.read_unread]
  refine ⟨?_, ?_, ?_, ?_, ?_, ?_, ?_, ?_, ?_, trivial⟩
  all_goals
    intro x
    idx_vars x
    refine Eq.trans ?_ (tall_emb _ _ _ _ _ _).symm
    unfold_payloads
    pointwise
    first
    | exact (padG_zero _ _ (by omega) _).symm
    | exact (padG_eq _ _ _ _ (by omega) _).symm

/-- The second scratch buffer, filled: the cotangent's block over eight rows of zeros. -/
theorem back_filled :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.1
      = tall (backG x1) := by
  funext y
  have hc := View.cover_of_tiledBy (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.1
    S8x512.size (by sl_kernel_rfl) y
  refine (congrArg (fun L => View.canon L y) (List.append_nil _).symm).trans
    (View.canon_append_of_piecesOf (tall (backG x1)) [] _ ?_ y hc)
  unfold kernelRun0_A
  dsimp only
  sl_unfold_words
  simp only [View.readAt_eq_ld, harg2.read_unread]
  refine ⟨?_, ?_, ?_, ?_, ?_, ?_, ?_, ?_, ?_, trivial⟩
  all_goals
    intro x
    idx_vars x
    refine Eq.trans ?_ (tall_emb _ _ _ _ _ _).symm
    unfold_payloads
    pointwise
    first
    | exact (backG_zero _ _ (by omega) _).symm
    | exact (backG_eq _ _ _ _).symm

end Cert.Kernel4Ideal.FfnUp

end
-- ==== Proof.FfnUp.Slices.lean ====
/- What one point of the kernel keeps in its third scratch buffer: the cotangent of the product, which is the transposed convolution of the cotangent,
   stored by slices of 32 rows. -/
module

public import proofs.«01_k».proof.Proof.FfnUp.Stage

@[expose] public section

set_option maxRecDepth 16384

noncomputable section

namespace Cert.Kernel4Ideal.FfnUp

open Cert.Kernel4Ideal Cert.Kernel4Ideal.Gen Idealize.ShloMosaic Idealize.ShloMosaic.TcCoe

/-- The transpose of the convolution of three taps, row `n`: it reads the same row and the two below. -/
def anticausal (w : Vec Ideal S3x512 .f32) (g : ℕ → Fin 512 → EReal) (n : ℕ) (l : Fin 512) : EReal :=
  w (ix2 0 l) * g (n + 2) l + w (ix2 1 l) * g (n + 1) l + w (ix2 2 l) * g n l

/-- The block of the product's cotangent. -/
def dUp (x1 : Vec Ideal S2048x512 .bf16) (w : Vec Ideal S3x512 .f32) : Vec Ideal S2048x512 .bf16 :=
  fun y => anticausal w (backG x1) (y 0).val (y 1)

/-- Three slices weighted by the three taps and added, as the kernel writes it. -/
def weigh (w : Vec Ideal S3x512 .f32) (a b d : FVec Ideal S32x512 .f32) : FVec Ideal S32x512 .f32 :=
  addf (addf (mulf (broadcastTo S32x512 (extractStridedSlice S1x512 ![0, 0] w slices_S3x512_o0_0_S1x512) broadcasts_S1x512_S32x512) a)
      (mulf (broadcastTo S32x512 (extractStridedSlice S1x512 ![1, 0] w slices_S3x512_o1_0_S1x512) broadcasts_S1x512_S32x512) b))
    (mulf (broadcastTo S32x512 (extractStridedSlice S1x512 ![2, 0] w slices_S3x512_o2_0_S1x512) broadcasts_S1x512_S32x512) d)

theorem weigh_apply (w : Vec Ideal S3x512 .f32) (a b d : FVec Ideal S32x512 .f32) (r : Fin 32) (l : Fin 512) :
    weigh w a b d (ix2 r l) = w (ix2 0 l) * a (ix2 r l) + w (ix2 1 l) * b (ix2 r l) + w (ix2 2 l) * d (ix2 r l) := by
  pointwise [weigh]

/-- A slice of the product's cotangent, of the cotangent's slice and the eight rows after it. -/
def dUpSlice (w : Vec Ideal S3x512 .f32) (cur : FVec Ideal S32x512 .f32) (after : FVec Ideal S8x512 .f32) : FVec Ideal S32x512 .bf16 :=
  shapeCast S32x512 (truncf .bf16 (weigh w (rowsAhead 30#32 6#32 cur after) (rowsAhead 31#32 7#32 cur after) cur) bitsLt_bf16_f32) shapeCasts_S32x512_S32x512

theorem inb_rows (n o : ℕ) (h : o + n ≤ 2056) : ∀ a, (![o, 0] : Fin 2 → ℕ) a + (![n, 512] : Fin 2 → ℕ) a ≤ S2056x512.size a := by
  intro a
  match a with
  | ⟨0, _⟩ => exact h
  | ⟨1, _⟩ => exact le_refl 512

/-- A load of `n` rows at row `o` of a buffer of 2056 rows that the kernel has filled. -/
theorem loaded {κ : Kind} {sp : Space} (v : View sig κ sp S2056x512 .f32) (L : List (View.Piece (Elt Ideal) S2056x512 .f32)) (g : ℕ → Fin 512 → EReal)
    (hL : View.canon L = tall g) (o n : ℕ) (inb : ∀ a, (![o, 0] : Fin 2 → ℕ) a + (![n, 512] : Fin 2 → ℕ) a ≤ S2056x512.size a) (r : Fin n) (l : Fin 512) :
    v.readCov L (Rect.unit (s := S2056x512) ![o, 0] ![n, 512] inb).toLoadRect (ix2 r l) = g (o + r.val) l := by
  rw [View.readCov_eq_canon', hL]
  exact tall_emb g o n inb r l

/-- A slice at row `o` is rows `o` to `o + 31` of the block. -/
theorem slice_piece {κ : Kind} {sp : Space} (v : View sig κ sp S2056x512 .f32) (L : List (View.Piece (Elt Ideal) S2056x512 .f32)) (x1 : Vec Ideal S2048x512 .bf16)
    (w : Vec Ideal S3x512 .f32) (hL : View.canon L = tall (backG x1)) (arg : Memref sig .tc .vmem S3x512 .f32) (harg : arg.IsWhole) (o : ℕ) (i0) (i1) (i2) (inb : ∀ a, (![o, 0] : Fin 2 → ℕ) a + (![32, 512] : Fin 2 → ℕ) a ≤ S2048x512.size a)
    (x : (Rect.unit (s := S2048x512) ![o, 0] ![32, 512] inb).shape.Idx) :
    dUpSlice (View.readAt (Elt Ideal) arg.view (Rect.unit (s := S3x512) ![0, 0] ![3, 512] i0).toLoadRect (harg.unread w))
      (v.readCov L (Rect.unit (s := S2056x512) ![o, 0] ![32, 512] i1).toLoadRect)
      (v.readCov L (Rect.unit (s := S2056x512) ![o + 32, 0] ![8, 512] i2).toLoadRect) x
      = dUp x1 w ((Rect.unit (s := S2048x512) ![o, 0] ![32, 512] inb).emb x) := by
  have hc := loaded v L _ hL o 32 i1
  have ha := loaded v L _ hL (o + 32) 8 i2
  generalize v.readCov L (Rect.unit (s := S2056x512) ![o, 0] ![32, 512] i1).toLoadRect = cur at hc ⊢
  generalize v.readCov L (Rect.unit (s := S2056x512) ![o + 32, 0] ![8, 512] i2).toLoadRect = aft at ha ⊢
  simp only [View.readAt_eq_ld, harg.read_unread]
  rw [View.ld_unit_lit _ _ (by decide)]
  change Vec Ideal S32x512 .f32 at cur
  change Vec Ideal S8x512 .f32 at aft
  change S32x512.Idx at x
  obtain ⟨xr, xl, rfl⟩ : ∃ (r : Fin 32) (l : Fin 512), x = ix2 r l := ⟨x 0, x 1, eq_ix2 x⟩
  have h0 : (((Rect.unit (s := S2048x512) ![o, 0] ![32, 512] inb).emb (ix2 xr xl)) 0).val = o + xr.val := ValueKit.rect_emb_unit_val _ _ _ _ _
  have h1 : (((Rect.unit (s := S2048x512) ![o, 0] ![32, 512] inb).emb (ix2 xr xl)) 1).val = 0 + xl.val := ValueKit.rect_emb_unit_val _ _ _ _ _
  unfold dUp dUpSlice
  rw [h0, show ((Rect.unit (s := S2048x512) ![o, 0] ![32, 512] inb).emb (ix2 xr xl)) 1 = xl from Fin.ext (by rw [h1]; omega)]
  pointwise
  rw [weigh_apply]
  have e2 := rowsAhead_apply 2 (.inr rfl) cur aft _ o hc ha xr xl
  have e1 := rowsAhead_apply 1 (.inl rfl) cur aft _ o hc ha xr xl
  change rowsAhead 30#32 6#32 cur aft _ = _ at e2
  change rowsAhead 31#32 7#32 cur aft _ = _ at e1
  rw [e2, e1, hc]
  unfold anticausal
  simp only [Fin.val_one, Fin.val_two]
  rw [show o + 2 + xr.val = o + xr.val + 2 by omega, show o + 1 + xr.val = o + xr.val + 1 by omega]

variable (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S3x512 .f32) (harg3 : arg3.IsWhole) (arg4 : Memref sig .tc .vmem S2048x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x1024 .f32) (harg9 : arg9.IsWhole) (arg10 : Memref sig .tc .vmem S2056x512 .f32) (harg10 : arg10.IsWhole) (arg11 : Memref sig .tc .vmem S2056x512 .f32) (harg11 : arg11.IsWhole) (arg12 : Memref sig .tc .vmem S2048x512 .bf16) (harg12 : arg12.IsWhole) (hc0 : cond0_0 i)
    (x0 x1 : Vec Ideal S2048x512 .bf16) (x2 : Vec Ideal S3x512 .f32) (x3 : Vec Ideal S2048x1024 .bf16) (x4 : Vec Ideal S1024x512 .bf16)

set_option maxHeartbeats 4000000 in
/-- Every slice of the third scratch buffer holds the block of the product's cotangent at its place. -/
theorem slices :
    View.PiecesOf (dUp x1 x2) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.2.1 := by
  have hb := back_filled c i arg1 harg1 arg2 harg2 arg3 harg3 arg4 harg4 arg5 harg5 arg6 harg6 arg7 harg7 arg8 harg8 arg9 harg9 arg10 harg10 arg11 harg11 arg12 harg12 hc0 x0 x1 x2 x3 x4
  unfold kernelRun0_A at hb ⊢
  dsimp only at hb ⊢
  iterate 64
    refine And.intro ?_ ?_
    · intro x
      dsimp only
      exact slice_piece arg11.view _ x1 x2 hb arg3 harg3 _ _ _ _ _ x
  trivial

end Cert.Kernel4Ideal.FfnUp

end
-- ==== Proof.FfnUp.Taps.lean ====
/- What one point of the kernel adds over the rows of its block: the gradients of the three taps and of the bias. Each is a running sum of 64 slices of
   32 rows, every slice folded to eight rows, and the eight rows are added at the end. -/
module

public import proofs.«01_k».proof.Proof.FfnUp.Slices

@[expose] public section

set_option maxRecDepth 16384

noncomputable section

namespace Cert.Kernel4Ideal.FfnUp

open Cert.Kernel4Ideal Cert.Kernel4Ideal.Gen Idealize.ShloMosaic Idealize.ShloMosaic.TcCoe

/-- A slice of 32 rows folded to eight: every eighth row added. -/
def fold (a : FVec Ideal S32x512 .f32) : FVec Ideal S8x512 .f32 :=
  multiReduction .add [0] S8x512 (shapeCast S4x8x512 a shapeCasts_S32x512_S4x8x512) 0x00000000#32 reduces_S4x8x512_S8x512 (.inl rfl) rfl

theorem fold_apply (a : FVec Ideal S32x512 .f32) (r : Fin 8) (l : Fin 512) :
    fold a (ix2 r l) = ∑ j : Fin 4, a (ix2 ⟨8 * j.val + r.val, by omega⟩ l) := by
  unfold fold
  pointwise
  refine Finset.sum_congr rfl fun j _ => congrArg a (congrArg (ix2 · l) (Fin.ext ?_))
  dsimp only
  omega

/-- The slices that start at the listed rows, folded and added to zeros, the last listed first. -/
def running (f : ℕ → FVec Ideal S32x512 .f32) : List ℕ → FVec Ideal S8x512 .f32
  | [] => broadcast S8x512 (Scalar.ofBits .f32 0x00000000#32)
  | o :: L => addf (running f L) (fold (f o))

/-- The eight rows of a running sum added to one. -/
def lastRow (a : FVec Ideal S8x512 .f32) : FVec Ideal S1x512 .f32 :=
  shapeCast S1x512 (multiReduction .add [0] S512 a 0x00000000#32 reduces_S8x512_S512 (.inl rfl) rfl) shapeCasts_S512_S1x512

theorem lastRow_apply (a : FVec Ideal S8x512 .f32) (z : Fin 1) (l : Fin 512) : lastRow a (ix2 z l) = ∑ r : Fin 8, a (ix2 r l) := by
  unfold lastRow
  pointwise

/-- The first rows of the slices, last first. -/
def starts : List ℕ := (List.range 64).reverse.map (32 * ·)

theorem running_list (f : ℕ → FVec Ideal S32x512 .f32) (g : ℕ → EReal) (r : Fin 8) (l : Fin 512) :
    ∀ L : List ℕ, (∀ o ∈ L, ∀ n : Fin 32, f o (ix2 n l) = g (o + n.val)) →
      running f L (ix2 r l) = (L.map fun o => ∑ j : Fin 4, g (o + (8 * j.val + r.val))).sum
  | [], _ => by unfold running; pointwise; rfl
  | o :: L, h => by
    unfold running
    rw [List.map_cons, List.sum_cons, add_comm]
    refine congrArg₂ (· + ·) (running_list f g r l L fun o ho => h o (List.mem_cons_of_mem _ ho)) ?_
    rw [fold_apply]
    exact Finset.sum_congr rfl fun j _ => h o List.mem_cons_self ⟨8 * j.val + r.val, by omega⟩

/-- The whole sum is the sum over the 2048 rows. -/
theorem running_all (f : ℕ → FVec Ideal S32x512 .f32) (g : ℕ → EReal) (z : Fin 1) (l : Fin 512)
    (hf : ∀ o, o + 32 ≤ 2048 → ∀ n : Fin 32, f o (ix2 n l) = g (o + n.val)) :
    lastRow (running f starts) (ix2 z l) = ∑ n : Fin 2048, g n.val := by
  rw [lastRow_apply]
  have hm : ∀ o ∈ starts, ∀ n : Fin 32, f o (ix2 n l) = g (o + n.val) := fun o ho => by
    obtain ⟨s, hs, rfl⟩ := List.mem_map.1 ho
    have := List.mem_range.1 (List.mem_reverse.1 hs)
    exact hf _ (by omega)
  simp only [running_list f g _ l starts hm]
  have e : ∀ r : Fin 8, ((starts.map fun o => ∑ j : Fin 4, g (o + (8 * j.val + r.val))).sum) = ∑ s : Fin 64, ∑ j : Fin 4, g (32 * s.val + (8 * j.val + r.val)) := fun r => by
    unfold starts
    rw [List.map_map, List.map_reverse, List.sum_reverse, ← Finset.sum_range (fun s => ∑ j : Fin 4, g (32 * s + (8 * j.val + r.val)))]
    rfl
  simp only [e]
  rw [Finset.sum_comm]
  refine Eq.trans ?_ (Fin.sum_univ_univ_mul_add 64 32 g)
  refine Finset.sum_congr rfl fun s _ => ?_
  rw [Finset.sum_comm]
  refine Eq.trans ?_ (Fin.sum_univ_univ_mul_add 4 8 (fun n => g (s.val * 32 + n)))
  refine Finset.sum_congr rfl fun j _ => Finset.sum_congr rfl fun r _ => ?_
  congr 1
  omega

/-- The gradient of tap `k` at a lane: the cotangent's rows times the rows of the saved product that the tap met. -/
def tapG (b p : ℕ → Fin 512 → EReal) (k : ℕ) (l : Fin 512) : EReal := ∑ n : Fin 2048, b n.val l * p (n.val + (6 + k)) l

/-- The gradient of the bias at a lane. -/
def biasG (b : ℕ → Fin 512 → EReal) (l : Fin 512) : EReal := ∑ n : Fin 2048, b n.val l

/-- The three taps' gradients as the kernel adds them, of what it reads of the two buffers at each row. -/
def tapsOf (back cur : ℕ → Vec Ideal S32x512 .f32) (before : ℕ → Vec Ideal S8x512 .f32) : FVec Ideal S3x512 .f32 :=
  concatenate S3x512 0 [⟨S1x512, lastRow (running (fun o => mulf (back o) (rowsBack 2#32 (cur o) (before o))) starts)⟩,
    ⟨S1x512, lastRow (running (fun o => mulf (back o) (rowsBack 1#32 (cur o) (before o))) starts)⟩,
    ⟨S1x512, lastRow (running (fun o => mulf (back o) (cur o)) starts)⟩] concatenates_S1x512_S1x512_S1x512_S3x512_d0

theorem tapsOf_eq (back cur : ℕ → Vec Ideal S32x512 .f32) (before : ℕ → Vec Ideal S8x512 .f32) (b p : ℕ → Fin 512 → EReal)
    (hb : ∀ o, o + 32 ≤ 2048 → ∀ (r : Fin 32) (l : Fin 512), back o (ix2 r l) = b (o + r.val) l)
    (hc : ∀ o, o + 32 ≤ 2048 → ∀ (r : Fin 32) (l : Fin 512), cur o (ix2 r l) = p (o + 8 + r.val) l)
    (hbef : ∀ o, o + 32 ≤ 2048 → ∀ (r : Fin 8) (l : Fin 512), before o (ix2 r l) = p (o + r.val) l) :
    tapsOf back cur before = fun y => tapG b p (y 0).val (y 1) := by
  have h2 : ∀ z l, lastRow (running (fun o => mulf (back o) (rowsBack 2#32 (cur o) (before o))) starts) (ix2 z l) = tapG b p 0 l := fun z l =>
    running_all _ (fun n => b n l * p (n + (6 + 0)) l) z l fun o ho r => by
      have e := rowsBack_apply 2 (.inr rfl) (cur o) (before o) p o (hc o ho) (hbef o ho) r l
      change rowsBack 2#32 _ _ _ = _ at e
      pointwise
      rw [hb o ho, e]
      simp only [Fin.val_two]
      rw [show o + (8 - 2) + r.val = o + r.val + (6 + 0) by omega]
  have h1 : ∀ z l, lastRow (running (fun o => mulf (back o) (rowsBack 1#32 (cur o) (before o))) starts) (ix2 z l) = tapG b p 1 l := fun z l =>
    running_all _ (fun n => b n l * p (n + (6 + 1)) l) z l fun o ho r => by
      have e := rowsBack_apply 1 (.inl rfl) (cur o) (before o) p o (hc o ho) (hbef o ho) r l
      change rowsBack 1#32 _ _ _ = _ at e
      pointwise
      rw [hb o ho, e]
      simp only [Fin.val_one]
      rw [show o + (8 - 1) + r.val = o + r.val + (6 + 1) by omega]
  have h0 : ∀ z l, lastRow (running (fun o => mulf (back o) (cur o)) starts) (ix2 z l) = tapG b p 2 l := fun z l =>
    running_all _ (fun n => b n l * p (n + (6 + 2)) l) z l fun o ho r => by
      pointwise
      rw [hb o ho, hc o ho, show o + 8 + r.val = o + r.val + (6 + 2) by omega]
  funext j
  idx_vars j
  unfold tapsOf
  match j0 with
  | ⟨0, _⟩ => exact Eq.trans (by pointwise) (h2 0 j1)
  | ⟨1, _⟩ => exact Eq.trans (by pointwise) (h1 0 j1)
  | ⟨2, _⟩ => exact Eq.trans (by pointwise) (h0 0 j1)

/-- A load of `n` rows at row `o` of a buffer the kernel has filled. -/
def rowsAt {κ : Kind} {sp : Space} (v : View sig κ sp S2056x512 .f32) (L : List (View.Piece (Elt Ideal) S2056x512 .f32)) (n o : ℕ) :
    Vec Ideal ⟨2, ![n, 512]⟩ .f32 :=
  if h : o + n ≤ 2056 then v.readCov L (Rect.unit (s := S2056x512) ![o, 0] ![n, 512] (inb_rows n o h)).toLoadRect else fun _ => 0

theorem rowsAt_pos {κ : Kind} {sp : Space} (v : View sig κ sp S2056x512 .f32) (L : List (View.Piece (Elt Ideal) S2056x512 .f32)) (n o : ℕ) (h : o + n ≤ 2056) :
    rowsAt v L n o = v.readCov L (Rect.unit (s := S2056x512) ![o, 0] ![n, 512] (inb_rows n o h)).toLoadRect := dif_pos h

theorem rowsAt_apply {κ : Kind} {sp : Space} (v : View sig κ sp S2056x512 .f32) (L : List (View.Piece (Elt Ideal) S2056x512 .f32))
    (g : ℕ → Fin 512 → EReal) (hL : View.canon L = tall g) (n o : ℕ) (h : o + n ≤ 2056) (r : Fin n) (l : Fin 512) :
    rowsAt v L n o (ix2 r l) = g (o + r.val) l := by
  rw [rowsAt_pos v L n o h]
  exact loaded v L g hL o n _ r l

theorem sumRows_eq {κ : Kind} {sp : Space} (v : View sig κ sp S2056x512 .f32) (L : List (View.Piece (Elt Ideal) S2056x512 .f32))
    (g : ℕ → Fin 512 → EReal) (hL : View.canon L = tall g) :
    lastRow (running (fun o => rowsAt v L 32 o) starts) = fun y => biasG g (y 1) := by
  funext y
  idx_vars y
  exact running_all _ (fun n => g n y1) y0 y1 fun o ho r => rowsAt_apply v L g hL 32 o (by omega) r y1

theorem starts_eq : starts = [2016, 1984, 1952, 1920, 1888, 1856, 1824, 1792, 1760, 1728, 1696, 1664, 1632, 1600, 1568, 1536, 1504, 1472, 1440, 1408, 1376, 1344, 1312, 1280, 1248, 1216, 1184, 1152, 1120, 1088, 1056, 1024, 992, 960, 928, 896, 864, 832, 800, 768, 736, 704, 672, 640, 608, 576, 544, 512, 480, 448, 416, 384, 352, 320, 288, 256, 224, 192, 160, 128, 96, 64, 32, 0] := by decide

variable (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S3x512 .f32) (harg3 : arg3.IsWhole) (arg4 : Memref sig .tc .vmem S2048x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x1024 .f32) (harg9 : arg9.IsWhole) (arg10 : Memref sig .tc .vmem S2056x512 .f32) (harg10 : arg10.IsWhole) (arg11 : Memref sig .tc .vmem S2056x512 .f32) (harg11 : arg11.IsWhole) (arg12 : Memref sig .tc .vmem S2048x512 .bf16) (harg12 : arg12.IsWhole) (hc0 : cond0_0 i)
    (x0 x1 : Vec Ideal S2048x512 .bf16) (x2 : Vec Ideal S3x512 .f32) (x3 : Vec Ideal S2048x1024 .bf16) (x4 : Vec Ideal S1024x512 .bf16)

set_option maxHeartbeats 4000000 in
/-- The block of the taps' gradients. -/
theorem taps_stored :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1
      = fun y => tapG (backG x1) (padG x0) (y 0).val (y 1) := by
  have hp := pad_filled c i arg1 harg1 arg2 harg2 arg3 harg3 arg4 harg4 arg5 harg5 arg6 harg6 arg7 harg7 arg8 harg8 arg9 harg9 arg10 harg10 arg11 harg11 arg12 harg12 hc0 x0 x1 x2 x3 x4
  have hb := back_filled c i arg1 harg1 arg2 harg2 arg3 harg3 arg4 harg4 arg5 harg5 arg6 harg6 arg7 harg7 arg8 harg8 arg9 harg9 arg10 harg10 arg11 harg11 arg12 harg12 hc0 x0 x1 x2 x3 x4
  unfold kernelRun0_A at hp hb ⊢
  dsimp only at hp hb ⊢
  refine (View.canon_cons_unit_lit _ _ _ (by decide)).trans ?_
  refine Eq.trans ?_ (tapsOf_eq (rowsAt _ _ 32) (fun o => rowsAt _ _ 32 (8 + o)) (rowsAt _ _ 8) (backG x1) (padG x0)
    (fun o ho r l => rowsAt_apply arg11.view _ _ hb 32 o (by omega) r l)
    (fun o ho r l => (rowsAt_apply arg10.view _ _ hp 32 (8 + o) (by omega) r l).trans (by rw [Nat.add_comm 8 o]))
    (fun o ho r l => rowsAt_apply arg10.view _ _ hp 8 o (by omega) r l))
  simp (discharger := decide) only [tapsOf, running, starts_eq, rowsAt_pos]
  rfl

set_option maxHeartbeats 4000000 in
/-- The block of the bias's gradient. -/
theorem bias_stored :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1
      = fun y => biasG (backG x1) (y 1) := by
  have hb := back_filled c i arg1 harg1 arg2 harg2 arg3 harg3 arg4 harg4 arg5 harg5 arg6 harg6 arg7 harg7 arg8 harg8 arg9 harg9 arg10 harg10 arg11 harg11 arg12 harg12 hc0 x0 x1 x2 x3 x4
  unfold kernelRun0_A at hb ⊢
  dsimp only at hb ⊢
  refine (View.canon_cons_unit_lit _ _ _ (by decide)).trans ?_
  have e := sumRows_eq arg11.view _ _ hb
  refine Eq.trans ?_ e
  simp (discharger := decide) only [running, starts_eq, rowsAt_pos]
  rfl

end Cert.Kernel4Ideal.FfnUp

end
-- ==== Proof.FfnUp.Sums.lean ====
/- The two products of one point of the kernel: the gradient of the weight's columns, and what the point adds to the gradient of the input, chunk by
   chunk of 256 rows. The left factor of the second is read back from the slices of the third scratch buffer. -/
module

public import proofs.«01_k».proof.Proof.FfnUp.Taps

@[expose] public section

set_option maxRecDepth 16384

noncomputable section

namespace Cert.Kernel4Ideal.FfnUp

open Cert.Kernel4Ideal Cert.Kernel4Ideal.Gen Idealize.ShloMosaic Idealize.ShloMosaic.TcCoe

/-- The weight's gradient at a block of columns, of the input and the block of the product's cotangent. -/
def weightG (x : Vec Ideal S2048x1024 .bf16) (d : Vec Ideal S2048x512 .bf16) : FVec Ideal S1024x512 .bf16 :=
  fun y => ∑ n : Fin 2048, x (ix2 n (y 0)) * d (ix2 n (y 1))

theorem weightG_eq (x : Vec Ideal S2048x1024 .bf16) (d : Vec Ideal S2048x512 .bf16) : k0_pay556 x d = weightG x d := by
  funext y
  idx_vars y
  pointwise [k0_pay556]
  rfl

/-- What a point leaves in the gradient of the input: what was there and the product of the cotangent with the columns of the weight. -/
def inputG (old : Vec Ideal S2048x1024 .f32) (d : Vec Ideal S2048x512 .bf16) (w : Vec Ideal S1024x512 .bf16) : Vec Ideal S2048x1024 .f32 :=
  fun y => old y + ∑ l : Fin 512, d (ix2 (y 0) l) * w (ix2 (y 1) l)

/-- Pieces that hold one block each still do when the newest are left out. -/
theorem piecesOf_drop {s : Shape} {e : EltTy} {Val : EltTy → Type} (G : s.Idx → Val e) :
    ∀ (n : ℕ) (L : List (View.Piece Val s e)), View.PiecesOf G L → View.PiecesOf G (L.drop n)
  | 0, _, h => h
  | _ + 1, [], h => h
  | n + 1, _ :: L, h => piecesOf_drop G n L h.2

/-- A load reads nothing of the newest pieces when it meets none of them. -/
theorem readCov_drop {κ : Kind} {sp : Space} {s : Shape} {e : EltTy} (v : View sig κ sp s e) (B : LoadRect s) :
    ∀ (n : ℕ) (L : List (View.Piece (Elt Ideal) s e)), ((L.take n).all fun p => LoadRect.disj p.1 B) = true → v.readCov L B = v.readCov (L.drop n) B
  | 0, _, _ => rfl
  | _ + 1, [], _ => rfl
  | n + 1, p :: L, h => by
    rw [List.take_succ_cons, List.all_cons, Bool.and_eq_true] at h
    exact (View.readCov_skip v p.1 p.2 L B h.1).trans (readCov_drop v B n L h.2)

/-- Eight slices of 32 rows, the newest last, cover a chunk of 256. -/
def eight : LoadRect.Cov :=
  .split 0 32 (.leaf 7) (.split 0 32 (.leaf 6) (.split 0 32 (.leaf 5) (.split 0 32 (.leaf 4) (.split 0 32 (.leaf 3) (.split 0 32 (.leaf 2) (.split 0 32 (.leaf 1) (.leaf 0)))))))

/-- A load of rows that the slices cover. -/
theorem rows_read {κ : Kind} {sp : Space} (v : View sig κ sp S2048x512 .bf16) (L : List (View.Piece (Elt Ideal) S2048x512 .bf16)) (d : Vec Ideal S2048x512 .bf16)
    (hL : View.PiecesOf d L) (o n : ℕ) (inb : ∀ a, (![o, 0] : Fin 2 → ℕ) a + (![n, 512] : Fin 2 → ℕ) a ≤ S2048x512.size a)
    (hc : ∀ j, ∃ p ∈ L, (Rect.unit (s := S2048x512) ![o, 0] ![n, 512] inb).toLoadRect.idx j ∈ p.1.set) (r : Fin n) (l : Fin 512) (h : o + r.val < 2048) :
    v.readCov L (Rect.unit (s := S2048x512) ![o, 0] ![n, 512] inb).toLoadRect (ix2 r l) = d (ix2 ⟨o + r.val, h⟩ l) := by
  rw [View.readCov_eq_canon']
  have e := View.canon_append_of_piecesOf d [] L hL _ (hc (ix2 r l))
  rw [List.append_nil] at e
  refine e.trans (congrArg d (funext fun a => ?_))
  match a with
  | ⟨0, _⟩ => exact Fin.ext (ValueKit.rect_emb_unit_val _ _ _ _ _)
  | ⟨1, _⟩ => exact Fin.ext ((ValueKit.rect_emb_unit_val _ _ _ _ _).trans (Nat.zero_add _))

/-- A chunk: the rows read, and the product of the cotangent's rows with the weight's columns. -/
theorem chunk (prev : Vec Ideal S256x1024 .f32) (d : Vec Ideal S256x512 .bf16) (w : Vec Ideal S1024x512 .bf16) (r : Fin 256) (q : Fin 1024) :
    k0_pay555 prev d w (ix2 r q) = prev (ix2 r q) + ∑ l : Fin 512, d (ix2 r l) * w (ix2 q l) := by
  pointwise [k0_pay555]

/-- A stored chunk is its rows of the whole. -/
theorem chunk_piece {κ : Kind} {sp : Space} (v : View sig κ sp S2048x512 .bf16) (L : List (View.Piece (Elt Ideal) S2048x512 .bf16)) (d : Vec Ideal S2048x512 .bf16)
    (hL : View.PiecesOf d L) (old : Vec Ideal S2048x1024 .f32) (w : Vec Ideal S1024x512 .bf16) (arg : Memref sig .tc .vmem S1024x512 .bf16) (harg : arg.IsWhole)
    (prev : Vec Ideal S256x1024 .f32) (o : ℕ) (i0) (i1) (inb : ∀ a, (![o, 0] : Fin 2 → ℕ) a + (![256, 1024] : Fin 2 → ℕ) a ≤ S2048x1024.size a)
    (hprev : ∀ j, prev j = old ((Rect.unit (s := S2048x1024) ![o, 0] ![256, 1024] inb).emb j))
    (hc : LoadRect.covChk (L.map Sigma.fst) (Rect.unit (s := S2048x512) ![o, 0] ![256, 512] i0).toLoadRect eight = true)
    (x : (Rect.unit (s := S2048x1024) ![o, 0] ![256, 1024] inb).shape.Idx) :
    k0_pay555 prev (v.readCov L (Rect.unit (s := S2048x512) ![o, 0] ![256, 512] i0).toLoadRect)
      (View.readAt (Elt Ideal) arg.view (Rect.unit (s := S1024x512) ![0, 0] ![1024, 512] i1).toLoadRect (harg.unread w)) x
      = inputG old d w ((Rect.unit (s := S2048x1024) ![o, 0] ![256, 1024] inb).emb x) := by
  have ho : o + 256 ≤ 2048 := inb 0
  have hd := fun (r : Fin 256) (l : Fin 512) => rows_read v L d hL o 256 i0 (LoadRect.cover_of_covChk L _ eight hc) r l (by omega)
  generalize v.readCov L (Rect.unit (s := S2048x512) ![o, 0] ![256, 512] i0).toLoadRect = cur at hd ⊢
  simp only [View.readAt_eq_ld, harg.read_unread]
  rw [View.ld_unit_lit _ _ (by decide)]
  change Vec Ideal S256x512 .bf16 at cur
  change S256x1024.Idx at x
  obtain ⟨xr, xq, rfl⟩ : ∃ (r : Fin 256) (q : Fin 1024), x = ix2 r q := ⟨x 0, x 1, eq_ix2 x⟩
  rw [chunk, hprev]
  have h0 : (((Rect.unit (s := S2048x1024) ![o, 0] ![256, 1024] inb).emb (ix2 xr xq)) 0).val = o + xr.val := ValueKit.rect_emb_unit_val _ _ _ _ _
  have h1 : (((Rect.unit (s := S2048x1024) ![o, 0] ![256, 1024] inb).emb (ix2 xr xq)) 1).val = 0 + xq.val := ValueKit.rect_emb_unit_val _ _ _ _ _
  unfold inputG
  rw [show ((Rect.unit (s := S2048x1024) ![o, 0] ![256, 1024] inb).emb (ix2 xr xq)) 0 = (⟨o + xr.val, by omega⟩ : Fin 2048) from Fin.ext h0,
    show ((Rect.unit (s := S2048x1024) ![o, 0] ![256, 1024] inb).emb (ix2 xr xq)) 1 = xq from Fin.ext (by rw [h1]; omega)]
  exact congrArg₂ (· + ·) rfl (Finset.sum_congr rfl fun l _ => by rw [hd])

/-- At the first point the rows were zeros. -/
theorem first_prev {κ : Kind} {sp : Space} (v : View sig κ sp S2048x1024 .f32) (n : ℕ) (L : List (View.Piece (Elt Ideal) S2048x1024 .f32)) (o : ℕ)
    (io : ∀ a, (![o, 0] : Fin 2 → ℕ) a + (![256, 1024] : Fin 2 → ℕ) a ≤ S2048x1024.size a) (inb : ∀ a, (![0, 0] : Fin 2 → ℕ) a + S2048x1024.size a ≤ S2048x1024.size a)
    (hd : ((L.take n).all fun p => LoadRect.disj p.1 (Rect.unit (s := S2048x1024) ![o, 0] ![256, 1024] io).toLoadRect) = true) (hz : L.drop n = [⟨Rect.unit ![0, 0] S2048x1024.size inb, k0_pay1 (F := Ideal)⟩])
    (j : S256x1024.Idx) : v.readCov L (Rect.unit (s := S2048x1024) ![o, 0] ![256, 1024] io).toLoadRect j = 0 := by
  rw [readCov_drop v _ n L hd, hz, View.readCov_fill v inb _ _ _ (by decide)]
  change k0_pay1 (F := Ideal) ((Rect.unit (s := S2048x1024) ![o, 0] ![256, 1024] io).emb j) = 0
  generalize (Rect.unit (s := S2048x1024) ![o, 0] ![256, 1024] io).emb j = y
  pointwise [k0_pay1]

variable (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S3x512 .f32) (harg3 : arg3.IsWhole) (arg4 : Memref sig .tc .vmem S2048x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x1024 .f32) (harg9 : arg9.IsWhole) (arg10 : Memref sig .tc .vmem S2056x512 .f32) (harg10 : arg10.IsWhole) (arg11 : Memref sig .tc .vmem S2056x512 .f32) (harg11 : arg11.IsWhole) (arg12 : Memref sig .tc .vmem S2048x512 .bf16) (harg12 : arg12.IsWhole) (hc0 : cond0_0 i)
    (x0 x1 : Vec Ideal S2048x512 .bf16) (x2 : Vec Ideal S3x512 .f32) (x3 : Vec Ideal S2048x1024 .bf16) (x4 : Vec Ideal S1024x512 .bf16)

set_option maxHeartbeats 4000000 in
/-- The block of the weight's gradient. -/
theorem weight_stored :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1
      = weightG x3 (dUp x1 x2) := by
  have hs := slices c i arg1 harg1 arg2 harg2 arg3 harg3 arg4 harg4 arg5 harg5 arg6 harg6 arg7 harg7 arg8 harg8 arg9 harg9 arg10 harg10 arg11 harg11 arg12 harg12 hc0 x0 x1 x2 x3 x4
  unfold kernelRun0_A at hs ⊢
  dsimp only at hs ⊢
  refine (View.canon_cons_unit_lit _ _ _ (by decide)).trans ((weightG_eq _ _).trans ?_)
  refine congrArg₂ weightG ?_ (funext fun y => ?_)
  · simp only [View.readAt_eq_ld, harg4.read_unread]
    exact View.ld_unit_lit _ _ (by decide)
  · obtain ⟨yr, yl, rfl⟩ : ∃ (r : Fin 2048) (l : Fin 512), y = ix2 r l := ⟨y 0, y 1, eq_ix2 y⟩
    refine (rows_read arg12.view _ _ hs 0 2048 _ (fun j => View.cover_of_tiledBy (s := S2048x512) _ ![32, 512] (by sl_kernel_rfl) _) yr yl (by omega)).trans ?_
    exact congrArg (dUp x1 x2) (congrArg (ix2 · yl) (Fin.ext (Nat.zero_add _)))

set_option maxHeartbeats 4000000 in
/-- The gradient of the input after the first point. -/
theorem input_first (y : S2048x1024.Idx) :
    View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1 y
      = inputG (fun _ => 0) (dUp x1 x2) x4 y := by
  have hs := slices c i arg1 harg1 arg2 harg2 arg3 harg3 arg4 harg4 arg5 harg5 arg6 harg6 arg7 harg7 arg8 harg8 arg9 harg9 arg10 harg10 arg11 harg11 arg12 harg12 hc0 x0 x1 x2 x3 x4
  unfold kernelRun0_A at hs ⊢
  dsimp only at hs ⊢
  refine (congrArg (fun L => View.canon L y) (List.take_append_drop 8 _).symm).trans
    (View.canon_append_of_piecesOf _ _ _ ?_ y (View.cover_of_tiledBy (s := S2048x1024) _ ![256, 1024] (by sl_kernel_rfl) y))
  refine And.intro (fun x => chunk_piece arg12.view _ _ (piecesOf_drop _ 0 _ hs) _ x4 arg5 harg5 _ 1792 _ _ inb_S2048x1024_S256x1024_1792_0 (first_prev arg9.view 7 _ 1792 _ _ (by sl_kernel_rfl) rfl) (by sl_kernel_rfl) x) ?_
  refine And.intro (fun x => chunk_piece arg12.view _ _ (piecesOf_drop _ 8 _ hs) _ x4 arg5 harg5 _ 1536 _ _ inb_S2048x1024_S256x1024_1536_0 (first_prev arg9.view 6 _ 1536 _ _ (by sl_kernel_rfl) rfl) (by sl_kernel_rfl) x) ?_
  refine And.intro (fun x => chunk_piece arg12.view _ _ (piecesOf_drop _ 16 _ hs) _ x4 arg5 harg5 _ 1280 _ _ inb_S2048x1024_S256x1024_1280_0 (first_prev arg9.view 5 _ 1280 _ _ (by sl_kernel_rfl) rfl) (by sl_kernel_rfl) x) ?_
  refine And.intro (fun x => chunk_piece arg12.view _ _ (piecesOf_drop _ 24 _ hs) _ x4 arg5 harg5 _ 1024 _ _ inb_S2048x1024_S256x1024_1024_0 (first_prev arg9.view 4 _ 1024 _ _ (by sl_kernel_rfl) rfl) (by sl_kernel_rfl) x) ?_
  refine And.intro (fun x => chunk_piece arg12.view _ _ (piecesOf_drop _ 32 _ hs) _ x4 arg5 harg5 _ 768 _ _ inb_S2048x1024_S256x1024_768_0 (first_prev arg9.view 3 _ 768 _ _ (by sl_kernel_rfl) rfl) (by sl_kernel_rfl) x) ?_
  refine And.intro (fun x => chunk_piece arg12.view _ _ (piecesOf_drop _ 40 _ hs) _ x4 arg5 harg5 _ 512 _ _ inb_S2048x1024_S256x1024_512_0 (first_prev arg9.view 2 _ 512 _ _ (by sl_kernel_rfl) rfl) (by sl_kernel_rfl) x) ?_
  refine And.intro (fun x => chunk_piece arg12.view _ _ (piecesOf_drop _ 48 _ hs) _ x4 arg5 harg5 _ 256 _ _ inb_S2048x1024_S256x1024_256_0 (first_prev arg9.view 1 _ 256 _ _ (by sl_kernel_rfl) rfl) (by sl_kernel_rfl) x) ?_
  refine And.intro (fun x => chunk_piece arg12.view _ _ (piecesOf_drop _ 56 _ hs) _ x4 arg5 harg5 _ 0 _ _ inb_S2048x1024_S256x1024_0_0 (first_prev arg9.view 0 _ 0 _ _ (by sl_kernel_rfl) rfl) (by sl_kernel_rfl) x) ?_
  trivial

end Cert.Kernel4Ideal.FfnUp

end
-- ==== Proof.FfnUp.Later.lean ====
/- The points after the first: the same slices and the same three results, and a gradient of the input that starts from what the point before left. -/
module

public import proofs.«01_k».proof.Proof.FfnUp.Sums

@[expose] public section

set_option maxRecDepth 16384

noncomputable section

namespace Cert.Kernel4Ideal.FfnUp

open Cert.Kernel4Ideal Cert.Kernel4Ideal.Gen Idealize.ShloMosaic Idealize.ShloMosaic.TcCoe

/-- A load of what the point before left. -/
theorem later_prev (arg : Memref sig .tc .vmem S2048x1024 .f32) (harg : arg.IsWhole) (old : Vec Ideal S2048x1024 .f32) (o : ℕ)
    (io : ∀ a, (![o, 0] : Fin 2 → ℕ) a + (![256, 1024] : Fin 2 → ℕ) a ≤ S2048x1024.size a) (j : S256x1024.Idx) :
    View.readAt (Elt Ideal) arg.view (Rect.unit (s := S2048x1024) ![o, 0] ![256, 1024] io).toLoadRect (harg.unread old) j
      = old ((Rect.unit (s := S2048x1024) ![o, 0] ![256, 1024] io).emb j) := by
  simp only [View.readAt_eq_ld, harg.read_unread]
  rfl

variable (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S3x512 .f32) (harg3 : arg3.IsWhole) (arg4 : Memref sig .tc .vmem S2048x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S2048x1024 .f32) (harg9 : arg9.IsWhole) (arg10 : Memref sig .tc .vmem S2056x512 .f32) (harg10 : arg10.IsWhole) (arg11 : Memref sig .tc .vmem S2056x512 .f32) (harg11 : arg11.IsWhole) (arg12 : Memref sig .tc .vmem S2048x512 .bf16) (harg12 : arg12.IsWhole)
    (x0 x1 : Vec Ideal S2048x512 .bf16) (x2 : Vec Ideal S3x512 .f32) (x3 : Vec Ideal S2048x1024 .bf16) (x4 : Vec Ideal S1024x512 .bf16) (x8 : Vec Ideal S2048x1024 .f32)
    (hc0 : cond0_0 i) (i' : grid0.Coords) (hc : ¬cond0_0 i')

set_option maxHeartbeats 4000000 in
/-- At a later point the first three results' pieces and the slices are those of the first point. -/
theorem later_pieces :
    (kernelRun0_B c i' arg1 harg1 arg2 harg2 arg3 harg3 arg4 harg4 arg5 harg5 arg6 harg6 arg7 harg7 arg8 harg8 arg9 harg9 arg10 harg10 arg11 harg11 arg12 harg12 hc x0 x1 x2 x3 x4 x8).1 = (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1
    ∧ (kernelRun0_B c i' arg1 harg1 arg2 harg2 arg3 harg3 arg4 harg4 arg5 harg5 arg6 harg6 arg7 harg7 arg8 harg8 arg9 harg9 arg10 harg10 arg11 harg11 arg12 harg12 hc x0 x1 x2 x3 x4 x8).2.1 = (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1
    ∧ (kernelRun0_B c i' arg1 harg1 arg2 harg2 arg3 harg3 arg4 harg4 arg5 harg5 arg6 harg6 arg7 harg7 arg8 harg8 arg9 harg9 arg10 harg10 arg11 harg11 arg12 harg12 hc x0 x1 x2 x3 x4 x8).2.2.1 = (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1
    ∧ (kernelRun0_B c i' arg1 harg1 arg2 harg2 arg3 harg3 arg4 harg4 arg5 harg5 arg6 harg6 arg7 harg7 arg8 harg8 arg9 harg9 arg10 harg10 arg11 harg11 arg12 harg12 hc x0 x1 x2 x3 x4 x8).2.2.2.2.2.2.1 = (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.2.1 := by
  refine ⟨?_, ?_, ?_, ?_⟩ <;> sl_kernel_rfl

include hc0

set_option maxHeartbeats 4000000 in
/-- The gradient of the input after a later point. -/
theorem input_later (y : S2048x1024.Idx) :
    View.canon (kernelRun0_B c i' arg1 harg1 arg2 harg2 arg3 harg3 arg4 harg4 arg5 harg5 arg6 harg6 arg7 harg7 arg8 harg8 arg9 harg9 arg10 harg10 arg11 harg11 arg12 harg12 hc x0 x1 x2 x3 x4 x8).2.2.2.1 y
      = inputG x8 (dUp x1 x2) x4 y := by
  have hs := slices c i arg1 harg1 arg2 harg2 arg3 harg3 arg4 harg4 arg5 harg5 arg6 harg6 arg7 harg7 arg8 harg8 arg9 harg9 arg10 harg10 arg11 harg11 arg12 harg12 hc0 x0 x1 x2 x3 x4
  rw [← (later_pieces c i arg1 harg1 arg2 harg2 arg3 harg3 arg4 harg4 arg5 harg5 arg6 harg6 arg7 harg7 arg8 harg8 arg9 harg9 arg10 harg10 arg11 harg11 arg12 harg12 x0 x1 x2 x3 x4 x8 hc0 i' hc).2.2.2] at hs
  unfold kernelRun0_B at hs ⊢
  dsimp only at hs ⊢
  refine (congrArg (fun L => View.canon L y) (List.take_append_drop 8 _).symm).trans
    (View.canon_append_of_piecesOf _ _ _ ?_ y (View.cover_of_tiledBy (s := S2048x1024) _ ![256, 1024] (by sl_kernel_rfl) y))
  refine And.intro (fun x => chunk_piece arg12.view _ _ (piecesOf_drop _ 0 _ hs) _ x4 arg5 harg5 _ 1792 _ _ inb_S2048x1024_S256x1024_1792_0 (later_prev arg9 harg9 x8 1792 _) (by sl_kernel_rfl) x) ?_
  refine And.intro (fun x => chunk_piece arg12.view _ _ (piecesOf_drop _ 8 _ hs) _ x4 arg5 harg5 _ 1536 _ _ inb_S2048x1024_S256x1024_1536_0 (later_prev arg9 harg9 x8 1536 _) (by sl_kernel_rfl) x) ?_
  refine And.intro (fun x => chunk_piece arg12.view _ _ (piecesOf_drop _ 16 _ hs) _ x4 arg5 harg5 _ 1280 _ _ inb_S2048x1024_S256x1024_1280_0 (later_prev arg9 harg9 x8 1280 _) (by sl_kernel_rfl) x) ?_
  refine And.intro (fun x => chunk_piece arg12.view _ _ (piecesOf_drop _ 24 _ hs) _ x4 arg5 harg5 _ 1024 _ _ inb_S2048x1024_S256x1024_1024_0 (later_prev arg9 harg9 x8 1024 _) (by sl_kernel_rfl) x) ?_
  refine And.intro (fun x => chunk_piece arg12.view _ _ (piecesOf_drop _ 32 _ hs) _ x4 arg5 harg5 _ 768 _ _ inb_S2048x1024_S256x1024_768_0 (later_prev arg9 harg9 x8 768 _) (by sl_kernel_rfl) x) ?_
  refine And.intro (fun x => chunk_piece arg12.view _ _ (piecesOf_drop _ 40 _ hs) _ x4 arg5 harg5 _ 512 _ _ inb_S2048x1024_S256x1024_512_0 (later_prev arg9 harg9 x8 512 _) (by sl_kernel_rfl) x) ?_
  refine And.intro (fun x => chunk_piece arg12.view _ _ (piecesOf_drop _ 48 _ hs) _ x4 arg5 harg5 _ 256 _ _ inb_S2048x1024_S256x1024_256_0 (later_prev arg9 harg9 x8 256 _) (by sl_kernel_rfl) x) ?_
  refine And.intro (fun x => chunk_piece arg12.view _ _ (piecesOf_drop _ 56 _ hs) _ x4 arg5 harg5 _ 0 _ _ inb_S2048x1024_S256x1024_0_0 (later_prev arg9 harg9 x8 0 _) (by sl_kernel_rfl) x) ?_
  trivial

end Cert.Kernel4Ideal.FfnUp

end
-- ==== Proof.FfnUp.Inputs.lean ====
/- The four results of the gradient as functions of the arguments, and the kernel's blocks at a grid point. -/
module

public import proofs.«01_k».proof.Proof.FfnUp.Later
public import proofs.«01_k».proof.Proof.Gen.Kernel4Ideal.Value

@[expose] public section

set_option maxRecDepth 16384

noncomputable section

namespace Cert.Kernel4Ideal.FfnUp

open Cert.Kernel4Ideal Cert.Kernel4Ideal.Gen Idealize.ShloMosaic Idealize.ShloMosaic.TcCoe Idealize.SL.Sem

/-! The closed forms. -/

/-- The product that the forward pass convolves. -/
def upA (h : Vec Ideal S2048x1024 .bf16) (wu : Vec Ideal S1024x6144 .bf16) (n : Fin 2048) (q : Fin 6144) : EReal :=
  ∑ k : Fin 1024, h (ix2 n k) * wu (ix2 k q)

/-- It under eight rows of zeros. -/
def padA (h : Vec Ideal S2048x1024 .bf16) (wu : Vec Ideal S1024x6144 .bf16) (n : ℕ) (q : Fin 6144) : EReal :=
  if e : 8 ≤ n ∧ n < 2056 then upA h wu ⟨n - 8, by omega⟩ q else 0

/-- The cotangent over zeros. -/
def ctA (ct : Vec Ideal S2048x6144 .bf16) (n : ℕ) (q : Fin 6144) : EReal :=
  if e : n < 2048 then ct (ix2 ⟨n, e⟩ q) else 0

/-- The cotangent of the product: the transposed convolution. -/
def antiA (wc : Vec Ideal S3x6144 .f32) (ct : Vec Ideal S2048x6144 .bf16) (n : ℕ) (q : Fin 6144) : EReal :=
  wc (ix2 0 q) * ctA ct (n + 2) q + wc (ix2 1 q) * ctA ct (n + 1) q + wc (ix2 2 q) * ctA ct n q

/-- The gradient of the matrix. -/
def dwA (h : Vec Ideal S2048x1024 .bf16) (wc : Vec Ideal S3x6144 .f32) (ct : Vec Ideal S2048x6144 .bf16) : Vec Ideal S1024x6144 .bf16 :=
  fun y => ∑ n : Fin 2048, h (ix2 n (y 0)) * antiA wc ct n.val (y 1)

/-- The gradient of the taps. -/
def dcwA (h : Vec Ideal S2048x1024 .bf16) (wu : Vec Ideal S1024x6144 .bf16) (ct : Vec Ideal S2048x6144 .bf16) : Vec Ideal S3x6144 .f32 :=
  fun y => ∑ n : Fin 2048, ctA ct n.val (y 1) * padA h wu (n.val + (6 + (y 0).val)) (y 1)

/-- The gradient of the bias. -/
def dcbA (ct : Vec Ideal S2048x6144 .bf16) : Vec Ideal S1x6144 .f32 :=
  fun y => ∑ n : Fin 2048, ctA ct n.val (y 1)

/-- The gradient of the input. -/
def dhA (wu : Vec Ideal S1024x6144 .bf16) (wc : Vec Ideal S3x6144 .f32) (ct : Vec Ideal S2048x6144 .bf16) : Vec Ideal S2048x1024 .f32 :=
  fun y => ∑ q : Fin 6144, antiA wc ct (y 0).val q * wu (ix2 (y 1) q)

variable (m : (ℓ : Loc nD τ sig) → Buf (Elt Ideal) ℓ) (c : Dev nD)

/-- The input of the product. -/
abbrev argH : Vec Ideal S2048x1024 .bf16 := m ((c : Thread nD τ).loc main_arg0)
/-- The matrix. -/
abbrev argU : Vec Ideal S1024x6144 .bf16 := m ((c : Thread nD τ).loc main_arg1)
/-- The taps. -/
abbrev argW : Vec Ideal S3x6144 .f32 := m ((c : Thread nD τ).loc main_arg2)
/-- The cotangent. -/
abbrev argC : Vec Ideal S2048x6144 .bf16 := m ((c : Thread nD τ).loc main_arg4)

/-- Column `l` of block `t`. -/
def col (t : Fin 12) (l : Fin 512) : Fin 6144 := ⟨512 * t.val + l.val, by omega⟩

/-- Which block of each array a grid point reads … -/
theorem idx_blocks : ∀ t : Fin cfg0.N, win0_0.index t 0 = 0 ∧ win0_0.index t 1 = t.val ∧ win0_1.index t 0 = 0 ∧ win0_1.index t 1 = t.val ∧ win0_2.index t 0 = 0 ∧ win0_2.index t 1 = t.val
    ∧ win0_3.index t 0 = 0 ∧ win0_3.index t 1 = 0 ∧ win0_4.index t 0 = 0 ∧ win0_4.index t 1 = t.val :=
  (by decide +kernel : ∀ t : Fin grid0.N, _)

/-- … or writes. -/
theorem idx_results : ∀ t : Fin cfg0.N, win0_5.index t 0 = 0 ∧ win0_5.index t 1 = t.val ∧ win0_6.index t 0 = 0 ∧ win0_6.index t 1 = t.val ∧ win0_7.index t 0 = 0 ∧ win0_7.index t 1 = t.val
    ∧ win0_8.index t 0 = 0 ∧ win0_8.index t 1 = 0 :=
  (by decide +kernel : ∀ t : Fin grid0.N, _)

/-- The product, as the host's lines leave it. -/
theorem hostUp (n : Fin 2048) (q : Fin 6144) : (V m c main_v8 : Vec Ideal S2048x6144 .bf16) (ix2 n q) = upA (argH m c) (argU m c) n q := by
  unfold V hostOps0 argH argU
  after_results_simp
  generalize m ((c : Thread nD τ).loc main_arg0) = A
  generalize m ((c : Thread nD τ).loc main_arg1) = B
  change Vec Ideal S2048x1024 .bf16 at A
  change Vec Ideal S1024x6144 .bf16 at B
  pointwise
  rfl

/-- The saved product's block. -/
theorem block0 (t : Fin cfg0.N) (n : Fin 2048) (l : Fin 512) : (iblk m c 0 t : Vec Ideal S2048x512 .bf16) (ix2 n l) = upA (argH m c) (argU m c) n (col t l) := by
  obtain ⟨z, h, -⟩ := idx_blocks t
  rw [← hostUp m c]
  blk_simp [iblk, h, z]
  blk_ext
  all_goals (simp only [h, z, col]; omega)

/-- The cotangent's block. -/
theorem block1 (t : Fin cfg0.N) (n : Fin 2048) (l : Fin 512) : (iblk m c 1 t : Vec Ideal S2048x512 .bf16) (ix2 n l) = argC m c (ix2 n (col t l)) := by
  obtain ⟨-, -, z, h, -⟩ := idx_blocks t
  unfold argC
  rw [← V_main_arg4 m c]
  blk_simp [iblk, h, z]
  blk_ext
  all_goals (simp only [h, z, col]; omega)

/-- The taps' block. -/
theorem block2 (t : Fin cfg0.N) (k : Fin 3) (l : Fin 512) : (iblk m c 2 t : Vec Ideal S3x512 .f32) (ix2 k l) = argW m c (ix2 k (col t l)) := by
  obtain ⟨-, -, -, -, z, h, -⟩ := idx_blocks t
  unfold argW
  rw [← V_main_arg2 m c]
  blk_simp [iblk, h, z]
  blk_ext
  all_goals (simp only [h, z, col]; omega)

/-- The input's block is the whole. -/
theorem block3 (t : Fin cfg0.N) (n : Fin 2048) (k : Fin 1024) : (iblk m c 3 t : Vec Ideal S2048x1024 .bf16) (ix2 n k) = argH m c (ix2 n k) := by
  obtain ⟨-, -, -, -, -, -, z, h, -⟩ := idx_blocks t
  unfold argH
  rw [← V_main_arg0 m c]
  blk_simp [iblk, h, z]
  blk_ext
  all_goals (simp only [h, z]; omega)

/-- The matrix's block. -/
theorem block4 (t : Fin cfg0.N) (k : Fin 1024) (l : Fin 512) : (iblk m c 4 t : Vec Ideal S1024x512 .bf16) (ix2 k l) = argU m c (ix2 k (col t l)) := by
  obtain ⟨-, -, -, -, -, -, -, -, z, h⟩ := idx_blocks t
  unfold argU
  rw [← V_main_arg1 m c]
  blk_simp [iblk, h, z]
  blk_ext
  all_goals (simp only [h, z, col]; omega)

/-! What is computed from a point's blocks. -/

theorem pad_at (t : Fin cfg0.N) (n : ℕ) (l : Fin 512) : padG (iblk m c 0 t) n l = padA (argH m c) (argU m c) n (col t l) := by
  unfold padG padA
  by_cases h : 8 ≤ n ∧ n < 2056
  · rw [dif_pos h, dif_pos h]
    exact block0 m c t _ l
  · rw [dif_neg h, dif_neg h]

theorem ct_at (t : Fin cfg0.N) (n : ℕ) (l : Fin 512) : backG (iblk m c 1 t) n l = ctA (argC m c) n (col t l) := by
  unfold backG ctA
  by_cases h : n < 2048
  · rw [dif_pos h, dif_pos h]
    exact block1 m c t _ l
  · rw [dif_neg h, dif_neg h]

theorem anti_at (t : Fin cfg0.N) (n : Fin 2048) (l : Fin 512) : dUp (iblk m c 1 t) (iblk m c 2 t) (ix2 n l) = antiA (argW m c) (argC m c) n.val (col t l) := by
  show anticausal (iblk m c 2 t) (backG (iblk m c 1 t)) n.val l = _
  unfold anticausal antiA
  simp only [ct_at]
  rw [block2, block2, block2]

/-- The part of the input's gradient that a block's columns make. -/
theorem input_at (t : Fin cfg0.N) (old : Vec Ideal S2048x1024 .f32) (n : Fin 2048) (k : Fin 1024) :
    inputG old (dUp (iblk m c 1 t) (iblk m c 2 t)) (iblk m c 4 t) (ix2 n k)
      = old (ix2 n k) + ∑ l : Fin 512, antiA (argW m c) (argC m c) n.val (col t l) * argU m c (ix2 k (col t l)) := by
  refine congrArg (old (ix2 n k) + ·) (Finset.sum_congr rfl fun l _ => ?_)
  exact congrArg₂ (· * ·) (anti_at m c t n l) (block4 m c t k l)

end Cert.Kernel4Ideal.FfnUp

end
-- ==== Proof.FfnUp.Arrays.lean ====
/- The kernel's four result arrays after the run: the closed forms at the arguments. -/
module

public import proofs.«01_k».proof.Proof.FfnUp.Inputs

@[expose] public section

set_option maxRecDepth 16384

noncomputable section

namespace Cert.Kernel4Ideal.FfnUp

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- After every point the first result's buffer holds the matrix's gradient at that block's columns … -/
theorem first_at (t : Fin cfg0.N) (k : Fin 1024) (l : Fin 512) : ((outsAt0 m c t.val t.isLt).1 : Vec Ideal S1024x512 .bf16) (ix2 k l) = dwA (argH m c) (argW m c) (argC m c) (ix2 k (col t l)) := by
  have e : weightG (iblk m c 3 t) (dUp (iblk m c 1 t) (iblk m c 2 t)) (ix2 k l) = dwA (argH m c) (argW m c) (argC m c) (ix2 k (col t l)) := Finset.sum_congr rfl fun n _ => congrArg₂ (· * ·) (block3 m c t n k) (anti_at m c t n l)
  by_cases h0 : t.val % 12 = 0
  · rw [outsAt0_A m c t h0]
    unfold out0_A_5
    dsimp only
    rw [View.read_writes_eq_canon _ _ _ (cover0_A_5 c _ _ _ _ _ _ _ _ _ _ _ _ _ _ _ _ _ _ _ _ _ _ _ _ _ _ _ _ _ _ _ ), weight_stored]
    exact e
  · rw [outsAt0_B m c t h0]
    unfold out0_B_5
    dsimp only
    rw [View.read_writes_eq_canon _ _ _ (cover0_B_5 c _ _ _ _ _ _ _ _ _ _ _ _ _ _ _ _ _ _ _ _ _ _ _ _ _ _ _ _ _ _ _ _ ), (later_pieces c (grid0.coords ⟨0, by decide⟩) _ _ _ _ _ _ _ _ _ _ _ _ _ _ _ _ _ _ _ _ _ _ _ _ _ _ _ _ _ _ ((hcond0_0 ⟨0, by decide⟩).mpr (Nat.zero_mod 12)) _ _).1, weight_stored]
    exact e

/-- … the second's the taps' … -/
theorem second_at (t : Fin cfg0.N) (k : Fin 3) (l : Fin 512) : ((outsAt0 m c t.val t.isLt).2.1 : Vec Ideal S3x512 .f32) (ix2 k l) = dcwA (argH m c) (argU m c) (argC m c) (ix2 k (col t l)) := by
  have e : tapG (backG (iblk m c 1 t)) (padG (iblk m c 0 t)) k.val l = dcwA (argH m c) (argU m c) (argC m c) (ix2 k (col t l)) := Finset.sum_congr rfl fun n _ => congrArg₂ (· * ·) (ct_at m c t n.val l) (pad_at m c t (n.val + (6 + k.val)) l)
  by_cases h0 : t.val % 12 = 0
  · rw [outsAt0_A m c t h0]
    unfold out0_A_6
    dsimp only
    rw [View.read_writes_eq_canon _ _ _ (cover0_A_6 c _ _ _ _ _ _ _ _ _ _ _ _ _ _ _ _ _ _ _ _ _ _ _ _ _ _ _ _ _ _ _ ), taps_stored]
    exact e
  · rw [outsAt0_B m c t h0]
    unfold out0_B_6
    dsimp only
    rw [View.read_writes_eq_canon _ _ _ (cover0_B_6 c _ _ _ _ _ _ _ _ _ _ _ _ _ _ _ _ _ _ _ _ _ _ _ _ _ _ _ _ _ _ _ _ ), (later_pieces c (grid0.coords ⟨0, by decide⟩) _ _ _ _ _ _ _ _ _ _ _ _ _ _ _ _ _ _ _ _ _ _ _ _ _ _ _ _ _ _ ((hcond0_0 ⟨0, by decide⟩).mpr (Nat.zero_mod 12)) _ _).2.1, taps_stored]
    exact e

/-- … and the third's the bias's. -/
theorem third_at (t : Fin cfg0.N) (z : Fin 1) (l : Fin 512) : ((outsAt0 m c t.val t.isLt).2.2.1 : Vec Ideal S1x512 .f32) (ix2 z l) = dcbA (argC m c) (ix2 z (col t l)) := by
  have e : biasG (backG (iblk m c 1 t)) l = dcbA (argC m c) (ix2 z (col t l)) := Finset.sum_congr rfl fun n _ => ct_at m c t n.val l
  by_cases h0 : t.val % 12 = 0
  · rw [outsAt0_A m c t h0]
    unfold out0_A_7
    dsimp only
    rw [View.read_writes_eq_canon _ _ _ (cover0_A_7 c _ _ _ _ _ _ _ _ _ _ _ _ _ _ _ _ _ _ _ _ _ _ _ _ _ _ _ _ _ _ _ ), bias_stored]
    exact e
  · rw [outsAt0_B m c t h0]
    unfold out0_B_7
    dsimp only
    rw [View.read_writes_eq_canon _ _ _ (cover0_B_7 c _ _ _ _ _ _ _ _ _ _ _ _ _ _ _ _ _ _ _ _ _ _ _ _ _ _ _ _ _ _ _ _ ), (later_pieces c (grid0.coords ⟨0, by decide⟩) _ _ _ _ _ _ _ _ _ _ _ _ _ _ _ _ _ _ _ _ _ _ _ _ _ _ _ _ _ _ ((hcond0_0 ⟨0, by decide⟩).mpr (Nat.zero_mod 12)) _ _).2.2.1, bias_stored]
    exact e

/-- A function's sum over the columns of block `j`. -/
def partSum (f : Fin 6144 → EReal) (j : ℕ) : EReal := if h : j < 12 then ∑ l, f (col ⟨j, h⟩ l) else 0

/-- All blocks' sums make the sum over the columns. -/
theorem partSum_all (f : Fin 6144 → EReal) : ∑ j ∈ Finset.range 12, partSum f j = ∑ q, f q := by
  have e := Fin.sum_univ_univ_mul_add 12 512 fun l => if h : l < 6144 then f ⟨l, h⟩ else 0
  rw [Finset.sum_range]
  refine Eq.trans (Finset.sum_congr rfl fun j _ => (dif_pos j.isLt).trans (Finset.sum_congr rfl fun r _ => ?_)) (e.trans (Finset.sum_congr rfl fun l _ => dif_pos l.isLt))
  rw [dif_pos (show j.val * 512 + r.val < 6144 by omega)]
  exact congrArg f (Fin.ext (by simp only [col]; omega))

/-- A column's part of the input's gradient. -/
def inputTerm (wu : Vec Ideal S1024x6144 .bf16) (wc : Vec Ideal S3x6144 .f32) (ct : Vec Ideal S2048x6144 .bf16) (n : Fin 2048) (k : Fin 1024) (q : Fin 6144) : EReal :=
  antiA wc ct n.val q * wu (ix2 k q)

theorem fourth_first (t : Fin cfg0.N) (h0 : t.val % 12 = 0) (n : Fin 2048) (k : Fin 1024) :
    ((outsAt0 m c t.val t.isLt).2.2.2 : Vec Ideal S2048x1024 .f32) (ix2 n k) = ∑ l : Fin 512, inputTerm (argU m c) (argW m c) (argC m c) n k (col t l) := by
  have e := input_at m c t (fun _ => 0) n k
  rw [zero_add] at e
  rw [outsAt0_A m c t h0]
  unfold out0_A_8
  dsimp only
  rw [View.read_writes_eq_canon _ _ _ (cover0_A_8 c _ _ _ _ _ _ _ _ _ _ _ _ _ _ _ _ _ _ _ _ _ _ _ _ _ _ _ _ _ _ _ ), input_first]
  exact e

theorem fourth_later (t : Fin cfg0.N) (h0 : ¬t.val % 12 = 0) (n : Fin 2048) (k : Fin 1024) :
    ((outsAt0 m c t.val t.isLt).2.2.2 : Vec Ideal S2048x1024 .f32) (ix2 n k)
      = ((outsAt0 m c (t.val - 1) (Nat.lt_of_le_of_lt (Nat.sub_le _ _) t.isLt)).2.2.2 : Vec Ideal S2048x1024 .f32) (ix2 n k)
        + ∑ l : Fin 512, inputTerm (argU m c) (argW m c) (argC m c) n k (col t l) := by
  have e := input_at m c t (outsAt0 m c (t.val - 1) (Nat.lt_of_le_of_lt (Nat.sub_le _ _) t.isLt)).2.2.2 n k
  rw [outsAt0_B m c t h0]
  unfold out0_B_8
  dsimp only
  rw [View.read_writes_eq_canon _ _ _ (cover0_B_8 c _ _ _ _ _ _ _ _ _ _ _ _ _ _ _ _ _ _ _ _ _ _ _ _ _ _ _ _ _ _ _ _ ), input_later (i := grid0.coords ⟨0, by decide⟩) (hc0 := (hcond0_0 ⟨0, by decide⟩).mpr (Nat.zero_mod 12))]
  exact e

/-- After point `j` the fourth result's buffer holds the sum over the blocks so far. -/
theorem fourth_at (j : ℕ) : ∀ hj : j < cfg0.N, ∀ (n : Fin 2048) (k : Fin 1024),
    ((outsAt0 m c j hj).2.2.2 : Vec Ideal S2048x1024 .f32) (ix2 n k) = ∑ i ∈ Finset.range (j + 1), partSum (inputTerm (argU m c) (argW m c) (argC m c) n k) i := by
  induction j with
  | zero =>
    intro hj n k
    rw [fourth_first m c ⟨0, hj⟩ (Nat.zero_mod 12), zero_add, Finset.sum_range_one, partSum, dif_pos (show 0 < 12 by decide)]
    rfl
  | succ j ih =>
    intro hj n k
    have h12 : j + 1 < 12 := hj
    rw [fourth_later m c ⟨j + 1, hj⟩ (by dsimp only; omega), Finset.sum_range_succ, partSum, dif_pos h12]
    exact congrArg (· + _) (ih (Nat.lt_of_succ_lt hj) n k)

/-- An array of two axes at an index with known coordinates. -/
theorem at_index {p q : ℕ} (G : (⟨2, ![p, q]⟩ : Shape).Idx → EReal) (i : (⟨2, ![p, q]⟩ : Shape).Idx) (a : Fin p) (b : Fin q)
    (h0 : (i 0).val = a.val) (h1 : (i 1).val = b.val) : G (ix2 a b) = G i := by
  refine congrArg G (funext fun x => ?_)
  match x with
  | ⟨0, _⟩ => exact (Fin.ext h0).symm
  | ⟨1, _⟩ => exact (Fin.ext h1).symm

theorem first_result : (dats m 0 c).arrAt 5 cfg0.N = dwA (argH m c) (argW m c) (argC m c) := by
  refine (dats m 0 c).arrAt_eq_of_covers 5 _ (by decide +kernel) fun t hf y => ?_
  obtain ⟨z5, h5, z6, h6, z7, h7, z8, h8⟩ := idx_results t
  blk_simp
  rw [after0_5]
  idx_vars y
  refine (first_at m c t y0 y1).trans (at_index (dwA (argH m c) (argW m c) (argC m c)) _ _ _ ?_ ?_)
  all_goals (blk_simp [z5, h5, col]; try first | omega | (dsimp only; omega))

theorem second_result : (dats m 0 c).arrAt 6 cfg0.N = dcwA (argH m c) (argU m c) (argC m c) := by
  refine (dats m 0 c).arrAt_eq_of_covers 6 _ (by decide +kernel) fun t hf y => ?_
  obtain ⟨z5, h5, z6, h6, z7, h7, z8, h8⟩ := idx_results t
  blk_simp
  rw [after0_6]
  idx_vars y
  refine (second_at m c t y0 y1).trans (at_index (dcwA (argH m c) (argU m c) (argC m c)) _ _ _ ?_ ?_)
  all_goals (blk_simp [z6, h6, col]; try first | omega | (dsimp only; omega))

theorem third_result : (dats m 0 c).arrAt 7 cfg0.N = dcbA (argC m c) := by
  refine (dats m 0 c).arrAt_eq_of_covers 7 _ (by decide +kernel) fun t hf y => ?_
  obtain ⟨z5, h5, z6, h6, z7, h7, z8, h8⟩ := idx_results t
  blk_simp
  rw [after0_7]
  idx_vars y
  refine (third_at m c t y0 y1).trans (at_index (dcbA (argC m c)) _ _ _ ?_ ?_)
  all_goals (blk_simp [z7, h7, col]; try first | omega | (dsimp only; omega))

theorem fourth_result : (dats m 0 c).arrAt 8 cfg0.N = dhA (argU m c) (argW m c) (argC m c) := by
  refine (dats m 0 c).arrAt_eq_of_covers 8 _ (by decide +kernel) fun t hf y => ?_
  obtain ⟨z5, h5, z6, h6, z7, h7, z8, h8⟩ := idx_results t
  have ht : t.val = 11 := (by decide +kernel : ∀ t : Fin cfg0.N, (win0 8).flush t = true → t.val = 11) t hf
  blk_simp
  rw [after0_8]
  idx_vars y
  refine (fourth_at m c t.val t.isLt y0 y1).trans (Eq.trans ?_ (at_index (dhA (argU m c) (argW m c) (argC m c)) _ y0 y1 ?_ ?_))
  · rw [ht]
    exact partSum_all _
  all_goals (blk_simp [z8, h8]; try first | omega | (dsimp only; omega))

end Cert.Kernel4Ideal.FfnUp

end
-- ==== Proof.FfnUp.Plain.lean ====
/- The reference's four results: the same closed forms. -/
module

public import proofs.«01_k».proof.Proof.FfnUp.Arrays
public import proofs.«01_k».proof.Proof.Gen.Reference4Ideal.Run
public import Idealize.ShloMosaic.Lib.Tactic.CleanTypes

@[expose] public section

set_option maxRecDepth 16384

noncomputable section

namespace Cert.Reference4Ideal.FfnUp

open Cert.Reference4Ideal Cert.Reference4Ideal.Gen Cert.Reference4Ideal.Value Idealize.ShloMosaic Idealize.ShloMosaic.TcCoe Idealize.SL.Sem
open Cert.Kernel4Ideal.FfnUp (upA padA ctA antiA dwA dcwA dcbA dhA)

section Terms

variable (A0 : Vec Ideal S2048x1024 .bf16) (A1 : Vec Ideal S1024x6144 .bf16) (A2 : Vec Ideal S3x6144 .f32) (A4 : Vec Ideal S2048x6144 .bf16)

/-- The cotangent at a row that holds one. -/
theorem ctA_eq (n : Fin 2048) (k : ℕ) (hk : n.val = k) (q : Fin 6144) : A4 (ix2 n q) = ctA A4 k q := by
  subst hk
  rw [ctA, dif_pos n.isLt]

/-- The cotangent shifted, as the reference's padding gives it, times a tap. -/
theorem ctA_dite (k : ℕ) (P : Prop) [Decidable P] (n : P → Fin 2048) (q : Fin 6144) (hP : ¬P → 2048 ≤ k) (hk : ∀ h, (n h).val = k) (w : EReal) :
    (if h : P then A4 (ix2 (n h) q) * w else 0) = w * ctA A4 k q := by
  split
  · next h => rw [ctA_eq A4 (n h) k (hk h), mul_comm]
  · next h => rw [ctA, dif_neg (by have := hP h; omega), mul_zero]

/-- The transposed convolution in the reference's order of terms. -/
theorem anti_sum (n : Fin 2048) (q : Fin 6144) :
    (A4 (ix2 n q) * A2 (ix2 2 q)
      + (if h : 1 ≤ 2 + n.val ∧ 2 + n.val - 1 < 2048 then A4 (ix2 ⟨2 + n.val - 1, by omega⟩ q) * A2 (ix2 1 q) else 0))
      + (if h : 2 + n.val < 2048 then A4 (ix2 ⟨2 + n.val, by omega⟩ q) * A2 (ix2 0 q) else 0)
      = antiA A2 A4 n.val q := by
  rw [ctA_dite A4 (n.val + 1) _ (fun h => ⟨2 + n.val - 1, by omega⟩) q (by omega) (by intro h; dsimp only; omega),
    ctA_dite A4 (n.val + 2) _ (fun h => ⟨2 + n.val, by omega⟩) q (by omega) (by intro h; dsimp only; omega),
    ctA_eq A4 n n.val rfl, mul_comm, add_comm (_ + _), add_comm (A2 (ix2 2 q) * _), ← add_assoc]
  rfl

/-- The padded product at a row that holds one. -/
theorem padA_eq (n : Fin 2048) (k : ℕ) (hk : k = n.val + 8) (q : Fin 6144) : (∑ x : Fin 1024, A0 (ix2 n x) * A1 (ix2 x q)) = padA A0 A1 k q := by
  subst hk
  rw [padA, dif_pos ⟨by omega, by omega⟩]
  rfl

/-- The padded product at its zero rows. -/
theorem padA_zero (k : ℕ) (hk : k < 8) (q : Fin 6144) : 0 = padA A0 A1 k q := by
  rw [padA, dif_neg (by omega)]

/-- One term of a tap's gradient. -/
theorem tap_term (p : EReal) (n : Fin 2048) (q : Fin 6144) (i k : ℕ) (hi : n.val = i) (hp : p = padA A0 A1 k q) :
    p * A4 (ix2 n q) = ctA A4 i q * padA A0 A1 k q := by
  rw [hp, ctA_eq A4 n i hi, mul_comm]

end Terms

variable (m : (ℓ : Loc nD τ sig) → Buf (Elt Ideal) ℓ) (c : Dev nD)

/-- A sum over an axis of extent one, at an index. -/
theorem unit_sum (v : S1x6144.Idx → EReal) (init : EReal) (j : Fin 6144) :
    Ideal.hostReduceAdd reducesTo_S1x6144_S6144_d0 v init (ix1 j) = init + v (ix2 0 j) := by
  pointwise
  rw [Fin.sum_univ_one]

set_option maxHeartbeats 2000000 in
/-- The reference's run ends with the closed forms in its result arrays and the arguments as they were. -/
theorem run_closed  (ρ : Dev nD → PrngReg) :
    θ_run defs (onTc (τ := τ) (main (F := Ideal))) ⟨m, fun _ => 0, ρ⟩ fun r => ∀ c : Dev nD,
      r.2.mem ((c.tc : Thread nD τ).loc main_v69) = dwA (m ((c : Thread nD τ).loc main_arg0)) (m ((c : Thread nD τ).loc main_arg2)) (m ((c : Thread nD τ).loc main_arg4))
      ∧ r.2.mem ((c.tc : Thread nD τ).loc main_v61) = dcwA (m ((c : Thread nD τ).loc main_arg0)) (m ((c : Thread nD τ).loc main_arg1)) (m ((c : Thread nD τ).loc main_arg4))
      ∧ r.2.mem ((c.tc : Thread nD τ).loc main_v70) = dcbA (m ((c : Thread nD τ).loc main_arg4))
      ∧ r.2.mem ((c.tc : Thread nD τ).loc main_v68) = dhA (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2.1.trans ?_, (h c).2.2.2.2⟩) (Cert.Reference4Ideal.Value.run (F := Ideal) m ρ)
  all_goals
    clear h
    generalize m ((c : Thread nD τ).loc main_arg0) = A0
    generalize m ((c : Thread nD τ).loc main_arg1) = A1
    generalize m ((c : Thread nD τ).loc main_arg2) = A2
    generalize m ((c : Thread nD τ).loc main_arg4) = A4
    change Vec Ideal S2048x1024 .bf16 at A0
    change Vec Ideal S1024x6144 .bf16 at A1
    change Vec Ideal S3x6144 .f32 at A2
    change Vec Ideal S2048x6144 .bf16 at A4
    clean_types
    funext j
    idx_vars j
    pointwise [unit_sum]
  · refine Finset.sum_congr rfl fun x _ => ?_
    rw [anti_sum, mul_comm]
    rfl
  · show _ = ∑ n : Fin 2048, ctA A4 n.val j1 * padA A0 A1 (n.val + (6 + j0.val)) j1
    match j0 with
    | ⟨0, _⟩ =>
      rw [dif_neg (by dsimp only; omega), dif_neg (by dsimp only; omega), dif_pos (by dsimp only; omega), zero_add, zero_add]
      refine Eq.trans (congrArg₂ (· + ·) (Finset.sum_congr rfl fun x _ => ?_) (Finset.sum_congr rfl fun x _ => ?_)) (Fin.sum_univ_add (a := 2) (b := 2046) fun n =>
        ctA A4 n.val j1 * padA A0 A1 (n.val + (6 + 0)) j1).symm
      · exact tap_term A0 A1 A4 _ _ _ x.val (x.val + 6) rfl (padA_zero A0 A1 _ (by omega) _)
      · exact tap_term A0 A1 A4 _ _ _ (2 + x.val) (2 + x.val + 6) rfl (padA_eq A0 A1 _ _ (by dsimp only; omega) _)
    | ⟨1, _⟩ =>
      rw [dif_neg (by dsimp only; omega), dif_pos (by dsimp only; omega), dif_neg (by dsimp only; omega), zero_add, add_zero]
      refine Finset.sum_congr rfl fun x _ => ?_
      refine tap_term A0 A1 A4 _ _ _ x.val (x.val + 7) rfl ?_
      split
      · exact padA_zero A0 A1 _ (by omega) _
      · exact padA_eq A0 A1 _ _ (by dsimp only; omega) _
    | ⟨2, _⟩ =>
      rw [dif_pos (by dsimp only; omega), dif_neg (by dsimp only; omega), dif_neg (by dsimp only; omega), add_zero, add_zero]
      refine Finset.sum_congr rfl fun x _ => ?_
      exact tap_term A0 A1 A4 _ _ _ x.val (x.val + 8) rfl (padA_eq A0 A1 _ _ rfl _)
  · exact Finset.sum_congr rfl fun x _ => ctA_eq A4 x x.val rfl j1
  · refine Finset.sum_congr rfl fun x _ => ?_
    rw [anti_sum]
    rfl
end Cert.Reference4Ideal.FfnUp
end
-- ==== Proof.FfnUp.Claim.lean ====
/- The claim about the gradient of the first feed-forward product and its convolution: both programs compute the same four arrays. -/
module

public import proofs.«01_k».proof.Defs
public import proofs.«01_k».proof.Proof.FfnUp.Plain

@[expose] public section

noncomputable section

namespace Cert.Proof.FfnUp

open Idealize.ShloMosaic Idealize.ShloMosaic.TcCoe Idealize.SL.Sem
open Cert.Kernel4Ideal.FfnUp (argH argU argW argC dwA dcwA dcbA dhA)

/-- Both programs end with the closed forms of the arguments in their four result arrays. -/
theorem algebraic : Cert.algebraic_Kernel4Ideal_Reference4Ideal := by
  intro m ρ m' ρ' _ hagree
  refine ⟨fun c => dwA (argH m c) (argW m c) (argC m c), fun c => dcwA (argH m c) (argU m c) (argC m c), fun c => dcbA (argC m c),
    fun c => dhA (argU m c) (argW m c) (argC m c), ?_, ?_⟩
  · refine (θ_run Cert.Kernel4Ideal.defs _ _).mono (fun _ h c => ?_) (Cert.Kernel4Ideal.Value.run_blocks (F := Ideal) m ρ)
    exact ⟨(h c).1.trans (Cert.Kernel4Ideal.FfnUp.first_result m c), (h c).2.1.trans (Cert.Kernel4Ideal.FfnUp.second_result m c),
      (h c).2.2.1.trans (Cert.Kernel4Ideal.FfnUp.third_result m c), (h c).2.2.2.1.trans (Cert.Kernel4Ideal.FfnUp.fourth_result m c), (h c).2.2.2.2⟩
  · refine (θ_run Cert.Reference4Ideal.defs _ _).mono (fun _ h c => ?_) (Cert.Reference4Ideal.FfnUp.run_closed m' ρ')
    obtain ⟨a0, a1, a2, -, a4⟩ := hagree c
    refine ⟨(h c).1.trans ?_, (h c).2.1.trans ?_, (h c).2.2.1.trans ?_, (h c).2.2.2.1.trans ?_, (h c).2.2.2.2⟩
    · rw [a0, a2, a4]
    · rw [a0, a1, a4]
    · rw [a4]
    · rw [a1, a2, a4]

end Cert.Proof.FfnUp

end
-- ==== Proof.Merge.State.lean ====
module

public import proofs.«01_k».proof.Proof.Gen.Kernel5Ideal.Frame.Runs

/-! # What one run of the gradient of the gated sum holds, and what it leaves -/

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- What the nine outputs hold. -/
structure Outs (F : FTy → Type) where
  /-- The gradient at the block's input of the branches' norm. -/
  dx1 : Vec F S256x1024 .f32
  /-- The gradient at the mixed branches. -/
  dmix : Vec F S256x1024 .bf16
  /-- The gradient at the convolution branch's projection. -/
  dpa : Vec F S256x1024 .bf16
  /-- The gradient at the recurrence branch's projection. -/
  dpb : Vec F S256x1024 .bf16
  /-- The gradient at the convolution branch. -/
  dya : Vec F S256x1024 .bf16
  /-- The gradient at the recurrence branch. -/
  dyb : Vec F S256x1024 .bf16
  /-- The gradients at the two gates. -/
  dgate : Vec F S2x256x1024 .bf16
  /-- The gradient of the third gain, summed so far. -/
  dg3 : Vec F S1x1024 .f32
  /-- The gradient of the second gain, summed so far. -/
  dg2 : Vec F S1x1024 .f32

section

variable (c : Dev nD) (arg1 : Memref sig .tc .vmem S256x1024 .f32) (arg2 : Memref sig .tc .vmem S256x1024 .f32) (arg3 : Memref sig .tc .vmem S256x1024 .f32) (arg4 : Memref sig .tc .vmem S256x1024 .bf16) (arg5 : Memref sig .tc .vmem S1x1024 .f32) (arg6 : Memref sig .tc .vmem S1x1024 .f32) (arg7 : Memref sig .tc .vmem S1024x1024 .bf16) (arg8 : Memref sig .tc .vmem S1024x1024 .bf16) (arg9 : Memref sig .tc .vmem S1024x1024 .bf16) (arg10 : Memref sig .tc .vmem S256x1024 .bf16) (arg11 : Memref sig .tc .vmem S256x1024 .bf16) (arg12 : Memref sig .tc .vmem S256x1024 .bf16) (arg13 : Memref sig .tc .vmem S256x1024 .bf16) (arg14 : Memref sig .tc .vmem S256x1024 .f32) (arg15 : Memref sig .tc .vmem S256x1024 .bf16) (arg16 : Memref sig .tc .vmem S256x1024 .bf16) (arg17 : Memref sig .tc .vmem S256x1024 .bf16) (arg18 : Memref sig .tc .vmem S256x1024 .bf16) (arg19 : Memref sig .tc .vmem S256x1024 .bf16) (arg20 : Memref sig .tc .vmem S2x256x1024 .bf16) (arg21 : Memref sig .tc .vmem S1x1024 .f32) (arg22 : Memref sig .tc .vmem S1x1024 .f32)
    (x0 : Vec F S256x1024 .f32) (x1 : Vec F S256x1024 .f32) (x2 : Vec F S256x1024 .f32) (x3 : Vec F S256x1024 .bf16) (x4 : Vec F S1x1024 .f32) (x5 : Vec F S1x1024 .f32) (x6 : Vec F S1024x1024 .bf16) (x7 : Vec F S1024x1024 .bf16) (x8 : Vec F S1024x1024 .bf16) (x9 : Vec F S256x1024 .bf16) (x10 : Vec F S256x1024 .bf16) (x11 : Vec F S256x1024 .bf16) (x12 : Vec F S256x1024 .bf16) (x20 : Vec F S1x1024 .f32) (x21 : Vec F S1x1024 .f32)

/-- The buffers before a run: the inputs and the two running sums at their contents, the other outputs at anything. -/
def Before : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x20 ∗ owns (c : Thread nD τ) arg22 fullShare x21)

/-- The buffers after a run: the inputs as they were, each output with its pieces written. -/
def Written (L13 : List (View.Piece (Elt F) S256x1024 .f32)) (L14 : List (View.Piece (Elt F) S256x1024 .bf16)) (L15 : List (View.Piece (Elt F) S256x1024 .bf16)) (L16 : List (View.Piece (Elt F) S256x1024 .bf16)) (L17 : List (View.Piece (Elt F) S256x1024 .bf16)) (L18 : List (View.Piece (Elt F) S256x1024 .bf16)) (L19 : List (View.Piece (Elt F) S2x256x1024 .bf16)) (L20 : List (View.Piece (Elt F) S1x1024 .f32)) (L21 : List (View.Piece (Elt F) S1x1024 .f32)) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21))

/-- The buffers after a run: the inputs as they were, the outputs at given contents. -/
def After (o : Outs F) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare o.dx1 ∗ owns (c : Thread nD τ) arg15 fullShare o.dmix ∗ owns (c : Thread nD τ) arg16 fullShare o.dpa ∗ owns (c : Thread nD τ) arg17 fullShare o.dpb ∗ owns (c : Thread nD τ) arg18 fullShare o.dya ∗ owns (c : Thread nD τ) arg19 fullShare o.dyb ∗ owns (c : Thread nD τ) arg20 fullShare o.dgate ∗ owns (c : Thread nD τ) arg21 fullShare o.dg3 ∗ owns (c : Thread nD τ) arg22 fullShare o.dg2)

/-- What pieces that cover leave: the contents they spell. -/
def spelled (L13 : List (View.Piece (Elt F) S256x1024 .f32)) (L14 : List (View.Piece (Elt F) S256x1024 .bf16)) (L15 : List (View.Piece (Elt F) S256x1024 .bf16)) (L16 : List (View.Piece (Elt F) S256x1024 .bf16)) (L17 : List (View.Piece (Elt F) S256x1024 .bf16)) (L18 : List (View.Piece (Elt F) S256x1024 .bf16)) (L19 : List (View.Piece (Elt F) S2x256x1024 .bf16)) (L20 : List (View.Piece (Elt F) S1x1024 .f32)) (L21 : List (View.Piece (Elt F) S1x1024 .f32)) : Outs F := ⟨View.canon L13, View.canon L14, View.canon L15, View.canon L16, View.canon L17, View.canon L18, View.canon L19, View.canon L20, View.canon L21⟩

/-- Written with pieces that cover, each output holds what they spell. -/
theorem written_after (L13 : List (View.Piece (Elt F) S256x1024 .f32)) (L14 : List (View.Piece (Elt F) S256x1024 .bf16)) (L15 : List (View.Piece (Elt F) S256x1024 .bf16)) (L16 : List (View.Piece (Elt F) S256x1024 .bf16)) (L17 : List (View.Piece (Elt F) S256x1024 .bf16)) (L18 : List (View.Piece (Elt F) S256x1024 .bf16)) (L19 : List (View.Piece (Elt F) S2x256x1024 .bf16)) (L20 : List (View.Piece (Elt F) S1x1024 .f32)) (L21 : List (View.Piece (Elt F) S1x1024 .f32))
    (h13 : ∀ y : S256x1024.Idx, ∃ pc ∈ L13, y ∈ pc.1.set)
    (h14 : ∀ y : S256x1024.Idx, ∃ pc ∈ L14, y ∈ pc.1.set)
    (h15 : ∀ y : S256x1024.Idx, ∃ pc ∈ L15, y ∈ pc.1.set)
    (h16 : ∀ y : S256x1024.Idx, ∃ pc ∈ L16, y ∈ pc.1.set)
    (h17 : ∀ y : S256x1024.Idx, ∃ pc ∈ L17, y ∈ pc.1.set)
    (h18 : ∀ y : S256x1024.Idx, ∃ pc ∈ L18, y ∈ pc.1.set)
    (h19 : ∀ y : S2x256x1024.Idx, ∃ pc ∈ L19, y ∈ pc.1.set)
    (h20 : ∀ y : S1x1024.Idx, ∃ pc ∈ L20, y ∈ pc.1.set)
    (h21 : ∀ y : S1x1024.Idx, ∃ pc ∈ L21, y ∈ pc.1.set)
    : Written c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 L13 L14 L15 L16 L17 L18 L19 L20 L21 ⊢ After c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 (spelled L13 L14 L15 L16 L17 L18 L19 L20 L21) := by
  unfold Written After spelled
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_eq_canon _ _ _ h13
  isplitl [H14]
  · unfold owns; iexists _; isplitr
    swap; · iexact H14
    ipureintro; exact View.read_writes_eq_canon _ _ _ h14
  isplitl [H15]
  · unfold owns; iexists _; isplitr
    swap; · iexact H15
    ipureintro; exact View.read_writes_eq_canon _ _ _ h15
  isplitl [H16]
  · unfold owns; iexists _; isplitr
    swap; · iexact H16
    ipureintro; exact View.read_writes_eq_canon _ _ _ h16
  isplitl [H17]
  · unfold owns; iexists _; isplitr
    swap; · iexact H17
    ipureintro; exact View.read_writes_eq_canon _ _ _ h17
  isplitl [H18]
  · unfold owns; iexists _; isplitr
    swap; · iexact H18
    ipureintro; exact View.read_writes_eq_canon _ _ _ h18
  isplitl [H19]
  · unfold owns; iexists _; isplitr
    swap; · iexact H19
    ipureintro; exact View.read_writes_eq_canon _ _ _ h19
  isplitl [H20]
  · unfold owns; iexists _; isplitr
    swap; · iexact H20
    ipureintro; exact View.read_writes_eq_canon _ _ _ h20
  unfold owns; iexists _; isplitr
  swap; · iexact H21
  ipureintro; exact View.read_writes_eq_canon _ _ _ h21

end

end Cert.Kernel5Ideal.Merge

end
-- ==== Proof.Merge.RunFirst.lean ====
module

public import proofs.«01_k».proof.Proof.Merge.State

/-! # The run at the first point -/

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

set_option maxHeartbeats 0 in
/-- What the body's stores leave in each output at the first point, where the two running sums begin at zero, as pieces, last first. -/
noncomputable def ranFirst (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S2x256x1024 .bf16) (harg20 : arg20.IsWhole) (arg21 : Memref sig .tc .vmem S1x1024 .f32) (harg21 : arg21.IsWhole) (arg22 : Memref sig .tc .vmem S1x1024 .f32) (harg22 : arg22.IsWhole) (hc0 : cond0_0 i)
    (x0 : Vec F S256x1024 .f32) (x1 : Vec F S256x1024 .f32) (x2 : Vec F S256x1024 .f32) (x3 : Vec F S256x1024 .bf16) (x4 : Vec F S1x1024 .f32) (x5 : Vec F S1x1024 .f32) (x6 : Vec F S1024x1024 .bf16) (x7 : Vec F S1024x1024 .bf16) (x8 : Vec F S1024x1024 .bf16) (x9 : Vec F S256x1024 .bf16) (x10 : Vec F S256x1024 .bf16) (x11 : Vec F S256x1024 .bf16) (x12 : Vec F S256x1024 .bf16) (x20 : Vec F S1x1024 .f32) (x21 : Vec F S1x1024 .f32) :
    Σ' (L13 : List (View.Piece (Elt F) S256x1024 .f32)), Σ' (L14 : List (View.Piece (Elt F) S256x1024 .bf16)), Σ' (L15 : List (View.Piece (Elt F) S256x1024 .bf16)), Σ' (L16 : List (View.Piece (Elt F) S256x1024 .bf16)), Σ' (L17 : List (View.Piece (Elt F) S256x1024 .bf16)), Σ' (L18 : List (View.Piece (Elt F) S256x1024 .bf16)), Σ' (L19 : List (View.Piece (Elt F) S2x256x1024 .bf16)), Σ' (L20 : List (View.Piece (Elt F) S1x1024 .f32)), { L21 : List (View.Piece (Elt F) S1x1024 .f32) //
      ∀ (E : Set ℕ) (K : PUnit → sProp 𝕄),
        iprop(Before c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 x20 x21 ∗ (Written c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 L13 L14 L15 L16 L17 L18 L19 L20 L21 -∗ K ⟨⟩))
          ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_merge_bwd_eq_skeleton]; unfold cc0_merge_bwd_skel
    simp only [k0_part1_eq_skeleton, k0_part2_eq_skeleton, k0_part3_eq_skeleton]
    unfold Before Written owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Kernel5Ideal.Merge

end
-- ==== Proof.Merge.RunNext.lean ====
module

public import proofs.«01_k».proof.Proof.Merge.State

/-! # The run at a later point -/

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

set_option maxHeartbeats 0 in
/-- What the body's stores leave in each output at a later point, as pieces, last first. -/
noncomputable def ranNext (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S2x256x1024 .bf16) (harg20 : arg20.IsWhole) (arg21 : Memref sig .tc .vmem S1x1024 .f32) (harg21 : arg21.IsWhole) (arg22 : Memref sig .tc .vmem S1x1024 .f32) (harg22 : arg22.IsWhole) (hc0 : ¬cond0_0 i)
    (x0 : Vec F S256x1024 .f32) (x1 : Vec F S256x1024 .f32) (x2 : Vec F S256x1024 .f32) (x3 : Vec F S256x1024 .bf16) (x4 : Vec F S1x1024 .f32) (x5 : Vec F S1x1024 .f32) (x6 : Vec F S1024x1024 .bf16) (x7 : Vec F S1024x1024 .bf16) (x8 : Vec F S1024x1024 .bf16) (x9 : Vec F S256x1024 .bf16) (x10 : Vec F S256x1024 .bf16) (x11 : Vec F S256x1024 .bf16) (x12 : Vec F S256x1024 .bf16) (x20 : Vec F S1x1024 .f32) (x21 : Vec F S1x1024 .f32) :
    Σ' (L13 : List (View.Piece (Elt F) S256x1024 .f32)), Σ' (L14 : List (View.Piece (Elt F) S256x1024 .bf16)), Σ' (L15 : List (View.Piece (Elt F) S256x1024 .bf16)), Σ' (L16 : List (View.Piece (Elt F) S256x1024 .bf16)), Σ' (L17 : List (View.Piece (Elt F) S256x1024 .bf16)), Σ' (L18 : List (View.Piece (Elt F) S256x1024 .bf16)), Σ' (L19 : List (View.Piece (Elt F) S2x256x1024 .bf16)), Σ' (L20 : List (View.Piece (Elt F) S1x1024 .f32)), { L21 : List (View.Piece (Elt F) S1x1024 .f32) //
      ∀ (E : Set ℕ) (K : PUnit → sProp 𝕄),
        iprop(Before c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 x20 x21 ∗ (Written c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 L13 L14 L15 L16 L17 L18 L19 L20 L21 -∗ K ⟨⟩))
          ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_merge_bwd_eq_skeleton]; unfold cc0_merge_bwd_skel
    simp only [k0_part1_eq_skeleton, k0_part2_eq_skeleton, k0_part3_eq_skeleton]
    unfold Before Written owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Kernel5Ideal.Merge

end
-- ==== Proof.Merge.Frame.lean ====
module

public import proofs.«01_k».proof.Proof.Merge.RunFirst
public import proofs.«01_k».proof.Proof.Merge.RunNext
public import Idealize.ShloMosaic.Lib.Claim

/-! # The frame of the gradient of the gated sum

What the nine outputs hold after each grid point, the launch's proof data, the body's obligation and the run of the whole
program, at any element semantics.  The launch's set-up is the usual one. -/

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S2x256x1024 .bf16) (harg20 : arg20.IsWhole) (arg21 : Memref sig .tc .vmem S1x1024 .f32) (harg21 : arg21.IsWhole) (arg22 : Memref sig .tc .vmem S1x1024 .f32) (harg22 : arg22.IsWhole)
    (x0 : Vec F S256x1024 .f32) (x1 : Vec F S256x1024 .f32) (x2 : Vec F S256x1024 .f32) (x3 : Vec F S256x1024 .bf16) (x4 : Vec F S1x1024 .f32) (x5 : Vec F S1x1024 .f32) (x6 : Vec F S1024x1024 .bf16) (x7 : Vec F S1024x1024 .bf16) (x8 : Vec F S1024x1024 .bf16) (x9 : Vec F S256x1024 .bf16) (x10 : Vec F S256x1024 .bf16) (x11 : Vec F S256x1024 .bf16) (x12 : Vec F S256x1024 .bf16) (x20 : Vec F S1x1024 .f32) (x21 : Vec F S1x1024 .f32)

/-- What a run at the first point leaves. -/
def leftFirst (hc0 : cond0_0 i) : Outs F :=
  let R := ranFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x20 x21
  spelled R.1 R.2.1 R.2.2.1 R.2.2.2.1 R.2.2.2.2.1 R.2.2.2.2.2.1 R.2.2.2.2.2.2.1 R.2.2.2.2.2.2.2.1 R.2.2.2.2.2.2.2.2.1

set_option maxHeartbeats 1600000 in
/-- The run at the first point, its outputs at what it leaves. -/
theorem runFirst (hc0 : cond0_0 i) (E : Set ℕ) (K : PUnit → sProp 𝕄) :
    iprop(Before c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 x20 x21 ∗ (After c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 (leftFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x20 x21 hc0) -∗ K ⟨⟩))
      ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨Hb, Hk⟩
  iapply ((ranFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x20 x21).2.2.2.2.2.2.2.2.2 E K)
  isplitl [Hb]; · iexact Hb
  iintro Hw
  iapply Hk
  iapply (written_after c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 _ _ _ _ _ _ _ _ _
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![1, 256, 1024] (by sl_kernel_rfl))
    (View.cover_of_tiledBy _ ![1, 1024] (by sl_kernel_rfl))
    (View.cover_of_tiledBy _ ![1, 1024] (by sl_kernel_rfl)))
  iexact Hw

/-- What a run at a later point leaves. -/
def leftNext (hc0 : ¬cond0_0 i) : Outs F :=
  let R := ranNext (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x20 x21
  spelled R.1 R.2.1 R.2.2.1 R.2.2.2.1 R.2.2.2.2.1 R.2.2.2.2.2.1 R.2.2.2.2.2.2.1 R.2.2.2.2.2.2.2.1 R.2.2.2.2.2.2.2.2.1

set_option maxHeartbeats 1600000 in
/-- The run at a later point, its outputs at what it leaves. -/
theorem runNext (hc0 : ¬cond0_0 i) (E : Set ℕ) (K : PUnit → sProp 𝕄) :
    iprop(Before c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 x20 x21 ∗ (After c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 (leftNext (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x20 x21 hc0) -∗ K ⟨⟩))
      ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  iintro ⟨Hb, Hk⟩
  iapply ((ranNext (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x20 x21).2.2.2.2.2.2.2.2.2 E K)
  isplitl [Hb]; · iexact Hb
  iintro Hw
  iapply Hk
  iapply (written_after c arg1 arg2 arg3 arg4 arg5 arg6 arg7 arg8 arg9 arg10 arg11 arg12 arg13 arg14 arg15 arg16 arg17 arg18 arg19 arg20 arg21 arg22 x0 x1 x2 x3 x4 x5 x6 x7 x8 x9 x10 x11 x12 _ _ _ _ _ _ _ _ _
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![256, 1024] (by sl_kernel_rfl))
    (View.cover_of_tiledBy _ ![1, 256, 1024] (by sl_kernel_rfl))
    (View.cover_of_tiledBy _ ![1, 1024] (by sl_kernel_rfl))
    (View.cover_of_tiledBy _ ![1, 1024] (by sl_kernel_rfl)))
  iexact Hw

end

variable (m : (ℓ : Loc nD τ sig) → Buf (Elt F) ℓ) (ρ : Dev nD → PrngReg)

/-- What the outputs hold after the body at each point: the first point's run leaves its own, a later one's reads the two
    running sums the point before left. -/
def outsAt (c : Dev nD) : (n : ℕ) → n < cfg0.N → Outs F
  | 0, hn => leftFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) k0_pay4 k0_pay5 ((hcond0_0 ⟨0, hn⟩).mpr rfl)
  | n + 1, hn => leftNext c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt c n (Nat.lt_of_succ_lt hn)).dg3 (outsAt c n (Nat.lt_of_succ_lt hn)).dg2
      (fun h => by
        have h8 : n + 1 < 8 := lt_of_lt_of_eq hn N_0
        have := (hcond0_0 ⟨n + 1, hn⟩).mp h; dsimp only at this; omega)

/-- At the first point: what its run leaves, whatever the two sums held. -/
theorem outsAt_first (c : Dev nD) (t : Fin cfg0.N) (h0 : t.val % 8 = 0) (x20 x21 : Vec F S1x1024 .f32) :
    outsAt m c t.val t.isLt = leftFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x20 x21 ((hcond0_0 t).mpr h0) := by
  have h8 : t.val < 8 := lt_of_lt_of_eq t.isLt N_0
  obtain ⟨n, hn⟩ := t
  cases n with
  | zero => sl_kernel_rfl
  | succ n => exfalso; dsimp only at h0 h8; omega

/-- At a later point: what its run leaves over the sums of the point before. -/
theorem outsAt_next (c : Dev nD) (t : Fin cfg0.N) (h0 : ¬t.val % 8 = 0) :
    outsAt m c t.val t.isLt = leftNext c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (outsAt m c (t.val - 1) (Nat.lt_of_le_of_lt (Nat.sub_le _ _) t.isLt)).dg3 (outsAt m c (t.val - 1) (Nat.lt_of_le_of_lt (Nat.sub_le _ _) t.isLt)).dg2
      (fun h => h0 ((hcond0_0 t).mp h)) := by
  obtain ⟨n, hn⟩ := t
  cases n with
  | zero => exact absurd rfl h0
  | succ n => exact rfl

/-- The proof data of the launch on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt m c t.val t.isLt).dx1
    | ⟨14, _⟩ => (outsAt m c t.val t.isLt).dmix
    | ⟨15, _⟩ => (outsAt m c t.val t.isLt).dpa
    | ⟨16, _⟩ => (outsAt m c t.val t.isLt).dpb
    | ⟨17, _⟩ => (outsAt m c t.val t.isLt).dya
    | ⟨18, _⟩ => (outsAt m c t.val t.isLt).dyb
    | ⟨19, _⟩ => (outsAt m c t.val t.isLt).dgate
    | ⟨20, _⟩ => (outsAt m c t.val t.isLt).dg3
    | ⟨21, _⟩ => (outsAt m c t.val t.isLt).dg2
    | ⟨_ + 22, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = (outsAt m c t.val t.isLt).dx1 := by dsimp only [dats]
theorem after14 (c : Dev nD) (t : Fin cfg0.N) : (dats m 0 c).after 14 t = (outsAt m c t.val t.isLt).dmix := by dsimp only [dats]
theorem after15 (c : Dev nD) (t : Fin cfg0.N) : (dats m 0 c).after 15 t = (outsAt m c t.val t.isLt).dpa := by dsimp only [dats]
theorem after16 (c : Dev nD) (t : Fin cfg0.N) : (dats m 0 c).after 16 t = (outsAt m c t.val t.isLt).dpb := by dsimp only [dats]
theorem after17 (c : Dev nD) (t : Fin cfg0.N) : (dats m 0 c).after 17 t = (outsAt m c t.val t.isLt).dya := by dsimp only [dats]
theorem after18 (c : Dev nD) (t : Fin cfg0.N) : (dats m 0 c).after 18 t = (outsAt m c t.val t.isLt).dyb := by dsimp only [dats]
theorem after19 (c : Dev nD) (t : Fin cfg0.N) : (dats m 0 c).after 19 t = (outsAt m c t.val t.isLt).dgate := by dsimp only [dats]
theorem after20 (c : Dev nD) (t : Fin cfg0.N) : (dats m 0 c).after 20 t = (outsAt m c t.val t.isLt).dg3 := by dsimp only [dats]
theorem after21 (c : Dev nD) (t : Fin cfg0.N) : (dats m 0 c).after 21 t = (outsAt m c t.val t.isLt).dg2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
/-- At a later point the running sum of output 20 is what the point before left. -/
theorem before20 (c : Dev nD) (t : Fin cfg0.N) (h0 : ¬t.val % 8 = 0) (d) :
    (dats m 0 c).before 20 t d = (outsAt m c (t.val - 1) (Nat.lt_of_le_of_lt (Nat.sub_le _ _) t.isLt)).dg3 := by
  have hN : t.val < 8 := lt_of_lt_of_eq t.isLt N_0
  rw [Dat.before_out_kept _ 20 rfl t (by omega) (Bool.eq_false_iff.mpr fun h => by have := (flush0_20 _).mp h; dsimp only at this; omega)
    (fun _ => rfl) (fun _ _ => rfl)]
  dsimp only [dats]

/-- At a later point the running sum of output 21 is what the point before left. -/
theorem before21 (c : Dev nD) (t : Fin cfg0.N) (h0 : ¬t.val % 8 = 0) (d) :
    (dats m 0 c).before 21 t d = (outsAt m c (t.val - 1) (Nat.lt_of_le_of_lt (Nat.sub_le _ _) t.isLt)).dg2 := by
  have hN : t.val < 8 := lt_of_lt_of_eq t.isLt N_0
  rw [Dat.before_out_kept _ 21 rfl t (by omega) (Bool.eq_false_iff.mpr fun h => by have := (flush0_21 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

/-- The body at any point, the two sums at what the point before left where it is not the first. -/
theorem run_at (c : Dev nD) (t : Fin cfg0.N) (d20 d21) (K : PUnit → sProp 𝕄) :
    iprop(Before c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 20 t d20) ((dats m 0 c).before 21 t d21)
        ∗ (After c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt m c t.val t.isLt) -∗ K ⟨⟩))
      ⊢ wp frame (wpE (defs₀ (F := F)) Variants.none c none) Set.univ (bodyAt0 t) K := by
  by_cases h0 : t.val % 8 = 0
  · rw [outsAt_first m c t h0 ((dats m 0 c).before 20 t d20) ((dats m 0 c).before 21 t d21)]
    exact runFirst c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ K
  · rw [outsAt_next m c t h0, before20 m c t h0, before21 m c t h0]
    exact runNext c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ K

set_option maxHeartbeats 1600000 in
/-- The body keeps the launch's state at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (run_at m c t d20 d21 _)
  unfold Before After
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots. -/
theorem row_eq (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The program runs to the launch's post, every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiescent m ρ))

end Cert.Kernel5Ideal.Merge

end
-- ==== Proof.Merge.Frames.lean ====
/- The frames of the gated merge's gradient: of the kernel over any arithmetic, and of the plain reference. -/
module

public import proofs.«01_k».proof.Defs
public import proofs.«01_k».proof.Proof.Merge.Frame
public import proofs.«01_k».proof.Proof.Gen.Kernel5
public import proofs.«01_k».proof.Proof.Gen.Reference5Ideal.Run
public import Idealize.ShloMosaic.Lib.Quiescent

@[expose] public section

noncomputable section

namespace Cert.Proof.Merge

open Idealize.ShloMosaic Idealize.ShloMosaic.TcCoe Idealize.ShloMosaic.Tactic Idealize.SL.Sem

/-- What the kernel's frame says, for the program as it stands on the chip's words, is what it says of the idealized program read at the words. -/
theorem same_frame : Cert.quiescent_Kernel5 (hKernel5 := Cert.Kernel5.Gen.facts) = ∀ (m : (ℓ : Loc Cert.Kernel5Ideal.nD Cert.Kernel5Ideal.τ Cert.Kernel5Ideal.sig) → Buf (Elt Bits) ℓ) (g : Dev Cert.Kernel5Ideal.nD → PrngReg), Cert.Pre_Kernel5 m →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0) := by
  sl_kernel_rfl

/-- The kernel's frame on the chip's words. -/
theorem frame_words : Cert.quiescent_Kernel5 (hKernel5 := Cert.Kernel5.Gen.facts) := by
  rw [same_frame]
  exact fun m ρ _ => Cert.Kernel5Ideal.Merge.frame m ρ

/-- The reference terminates, leaves its arguments as they were, and no semaphore is ever raised. -/
theorem frame_reference : Cert.quiescent_Reference5Ideal := fun m ρ _ =>
  (θ_run Cert.Reference5Ideal.defs _ _).mono (fun r h => ⟨fun c => (h c).2.2.2.2.2.2.2.2.2, Idealize.ShloMosaic.sem_eq_zero_of_no_sems (by decide) r.2⟩)
    (Cert.Reference5Ideal.Value.run (F := Ideal) m ρ)

end Cert.Proof.Merge

end
-- ==== Proof.Merge.Closed.lean ====
/- The gated merge of the two branches and the two norms around it: the gradients that both programs compute, as real functions of finite arguments. -/
module

public import proofs.«01_k».proof.Proof.Steps.Norm

@[expose] public section

noncomputable section

namespace Cert.Proof.Merge

open Cert.Proof.Reals Idealize.ShloMosaic

/-- A gate's opening: the logistic function of any extended real. -/
def gate (e : EReal) : ℝ := (Ideal.logistic e).toReal

/-- It is a real number also where the argument is infinite. -/
theorem gate_coe (e : EReal) : Ideal.logistic e = ((gate e : ℝ) : EReal) := by
  unfold gate
  induction e using EReal.rec with
  | bot => rw [Ideal.logistic_bot]; rfl
  | coe r => rw [Ideal.logistic_coe]; rfl
  | top => rw [Ideal.logistic_top]; rfl

section Row

variable (x1 mix dy dh g2 g3 : Fin 1024 → ℝ)

/-- The gradient at a row before the third norm: what comes past the norm, and what comes through it. -/
def dx1Row (d : Fin 1024) : ℝ := dy d + normBack x1 (fun d => dh d * g3 d) d

/-- The gradient at a row before the second norm. -/
def dmixRow (d : Fin 1024) : ℝ := normBack mix (fun d => dx1Row x1 dy dh g3 d * g2 d) d

/-- The gradient at the gated sum of the branches: through the product after it. -/
def dsumRow (w : Fin 1024 → Fin 1024 → ℝ) (k : Fin 1024) : ℝ := ∑ d, dmixRow x1 mix dy dh g2 g3 d * w k d

end Row

/-- The gradient at a gate's argument, of the gate's opening, the branch and the gradient at their product. -/
def dGate (s b v : ℝ) : ℝ := v * b * s * (1 - s)

/-- The arguments: the two branches, the gates' arguments, the residual, the three matrices, the two gains and the two cotangents. -/
structure Inputs where
  ya : Fin 2048 → Fin 1024 → ℝ
  yb : Fin 2048 → Fin 1024 → ℝ
  p : Fin 2048 → Fin 7168 → EReal
  x : Fin 2048 → Fin 1024 → ℝ
  wc : Fin 1024 → Fin 1024 → ℝ
  wl : Fin 1024 → Fin 1024 → ℝ
  wo : Fin 1024 → Fin 1024 → ℝ
  g2 : Fin 1024 → ℝ
  g3 : Fin 1024 → ℝ
  dy : Fin 2048 → Fin 1024 → ℝ
  dh : Fin 2048 → Fin 1024 → ℝ

namespace Inputs

variable (I : Inputs)

/-- The first branch's projection. -/
def pa (n : Fin 2048) (d : Fin 1024) : ℝ := ∑ k, I.ya n k * I.wc k d
/-- The second branch's. -/
def pb (n : Fin 2048) (d : Fin 1024) : ℝ := ∑ k, I.yb n k * I.wl k d
/-- The first gate. -/
def sa (n : Fin 2048) (d : Fin 1024) : ℝ := gate (I.p n ⟨5120 + d.val, by omega⟩)
/-- The second gate. -/
def sb (n : Fin 2048) (d : Fin 1024) : ℝ := gate (I.p n ⟨6144 + d.val, by omega⟩)
/-- The product of the gated sum with the matrix after it. -/
def mix (n : Fin 2048) (d : Fin 1024) : ℝ := ∑ k, (I.sa n k * I.pa n k + I.sb n k * I.pb n k) * I.wo k d
/-- The norm of it, added to the residual. -/
def x1 (n : Fin 2048) (d : Fin 1024) : ℝ := I.x n d + I.mix n d * root (I.mix n) * I.g2 d
/-- The gradient there. -/
def dx1 (n : Fin 2048) (d : Fin 1024) : ℝ := dx1Row (I.x1 n) (I.dy n) (I.dh n) I.g3 d
/-- The gradient at the product. -/
def dmix (n : Fin 2048) (d : Fin 1024) : ℝ := dmixRow (I.x1 n) (I.mix n) (I.dy n) (I.dh n) I.g2 I.g3 d
/-- The gradient at the gated sum. -/
def dsum (n : Fin 2048) (k : Fin 1024) : ℝ := dsumRow (I.x1 n) (I.mix n) (I.dy n) (I.dh n) I.g2 I.g3 I.wo k
/-- The gradients at the projections … -/
def dpa (n : Fin 2048) (d : Fin 1024) : ℝ := I.dsum n d * I.sa n d
def dpb (n : Fin 2048) (d : Fin 1024) : ℝ := I.dsum n d * I.sb n d
/-- … at the branches … -/
def dya (n : Fin 2048) (k : Fin 1024) : ℝ := ∑ d, I.dpa n d * I.wc k d
def dyb (n : Fin 2048) (k : Fin 1024) : ℝ := ∑ d, I.dpb n d * I.wl k d
/-- … at the gates' arguments … -/
def dgate (i : Fin 2) (n : Fin 2048) (d : Fin 1024) : ℝ :=
  if i.val = 0 then dGate (I.sa n d) (I.pa n d) (I.dsum n d) else dGate (I.sb n d) (I.pb n d) (I.dsum n d)
/-- … and at the two gains. -/
def dg3 (d : Fin 1024) : ℝ := ∑ n, I.dh n d * (I.x1 n d * root (I.x1 n))
def dg2 (d : Fin 1024) : ℝ := ∑ n, I.dx1 n d * (I.mix n d * root (I.mix n))

end Inputs

end Cert.Proof.Merge

end
-- ==== Proof.Merge.Block.lean ====
/- One block of 256 rows of the kernel, from finite inputs: what each stored value is, as a real number. -/
module

public import proofs.«01_k».proof.Proof.Merge.Closed
public import proofs.«01_k».proof.Proof.Gen.Kernel5Ideal.Skeleton
public import Idealize.ShloMosaic.PureOps.IdealRules

@[expose] public section

set_option maxRecDepth 16384

noncomputable section

namespace Cert.Kernel5Ideal.Merge

open Cert.Kernel5Ideal Cert.Kernel5Ideal.Gen Idealize.ShloMosaic Idealize.ShloMosaic.TcCoe
open Cert.Proof.Reals Cert.Proof.Merge

section Third

variable {x1 : Vec Ideal S256x1024 .f32} {X : Fin 256 → Fin 1024 → ℝ} (h1 : ∀ r d, x1 (ix2 r d) = ((X r d : ℝ) : EReal))
include h1

/-- The reciprocal root of a row. -/
theorem root1_real (r : Fin 256) (z : Fin 1) : k0_pay7 x1 (ix2 r z) = ((root (X r) : ℝ) : EReal) := by
  pointwise [k0_pay7, k0_pay6]
  simp only [h1, ← EReal.coe_mul, coe_sum, meanSq_coe, root_coe]

/-- A row over its root. -/
theorem normed1_real (r : Fin 256) (d : Fin 1024) : k0_pay8 x1 (ix2 r d) = ((X r d * root (X r) : ℝ) : EReal) := by
  have e := root1_real h1
  unfold k0_pay8
  generalize k0_pay7 x1 = u at e
  pointwise [k0_pay6]
  rw [e, h1, ← EReal.coe_mul]

/-- The root, spread over its row. -/
theorem spread1_real (r : Fin 256) (d : Fin 1024) : k0_pay11 x1 (ix2 r d) = ((root (X r) : ℝ) : EReal) := by
  have e := root1_real h1
  unfold k0_pay11
  generalize k0_pay7 x1 = u at e
  pointwise
  rw [e]

variable {dh dy : Vec Ideal S256x1024 .f32} {DH DY : Fin 256 → Fin 1024 → ℝ} (hh : ∀ r d, dh (ix2 r d) = ((DH r d : ℝ) : EReal))
  (hy : ∀ r d, dy (ix2 r d) = ((DY r d : ℝ) : EReal)) {g3 : Vec Ideal S1x1024 .f32} {G3 : Fin 1024 → ℝ} (h3 : ∀ z d, g3 (ix2 z d) = ((G3 d : ℝ) : EReal))

include hh in
/-- What a block adds to the gradient at the third norm's gain. -/
theorem gain3_real (v : Vec Ideal S1x1024 .f32) (z : Fin 1) (d : Fin 1024) :
    k0_pay9 x1 dh v (ix2 z d) = v (ix2 z d) + ((∑ r, DH r d * (X r d * root (X r)) : ℝ) : EReal) := by
  have e := normed1_real h1
  unfold k0_pay9
  generalize k0_pay8 x1 = u at e
  pointwise
  simp only [hh, e, ← EReal.coe_mul, coe_sum]

include hh h3 in
/-- The part of the gradient under the third norm's root. -/
theorem under3_real (r : Fin 256) (d : Fin 1024) : k0_pay10 x1 dh g3 (ix2 r d)
    = ((DH r d * G3 d - X r d * root (X r) * ((∑ k, X r k * root (X r) * (DH r k * G3 k)) / 1024) : ℝ) : EReal) := by
  have e := normed1_real h1
  unfold k0_pay10
  generalize k0_pay8 x1 = u at e
  pointwise
  simp only [hh, h3, e, word_1024, ← EReal.coe_mul, coe_sum]
  rw [coe_div (by norm_num)]
  simp only [← EReal.coe_mul, ← EReal.coe_sub]

include hh hy h3 in
/-- The gradient before the third norm. -/
theorem dx1_real (r : Fin 256) (d : Fin 1024) :
    k0_pay12 dy (k0_pay10 x1 dh g3) (k0_pay11 x1) (ix2 r d) = ((dx1Row (X r) (DY r) (DH r) G3 d : ℝ) : EReal) := by
  have e := under3_real h1 hh h3
  have e' := spread1_real h1
  generalize k0_pay10 x1 dh g3 = u at e
  generalize k0_pay11 x1 = v at e'
  pointwise [k0_pay12]
  rw [hy, e, e', ← EReal.coe_mul, ← EReal.coe_add]; rfl

end Third

section Second

variable {mix : Vec Ideal S256x1024 .bf16} {M : Fin 256 → Fin 1024 → ℝ} (hm : ∀ r d, mix (ix2 r d) = ((M r d : ℝ) : EReal))
include hm

/-- The reciprocal root of a row of the second norm. -/
theorem root2_real (r : Fin 256) (z : Fin 1) : k0_pay14 mix (ix2 r z) = ((root (M r) : ℝ) : EReal) := by
  pointwise [k0_pay14, k0_pay13]
  simp only [hm, ← EReal.coe_mul, coe_sum, meanSq_coe, root_coe]

/-- Its row over the root. -/
theorem normed2_real (r : Fin 256) (d : Fin 1024) : k0_pay15 mix (ix2 r d) = ((M r d * root (M r) : ℝ) : EReal) := by
  have e := root2_real hm
  unfold k0_pay15
  generalize k0_pay14 mix = u at e
  pointwise [k0_pay13]
  rw [e, hm, ← EReal.coe_mul]

variable {dy u v : Vec Ideal S256x1024 .f32} {D : Fin 256 → Fin 1024 → ℝ} (hd : ∀ r d, k0_pay12 dy u v (ix2 r d) = ((D r d : ℝ) : EReal))
  {g2 : Vec Ideal S1x1024 .f32} {G2 : Fin 1024 → ℝ} (h2 : ∀ z d, g2 (ix2 z d) = ((G2 d : ℝ) : EReal))
include hd

/-- What a block adds to the gradient at the second norm's gain. -/
theorem gain2_real (s : Vec Ideal S1x1024 .f32) (z : Fin 1) (d : Fin 1024) :
    k0_pay16 dy u v mix s (ix2 z d) = s (ix2 z d) + ((∑ r, D r d * (M r d * root (M r)) : ℝ) : EReal) := by
  have e := normed2_real hm
  unfold k0_pay16
  generalize k0_pay15 mix = w at e
  generalize k0_pay12 dy u v = t at hd
  pointwise
  simp only [hd, e, ← EReal.coe_mul, coe_sum]

include h2 in
/-- The gradient before the second norm. -/
theorem dmix_real (r : Fin 256) (d : Fin 1024) :
    k0_pay17 dy u v mix g2 (ix2 r d) = ((normBack (M r) (fun d => D r d * G2 d) d : ℝ) : EReal) := by
  have e := normed2_real hm
  have e' := root2_real hm
  unfold k0_pay17
  generalize k0_pay15 mix = w at e
  generalize k0_pay14 mix = w' at e'
  generalize k0_pay12 dy u v = t at hd
  pointwise
  simp only [hd, e, e', h2, word_1024, ← EReal.coe_mul, coe_sum]
  rw [coe_div (by norm_num)]
  simp only [← EReal.coe_mul, ← EReal.coe_sub]; rfl

end Second

section Branches

/-- A block of rows through a matrix, against its columns. -/
theorem back_real {a : FVec Ideal S256x1024 .bf16} {w : Vec Ideal S1024x1024 .bf16} {A : Fin 256 → Fin 1024 → ℝ} {W : Fin 1024 → Fin 1024 → ℝ}
    (ha : ∀ r d, a (ix2 r d) = ((A r d : ℝ) : EReal)) (hw : ∀ k d, w (ix2 k d) = ((W k d : ℝ) : EReal)) (r : Fin 256) (k : Fin 1024) :
    k0_pay18 a w (ix2 r k) = ((∑ d, A r d * W k d : ℝ) : EReal) := by
  pointwise [k0_pay18]
  simp only [ha, hw, ← EReal.coe_mul, coe_sum]

/-- The gradient at the first branch. -/
theorem branchA_real {a : FVec Ideal S256x1024 .bf16} {w : Vec Ideal S1024x1024 .bf16} {A : Fin 256 → Fin 1024 → ℝ} {W : Fin 1024 → Fin 1024 → ℝ}
    (ha : ∀ r d, a (ix2 r d) = ((A r d : ℝ) : EReal)) (hw : ∀ k d, w (ix2 k d) = ((W k d : ℝ) : EReal)) (r : Fin 256) (k : Fin 1024) :
    k0_pay2 a w (ix2 r k) = ((∑ d, A r d * W k d : ℝ) : EReal) := by
  pointwise [k0_pay2]
  simp only [ha, hw, ← EReal.coe_mul, coe_sum]

/-- The gradient at the second branch. -/
theorem branchB_real {a : FVec Ideal S256x1024 .bf16} {w : Vec Ideal S1024x1024 .bf16} {A : Fin 256 → Fin 1024 → ℝ} {W : Fin 1024 → Fin 1024 → ℝ}
    (ha : ∀ r d, a (ix2 r d) = ((A r d : ℝ) : EReal)) (hw : ∀ k d, w (ix2 k d) = ((W k d : ℝ) : EReal)) (r : Fin 256) (k : Fin 1024) :
    k0_pay3 a w (ix2 r k) = ((∑ d, A r d * W k d : ℝ) : EReal) := by
  pointwise [k0_pay3]
  simp only [ha, hw, ← EReal.coe_mul, coe_sum]

variable {dm : FVec Ideal S256x1024 .bf16} {wo : Vec Ideal S1024x1024 .bf16} {S : Fin 256 → Fin 1024 → ℝ}
  (hs : ∀ r k, k0_pay18 dm wo (ix2 r k) = ((S r k : ℝ) : EReal)) (p : Vec Ideal S256x1024 .bf16) {b : Vec Ideal S256x1024 .bf16} {B : Fin 256 → Fin 1024 → ℝ}
  (hb : ∀ r k, b (ix2 r k) = ((B r k : ℝ) : EReal))

/-- The first gate's opening. -/
theorem gateA_real (r : Fin 256) (k : Fin 1024) : k0_pay19 p (ix2 r k) = ((gate (p (ix2 r k)) : ℝ) : EReal) := by
  pointwise [k0_pay19]
  exact gate_coe _

/-- The second's. -/
theorem gateB_real (r : Fin 256) (k : Fin 1024) : k0_pay20 p (ix2 r k) = ((gate (p (ix2 r k)) : ℝ) : EReal) := by
  pointwise [k0_pay20]
  exact gate_coe _

include hs in
/-- The gradient at the first projection. -/
theorem dpa_real (r : Fin 256) (k : Fin 1024) : k0_pay21 dm wo p (ix2 r k) = ((S r k * gate (p (ix2 r k)) : ℝ) : EReal) := by
  have e := gateA_real p r k
  unfold k0_pay21
  generalize k0_pay18 dm wo = u at hs
  generalize k0_pay19 p = v at e
  pointwise
  rw [hs, e, ← EReal.coe_mul]

include hs in
/-- The gradient at the second. -/
theorem dpb_real (r : Fin 256) (k : Fin 1024) : k0_pay22 dm wo p (ix2 r k) = ((S r k * gate (p (ix2 r k)) : ℝ) : EReal) := by
  have e := gateB_real p r k
  unfold k0_pay22
  generalize k0_pay18 dm wo = u at hs
  generalize k0_pay20 p = v at e
  pointwise
  rw [hs, e, ← EReal.coe_mul]

include hs hb in
/-- The gradient at the first gate's argument. -/
theorem dgateA_real (z : Fin 1) (r : Fin 256) (k : Fin 1024) :
    k0_pay23 dm wo p b (ix3 z r k) = ((dGate (gate (p (ix2 r k))) (B r k) (S r k) : ℝ) : EReal) := by
  have e := gateA_real p r k
  unfold k0_pay23
  generalize k0_pay18 dm wo = u at hs
  generalize k0_pay19 p = v at e
  pointwise
  simp only [hs, e, hb, ← EReal.coe_one, ← EReal.coe_mul, ← EReal.coe_sub]; rfl

include hs hb in
/-- The gradient at the second gate's argument. -/
theorem dgateB_real (z : Fin 1) (r : Fin 256) (k : Fin 1024) :
    k0_pay1 (k0_pay24 dm wo p b) (ix3 z r k) = ((dGate (gate (p (ix2 r k))) (B r k) (S r k) : ℝ) : EReal) := by
  have e := gateB_real p r k
  unfold k0_pay1 k0_pay24
  generalize k0_pay18 dm wo = u at hs
  generalize k0_pay20 p = v at e
  pointwise
  simp only [hs, e, hb, ← EReal.coe_one, ← EReal.coe_mul, ← EReal.coe_sub]; rfl

end Branches

end Cert.Kernel5Ideal.Merge

end
-- ==== Proof.Merge.Stored.lean ====
module

public import proofs.«01_k».proof.Proof.Merge.Frame
public import Idealize.ShloMosaic.Lib.Pipeline.ValueKit
public import Idealize.ShloMosaic.Lib.Pipeline.ReadBack
public import Idealize.ShloMosaic.Lib.VecWindow

/-! # What one run of the gradient of the gated sum stores

The contents of the nine outputs after a run, written with the body's own values, at any element semantics. -/

/-! A run's stores cover its outputs, so each output holds exactly what was stored. -/

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- A load of a whole block is the block. -/
theorem whole {n k : ℕ} {e : EltTy} (v : Vec F { rank := 2, size := ![n, k] } e)
    (inb : ∀ b, (![0, 0] : Fin 2 → ℕ) b + (![n, k] : Fin 2 → ℕ) b ≤ (![n, k] : Fin 2 → ℕ) b) :
    View.ld v (Rect.unit (s := { rank := 2, size := ![n, k] }) ![0, 0] ![n, k] inb) = v :=
  View.ld_unit_lit _ _ fun b => match b with | ⟨0, _⟩ => rfl | ⟨1, _⟩ => rfl

/-- Two layers of a block, one after the other. -/
def layers (a b : Vec F S1x256x1024 .bf16) : Vec F S2x256x1024 .bf16 := fun y =>
  if (y 0).val = 0 then a (ix3 ⟨0, Nat.one_pos⟩ (y 1) (y 2)) else b (ix3 ⟨0, Nat.one_pos⟩ (y 1) (y 2))

/-- The first layer's piece. -/
theorem layer_first (a b : Vec F S1x256x1024 .bf16)
    (inb : ∀ d, (![0, 0, 0] : Fin 3 → ℕ) d + (![1, 256, 1024] : Fin 3 → ℕ) d ≤ S2x256x1024.size d) (y : S1x256x1024.Idx) :
    a y = layers a b ((Rect.unit (s := S2x256x1024) ![0, 0, 0] ![1, 256, 1024] inb).emb y) := by
  have e : ∀ d, (((Rect.unit (s := S2x256x1024) ![0, 0, 0] ![1, 256, 1024] inb).emb y) d).val = (![0, 0, 0] : Fin 3 → ℕ) d + (y d).val :=
    fun d => ValueKit.rect_emb_unit_val _ _ _ _ _
  have h0 : (y 0).val < 1 := (y 0).isLt
  have e0 := e 0
  have e1 := e 1
  have e2 := e 2
  simp only [Matrix.cons_val_zero, Matrix.cons_val_one, Matrix.cons_val] at e0 e1 e2
  refine Eq.trans ?_ (if_pos (by omega)).symm
  refine congrArg a (funext fun d => Fin.ext ?_)
  match d with
  | ⟨0, _⟩ => show (y 0).val = 0; omega
  | ⟨1, _⟩ => exact (e1.trans (Nat.zero_add _)).symm
  | ⟨2, _⟩ => exact (e2.trans (Nat.zero_add _)).symm

/-- The second layer's piece. -/
theorem layer_second (a b : Vec F S1x256x1024 .bf16)
    (inb : ∀ d, (![1, 0, 0] : Fin 3 → ℕ) d + (![1, 256, 1024] : Fin 3 → ℕ) d ≤ S2x256x1024.size d) (y : S1x256x1024.Idx) :
    b y = layers a b ((Rect.unit (s := S2x256x1024) ![1, 0, 0] ![1, 256, 1024] inb).emb y) := by
  have e : ∀ d, (((Rect.unit (s := S2x256x1024) ![1, 0, 0] ![1, 256, 1024] inb).emb y) d).val = (![1, 0, 0] : Fin 3 → ℕ) d + (y d).val :=
    fun d => ValueKit.rect_emb_unit_val _ _ _ _ _
  have h0 : (y 0).val < 1 := (y 0).isLt
  have e0 := e 0
  have e1 := e 1
  have e2 := e 2
  simp only [Matrix.cons_val_zero, Matrix.cons_val_one, Matrix.cons_val] at e0 e1 e2
  refine Eq.trans ?_ (if_neg (by omega)).symm
  refine congrArg b (funext fun d => Fin.ext ?_)
  match d with
  | ⟨0, _⟩ => show (y 0).val = 0; omega
  | ⟨1, _⟩ => exact (e1.trans (Nat.zero_add _)).symm
  | ⟨2, _⟩ => exact (e2.trans (Nat.zero_add _)).symm

/-- The gradient at the mixed branches, of a point's blocks. -/
def dmixOf (x0 x1 x2 : Vec F S256x1024 .f32) (x3 : Vec F S256x1024 .bf16) (x4 x5 : Vec F S1x1024 .f32) : FVec F S256x1024 .bf16 :=
  k0_pay17 x0 (k0_pay10 x2 x1 x4) (k0_pay11 x2) x3 x5

/-- What a run leaves, from what it stores of each output. -/
theorem spelled_eq {L13 : List (View.Piece (Elt F) S256x1024 .f32)} {L14 : List (View.Piece (Elt F) S256x1024 .bf16)} {L15 : List (View.Piece (Elt F) S256x1024 .bf16)} {L16 : List (View.Piece (Elt F) S256x1024 .bf16)} {L17 : List (View.Piece (Elt F) S256x1024 .bf16)} {L18 : List (View.Piece (Elt F) S256x1024 .bf16)} {L19 : List (View.Piece (Elt F) S2x256x1024 .bf16)} {L20 : List (View.Piece (Elt F) S1x1024 .f32)} {L21 : List (View.Piece (Elt F) S1x1024 .f32)} {O : Outs F}
    (h13 : View.canon L13 = O.dx1) (h14 : View.canon L14 = O.dmix) (h15 : View.canon L15 = O.dpa) (h16 : View.canon L16 = O.dpb) (h17 : View.canon L17 = O.dya) (h18 : View.canon L18 = O.dyb) (h19 : View.canon L19 = O.dgate) (h20 : View.canon L20 = O.dg3) (h21 : View.canon L21 = O.dg2) :
    spelled L13 L14 L15 L16 L17 L18 L19 L20 L21 = O := by
  cases O; dsimp only at *; subst h13 h14 h15 h16 h17 h18 h19 h20 h21; rfl

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S2x256x1024 .bf16) (harg20 : arg20.IsWhole) (arg21 : Memref sig .tc .vmem S1x1024 .f32) (harg21 : arg21.IsWhole) (arg22 : Memref sig .tc .vmem S1x1024 .f32) (harg22 : arg22.IsWhole)
    (x0 : Vec F S256x1024 .f32) (x1 : Vec F S256x1024 .f32) (x2 : Vec F S256x1024 .f32) (x3 : Vec F S256x1024 .bf16) (x4 : Vec F S1x1024 .f32) (x5 : Vec F S1x1024 .f32) (x6 : Vec F S1024x1024 .bf16) (x7 : Vec F S1024x1024 .bf16) (x8 : Vec F S1024x1024 .bf16) (x9 : Vec F S256x1024 .bf16) (x10 : Vec F S256x1024 .bf16) (x11 : Vec F S256x1024 .bf16) (x12 : Vec F S256x1024 .bf16) (x20 : Vec F S1x1024 .f32) (x21 : Vec F S1x1024 .f32)

/-- What a run stores, of its blocks and of what the two running sums held. -/
def stored : Outs F where
  dx1 := k0_pay12 x0 (k0_pay10 x2 x1 x4) (k0_pay11 x2)
  dmix := dmixOf x0 x1 x2 x3 x4 x5
  dpa := k0_pay21 (dmixOf x0 x1 x2 x3 x4 x5) x6 x11
  dpb := k0_pay22 (dmixOf x0 x1 x2 x3 x4 x5) x6 x12
  dya := k0_pay2 (k0_pay21 (dmixOf x0 x1 x2 x3 x4 x5) x6 x11) x7
  dyb := k0_pay3 (k0_pay22 (dmixOf x0 x1 x2 x3 x4 x5) x6 x12) x8
  dgate := layers (k0_pay23 (dmixOf x0 x1 x2 x3 x4 x5) x6 x11 x9) (k0_pay1 (k0_pay24 (dmixOf x0 x1 x2 x3 x4 x5) x6 x12 x10))
  dg3 := k0_pay9 x2 x1 x20
  dg2 := k0_pay16 x0 (k0_pay10 x2 x1 x4) (k0_pay11 x2) x3 x21

/-- What a run at the first point leaves: of the gates' gradient two pieces, of each other output one. -/
theorem leftFirst_eq (hc0 : cond0_0 i) : leftFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x20 x21 hc0 = (stored x0 x1 x2 x3 x4 x5 x6 x7 x8 x9 x10 x11 x12 k0_pay4 k0_pay5) := by
  unfold leftFirst
  refine spelled_eq ?_ ?_ ?_ ?_ ?_ ?_ ?_ ?_ ?_
  rotate_left 6
  · have hc := fun y => View.cover_of_tiledBy (s := S2x256x1024) (ranFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x20 x21).2.2.2.2.2.2.1 ![1, 256, 1024] (by sl_kernel_rfl) y
    refine funext fun y => (congrArg (fun L => View.canon L y) (List.append_nil _).symm).trans (View.canon_append_of_piecesOf (stored x0 x1 x2 x3 x4 x5 x6 x7 x8 x9 x10 x11 x12 k0_pay4 k0_pay5).dgate [] _ ?_ y (hc y))
    unfold ranFirst
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg21.read_unread, harg22.read_unread, whole]
    exact ⟨layer_second _ _ inb_S2x256x1024_S1x256x1024_1_0_0, layer_first _ _ inb_S2x256x1024_S1x256x1024_0_0_0, trivial⟩
  all_goals
    unfold ranFirst
    dsimp only
    rw [View.canon_cons_unit_lit _ _ _ (by decide)]
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg21.read_unread, harg22.read_unread, whole]
  all_goals first | rfl | (rw [View.readCov_full]; rfl)

/-- What a run at a later point leaves: of the gates' gradient two pieces, of each other output one. -/
theorem leftNext_eq (hc0 : ¬cond0_0 i) : leftNext (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x20 x21 hc0 = (stored x0 x1 x2 x3 x4 x5 x6 x7 x8 x9 x10 x11 x12 x20 x21) := by
  unfold leftNext
  refine spelled_eq ?_ ?_ ?_ ?_ ?_ ?_ ?_ ?_ ?_
  rotate_left 6
  · have hc := fun y => View.cover_of_tiledBy (s := S2x256x1024) (ranNext (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x20 x21).2.2.2.2.2.2.1 ![1, 256, 1024] (by sl_kernel_rfl) y
    refine funext fun y => (congrArg (fun L => View.canon L y) (List.append_nil _).symm).trans (View.canon_append_of_piecesOf (stored x0 x1 x2 x3 x4 x5 x6 x7 x8 x9 x10 x11 x12 x20 x21).dgate [] _ ?_ y (hc y))
    unfold ranNext
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg21.read_unread, harg22.read_unread, whole]
    exact ⟨layer_second _ _ inb_S2x256x1024_S1x256x1024_1_0_0, layer_first _ _ inb_S2x256x1024_S1x256x1024_0_0_0, trivial⟩
  all_goals
    unfold ranNext
    dsimp only
    rw [View.canon_cons_unit_lit _ _ _ (by decide)]
    sl_unfold_words
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg21.read_unread, harg22.read_unread, whole]
  all_goals rfl

end

end Cert.Kernel5Ideal.Merge

end
-- ==== Proof.Merge.Host.lean ====
/- The kernel's blocks at a grid point, from finite arguments, and the values computed from them. -/
module

public import proofs.«01_k».proof.Proof.Merge.Block
public import proofs.«01_k».proof.Proof.Merge.Stored
public import Idealize.ShloMosaic.Lib.Pipeline.Value

@[expose] public section

set_option maxRecDepth 16384

noncomputable section

namespace Cert.Kernel5Ideal.Merge

open Cert.Kernel5Ideal Cert.Kernel5Ideal.Gen Idealize.ShloMosaic Idealize.ShloMosaic.TcCoe
open Cert.Proof.Reals Cert.Proof.Merge

variable (m : (ℓ : Loc nD τ sig) → Buf (Elt Ideal) ℓ) (c : Dev nD)

/-- The arguments are these numbers. -/
structure Args (I : Inputs) : Prop where
  ya : ∀ n d, (m ((c : Thread nD τ).loc main_arg0) : Vec Ideal S2048x1024 .bf16) (ix2 n d) = ((I.ya n d : ℝ) : EReal)
  yb : ∀ n d, (m ((c : Thread nD τ).loc main_arg1) : Vec Ideal S2048x1024 .bf16) (ix2 n d) = ((I.yb n d : ℝ) : EReal)
  p : ∀ n d, (m ((c : Thread nD τ).loc main_arg2) : Vec Ideal S2048x7168 .bf16) (ix2 n d) = I.p n d
  x : ∀ n d, (m ((c : Thread nD τ).loc main_arg3) : Vec Ideal S2048x1024 .f32) (ix2 n d) = ((I.x n d : ℝ) : EReal)
  wc : ∀ n d, (m ((c : Thread nD τ).loc main_arg4) : Vec Ideal S1024x1024 .bf16) (ix2 n d) = ((I.wc n d : ℝ) : EReal)
  wl : ∀ n d, (m ((c : Thread nD τ).loc main_arg5) : Vec Ideal S1024x1024 .bf16) (ix2 n d) = ((I.wl n d : ℝ) : EReal)
  wo : ∀ n d, (m ((c : Thread nD τ).loc main_arg6) : Vec Ideal S1024x1024 .bf16) (ix2 n d) = ((I.wo n d : ℝ) : EReal)
  g2 : ∀ d, (m ((c : Thread nD τ).loc main_arg7) : Vec Ideal S1024 .f32) (ix1 d) = ((I.g2 d : ℝ) : EReal)
  g3 : ∀ d, (m ((c : Thread nD τ).loc main_arg8) : Vec Ideal S1024 .f32) (ix1 d) = ((I.g3 d : ℝ) : EReal)
  dy : ∀ n d, (m ((c : Thread nD τ).loc main_arg9) : Vec Ideal S2048x1024 .f32) (ix2 n d) = ((I.dy n d : ℝ) : EReal)
  dh : ∀ n d, (m ((c : Thread nD τ).loc main_arg10) : Vec Ideal S2048x1024 .f32) (ix2 n d) = ((I.dh n d : ℝ) : EReal)

/-- The rows of block `j`. -/
def row (j : Fin 8) (r : Fin 256) : Fin 2048 := ⟨256 * j.val + r.val, by omega⟩

/-- The product the host's lines write: a gated sum with a matrix. -/
def mixOf (SA PA SB PB : FVec Ideal S2048x1024 .f32) (W : FVec Ideal S1024x1024 .bf16) : FVec Ideal S2048x1024 .f32 :=
  Host.reduceAdd (mulf
      (broadcastInDim S2048x1024x1024 ![0, 1, 2] bcast_S2048x1024x1_S2048x1024x1024_0_1_2
        (broadcastInDim S2048x1024x1 ![0, 1] bcast_S2048x1024_S2048x1024x1_0_1 (addf (mulf SA PA) (mulf SB PB))))
      (broadcastInDim S2048x1024x1024 ![0, 1, 2] bcast_S1x1024x1024_S2048x1024x1024_0_1_2
        (broadcastInDim S1x1024x1024 ![1, 2] bcast_S1024x1024_S1x1024x1024_1_2 (extf .f32 W bitsLt_bf16_f32))))
    (constant S_ .f32 0x00000000#32) reducesTo_S2048x1024x1024_S2048x1024_d1 h_S_

/-- The norm of it, added to the residual. -/
def x1Of (M X : FVec Ideal S2048x1024 .f32) (G : FVec Ideal S1024 .f32) : FVec Ideal S2048x1024 .f32 :=
  addf X (mulf (mulf M (broadcastInDim S2048x1024 ![0, 1] bcast_S2048x1_S2048x1024_0_1
      (Host.rsqrt (addf
        (Host.divf (broadcastInDim S2048x1 ![0] bcast_S2048_S2048x1_0
            (Host.reduceAdd (mulf M M) (constant S_ .f32 0x00000000#32) reducesTo_S2048x1024_S2048_d1 h_S_))
          (broadcastInDim S2048x1 ![] bcast_S_S2048x1 (constant S_ .f32 0x44800000#32)))
        (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 G)))

theorem mixOf_eq : V m c main_v40 = mixOf (V m c main_v25) (V m c main_v11) (V m c main_v32) (V m c main_v17) (m ((c : Thread nD τ).loc main_arg6)) := by
  unfold V hostOps0 mixOf
  after_results_simp
  try rfl

theorem x1Of_eq : V m c main_v54 = x1Of (V m c main_v40) (m ((c : Thread nD τ).loc main_arg3)) (m ((c : Thread nD τ).loc main_arg7)) := by
  unfold V hostOps0 x1Of
  after_results_simp
  try rfl

section Inputs

variable {m c} {I : Inputs} (hA : Args m c I)
include hA

/-- The first projection, as the host computes it, … -/
theorem hostPa32 (n : Fin 2048) (d : Fin 1024) : (V m c main_v11 : Vec Ideal S2048x1024 .f32) (ix2 n d) = ((I.pa n d : ℝ) : EReal) := by
  have hya := hA.ya
  have hwc := hA.wc
  unfold V hostOps0
  after_results_simp
  generalize m ((c : Thread nD τ).loc main_arg0) = Aya at hya
  change Vec Ideal S2048x1024 .bf16 at Aya
  generalize m ((c : Thread nD τ).loc main_arg4) = Awc at hwc
  change Vec Ideal S1024x1024 .bf16 at Awc
  pointwise
  simp only [hya, hwc, ← EReal.coe_mul, coe_sum]; rfl

/-- … the second, … -/
theorem hostPb32 (n : Fin 2048) (d : Fin 1024) : (V m c main_v17 : Vec Ideal S2048x1024 .f32) (ix2 n d) = ((I.pb n d : ℝ) : EReal) := by
  have hyb := hA.yb
  have hwl := hA.wl
  unfold V hostOps0
  after_results_simp
  generalize m ((c : Thread nD τ).loc main_arg1) = Ayb at hyb
  change Vec Ideal S2048x1024 .bf16 at Ayb
  generalize m ((c : Thread nD τ).loc main_arg5) = Awl at hwl
  change Vec Ideal S1024x1024 .bf16 at Awl
  pointwise
  simp only [hyb, hwl, ← EReal.coe_mul, coe_sum]; rfl

/-- … and both as they are passed on. -/
theorem hostPa (n : Fin 2048) (d : Fin 1024) : (V m c main_v69 : Vec Ideal S2048x1024 .bf16) (ix2 n d) = ((I.pa n d : ℝ) : EReal) := by
  have hya := hA.ya
  have hwc := hA.wc
  unfold V hostOps0
  after_results_simp
  generalize m ((c : Thread nD τ).loc main_arg0) = Aya at hya
  change Vec Ideal S2048x1024 .bf16 at Aya
  generalize m ((c : Thread nD τ).loc main_arg4) = Awc at hwc
  change Vec Ideal S1024x1024 .bf16 at Awc
  pointwise
  simp only [hya, hwc, ← EReal.coe_mul, coe_sum]; rfl

/-- The second one. -/
theorem hostPb (n : Fin 2048) (d : Fin 1024) : (V m c main_v70 : Vec Ideal S2048x1024 .bf16) (ix2 n d) = ((I.pb n d : ℝ) : EReal) := by
  have hyb := hA.yb
  have hwl := hA.wl
  unfold V hostOps0
  after_results_simp
  generalize m ((c : Thread nD τ).loc main_arg1) = Ayb at hyb
  change Vec Ideal S2048x1024 .bf16 at Ayb
  generalize m ((c : Thread nD τ).loc main_arg5) = Awl at hwl
  change Vec Ideal S1024x1024 .bf16 at Awl
  pointwise
  simp only [hyb, hwl, ← EReal.coe_mul, coe_sum]; rfl

/-- The first gate's opening. -/
theorem hostSa (n : Fin 2048) (d : Fin 1024) : (V m c main_v25 : Vec Ideal S2048x1024 .f32) (ix2 n d) = ((I.sa n d : ℝ) : EReal) := by
  have hp := hA.p
  unfold V hostOps0
  after_results_simp
  generalize m ((c : Thread nD τ).loc main_arg2) = Ap at hp
  change Vec Ideal S2048x7168 .bf16 at Ap
  pointwise
  rw [hp]
  exact gate_coe _

/-- The second's. -/
theorem hostSb (n : Fin 2048) (d : Fin 1024) : (V m c main_v32 : Vec Ideal S2048x1024 .f32) (ix2 n d) = ((I.sb n d : ℝ) : EReal) := by
  have hp := hA.p
  unfold V hostOps0
  after_results_simp
  generalize m ((c : Thread nD τ).loc main_arg2) = Ap at hp
  change Vec Ideal S2048x7168 .bf16 at Ap
  pointwise
  rw [hp]
  exact gate_coe _

/-- The third norm's gain. -/
theorem hostG3 (z : Fin 1) (d : Fin 1024) : (V m c main_v71 : Vec Ideal S1x1024 .f32) (ix2 z d) = ((I.g3 d : ℝ) : EReal) := by
  have hg3 := hA.g3
  unfold V hostOps0
  after_results_simp
  generalize m ((c : Thread nD τ).loc main_arg8) = Ag3 at hg3
  change Vec Ideal S1024 .f32 at Ag3
  pointwise
  exact hg3 d

/-- The second's. -/
theorem hostG2 (z : Fin 1) (d : Fin 1024) : (V m c main_v72 : Vec Ideal S1x1024 .f32) (ix2 z d) = ((I.g2 d : ℝ) : EReal) := by
  have hg2 := hA.g2
  unfold V hostOps0
  after_results_simp
  generalize m ((c : Thread nD τ).loc main_arg7) = Ag2 at hg2
  change Vec Ideal S1024 .f32 at Ag2
  pointwise
  exact hg2 d

/-- The product of the gated sum. -/
theorem hostMix32 (n : Fin 2048) (d : Fin 1024) : (V m c main_v40 : Vec Ideal S2048x1024 .f32) (ix2 n d) = ((I.mix n d : ℝ) : EReal) := by
  have e1 := hostSa hA
  have e2 := hostPa32 hA
  have e3 := hostSb hA
  have e4 := hostPb32 hA
  have e5 := hA.wo
  rw [mixOf_eq m c]
  generalize V m c main_v25 = u1 at e1 ⊢
  change Vec Ideal S2048x1024 .f32 at u1
  generalize V m c main_v11 = u2 at e2 ⊢
  change Vec Ideal S2048x1024 .f32 at u2
  generalize V m c main_v32 = u3 at e3 ⊢
  change Vec Ideal S2048x1024 .f32 at u3
  generalize V m c main_v17 = u4 at e4 ⊢
  change Vec Ideal S2048x1024 .f32 at u4
  generalize m ((c : Thread nD τ).loc main_arg6) = u5 at e5 ⊢
  change Vec Ideal S1024x1024 .bf16 at u5
  pointwise [mixOf]
  simp only [e1, e2, e3, e4, e5, ← EReal.coe_mul, ← EReal.coe_add, coe_sum]
  rfl

/-- It, as it is passed on. -/
theorem hostMix (n : Fin 2048) (d : Fin 1024) : (V m c main_v68 : Vec Ideal S2048x1024 .bf16) (ix2 n d) = ((I.mix n d : ℝ) : EReal) := by
  have e : V m c main_v68 = truncf (F := Ideal) .bf16 (V m c main_v40) bitsLt_bf16_f32 := by
    unfold V hostOps0
    after_results_simp
    try rfl
  have e1 := hostMix32 hA
  rw [e]
  generalize V m c main_v40 = u1 at e1 ⊢
  change Vec Ideal S2048x1024 .f32 at u1
  pointwise
  exact e1 n d

/-- The rows before the third norm. -/
theorem hostX1 (n : Fin 2048) (d : Fin 1024) : (V m c main_v54 : Vec Ideal S2048x1024 .f32) (ix2 n d) = ((I.x1 n d : ℝ) : EReal) := by
  have e1 := hostMix32 hA
  have e2 := hA.x
  have e3 := hA.g2
  rw [x1Of_eq m c]
  generalize V m c main_v40 = u1 at e1 ⊢
  change Vec Ideal S2048x1024 .f32 at u1
  generalize m ((c : Thread nD τ).loc main_arg3) = u2 at e2 ⊢
  change Vec Ideal S2048x1024 .f32 at u2
  generalize m ((c : Thread nD τ).loc main_arg7) = u3 at e3 ⊢
  change Vec Ideal S1024 .f32 at u3
  pointwise [x1Of]
  simp only [e1, e2, e3, ← EReal.coe_mul, coe_sum, meanSq_coe]
  rw [root_coe (I.mix n)]
  simp only [← EReal.coe_mul, ← EReal.coe_add]
  rfl

end Inputs

end Cert.Kernel5Ideal.Merge

end
-- ==== Proof.Merge.Points.lean ====
/- The kernel's blocks at a grid point, from finite arguments, and what a point stores. -/
module

public import proofs.«01_k».proof.Proof.Merge.Host

@[expose] public section

set_option maxRecDepth 16384

noncomputable section

namespace Cert.Kernel5Ideal.Merge

open Cert.Kernel5Ideal Cert.Kernel5Ideal.Gen Idealize.ShloMosaic Idealize.ShloMosaic.TcCoe Idealize.SL.Sem
open Cert.Proof.Reals Cert.Proof.Merge

variable {m : (ℓ : Loc nD τ sig) → Buf (Elt Ideal) ℓ} {c : Dev nD} {I : Inputs} (hA : Args m c I)

/-- Which block of each array a grid point reads … -/
theorem idx_rows : ∀ t : Fin cfg0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = 0 ∧ win0_8.index t 1 = 0 ∧ win0_9.index t 0 = t.val ∧ win0_9.index t 1 = 0 ∧ win0_10.index t 0 = t.val ∧ win0_10.index t 1 = 0 ∧ win0_11.index t 0 = t.val ∧ win0_11.index t 1 = 5 ∧ win0_12.index t 0 = t.val ∧ win0_12.index t 1 = 6 :=
  (by decide +kernel : ∀ t : Fin grid0.N, _)

/-- … and writes. -/
theorem idx_results : ∀ t : Fin cfg0.N, win0_13.index t 0 = t.val ∧ win0_13.index t 1 = 0 ∧ win0_14.index t 0 = t.val ∧ win0_14.index t 1 = 0 ∧ win0_15.index t 0 = t.val ∧ win0_15.index t 1 = 0 ∧ win0_16.index t 0 = t.val ∧ win0_16.index t 1 = 0 ∧ win0_17.index t 0 = t.val ∧ win0_17.index t 1 = 0 ∧ win0_18.index t 0 = t.val ∧ win0_18.index t 1 = 0 ∧ win0_19.index t 0 = 0 ∧ win0_19.index t 1 = t.val ∧ win0_19.index t 2 = 0 ∧ win0_20.index t 0 = 0 ∧ win0_20.index t 1 = 0 ∧ win0_21.index t 0 = 0 ∧ win0_21.index t 1 = 0 :=
  (by decide +kernel : ∀ t : Fin grid0.N, _)

section Blocks

include hA

theorem block0 (t : Fin cfg0.N) (r : Fin 256) (d : Fin 1024) : (iblk m c 0 t : Vec Ideal S256x1024 .f32) (ix2 r d) = ((I.dy (row t r) d : ℝ) : EReal) := by
  obtain ⟨h, z, -⟩ := idx_rows t
  rw [← hA.dy, ← V_main_arg9 m c]
  blk_simp [iblk, h, z]
  blk_ext
  all_goals (simp only [h, z, row]; omega)

theorem block1 (t : Fin cfg0.N) (r : Fin 256) (d : Fin 1024) : (iblk m c 1 t : Vec Ideal S256x1024 .f32) (ix2 r d) = ((I.dh (row t r) d : ℝ) : EReal) := by
  obtain ⟨-, -, h, z, -⟩ := idx_rows t
  rw [← hA.dh, ← V_main_arg10 m c]
  blk_simp [iblk, h, z]
  blk_ext
  all_goals (simp only [h, z, row]; omega)

theorem block2 (t : Fin cfg0.N) (r : Fin 256) (d : Fin 1024) : (iblk m c 2 t : Vec Ideal S256x1024 .f32) (ix2 r d) = ((I.x1 (row t r) d : ℝ) : EReal) := by
  obtain ⟨-, -, -, -, h, z, -⟩ := idx_rows t
  rw [← hostX1 hA]
  blk_simp [iblk, h, z]
  blk_ext
  all_goals (simp only [h, z, row]; omega)

theorem block3 (t : Fin cfg0.N) (r : Fin 256) (d : Fin 1024) : (iblk m c 3 t : Vec Ideal S256x1024 .bf16) (ix2 r d) = ((I.mix (row t r) d : ℝ) : EReal) := by
  obtain ⟨-, -, -, -, -, -, h, z, -⟩ := idx_rows t
  rw [← hostMix hA]
  blk_simp [iblk, h, z]
  blk_ext
  all_goals (simp only [h, z, row]; omega)

theorem block4 (t : Fin cfg0.N) (z : Fin 1) (d : Fin 1024) : (iblk m c 4 t : Vec Ideal S1x1024 .f32) (ix2 z d) = ((I.g3 d : ℝ) : EReal) := by
  obtain ⟨-, -, -, -, -, -, -, -, h, e, -⟩ := idx_rows t
  rw [← hostG3 hA z]
  blk_simp [iblk, h, e]
  blk_ext
  all_goals (simp only [h, e, row]; omega)

theorem block5 (t : Fin cfg0.N) (z : Fin 1) (d : Fin 1024) : (iblk m c 5 t : Vec Ideal S1x1024 .f32) (ix2 z d) = ((I.g2 d : ℝ) : EReal) := by
  obtain ⟨-, -, -, -, -, -, -, -, -, -, h, e, -⟩ := idx_rows t
  rw [← hostG2 hA z]
  blk_simp [iblk, h, e]
  blk_ext
  all_goals (simp only [h, e, row]; omega)

theorem block6 (t : Fin cfg0.N) (k d : Fin 1024) : (iblk m c 6 t : Vec Ideal S1024x1024 .bf16) (ix2 k d) = ((I.wo k d : ℝ) : EReal) := by
  obtain ⟨-, -, -, -, -, -, -, -, -, -, -, -, h, z, -⟩ := idx_rows t
  rw [← hA.wo, ← V_main_arg6 m c]
  blk_simp [iblk, h, z]
  blk_ext
  all_goals (simp only [h, z, row]; omega)

theorem block7 (t : Fin cfg0.N) (k d : Fin 1024) : (iblk m c 7 t : Vec Ideal S1024x1024 .bf16) (ix2 k d) = ((I.wc k d : ℝ) : EReal) := by
  obtain ⟨-, -, -, -, -, -, -, -, -, -, -, -, -, -, h, z, -⟩ := idx_rows t
  rw [← hA.wc, ← V_main_arg4 m c]
  blk_simp [iblk, h, z]
  blk_ext
  all_goals (simp only [h, z, row]; omega)

theorem block8 (t : Fin cfg0.N) (k d : Fin 1024) : (iblk m c 8 t : Vec Ideal S1024x1024 .bf16) (ix2 k d) = ((I.wl k d : ℝ) : EReal) := by
  obtain ⟨-, -, -, -, -, -, -, -, -, -, -, -, -, -, -, -, h, z, -⟩ := idx_rows t
  rw [← hA.wl, ← V_main_arg5 m c]
  blk_simp [iblk, h, z]
  blk_ext
  all_goals (simp only [h, z, row]; omega)

theorem block9 (t : Fin cfg0.N) (r : Fin 256) (d : Fin 1024) : (iblk m c 9 t : Vec Ideal S256x1024 .bf16) (ix2 r d) = ((I.pa (row t r) d : ℝ) : EReal) := by
  obtain ⟨-, -, -, -, -, -, -, -, -, -, -, -, -, -, -, -, -, -, h, z, -⟩ := idx_rows t
  rw [← hostPa hA]
  blk_simp [iblk, h, z]
  blk_ext
  all_goals (simp only [h, z, row]; omega)

theorem block10 (t : Fin cfg0.N) (r : Fin 256) (d : Fin 1024) : (iblk m c 10 t : Vec Ideal S256x1024 .bf16) (ix2 r d) = ((I.pb (row t r) d : ℝ) : EReal) := by
  obtain ⟨-, -, -, -, -, -, -, -, -, -, -, -, -, -, -, -, -, -, -, -, h, z, -⟩ := idx_rows t
  rw [← hostPb hA]
  blk_simp [iblk, h, z]
  blk_ext
  all_goals (simp only [h, z, row]; omega)

theorem block11 (t : Fin cfg0.N) (r : Fin 256) (d : Fin 1024) : (iblk m c 11 t : Vec Ideal S256x1024 .bf16) (ix2 r d) = I.p (row t r) ⟨5120 + d.val, by omega⟩ := by
  obtain ⟨-, -, -, -, -, -, -, -, -, -, -, -, -, -, -, -, -, -, -, -, -, -, h, z, -⟩ := idx_rows t
  rw [← hA.p, ← V_main_arg2 m c]
  blk_simp [iblk, h, z]
  blk_ext
  all_goals (simp only [h, z, row]; omega)

theorem block12 (t : Fin cfg0.N) (r : Fin 256) (d : Fin 1024) : (iblk m c 12 t : Vec Ideal S256x1024 .bf16) (ix2 r d) = I.p (row t r) ⟨6144 + d.val, by omega⟩ := by
  obtain ⟨-, -, -, -, -, -, -, -, -, -, -, -, -, -, -, -, -, -, -, -, -, -, -, -, h, z⟩ := idx_rows t
  rw [← hA.p, ← V_main_arg2 m c]
  blk_simp [iblk, h, z]
  blk_ext
  all_goals (simp only [h, z, row]; omega)

end Blocks

/-- What the outputs hold after the first point … -/
theorem at_first (t : Fin cfg0.N) (h0 : t.val % 8 = 0) : outsAt m c t.val t.isLt = stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (k0_pay4 (F := Ideal)) (k0_pay5 (F := Ideal)) :=
  (outsAt_first m c t h0 (k0_pay4 (F := Ideal)) (k0_pay5 (F := Ideal))).trans (leftFirst_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (k0_pay4 (F := Ideal)) (k0_pay5 (F := Ideal)) ((hcond0_0 t).mpr h0))

/-- … and after a later one. -/
theorem at_next (t : Fin cfg0.N) (h0 : ¬t.val % 8 = 0) : outsAt m c t.val t.isLt = stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (outsAt m c (t.val - 1) (Nat.lt_of_le_of_lt (Nat.sub_le _ _) t.isLt)).dg3 (outsAt m c (t.val - 1) (Nat.lt_of_le_of_lt (Nat.sub_le _ _) t.isLt)).dg2 :=
  (outsAt_next m c t h0).trans (leftNext_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ (fun h => h0 ((hcond0_0 t).mp h)))

/-- At every point: the same of what the two running sums held. -/
theorem at_any (t : Fin cfg0.N) : ∃ s3 s2, outsAt m c t.val t.isLt = stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) s3 s2 := by
  by_cases h0 : t.val % 8 = 0
  · exact ⟨_, _, at_first t h0⟩
  · exact ⟨_, _, at_next t h0⟩

section Values

include hA

/-- The gradient before the third norm, of a point's blocks, … -/
theorem dx1_at (t : Fin cfg0.N) (r : Fin 256) (d : Fin 1024) :
    k0_pay12 (iblk m c 0 t) (k0_pay10 (iblk m c 2 t) (iblk m c 1 t) (iblk m c 4 t)) (k0_pay11 (iblk m c 2 t)) (ix2 r d) = ((I.dx1 (row t r) d : ℝ) : EReal) :=
  dx1_real (X := fun r => I.x1 (row t r)) (DH := fun r => I.dh (row t r)) (DY := fun r => I.dy (row t r)) (G3 := I.g3)
    (block2 hA t) (block1 hA t) (block0 hA t) (block4 hA t) r d

/-- … before the second, … -/
theorem dmix_at (t : Fin cfg0.N) (r : Fin 256) (d : Fin 1024) :
    dmixOf (iblk m c 0 t) (iblk m c 1 t) (iblk m c 2 t) (iblk m c 3 t) (iblk m c 4 t) (iblk m c 5 t) (ix2 r d) = ((I.dmix (row t r) d : ℝ) : EReal) :=
  dmix_real (M := fun r => I.mix (row t r)) (D := fun r => I.dx1 (row t r)) (G2 := I.g2) (block3 hA t) (dx1_at hA t) (block5 hA t) r d

/-- … and at the gated sum. -/
theorem dsum_at (t : Fin cfg0.N) (r : Fin 256) (k : Fin 1024) :
    k0_pay18 (dmixOf (iblk m c 0 t) (iblk m c 1 t) (iblk m c 2 t) (iblk m c 3 t) (iblk m c 4 t) (iblk m c 5 t)) (iblk m c 6 t) (ix2 r k) = ((I.dsum (row t r) k : ℝ) : EReal) :=
  back_real (A := fun r => I.dmix (row t r)) (W := I.wo) (dmix_at hA t) (block6 hA t) r k

theorem out_dx1 (t : Fin cfg0.N) (r : Fin 256) (d : Fin 1024) : (outsAt m c t.val t.isLt).dx1 (ix2 r d) = ((I.dx1 (row t r) d : ℝ) : EReal) := by
  obtain ⟨s3, s2, e⟩ := at_any (m := m) (c := c) t
  rw [e]
  exact dx1_at hA t r d

theorem out_dmix (t : Fin cfg0.N) (r : Fin 256) (d : Fin 1024) : (outsAt m c t.val t.isLt).dmix (ix2 r d) = ((I.dmix (row t r) d : ℝ) : EReal) := by
  obtain ⟨s3, s2, e⟩ := at_any (m := m) (c := c) t
  rw [e]
  exact dmix_at hA t r d

/-- The gradient at the first projection. -/
theorem dpa_at (t : Fin cfg0.N) (r : Fin 256) (k : Fin 1024) :
    k0_pay21 (dmixOf (iblk m c 0 t) (iblk m c 1 t) (iblk m c 2 t) (iblk m c 3 t) (iblk m c 4 t) (iblk m c 5 t)) (iblk m c 6 t) (iblk m c 11 t) (ix2 r k)
      = ((I.dpa (row t r) k : ℝ) : EReal) := by
  refine (dpa_real (S := fun r => I.dsum (row t r)) (dsum_at hA t) (iblk m c 11 t) r k).trans ?_
  rw [block11 hA t]; rfl

theorem out_dpa (t : Fin cfg0.N) (r : Fin 256) (d : Fin 1024) : (outsAt m c t.val t.isLt).dpa (ix2 r d) = ((I.dpa (row t r) d : ℝ) : EReal) := by
  obtain ⟨s3, s2, e⟩ := at_any (m := m) (c := c) t
  rw [e]
  exact dpa_at hA t r d

theorem out_dya (t : Fin cfg0.N) (r : Fin 256) (d : Fin 1024) : (outsAt m c t.val t.isLt).dya (ix2 r d) = ((I.dya (row t r) d : ℝ) : EReal) := by
  obtain ⟨s3, s2, e⟩ := at_any (m := m) (c := c) t
  rw [e]
  exact branchA_real (A := fun r => I.dpa (row t r)) (W := I.wc) (dpa_at hA t) (block7 hA t) r d

/-- The gradient at the second projection. -/
theorem dpb_at (t : Fin cfg0.N) (r : Fin 256) (k : Fin 1024) :
    k0_pay22 (dmixOf (iblk m c 0 t) (iblk m c 1 t) (iblk m c 2 t) (iblk m c 3 t) (iblk m c 4 t) (iblk m c 5 t)) (iblk m c 6 t) (iblk m c 12 t) (ix2 r k)
      = ((I.dpb (row t r) k : ℝ) : EReal) := by
  refine (dpb_real (S := fun r => I.dsum (row t r)) (dsum_at hA t) (iblk m c 12 t) r k).trans ?_
  rw [block12 hA t]; rfl

theorem out_dpb (t : Fin cfg0.N) (r : Fin 256) (d : Fin 1024) : (outsAt m c t.val t.isLt).dpb (ix2 r d) = ((I.dpb (row t r) d : ℝ) : EReal) := by
  obtain ⟨s3, s2, e⟩ := at_any (m := m) (c := c) t
  rw [e]
  exact dpb_at hA t r d

theorem out_dyb (t : Fin cfg0.N) (r : Fin 256) (d : Fin 1024) : (outsAt m c t.val t.isLt).dyb (ix2 r d) = ((I.dyb (row t r) d : ℝ) : EReal) := by
  obtain ⟨s3, s2, e⟩ := at_any (m := m) (c := c) t
  rw [e]
  exact branchB_real (A := fun r => I.dpb (row t r)) (W := I.wl) (dpb_at hA t) (block8 hA t) r d

theorem out_dgate (t : Fin cfg0.N) (i : Fin 2) (r : Fin 256) (d : Fin 1024) : (outsAt m c t.val t.isLt).dgate (ix3 i r d) = ((I.dgate i (row t r) d : ℝ) : EReal) := by
  obtain ⟨s3, s2, e⟩ := at_any (m := m) (c := c) t
  rw [e]
  have ea := dgateA_real (S := fun r => I.dsum (row t r)) (B := fun r => I.pa (row t r)) (dsum_at hA t) (iblk m c 11 t) (block9 hA t) ⟨0, Nat.one_pos⟩ r d
  have eb := dgateB_real (S := fun r => I.dsum (row t r)) (B := fun r => I.pb (row t r)) (dsum_at hA t) (iblk m c 12 t) (block10 hA t) ⟨0, Nat.one_pos⟩ r d
  rw [block11 hA t] at ea
  rw [block12 hA t] at eb
  by_cases h : i.val = 0
  · refine ((if_pos h).trans ea).trans (congrArg Real.toEReal ?_)
    exact (if_pos h).symm
  · refine ((if_neg h).trans eb).trans (congrArg Real.toEReal ?_)
    exact (if_neg h).symm

omit hA in
/-- The running sums start at zero. -/
theorem zeros3 (z : Fin 1) (d : Fin 1024) : (k0_pay4 (F := Ideal)) (ix2 z d) = 0 := by
  pointwise [k0_pay4]

omit hA in
/-- Both of them. -/
theorem zeros2 (z : Fin 1) (d : Fin 1024) : (k0_pay5 (F := Ideal)) (ix2 z d) = 0 := by
  pointwise [k0_pay5]

/-- The first point stores its block's part of the gradient at the third norm's gain … -/
theorem gain3_first (t : Fin cfg0.N) (h0 : t.val % 8 = 0) (z : Fin 1) (d : Fin 1024) :
    (outsAt m c t.val t.isLt).dg3 (ix2 z d) = ((∑ r, I.dh (row t r) d * (I.x1 (row t r) d * root (I.x1 (row t r))) : ℝ) : EReal) := by
  rw [at_first t h0]
  refine (gain3_real (X := fun r => I.x1 (row t r)) (DH := fun r => I.dh (row t r)) (block2 hA t) (block1 hA t) _ z d).trans ?_
  rw [zeros3, zero_add]

/-- … and a later one adds its own. -/
theorem gain3_later (t : Fin cfg0.N) (h0 : ¬t.val % 8 = 0) (z : Fin 1) (d : Fin 1024) :
    (outsAt m c t.val t.isLt).dg3 (ix2 z d) = (outsAt m c (t.val - 1) (Nat.lt_of_le_of_lt (Nat.sub_le _ _) t.isLt)).dg3 (ix2 z d)
      + ((∑ r, I.dh (row t r) d * (I.x1 (row t r) d * root (I.x1 (row t r))) : ℝ) : EReal) := by
  rw [at_next t h0]
  exact gain3_real (X := fun r => I.x1 (row t r)) (DH := fun r => I.dh (row t r)) (block2 hA t) (block1 hA t) _ z d

/-- The first point stores its block's part of the gradient at the second norm's gain … -/
theorem gain2_first (t : Fin cfg0.N) (h0 : t.val % 8 = 0) (z : Fin 1) (d : Fin 1024) :
    (outsAt m c t.val t.isLt).dg2 (ix2 z d) = ((∑ r, I.dx1 (row t r) d * (I.mix (row t r) d * root (I.mix (row t r))) : ℝ) : EReal) := by
  rw [at_first t h0]
  refine (gain2_real (M := fun r => I.mix (row t r)) (D := fun r => I.dx1 (row t r)) (block3 hA t) (dx1_at hA t) _ z d).trans ?_
  rw [zeros2, zero_add]

/-- … and a later one adds its own. -/
theorem gain2_later (t : Fin cfg0.N) (h0 : ¬t.val % 8 = 0) (z : Fin 1) (d : Fin 1024) :
    (outsAt m c t.val t.isLt).dg2 (ix2 z d) = (outsAt m c (t.val - 1) (Nat.lt_of_le_of_lt (Nat.sub_le _ _) t.isLt)).dg2 (ix2 z d)
      + ((∑ r, I.dx1 (row t r) d * (I.mix (row t r) d * root (I.mix (row t r))) : ℝ) : EReal) := by
  rw [at_next t h0]
  exact gain2_real (M := fun r => I.mix (row t r)) (D := fun r => I.dx1 (row t r)) (block3 hA t) (dx1_at hA t) _ z d

end Values

end Cert.Kernel5Ideal.Merge

end
-- ==== Proof.Merge.Arrays.lean ====
/- The kernel's nine result arrays after the run, from finite arguments: the closed forms. -/
module

public import proofs.«01_k».proof.Proof.Merge.Points

@[expose] public section

set_option maxRecDepth 16384

noncomputable section

namespace Cert.Kernel5Ideal.Merge

open Cert.Kernel5Ideal Cert.Kernel5Ideal.Gen Idealize.ShloMosaic Idealize.ShloMosaic.TcCoe Idealize.SL.Sem
open Cert.Proof.Reals Cert.Proof.Merge

variable {m : (ℓ : Loc nD τ sig) → Buf (Elt Ideal) ℓ} {c : Dev nD} {I : Inputs} (hA : Args m c I)

/-- A function's sum over the rows of block `j`. -/
def partSum (f : Fin 2048 → ℝ) (j : ℕ) : ℝ := if h : j < 8 then ∑ r, f (row ⟨j, h⟩ r) else 0

/-- All blocks' sums make the sum over the rows. -/
theorem partSum_all (f : Fin 2048 → ℝ) : ∑ j ∈ Finset.range 8, partSum f j = ∑ n, f n := by
  have e := Fin.sum_univ_univ_mul_add 8 256 fun l => if h : l < 2048 then f ⟨l, h⟩ else 0
  rw [Finset.sum_range]
  refine Eq.trans (Finset.sum_congr rfl fun j _ => (dif_pos j.isLt).trans (Finset.sum_congr rfl fun r _ => ?_)) (e.trans (Finset.sum_congr rfl fun l _ => dif_pos l.isLt))
  rw [dif_pos (show j.val * 256 + r.val < 2048 by omega)]
  exact congrArg f (Fin.ext (by simp only [row]; omega))

/-- A row's parts of the gradients at the two gains. -/
def term3 (I : Inputs) (d : Fin 1024) (n : Fin 2048) : ℝ := I.dh n d * (I.x1 n d * root (I.x1 n))
def term2 (I : Inputs) (d : Fin 1024) (n : Fin 2048) : ℝ := I.dx1 n d * (I.mix n d * root (I.mix n))

include hA

/-- After point `n` the two running sums hold the sums over the blocks so far. -/
theorem sums_at (n : ℕ) : ∀ hn : n < cfg0.N,
    (∀ z d, (outsAt m c n hn).dg3 (ix2 z d) = ((∑ j ∈ Finset.range (n + 1), partSum (term3 I d) j : ℝ) : EReal))
    ∧ (∀ z d, (outsAt m c n hn).dg2 (ix2 z d) = ((∑ j ∈ Finset.range (n + 1), partSum (term2 I d) j : ℝ) : EReal)) := by
  induction n with
  | zero =>
    intro hn
    have e := gain3_first hA ⟨0, hn⟩ (Nat.zero_mod 8)
    have e' := gain2_first hA ⟨0, hn⟩ (Nat.zero_mod 8)
    refine ⟨fun z d => (e z d).trans ?_, fun i l => (e' i l).trans ?_⟩
    · rw [Finset.sum_range_one, partSum, dif_pos (show _ < 8 from hn)]; rfl
    · rw [Finset.sum_range_one, partSum, dif_pos (show _ < 8 from hn)]; rfl
  | succ n ih =>
    intro hn
    have h0 : ¬(⟨n + 1, hn⟩ : Fin cfg0.N).val % 8 = 0 := by
      have : n + 1 < 8 := hn
      dsimp only; omega
    obtain ⟨i1, i2⟩ := ih (Nat.lt_of_succ_lt hn)
    have e := gain3_later hA ⟨n + 1, hn⟩ h0
    have e' := gain2_later hA ⟨n + 1, hn⟩ h0
    refine ⟨fun z d => (e z d).trans ?_, fun i l => (e' i l).trans ?_⟩
    · refine (congrArg (· + _) (i1 z d)).trans ?_
      rw [← EReal.coe_add, Finset.sum_range_succ _ (n + 1), partSum, dif_pos (show _ < 8 from hn)]; rfl
    · refine (congrArg (· + _) (i2 i l)).trans ?_
      rw [← EReal.coe_add, Finset.sum_range_succ _ (n + 1), partSum, dif_pos (show _ < 8 from hn)]; rfl

/-- The array of `dx1`. -/
theorem dx1_array : (dats m 0 c).arrAt 13 cfg0.N = (fun y : S2048x1024.Idx => ((I.dx1 (y 0) (y 1) : ℝ) : EReal) : Vec Ideal S2048x1024 .f32) := by
  refine (dats m 0 c).arrAt_eq_of_covers 13 _ (by decide +kernel) fun t hf y => ?_
  obtain ⟨h13, z13, h14, z14, h15, z15, h16, z16, h17, z17, h18, z18, h19, z19, q19, h20, z20, h21, z21⟩ := idx_results t
  blk_simp
  rw [after13]
  idx_vars y
  refine (out_dx1 hA t y0 y1).trans (congrArg Real.toEReal (congrArg₂ I.dx1 (Fin.ext ?_) (Fin.ext ?_)))
  all_goals (blk_simp [h13, z13, row]; try first | omega | (dsimp only; omega))

/-- The array of `dmix`. -/
theorem dmix_array : (dats m 0 c).arrAt 14 cfg0.N = (fun y : S2048x1024.Idx => ((I.dmix (y 0) (y 1) : ℝ) : EReal) : Vec Ideal S2048x1024 .bf16) := by
  refine (dats m 0 c).arrAt_eq_of_covers 14 _ (by decide +kernel) fun t hf y => ?_
  obtain ⟨h13, z13, h14, z14, h15, z15, h16, z16, h17, z17, h18, z18, h19, z19, q19, h20, z20, h21, z21⟩ := idx_results t
  blk_simp
  rw [after14]
  idx_vars y
  refine (out_dmix hA t y0 y1).trans (congrArg Real.toEReal (congrArg₂ I.dmix (Fin.ext ?_) (Fin.ext ?_)))
  all_goals (blk_simp [h14, z14, row]; try first | omega | (dsimp only; omega))

/-- The array of `dpa`. -/
theorem dpa_array : (dats m 0 c).arrAt 15 cfg0.N = (fun y : S2048x1024.Idx => ((I.dpa (y 0) (y 1) : ℝ) : EReal) : Vec Ideal S2048x1024 .bf16) := by
  refine (dats m 0 c).arrAt_eq_of_covers 15 _ (by decide +kernel) fun t hf y => ?_
  obtain ⟨h13, z13, h14, z14, h15, z15, h16, z16, h17, z17, h18, z18, h19, z19, q19, h20, z20, h21, z21⟩ := idx_results t
  blk_simp
  rw [after15]
  idx_vars y
  refine (out_dpa hA t y0 y1).trans (congrArg Real.toEReal (congrArg₂ I.dpa (Fin.ext ?_) (Fin.ext ?_)))
  all_goals (blk_simp [h15, z15, row]; try first | omega | (dsimp only; omega))

/-- The array of `dpb`. -/
theorem dpb_array : (dats m 0 c).arrAt 16 cfg0.N = (fun y : S2048x1024.Idx => ((I.dpb (y 0) (y 1) : ℝ) : EReal) : Vec Ideal S2048x1024 .bf16) := by
  refine (dats m 0 c).arrAt_eq_of_covers 16 _ (by decide +kernel) fun t hf y => ?_
  obtain ⟨h13, z13, h14, z14, h15, z15, h16, z16, h17, z17, h18, z18, h19, z19, q19, h20, z20, h21, z21⟩ := idx_results t
  blk_simp
  rw [after16]
  idx_vars y
  refine (out_dpb hA t y0 y1).trans (congrArg Real.toEReal (congrArg₂ I.dpb (Fin.ext ?_) (Fin.ext ?_)))
  all_goals (blk_simp [h16, z16, row]; try first | omega | (dsimp only; omega))

/-- The array of `dya`. -/
theorem dya_array : (dats m 0 c).arrAt 17 cfg0.N = (fun y : S2048x1024.Idx => ((I.dya (y 0) (y 1) : ℝ) : EReal) : Vec Ideal S2048x1024 .bf16) := by
  refine (dats m 0 c).arrAt_eq_of_covers 17 _ (by decide +kernel) fun t hf y => ?_
  obtain ⟨h13, z13, h14, z14, h15, z15, h16, z16, h17, z17, h18, z18, h19, z19, q19, h20, z20, h21, z21⟩ := idx_results t
  blk_simp
  rw [after17]
  idx_vars y
  refine (out_dya hA t y0 y1).trans (congrArg Real.toEReal (congrArg₂ I.dya (Fin.ext ?_) (Fin.ext ?_)))
  all_goals (blk_simp [h17, z17, row]; try first | omega | (dsimp only; omega))

/-- The array of `dyb`. -/
theorem dyb_array : (dats m 0 c).arrAt 18 cfg0.N = (fun y : S2048x1024.Idx => ((I.dyb (y 0) (y 1) : ℝ) : EReal) : Vec Ideal S2048x1024 .bf16) := by
  refine (dats m 0 c).arrAt_eq_of_covers 18 _ (by decide +kernel) fun t hf y => ?_
  obtain ⟨h13, z13, h14, z14, h15, z15, h16, z16, h17, z17, h18, z18, h19, z19, q19, h20, z20, h21, z21⟩ := idx_results t
  blk_simp
  rw [after18]
  idx_vars y
  refine (out_dyb hA t y0 y1).trans (congrArg Real.toEReal (congrArg₂ I.dyb (Fin.ext ?_) (Fin.ext ?_)))
  all_goals (blk_simp [h18, z18, row]; try first | omega | (dsimp only; omega))

/-- The array of `dgate`. -/
theorem dgate_array : (dats m 0 c).arrAt 19 cfg0.N = (fun y : S2x2048x1024.Idx => ((I.dgate (y 0) (y 1) (y 2) : ℝ) : EReal) : Vec Ideal S2x2048x1024 .bf16) := by
  refine (dats m 0 c).arrAt_eq_of_covers 19 _ (by decide +kernel) fun t hf y => ?_
  obtain ⟨h13, z13, h14, z14, h15, z15, h16, z16, h17, z17, h18, z18, h19, z19, q19, h20, z20, h21, z21⟩ := idx_results t
  blk_simp
  rw [after19]
  idx_vars y
  refine (out_dgate hA t y0 y1 y2).trans (congrArg Real.toEReal (congr (congrArg₂ I.dgate (Fin.ext ?_) (Fin.ext ?_)) (Fin.ext ?_)))
  all_goals (blk_simp [h19, z19, q19, row]; try first | omega | (dsimp only; omega))

/-- The array of `dg3`. -/
theorem dg3_array : (dats m 0 c).arrAt 20 cfg0.N = (fun y : S1x1024.Idx => ((I.dg3 (y 1) : ℝ) : EReal) : Vec Ideal S1x1024 .f32) := by
  refine (dats m 0 c).arrAt_eq_of_covers 20 _ (by decide +kernel) fun t hf y => ?_
  obtain ⟨h13, z13, h14, z14, h15, z15, h16, z16, h17, z17, h18, z18, h19, z19, q19, h20, z20, h21, z21⟩ := idx_results t
  blk_simp
  rw [after20]
  idx_vars y
  have ht : t.val = 7 := by have := (by decide +kernel : ∀ t : Fin cfg0.N, (win0 20).flush t = true → t.val = 7) t hf; exact this
  refine ((sums_at hA t.val t.isLt).1 y0 y1).trans (congrArg Real.toEReal ?_)
  rw [ht, partSum_all]
  refine congrArg (fun d => I.dg3 d) (Fin.ext ?_)
  blk_simp [h20, z20]; try omega

/-- The array of `dg2`. -/
theorem dg2_array : (dats m 0 c).arrAt 21 cfg0.N = (fun y : S1x1024.Idx => ((I.dg2 (y 1) : ℝ) : EReal) : Vec Ideal S1x1024 .f32) := by
  refine (dats m 0 c).arrAt_eq_of_covers 21 _ (by decide +kernel) fun t hf y => ?_
  obtain ⟨h13, z13, h14, z14, h15, z15, h16, z16, h17, z17, h18, z18, h19, z19, q19, h20, z20, h21, z21⟩ := idx_results t
  blk_simp
  rw [after21]
  idx_vars y
  have ht : t.val = 7 := by have := (by decide +kernel : ∀ t : Fin cfg0.N, (win0 21).flush t = true → t.val = 7) t hf; exact this
  refine ((sums_at hA t.val t.isLt).2 y0 y1).trans (congrArg Real.toEReal ?_)
  rw [ht, partSum_all]
  refine congrArg (fun d => I.dg2 d) (Fin.ext ?_)
  blk_simp [h21, z21]; try omega

end Cert.Kernel5Ideal.Merge

end
-- ==== Proof.Merge.Plain.lean ====
/- The reference's nine results, from finite arguments: the same closed forms. -/
module

public import proofs.«01_k».proof.Proof.Merge.Closed
public import proofs.«01_k».proof.Proof.Gen.Reference5Ideal.Run
public import Idealize.ShloMosaic.Lib.Tactic.CleanTypes

@[expose] public section

set_option maxRecDepth 16384

noncomputable section

namespace Cert.Reference5Ideal.Merge

open Cert.Reference5Ideal Cert.Reference5Ideal.Gen Cert.Reference5Ideal.Value Idealize.ShloMosaic Idealize.ShloMosaic.TcCoe Idealize.ShloMosaic.StableHlo
open Cert.Proof.Reals Cert.Proof.Merge

/-- The arguments are these numbers. -/
structure Args (V0 : Valuation τ sig (Elt Ideal)) (I : Inputs) : Prop where
  ya : ∀ n d, (V0 (Proc.devRef .tc main_arg0) : Vec Ideal S2048x1024 .bf16) (ix2 n d) = ((I.ya n d : ℝ) : EReal)
  yb : ∀ n d, (V0 (Proc.devRef .tc main_arg1) : Vec Ideal S2048x1024 .bf16) (ix2 n d) = ((I.yb n d : ℝ) : EReal)
  p : ∀ n d, (V0 (Proc.devRef .tc main_arg2) : Vec Ideal S2048x7168 .bf16) (ix2 n d) = I.p n d
  x : ∀ n d, (V0 (Proc.devRef .tc main_arg3) : Vec Ideal S2048x1024 .f32) (ix2 n d) = ((I.x n d : ℝ) : EReal)
  wc : ∀ n d, (V0 (Proc.devRef .tc main_arg4) : Vec Ideal S1024x1024 .bf16) (ix2 n d) = ((I.wc n d : ℝ) : EReal)
  wl : ∀ n d, (V0 (Proc.devRef .tc main_arg5) : Vec Ideal S1024x1024 .bf16) (ix2 n d) = ((I.wl n d : ℝ) : EReal)
  wo : ∀ n d, (V0 (Proc.devRef .tc main_arg6) : Vec Ideal S1024x1024 .bf16) (ix2 n d) = ((I.wo n d : ℝ) : EReal)
  g2 : ∀ d, (V0 (Proc.devRef .tc main_arg7) : Vec Ideal S1024 .f32) (ix1 d) = ((I.g2 d : ℝ) : EReal)
  g3 : ∀ d, (V0 (Proc.devRef .tc main_arg8) : Vec Ideal S1024 .f32) (ix1 d) = ((I.g3 d : ℝ) : EReal)
  dy : ∀ n d, (V0 (Proc.devRef .tc main_arg9) : Vec Ideal S2048x1024 .f32) (ix2 n d) = ((I.dy n d : ℝ) : EReal)
  dh : ∀ n d, (V0 (Proc.devRef .tc main_arg10) : Vec Ideal S2048x1024 .f32) (ix2 n d) = ((I.dh n d : ℝ) : EReal)

variable {V0 : Valuation τ sig (Elt Ideal)} {I : Inputs} (hA : Args V0 I)
include hA

/-- The first branch's matrix. -/
theorem v3_real (k d : Fin 1024) : (res_main_v3 V0 : Vec Ideal S1024x1024 .f32) (ix2 k d) = ((I.wc k d : ℝ) : EReal) := by
  have h4 := hA.wc
  unfold res_main_v3
  generalize V0 (Proc.devRef .tc main_arg4) = A4 at h4
  change Vec Ideal S1024x1024 .bf16 at A4
  clean_types
  pointwise
  rw [h4]

/-- The second branch's. -/
theorem v4_real (k d : Fin 1024) : (res_main_v4 V0 : Vec Ideal S1024x1024 .f32) (ix2 k d) = ((I.wl k d : ℝ) : EReal) := by
  have h5 := hA.wl
  unfold res_main_v4
  generalize V0 (Proc.devRef .tc main_arg5) = A5 at h5
  change Vec Ideal S1024x1024 .bf16 at A5
  clean_types
  pointwise
  rw [h5]

/-- The matrix after the gates. -/
theorem v5_real (k d : Fin 1024) : (res_main_v5 V0 : Vec Ideal S1024x1024 .f32) (ix2 k d) = ((I.wo k d : ℝ) : EReal) := by
  have h6 := hA.wo
  unfold res_main_v5
  generalize V0 (Proc.devRef .tc main_arg6) = A6 at h6
  change Vec Ideal S1024x1024 .bf16 at A6
  clean_types
  pointwise
  rw [h6]

/-- The first branch's projection. -/
theorem v6_real (n : Fin 2048) (d : Fin 1024) : (res_main_v6 V0 : Vec Ideal S2048x1024 .f32) (ix2 n d) = ((I.pa n d : ℝ) : EReal) := by
  have e3 := v3_real hA
  have h0 := hA.ya
  unfold res_main_v6
  generalize res_main_v3 (F := Ideal) V0 = u3 at e3
  change Vec Ideal S1024x1024 .f32 at u3
  generalize V0 (Proc.devRef .tc main_arg0) = A0 at h0
  change Vec Ideal S2048x1024 .bf16 at A0
  clean_types
  pointwise
  simp only [e3, h0, ← EReal.coe_mul, coe_sum]
  rfl

/-- The second branch's. -/
theorem v7_real (n : Fin 2048) (d : Fin 1024) : (res_main_v7 V0 : Vec Ideal S2048x1024 .f32) (ix2 n d) = ((I.pb n d : ℝ) : EReal) := by
  have e4 := v4_real hA
  have h1 := hA.yb
  unfold res_main_v7
  generalize res_main_v4 (F := Ideal) V0 = u4 at e4
  change Vec Ideal S1024x1024 .f32 at u4
  generalize V0 (Proc.devRef .tc main_arg1) = A1 at h1
  change Vec Ideal S2048x1024 .bf16 at A1
  clean_types
  pointwise
  simp only [e4, h1, ← EReal.coe_mul, coe_sum]
  rfl

/-- The first gate. -/
theorem v15_real (n : Fin 2048) (d : Fin 1024) : (res_main_v15 V0 : Vec Ideal S2048x1024 .f32) (ix2 n d) = ((I.sa n d : ℝ) : EReal) := by
  have h2 := hA.p
  unfold res_main_v15 res_main_v0
  generalize V0 (Proc.devRef .tc main_arg2) = A2 at h2
  change Vec Ideal S2048x7168 .bf16 at A2
  clean_types
  pointwise
  rw [h2]
  exact gate_coe _

/-- The second gate. -/
theorem v25_real (n : Fin 2048) (d : Fin 1024) : (res_main_v25 V0 : Vec Ideal S2048x1024 .f32) (ix2 n d) = ((I.sb n d : ℝ) : EReal) := by
  have h2 := hA.p
  unfold res_main_v25 res_main_v0
  generalize V0 (Proc.devRef .tc main_arg2) = A2 at h2
  change Vec Ideal S2048x7168 .bf16 at A2
  clean_types
  pointwise
  rw [h2]
  exact gate_coe _

/-- The product of the gated sum. -/
theorem v31_real (n : Fin 2048) (d : Fin 1024) : (res_main_v31 V0 : Vec Ideal S2048x1024 .f32) (ix2 n d) = ((I.mix n d : ℝ) : EReal) := by
  have e15 := v15_real hA
  have e6 := v6_real hA
  have e25 := v25_real hA
  have e7 := v7_real hA
  have e5 := v5_real hA
  unfold res_main_v31
  generalize res_main_v15 (F := Ideal) V0 = u15 at e15
  change Vec Ideal S2048x1024 .f32 at u15
  generalize res_main_v6 (F := Ideal) V0 = u6 at e6
  change Vec Ideal S2048x1024 .f32 at u6
  generalize res_main_v25 (F := Ideal) V0 = u25 at e25
  change Vec Ideal S2048x1024 .f32 at u25
  generalize res_main_v7 (F := Ideal) V0 = u7 at e7
  change Vec Ideal S2048x1024 .f32 at u7
  generalize res_main_v5 (F := Ideal) V0 = u5 at e5
  change Vec Ideal S1024x1024 .f32 at u5
  clean_types
  pointwise
  simp only [e15, e6, e25, e7, e5, ← EReal.coe_mul, ← EReal.coe_add, coe_sum]
  rfl

/-- The mean square of its row. -/
theorem v38_real (n : Fin 2048) (z : Fin 1) : (res_main_v38 V0 : Vec Ideal S2048x1 .f32) (ix2 n z) = ((meanSq (I.mix n) : ℝ) : EReal) := by
  have e31 := v31_real hA
  unfold res_main_v38
  generalize res_main_v31 (F := Ideal) V0 = u31 at e31
  change Vec Ideal S2048x1024 .f32 at u31
  clean_types
  pointwise
  simp only [e31, ← EReal.coe_mul, coe_sum]
  rw [meanSq_coe]

/-- Its reciprocal root. -/
theorem v39_real (n : Fin 2048) (z : Fin 1) : (res_main_v39 V0 : Vec Ideal S2048x1 .f32) (ix2 n z) = ((root (I.mix n) : ℝ) : EReal) := by
  have e38 := v38_real hA
  unfold res_main_v39
  generalize res_main_v38 (F := Ideal) V0 = u38 at e38
  change Vec Ideal S2048x1 .f32 at u38
  clean_types
  pointwise
  rw [e38, root_coe]

/-- The row over its root. -/
theorem v44_real (n : Fin 2048) (d : Fin 1024) : (res_main_v44 V0 : Vec Ideal S2048x1024 .f32) (ix2 n d) = ((I.mix n d * root (I.mix n) : ℝ) : EReal) := by
  have e31 := v31_real hA
  have e39 := v39_real hA
  unfold res_main_v44
  generalize res_main_v31 (F := Ideal) V0 = u31 at e31
  change Vec Ideal S2048x1024 .f32 at u31
  generalize res_main_v39 (F := Ideal) V0 = u39 at e39
  change Vec Ideal S2048x1 .f32 at u39
  clean_types
  pointwise
  simp only [e31, e39, ← EReal.coe_mul]

/-- The second gain. -/
theorem v45_real (z : Fin 1) (d : Fin 1024) : (res_main_v45 V0 : Vec Ideal S1x1024 .f32) (ix2 z d) = ((I.g2 d : ℝ) : EReal) := by
  have h7 := hA.g2
  unfold res_main_v45
  generalize V0 (Proc.devRef .tc main_arg7) = A7 at h7
  change Vec Ideal S1024 .f32 at A7
  clean_types
  pointwise
  rw [h7]

/-- The block's middle. -/
theorem v48_real (n : Fin 2048) (d : Fin 1024) : (res_main_v48 V0 : Vec Ideal S2048x1024 .f32) (ix2 n d) = ((I.x1 n d : ℝ) : EReal) := by
  have e44 := v44_real hA
  have e45 := v45_real hA
  have h3 := hA.x
  unfold res_main_v48
  generalize res_main_v44 (F := Ideal) V0 = u44 at e44
  change Vec Ideal S2048x1024 .f32 at u44
  generalize res_main_v45 (F := Ideal) V0 = u45 at e45
  change Vec Ideal S1x1024 .f32 at u45
  generalize V0 (Proc.devRef .tc main_arg3) = A3 at h3
  change Vec Ideal S2048x1024 .f32 at A3
  clean_types
  pointwise
  simp only [e44, e45, h3, ← EReal.coe_mul, ← EReal.coe_add]
  rfl

/-- The mean square of its row. -/
theorem v55_real (n : Fin 2048) (z : Fin 1) : (res_main_v55 V0 : Vec Ideal S2048x1 .f32) (ix2 n z) = ((meanSq (I.x1 n) : ℝ) : EReal) := by
  have e48 := v48_real hA
  unfold res_main_v55
  generalize res_main_v48 (F := Ideal) V0 = u48 at e48
  change Vec Ideal S2048x1024 .f32 at u48
  clean_types
  pointwise
  simp only [e48, ← EReal.coe_mul, coe_sum]
  rw [meanSq_coe]

/-- Its reciprocal root. -/
theorem v56_real (n : Fin 2048) (z : Fin 1) : (res_main_v56 V0 : Vec Ideal S2048x1 .f32) (ix2 n z) = ((root (I.x1 n) : ℝ) : EReal) := by
  have e55 := v55_real hA
  unfold res_main_v56
  generalize res_main_v55 (F := Ideal) V0 = u55 at e55
  change Vec Ideal S2048x1 .f32 at u55
  clean_types
  pointwise
  rw [e55, root_coe]

/-- The row over its root. -/
theorem v61_real (n : Fin 2048) (d : Fin 1024) : (res_main_v61 V0 : Vec Ideal S2048x1024 .f32) (ix2 n d) = ((I.x1 n d * root (I.x1 n) : ℝ) : EReal) := by
  have e48 := v48_real hA
  have e56 := v56_real hA
  unfold res_main_v61
  generalize res_main_v48 (F := Ideal) V0 = u48 at e48
  change Vec Ideal S2048x1024 .f32 at u48
  generalize res_main_v56 (F := Ideal) V0 = u56 at e56
  change Vec Ideal S2048x1 .f32 at u56
  clean_types
  pointwise
  simp only [e48, e56, ← EReal.coe_mul]

/-- The third gain. -/
theorem v62_real (z : Fin 1) (d : Fin 1024) : (res_main_v62 V0 : Vec Ideal S1x1024 .f32) (ix2 z d) = ((I.g3 d : ℝ) : EReal) := by
  have h8 := hA.g3
  unfold res_main_v62
  generalize V0 (Proc.devRef .tc main_arg8) = A8 at h8
  change Vec Ideal S1024 .f32 at A8
  clean_types
  pointwise
  rw [h8]

/-- The cotangent times the gain. -/
theorem v69_real (n : Fin 2048) (d : Fin 1024) : (res_main_v69 V0 : Vec Ideal S2048x1024 .f32) (ix2 n d) = ((I.dh n d * I.g3 d : ℝ) : EReal) := by
  have e62 := v62_real hA
  have h10 := hA.dh
  unfold res_main_v69
  generalize res_main_v62 (F := Ideal) V0 = u62 at e62
  change Vec Ideal S1x1024 .f32 at u62
  generalize V0 (Proc.devRef .tc main_arg10) = A10 at h10
  change Vec Ideal S2048x1024 .f32 at A10
  clean_types
  pointwise
  simp only [e62, h10, ← EReal.coe_mul]

/-- The gradient of a row's mean square, to each entry. -/
theorem v81_real (n : Fin 2048) (d : Fin 1024) : (res_main_v81 V0 : Vec Ideal S2048x1024 .f32) (ix2 n d) = (((∑ d', I.x1 n d' * (I.dh n d' * I.g3 d')) * (-(1 / 2) * (root (I.x1 n) / meanSq (I.x1 n))) / 1024 : ℝ) : EReal) := by
  have e48 := v48_real hA
  have e69 := v69_real hA
  have e56 := v56_real hA
  have e55 := v55_real hA
  unfold res_main_v81
  generalize res_main_v48 (F := Ideal) V0 = u48 at e48
  change Vec Ideal S2048x1024 .f32 at u48
  generalize res_main_v69 (F := Ideal) V0 = u69 at e69
  change Vec Ideal S2048x1024 .f32 at u69
  generalize res_main_v56 (F := Ideal) V0 = u56 at e56
  change Vec Ideal S2048x1 .f32 at u56
  generalize res_main_v55 (F := Ideal) V0 = u55 at e55
  change Vec Ideal S2048x1 .f32 at u55
  clean_types
  pointwise
  simp only [e48, e69, e56, e55, word_minus_half, word_1024, ← EReal.coe_mul, coe_sum]
  rw [coe_div (meanSq_pos _).ne']
  simp only [← EReal.coe_mul]
  rw [coe_div (by norm_num)]
  exact Fin.sum_univ_one _

/-- The gradient at the block's middle. -/
theorem v86_real (n : Fin 2048) (d : Fin 1024) : (res_main_v86 V0 : Vec Ideal S2048x1024 .f32) (ix2 n d) = ((I.dx1 n d : ℝ) : EReal) := by
  have e69 := v69_real hA
  have e56 := v56_real hA
  have e48 := v48_real hA
  have e81 := v81_real hA
  have h9 := hA.dy
  unfold res_main_v86
  generalize res_main_v69 (F := Ideal) V0 = u69 at e69
  change Vec Ideal S2048x1024 .f32 at u69
  generalize res_main_v56 (F := Ideal) V0 = u56 at e56
  change Vec Ideal S2048x1 .f32 at u56
  generalize res_main_v48 (F := Ideal) V0 = u48 at e48
  change Vec Ideal S2048x1024 .f32 at u48
  generalize res_main_v81 (F := Ideal) V0 = u81 at e81
  change Vec Ideal S2048x1024 .f32 at u81
  generalize V0 (Proc.devRef .tc main_arg9) = A9 at h9
  change Vec Ideal S2048x1024 .f32 at A9
  clean_types
  pointwise
  simp only [e69, e56, e48, e81, h9, ← EReal.coe_mul, ← EReal.coe_add]
  refine congrArg Real.toEReal ?_
  rw [Inputs.dx1, dx1Row, ← normBack_eq (I.x1 n) (fun d => I.dh n d * I.g3 d) d _ rfl]
  ring

/-- It times the gain. -/
theorem v91_real (n : Fin 2048) (d : Fin 1024) : (res_main_v91 V0 : Vec Ideal S2048x1024 .f32) (ix2 n d) = ((I.dx1 n d * I.g2 d : ℝ) : EReal) := by
  have e86 := v86_real hA
  have e45 := v45_real hA
  unfold res_main_v91
  generalize res_main_v86 (F := Ideal) V0 = u86 at e86
  change Vec Ideal S2048x1024 .f32 at u86
  generalize res_main_v45 (F := Ideal) V0 = u45 at e45
  change Vec Ideal S1x1024 .f32 at u45
  clean_types
  pointwise
  simp only [e86, e45, ← EReal.coe_mul]

/-- The gradient of a row's mean square, to each entry. -/
theorem v102_real (n : Fin 2048) (d : Fin 1024) : (res_main_v102 V0 : Vec Ideal S2048x1024 .f32) (ix2 n d) = (((∑ d', I.mix n d' * (I.dx1 n d' * I.g2 d')) * (-(1 / 2) * (root (I.mix n) / meanSq (I.mix n))) / 1024 : ℝ) : EReal) := by
  have e31 := v31_real hA
  have e91 := v91_real hA
  have e39 := v39_real hA
  have e38 := v38_real hA
  unfold res_main_v102
  generalize res_main_v31 (F := Ideal) V0 = u31 at e31
  change Vec Ideal S2048x1024 .f32 at u31
  generalize res_main_v91 (F := Ideal) V0 = u91 at e91
  change Vec Ideal S2048x1024 .f32 at u91
  generalize res_main_v39 (F := Ideal) V0 = u39 at e39
  change Vec Ideal S2048x1 .f32 at u39
  generalize res_main_v38 (F := Ideal) V0 = u38 at e38
  change Vec Ideal S2048x1 .f32 at u38
  clean_types
  pointwise
  simp only [e31, e91, e39, e38, word_minus_half, word_1024, ← EReal.coe_mul, coe_sum]
  rw [coe_div (meanSq_pos _).ne']
  simp only [← EReal.coe_mul]
  rw [coe_div (by norm_num)]
  exact Fin.sum_univ_one _

/-- The gradient at the product. -/
theorem v106_real (n : Fin 2048) (d : Fin 1024) : (res_main_v106 V0 : Vec Ideal S2048x1024 .f32) (ix2 n d) = ((I.dmix n d : ℝ) : EReal) := by
  have e91 := v91_real hA
  have e39 := v39_real hA
  have e31 := v31_real hA
  have e102 := v102_real hA
  unfold res_main_v106
  generalize res_main_v91 (F := Ideal) V0 = u91 at e91
  change Vec Ideal S2048x1024 .f32 at u91
  generalize res_main_v39 (F := Ideal) V0 = u39 at e39
  change Vec Ideal S2048x1 .f32 at u39
  generalize res_main_v31 (F := Ideal) V0 = u31 at e31
  change Vec Ideal S2048x1024 .f32 at u31
  generalize res_main_v102 (F := Ideal) V0 = u102 at e102
  change Vec Ideal S2048x1024 .f32 at u102
  clean_types
  pointwise
  simp only [e91, e39, e31, e102, ← EReal.coe_mul, ← EReal.coe_add]
  exact congrArg Real.toEReal (normBack_eq (I.mix n) (fun d => I.dx1 n d * I.g2 d) d _ rfl)

/-- The gradient at the gated sum. -/
theorem v107_real (n : Fin 2048) (d : Fin 1024) : (res_main_v107 V0 : Vec Ideal S2048x1024 .f32) (ix2 n d) = ((I.dsum n d : ℝ) : EReal) := by
  have e106 := v106_real hA
  have e5 := v5_real hA
  unfold res_main_v107
  generalize res_main_v106 (F := Ideal) V0 = u106 at e106
  change Vec Ideal S2048x1024 .f32 at u106
  generalize res_main_v5 (F := Ideal) V0 = u5 at e5
  change Vec Ideal S1024x1024 .f32 at u5
  clean_types
  pointwise
  simp only [e106, e5, ← EReal.coe_mul, coe_sum]
  rfl

/-- The gradient at the second projection. -/
theorem v108_real (n : Fin 2048) (d : Fin 1024) : (res_main_v108 V0 : Vec Ideal S2048x1024 .f32) (ix2 n d) = ((I.dpb n d : ℝ) : EReal) := by
  have e25 := v25_real hA
  have e107 := v107_real hA
  unfold res_main_v108
  generalize res_main_v25 (F := Ideal) V0 = u25 at e25
  change Vec Ideal S2048x1024 .f32 at u25
  generalize res_main_v107 (F := Ideal) V0 = u107 at e107
  change Vec Ideal S2048x1024 .f32 at u107
  clean_types
  pointwise
  simp only [e25, e107, ← EReal.coe_mul]
  exact congrArg Real.toEReal (mul_comm _ _)

/-- The gradient at the first projection. -/
theorem v111_real (n : Fin 2048) (d : Fin 1024) : (res_main_v111 V0 : Vec Ideal S2048x1024 .f32) (ix2 n d) = ((I.dpa n d : ℝ) : EReal) := by
  have e15 := v15_real hA
  have e107 := v107_real hA
  unfold res_main_v111
  generalize res_main_v15 (F := Ideal) V0 = u15 at e15
  change Vec Ideal S2048x1024 .f32 at u15
  generalize res_main_v107 (F := Ideal) V0 = u107 at e107
  change Vec Ideal S2048x1024 .f32 at u107
  clean_types
  pointwise
  simp only [e15, e107, ← EReal.coe_mul]
  exact congrArg Real.toEReal (mul_comm _ _)

/-- The first result … -/
theorem r0 (n : Fin 2048) (d : Fin 1024) :
    (addf (F := Ideal) (φ := .f32) (addf (addf (V0 (Proc.devRef .tc main_arg9)) (mulf (res_main_v69 (F := Ideal) V0) (broadcastInDim S2048x1024 ![0, 1] bcast_S2048x1_S2048x1024_0_1 (res_main_v56 (F := Ideal) V0)))) (mulf (res_main_v48 (F := Ideal) V0) (res_main_v81 (F := Ideal) V0))) (mulf (res_main_v81 (F := Ideal) V0) (res_main_v48 (F := Ideal) V0)) : Vec Ideal S2048x1024 .f32) (ix2 n d) = ((I.dx1 n d : ℝ) : EReal) := by
  have e69 := v69_real hA
  have e56 := v56_real hA
  have e48 := v48_real hA
  have e81 := v81_real hA
  have h9 := hA.dy
  generalize res_main_v69 (F := Ideal) V0 = u69 at e69
  change Vec Ideal S2048x1024 .f32 at u69
  generalize res_main_v56 (F := Ideal) V0 = u56 at e56
  change Vec Ideal S2048x1 .f32 at u56
  generalize res_main_v48 (F := Ideal) V0 = u48 at e48
  change Vec Ideal S2048x1024 .f32 at u48
  generalize res_main_v81 (F := Ideal) V0 = u81 at e81
  change Vec Ideal S2048x1024 .f32 at u81
  generalize V0 (Proc.devRef .tc main_arg9) = A9 at h9
  change Vec Ideal S2048x1024 .f32 at A9
  clean_types
  pointwise
  simp only [e69, e56, e48, e81, h9, ← EReal.coe_mul, ← EReal.coe_add]
  refine congrArg Real.toEReal ?_
  rw [Inputs.dx1, dx1Row, ← normBack_eq (I.x1 n) (fun d => I.dh n d * I.g3 d) d _ rfl]
  ring

theorem r1 (n : Fin 2048) (d : Fin 1024) :
    (truncf (F := Ideal) .bf16 (res_main_v106 (F := Ideal) V0) bitsLt_bf16_f32 : Vec Ideal S2048x1024 .bf16) (ix2 n d) = ((I.dmix n d : ℝ) : EReal) :=
  v106_real hA n d

theorem r2 (n : Fin 2048) (d : Fin 1024) :
    (truncf (F := Ideal) .bf16 (res_main_v111 (F := Ideal) V0) bitsLt_bf16_f32 : Vec Ideal S2048x1024 .bf16) (ix2 n d) = ((I.dpa n d : ℝ) : EReal) :=
  v111_real hA n d

theorem r3 (n : Fin 2048) (d : Fin 1024) :
    (truncf (F := Ideal) .bf16 (res_main_v108 (F := Ideal) V0) bitsLt_bf16_f32 : Vec Ideal S2048x1024 .bf16) (ix2 n d) = ((I.dpb n d : ℝ) : EReal) :=
  v108_real hA n d

/-- … the gradients at the branches … -/
theorem r4 (n : Fin 2048) (d : Fin 1024) :
    (truncf (F := Ideal) .bf16 (Host.dotGeneral (φ₁ := .f32) (φ₂ := .f32) dot_S2048x1024_S1024x1024_S2048x1024_1_1_0_0_n_n none (res_main_v111 (F := Ideal) V0) (res_main_v3 (F := Ideal) V0)) bitsLt_bf16_f32 : Vec Ideal S2048x1024 .bf16) (ix2 n d) = ((I.dya n d : ℝ) : EReal) := by
  have e111 := v111_real hA
  have e3 := v3_real hA
  generalize res_main_v111 (F := Ideal) V0 = u111 at e111
  change Vec Ideal S2048x1024 .f32 at u111
  generalize res_main_v3 (F := Ideal) V0 = u3 at e3
  change Vec Ideal S1024x1024 .f32 at u3
  clean_types
  pointwise
  simp only [e111, e3, ← EReal.coe_mul, coe_sum]
  rfl

/-- (the second) … -/
theorem r5 (n : Fin 2048) (d : Fin 1024) :
    (truncf (F := Ideal) .bf16 (Host.dotGeneral (φ₁ := .f32) (φ₂ := .f32) dot_S2048x1024_S1024x1024_S2048x1024_1_1_0_0_n_n none (res_main_v108 (F := Ideal) V0) (res_main_v4 (F := Ideal) V0)) bitsLt_bf16_f32 : Vec Ideal S2048x1024 .bf16) (ix2 n d) = ((I.dyb n d : ℝ) : EReal) := by
  have e108 := v108_real hA
  have e4 := v4_real hA
  generalize res_main_v108 (F := Ideal) V0 = u108 at e108
  change Vec Ideal S2048x1024 .f32 at u108
  generalize res_main_v4 (F := Ideal) V0 = u4 at e4
  change Vec Ideal S1024x1024 .f32 at u4
  clean_types
  pointwise
  simp only [e108, e4, ← EReal.coe_mul, coe_sum]
  rfl

/-- … at the gates' arguments … -/
theorem r6 (i : Fin 2) (n : Fin 2048) (d : Fin 1024) :
    (truncf (F := Ideal) .bf16 (concatenate S2x2048x1024 0 [⟨S1x2048x1024, (broadcastInDim S1x2048x1024 ![1, 2] bcast_S2048x1024_S1x2048x1024_1_2 (mulf (mulf (res_main_v107 (F := Ideal) V0) (res_main_v6 (F := Ideal) V0)) (mulf (res_main_v15 (F := Ideal) V0) (subf (broadcastInDim S2048x1024 ![] bcast_S_S2048x1024 (constant S_ .f32 0x3F800000#32)) (res_main_v15 (F := Ideal) V0)))))⟩, ⟨S1x2048x1024, (broadcastInDim S1x2048x1024 ![1, 2] bcast_S2048x1024_S1x2048x1024_1_2 (mulf (mulf (res_main_v107 (F := Ideal) V0) (res_main_v7 (F := Ideal) V0)) (mulf (res_main_v25 (F := Ideal) V0) (subf (broadcastInDim S2048x1024 ![] bcast_S_S2048x1024 (constant S_ .f32 0x3F800000#32)) (res_main_v25 (F := Ideal) V0)))))⟩] concatenates_S1x2048x1024_S1x2048x1024_S2x2048x1024_d0) bitsLt_bf16_f32 : Vec Ideal S2x2048x1024 .bf16) (ix3 i n d) = ((I.dgate i n d : ℝ) : EReal) := by
  have e107 := v107_real hA
  have e6 := v6_real hA
  have e15 := v15_real hA
  have e7 := v7_real hA
  have e25 := v25_real hA
  generalize res_main_v107 (F := Ideal) V0 = u107 at e107
  change Vec Ideal S2048x1024 .f32 at u107
  generalize res_main_v6 (F := Ideal) V0 = u6 at e6
  change Vec Ideal S2048x1024 .f32 at u6
  generalize res_main_v15 (F := Ideal) V0 = u15 at e15
  change Vec Ideal S2048x1024 .f32 at u15
  generalize res_main_v7 (F := Ideal) V0 = u7 at e7
  change Vec Ideal S2048x1024 .f32 at u7
  generalize res_main_v25 (F := Ideal) V0 = u25 at e25
  change Vec Ideal S2048x1024 .f32 at u25
  clean_types
  pointwise
  simp only [e107, e6, e15, e7, e25, ← EReal.coe_one, ← EReal.coe_mul, ← EReal.coe_sub]
  unfold Inputs.dgate dGate
  by_cases h : i.val = 0
  · rw [if_pos h, dif_pos (show i.val < 1 by omega)]
    exact congrArg Real.toEReal (mul_assoc _ _ _).symm
  · rw [if_neg h, dif_neg (show ¬i.val < 1 by omega)]
    exact congrArg Real.toEReal (mul_assoc _ _ _).symm

/-- … and at the gains. -/
theorem r7 (z : Fin 1) (d : Fin 1024) :
    (broadcastInDim S1x1024 ![1] bcast_S1024_S1x1024_1 (Host.reduceAdd (F := Ideal) (shapeCast _ (Host.reduceAdd (mulf (res_main_v61 (F := Ideal) V0) (V0 (Proc.devRef .tc main_arg10))) (constant S_ .f32 0x00000000#32) reducesTo_S2048x1024_S1024_d0 h_S_) shapeCasts_S1024_S1x1024) (constant S_ .f32 0x00000000#32) reducesTo_S1x1024_S1024_d0 h_S_) : Vec Ideal S1x1024 .f32) (ix2 z d) = ((I.dg3 d : ℝ) : EReal) := by
  have h10 := hA.dh
  have e61 := v61_real hA
  generalize res_main_v61 (F := Ideal) V0 = u61 at e61
  change Vec Ideal S2048x1024 .f32 at u61
  generalize V0 (Proc.devRef .tc main_arg10) = A10 at h10
  change Vec Ideal S2048x1024 .f32 at A10
  clean_types
  pointwise
  simp only [e61, h10, ← EReal.coe_mul, coe_sum]
  exact congrArg Real.toEReal ((Fin.sum_univ_one _).trans (Finset.sum_congr rfl fun n _ => mul_comm _ _))

/-- The second gain's. -/
theorem r8 (z : Fin 1) (d : Fin 1024) :
    (broadcastInDim S1x1024 ![1] bcast_S1024_S1x1024_1 (Host.reduceAdd (F := Ideal) (shapeCast _ (Host.reduceAdd (mulf (res_main_v44 (F := Ideal) V0) (res_main_v86 (F := Ideal) V0)) (constant S_ .f32 0x00000000#32) reducesTo_S2048x1024_S1024_d0 h_S_) shapeCasts_S1024_S1x1024) (constant S_ .f32 0x00000000#32) reducesTo_S1x1024_S1024_d0 h_S_) : Vec Ideal S1x1024 .f32) (ix2 z d) = ((I.dg2 d : ℝ) : EReal) := by
  have e44 := v44_real hA
  have e86 := v86_real hA
  generalize res_main_v44 (F := Ideal) V0 = u44 at e44
  change Vec Ideal S2048x1024 .f32 at u44
  generalize res_main_v86 (F := Ideal) V0 = u86 at e86
  change Vec Ideal S2048x1024 .f32 at u86
  clean_types
  pointwise
  simp only [e44, e86, ← EReal.coe_mul, coe_sum]
  exact congrArg Real.toEReal ((Fin.sum_univ_one _).trans (Finset.sum_congr rfl fun n _ => mul_comm _ _))

end Cert.Reference5Ideal.Merge

end
-- ==== Proof.Merge.Claim.lean ====
/- The claim about the gated merge and the two norms around it: from finite arguments both programs compute the same nine arrays. -/
module

public import proofs.«01_k».proof.Defs
public import proofs.«01_k».proof.Proof.Merge.Arrays
public import proofs.«01_k».proof.Proof.Merge.Plain
public import proofs.«01_k».proof.Proof.Steps.Finite

@[expose] public section

set_option maxRecDepth 16384

noncomputable section

namespace Cert.Proof.Merge

open Idealize.ShloMosaic Idealize.ShloMosaic.TcCoe Idealize.SL.Sem Cert.Proof.Reals

/-- A finite array of two axes as real numbers … -/
def realOf {n k : ℕ} (A : ({ rank := 2, size := ![n, k] } : Shape).Idx → EReal) (r : Fin n) (q : Fin k) : ℝ := (A (ix2 r q)).toReal

/-- … and of one. -/
def vecOf {n : ℕ} (A : ({ rank := 1, size := ![n] } : Shape).Idx → EReal) (d : Fin n) : ℝ := (A (ix1 d)).toReal

section Args

variable [hF : Cert.Pre_merge_args_finite.Facts]
open Cert.Pre_merge_args_finite

/-- What the test of the arguments says of them. -/
theorem args_real (A0 : FVec Ideal S2048x1024 .bf16) (A1 : FVec Ideal S2048x1024 .bf16) (A2 : FVec Ideal S2048x7168 .bf16) (A3 : FVec Ideal S2048x1024 .f32) (A4 : FVec Ideal S1024x1024 .bf16) (A5 : FVec Ideal S1024x1024 .bf16) (A6 : FVec Ideal S1024x1024 .bf16) (A7 : FVec Ideal S1024 .f32) (A8 : FVec Ideal S1024 .f32) (A9 : FVec Ideal S2048x1024 .f32) (A10 : FVec Ideal S2048x1024 .f32)
    (e : Cert.Pre_merge_args_finite.fn (F := Ideal) A0 A1 A2 A3 A4 A5 A6 A7 A8 A9 A10 = fun _ => 1#1) :
    (∀ n q, A0 (ix2 n q) = ((realOf A0 n q : ℝ) : EReal)) ∧ (∀ n q, A1 (ix2 n q) = ((realOf A1 n q : ℝ) : EReal)) ∧ (∀ n q, A3 (ix2 n q) = ((realOf A3 n q : ℝ) : EReal)) ∧ (∀ n q, A4 (ix2 n q) = ((realOf A4 n q : ℝ) : EReal)) ∧ (∀ n q, A5 (ix2 n q) = ((realOf A5 n q : ℝ) : EReal)) ∧ (∀ n q, A6 (ix2 n q) = ((realOf A6 n q : ℝ) : EReal)) ∧ (∀ d, A7 (ix1 d) = ((vecOf A7 d : ℝ) : EReal)) ∧ (∀ d, A8 (ix1 d) = ((vecOf A8 d : ℝ) : EReal)) ∧ (∀ n q, A9 (ix2 n q) = ((realOf A9 n q : ℝ) : EReal)) ∧ (∀ n q, A10 (ix2 n q) = ((realOf A10 n q : ℝ) : EReal)) := by
  have e' := congrFun e (fun a => a.elim0)
  haveI : Subsingleton S_.Idx := ⟨fun a b => funext fun i => i.elim0⟩
  unfold Cert.Pre_merge_args_finite.fn Cert.Pre_merge_args_finite.fn_part1 Cert.Pre_merge_args_finite.fn_part2 at e'
  dsimp only at e'
  obtain ⟨e', h10⟩ := IntOp.andi_eq_one.1 e'
  obtain ⟨e', h9⟩ := IntOp.andi_eq_one.1 e'
  obtain ⟨e', h8⟩ := IntOp.andi_eq_one.1 e'
  obtain ⟨e', h7⟩ := IntOp.andi_eq_one.1 e'
  obtain ⟨e', h6⟩ := IntOp.andi_eq_one.1 e'
  obtain ⟨e', h5⟩ := IntOp.andi_eq_one.1 e'
  obtain ⟨e', h4⟩ := IntOp.andi_eq_one.1 e'
  obtain ⟨e', h3⟩ := IntOp.andi_eq_one.1 e'
  obtain ⟨h0, h1⟩ := IntOp.andi_eq_one.1 e'
  exact ⟨fun n q => (real_of_all A0 _ _ _ _ (fun _ => inf_bf16) _ h0 _).symm,
    fun n q => (real_of_all A1 _ _ _ _ (fun _ => inf_bf16) _ h1 _).symm,
    fun n q => (real_of_all A3 _ _ _ _ (fun _ => inf_f32) _ h3 _).symm,
    fun n q => (real_of_all A4 _ _ _ _ (fun _ => inf_bf16) _ h4 _).symm,
    fun n q => (real_of_all A5 _ _ _ _ (fun _ => inf_bf16) _ h5 _).symm,
    fun n q => (real_of_all A6 _ _ _ _ (fun _ => inf_bf16) _ h6 _).symm,
    fun d => (real_of_all A7 _ _ _ _ (fun _ => inf_f32) _ h7 _).symm,
    fun d => (real_of_all A8 _ _ _ _ (fun _ => inf_f32) _ h8 _).symm,
    fun n q => (real_of_all A9 _ _ _ _ (fun _ => inf_f32) _ h9 _).symm,
    fun n q => (real_of_all A10 _ _ _ _ (fun _ => inf_f32) _ h10 _).symm⟩

end Args

section Claim

variable (m : (ℓ : Loc Cert.Kernel5Ideal.nD Cert.Kernel5Ideal.τ Cert.Kernel5Ideal.sig) → Buf (Elt Ideal) ℓ) (c : Dev Cert.Kernel5Ideal.nD)

/-- The arguments of the kernel as numbers. -/
def inputsOf : Inputs where
  ya := realOf (m ((c.tc : Thread Cert.Kernel5Ideal.nD Cert.Kernel5Ideal.τ).loc Cert.Kernel5Ideal.main_arg0) : Vec Ideal Cert.Kernel5Ideal.S2048x1024 .bf16)
  yb := realOf (m ((c.tc : Thread Cert.Kernel5Ideal.nD Cert.Kernel5Ideal.τ).loc Cert.Kernel5Ideal.main_arg1) : Vec Ideal Cert.Kernel5Ideal.S2048x1024 .bf16)
  p := fun n d => (m ((c.tc : Thread Cert.Kernel5Ideal.nD Cert.Kernel5Ideal.τ).loc Cert.Kernel5Ideal.main_arg2) : Vec Ideal Cert.Kernel5Ideal.S2048x7168 .bf16) (ix2 n d)
  x := realOf (m ((c.tc : Thread Cert.Kernel5Ideal.nD Cert.Kernel5Ideal.τ).loc Cert.Kernel5Ideal.main_arg3) : Vec Ideal Cert.Kernel5Ideal.S2048x1024 .f32)
  wc := realOf (m ((c.tc : Thread Cert.Kernel5Ideal.nD Cert.Kernel5Ideal.τ).loc Cert.Kernel5Ideal.main_arg4) : Vec Ideal Cert.Kernel5Ideal.S1024x1024 .bf16)
  wl := realOf (m ((c.tc : Thread Cert.Kernel5Ideal.nD Cert.Kernel5Ideal.τ).loc Cert.Kernel5Ideal.main_arg5) : Vec Ideal Cert.Kernel5Ideal.S1024x1024 .bf16)
  wo := realOf (m ((c.tc : Thread Cert.Kernel5Ideal.nD Cert.Kernel5Ideal.τ).loc Cert.Kernel5Ideal.main_arg6) : Vec Ideal Cert.Kernel5Ideal.S1024x1024 .bf16)
  g2 := vecOf (m ((c.tc : Thread Cert.Kernel5Ideal.nD Cert.Kernel5Ideal.τ).loc Cert.Kernel5Ideal.main_arg7) : Vec Ideal Cert.Kernel5Ideal.S1024 .f32)
  g3 := vecOf (m ((c.tc : Thread Cert.Kernel5Ideal.nD Cert.Kernel5Ideal.τ).loc Cert.Kernel5Ideal.main_arg8) : Vec Ideal Cert.Kernel5Ideal.S1024 .f32)
  dy := realOf (m ((c.tc : Thread Cert.Kernel5Ideal.nD Cert.Kernel5Ideal.τ).loc Cert.Kernel5Ideal.main_arg9) : Vec Ideal Cert.Kernel5Ideal.S2048x1024 .f32)
  dh := realOf (m ((c.tc : Thread Cert.Kernel5Ideal.nD Cert.Kernel5Ideal.τ).loc Cert.Kernel5Ideal.main_arg10) : Vec Ideal Cert.Kernel5Ideal.S2048x1024 .f32)

end Claim

set_option maxHeartbeats 4000000 in
/-- From finite arguments both programs end with the closed forms in their nine result arrays. -/
theorem algebraic [Cert.Kernel5Ideal.Facts] [Cert.Reference5Ideal.Facts] [Cert.Pre_merge_args_finite.Facts] :
    Cert.algebraic_Kernel5Ideal_Reference5Ideal_pre_merge_args_finite := by
  intro m ρ m' ρ' hpre hagree
  have hA : ∀ c, Cert.Kernel5Ideal.Merge.Args m c (inputsOf m c) := fun c => by
    obtain ⟨h0, h1, h3, h4, h5, h6, h7, h8, h9, h10⟩ := args_real _ _ _ _ _ _ _ _ _ _ _ (hpre c)
    exact ⟨h0, h1, fun _ _ => rfl, h3, h4, h5, h6, h7, h8, h9, h10⟩
  have hR : ∀ c, Cert.Reference5Ideal.Merge.Args (StableHlo.launchContents m' c) (inputsOf m c) := fun c => by
    obtain ⟨g0, g1, g2, g3, g4, g5, g6, g7, g8, g9, g10⟩ := hagree c
    refine ⟨fun n d => ?_, fun n d => ?_, fun n d => ?_, fun n d => ?_, fun n d => ?_, fun n d => ?_, fun n d => ?_, fun d => ?_, fun d => ?_, fun n d => ?_, fun n d => ?_⟩
    · exact (congrFun g0 _).trans ((hA c).ya n d)
    · exact (congrFun g1 _).trans ((hA c).yb n d)
    · exact (congrFun g2 _).trans ((hA c).p n d)
    · exact (congrFun g3 _).trans ((hA c).x n d)
    · exact (congrFun g4 _).trans ((hA c).wc n d)
    · exact (congrFun g5 _).trans ((hA c).wl n d)
    · exact (congrFun g6 _).trans ((hA c).wo n d)
    · exact (congrFun g7 _).trans ((hA c).g2 d)
    · exact (congrFun g8 _).trans ((hA c).g3 d)
    · exact (congrFun g9 _).trans ((hA c).dy n d)
    · exact (congrFun g10 _).trans ((hA c).dh n d)
  refine ⟨fun c => (fun y : Cert.Kernel5Ideal.S2048x1024.Idx => (((inputsOf m c).dx1 (y 0) (y 1) : ℝ) : EReal)),
    fun c => (fun y : Cert.Kernel5Ideal.S2048x1024.Idx => (((inputsOf m c).dmix (y 0) (y 1) : ℝ) : EReal)),
    fun c => (fun y : Cert.Kernel5Ideal.S2048x1024.Idx => (((inputsOf m c).dpa (y 0) (y 1) : ℝ) : EReal)),
    fun c => (fun y : Cert.Kernel5Ideal.S2048x1024.Idx => (((inputsOf m c).dpb (y 0) (y 1) : ℝ) : EReal)),
    fun c => (fun y : Cert.Kernel5Ideal.S2048x1024.Idx => (((inputsOf m c).dya (y 0) (y 1) : ℝ) : EReal)),
    fun c => (fun y : Cert.Kernel5Ideal.S2048x1024.Idx => (((inputsOf m c).dyb (y 0) (y 1) : ℝ) : EReal)),
    fun c => (fun y : Cert.Kernel5Ideal.S2x2048x1024.Idx => (((inputsOf m c).dgate (y 0) (y 1) (y 2) : ℝ) : EReal)),
    fun c => (fun y : Cert.Kernel5Ideal.S1x1024.Idx => (((inputsOf m c).dg3 (y 1) : ℝ) : EReal)),
    fun c => (fun y : Cert.Kernel5Ideal.S1x1024.Idx => (((inputsOf m c).dg2 (y 1) : ℝ) : EReal)), ?_, ?_⟩
  · refine (θ_run Cert.Kernel5Ideal.defs _ _).mono (fun _ h c => ?_) (θ_run_and (Cert.Kernel5Ideal.Merge.run_main (F := Ideal) m ρ) (Cert.Kernel5Ideal.Merge.frame (F := Ideal) m ρ))
    exact ⟨((h.1 c).1 13).trans (Cert.Kernel5Ideal.Merge.dx1_array (hA c)),
      ((h.1 c).1 14).trans (Cert.Kernel5Ideal.Merge.dmix_array (hA c)),
      ((h.1 c).1 15).trans (Cert.Kernel5Ideal.Merge.dpa_array (hA c)),
      ((h.1 c).1 16).trans (Cert.Kernel5Ideal.Merge.dpb_array (hA c)),
      ((h.1 c).1 17).trans (Cert.Kernel5Ideal.Merge.dya_array (hA c)),
      ((h.1 c).1 18).trans (Cert.Kernel5Ideal.Merge.dyb_array (hA c)),
      ((h.1 c).1 19).trans (Cert.Kernel5Ideal.Merge.dgate_array (hA c)),
      ((h.1 c).1 20).trans (Cert.Kernel5Ideal.Merge.dg3_array (hA c)),
      ((h.1 c).1 21).trans (Cert.Kernel5Ideal.Merge.dg2_array (hA c)), h.2.1 c⟩
  · refine (θ_run Cert.Reference5Ideal.defs _ _).mono (fun _ h c => ?_) (Cert.Reference5Ideal.Value.run (F := Ideal) m' ρ')
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
    · funext y
      idx_vars y
      exact Cert.Reference5Ideal.Merge.r0 (hR c) y0 y1
    · funext y
      idx_vars y
      exact Cert.Reference5Ideal.Merge.r1 (hR c) y0 y1
    · funext y
      idx_vars y
      exact Cert.Reference5Ideal.Merge.r2 (hR c) y0 y1
    · funext y
      idx_vars y
      exact Cert.Reference5Ideal.Merge.r3 (hR c) y0 y1
    · funext y
      idx_vars y
      exact Cert.Reference5Ideal.Merge.r4 (hR c) y0 y1
    · funext y
      idx_vars y
      exact Cert.Reference5Ideal.Merge.r5 (hR c) y0 y1
    · funext y
      idx_vars y
      exact Cert.Reference5Ideal.Merge.r6 (hR c) y0 y1 y2
    · funext y
      idx_vars y
      exact Cert.Reference5Ideal.Merge.r7 (hR c) y0 y1
    · funext y
      idx_vars y
      exact Cert.Reference5Ideal.Merge.r8 (hR c) y0 y1

end Cert.Proof.Merge

end
-- ==== Proof.InProj.Closed.lean ====
/- The closed forms of the gradient through the seven input projections and the norm before them. -/
module

public import proofs.«01_k».proof.Proof.Steps.Norm
public import Idealize.ShloMosaic.Lib.Pipeline.ValueKit.Acc

@[expose] public section

noncomputable section

namespace Cert.Proof.InProj

open Cert.Proof.Reals

/-- Column `k` of section `s` of the projections. -/
def col (s : Fin 7) (k : Fin 1024) : Fin 7168 := ⟨1024 * s.val + k.val, by omega⟩

/-! The sections a stack's slices are: the first stack's … -/
theorem conv_lt (s : Fin 3) : s.val < 7 := by omega
/-- … the second's … -/
theorem lru_lt (s : Fin 2) : 3 + s.val < 7 := by omega
/-- … and the third's. -/
theorem gate_lt (s : Fin 2) : 5 + s.val < 7 := by omega

section Rows

variable (ct : Fin 2048 → Fin 7168 → ℝ) (w : Fin 1024 → Fin 7168 → ℝ) (x : Fin 2048 → Fin 1024 → ℝ) (g : Fin 1024 → ℝ)

/-- The gradient at the normed row: the cotangent times the transposed matrix. -/
def dh (n : Fin 2048) (d : Fin 1024) : ℝ := ∑ q : Fin 7168, ct n q * w d q

/-- One section's part of it. -/
def part (n : Fin 2048) (d : Fin 1024) (s : ℕ) : ℝ := if h : s < 7 then ∑ k, ct n (col ⟨s, h⟩ k) * w d (col ⟨s, h⟩ k) else 0

/-- The sections' parts make the gradient. -/
theorem part_all (n : Fin 2048) (d : Fin 1024) : ∑ s ∈ Finset.range 7, part ct w n d s = dh ct w n d := by
  have e := Fin.sum_univ_univ_mul_add 7 1024 fun l => if h : l < 7168 then ct n ⟨l, h⟩ * w d ⟨l, h⟩ else 0
  rw [Finset.sum_range]
  refine Eq.trans (Finset.sum_congr rfl fun s _ => (dif_pos s.isLt).trans (Finset.sum_congr rfl fun k _ => ?_)) (e.trans (Finset.sum_congr rfl fun l _ => dif_pos l.isLt))
  rw [dif_pos (show s.val * 1024 + k.val < 7168 by omega)]
  have hc : col ⟨s.val, s.isLt⟩ k = ⟨s.val * 1024 + k.val, by omega⟩ := Fin.ext (by simp only [col]; omega)
  rw [hc]

/-- What the norm adds to the first result. -/
def dxNorm (n : Fin 2048) (d : Fin 1024) : ℝ := normBack (x n) (fun d => dh ct w n d * g d) d

/-- A row's part of the gradient of the norm's scale. -/
def gainTerm (d : Fin 1024) (n : Fin 2048) : ℝ := dh ct w n d * (x n d * root (x n))

/-- The gradient of the norm's scale. -/
def gain (d : Fin 1024) : ℝ := ∑ n, gainTerm ct w x d n

end Rows

end Cert.Proof.InProj

end
-- ==== Proof.InProj.Block.lean ====
/- One block of 1024 rows of the kernel, from finite inputs: what each stored value is, as a real number. -/
module

public import proofs.«01_k».proof.Proof.InProj.Closed
public import proofs.«01_k».proof.Proof.Gen.Kernel6Ideal.Skeleton
public import Idealize.ShloMosaic.PureOps.IdealRules

@[expose] public section

set_option maxRecDepth 16384

noncomputable section

namespace Cert.Kernel6Ideal.InProj

open Cert.Kernel6Ideal Cert.Kernel6Ideal.Gen Idealize.ShloMosaic Idealize.ShloMosaic.TcCoe
open Cert.Proof.Reals Cert.Proof.InProj

/-- The three stacks' sections are added by the same operations. -/
theorem add_lru (a : Vec Ideal S1024x1024 .f32) (b : Vec Ideal S1x1024x1024 .bf16) (w : Vec Ideal S1024x1024 .bf16) : k0_pay4 a b w = k0_pay3 a b w := rfl
theorem add_gate (a : Vec Ideal S1024x1024 .f32) (b : Vec Ideal S1x1024x1024 .bf16) (w : Vec Ideal S1024x1024 .bf16) : k0_pay5 a b w = k0_pay3 a b w := rfl

/-- A section added to the sum. -/
theorem add_real {a : Vec Ideal S1024x1024 .f32} {b : Vec Ideal S1x1024x1024 .bf16} {w : Vec Ideal S1024x1024 .bf16} {aR bR wR : Fin 1024 → Fin 1024 → ℝ}
    (ha : ∀ r d, a (ix2 r d) = ((aR r d : ℝ) : EReal)) (hb : ∀ z r k, b (ix3 z r k) = ((bR r k : ℝ) : EReal)) (hw : ∀ d k, w (ix2 d k) = ((wR d k : ℝ) : EReal))
    (r d : Fin 1024) : k0_pay3 a b w (ix2 r d) = ((aR r d + ∑ k, bR r k * wR d k : ℝ) : EReal) := by
  pointwise [k0_pay3]
  simp only [ha, hb, hw, ← EReal.coe_mul, coe_sum, ← EReal.coe_add]

theorem zero_real (r d : Fin 1024) : k0_pay2 (F := Ideal) (ix2 r d) = ((0 : ℝ) : EReal) := by
  pointwise [k0_pay2]
  rfl

theorem zero_gain (z : Fin 1) (d : Fin 1024) : k0_pay1 (F := Ideal) (ix2 z d) = ((0 : ℝ) : EReal) := by
  pointwise [k0_pay1]
  rfl

section Norm

variable {x4 : Vec Ideal S1024x1024 .f32} {x : Fin 1024 → Fin 1024 → ℝ} (hx : ∀ r d, x4 (ix2 r d) = ((x r d : ℝ) : EReal))
include hx

/-- The reciprocal root of a row. -/
theorem root_real (r : Fin 1024) (z : Fin 1) : k0_pay6 x4 (ix2 r z) = ((root (x r) : ℝ) : EReal) := by
  pointwise [k0_pay6]
  simp only [hx, ← EReal.coe_mul, coe_sum, meanSq_coe, root_coe]

/-- A row over its root. -/
theorem normed_real (r d : Fin 1024) : k0_pay7 x4 (ix2 r d) = ((x r d * root (x r) : ℝ) : EReal) := by
  have e := root_real hx
  unfold k0_pay7
  generalize k0_pay6 x4 = u at e
  pointwise
  rw [e, hx, ← EReal.coe_mul]

variable {a : Vec Ideal S1024x1024 .f32} {h : Fin 1024 → Fin 1024 → ℝ} (ha : ∀ r d, a (ix2 r d) = ((h r d : ℝ) : EReal))
include ha

/-- What a block adds to the second result. -/
theorem gain_real (v : Vec Ideal S1x1024 .f32) (z : Fin 1) (d : Fin 1024) :
    k0_pay8 x4 a v (ix2 z d) = v (ix2 z d) + ((∑ r, h r d * (x r d * root (x r)) : ℝ) : EReal) := by
  have e := normed_real hx
  unfold k0_pay8
  generalize k0_pay7 x4 = u at e
  pointwise
  simp only [ha, e, ← EReal.coe_mul, coe_sum]

/-- The first result's block. -/
theorem dx_real {x6 : Vec Ideal S1x1024 .f32} {g : Fin 1024 → ℝ} (hg : ∀ z d, x6 (ix2 z d) = ((g d : ℝ) : EReal)) (x5 : Vec Ideal S1024x1024 .f32) (r d : Fin 1024) :
    k0_pay9 x4 a x5 x6 (ix2 r d) = x5 (ix2 r d) + ((normBack (x r) (fun d => h r d * g d) d : ℝ) : EReal) := by
  have e := normed_real hx
  have e' := root_real hx
  unfold k0_pay9
  generalize k0_pay7 x4 = u at e
  generalize k0_pay6 x4 = u' at e'
  pointwise
  simp only [ha, hg, e, e', word_1024, ← EReal.coe_mul, coe_sum]
  rw [coe_div (by norm_num)]
  simp only [← EReal.coe_mul, ← EReal.coe_sub]; rfl

end Norm

end Cert.Kernel6Ideal.InProj

end
-- ==== Proof.InProj.Stored.lean ====
/- What each kind of grid point leaves in the kernel's two buffers that it carries and in the first result's, as the stored values. -/
module

public import proofs.«01_k».proof.Proof.InProj.Block
public import proofs.«01_k».proof.Proof.Gen.Kernel6Ideal.Frame
public import Idealize.ShloMosaic.Lib.Pipeline.ValueKit
public import Idealize.ShloMosaic.Lib.Pipeline.ReadBack
public import Idealize.ShloMosaic.Lib.VecWindow

@[expose] public section

set_option maxRecDepth 16384

noncomputable section

namespace Cert.Kernel6Ideal.InProj

open Cert.Kernel6Ideal Cert.Kernel6Ideal.Gen Idealize.ShloMosaic Idealize.ShloMosaic.TcCoe
open Cert.Proof.Reals Cert.Proof.InProj

/-- A load of a whole block of two axes is the block … -/
theorem whole {n k : ℕ} {e : EltTy} (v : Vec Ideal { rank := 2, size := ![n, k] } e)
    (inb : ∀ b, (![0, 0] : Fin 2 → ℕ) b + (![n, k] : Fin 2 → ℕ) b ≤ (![n, k] : Fin 2 → ℕ) b) :
    View.ld v (Rect.unit (s := { rank := 2, size := ![n, k] }) ![0, 0] ![n, k] inb) = v :=
  View.ld_unit_lit _ _ fun b => match b with | ⟨0, _⟩ => rfl | ⟨1, _⟩ => rfl

/-- … and of three. -/
theorem whole3 {l n k : ℕ} {e : EltTy} (v : Vec Ideal { rank := 3, size := ![l, n, k] } e)
    (inb : ∀ b, (![0, 0, 0] : Fin 3 → ℕ) b + (![l, n, k] : Fin 3 → ℕ) b ≤ (![l, n, k] : Fin 3 → ℕ) b) :
    View.ld v (Rect.unit (s := { rank := 3, size := ![l, n, k] }) ![0, 0, 0] ![l, n, k] inb) = v :=
  View.ld_unit_lit _ _ fun b => match b with | ⟨0, _⟩ => rfl | ⟨1, _⟩ => rfl | ⟨2, _⟩ => rfl

variable (c : Dev nD) (i : grid0.Coords) (arg2 : Memref sig .tc .vmem S1x1024x1024 .bf16) (harg2 : arg2.IsWhole) (arg3 : Memref sig .tc .vmem S1x1024x1024 .bf16) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole)
  (x0 x1 x2 : Vec Ideal S1x1024x1024 .bf16) (x3 : Vec Ideal S1024x1024 .bf16) (x4 x5 : Vec Ideal S1024x1024 .f32) (x6 : Vec Ideal S1x1024 .f32)
  (o : Vec Ideal S1x1024 .f32) (a : Vec Ideal S1024x1024 .f32)

/-- At the first point the scale's gradient is cleared … -/
theorem gain_clear (hc0 : cond0_0 i) (hc1 : cond0_1 i) (hc2 : cond0_2 i) (hc3 : ¬cond0_3 i) (hc4 : ¬cond0_4 i) (hc5 : ¬cond0_5 i) :
    View.canon (kernelRun0_A c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6).2.1 = k0_pay1 (F := Ideal) := by
  unfold kernelRun0_A
  dsimp only
  rw [View.canon_cons_unit_lit _ _ _ (by decide)]

/-- … and the first section is stored over zeros, as at the first point of the other block. -/
theorem sum_first (hc0 : cond0_0 i) (hc1 : cond0_1 i) (hc2 : cond0_2 i) (hc3 : ¬cond0_3 i) (hc4 : ¬cond0_4 i) (hc5 : ¬cond0_5 i) :
    View.canon (kernelRun0_A c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6).2.2.1 = k0_pay3 (k0_pay2 (F := Ideal)) x0 x3 := by
  unfold kernelRun0_A
  dsimp only
  rw [View.canon_cons_unit_lit _ _ _ (by decide)]
  sl_unfold_words
  simp only [View.readAt_eq_ld, harg2.read_unread, harg3.read_unread, harg4.read_unread, harg5.read_unread, harg6.read_unread, harg7.read_unread, harg8.read_unread, harg10.read_unread, harg11.read_unread, whole, whole3]
  rw [View.readCov_full]

/-- The first point of the second block. -/
theorem sum_again (hc0 : ¬cond0_0 i) (hc1 : cond0_1 i) (hc2 : cond0_2 i) (hc3 : ¬cond0_3 i) (hc4 : ¬cond0_4 i) (hc5 : ¬cond0_5 i) :
    View.canon (kernelRun0_F c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6).2.2.1 = k0_pay3 (k0_pay2 (F := Ideal)) x0 x3 := by
  unfold kernelRun0_F
  dsimp only
  rw [View.canon_cons_unit_lit _ _ _ (by decide)]
  sl_unfold_words
  simp only [View.readAt_eq_ld, harg2.read_unread, harg3.read_unread, harg4.read_unread, harg5.read_unread, harg6.read_unread, harg7.read_unread, harg8.read_unread, harg10.read_unread, harg11.read_unread, whole, whole3]
  rw [View.readCov_full]

/-- A later section of the first stack is added … -/
theorem sum_conv (hc0 : ¬cond0_0 i) (hc1 : ¬cond0_1 i) (hc2 : cond0_2 i) (hc3 : ¬cond0_3 i) (hc4 : ¬cond0_4 i) (hc5 : ¬cond0_5 i) :
    View.canon (kernelRun0_B c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6 a).2.2.1 = k0_pay3 a x0 x3 := by
  unfold kernelRun0_B
  dsimp only
  rw [View.canon_cons_unit_lit _ _ _ (by decide)]
  sl_unfold_words
  simp only [View.readAt_eq_ld, harg2.read_unread, harg3.read_unread, harg4.read_unread, harg5.read_unread, harg6.read_unread, harg7.read_unread, harg8.read_unread, harg10.read_unread, harg11.read_unread, whole, whole3]

/-- … of the second … -/
theorem sum_lru (hc0 : ¬cond0_0 i) (hc1 : ¬cond0_1 i) (hc2 : ¬cond0_2 i) (hc3 : cond0_3 i) (hc4 : ¬cond0_4 i) (hc5 : ¬cond0_5 i) :
    View.canon (kernelRun0_C c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6 a).2.2.1 = k0_pay4 a x1 x3 := by
  unfold kernelRun0_C
  dsimp only
  rw [View.canon_cons_unit_lit _ _ _ (by decide)]
  sl_unfold_words
  simp only [View.readAt_eq_ld, harg2.read_unread, harg3.read_unread, harg4.read_unread, harg5.read_unread, harg6.read_unread, harg7.read_unread, harg8.read_unread, harg10.read_unread, harg11.read_unread, whole, whole3]

/-- … of the third … -/
theorem sum_gate (hc0 : ¬cond0_0 i) (hc1 : ¬cond0_1 i) (hc2 : ¬cond0_2 i) (hc3 : ¬cond0_3 i) (hc4 : cond0_4 i) (hc5 : ¬cond0_5 i) :
    View.canon (kernelRun0_D c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6 a).2.2.1 = k0_pay5 a x2 x3 := by
  unfold kernelRun0_D
  dsimp only
  rw [View.canon_cons_unit_lit _ _ _ (by decide)]
  sl_unfold_words
  simp only [View.readAt_eq_ld, harg2.read_unread, harg3.read_unread, harg4.read_unread, harg5.read_unread, harg6.read_unread, harg7.read_unread, harg8.read_unread, harg10.read_unread, harg11.read_unread, whole, whole3]

/-- … and the last of it. -/
theorem sum_last (hc0 : ¬cond0_0 i) (hc1 : ¬cond0_1 i) (hc2 : ¬cond0_2 i) (hc3 : ¬cond0_3 i) (hc4 : cond0_4 i) (hc5 : cond0_5 i) :
    View.canon (kernelRun0_E c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6 o a).2.2.1 = k0_pay5 a x2 x3 := by
  unfold kernelRun0_E
  dsimp only
  sl_unfold_words
  rw [View.canon_cons_unit_lit _ _ _ (by decide)]
  simp only [View.readAt_eq_ld, harg2.read_unread, harg3.read_unread, harg4.read_unread, harg5.read_unread, harg6.read_unread, harg7.read_unread, harg8.read_unread, harg10.read_unread, harg11.read_unread, whole, whole3]

/-- A block's last point adds to the scale's gradient … -/
theorem gain_stored (hc0 : ¬cond0_0 i) (hc1 : ¬cond0_1 i) (hc2 : ¬cond0_2 i) (hc3 : ¬cond0_3 i) (hc4 : cond0_4 i) (hc5 : cond0_5 i) :
    View.canon (kernelRun0_E c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6 o a).2.1 = k0_pay8 x4 (k0_pay5 a x2 x3) o := by
  unfold kernelRun0_E
  dsimp only
  rw [View.canon_cons_unit_lit _ _ _ (by decide)]
  sl_unfold_words
  simp only [View.readAt_eq_ld, harg2.read_unread, harg3.read_unread, harg4.read_unread, harg5.read_unread, harg6.read_unread, harg7.read_unread, harg8.read_unread, harg10.read_unread, harg11.read_unread, whole, whole3]
  rw [View.readCov_full]

/-- … and stores the first result. -/
theorem dx_stored (hc0 : ¬cond0_0 i) (hc1 : ¬cond0_1 i) (hc2 : ¬cond0_2 i) (hc3 : ¬cond0_3 i) (hc4 : cond0_4 i) (hc5 : cond0_5 i) :
    View.canon (kernelRun0_E c i arg2 harg2 arg3 harg3 arg4 harg4 arg5 harg5 arg6 harg6 arg7 harg7 arg8 harg8 arg9 harg9 arg10 harg10 arg11 harg11 hc0 hc1 hc2 hc3 hc4 hc5 x0 x1 x2 x3 x4 x5 x6 o a).1 = k0_pay9 x4 (k0_pay5 a x2 x3) x5 x6 := by
  unfold kernelRun0_E
  dsimp only
  rw [View.canon_cons_unit_lit _ _ _ (by decide)]
  sl_unfold_words
  simp only [View.readAt_eq_ld, harg2.read_unread, harg3.read_unread, harg4.read_unread, harg5.read_unread, harg6.read_unread, harg7.read_unread, harg8.read_unread, harg10.read_unread, harg11.read_unread, whole, whole3]
  rw [View.readCov_full]

end Cert.Kernel6Ideal.InProj

end
-- ==== Proof.InProj.Inputs.lean ====
/- The kernel's blocks at a grid point, from finite arguments. -/
module

public import proofs.«01_k».proof.Proof.InProj.Stored

@[expose] public section

set_option maxRecDepth 16384

noncomputable section

namespace Cert.Kernel6Ideal.InProj

open Cert.Kernel6Ideal Cert.Kernel6Ideal.Gen Idealize.ShloMosaic Idealize.ShloMosaic.TcCoe
open Cert.Proof.Reals Cert.Proof.InProj

variable (m : (ℓ : Loc nD τ sig) → Buf (Elt Ideal) ℓ) (c : Dev nD)

/-- The arguments are these numbers; the one added to the first result may be infinite. -/
structure Args (ct : Fin 2048 → Fin 7168 → ℝ) (w : Fin 1024 → Fin 7168 → ℝ) (x : Fin 2048 → Fin 1024 → ℝ) (y : Fin 2048 → Fin 1024 → EReal) (g : Fin 1024 → ℝ) : Prop where
  conv : ∀ (s : Fin 3) n k, (m ((c : Thread nD τ).loc main_arg0) : Vec Ideal S3x2048x1024 .bf16) (ix3 s n k) = ((ct n (col ⟨s.val, conv_lt s⟩ k) : ℝ) : EReal)
  lru : ∀ (s : Fin 2) n k, (m ((c : Thread nD τ).loc main_arg1) : Vec Ideal S2x2048x1024 .bf16) (ix3 s n k) = ((ct n (col ⟨3 + s.val, lru_lt s⟩ k) : ℝ) : EReal)
  gate : ∀ (s : Fin 2) n k, (m ((c : Thread nD τ).loc main_arg2) : Vec Ideal S2x2048x1024 .bf16) (ix3 s n k) = ((ct n (col ⟨5 + s.val, gate_lt s⟩ k) : ℝ) : EReal)
  matrix : ∀ d q, (m ((c : Thread nD τ).loc main_arg3) : Vec Ideal S1024x7168 .bf16) (ix2 d q) = ((w d q : ℝ) : EReal)
  residual : ∀ n d, (m ((c : Thread nD τ).loc main_arg4) : Vec Ideal S2048x1024 .f32) (ix2 n d) = ((x n d : ℝ) : EReal)
  added : ∀ n d, (m ((c : Thread nD τ).loc main_arg5) : Vec Ideal S2048x1024 .f32) (ix2 n d) = y n d
  scale : ∀ d, (m ((c : Thread nD τ).loc main_arg6) : Vec Ideal S1024 .f32) (ix1 d) = ((g d : ℝ) : EReal)

/-- The rows of block `j`. -/
def row (j : Fin 2) (r : Fin 1024) : Fin 2048 := ⟨1024 * j.val + r.val, by omega⟩

/-- A grid point's block of rows … -/
def blockOf (t : Fin cfg0.N) : Fin 2 := ⟨t.val / 7, by have : t.val < 14 := t.isLt; omega⟩

/-- … and its section. -/
def sectionOf (t : Fin cfg0.N) : Fin 7 := ⟨t.val % 7, Nat.mod_lt _ (by decide)⟩

/-- Which block of each array a grid point reads … -/
theorem idx_rows : ∀ t : Fin cfg0.N, win0_3.index t 0 = 0 ∧ win0_3.index t 1 = t.val % 7 ∧ win0_4.index t 0 = t.val / 7 ∧ win0_4.index t 1 = 0 ∧ win0_5.index t 0 = t.val / 7 ∧ win0_5.index t 1 = 0 ∧ win0_6.index t 0 = 0 ∧ win0_6.index t 1 = 0 :=
  (by decide +kernel : ∀ t : Fin grid0.N, _)

theorem idx_stack0 : ∀ t : Fin cfg0.N, t.val % 7 ≤ 2 → win0_0.index t 0 = t.val % 7 ∧ win0_0.index t 1 = t.val / 7 ∧ win0_0.index t 2 = 0 :=
  (by decide +kernel : ∀ t : Fin grid0.N, _)

theorem idx_stack1 : ∀ t : Fin cfg0.N, 3 ≤ t.val % 7 ∧ t.val % 7 ≤ 4 → win0_1.index t 0 = t.val % 7 - 3 ∧ win0_1.index t 1 = t.val / 7 ∧ win0_1.index t 2 = 0 :=
  (by decide +kernel : ∀ t : Fin grid0.N, _)

theorem idx_stack2 : ∀ t : Fin cfg0.N, 5 ≤ t.val % 7 → win0_2.index t 0 = t.val % 7 - 5 ∧ win0_2.index t 1 = t.val / 7 ∧ win0_2.index t 2 = 0 :=
  (by decide +kernel : ∀ t : Fin grid0.N, _)

/-- … and writes. -/
theorem idx_results : ∀ t : Fin cfg0.N, win0_7.index t 0 = t.val / 7 ∧ win0_7.index t 1 = 0 ∧ win0_8.index t 0 = 0 ∧ win0_8.index t 1 = 0 :=
  (by decide +kernel : ∀ t : Fin grid0.N, _)

section Inputs

variable {m c} {ct : Fin 2048 → Fin 7168 → ℝ} {w : Fin 1024 → Fin 7168 → ℝ} {x : Fin 2048 → Fin 1024 → ℝ} {y : Fin 2048 → Fin 1024 → EReal} {g : Fin 1024 → ℝ}
  (hA : Args m c ct w x y g)
include hA

/-- The norm's scale, as the host's line leaves it. -/
theorem hostScale (z : Fin 1) (d : Fin 1024) : (V m c main_v0 : Vec Ideal S1x1024 .f32) (ix2 z d) = ((g d : ℝ) : EReal) := by
  have h := hA.scale
  unfold V hostOps0
  after_results_simp
  generalize m ((c : Thread nD τ).loc main_arg6) = A at h
  change Vec Ideal S1024 .f32 at A
  pointwise
  exact h d

theorem block0 (t : Fin cfg0.N) (hs : t.val % 7 ≤ 2) (z : Fin 1) (r k : Fin 1024) :
    (iblk m c 0 t : Vec Ideal S1x1024x1024 .bf16) (ix3 z r k) = ((ct (row (blockOf t) r) (col (sectionOf t) k) : ℝ) : EReal) := by
  obtain ⟨h0, h1, h2⟩ := idx_stack0 t hs
  have hs7 : t.val % 7 < 7 := Nat.mod_lt _ (by decide)
  have e := hA.conv ⟨t.val % 7, by omega⟩ (row (blockOf t) r) k
  rw [show (⟨(t.val % 7), by omega⟩ : Fin 7) = sectionOf t from Fin.ext (by simp only [sectionOf])] at e
  rw [← e, ← V_main_arg0 m c]
  blk_simp [iblk, h0, h1, h2]
  blk_ext
  all_goals (simp only [h0, h1, h2, row, blockOf]; omega)

theorem block1 (t : Fin cfg0.N) (hs : 3 ≤ t.val % 7 ∧ t.val % 7 ≤ 4) (z : Fin 1) (r k : Fin 1024) :
    (iblk m c 1 t : Vec Ideal S1x1024x1024 .bf16) (ix3 z r k) = ((ct (row (blockOf t) r) (col (sectionOf t) k) : ℝ) : EReal) := by
  obtain ⟨h0, h1, h2⟩ := idx_stack1 t hs
  have hs7 : t.val % 7 < 7 := Nat.mod_lt _ (by decide)
  have e := hA.lru ⟨t.val % 7 - 3, by omega⟩ (row (blockOf t) r) k
  rw [show (⟨3 + (t.val % 7 - 3), by omega⟩ : Fin 7) = sectionOf t from Fin.ext (by simp only [sectionOf]; omega)] at e
  rw [← e, ← V_main_arg1 m c]
  blk_simp [iblk, h0, h1, h2]
  blk_ext
  all_goals (simp only [h0, h1, h2, row, blockOf]; omega)

theorem block2 (t : Fin cfg0.N) (hs : 5 ≤ t.val % 7) (z : Fin 1) (r k : Fin 1024) :
    (iblk m c 2 t : Vec Ideal S1x1024x1024 .bf16) (ix3 z r k) = ((ct (row (blockOf t) r) (col (sectionOf t) k) : ℝ) : EReal) := by
  obtain ⟨h0, h1, h2⟩ := idx_stack2 t hs
  have hs7 : t.val % 7 < 7 := Nat.mod_lt _ (by decide)
  have e := hA.gate ⟨t.val % 7 - 5, by omega⟩ (row (blockOf t) r) k
  rw [show (⟨5 + (t.val % 7 - 5), by omega⟩ : Fin 7) = sectionOf t from Fin.ext (by simp only [sectionOf]; omega)] at e
  rw [← e, ← V_main_arg2 m c]
  blk_simp [iblk, h0, h1, h2]
  blk_ext
  all_goals (simp only [h0, h1, h2, row, blockOf]; omega)

theorem block3 (t : Fin cfg0.N) (d k : Fin 1024) : (iblk m c 3 t : Vec Ideal S1024x1024 .bf16) (ix2 d k) = ((w d (col (sectionOf t) k) : ℝ) : EReal) := by
  obtain ⟨h, z, -⟩ := idx_rows t
  rw [← hA.matrix, ← V_main_arg3 m c]
  blk_simp [iblk, h, z]
  blk_ext
  all_goals (simp only [h, z, col, sectionOf]; omega)

theorem block4 (t : Fin cfg0.N) (r d : Fin 1024) : (iblk m c 4 t : Vec Ideal S1024x1024 .f32) (ix2 r d) = ((x (row (blockOf t) r) d : ℝ) : EReal) := by
  obtain ⟨-, -, h, z, -⟩ := idx_rows t
  rw [← hA.residual, ← V_main_arg4 m c]
  blk_simp [iblk, h, z]
  blk_ext
  all_goals (simp only [h, z, row, blockOf]; omega)

theorem block5 (t : Fin cfg0.N) (r d : Fin 1024) : (iblk m c 5 t : Vec Ideal S1024x1024 .f32) (ix2 r d) = y (row (blockOf t) r) d := by
  obtain ⟨-, -, -, -, h, z, -⟩ := idx_rows t
  rw [← hA.added, ← V_main_arg5 m c]
  blk_simp [iblk, h, z]
  blk_ext
  all_goals (simp only [h, z, row, blockOf]; omega)

theorem block6 (t : Fin cfg0.N) (z' : Fin 1) (d : Fin 1024) : (iblk m c 6 t : Vec Ideal S1x1024 .f32) (ix2 z' d) = ((g d : ℝ) : EReal) := by
  obtain ⟨-, -, -, -, -, -, h, z⟩ := idx_rows t
  rw [← hostScale hA z']
  blk_simp [iblk, h, z]
  blk_ext
  all_goals (simp only [h, z]; omega)

end Inputs

end Cert.Kernel6Ideal.InProj

end
-- ==== Proof.InProj.Arrays.lean ====
/- The kernel's two result arrays after the run, from finite arguments: the closed forms. -/
module

public import proofs.«01_k».proof.Proof.InProj.Inputs

@[expose] public section

set_option maxRecDepth 16384

noncomputable section

namespace Cert.Kernel6Ideal.InProj

open Cert.Kernel6Ideal Cert.Kernel6Ideal.Gen Idealize.ShloMosaic Idealize.ShloMosaic.TcCoe Idealize.SL.Sem
open Cert.Proof.Reals Cert.Proof.InProj

variable {m : (ℓ : Loc nD τ sig) → Buf (Elt Ideal) ℓ} {c : Dev nD}
  {ct : Fin 2048 → Fin 7168 → ℝ} {w : Fin 1024 → Fin 7168 → ℝ} {x : Fin 2048 → Fin 1024 → ℝ} {y : Fin 2048 → Fin 1024 → EReal} {g : Fin 1024 → ℝ}
  (hA : Args m c ct w x y g)

section Sum

include hA

/-- A section's block added to a sum at a grid point. -/
theorem add_at (t : Fin cfg0.N) {b : Vec Ideal S1x1024x1024 .bf16} (hb : ∀ z r k, b (ix3 z r k) = ((ct (row (blockOf t) r) (col (sectionOf t) k) : ℝ) : EReal))
    {a : Vec Ideal S1024x1024 .f32} {aR : Fin 1024 → Fin 1024 → ℝ} (ha : ∀ r d, a (ix2 r d) = ((aR r d : ℝ) : EReal)) (r d : Fin 1024) :
    k0_pay3 a b (iblk m c 3 t) (ix2 r d) = ((aR r d + part ct w (row (blockOf t) r) d (t.val % 7) : ℝ) : EReal) := by
  rw [add_real (bR := fun r k => ct (row (blockOf t) r) (col (sectionOf t) k)) (wR := fun d k => w d (col (sectionOf t) k)) ha hb (block3 hA t),
    part, dif_pos (Nat.mod_lt _ (by decide))]
  rfl

/-- A block's first point leaves the first section's part in the carried buffer. -/
theorem sum_at_first (t : Fin cfg0.N) (h1 : t.val % 7 = 0) (r d : Fin 1024) :
    (outsAt0 m c t.val t.isLt).2.2 (ix2 r d) = ((0 + part ct w (row (blockOf t) r) d (t.val % 7) : ℝ) : EReal) := by
  have h2 : t.val % 7 ≤ 2 := by omega
  have h3 : ¬(3 ≤ t.val % 7 ∧ t.val % 7 ≤ 4) := by omega
  have h4 : ¬5 ≤ t.val % 7 := by omega
  have h5 : ¬t.val % 7 = 6 := by omega
  have e := add_at hA t (block0 hA t h2) zero_real r d
  by_cases h0 : t.val % 14 = 0
  · rw [outsAt0_A m c t h0 h1 h2 h3 h4 h5]
    unfold sout0_A_0
    dsimp only
    rw [View.read_writes_eq_canon _ _ _ (scover0_A_0 c _ _ _ _ _ _ _ _ _ _ _ _ _ _ _ _ _ _ _ _ _ _ _ _ _ _ _ _ _ _ _ _ _ _), sum_first]
    exact e
  · rw [outsAt0_F m c t h0 h1 h2 h3 h4 h5]
    unfold sout0_F_0
    dsimp only
    rw [View.read_writes_eq_canon _ _ _ (scover0_F_0 c _ _ _ _ _ _ _ _ _ _ _ _ _ _ _ _ _ _ _ _ _ _ _ _ _ _ _ _ _ _ _ _ _ _), sum_again]
    exact e

/-- A later point adds its section's part. -/
theorem sum_at_later (t : Fin cfg0.N) (h1 : ¬t.val % 7 = 0) {aR : Fin 1024 → Fin 1024 → ℝ}
    (ha : ∀ r d, (outsAt0 m c (t.val - 1) (Nat.lt_of_le_of_lt (Nat.sub_le _ _) t.isLt)).2.2 (ix2 r d) = ((aR r d : ℝ) : EReal)) (r d : Fin 1024) :
    (outsAt0 m c t.val t.isLt).2.2 (ix2 r d) = ((aR r d + part ct w (row (blockOf t) r) d (t.val % 7) : ℝ) : EReal) := by
  have hs : t.val % 7 < 7 := Nat.mod_lt _ (by decide)
  have h0 : ¬t.val % 14 = 0 := by omega
  by_cases h2 : t.val % 7 ≤ 2
  · have h3 : ¬(3 ≤ t.val % 7 ∧ t.val % 7 ≤ 4) := by omega
    have h4 : ¬5 ≤ t.val % 7 := by omega
    have h5 : ¬t.val % 7 = 6 := by omega
    have e := add_at hA t (block0 hA t h2) ha r d
    rw [outsAt0_B m c t h0 h1 h2 h3 h4 h5]
    unfold sout0_B_0
    dsimp only
    rw [View.read_writes_eq_canon _ _ _ (scover0_B_0 c _ _ _ _ _ _ _ _ _ _ _ _ _ _ _ _ _ _ _ _ _ _ _ _ _ _ _ _ _ _ _ _ _ _ _), sum_conv]
    exact e
  · by_cases h3 : 3 ≤ t.val % 7 ∧ t.val % 7 ≤ 4
    · have h4 : ¬5 ≤ t.val % 7 := by omega
      have h5 : ¬t.val % 7 = 6 := by omega
      have e := add_at hA t (block1 hA t h3) ha r d
      rw [outsAt0_C m c t h0 h1 h2 h3 h4 h5]
      unfold sout0_C_0
      dsimp only
      rw [View.read_writes_eq_canon _ _ _ (scover0_C_0 c _ _ _ _ _ _ _ _ _ _ _ _ _ _ _ _ _ _ _ _ _ _ _ _ _ _ _ _ _ _ _ _ _ _ _), sum_lru, add_lru]
      exact e
    · have h4 : 5 ≤ t.val % 7 := by omega
      have e := add_at hA t (block2 hA t h4) ha r d
      by_cases h5 : t.val % 7 = 6
      · rw [outsAt0_E m c t h0 h1 h2 h3 h4 h5]
        unfold sout0_E_0
        dsimp only
        rw [View.read_writes_eq_canon _ _ _ (scover0_E_0 c _ _ _ _ _ _ _ _ _ _ _ _ _ _ _ _ _ _ _ _ _ _ _ _ _ _ _ _ _ _ _ _ _ _ _ _), sum_last, add_gate]
        exact e
      · rw [outsAt0_D m c t h0 h1 h2 h3 h4 h5]
        unfold sout0_D_0
        dsimp only
        rw [View.read_writes_eq_canon _ _ _ (scover0_D_0 c _ _ _ _ _ _ _ _ _ _ _ _ _ _ _ _ _ _ _ _ _ _ _ _ _ _ _ _ _ _ _ _ _ _ _), sum_gate, add_gate]
        exact e

/-- After every point the carried buffer holds the sum of the block's sections so far. -/
theorem sum_at (n : ℕ) : ∀ hn : n < cfg0.N, ∀ r d,
    (outsAt0 m c n hn).2.2 (ix2 r d) = ((∑ s ∈ Finset.range (n % 7 + 1), part ct w (row (blockOf ⟨n, hn⟩) r) d s : ℝ) : EReal) := by
  induction n with
  | zero =>
    intro hn r d
    refine (sum_at_first hA ⟨0, hn⟩ (Nat.zero_mod 7) r d).trans ?_
    rw [zero_add, Nat.zero_mod, Finset.sum_range_one]
  | succ n ih =>
    intro hn r d
    by_cases h1 : (n + 1) % 7 = 0
    · refine (sum_at_first hA ⟨n + 1, hn⟩ h1 r d).trans ?_
      rw [zero_add]
      dsimp only
      rw [h1, Finset.sum_range_one]
    · refine (sum_at_later hA ⟨n + 1, hn⟩ h1 (ih (Nat.lt_of_succ_lt hn)) r d).trans ?_
      have hb : blockOf ⟨n, Nat.lt_of_succ_lt hn⟩ = blockOf ⟨n + 1, hn⟩ := Fin.ext (by simp only [blockOf]; omega)
      have hs : (n + 1) % 7 = n % 7 + 1 := by omega
      rw [hb]
      dsimp only
      rw [hs, Finset.sum_range_succ _ (n % 7 + 1)]

/-- At a block's last point the sum is the gradient at the normed rows. -/
theorem last_sum (t : Fin cfg0.N) (h5 : t.val % 7 = 6) (r d : Fin 1024) :
    k0_pay5 (outsAt0 m c (t.val - 1) (Nat.lt_of_le_of_lt (Nat.sub_le _ _) t.isLt)).2.2 (iblk m c 2 t) (iblk m c 3 t) (ix2 r d) = ((dh ct w (row (blockOf t) r) d : ℝ) : EReal) := by
  rw [add_gate, add_at hA t (block2 hA t (by omega)) (sum_at hA (t.val - 1) (Nat.lt_of_le_of_lt (Nat.sub_le _ _) t.isLt)) r d]
  have hb : blockOf ⟨t.val - 1, Nat.lt_of_le_of_lt (Nat.sub_le _ _) t.isLt⟩ = blockOf t := Fin.ext (by simp only [blockOf]; omega)
  have hs : (t.val - 1) % 7 + 1 = 6 := by omega
  rw [hb, hs, h5, ← part_all, Finset.sum_range_succ _ 6]

/-- There the first result's block is stored … -/
theorem dx_at (t : Fin cfg0.N) (h5 : t.val % 7 = 6) (r d : Fin 1024) :
    (outsAt0 m c t.val t.isLt).1 (ix2 r d) = y (row (blockOf t) r) d + ((dxNorm ct w x g (row (blockOf t) r) d : ℝ) : EReal) := by
  have h0 : ¬t.val % 14 = 0 := by omega
  have h1 : ¬t.val % 7 = 0 := by omega
  have h2 : ¬t.val % 7 ≤ 2 := by omega
  have h3 : ¬(3 ≤ t.val % 7 ∧ t.val % 7 ≤ 4) := by omega
  have h4 : 5 ≤ t.val % 7 := by omega
  have e := dx_real (x := fun r => x (row (blockOf t) r)) (h := fun r => dh ct w (row (blockOf t) r)) (block4 hA t) (last_sum hA t h5) (block6 hA t) (iblk m c 5 t) r d
  rw [block5 hA t r d] at e
  rw [outsAt0_E m c t h0 h1 h2 h3 h4 h5]
  unfold out0_E_7
  dsimp only
  rw [View.read_writes_eq_canon _ _ _ (cover0_E_7 c _ _ _ _ _ _ _ _ _ _ _ _ _ _ _ _ _ _ _ _ _ _ _ _ _ _ _ _ _ _ _ _ _ _ _ _), dx_stored]
  exact e

/-- … and the block's part added to the scale's gradient. -/
theorem gain_last (t : Fin cfg0.N) (h5 : t.val % 7 = 6) (z : Fin 1) (d : Fin 1024) :
    (outsAt0 m c t.val t.isLt).2.1 (ix2 z d) = (outsAt0 m c (t.val - 1) (Nat.lt_of_le_of_lt (Nat.sub_le _ _) t.isLt)).2.1 (ix2 z d) + ((∑ r, gainTerm ct w x d (row (blockOf t) r) : ℝ) : EReal) := by
  have h0 : ¬t.val % 14 = 0 := by omega
  have h1 : ¬t.val % 7 = 0 := by omega
  have h2 : ¬t.val % 7 ≤ 2 := by omega
  have h3 : ¬(3 ≤ t.val % 7 ∧ t.val % 7 ≤ 4) := by omega
  have h4 : 5 ≤ t.val % 7 := by omega
  have e := gain_real (x := fun r => x (row (blockOf t) r)) (h := fun r => dh ct w (row (blockOf t) r)) (block4 hA t) (last_sum hA t h5) (outsAt0 m c (t.val - 1) (Nat.lt_of_le_of_lt (Nat.sub_le _ _) t.isLt)).2.1 z d
  rw [outsAt0_E m c t h0 h1 h2 h3 h4 h5]
  unfold out0_E_8
  dsimp only
  rw [View.read_writes_eq_canon _ _ _ (cover0_E_8 c _ _ _ _ _ _ _ _ _ _ _ _ _ _ _ _ _ _ _ _ _ _ _ _ _ _ _ _ _ _ _ _ _ _ _ _), gain_stored]
  exact e

omit hA in
/-- The first point clears it … -/
theorem gain_first (t : Fin cfg0.N) (h0 : t.val % 14 = 0) (z : Fin 1) (d : Fin 1024) : (outsAt0 m c t.val t.isLt).2.1 (ix2 z d) = ((0 : ℝ) : EReal) := by
  have h1 : t.val % 7 = 0 := by omega
  have h2 : t.val % 7 ≤ 2 := by omega
  have h3 : ¬(3 ≤ t.val % 7 ∧ t.val % 7 ≤ 4) := by omega
  have h4 : ¬5 ≤ t.val % 7 := by omega
  have h5 : ¬t.val % 7 = 6 := by omega
  rw [outsAt0_A m c t h0 h1 h2 h3 h4 h5]
  unfold out0_A_8
  dsimp only
  rw [View.read_writes_eq_canon _ _ _ (cover0_A_8 c _ _ _ _ _ _ _ _ _ _ _ _ _ _ _ _ _ _ _ _ _ _ _ _ _ _ _ _ _ _ _ _ _ _), gain_clear]
  exact zero_gain z d

omit hA in
/-- … and the other points leave it. -/
theorem gain_kept (t : Fin cfg0.N) (h0 : ¬t.val % 14 = 0) (h5 : ¬t.val % 7 = 6) : (outsAt0 m c t.val t.isLt).2.1 = (outsAt0 m c (t.val - 1) (Nat.lt_of_le_of_lt (Nat.sub_le _ _) t.isLt)).2.1 := by
  have hs : t.val % 7 < 7 := Nat.mod_lt _ (by decide)
  by_cases h2 : t.val % 7 ≤ 2
  · have h3 : ¬(3 ≤ t.val % 7 ∧ t.val % 7 ≤ 4) := by omega
    have h4 : ¬5 ≤ t.val % 7 := by omega
    by_cases h1 : t.val % 7 = 0
    · rw [outsAt0_F m c t h0 h1 h2 h3 h4 h5]; rfl
    · rw [outsAt0_B m c t h0 h1 h2 h3 h4 h5]; rfl
  · have h1 : ¬t.val % 7 = 0 := by omega
    by_cases h3 : 3 ≤ t.val % 7 ∧ t.val % 7 ≤ 4
    · rw [outsAt0_C m c t h0 h1 h2 h3 (by omega) h5]; rfl
    · rw [outsAt0_D m c t h0 h1 h2 h3 (by omega) h5]; rfl

end Sum

/-- A function's sum over the rows of block `j`. -/
def partSum (f : Fin 2048 → ℝ) (j : ℕ) : ℝ := if h : j < 2 then ∑ r, f (row ⟨j, h⟩ r) else 0

/-- Both blocks' sums make the sum over the rows. -/
theorem partSum_all (f : Fin 2048 → ℝ) : ∑ j ∈ Finset.range 2, partSum f j = ∑ n, f n := by
  have e := Fin.sum_univ_univ_mul_add 2 1024 fun l => if h : l < 2048 then f ⟨l, h⟩ else 0
  rw [Finset.sum_range]
  refine Eq.trans (Finset.sum_congr rfl fun j _ => (dif_pos j.isLt).trans (Finset.sum_congr rfl fun r _ => ?_)) (e.trans (Finset.sum_congr rfl fun l _ => dif_pos l.isLt))
  rw [dif_pos (show j.val * 1024 + r.val < 2048 by omega)]
  exact congrArg f (Fin.ext (by simp only [row]; omega))

section Results

include hA

/-- After every point the scale's gradient holds the sum over the blocks finished so far. -/
theorem gain_at (n : ℕ) : ∀ hn : n < cfg0.N, ∀ z d,
    (outsAt0 m c n hn).2.1 (ix2 z d) = ((∑ j ∈ Finset.range ((n + 1) / 7), partSum (gainTerm ct w x d) j : ℝ) : EReal) := by
  induction n with
  | zero =>
    intro hn z d
    exact (gain_first ⟨0, hn⟩ (Nat.zero_mod 14) z d).trans rfl
  | succ n ih =>
    intro hn z d
    have hN : n + 1 < 14 := hn
    have i := ih (Nat.lt_of_succ_lt hn) z d
    by_cases h5 : (n + 1) % 7 = 6
    · refine (gain_last hA ⟨n + 1, hn⟩ h5 z d).trans ((congrArg (· + _) i).trans ?_)
      rw [← EReal.coe_add, show (n + 1 + 1) / 7 = (n + 1) / 7 + 1 by omega, Finset.sum_range_succ _ ((n + 1) / 7)]
      refine congrArg (fun p : ℝ => ((_ + p : ℝ) : EReal)) ?_
      rw [partSum, dif_pos (show (n + 1) / 7 < 2 by omega)]
      rfl
    · refine (congrFun (gain_kept ⟨n + 1, hn⟩ (by dsimp only; omega) h5) (ix2 z d)).trans (i.trans ?_)
      rw [show (n + 1 + 1) / 7 = (n + 1) / 7 by omega]

/-- The first result array. -/
theorem dx_array : (dats m 0 c).arrAt 7 cfg0.N = (fun i : S2048x1024.Idx => y (i 0) (i 1) + ((dxNorm ct w x g (i 0) (i 1) : ℝ) : EReal) : Vec Ideal S2048x1024 .f32) := by
  refine (dats m 0 c).arrAt_eq_of_covers 7 _ (by decide +kernel) fun t hf y' => ?_
  obtain ⟨h7, z7, h8, z8⟩ := idx_results t
  blk_simp
  rw [after0_7]
  idx_vars y'
  have ht : t.val % 7 = 6 := by have := (by decide +kernel : ∀ t : Fin cfg0.N, (win0 7).flush t = true → t.val % 7 = 6) t hf; exact this
  refine (dx_at hA t ht y'0 y'1).trans (congrArg₂ (fun n d => y n d + ((dxNorm ct w x g n d : ℝ) : EReal)) (Fin.ext ?_) (Fin.ext ?_))
  all_goals (blk_simp [h7, z7, row, blockOf]; try first | omega | (dsimp only; omega))

/-- The second. -/
theorem gain_array : (dats m 0 c).arrAt 8 cfg0.N = (fun i : S1x1024.Idx => ((gain ct w x (i 1) : ℝ) : EReal) : Vec Ideal S1x1024 .f32) := by
  refine (dats m 0 c).arrAt_eq_of_covers 8 _ (by decide +kernel) fun t hf y' => ?_
  obtain ⟨h7, z7, h8, z8⟩ := idx_results t
  blk_simp
  rw [after0_8]
  idx_vars y'
  have ht : t.val = 13 := by have := (by decide +kernel : ∀ t : Fin cfg0.N, (win0 8).flush t = true → t.val = 13) t hf; exact this
  refine (gain_at hA t.val t.isLt y'0 y'1).trans (congrArg Real.toEReal ?_)
  rw [ht, partSum_all]
  refine congrArg (fun d => gain ct w x d) (Fin.ext ?_)
  blk_simp [h8, z8]; try omega

end Results

end Cert.Kernel6Ideal.InProj

end
-- ==== Proof.InProj.Plain.lean ====
/- The reference's two results, from finite arguments: the same closed forms. -/
module

public import proofs.«01_k».proof.Proof.InProj.Closed
public import proofs.«01_k».proof.Proof.Gen.Reference6Ideal.Run
public import Idealize.ShloMosaic.Lib.Tactic.CleanTypes

@[expose] public section

set_option maxRecDepth 16384

noncomputable section

namespace Cert.Reference6Ideal.InProj

open Cert.Reference6Ideal Cert.Reference6Ideal.Gen Cert.Reference6Ideal.Value Idealize.ShloMosaic Idealize.ShloMosaic.TcCoe Idealize.SL.Sem
open Cert.Proof.Reals Cert.Proof.InProj

section Product

/-- The cotangents side by side, as the reference lays them. -/
def beside (A0 : Vec Ideal S3x2048x1024 .bf16) (A1 A2 : Vec Ideal S2x2048x1024 .bf16) : FVec Ideal S2048x7168 .bf16 :=
  concatenate S2048x7168 1 [⟨S2048x1024, ((shapeCast _ (extractStridedSlice S1x2048x1024 ![0, 0, 0] A0 slices_S3x2048x1024_S1x2048x1024_0_0_0) shapeCasts_S1x2048x1024_S2048x1024) : FVec Ideal S2048x1024 .bf16)⟩,
    ⟨S2048x1024, ((shapeCast _ (extractStridedSlice S1x2048x1024 ![1, 0, 0] A0 slices_S3x2048x1024_S1x2048x1024_1_0_0) shapeCasts_S1x2048x1024_S2048x1024) : FVec Ideal S2048x1024 .bf16)⟩,
    ⟨S2048x1024, ((shapeCast _ (extractStridedSlice S1x2048x1024 ![2, 0, 0] A0 slices_S3x2048x1024_S1x2048x1024_2_0_0) shapeCasts_S1x2048x1024_S2048x1024) : FVec Ideal S2048x1024 .bf16)⟩,
    ⟨S2048x1024, ((shapeCast _ (extractStridedSlice S1x2048x1024 ![0, 0, 0] A1 slices_S2x2048x1024_S1x2048x1024_0_0_0) shapeCasts_S1x2048x1024_S2048x1024) : FVec Ideal S2048x1024 .bf16)⟩,
    ⟨S2048x1024, ((shapeCast _ (extractStridedSlice S1x2048x1024 ![1, 0, 0] A1 slices_S2x2048x1024_S1x2048x1024_1_0_0) shapeCasts_S1x2048x1024_S2048x1024) : FVec Ideal S2048x1024 .bf16)⟩,
    ⟨S2048x1024, ((shapeCast _ (extractStridedSlice S1x2048x1024 ![0, 0, 0] A2 slices_S2x2048x1024_S1x2048x1024_0_0_0) shapeCasts_S1x2048x1024_S2048x1024) : FVec Ideal S2048x1024 .bf16)⟩,
    ⟨S2048x1024, ((shapeCast _ (extractStridedSlice S1x2048x1024 ![1, 0, 0] A2 slices_S2x2048x1024_S1x2048x1024_1_0_0) shapeCasts_S1x2048x1024_S2048x1024) : FVec Ideal S2048x1024 .bf16)⟩] concatenates_S2048x1024_S2048x1024_S2048x1024_S2048x1024_S2048x1024_S2048x1024_S2048x1024_S2048x7168_d1

/-- The gradient at the normed rows, as the reference writes it. -/
def product (A0 : Vec Ideal S3x2048x1024 .bf16) (A1 A2 : Vec Ideal S2x2048x1024 .bf16) (A3 : Vec Ideal S1024x7168 .bf16) : FVec Ideal S2048x1024 .f32 :=
  Host.dotGeneral dot_S2048x7168_S1024x7168_S2048x1024_1_1_0_0_n_n none (extf .f32 (beside A0 A1 A2) bitsLt_bf16_f32) (extf .f32 A3 bitsLt_bf16_f32)

variable {A0 : Vec Ideal S3x2048x1024 .bf16} {A1 A2 : Vec Ideal S2x2048x1024 .bf16} {A3 : Vec Ideal S1024x7168 .bf16}
  {ct : Fin 2048 → Fin 7168 → ℝ} {w : Fin 1024 → Fin 7168 → ℝ}
  (h0 : ∀ (s : Fin 3) n k, A0 (ix3 s n k) = ((ct n (col ⟨s.val, conv_lt s⟩ k) : ℝ) : EReal))
  (h1 : ∀ (s : Fin 2) n k, A1 (ix3 s n k) = ((ct n (col ⟨3 + s.val, lru_lt s⟩ k) : ℝ) : EReal))
  (h2 : ∀ (s : Fin 2) n k, A2 (ix3 s n k) = ((ct n (col ⟨5 + s.val, gate_lt s⟩ k) : ℝ) : EReal))
  (h3 : ∀ d q, A3 (ix2 d q) = ((w d q : ℝ) : EReal))

include h0 h1 h2 in
theorem beside_real (n : Fin 2048) (q : Fin 7168) : beside A0 A1 A2 (ix2 n q) = ((ct n q : ℝ) : EReal) := by
  have e : ∀ (s : Fin 7) (k : Fin 1024), 1024 * s.val + k.val = q.val → ((ct n (col s k) : ℝ) : EReal) = ((ct n q : ℝ) : EReal) :=
    fun s k hq => congrArg (fun i => ((ct n i : ℝ) : EReal)) (Fin.ext hq)
  pointwise [beside]
  split
  · exact (h0 _ _ _).trans (e _ _ (by dsimp only [Fin.val_zero]; omega))
  split
  · exact (h0 _ _ _).trans (e _ _ (by dsimp only [Fin.val_one]; omega))
  split
  · exact (h0 _ _ _).trans (e _ _ (by dsimp only [Fin.val_two]; omega))
  split
  · exact (h1 _ _ _).trans (e _ _ (by dsimp only [Fin.val_zero]; omega))
  split
  · exact (h1 _ _ _).trans (e _ _ (by dsimp only [Fin.val_one]; omega))
  split
  · exact (h2 _ _ _).trans (e _ _ (by dsimp only [Fin.val_zero]; omega))
  · exact (h2 _ _ _).trans (e _ _ (by dsimp only [Fin.val_one]; omega))

include h0 h1 h2 h3 in
theorem product_real (n : Fin 2048) (d : Fin 1024) : product A0 A1 A2 A3 (ix2 n d) = ((dh ct w n d : ℝ) : EReal) := by
  have e := beside_real h0 h1 h2
  unfold product
  generalize beside A0 A1 A2 = u at e
  pointwise
  simp only [e, h3, ← EReal.coe_mul, coe_sum]; rfl

end Product

section Results

variable (m : (ℓ : Loc nD τ sig) → Buf (Elt Ideal) ℓ) (c : Dev nD)

/-- The arguments are these numbers; the one added to the first result may be infinite. -/
structure Args (ct : Fin 2048 → Fin 7168 → ℝ) (w : Fin 1024 → Fin 7168 → ℝ) (x : Fin 2048 → Fin 1024 → ℝ) (y : Fin 2048 → Fin 1024 → EReal) (g : Fin 1024 → ℝ) : Prop where
  conv : ∀ (s : Fin 3) n k, (m ((c : Thread nD τ).loc main_arg0) : Vec Ideal S3x2048x1024 .bf16) (ix3 s n k) = ((ct n (col ⟨s.val, conv_lt s⟩ k) : ℝ) : EReal)
  lru : ∀ (s : Fin 2) n k, (m ((c : Thread nD τ).loc main_arg1) : Vec Ideal S2x2048x1024 .bf16) (ix3 s n k) = ((ct n (col ⟨3 + s.val, lru_lt s⟩ k) : ℝ) : EReal)
  gate : ∀ (s : Fin 2) n k, (m ((c : Thread nD τ).loc main_arg2) : Vec Ideal S2x2048x1024 .bf16) (ix3 s n k) = ((ct n (col ⟨5 + s.val, gate_lt s⟩ k) : ℝ) : EReal)
  matrix : ∀ d q, (m ((c : Thread nD τ).loc main_arg3) : Vec Ideal S1024x7168 .bf16) (ix2 d q) = ((w d q : ℝ) : EReal)
  residual : ∀ n d, (m ((c : Thread nD τ).loc main_arg4) : Vec Ideal S2048x1024 .f32) (ix2 n d) = ((x n d : ℝ) : EReal)
  added : ∀ n d, (m ((c : Thread nD τ).loc main_arg5) : Vec Ideal S2048x1024 .f32) (ix2 n d) = y n d
  scale : ∀ d, (m ((c : Thread nD τ).loc main_arg6) : Vec Ideal S1024 .f32) (ix1 d) = ((g d : ℝ) : EReal)

/-- A sum over an axis of extent one, at an index. -/
theorem unit_sum (v : S1x1024.Idx → EReal) (init : EReal) (j : Fin 1024) :
    Ideal.hostReduceAdd reducesTo_S1x1024_S1024_d0 v init (ix1 j) = init + v (ix2 0 j) := by
  pointwise
  rw [Fin.sum_univ_one]

set_option maxHeartbeats 1000000 in
/-- The reference's run ends with the closed forms in its result arrays and the arguments as they were. -/
theorem run_closed (ρ : Dev nD → PrngReg) {ct : Dev nD → Fin 2048 → Fin 7168 → ℝ} {w : Dev nD → Fin 1024 → Fin 7168 → ℝ} {x : Dev nD → Fin 2048 → Fin 1024 → ℝ}
    {y : Dev nD → Fin 2048 → Fin 1024 → EReal} {g : Dev nD → Fin 1024 → ℝ} (hA : ∀ c, Args m c (ct c) (w c) (x c) (y c) (g c)) :
    θ_run defs (onTc (τ := τ) (main (F := Ideal))) ⟨m, fun _ => 0, ρ⟩ fun r => ∀ c : Dev nD,
      r.2.mem ((c.tc : Thread nD τ).loc main_v55) = (fun i : S2048x1024.Idx => y c (i 0) (i 1) + ((dxNorm (ct c) (w c) (x c) (g c) (i 0) (i 1) : ℝ) : EReal) : Vec Ideal S2048x1024 .f32)
      ∧ r.2.mem ((c.tc : Thread nD τ).loc main_v56) = (fun i : S1x1024.Idx => ((gain (ct c) (w c) (x c) (i 1) : ℝ) : EReal) : Vec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2.1.trans ?_, (h c).2.2⟩) (Cert.Reference6Ideal.Value.run (F := Ideal) m ρ)
  all_goals
    clear h
    obtain ⟨h0, h1, h2, h3, h4, h5, h6⟩ := hA c
    try unfold res_main_v55
    generalize m ((c : Thread nD τ).loc main_arg0) = A0 at *
    generalize m ((c : Thread nD τ).loc main_arg1) = A1 at *
    generalize m ((c : Thread nD τ).loc main_arg2) = A2 at *
    generalize m ((c : Thread nD τ).loc main_arg3) = A3 at *
    generalize m ((c : Thread nD τ).loc main_arg4) = A4 at *
    generalize m ((c : Thread nD τ).loc main_arg5) = A5 at *
    generalize m ((c : Thread nD τ).loc main_arg6) = A6 at *
    change Vec Ideal S3x2048x1024 .bf16 at A0
    change Vec Ideal S2x2048x1024 .bf16 at A1
    change Vec Ideal S2x2048x1024 .bf16 at A2
    change Vec Ideal S1024x7168 .bf16 at A3
    change Vec Ideal S2048x1024 .f32 at A4
    change Vec Ideal S2048x1024 .f32 at A5
    change Vec Ideal S1024 .f32 at A6
    have e := product_real h0 h1 h2 h3
    clean_types
    obtain ⟨P, hP⟩ : ∃ P, product A0 A1 A2 A3 = P := ⟨_, rfl⟩
    rw [hP] at e
    unfold product beside at hP
    rw [hP]
    clear hP
    funext j
    idx_vars j
    pointwise [unit_sum]
    simp only [h4, h5, h6, e, word_minus_half, ← EReal.coe_mul, coe_sum, meanSq_coe, root_coe]
  · simp only [Fin.sum_univ_one, coe_div (meanSq_pos _).ne', word_1024, ← EReal.coe_mul, coe_div (show (1024 : ℝ) ≠ 0 by norm_num), add_assoc, ← EReal.coe_add]
    refine congrArg (fun r : ℝ => y c j0 j1 + (r : EReal)) ?_
    rw [dxNorm, ← normBack_eq _ _ _ _ rfl, add_assoc]
  · refine congrArg Real.toEReal (Finset.sum_congr rfl fun n _ => ?_)
    rw [gainTerm]
    ring

end Results

end Cert.Reference6Ideal.InProj

end
-- ==== Proof.InProj.Claim.lean ====
/- The claim about the gradient through the input projections and the norm before them: from finite arguments both programs compute the same two arrays. -/
module

public import proofs.«01_k».proof.Defs
public import proofs.«01_k».proof.Proof.InProj.Arrays
public import proofs.«01_k».proof.Proof.InProj.Plain
public import proofs.«01_k».proof.Proof.Steps.Finite

@[expose] public section

set_option maxRecDepth 16384

noncomputable section

namespace Cert.Proof.InProj

open Idealize.ShloMosaic Idealize.ShloMosaic.TcCoe Idealize.SL.Sem Cert.Proof.Reals

/-- The cotangents side by side, as real numbers: three sections, two and two. -/
def besideOf (A0 : Cert.Kernel6Ideal.S3x2048x1024.Idx → EReal) (A1 A2 : Cert.Kernel6Ideal.S2x2048x1024.Idx → EReal) (n : Fin 2048) (q : Fin 7168) : ℝ :=
  if h : q.val < 3072 then (A0 (ix3 ⟨q.val / 1024, by omega⟩ n ⟨q.val % 1024, Nat.mod_lt _ (by decide)⟩)).toReal
  else if h' : q.val < 5120 then (A1 (ix3 ⟨q.val / 1024 - 3, by omega⟩ n ⟨q.val % 1024, Nat.mod_lt _ (by decide)⟩)).toReal
  else (A2 (ix3 ⟨q.val / 1024 - 5, by omega⟩ n ⟨q.val % 1024, Nat.mod_lt _ (by decide)⟩)).toReal

section Sections

variable (A0 : Cert.Kernel6Ideal.S3x2048x1024.Idx → EReal) (A1 A2 : Cert.Kernel6Ideal.S2x2048x1024.Idx → EReal) (n : Fin 2048) (k : Fin 1024)

/-- The first stack's sections … -/
theorem beside_conv (s : Fin 3) (hs : s.val < 7) : besideOf A0 A1 A2 n (col ⟨s.val, hs⟩ k) = (A0 (ix3 s n k)).toReal := by
  unfold besideOf
  rw [dif_pos (by simp only [col]; omega)]
  congr 3 <;> exact Fin.ext (by simp only [col]; omega)

/-- … the second's … -/
theorem beside_lru (s : Fin 2) (hs : 3 + s.val < 7) : besideOf A0 A1 A2 n (col ⟨3 + s.val, hs⟩ k) = (A1 (ix3 s n k)).toReal := by
  unfold besideOf
  rw [dif_neg (by simp only [col]; omega), dif_pos (by simp only [col]; omega)]
  congr 3 <;> exact Fin.ext (by simp only [col]; omega)

/-- … and the third's. -/
theorem beside_gate (s : Fin 2) (hs : 5 + s.val < 7) : besideOf A0 A1 A2 n (col ⟨5 + s.val, hs⟩ k) = (A2 (ix3 s n k)).toReal := by
  unfold besideOf
  rw [dif_neg (by simp only [col]; omega), dif_neg (by simp only [col]; omega)]
  congr 3 <;> exact Fin.ext (by simp only [col]; omega)

end Sections

section Args

variable [hF : Cert.Pre_xgrad_args_finite.Facts]
open Cert.Pre_xgrad_args_finite

/-- What the test of the arguments says of them. -/
theorem args_real (A0 : FVec Ideal S3x2048x1024 .bf16) (A1 A2 : FVec Ideal S2x2048x1024 .bf16) (A3 : FVec Ideal S1024x7168 .bf16) (A4 A5 : FVec Ideal S2048x1024 .f32)
    (A6 : FVec Ideal S1024 .f32) (e : Cert.Pre_xgrad_args_finite.fn (F := Ideal) A0 A1 A2 A3 A4 A5 A6 = fun _ => 1#1) :
    (∀ i, (((A0 i : EReal).toReal : ℝ) : EReal) = A0 i) ∧ (∀ i, (((A1 i : EReal).toReal : ℝ) : EReal) = A1 i)
      ∧ (∀ i, (((A2 i : EReal).toReal : ℝ) : EReal) = A2 i) ∧ (∀ i, (((A3 i : EReal).toReal : ℝ) : EReal) = A3 i)
      ∧ (∀ i, (((A4 i : EReal).toReal : ℝ) : EReal) = A4 i) ∧ (∀ i, (((A6 i : EReal).toReal : ℝ) : EReal) = A6 i) := by
  have e' := congrFun e (fun a => a.elim0)
  haveI : Subsingleton S_.Idx := ⟨fun a b => funext fun i => i.elim0⟩
  unfold Cert.Pre_xgrad_args_finite.fn Cert.Pre_xgrad_args_finite.fn_part1 at e'
  dsimp only at e'
  obtain ⟨e', h6⟩ := IntOp.andi_eq_one.1 e'
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨fun i => real_of_all A0 _ _ _ _ (fun _ => inf_bf16) _ h0 i, fun i => real_of_all A1 _ _ _ _ (fun _ => inf_bf16) _ h1 i,
    fun i => real_of_all A2 _ _ _ _ (fun _ => inf_bf16) _ h2 i, fun i => real_of_all A3 _ _ _ _ (fun _ => inf_bf16) _ h3 i,
    fun i => real_of_all A4 _ _ _ _ (fun _ => inf_f32) _ h4 i, fun i => real_of_all A6 _ _ _ _ (fun _ => inf_f32) _ h6 i⟩

end Args

section Claim

variable (m : (ℓ : Loc Cert.Kernel6Ideal.nD Cert.Kernel6Ideal.τ Cert.Kernel6Ideal.sig) → Buf (Elt Ideal) ℓ) (c : Dev Cert.Kernel6Ideal.nD)

/-! The arguments of the kernel as numbers. -/

def ctOf : Fin 2048 → Fin 7168 → ℝ := besideOf
  (m ((c.tc : Thread Cert.Kernel6Ideal.nD Cert.Kernel6Ideal.τ).loc Cert.Kernel6Ideal.main_arg0) : Vec Ideal Cert.Kernel6Ideal.S3x2048x1024 .bf16)
  (m ((c.tc : Thread Cert.Kernel6Ideal.nD Cert.Kernel6Ideal.τ).loc Cert.Kernel6Ideal.main_arg1) : Vec Ideal Cert.Kernel6Ideal.S2x2048x1024 .bf16)
  (m ((c.tc : Thread Cert.Kernel6Ideal.nD Cert.Kernel6Ideal.τ).loc Cert.Kernel6Ideal.main_arg2) : Vec Ideal Cert.Kernel6Ideal.S2x2048x1024 .bf16)
def matrixOf (d : Fin 1024) (q : Fin 7168) : ℝ := ((m ((c.tc : Thread Cert.Kernel6Ideal.nD Cert.Kernel6Ideal.τ).loc Cert.Kernel6Ideal.main_arg3) : Vec Ideal Cert.Kernel6Ideal.S1024x7168 .bf16) (ix2 d q) : EReal).toReal
def residualOf (n : Fin 2048) (d : Fin 1024) : ℝ := ((m ((c.tc : Thread Cert.Kernel6Ideal.nD Cert.Kernel6Ideal.τ).loc Cert.Kernel6Ideal.main_arg4) : Vec Ideal Cert.Kernel6Ideal.S2048x1024 .f32) (ix2 n d) : EReal).toReal
def addedOf (n : Fin 2048) (d : Fin 1024) : EReal := (m ((c.tc : Thread Cert.Kernel6Ideal.nD Cert.Kernel6Ideal.τ).loc Cert.Kernel6Ideal.main_arg5) : Vec Ideal Cert.Kernel6Ideal.S2048x1024 .f32) (ix2 n d)
def scaleOf (d : Fin 1024) : ℝ := ((m ((c.tc : Thread Cert.Kernel6Ideal.nD Cert.Kernel6Ideal.τ).loc Cert.Kernel6Ideal.main_arg6) : Vec Ideal Cert.Kernel6Ideal.S1024 .f32) (ix1 d) : EReal).toReal

end Claim

set_option maxHeartbeats 1000000 in
/-- From finite arguments both programs end with the closed forms in their two result arrays. -/
theorem algebraic [Cert.Kernel6Ideal.Facts] [Cert.Reference6Ideal.Facts] [Cert.Pre_xgrad_args_finite.Facts] :
    Cert.algebraic_Kernel6Ideal_Reference6Ideal_pre_xgrad_args_finite := by
  intro m ρ m' ρ' hpre hagree
  have hA : ∀ c, Cert.Kernel6Ideal.InProj.Args m c (ctOf m c) (matrixOf m c) (residualOf m c) (addedOf m c) (scaleOf m c) := fun c => by
    obtain ⟨h0, h1, h2, h3, h4, h6⟩ := args_real _ _ _ _ _ _ _ (hpre c)
    exact ⟨fun s n k => (h0 _).symm.trans (congrArg Real.toEReal (beside_conv _ _ _ n k s _).symm),
      fun s n k => (h1 _).symm.trans (congrArg Real.toEReal (beside_lru _ _ _ n k s _).symm),
      fun s n k => (h2 _).symm.trans (congrArg Real.toEReal (beside_gate _ _ _ n k s _).symm),
      fun d q => (h3 _).symm, fun n d => (h4 _).symm, fun n d => rfl, fun d => (h6 _).symm⟩
  have hR : ∀ c, Cert.Reference6Ideal.InProj.Args m' c (ctOf m c) (matrixOf m c) (residualOf m c) (addedOf m c) (scaleOf m c) := fun c => by
    obtain ⟨g0, g1, g2, g3, g4, g5, g6⟩ := hagree c
    exact ⟨fun s n k => (congrFun g0 _).trans ((hA c).conv s n k), fun s n k => (congrFun g1 _).trans ((hA c).lru s n k),
      fun s n k => (congrFun g2 _).trans ((hA c).gate s n k), fun d q => (congrFun g3 _).trans ((hA c).matrix d q),
      fun n d => (congrFun g4 _).trans ((hA c).residual n d), fun n d => (congrFun g5 _).trans ((hA c).added n d),
      fun d => (congrFun g6 _).trans ((hA c).scale d)⟩
  refine ⟨fun c => (fun i : Cert.Kernel6Ideal.S2048x1024.Idx =>
      addedOf m c (i 0) (i 1) + ((dxNorm (ctOf m c) (matrixOf m c) (residualOf m c) (scaleOf m c) (i 0) (i 1) : ℝ) : EReal)),
    fun c => (fun i : Cert.Kernel6Ideal.S1x1024.Idx => ((gain (ctOf m c) (matrixOf m c) (residualOf m c) (i 1) : ℝ) : EReal)), ?_, ?_⟩
  · refine (θ_run Cert.Kernel6Ideal.defs _ _).mono (fun _ h c => ?_) (θ_run_and (Cert.Kernel6Ideal.Gen.run_main (F := Ideal) m ρ) (Cert.Kernel6Ideal.Gen.frame (F := Ideal) m ρ))
    exact ⟨((h.1 c).1 7).trans (Cert.Kernel6Ideal.InProj.dx_array (hA c)), ((h.1 c).1 8).trans (Cert.Kernel6Ideal.InProj.gain_array (hA c)), h.2.1 c⟩
  · exact Cert.Reference6Ideal.InProj.run_closed m' ρ' hR

end Cert.Proof.InProj

end
-- ==== Proof.ConvFwd.Chunk.lean ====
/- A chunk of a causal convolution of three taps, read from a scratch buffer that holds a tall array: shared by the forward kernels. -/
module

public import proofs.«01_k».proof.Proof.Conv.Planes

@[expose] public section

set_option maxRecDepth 16384

noncomputable section

namespace Cert.KernelIdeal.Conv

open Cert.KernelIdeal Cert.KernelIdeal.Gen Idealize.ShloMosaic

/-- The three taps over a chunk of 256 rows and the eight rows before it, both read from a buffer filled with `g`. -/
theorem weigh_loaded {σ : RefSig} {κ : Kind} {sp : Space} (v : View σ κ sp S2056x256 .f32) (L : List (View.Piece (Elt Ideal) S2056x256 .f32)) (g : ℕ → Fin 256 → EReal)
    (hL : View.canon L = tall g) (w : Vec Ideal S3x256 .f32) (o : ℕ) (i2) (i3) (r l : Fin 256) :
    weigh w (rowsBack 2#32 (v.readCov L (Rect.unit (s := S2056x256) ![8 + o, 0] ![256, 256] i2).toLoadRect) (v.readCov L (Rect.unit (s := S2056x256) ![o, 0] ![8, 256] i3).toLoadRect))
      (rowsBack 1#32 (v.readCov L (Rect.unit (s := S2056x256) ![8 + o, 0] ![256, 256] i2).toLoadRect) (v.readCov L (Rect.unit (s := S2056x256) ![o, 0] ![8, 256] i3).toLoadRect))
      (v.readCov L (Rect.unit (s := S2056x256) ![8 + o, 0] ![256, 256] i2).toLoadRect) (ix2 r l) = causal w g (o + r.val) l := by
  have hc : ∀ r l : Fin 256, v.readCov L (Rect.unit (s := S2056x256) ![8 + o, 0] ![256, 256] i2).toLoadRect (ix2 r l) = g (o + 8 + r.val) l := fun r l => by
    rw [View.readCov_eq_canon', hL]
    exact (tall_load g _ _ _ _ _).trans (congrArg (g · l) (by omega))
  have hb : ∀ (r : Fin 8) (l : Fin 256), v.readCov L (Rect.unit (s := S2056x256) ![o, 0] ![8, 256] i3).toLoadRect (ix2 r l) = g (o + r.val) l := fun r l => by
    rw [View.readCov_eq_canon', hL]
    exact tall_load g _ _ _ _ _
  rw [weigh_apply, rowsBack_one _ _ g o hc hb, rowsBack_two _ _ g o hc hb, hc]
  unfold causal
  rw [show o + 6 + r.val = o + r.val + 6 by omega, show o + 7 + r.val = o + r.val + 7 by omega, show o + 8 + r.val = o + r.val + 8 by omega]

/-- A chunk of the gated convolution: the gate times the convolution, rounded. -/
def gatedChunk (w : Vec Ideal S3x256 .f32) (b : Vec Ideal S256x256 .bf16) (cur : FVec Ideal S256x256 .f32) (before : FVec Ideal S8x256 .f32) : FVec Ideal S256x256 .bf16 :=
  truncf .bf16 (mulf (extf .f32 b bitsLt_bf16_f32) (weigh w (rowsBack 2#32 cur before) (rowsBack 1#32 cur before) cur)) bitsLt_bf16_f32

/-- A chunk of the gated convolution as the kernel's loads give it. -/
theorem gated_piece {σ : RefSig} {κ : Kind} {sp : Space} (v : View σ κ sp S2056x256 .f32) (L : List (View.Piece (Elt Ideal) S2056x256 .f32)) (g : ℕ → Fin 256 → EReal)
    (hL : View.canon L = tall g) (wv : Memref σ .tc .vmem S3x256 .f32) (hw : wv.IsWhole) (w : Vec Ideal S3x256 .f32) (bv : Memref σ .tc .vmem S2048x256 .bf16) (hbv : bv.IsWhole)
    (b : Vec Ideal S2048x256 .bf16) (o : ℕ) (ho : o + 256 ≤ 2048) (i0) (i1) (i2) (i3) (r l : Fin 256) :
    gatedChunk (View.readAt (Elt Ideal) wv.view (Rect.unit (s := S3x256) ![0, 0] ![3, 256] i0).toLoadRect (hw.unread w))
        (View.readAt (Elt Ideal) bv.view (Rect.unit (s := S2048x256) ![o, 0] ![256, 256] i1).toLoadRect (hbv.unread b))
        (v.readCov L (Rect.unit (s := S2056x256) ![8 + o, 0] ![256, 256] i2).toLoadRect)
        (v.readCov L (Rect.unit (s := S2056x256) ![o, 0] ![8, 256] i3).toLoadRect) (ix2 r l)
      = b (ix2 ⟨o + r.val, by omega⟩ l) * causal w g (o + r.val) l := by
  simp only [View.readAt_eq_ld, hw.read_unread, hbv.read_unread]
  rw [View.ld_unit_lit _ _ (by decide)]
  exact congrArg₂ (· * ·) (block_load b o i1 ho r l) (weigh_loaded v L g hL w o i2 i3 r l)

end Cert.KernelIdeal.Conv

end
-- ==== Proof.ConvFwd.Block.lean ====
/- One block of columns of the forward gated convolution: what its scratch buffer and its output hold once the kernel has stored them. -/
module

public import proofs.«01_k».proof.Proof.ConvFwd.Chunk
public import proofs.«01_k».proof.Proof.Conv.Closed
public import proofs.«01_k».proof.Proof.Gen.Kernel7Ideal.Value

@[expose] public section

set_option maxRecDepth 16384

noncomputable section

namespace Cert.Kernel7Ideal.ConvFwd

open Cert.Kernel7Ideal Cert.Kernel7Ideal.Gen Idealize.ShloMosaic Idealize.ShloMosaic.TcCoe Idealize.SL.Sem
open Cert.KernelIdeal.Conv (tall tall_emb padG padG_eq padG_zero causal gated_piece sect prodPad)

/-- The block of the result: the gate times the convolution of the product of the two factors. -/
def gatedG (b p q : Vec Ideal S2048x256 .bf16) (w : Vec Ideal S3x256 .f32) : Vec Ideal S2048x256 .bf16 :=
  fun y => b (ix2 (y 0) (y 1)) * causal w (padG p q) (y 0).val (y 1)

/-- A chunk of 256 rows of the block, placed. -/
theorem gatedG_emb (b p q : Vec Ideal S2048x256 .bf16) (w : Vec Ideal S3x256 .f32) (o : ℕ) (inb : ∀ a, (![o, 0] : Fin 2 → ℕ) a + (![256, 256] : Fin 2 → ℕ) a ≤ S2048x256.size a)
    (ho : o + 256 ≤ 2048) (r l : Fin 256) :
    gatedG b p q w ((Rect.unit (s := S2048x256) ![o, 0] ![256, 256] inb).emb (ix2 r l)) = b (ix2 ⟨o + r.val, by omega⟩ l) * causal w (padG p q) (o + r.val) l := by
  have h0 : (((Rect.unit (s := S2048x256) ![o, 0] ![256, 256] inb).emb (ix2 r l)) 0).val = o + r.val := ValueKit.rect_emb_unit_val _ _ _ _ _
  have h1 : (((Rect.unit (s := S2048x256) ![o, 0] ![256, 256] inb).emb (ix2 r l)) 1).val = 0 + l.val := ValueKit.rect_emb_unit_val _ _ _ _ _
  unfold gatedG
  rw [h0, show ((Rect.unit (s := S2048x256) ![o, 0] ![256, 256] inb).emb (ix2 r l)) 1 = l from Fin.ext (by rw [h1]; omega),
    show ((Rect.unit (s := S2048x256) ![o, 0] ![256, 256] inb).emb (ix2 r l)) 0 = ⟨o + r.val, by omega⟩ from Fin.ext h0]
  rfl

variable (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S3x256 .f32) (harg4 : arg4.IsWhole) (arg5 : Memref sig .tc .vmem S2048x256 .bf16) (harg5 : arg5.IsWhole) (arg6 : Memref sig .tc .vmem S2056x256 .f32) (harg6 : arg6.IsWhole)
  (x0 x1 x2 : Vec Ideal S2048x256 .bf16) (x3 : Vec Ideal S3x256 .f32)

/-- The scratch buffer, filled: the product of the factors under eight rows of zeros. -/
theorem pad_filled :
    View.canon (kernelRun0_A c i arg1 harg1 arg2 harg2 arg3 harg3 arg4 harg4 arg5 harg5 arg6 harg6 x0 x1 x2 x3).2.1 = tall (padG x1 x2) := by
  funext y
  have hc := View.cover_of_tiledBy (kernelRun0_A c i arg1 harg1 arg2 harg2 arg3 harg3 arg4 harg4 arg5 harg5 arg6 harg6 x0 x1 x2 x3).2.1 S8x256.size (by sl_kernel_rfl) y
  refine (congrArg (fun L => View.canon L y) (List.append_nil _).symm).trans (View.canon_append_of_piecesOf (tall (padG x1 x2)) [] _ ?_ y hc)
  unfold kernelRun0_A
  dsimp only
  sl_unfold_words
  simp only [View.readAt_eq_ld, harg2.read_unread, harg3.read_unread]
  refine ⟨?_, ?_, ?_, ?_, ?_, ?_, ?_, ?_, ?_, trivial⟩
  all_goals
    intro x
    idx_vars x
    refine Eq.trans ?_ (tall_emb _ _ _ _ _ _).symm
    unfold_payloads
    pointwise
    first
    | exact (padG_zero _ _ _ (by omega) _).symm
    | exact (padG_eq _ _ _ _ _ (by omega) _).symm

/-- The output's block, once its eight chunks are stored. -/
theorem gated_stored :
    View.canon (kernelRun0_A c i arg1 harg1 arg2 harg2 arg3 harg3 arg4 harg4 arg5 harg5 arg6 harg6 x0 x1 x2 x3).1 = gatedG x0 x1 x2 x3 := by
  funext y
  have hp := pad_filled c i arg1 harg1 arg2 harg2 arg3 harg3 arg4 harg4 arg5 harg5 arg6 harg6 x0 x1 x2 x3
  refine (congrArg (fun L => View.canon L y) (List.append_nil _).symm).trans
    (View.canon_append_of_piecesOf (gatedG x0 x1 x2 x3) [] _ ?_ y (cover0_A_4 c i arg1 harg1 arg2 harg2 arg3 harg3 arg4 harg4 arg5 harg5 arg6 harg6 x0 x1 x2 x3 y))
  unfold kernelRun0_A at hp ⊢
  dsimp only at hp ⊢
  refine ⟨?_, ?_, ?_, ?_, ?_, ?_, ?_, ?_, trivial⟩
  all_goals
    intro j
    idx_vars j
    rw [gatedG_emb _ _ _ _ _ _ (by decide)]
    exact gated_piece _ _ _ hp arg4 harg4 x3 arg1 harg1 x0 _ (by decide) _ _ _ _ _ _

end Cert.Kernel7Ideal.ConvFwd

end
-- ==== Proof.ConvFwd.Arrays.lean ====
/- The kernel's result array after the run, in closed form. -/
module

public import proofs.«01_k».proof.Proof.ConvFwd.Block

@[expose] public section

set_option maxRecDepth 16384

noncomputable section

namespace Cert.Kernel7Ideal.ConvFwd

open Cert.Kernel7Ideal Cert.Kernel7Ideal.Gen Idealize.ShloMosaic Idealize.ShloMosaic.TcCoe Idealize.SL.Sem
open Cert.KernelIdeal.Conv (tall padG causal sect prodPad)

/-- Entry `j` of row `n` of the gated convolution. -/
def gated (A0 : Vec Ideal S2048x7168 .bf16) (A1 : Vec Ideal S3x1024 .f32) (n : Fin 2048) (j : Fin 1024) : EReal :=
  sect A0 0 n j * (A1 (ix2 0 j) * prodPad A0 (n.val + 6) j + A1 (ix2 1 j) * prodPad A0 (n.val + 7) j + A1 (ix2 2 j) * prodPad A0 (n.val + 8) j)

/-- The result as an array. -/
def gatedArr (A0 : Vec Ideal S2048x7168 .bf16) (A1 : Vec Ideal S3x1024 .f32) : Vec Ideal S2048x1024 .bf16 := fun y => gated A0 A1 (y 0) (y 1)

theorem gatedArr_at (A0 : Vec Ideal S2048x7168 .bf16) (A1 : Vec Ideal S3x1024 .f32) (y : S2048x1024.Idx) (n : Fin 2048) (j : Fin 1024) (hn : (y 0).val = n.val) (hj : (y 1).val = j.val) :
    gatedArr A0 A1 y = gated A0 A1 n j := by
  unfold gatedArr
  rw [show y 0 = n from Fin.ext hn, show y 1 = j from Fin.ext hj]

/-- A block of 256 columns holds the closed form's values. -/
theorem gatedG_eq (A0 : Vec Ideal S2048x7168 .bf16) (A1 : Vec Ideal S3x1024 .f32) (x0 x1 x2 : Vec Ideal S2048x256 .bf16) (x3 : Vec Ideal S3x256 .f32) (q : Fin 256 → Fin 1024)
    (h0 : ∀ n l, x0 (ix2 n l) = sect A0 0 n (q l)) (h1 : ∀ n l, x1 (ix2 n l) = sect A0 1 n (q l)) (h2 : ∀ n l, x2 (ix2 n l) = sect A0 2 n (q l))
    (h3 : ∀ k l, x3 (ix2 k l) = A1 (ix2 k (q l))) (n : Fin 2048) (l : Fin 256) : gatedG x0 x1 x2 x3 (ix2 n l) = gated A0 A1 n (q l) := by
  have hp : ∀ n l, padG x1 x2 n l = prodPad A0 n (q l) := fun n l => by simp only [padG, prodPad, h1, h2]
  show x0 (ix2 n l) * causal x3 (padG x1 x2) n.val l = _
  unfold causal gated
  simp only [hp, h0, h3]

variable (m : (ℓ : Loc nD τ sig) → Buf (Elt Ideal) ℓ) (c : Dev nD)

/-- Which block of each array a grid point reads or writes. -/
theorem idx_sections : ∀ t : Fin cfg0.N, win0_0.index t 0 = 0 ∧ win0_0.index t 1 = t.val ∧ win0_1.index t 0 = 0 ∧ win0_1.index t 1 = 4 + t.val
    ∧ win0_2.index t 0 = 0 ∧ win0_2.index t 1 = 8 + t.val ∧ win0_3.index t 0 = 0 ∧ win0_3.index t 1 = t.val ∧ win0_4.index t 0 = 0 ∧ win0_4.index t 1 = t.val :=
  (by decide +kernel : ∀ t : Fin grid0.N, _)

theorem lt_four (t : Fin cfg0.N) : t.val < 4 := t.isLt

/-- Column `l` of the block of a point. -/
def col (t : Fin cfg0.N) (l : Fin 256) : Fin 1024 := ⟨256 * t.val + l.val, by have := lt_four t; omega⟩

/-- The gate's block. -/
theorem block0 (t : Fin cfg0.N) (n : Fin 2048) (l : Fin 256) :
    (iblk m c 0 t : Vec Ideal S2048x256 .bf16) (ix2 n l) = sect (m ((c : Thread nD τ).loc main_arg0)) 0 n (col t l) := by
  obtain ⟨z0, h0, z1, h1, z2, h2, z3, h3, z4, h4⟩ := idx_sections t
  blk_simp [iblk, V, sect, h0, z0, col]
  blk_ext
  all_goals (simp only [h0, z0]; omega)

/-- The first factor's block. -/
theorem block1 (t : Fin cfg0.N) (n : Fin 2048) (l : Fin 256) :
    (iblk m c 1 t : Vec Ideal S2048x256 .bf16) (ix2 n l) = sect (m ((c : Thread nD τ).loc main_arg0)) 1 n (col t l) := by
  obtain ⟨z0, h0, z1, h1, z2, h2, z3, h3, z4, h4⟩ := idx_sections t
  blk_simp [iblk, V, sect, h1, z1, col]
  blk_ext
  all_goals (simp only [h1, z1]; omega)

/-- The second factor's block. -/
theorem block2 (t : Fin cfg0.N) (n : Fin 2048) (l : Fin 256) :
    (iblk m c 2 t : Vec Ideal S2048x256 .bf16) (ix2 n l) = sect (m ((c : Thread nD τ).loc main_arg0)) 2 n (col t l) := by
  obtain ⟨z0, h0, z1, h1, z2, h2, z3, h3, z4, h4⟩ := idx_sections t
  blk_simp [iblk, V, sect, h2, z2, col]
  blk_ext
  all_goals (simp only [h2, z2]; omega)

/-- The taps' block. -/
theorem block3 (t : Fin cfg0.N) (n : Fin 3) (l : Fin 256) :
    (iblk m c 3 t : Vec Ideal S3x256 .f32) (ix2 n l) = (m ((c : Thread nD τ).loc main_arg1) : Vec Ideal S3x1024 .f32) (ix2 n (col t l)) := by
  obtain ⟨z0, h0, z1, h1, z2, h2, z3, h3, z4, h4⟩ := idx_sections t
  blk_simp [iblk, V, h3, z3, col]
  blk_ext
  all_goals (simp only [h3, z3]; omega)

/-- The result array. -/
theorem result : (dats m 0 c).arrAt 4 cfg0.N = gatedArr (m ((c : Thread nD τ).loc main_arg0)) (m ((c : Thread nD τ).loc main_arg1)) := by
  refine (dats m 0 c).arrAt_eq_of_covers 4 _ (by decide +kernel) fun t hf y => ?_
  obtain ⟨z0, h0, z1, h1, z2, h2, z3, h3, z4, h4⟩ := idx_sections t
  blk_simp
  rw [after0_4]
  simp only [outsAt0, out0_A_4]
  rw [View.read_writes_eq_canon _ _ _ (cover0_A_4 c _ _ _ _ _ _ _ _ _ _ _ _ _ _ _ _ _), gated_stored]
  idx_vars y
  refine Eq.trans ?_ (gatedArr_at _ _ _ y0 (col t y1) ?_ ?_).symm
  · exact gatedG_eq _ _ _ _ _ _ (col t) (block0 m c t) (block1 m c t) (block2 m c t) (block3 m c t) y0 y1
  all_goals (blk_simp [z4, h4, col]; try first | omega | (dsimp only; omega))

end Cert.Kernel7Ideal.ConvFwd

end
-- ==== Proof.ConvFwd.Claim.lean ====
/- The claims about the forward gated convolution: the reference's frame, and that both programs compute the same array. -/
module

public import proofs.«01_k».proof.Defs
public import proofs.«01_k».proof.Proof.ConvFwd.Arrays
public import proofs.«01_k».proof.Proof.Conv.Plain
public import proofs.«01_k».proof.Proof.Gen.Reference7Ideal.Run
public import Idealize.ShloMosaic.Lib.Quiescent

@[expose] public section

set_option maxRecDepth 16384

noncomputable section

namespace Cert.Proof.ConvFwd

open Idealize.ShloMosaic Idealize.ShloMosaic.TcCoe Idealize.SL.Sem
open Cert.Kernel7Ideal.ConvFwd (gatedArr gated)
open Cert.KernelIdeal.Conv (sect prodPad)
open Cert.ReferenceIdeal.Conv (sect_at prodPad_at prodPad_dite)

/-- The reference terminates, leaves its arguments as they were, and no semaphore is ever raised. -/
theorem frame_reference7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

set_option maxHeartbeats 2000000 in
/-- Both programs end with the closed form of the arguments in their result array. -/
theorem algebraic7 : Cert.algebraic_Kernel7Ideal_Reference7Ideal := by
  intro m ρ m' ρ' _ hagree
  refine ⟨fun c => gatedArr (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run Cert.Kernel7Ideal.defs _ _).mono (fun _ h c => ?_) (Cert.Kernel7Ideal.Value.run_blocks (F := Ideal) m ρ)
    exact ⟨(h c).1.trans (Cert.Kernel7Ideal.ConvFwd.result m c), (h c).2⟩
  · refine (θ_run Cert.Reference7Ideal.defs _ _).mono (fun _ h c => ?_) (Cert.Reference7Ideal.Value.run (F := Ideal) m' ρ')
    refine ⟨(h c).1.trans ?_, (h c).2⟩
    dsimp only
    rw [(hagree c).1, (hagree c).2]
    generalize m ((c.tc : Thread Cert.Kernel7Ideal.nD Cert.Kernel7Ideal.τ).loc Cert.Kernel7Ideal.main_arg0) = A0
    change Vec Ideal Cert.Reference7Ideal.S2048x7168 .bf16 at A0
    generalize m ((c.tc : Thread Cert.Kernel7Ideal.nD Cert.Kernel7Ideal.τ).loc Cert.Kernel7Ideal.main_arg1) = A1
    change Vec Ideal Cert.Reference7Ideal.S3x1024 .f32 at A1
    funext y
    idx_vars y
    pointwise
    show _ = gated A0 A1 y0 y1
    unfold gated
    refine congrArg₂ (· * ·) (sect_at A0 0 y0 y0 _ y1 rfl (by simp)) (congrArg₂ (· + ·) (congrArg₂ (· + ·) ?_ ?_) ?_)
    · exact prodPad_dite A0 y0.val (y0.val < 2) (fun h => ⟨y0.val - 2, by omega⟩) ⟨1024 + y1.val, by omega⟩ ⟨2048 + y1.val, by omega⟩ y1 (by omega) (by intro h; dsimp only; omega) rfl rfl _
    · refine (prodPad_dite A0 (1 + y0.val) (1 + y0.val < 2) (fun h => ⟨1 + y0.val - 2, by omega⟩) ⟨1024 + y1.val, by omega⟩ ⟨2048 + y1.val, by omega⟩ y1 (by omega) (by intro h; dsimp only; omega) rfl rfl _).trans ?_
      rw [show 1 + y0.val + 6 = y0.val + 7 by omega]
    · exact (congrArg (· * A1 (ix2 2 y1)) (prodPad_at A0 y0 y0 ⟨1024 + y1.val, by omega⟩ ⟨2048 + y1.val, by omega⟩ y1 (y0.val + 8) rfl rfl rfl rfl)).trans (mul_comm _ _)

end Cert.Proof.ConvFwd

end
-- ==== Proof.MergeFwd.Row.lean ====
/- One row of the gated merge and the two norms after it, as functions of extended reals. -/
module

public import Idealize.ShloMosaic.PureOps.IdealRules

@[expose] public section

noncomputable section

namespace Cert.Proof.MergeFwd

open Idealize.ShloMosaic

/-- A row over the root of its mean square. -/
def rowNorm (v : Fin 1024 → EReal) (d : Fin 1024) : EReal :=
  v d * Ideal.rsqrt (Ideal.div (∑ k, v k * v k) (Ideal.ofBits FTy.f32 0x44800000#32) + Ideal.ofBits FTy.f32 0x358637BD#32)

/-- What a row of the results is made of: the branches' and the gates' rows, the residual's, the three matrices and the two gains. -/
structure Row where
  ya : Fin 1024 → EReal
  yb : Fin 1024 → EReal
  p : Fin 1024 → EReal
  q : Fin 1024 → EReal
  x : Fin 1024 → EReal
  wc : Fin 1024 → Fin 1024 → EReal
  wl : Fin 1024 → Fin 1024 → EReal
  wo : Fin 1024 → Fin 1024 → EReal
  g2 : Fin 1024 → EReal
  g3 : Fin 1024 → EReal

namespace Row

variable (R : Row)

/-- The first branch's projection. -/
def pa (d : Fin 1024) : EReal := ∑ k, R.ya k * R.wc k d
/-- The second branch's. -/
def pb (d : Fin 1024) : EReal := ∑ k, R.yb k * R.wl k d
/-- The gated sum. -/
def merged (d : Fin 1024) : EReal := Ideal.logistic (R.p d) * R.pa d + Ideal.logistic (R.q d) * R.pb d
/-- Its product with the matrix after it. -/
def mix (d : Fin 1024) : EReal := ∑ k, R.merged k * R.wo k d
/-- The norm of it, added to the residual. -/
def x1 (d : Fin 1024) : EReal := R.x d + rowNorm R.mix d * R.g2 d
/-- The norm of that. -/
def h2 (d : Fin 1024) : EReal := rowNorm R.x1 d * R.g3 d

end Row

end Cert.Proof.MergeFwd

end
-- ==== Proof.MergeFwd.Block.lean ====
/- One block of 512 rows: each stored value is the row's. -/
module

public import proofs.«01_k».proof.Proof.MergeFwd.Row
public import proofs.«01_k».proof.Proof.Gen.Kernel8Ideal.Value
public import Idealize.ShloMosaic.Lib.Pointwise
public import Idealize.ShloMosaic.Lib.Tactic.CleanTypes
public import Idealize.ShloMosaic.Lib.Pipeline.ReadBack
public import Idealize.ShloMosaic.Lib.Pipeline.ValueKit

@[expose] public section

set_option maxRecDepth 16384

noncomputable section

namespace Cert.Kernel8Ideal.MergeFwd

open Cert.Kernel8Ideal Cert.Kernel8Ideal.Gen Idealize.ShloMosaic Idealize.ShloMosaic.TcCoe
open Cert.Proof.MergeFwd

variable (x0 x1 x2 x3 : Vec Ideal S512x1024 .bf16) (x4 : Vec Ideal S512x1024 .f32) (x5 x6 x7 : Vec Ideal S1024x1024 .bf16) (x8 x9 : Vec Ideal S1x1024 .f32)

/-- Row `r` of a point's blocks. -/
def rowB (r : Fin 512) : Row where
  ya k := x0 (ix2 r k)
  yb k := x1 (ix2 r k)
  p k := x2 (ix2 r k)
  q k := x3 (ix2 r k)
  x k := x4 (ix2 r k)
  wc k d := x5 (ix2 k d)
  wl k d := x6 (ix2 k d)
  wo k d := x7 (ix2 k d)
  g2 d := x8 (ix2 0 d)
  g3 d := x9 (ix2 0 d)

/-- The first projection. -/
theorem pa_block (r : Fin 512) (d : Fin 1024) : k0_pay3 x0 x5 (ix2 r d) = (rowB x0 x1 x2 x3 x4 x5 x6 x7 x8 x9 r).pa d := by
  pointwise [k0_pay3]
  rfl

/-- The second. -/
theorem pb_block (r : Fin 512) (d : Fin 1024) : k0_pay4 x1 x6 (ix2 r d) = (rowB x0 x1 x2 x3 x4 x5 x6 x7 x8 x9 r).pb d := by
  pointwise [k0_pay4]
  rfl

/-- The gated sum. -/
theorem merged_block (r : Fin 512) (d : Fin 1024) : k0_pay5 x0 x5 x1 x6 x2 x3 (ix2 r d) = (rowB x0 x1 x2 x3 x4 x5 x6 x7 x8 x9 r).merged d := by
  have ea := pa_block x0 x1 x2 x3 x4 x5 x6 x7 x8 x9 r d
  have eb := pb_block x0 x1 x2 x3 x4 x5 x6 x7 x8 x9 r d
  unfold k0_pay5
  generalize k0_pay3 x0 x5 = u at ea
  generalize k0_pay4 x1 x6 = v at eb
  pointwise
  rw [ea, eb]
  rfl

/-- The product of it, in full precision … -/
theorem mix_block (r : Fin 512) (d : Fin 1024) : k0_pay6 x0 x5 x1 x6 x2 x3 x7 (ix2 r d) = (rowB x0 x1 x2 x3 x4 x5 x6 x7 x8 x9 r).mix d := by
  have em := merged_block x0 x1 x2 x3 x4 x5 x6 x7 x8 x9 r
  unfold k0_pay6
  generalize k0_pay5 x0 x5 x1 x6 x2 x3 = u at em
  pointwise
  exact Finset.sum_congr rfl fun k _ => congrArg (· * x7 (ix2 k d)) (em k)

/-- … and as it is stored. -/
theorem mix_low_block (r : Fin 512) (d : Fin 1024) : k0_pay7 x0 x5 x1 x6 x2 x3 x7 (ix2 r d) = (rowB x0 x1 x2 x3 x4 x5 x6 x7 x8 x9 r).mix d :=
  mix_block x0 x1 x2 x3 x4 x5 x6 x7 x8 x9 r d

/-- The sum of its squares along a row. -/
theorem squares_block (r : Fin 512) : k0_pay8 x0 x5 x1 x6 x2 x3 x7 (ix1 r)
    = ∑ k, (rowB x0 x1 x2 x3 x4 x5 x6 x7 x8 x9 r).mix k * (rowB x0 x1 x2 x3 x4 x5 x6 x7 x8 x9 r).mix k := by
  have em := mix_block x0 x1 x2 x3 x4 x5 x6 x7 x8 x9 r
  unfold k0_pay8
  generalize k0_pay6 x0 x5 x1 x6 x2 x3 x7 = u at em
  pointwise
  simp only [em]

/-- The residual with the norm. -/
theorem x1_block (r : Fin 512) (d : Fin 1024) : k0_pay1 (k0_pay6 x0 x5 x1 x6 x2 x3 x7) (k0_pay8 x0 x5 x1 x6 x2 x3 x7) x4 x8 (ix2 r d)
    = (rowB x0 x1 x2 x3 x4 x5 x6 x7 x8 x9 r).x1 d := by
  have em := mix_block x0 x1 x2 x3 x4 x5 x6 x7 x8 x9 r d
  have es := squares_block x0 x1 x2 x3 x4 x5 x6 x7 x8 x9 r
  generalize k0_pay6 x0 x5 x1 x6 x2 x3 x7 = u at em
  generalize k0_pay8 x0 x5 x1 x6 x2 x3 x7 = v at es
  pointwise [k0_pay1]
  rw [em, es]
  rfl

/-- The last norm. -/
theorem h2_block (r : Fin 512) (d : Fin 1024) : k0_pay2 (k0_pay6 x0 x5 x1 x6 x2 x3 x7) (k0_pay8 x0 x5 x1 x6 x2 x3 x7) x4 x8 x9 (ix2 r d)
    = (rowB x0 x1 x2 x3 x4 x5 x6 x7 x8 x9 r).h2 d := by
  have ex := x1_block x0 x1 x2 x3 x4 x5 x6 x7 x8 x9 r
  unfold k0_pay2
  generalize k0_pay1 (k0_pay6 x0 x5 x1 x6 x2 x3 x7) (k0_pay8 x0 x5 x1 x6 x2 x3 x7) x4 x8 = u at ex
  pointwise
  simp only [ex]
  rfl

end Cert.Kernel8Ideal.MergeFwd

end
-- ==== Proof.MergeFwd.Arrays.lean ====
/- The merge's six result arrays after the run, in closed form: every row is made of the same row of the arguments. -/
module

public import proofs.«01_k».proof.Proof.MergeFwd.Block

@[expose] public section

set_option maxRecDepth 16384

noncomputable section

namespace Cert.Kernel8Ideal.MergeFwd

open Cert.Kernel8Ideal Cert.Kernel8Ideal.Gen Idealize.ShloMosaic Idealize.ShloMosaic.TcCoe Idealize.SL.Sem
open Cert.Proof.MergeFwd

/-- A column of the gates' first half, among the columns of the projection … -/
def gateP (k : Fin 1024) : Fin 7168 := ⟨5120 + k.val, by omega⟩
/-- … and of their second half. -/
def gateQ (k : Fin 1024) : Fin 7168 := ⟨6144 + k.val, by omega⟩

/-- Row `n` of the arguments. -/
def rowA (A0 A1 : Vec Ideal S2048x1024 .bf16) (A2 : Vec Ideal S2048x7168 .bf16) (A3 : Vec Ideal S2048x1024 .f32) (A4 A5 A6 : Vec Ideal S1024x1024 .bf16) (A7 A8 : Vec Ideal S1024 .f32) (n : Fin 2048) : Row where
  ya k := A0 (ix2 n k)
  yb k := A1 (ix2 n k)
  p k := A2 (ix2 n (gateP k))
  q k := A2 (ix2 n (gateQ k))
  x k := A3 (ix2 n k)
  wc k d := A4 (ix2 k d)
  wl k d := A5 (ix2 k d)
  wo k d := A6 (ix2 k d)
  g2 d := A7 (ix1 d)
  g3 d := A8 (ix1 d)

/-- An array whose rows are a function of the arguments' rows. -/
def arrayOf (e : FTy) (f : Row → Fin 1024 → EReal) (row : Fin 2048 → Row) : FVec Ideal S2048x1024 e := fun y => f (row (y 0)) (y 1)

theorem arrayOf_at (e : FTy) (f : Row → Fin 1024 → EReal) (row : Fin 2048 → Row) (y : S2048x1024.Idx) (n : Fin 2048) (d : Fin 1024) (hn : (y 0).val = n.val) (hd : (y 1).val = d.val) :
    arrayOf e f row y = f (row n) d := by
  unfold arrayOf
  rw [show y 0 = n from Fin.ext hn, show y 1 = d from Fin.ext hd]

/-! What a point stores. -/

theorem ld_rows {e : EltTy} (X : S512x1024.Idx → Elt Ideal e) : View.ld X r0_0 = X := View.ld_unit_lit _ _ (by decide)
theorem ld_matrix {e : EltTy} (X : S1024x1024.Idx → Elt Ideal e) : View.ld X r0_1 = X := View.ld_unit_lit _ _ (by decide)
theorem ld_gain {e : EltTy} (X : S1x1024.Idx → Elt Ideal e) : View.ld X r0_2 = X := View.ld_unit_lit _ _ (by decide)

section Stored

variable (x0 x1 x2 x3 : Vec Ideal S512x1024 .bf16) (x4 : Vec Ideal S512x1024 .f32) (x5 x6 x7 : Vec Ideal S1024x1024 .bf16) (x8 x9 : Vec Ideal S1x1024 .f32)

theorem pa_stored (r : Fin 512) (d : Fin 1024) : out0_10 x0 x1 x2 x3 x4 x5 x6 x7 x8 x9 (ix2 r d) = (rowB x0 x1 x2 x3 x4 x5 x6 x7 x8 x9 r).pa d := by
  unfold_out out0_10
  rw [View.canon_cons_unit_lit _ _ _ (by decide)]
  simp only [ld_rows, ld_matrix, ld_gain]
  exact pa_block x0 x1 x2 x3 x4 x5 x6 x7 x8 x9 r d

theorem pb_stored (r : Fin 512) (d : Fin 1024) : out0_11 x0 x1 x2 x3 x4 x5 x6 x7 x8 x9 (ix2 r d) = (rowB x0 x1 x2 x3 x4 x5 x6 x7 x8 x9 r).pb d := by
  unfold_out out0_11
  rw [View.canon_cons_unit_lit _ _ _ (by decide)]
  simp only [ld_rows, ld_matrix, ld_gain]
  exact pb_block x0 x1 x2 x3 x4 x5 x6 x7 x8 x9 r d

theorem merged_stored (r : Fin 512) (d : Fin 1024) : out0_12 x0 x1 x2 x3 x4 x5 x6 x7 x8 x9 (ix2 r d) = (rowB x0 x1 x2 x3 x4 x5 x6 x7 x8 x9 r).merged d := by
  unfold_out out0_12
  rw [View.canon_cons_unit_lit _ _ _ (by decide)]
  simp only [ld_rows, ld_matrix, ld_gain]
  exact merged_block x0 x1 x2 x3 x4 x5 x6 x7 x8 x9 r d

theorem mix_stored (r : Fin 512) (d : Fin 1024) : out0_13 x0 x1 x2 x3 x4 x5 x6 x7 x8 x9 (ix2 r d) = (rowB x0 x1 x2 x3 x4 x5 x6 x7 x8 x9 r).mix d := by
  unfold_out out0_13
  rw [View.canon_cons_unit_lit _ _ _ (by decide)]
  simp only [ld_rows, ld_matrix, ld_gain]
  exact mix_low_block x0 x1 x2 x3 x4 x5 x6 x7 x8 x9 r d

theorem x1_stored (r : Fin 512) (d : Fin 1024) : out0_14 x0 x1 x2 x3 x4 x5 x6 x7 x8 x9 (ix2 r d) = (rowB x0 x1 x2 x3 x4 x5 x6 x7 x8 x9 r).x1 d := by
  unfold_out out0_14
  rw [View.canon_cons_unit_lit _ _ _ (by decide)]
  simp only [ld_rows, ld_matrix, ld_gain]
  exact x1_block x0 x1 x2 x3 x4 x5 x6 x7 x8 x9 r d

theorem h2_stored (r : Fin 512) (d : Fin 1024) : out0_15 x0 x1 x2 x3 x4 x5 x6 x7 x8 x9 (ix2 r d) = (rowB x0 x1 x2 x3 x4 x5 x6 x7 x8 x9 r).h2 d := by
  unfold_out out0_15
  rw [View.canon_cons_unit_lit _ _ _ (by decide)]
  simp only [ld_rows, ld_matrix, ld_gain]
  exact h2_block x0 x1 x2 x3 x4 x5 x6 x7 x8 x9 r d

end Stored

/-! The blocks of the arrays. -/

variable (m : (ℓ : Loc nD τ sig) → Buf (Elt Ideal) ℓ) (c : Dev nD)

/-- Which block of each array a grid point reads … -/
theorem idx_rows : ∀ t : Fin cfg0.N, win0_0.index t 0 = t.val ∧ win0_0.index t 1 = 0 ∧ win0_1.index t 0 = t.val ∧ win0_1.index t 1 = 0 ∧ win0_2.index t 0 = t.val ∧ win0_2.index t 1 = 5
    ∧ win0_3.index t 0 = t.val ∧ win0_3.index t 1 = 6 ∧ win0_4.index t 0 = t.val ∧ win0_4.index t 1 = 0 :=
  (by decide +kernel : ∀ t : Fin grid0.N, _)

/-- … of the matrices and the gains the whole … -/
theorem idx_wholes : ∀ t : Fin cfg0.N, win0_5.index t 0 = 0 ∧ win0_5.index t 1 = 0 ∧ win0_6.index t 0 = 0 ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0 :=
  (by decide +kernel : ∀ t : Fin grid0.N, _)

/-- … or writes. -/
theorem idx_results : ∀ t : Fin cfg0.N, win0_10.index t 0 = t.val ∧ win0_10.index t 1 = 0 ∧ win0_11.index t 0 = t.val ∧ win0_11.index t 1 = 0 ∧ win0_12.index t 0 = t.val ∧ win0_12.index t 1 = 0
    ∧ win0_13.index t 0 = t.val ∧ win0_13.index t 1 = 0 ∧ win0_14.index t 0 = t.val ∧ win0_14.index t 1 = 0 ∧ win0_15.index t 0 = t.val ∧ win0_15.index t 1 = 0 :=
  (by decide +kernel : ∀ t : Fin grid0.N, _)

theorem lt_points (t : Fin cfg0.N) : t.val < 4 := t.isLt

/-- Row `r` of the block of a point. -/
def rowOf (t : Fin cfg0.N) (r : Fin 512) : Fin 2048 := ⟨512 * t.val + r.val, by have := lt_points t; omega⟩

/-- The rows of the launched arguments. -/
def rowM (n : Fin 2048) : Row :=
  rowA (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) n

theorem block0 (t : Fin cfg0.N) (r : Fin 512) (k : Fin 1024) : (iblk m c 0 t : Vec Ideal S512x1024 .bf16) (ix2 r k) = (m ((c : Thread nD τ).loc main_arg0) : Vec Ideal S2048x1024 .bf16) (ix2 (rowOf t r) k) := by
  obtain ⟨h, z, -⟩ := idx_rows t
  rw [← V_main_arg0 m c]
  blk_simp [iblk, h, z]
  blk_ext
  all_goals (simp only [h, z, rowOf]; try omega)

theorem block1 (t : Fin cfg0.N) (r : Fin 512) (k : Fin 1024) : (iblk m c 1 t : Vec Ideal S512x1024 .bf16) (ix2 r k) = (m ((c : Thread nD τ).loc main_arg1) : Vec Ideal S2048x1024 .bf16) (ix2 (rowOf t r) k) := by
  obtain ⟨-, -, h, z, -⟩ := idx_rows t
  rw [← V_main_arg1 m c]
  blk_simp [iblk, h, z]
  blk_ext
  all_goals (simp only [h, z, rowOf]; try omega)

theorem block2 (t : Fin cfg0.N) (r : Fin 512) (k : Fin 1024) : (iblk m c 2 t : Vec Ideal S512x1024 .bf16) (ix2 r k) = (m ((c : Thread nD τ).loc main_arg2) : Vec Ideal S2048x7168 .bf16) (ix2 (rowOf t r) (gateP k)) := by
  obtain ⟨-, -, -, -, h, z, -⟩ := idx_rows t
  rw [← V_main_arg2 m c]
  blk_simp [iblk, h, z]
  blk_ext
  all_goals (simp only [h, z, rowOf, gateP]; try omega)

theorem block3 (t : Fin cfg0.N) (r : Fin 512) (k : Fin 1024) : (iblk m c 3 t : Vec Ideal S512x1024 .bf16) (ix2 r k) = (m ((c : Thread nD τ).loc main_arg2) : Vec Ideal S2048x7168 .bf16) (ix2 (rowOf t r) (gateQ k)) := by
  obtain ⟨-, -, -, -, -, -, h, z, -⟩ := idx_rows t
  rw [← V_main_arg2 m c]
  blk_simp [iblk, h, z]
  blk_ext
  all_goals (simp only [h, z, rowOf, gateQ]; try omega)

theorem block4 (t : Fin cfg0.N) (r : Fin 512) (k : Fin 1024) : (iblk m c 4 t : Vec Ideal S512x1024 .f32) (ix2 r k) = (m ((c : Thread nD τ).loc main_arg3) : Vec Ideal S2048x1024 .f32) (ix2 (rowOf t r) k) := by
  obtain ⟨-, -, -, -, -, -, -, -, h, z⟩ := idx_rows t
  rw [← V_main_arg3 m c]
  blk_simp [iblk, h, z]
  blk_ext
  all_goals (simp only [h, z, rowOf]; try omega)

theorem block5 (t : Fin cfg0.N) (k d : Fin 1024) : (iblk m c 5 t : Vec Ideal S1024x1024 .bf16) (ix2 k d) = (m ((c : Thread nD τ).loc main_arg4) : Vec Ideal S1024x1024 .bf16) (ix2 k d) := by
  obtain ⟨h, z, -⟩ := idx_wholes t
  rw [← V_main_arg4 m c]
  blk_simp [iblk, h, z]
  blk_ext
  all_goals (simp only [h, z]; omega)

theorem block6 (t : Fin cfg0.N) (k d : Fin 1024) : (iblk m c 6 t : Vec Ideal S1024x1024 .bf16) (ix2 k d) = (m ((c : Thread nD τ).loc main_arg5) : Vec Ideal S1024x1024 .bf16) (ix2 k d) := by
  obtain ⟨-, -, h, z, -⟩ := idx_wholes t
  rw [← V_main_arg5 m c]
  blk_simp [iblk, h, z]
  blk_ext
  all_goals (simp only [h, z]; omega)

theorem block7 (t : Fin cfg0.N) (k d : Fin 1024) : (iblk m c 7 t : Vec Ideal S1024x1024 .bf16) (ix2 k d) = (m ((c : Thread nD τ).loc main_arg6) : Vec Ideal S1024x1024 .bf16) (ix2 k d) := by
  obtain ⟨-, -, -, -, h, z, -⟩ := idx_wholes t
  rw [← V_main_arg6 m c]
  blk_simp [iblk, h, z]
  blk_ext
  all_goals (simp only [h, z]; omega)

/-- The first gain, as the host's line leaves it … -/
theorem hostGain2 (d : Fin 1024) : (V m c main_v0 : Vec Ideal S1x1024 .f32) (ix2 0 d) = (m ((c : Thread nD τ).loc main_arg7) : Vec Ideal S1024 .f32) (ix1 d) := by
  unfold V hostOps0
  after_results_simp
  pointwise

/-- … and the second. -/
theorem hostGain3 (d : Fin 1024) : (V m c main_v1 : Vec Ideal S1x1024 .f32) (ix2 0 d) = (m ((c : Thread nD τ).loc main_arg8) : Vec Ideal S1024 .f32) (ix1 d) := by
  unfold V hostOps0
  after_results_simp
  pointwise

theorem block8 (t : Fin cfg0.N) (d : Fin 1024) : (iblk m c 8 t : Vec Ideal S1x1024 .f32) (ix2 0 d) = (m ((c : Thread nD τ).loc main_arg7) : Vec Ideal S1024 .f32) (ix1 d) := by
  obtain ⟨-, -, -, -, -, -, h, z, -⟩ := idx_wholes t
  rw [← hostGain2 m c]
  blk_simp [iblk, h, z]
  blk_ext
  all_goals (simp only [h, z]; omega)

theorem block9 (t : Fin cfg0.N) (d : Fin 1024) : (iblk m c 9 t : Vec Ideal S1x1024 .f32) (ix2 0 d) = (m ((c : Thread nD τ).loc main_arg8) : Vec Ideal S1024 .f32) (ix1 d) := by
  obtain ⟨-, -, -, -, -, -, -, -, h, z⟩ := idx_wholes t
  rw [← hostGain3 m c]
  blk_simp [iblk, h, z]
  blk_ext
  all_goals (simp only [h, z]; omega)

/-- A point's row is the arguments' row. -/
theorem row_at (t : Fin cfg0.N) (r : Fin 512) :
    rowB (iblk m c 0 t) (iblk m c 1 t) (iblk m c 2 t) (iblk m c 3 t) (iblk m c 4 t) (iblk m c 5 t) (iblk m c 6 t) (iblk m c 7 t) (iblk m c 8 t) (iblk m c 9 t) r = rowM m c (rowOf t r) := by
  simp only [rowB, rowM, rowA, block0, block1, block2, block3, block4, block5, block6, block7, block8, block9]

/-! The result arrays. -/

/-- The first projection. -/
theorem pa_result : (dats m 0 c).arrAt 10 cfg0.N = arrayOf .bf16 Row.pa (rowM m c) := by
  refine (dats m 0 c).arrAt_eq_of_covers 10 _ (by decide +kernel) fun t hf y => ?_
  obtain ⟨h, z, -⟩ := idx_results t
  blk_simp
  rw [after0_10]
  idx_vars y
  refine (pa_stored _ _ _ _ _ _ _ _ _ _ y0 y1).trans ((congrArg (Row.pa · y1) (row_at m c t y0)).trans (arrayOf_at .bf16 Row.pa _ _ (rowOf t y0) y1 ?_ ?_).symm)
  all_goals (blk_simp [z, h, rowOf]; try first | omega | (dsimp only; omega))

/-- The second. -/
theorem pb_result : (dats m 0 c).arrAt 11 cfg0.N = arrayOf .bf16 Row.pb (rowM m c) := by
  refine (dats m 0 c).arrAt_eq_of_covers 11 _ (by decide +kernel) fun t hf y => ?_
  obtain ⟨-, -, h, z, -⟩ := idx_results t
  blk_simp
  rw [after0_11]
  idx_vars y
  refine (pb_stored _ _ _ _ _ _ _ _ _ _ y0 y1).trans ((congrArg (Row.pb · y1) (row_at m c t y0)).trans (arrayOf_at .bf16 Row.pb _ _ (rowOf t y0) y1 ?_ ?_).symm)
  all_goals (blk_simp [z, h, rowOf]; try first | omega | (dsimp only; omega))

/-- The gated sum. -/
theorem merged_result : (dats m 0 c).arrAt 12 cfg0.N = arrayOf .bf16 Row.merged (rowM m c) := by
  refine (dats m 0 c).arrAt_eq_of_covers 12 _ (by decide +kernel) fun t hf y => ?_
  obtain ⟨-, -, -, -, h, z, -⟩ := idx_results t
  blk_simp
  rw [after0_12]
  idx_vars y
  refine (merged_stored _ _ _ _ _ _ _ _ _ _ y0 y1).trans ((congrArg (Row.merged · y1) (row_at m c t y0)).trans (arrayOf_at .bf16 Row.merged _ _ (rowOf t y0) y1 ?_ ?_).symm)
  all_goals (blk_simp [z, h, rowOf]; try first | omega | (dsimp only; omega))

/-- Its product. -/
theorem mix_result : (dats m 0 c).arrAt 13 cfg0.N = arrayOf .bf16 Row.mix (rowM m c) := by
  refine (dats m 0 c).arrAt_eq_of_covers 13 _ (by decide +kernel) fun t hf y => ?_
  obtain ⟨-, -, -, -, -, -, h, z, -⟩ := idx_results t
  blk_simp
  rw [after0_13]
  idx_vars y
  refine (mix_stored _ _ _ _ _ _ _ _ _ _ y0 y1).trans ((congrArg (Row.mix · y1) (row_at m c t y0)).trans (arrayOf_at .bf16 Row.mix _ _ (rowOf t y0) y1 ?_ ?_).symm)
  all_goals (blk_simp [z, h, rowOf]; try first | omega | (dsimp only; omega))

/-- The residual with the norm. -/
theorem x1_result : (dats m 0 c).arrAt 14 cfg0.N = arrayOf .f32 Row.x1 (rowM m c) := by
  refine (dats m 0 c).arrAt_eq_of_covers 14 _ (by decide +kernel) fun t hf y => ?_
  obtain ⟨-, -, -, -, -, -, -, -, h, z, -⟩ := idx_results t
  blk_simp
  rw [after0_14]
  idx_vars y
  refine (x1_stored _ _ _ _ _ _ _ _ _ _ y0 y1).trans ((congrArg (Row.x1 · y1) (row_at m c t y0)).trans (arrayOf_at .f32 Row.x1 _ _ (rowOf t y0) y1 ?_ ?_).symm)
  all_goals (blk_simp [z, h, rowOf]; try first | omega | (dsimp only; omega))

/-- The last norm. -/
theorem h2_result : (dats m 0 c).arrAt 15 cfg0.N = arrayOf .bf16 Row.h2 (rowM m c) := by
  refine (dats m 0 c).arrAt_eq_of_covers 15 _ (by decide +kernel) fun t hf y => ?_
  obtain ⟨-, -, -, -, -, -, -, -, -, -, h, z⟩ := idx_results t
  blk_simp
  rw [after0_15]
  idx_vars y
  refine (h2_stored _ _ _ _ _ _ _ _ _ _ y0 y1).trans ((congrArg (Row.h2 · y1) (row_at m c t y0)).trans (arrayOf_at .bf16 Row.h2 _ _ (rowOf t y0) y1 ?_ ?_).symm)
  all_goals (blk_simp [z, h, rowOf]; try first | omega | (dsimp only; omega))

end Cert.Kernel8Ideal.MergeFwd

end
-- ==== Proof.MergeFwd.Plain.lean ====
/- The reference's six results: the same rows. -/
module

public import proofs.«01_k».proof.Proof.MergeFwd.Arrays
public import proofs.«01_k».proof.Proof.Gen.Reference8Ideal.Run

@[expose] public section

set_option maxRecDepth 16384

noncomputable section

namespace Cert.Reference8Ideal.MergeFwd

open Cert.Reference8Ideal Cert.Reference8Ideal.Gen Cert.Reference8Ideal.Value Idealize.ShloMosaic Idealize.ShloMosaic.TcCoe Idealize.SL.Sem
open Cert.Proof.MergeFwd
open Cert.Kernel8Ideal.MergeFwd (rowA arrayOf gateP gateQ)

/-! The reference's lines, each of the arrays before it. -/

/-- A product with a matrix of low precision. -/
def prodT (Y : FVec Ideal S2048x1024 .f32) (W : Vec Ideal S1024x1024 .bf16) : FVec Ideal S2048x1024 .f32 :=
  Host.dotGeneral dot_S2048x1024_S1024x1024_S2048x1024_1_0_0_1_n_n none Y (extf .f32 W bitsLt_bf16_f32)

/-- A gate. -/
def gateT (G : FVec Ideal S2048x1024 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf G)))

/-- The gated sum. -/
def mergedT (A0 A1 : Vec Ideal S2048x1024 .bf16) (A2 : Vec Ideal S2048x7168 .bf16) (A4 A5 : Vec Ideal S1024x1024 .bf16) : FVec Ideal S2048x1024 .f32 :=
  addf (mulf (gateT (extractStridedSlice S2048x1024 ![0, 5120] (extf .f32 A2 bitsLt_bf16_f32) slices_S2048x7168_S2048x1024_0_5120)) (prodT (extf .f32 A0 bitsLt_bf16_f32) A4))
    (mulf (gateT (extractStridedSlice S2048x1024 ![0, 6144] (extf .f32 A2 bitsLt_bf16_f32) slices_S2048x7168_S2048x1024_0_6144)) (prodT (extf .f32 A1 bitsLt_bf16_f32) A5))

/-- The norm of the rows, with a gain. -/
def normT (M : FVec Ideal S2048x1024 .f32) (g : Vec Ideal S1024 .f32) : FVec Ideal S2048x1024 .f32 :=
  mulf (mulf M (broadcastInDim S2048x1024 ![0, 1] bcast_S2048x1_S2048x1024_0_1 (Host.rsqrt (addf (Host.divf (broadcastInDim S2048x1 ![0] bcast_S2048_S2048x1_0 (Host.reduceAdd (mulf M M) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))

/-! Their entries. -/

theorem prodT_at (Y : FVec Ideal S2048x1024 .f32) (W : Vec Ideal S1024x1024 .bf16) (n : Fin 2048) (d : Fin 1024) : prodT Y W (ix2 n d) = ∑ k : Fin 1024, Y (ix2 n k) * W (ix2 k d) := by
  pointwise [prodT]

theorem gateT_at (G : FVec Ideal S2048x1024 .f32) (n : Fin 2048) (d : Fin 1024) : gateT G (ix2 n d) = Ideal.logistic (G (ix2 n d)) := by
  pointwise [gateT]
  rfl

theorem normT_at (M : FVec Ideal S2048x1024 .f32) (g : Vec Ideal S1024 .f32) (n : Fin 2048) (d : Fin 1024) : normT M g (ix2 n d) = rowNorm (fun k => M (ix2 n k)) d * g (ix1 d) := by
  pointwise [normT]
  rfl

variable (A0 A1 : Vec Ideal S2048x1024 .bf16) (A2 : Vec Ideal S2048x7168 .bf16) (A3 : Vec Ideal S2048x1024 .f32) (A4 A5 A6 : Vec Ideal S1024x1024 .bf16) (A7 A8 : Vec Ideal S1024 .f32)

/-- The gated sum. -/
theorem mergedT_at (n : Fin 2048) (d : Fin 1024) : mergedT A0 A1 A2 A4 A5 (ix2 n d) = (rowA A0 A1 A2 A3 A4 A5 A6 A7 A8 n).merged d := by
  unfold mergedT
  pointwise
  rw [gateT_at, gateT_at, prodT_at, prodT_at]
  pointwise
  rfl

/-- Its product. -/
theorem mixT_at (n : Fin 2048) (d : Fin 1024) : prodT (mergedT A0 A1 A2 A4 A5) A6 (ix2 n d) = (rowA A0 A1 A2 A3 A4 A5 A6 A7 A8 n).mix d := by
  rw [prodT_at]
  exact Finset.sum_congr rfl fun k _ => congrArg (· * A6 (ix2 k d)) (mergedT_at A0 A1 A2 A3 A4 A5 A6 A7 A8 n k)

/-- The residual with the norm. -/
theorem x1T_at (n : Fin 2048) (d : Fin 1024) : addf (F := Ideal) (φ := .f32) A3 (normT (prodT (mergedT A0 A1 A2 A4 A5) A6) A7) (ix2 n d) = (rowA A0 A1 A2 A3 A4 A5 A6 A7 A8 n).x1 d := by
  pointwise
  rw [normT_at]
  simp only [mixT_at A0 A1 A2 A3 A4 A5 A6 A7 A8]
  rfl

/-- The last norm. -/
theorem h2T_at (n : Fin 2048) (d : Fin 1024) : normT (addf (F := Ideal) (φ := .f32) A3 (normT (prodT (mergedT A0 A1 A2 A4 A5) A6) A7)) A8 (ix2 n d) = (rowA A0 A1 A2 A3 A4 A5 A6 A7 A8 n).h2 d := by
  rw [normT_at]
  simp only [x1T_at A0 A1 A2 A3 A4 A5 A6 A7 A8]
  rfl

/-- An array of whose entries each is known. -/
theorem eq_arrayOf {e : FTy} (X : FVec Ideal S2048x1024 e) (f : Row → Fin 1024 → EReal) (row : Fin 2048 → Row) (h : ∀ n d, X (ix2 n d) = f (row n) d) : X = arrayOf e f row := by
  funext j
  idx_vars j
  exact h j0 j1

variable (m : (ℓ : Loc nD τ sig) → Buf (Elt Ideal) ℓ) (c : Dev nD)

/-- The rows of the launched arguments. -/
def rowR (n : Fin 2048) : Row :=
  rowA (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) n

set_option maxHeartbeats 2000000 in
/-- The reference's run ends with these rows in its result arrays and the arguments as they were. -/
theorem run_closed (ρ : Dev nD → PrngReg) :
    θ_run defs (onTc (τ := τ) (main (F := Ideal))) ⟨m, fun _ => 0, ρ⟩ fun r => ∀ c : Dev nD,
      r.2.mem ((c.tc : Thread nD τ).loc main_v53) = arrayOf .bf16 Row.pa (rowR m c)
      ∧ r.2.mem ((c.tc : Thread nD τ).loc main_v54) = arrayOf .bf16 Row.pb (rowR m c)
      ∧ r.2.mem ((c.tc : Thread nD τ).loc main_v55) = arrayOf .bf16 Row.merged (rowR m c)
      ∧ r.2.mem ((c.tc : Thread nD τ).loc main_v56) = arrayOf .bf16 Row.mix (rowR m c)
      ∧ r.2.mem ((c.tc : Thread nD τ).loc main_v39) = arrayOf .f32 Row.x1 (rowR m c)
      ∧ r.2.mem ((c.tc : Thread nD τ).loc main_v57) = arrayOf .bf16 Row.h2 (rowR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference8Ideal.Value.run (F := Ideal) m ρ)
  · exact eq_arrayOf _ Row.pa _ fun n d => prodT_at _ _ n d
  · exact eq_arrayOf _ Row.pb _ fun n d => prodT_at _ _ n d
  · exact eq_arrayOf _ Row.merged _ fun n d => mergedT_at _ _ _ _ _ _ _ _ _ n d
  · exact eq_arrayOf _ Row.mix _ fun n d => mixT_at _ _ _ _ _ _ _ _ _ n d
  · exact eq_arrayOf _ Row.x1 _ fun n d => x1T_at _ _ _ _ _ _ _ _ _ n d
  · exact eq_arrayOf _ Row.h2 _ fun n d => h2T_at _ _ _ _ _ _ _ _ _ n d

end Cert.Reference8Ideal.MergeFwd

end
-- ==== Proof.MergeFwd.Claim.lean ====
/- The claims about the merge of the forward pass: the reference's frame, and that both programs compute the same six arrays. -/
module

public import proofs.«01_k».proof.Defs
public import proofs.«01_k».proof.Proof.MergeFwd.Plain
public import Idealize.ShloMosaic.Lib.Quiescent

@[expose] public section

noncomputable section

namespace Cert.Proof.MergeFwd

open Idealize.ShloMosaic Idealize.ShloMosaic.TcCoe Idealize.SL.Sem
open Cert.Kernel8Ideal.MergeFwd (rowA rowM arrayOf)
open Cert.Reference8Ideal.MergeFwd (rowR)

/-- The reference terminates, leaves its arguments as they were, and no semaphore is ever raised. -/
theorem frame_reference8 : Cert.quiescent_Reference8Ideal := fun m ρ _ =>
  (θ_run Cert.Reference8Ideal.defs _ _).mono (fun r h => ⟨fun c => (h c).2.2.2.2.2.2, Idealize.ShloMosaic.sem_eq_zero_of_no_sems (by decide) r.2⟩)
    (Cert.Reference8Ideal.Value.run (F := Ideal) m ρ)

set_option maxHeartbeats 4000000 in
/-- Both programs end with the same rows of the arguments in their six result arrays. -/
theorem algebraic8 : Cert.algebraic_Kernel8Ideal_Reference8Ideal := by
  intro m ρ m' ρ' _ hagree
  refine ⟨fun c => arrayOf .bf16 Row.pa (rowM m c), fun c => arrayOf .bf16 Row.pb (rowM m c), fun c => arrayOf .bf16 Row.merged (rowM m c), fun c => arrayOf .bf16 Row.mix (rowM m c),
    fun c => arrayOf .f32 Row.x1 (rowM m c), fun c => arrayOf .bf16 Row.h2 (rowM m c), ?_, ?_⟩
  · refine (θ_run Cert.Kernel8Ideal.defs _ _).mono (fun _ h c => ?_) (Cert.Kernel8Ideal.Value.run_blocks (F := Ideal) m ρ)
    exact ⟨(h c).1.trans (Cert.Kernel8Ideal.MergeFwd.pa_result m c), (h c).2.1.trans (Cert.Kernel8Ideal.MergeFwd.pb_result m c),
      (h c).2.2.1.trans (Cert.Kernel8Ideal.MergeFwd.merged_result m c), (h c).2.2.2.1.trans (Cert.Kernel8Ideal.MergeFwd.mix_result m c),
      (h c).2.2.2.2.1.trans (Cert.Kernel8Ideal.MergeFwd.x1_result m c), (h c).2.2.2.2.2.1.trans (Cert.Kernel8Ideal.MergeFwd.h2_result m c), (h c).2.2.2.2.2.2⟩
  · refine (θ_run Cert.Reference8Ideal.defs _ _).mono (fun _ h c => ?_) (Cert.Reference8Ideal.MergeFwd.run_closed m' ρ')
    have e : rowR m' c = rowM m c := by
      obtain ⟨a0, a1, a2, a3, a4, a5, a6, a7, a8⟩ := hagree c
      unfold rowR rowM
      rw [a0, a1, a2, a3, a4, a5, a6, a7, a8]
    dsimp only
    rw [← e]
    exact h c

end Cert.Proof.MergeFwd

end
-- ==== Proof.FfnFwd.Block.lean ====
/- One block of columns of the forward up product and its convolution: what the kernel's buffers hold once it has stored them. -/
module

public import proofs.«01_k».proof.Proof.ConvFwd.Chunk
public import proofs.«01_k».proof.Proof.Gen.Kernel9Ideal.Value

@[expose] public section

set_option maxRecDepth 16384

noncomputable section

namespace Cert.Kernel9Ideal.FfnFwd

open Cert.Kernel9Ideal Cert.Kernel9Ideal.Gen Idealize.ShloMosaic Idealize.ShloMosaic.TcCoe Idealize.SL.Sem
open Cert.KernelIdeal.Conv (tall tall_emb causal weigh rowsBack weigh_loaded)

/-- Entry `l` of row `n` of the product. -/
def upG (h : Vec Ideal S2048x1024 .bf16) (w : Vec Ideal S1024x256 .bf16) (n : Fin 2048) (l : Fin 256) : EReal := ∑ k : Fin 1024, h (ix2 n k) * w (ix2 k l)

/-- The product under eight rows of zeros, by the row's number. -/
def upPad (h : Vec Ideal S2048x1024 .bf16) (w : Vec Ideal S1024x256 .bf16) (n : ℕ) (l : Fin 256) : EReal :=
  if hn : 8 ≤ n ∧ n < 2056 then upG h w ⟨n - 8, by omega⟩ l else 0

theorem upPad_eq (h : Vec Ideal S2048x1024 .bf16) (w : Vec Ideal S1024x256 .bf16) (n : ℕ) (hn : n < 2048) (k : ℕ) (hk : k = n + 8) (l : Fin 256) :
    upPad h w k l = upG h w ⟨n, hn⟩ l := by
  subst hk
  exact dif_pos ⟨by omega, by omega⟩

theorem upPad_zero (h : Vec Ideal S2048x1024 .bf16) (w : Vec Ideal S1024x256 .bf16) (k : ℕ) (hk : k < 8) (l : Fin 256) : upPad h w k l = 0 := dif_neg (by omega)

/-- The convolution with its bias. -/
def actG (h : Vec Ideal S2048x1024 .bf16) (w : Vec Ideal S1024x256 .bf16) (t : Vec Ideal S3x256 .f32) (b : Vec Ideal S1x256 .f32) (n : ℕ) (l : Fin 256) : EReal :=
  causal t (upPad h w) n l + b (ix2 0 l)

/-- The smooth unit, in the kernel's order of factors. -/
def unit (x : EReal) : EReal :=
  (Scalar.ofBits (F := Ideal) .f32 0x3F000000#32 * x) * (Scalar.ofBits (F := Ideal) .f32 0x3F800000#32
    + Ideal.tanh (Scalar.ofBits (F := Ideal) .f32 0x3F4C422A#32 * (x + Scalar.ofBits (F := Ideal) .f32 0x3D372713#32 * x * x * x)))

/-- A function of a row and a lane, as a block. -/
def blockOf {e : EltTy} (g : ℕ → Fin 256 → Elt Ideal e) : Vec Ideal S2048x256 e := fun y => g (y 0).val (y 1)

/-- A chunk of 256 rows of a block, placed. -/
theorem blockOf_emb {e : EltTy} (g : ℕ → Fin 256 → Elt Ideal e) (o : ℕ) (inb : ∀ a, (![o, 0] : Fin 2 → ℕ) a + (![256, 256] : Fin 2 → ℕ) a ≤ S2048x256.size a)
    (r l : Fin 256) : blockOf g ((Rect.unit (s := S2048x256) ![o, 0] ![256, 256] inb).emb (ix2 r l)) = g (o + r.val) l := by
  have h0 : (((Rect.unit (s := S2048x256) ![o, 0] ![256, 256] inb).emb (ix2 r l)) 0).val = o + r.val := ValueKit.rect_emb_unit_val _ _ _ _ _
  have h1 : (((Rect.unit (s := S2048x256) ![o, 0] ![256, 256] inb).emb (ix2 r l)) 1).val = 0 + l.val := ValueKit.rect_emb_unit_val _ _ _ _ _
  unfold blockOf
  rw [h0]
  congr 1
  exact Fin.ext (by rw [h1]; omega)

/-- A chunk of the product. -/
def upChunk (h : Vec Ideal S256x1024 .bf16) (w : Vec Ideal S1024x256 .bf16) : FVec Ideal S256x256 .bf16 :=
  truncf .bf16 (matmul (φ₁ := .bf16) (φ₂ := .bf16) dot_S256x1024_S1024x256_S256x256_1_0_0_1_n_n none h w (constant S256x256 .f32 0x00000000#32)) bitsLt_bf16_f32

/-- A chunk of the convolution with its bias. -/
def actChunk (t : Vec Ideal S3x256 .f32) (b : Vec Ideal S1x256 .f32) (cur : FVec Ideal S256x256 .f32) (before : FVec Ideal S8x256 .f32) : FVec Ideal S256x256 .f32 :=
  addf (weigh t (rowsBack 2#32 cur before) (rowsBack 1#32 cur before) cur) (broadcastTo S256x256 (shapeCast S1x256 b shapeCasts_S1x256_S1x256) broadcasts_S1x256_S256x256)

/-- A chunk of the smooth unit. -/
def unitChunk (x : FVec Ideal S256x256 .f32) : FVec Ideal S256x256 .f32 :=
  mulf (mulf (broadcast S256x256 (Scalar.ofBits (F := Ideal) .f32 0x3F000000#32)) x)
    (addf (broadcast S256x256 (Scalar.ofBits (F := Ideal) .f32 0x3F800000#32)) (tanh (mulf (broadcast S256x256 (Scalar.ofBits (F := Ideal) .f32 0x3F4C422A#32))
      (addf x (mulf (mulf (mulf (broadcast S256x256 (Scalar.ofBits (F := Ideal) .f32 0x3D372713#32)) x) x) x)))))

theorem unitChunk_apply (x : FVec Ideal S256x256 .f32) (r l : Fin 256) : unitChunk x (ix2 r l) = unit (x (ix2 r l)) := by
  unfold unitChunk unit
  pointwise

/-- A chunk kept under the same shape. -/
theorem kept (x : FVec Ideal S256x256 .f32) (r l : Fin 256) : shapeCast S256x256 x shapeCasts_S256x256_S256x256 (ix2 r l) = x (ix2 r l) := by
  pointwise

/-- The product's chunk as the kernel's loads give it. -/
theorem up_piece (hv : Memref sig .tc .vmem S2048x1024 .bf16) (hhv : hv.IsWhole) (wv : Memref sig .tc .vmem S1024x256 .bf16) (hwv : wv.IsWhole) (h : Vec Ideal S2048x1024 .bf16)
    (w : Vec Ideal S1024x256 .bf16) (o : ℕ) (ho : o + 256 ≤ 2048) (i0) (i1) (r l : Fin 256) :
    upChunk (View.readAt (Elt Ideal) hv.view (Rect.unit (s := S2048x1024) ![o, 0] ![256, 1024] i0).toLoadRect (hhv.unread h))
        (View.readAt (Elt Ideal) wv.view (Rect.unit (s := S1024x256) ![0, 0] ![1024, 256] i1).toLoadRect (hwv.unread w)) (ix2 r l)
      = upG h w ⟨o + r.val, by omega⟩ l := by
  simp only [View.readAt_eq_ld, hhv.read_unread, hwv.read_unread]
  rw [View.ld_unit_lit _ _ (by decide)]
  pointwise [upChunk]
  rfl

/-- The convolution's chunk as the kernel's loads give it. -/
theorem act_piece {κ : Kind} {sp : Space} (v : View sig κ sp S2056x256 .f32) (L : List (View.Piece (Elt Ideal) S2056x256 .f32)) (h : Vec Ideal S2048x1024 .bf16) (w : Vec Ideal S1024x256 .bf16)
    (hL : View.canon L = tall (upPad h w)) (tv : Memref sig .tc .vmem S3x256 .f32) (htv : tv.IsWhole) (t : Vec Ideal S3x256 .f32) (bv : Memref sig .tc .vmem S1x256 .f32) (hbv : bv.IsWhole)
    (b : Vec Ideal S1x256 .f32) (o : ℕ) (i0) (i1) (i2) (i3) (r l : Fin 256) :
    actChunk (View.readAt (Elt Ideal) tv.view (Rect.unit (s := S3x256) ![0, 0] ![3, 256] i0).toLoadRect (htv.unread t))
        (View.readAt (Elt Ideal) bv.view (Rect.unit (s := S1x256) ![0, 0] ![1, 256] i1).toLoadRect (hbv.unread b))
        (v.readCov L (Rect.unit (s := S2056x256) ![8 + o, 0] ![256, 256] i2).toLoadRect)
        (v.readCov L (Rect.unit (s := S2056x256) ![o, 0] ![8, 256] i3).toLoadRect) (ix2 r l)
      = actG h w t b (o + r.val) l := by
  simp only [View.readAt_eq_ld, htv.read_unread, hbv.read_unread]
  rw [View.ld_unit_lit _ _ (by decide), View.ld_unit_lit _ _ (by decide)]
  refine congrArg₂ (· + ·) (weigh_loaded v L _ hL t o i2 i3 r l) ?_
  pointwise

end Cert.Kernel9Ideal.FfnFwd

end
-- ==== Proof.FfnFwd.Gate.lean ====
/- A point of the first kind: it stores a block of the gate's half and keeps the gate for the next point. -/
module

public import proofs.«01_k».proof.Proof.FfnFwd.Block

@[expose] public section

set_option maxRecDepth 16384

noncomputable section

namespace Cert.Kernel9Ideal.FfnFwd

open Cert.Kernel9Ideal Cert.Kernel9Ideal.Gen Idealize.ShloMosaic Idealize.ShloMosaic.TcCoe Idealize.SL.Sem
open Cert.KernelIdeal.Conv (tall tall_emb causal)

variable (c : Dev nD) (i : grid0.Coords) (arg2 : Memref sig .tc .vmem S2048x1024 .bf16) (harg2 : arg2.IsWhole) (arg3 : Memref sig .tc .vmem S1024x256 .bf16) (harg3 : arg3.IsWhole) (arg4 : Memref sig .tc .vmem S3x256 .f32) (harg4 : arg4.IsWhole) (arg5 : Memref sig .tc .vmem S1x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2056x256 .f32) (harg9 : arg9.IsWhole) (arg10 : Memref sig .tc .vmem S2048x256 .f32) (harg10 : arg10.IsWhole)
  (hc0 : cond0_0 i) (hc1 : ¬cond0_1 i) (x0 : Vec Ideal S2048x1024 .bf16) (x1 : Vec Ideal S1024x256 .bf16) (x2 : Vec Ideal S3x256 .f32) (x3 : Vec Ideal S1x256 .f32)

/-- The scratch buffer, filled: the product under eight rows of zeros. -/
theorem pad_filled : View.canon (kernelRun0_A c i arg2 harg2 arg3 harg3 arg4 harg4 arg5 harg5 arg6 harg6 arg7 harg7 arg8 harg8 arg9 harg9 arg10 harg10 hc0 hc1 x0 x1 x2 x3).2.2.2.2.1 = tall (upPad x0 x1) := by
  funext y
  have hc := View.cover_of_tiledBy (kernelRun0_A c i arg2 harg2 arg3 harg3 arg4 harg4 arg5 harg5 arg6 harg6 arg7 harg7 arg8 harg8 arg9 harg9 arg10 harg10 hc0 hc1 x0 x1 x2 x3).2.2.2.2.1 S8x256.size (by sl_kernel_rfl) y
  refine (congrArg (fun L => View.canon L y) (List.append_nil _).symm).trans (View.canon_append_of_piecesOf (tall (upPad x0 x1)) [] _ ?_ y hc)
  unfold kernelRun0_A
  dsimp only
  refine ⟨?_, ?_, ?_, ?_, ?_, ?_, ?_, ?_, ?_, trivial⟩
  iterate 8
    intro j
    idx_vars j
    refine Eq.trans ?_ (tall_emb _ _ _ _ _ _).symm
    exact ((kept _ _ _).trans (up_piece arg2 harg2 arg3 harg3 x0 x1 _ (by decide) _ _ _ _)).trans (upPad_eq x0 x1 _ _ _ (by omega) _).symm
  intro j
  idx_vars j
  refine Eq.trans ?_ (tall_emb _ _ _ _ _ _).symm
  unfold_payloads
  pointwise
  exact (upPad_zero _ _ _ (by omega) _).symm

/-- The block of the product, once its eight chunks are stored. -/
theorem up_stored : View.canon (kernelRun0_A c i arg2 harg2 arg3 harg3 arg4 harg4 arg5 harg5 arg6 harg6 arg7 harg7 arg8 harg8 arg9 harg9 arg10 harg10 hc0 hc1 x0 x1 x2 x3).1 = blockOf (fun n l => upPad x0 x1 (n + 8) l) := by
  funext y
  refine (congrArg (fun L => View.canon L y) (List.append_nil _).symm).trans
    (View.canon_append_of_piecesOf (blockOf (fun n l => upPad x0 x1 (n + 8) l)) [] _ ?_ y (cover0_A_4 c i arg2 harg2 arg3 harg3 arg4 harg4 arg5 harg5 arg6 harg6 arg7 harg7 arg8 harg8 arg9 harg9 arg10 harg10 hc0 hc1 x0 x1 x2 x3 y))
  unfold kernelRun0_A
  dsimp only
  refine ⟨?_, ?_, ?_, ?_, ?_, ?_, ?_, ?_, trivial⟩
  all_goals
    intro j
    idx_vars j
    rw [blockOf_emb]
    exact (up_piece arg2 harg2 arg3 harg3 x0 x1 _ (by decide) _ _ _ _).trans (upPad_eq x0 x1 _ _ _ rfl _).symm

/-- The block of the convolution, once its eight chunks are stored. -/
theorem act_stored : View.canon (kernelRun0_A c i arg2 harg2 arg3 harg3 arg4 harg4 arg5 harg5 arg6 harg6 arg7 harg7 arg8 harg8 arg9 harg9 arg10 harg10 hc0 hc1 x0 x1 x2 x3).2.1 = blockOf (actG x0 x1 x2 x3) := by
  funext y
  have hp := pad_filled c i arg2 harg2 arg3 harg3 arg4 harg4 arg5 harg5 arg6 harg6 arg7 harg7 arg8 harg8 arg9 harg9 arg10 harg10 hc0 hc1 x0 x1 x2 x3
  refine (congrArg (fun L => View.canon L y) (List.append_nil _).symm).trans
    (View.canon_append_of_piecesOf (blockOf (actG x0 x1 x2 x3)) [] _ ?_ y (cover0_A_5 c i arg2 harg2 arg3 harg3 arg4 harg4 arg5 harg5 arg6 harg6 arg7 harg7 arg8 harg8 arg9 harg9 arg10 harg10 hc0 hc1 x0 x1 x2 x3 y))
  unfold kernelRun0_A at hp ⊢
  dsimp only at hp ⊢
  refine ⟨?_, ?_, ?_, ?_, ?_, ?_, ?_, ?_, trivial⟩
  all_goals
    intro j
    idx_vars j
    rw [blockOf_emb]
    exact act_piece _ _ x0 x1 hp arg4 harg4 x2 arg5 harg5 x3 _ _ _ _ _ _ _

/-- The second scratch buffer: the same block, kept for the next point. -/
theorem gate_stored : View.canon (kernelRun0_A c i arg2 harg2 arg3 harg3 arg4 harg4 arg5 harg5 arg6 harg6 arg7 harg7 arg8 harg8 arg9 harg9 arg10 harg10 hc0 hc1 x0 x1 x2 x3).2.2.2.1 = blockOf (actG x0 x1 x2 x3) := by
  funext y
  have hp := pad_filled c i arg2 harg2 arg3 harg3 arg4 harg4 arg5 harg5 arg6 harg6 arg7 harg7 arg8 harg8 arg9 harg9 arg10 harg10 hc0 hc1 x0 x1 x2 x3
  refine (congrArg (fun L => View.canon L y) (List.append_nil _).symm).trans
    (View.canon_append_of_piecesOf (blockOf (actG x0 x1 x2 x3)) [] _ ?_ y (scover0_A_1 c i arg2 harg2 arg3 harg3 arg4 harg4 arg5 harg5 arg6 harg6 arg7 harg7 arg8 harg8 arg9 harg9 arg10 harg10 hc0 hc1 x0 x1 x2 x3 y))
  unfold kernelRun0_A at hp ⊢
  dsimp only at hp ⊢
  refine ⟨?_, ?_, ?_, ?_, ?_, ?_, ?_, ?_, trivial⟩
  all_goals
    intro j
    idx_vars j
    rw [blockOf_emb]
    exact (kept _ _ _).trans (act_piece _ _ x0 x1 hp arg4 harg4 x2 arg5 harg5 x3 _ _ _ _ _ _ _)

end Cert.Kernel9Ideal.FfnFwd

end
-- ==== Proof.FfnFwd.Value.lean ====
/- A point of the second kind: it stores a block of the other half and the third result, over the gate the point before kept. -/
module

public import proofs.«01_k».proof.Proof.FfnFwd.Gate

@[expose] public section

set_option maxRecDepth 16384

noncomputable section

namespace Cert.Kernel9Ideal.FfnFwd

open Cert.Kernel9Ideal Cert.Kernel9Ideal.Gen Idealize.ShloMosaic Idealize.ShloMosaic.TcCoe Idealize.SL.Sem
open Cert.KernelIdeal.Conv (tall tall_emb causal)

variable (c : Dev nD) (i : grid0.Coords) (arg2 : Memref sig .tc .vmem S2048x1024 .bf16) (harg2 : arg2.IsWhole) (arg3 : Memref sig .tc .vmem S1024x256 .bf16) (harg3 : arg3.IsWhole) (arg4 : Memref sig .tc .vmem S3x256 .f32) (harg4 : arg4.IsWhole) (arg5 : Memref sig .tc .vmem S1x256 .f32) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2056x256 .f32) (harg9 : arg9.IsWhole) (arg10 : Memref sig .tc .vmem S2048x256 .f32) (harg10 : arg10.IsWhole)
  (hc0 : ¬cond0_0 i) (hc1 : cond0_1 i) (x0 : Vec Ideal S2048x1024 .bf16) (x1 : Vec Ideal S1024x256 .bf16) (x2 : Vec Ideal S3x256 .f32) (x3 : Vec Ideal S1x256 .f32) (xs1 : Vec Ideal S2048x256 .f32) (i' : grid0.Coords) (hc0' : cond0_0 i') (hc1' : ¬cond0_1 i')

/-- The first two results' pieces, and the scratch buffer's, are those of a point of the first kind. -/
theorem same_pieces :
    (kernelRun0_B c i arg2 harg2 arg3 harg3 arg4 harg4 arg5 harg5 arg6 harg6 arg7 harg7 arg8 harg8 arg9 harg9 arg10 harg10 hc0 hc1 x0 x1 x2 x3 xs1).1 = (kernelRun0_A c i' arg2 harg2 arg3 harg3 arg4 harg4 arg5 harg5 arg6 harg6 arg7 harg7 arg8 harg8 arg9 harg9 arg10 harg10 hc0' hc1' x0 x1 x2 x3).1
    ∧ (kernelRun0_B c i arg2 harg2 arg3 harg3 arg4 harg4 arg5 harg5 arg6 harg6 arg7 harg7 arg8 harg8 arg9 harg9 arg10 harg10 hc0 hc1 x0 x1 x2 x3 xs1).2.1 = (kernelRun0_A c i' arg2 harg2 arg3 harg3 arg4 harg4 arg5 harg5 arg6 harg6 arg7 harg7 arg8 harg8 arg9 harg9 arg10 harg10 hc0' hc1' x0 x1 x2 x3).2.1
    ∧ (kernelRun0_B c i arg2 harg2 arg3 harg3 arg4 harg4 arg5 harg5 arg6 harg6 arg7 harg7 arg8 harg8 arg9 harg9 arg10 harg10 hc0 hc1 x0 x1 x2 x3 xs1).2.2.2.2.1 = (kernelRun0_A c i' arg2 harg2 arg3 harg3 arg4 harg4 arg5 harg5 arg6 harg6 arg7 harg7 arg8 harg8 arg9 harg9 arg10 harg10 hc0' hc1' x0 x1 x2 x3).2.2.2.2.1 := by
  refine ⟨?_, ?_, ?_⟩ <;> sl_kernel_rfl

/-- The unit's chunk of the gate as the kernel loads it back. -/
theorem unit_piece (g : ℕ → Fin 256 → EReal) (hg : ∀ (n : Fin 2048) (l : Fin 256), xs1 (ix2 n l) = g n.val l) (o : ℕ) (ho : o + 256 ≤ 2048) (i0) (r l : Fin 256) :
    unitChunk (View.readAt (Elt Ideal) arg10.view (Rect.unit (s := S2048x256) ![o, 0] ![256, 256] i0).toLoadRect (harg10.unread xs1)) (ix2 r l) = unit (g (o + r.val) l) := by
  refine (unitChunk_apply _ _ _).trans (congrArg unit (Eq.trans ?_ (hg ⟨o + r.val, by omega⟩ l)))
  simp only [View.readAt_eq_ld, harg10.read_unread]
  refine congrArg xs1 (funext fun a => Fin.ext ?_)
  match a with
  | ⟨0, _⟩ => exact ValueKit.rect_emb_unit_val _ _ _ _ _
  | ⟨1, _⟩ => exact (ValueKit.rect_emb_unit_val _ _ _ _ _).trans (by show 0 + l.val = l.val; omega)

include hc0' hc1' in
/-- The block of the third result: the smooth unit of the gate times the convolution. -/
theorem unit_stored (g : ℕ → Fin 256 → EReal) (hg : ∀ (n : Fin 2048) (l : Fin 256), xs1 (ix2 n l) = g n.val l) :
    View.canon (kernelRun0_B c i arg2 harg2 arg3 harg3 arg4 harg4 arg5 harg5 arg6 harg6 arg7 harg7 arg8 harg8 arg9 harg9 arg10 harg10 hc0 hc1 x0 x1 x2 x3 xs1).2.2.1 = blockOf (fun n l => unit (g n l) * actG x0 x1 x2 x3 n l) := by
  funext y
  have hp := pad_filled c i' arg2 harg2 arg3 harg3 arg4 harg4 arg5 harg5 arg6 harg6 arg7 harg7 arg8 harg8 arg9 harg9 arg10 harg10 hc0' hc1' x0 x1 x2 x3
  rw [← (same_pieces c i arg2 harg2 arg3 harg3 arg4 harg4 arg5 harg5 arg6 harg6 arg7 harg7 arg8 harg8 arg9 harg9 arg10 harg10 hc0 hc1 x0 x1 x2 x3 xs1 i' hc0' hc1').2.2] at hp
  refine (congrArg (fun L => View.canon L y) (List.append_nil _).symm).trans
    (View.canon_append_of_piecesOf (blockOf (fun n l => unit (g n l) * actG x0 x1 x2 x3 n l)) [] _ ?_ y (cover0_B_6 c i arg2 harg2 arg3 harg3 arg4 harg4 arg5 harg5 arg6 harg6 arg7 harg7 arg8 harg8 arg9 harg9 arg10 harg10 hc0 hc1 x0 x1 x2 x3 xs1 y))
  unfold kernelRun0_B at hp ⊢
  dsimp only at hp ⊢
  refine ⟨?_, ?_, ?_, ?_, ?_, ?_, ?_, ?_, trivial⟩
  all_goals
    intro j
    idx_vars j
    rw [blockOf_emb]
    exact congrArg₂ (· * ·) (unit_piece arg10 harg10 xs1 g hg _ (by decide) _ _ _) (act_piece _ _ x0 x1 hp arg4 harg4 x2 arg5 harg5 x3 _ _ _ _ _ _ _)

end Cert.Kernel9Ideal.FfnFwd

end
-- ==== Proof.FfnFwd.Arrays.lean ====
/- The kernel's three result arrays after the run, in closed form. -/
module

public import proofs.«01_k».proof.Proof.FfnFwd.Value
public import proofs.«01_k».proof.Proof.FfnUp.Inputs
public import proofs.«01_k».proof.Proof.Gen.Kernel9Ideal.Value

@[expose] public section

set_option maxRecDepth 16384

noncomputable section

namespace Cert.Kernel9Ideal.FfnFwd

open Cert.Kernel9Ideal Cert.Kernel9Ideal.Gen Idealize.ShloMosaic Idealize.ShloMosaic.TcCoe Idealize.SL.Sem
open Cert.KernelIdeal.Conv (tall causal)
open Cert.Kernel4Ideal.FfnUp (upA padA)

/-! The closed forms. -/

/-- The product as an array. -/
def upArr (A0 : Vec Ideal S2048x1024 .bf16) (A1 : Vec Ideal S1024x6144 .bf16) : Vec Ideal S2048x6144 .bf16 := fun y => upA A0 A1 (y 0) (y 1)

/-- The convolution with its bias. -/
def actA (A0 : Vec Ideal S2048x1024 .bf16) (A1 : Vec Ideal S1024x6144 .bf16) (A2 : Vec Ideal S3x6144 .f32) (A3 : Vec Ideal S6144 .f32) (n : ℕ) (q : Fin 6144) : EReal :=
  (A2 (ix2 0 q) * padA A0 A1 (n + 6) q + A2 (ix2 1 q) * padA A0 A1 (n + 7) q + A2 (ix2 2 q) * padA A0 A1 (n + 8) q) + A3 (ix1 q)

/-- It as an array. -/
def actArr (A0 : Vec Ideal S2048x1024 .bf16) (A1 : Vec Ideal S1024x6144 .bf16) (A2 : Vec Ideal S3x6144 .f32) (A3 : Vec Ideal S6144 .f32) : Vec Ideal S2048x6144 .bf16 :=
  fun y => actA A0 A1 A2 A3 (y 0).val (y 1)

/-- A column of the first half, among all columns … -/
def low (j : Fin 3072) : Fin 6144 := ⟨j.val, by omega⟩
/-- … and of the second half. -/
def high (j : Fin 3072) : Fin 6144 := ⟨3072 + j.val, by omega⟩

/-- The smooth unit of the first half times the second half, as an array. -/
def unitArr (A0 : Vec Ideal S2048x1024 .bf16) (A1 : Vec Ideal S1024x6144 .bf16) (A2 : Vec Ideal S3x6144 .f32) (A3 : Vec Ideal S6144 .f32) : Vec Ideal S2048x3072 .bf16 :=
  fun y => unit (actA A0 A1 A2 A3 (y 0).val (low (y 1))) * actA A0 A1 A2 A3 (y 0).val (high (y 1))

variable (m : (ℓ : Loc nD τ sig) → Buf (Elt Ideal) ℓ) (c : Dev nD)

/-- The input of the product. -/
abbrev argH : Vec Ideal S2048x1024 .bf16 := m ((c : Thread nD τ).loc main_arg0)
/-- The matrix. -/
abbrev argU : Vec Ideal S1024x6144 .bf16 := m ((c : Thread nD τ).loc main_arg1)
/-- The taps. -/
abbrev argW : Vec Ideal S3x6144 .f32 := m ((c : Thread nD τ).loc main_arg2)
/-- The bias. -/
abbrev argB : Vec Ideal S6144 .f32 := m ((c : Thread nD τ).loc main_arg3)

/-! What a grid point leaves. -/

/-- The first point, which is of the first kind. -/
def start : Fin cfg0.N := ⟨0, by decide⟩
theorem start_first : cond0_0 (grid0.coords start) := (hcond0_0 start).mpr (Nat.zero_mod _)
theorem start_second : ¬cond0_1 (grid0.coords start) := fun h => absurd ((hcond0_1 start).mp h) (by decide)

/-- The product's block. -/
theorem first_at (t : Fin cfg0.N) : (outsAt0 m c t.val t.isLt).1 = blockOf (fun n l => upPad (iblk m c 0 t) (iblk m c 1 t) (n + 8) l) := by
  rcases Nat.mod_two_eq_zero_or_one t.val with h | h
  · rw [outsAt0_A m c t h (by omega)]
    dsimp only [out0_A_4]
    rw [View.read_writes_eq_canon _ _ _ (cover0_A_4 c _ _ _ _ _ _ _ _ _ _ _ _ _ _ _ _ _ _ _ _ _ _ _ _ _), up_stored]
  · rw [outsAt0_B m c t (by omega) h]
    dsimp only [out0_B_4]
    rw [View.read_writes_eq_canon _ _ _ (cover0_B_4 c _ _ _ _ _ _ _ _ _ _ _ _ _ _ _ _ _ _ _ _ _ _ _ _ _ _), (same_pieces c _ _ _ _ _ _ _ _ _ _ _ _ _ _ _ _ _ _ _ _ _ _ _ _ _ _ (grid0.coords start) start_first start_second).1, up_stored]

/-- The convolution's block. -/
theorem second_at (t : Fin cfg0.N) : (outsAt0 m c t.val t.isLt).2.1 = blockOf (actG (iblk m c 0 t) (iblk m c 1 t) (iblk m c 2 t) (iblk m c 3 t)) := by
  rcases Nat.mod_two_eq_zero_or_one t.val with h | h
  · rw [outsAt0_A m c t h (by omega)]
    dsimp only [out0_A_5]
    rw [View.read_writes_eq_canon _ _ _ (cover0_A_5 c _ _ _ _ _ _ _ _ _ _ _ _ _ _ _ _ _ _ _ _ _ _ _ _ _), act_stored]
  · rw [outsAt0_B m c t (by omega) h]
    dsimp only [out0_B_5]
    rw [View.read_writes_eq_canon _ _ _ (cover0_B_5 c _ _ _ _ _ _ _ _ _ _ _ _ _ _ _ _ _ _ _ _ _ _ _ _ _ _), (same_pieces c _ _ _ _ _ _ _ _ _ _ _ _ _ _ _ _ _ _ _ _ _ _ _ _ _ _ (grid0.coords start) start_first start_second).2.1, act_stored]

/-- The gate that a point of the first kind keeps. -/
theorem gate_at (t : Fin cfg0.N) (h : t.val % 2 = 0) : (outsAt0 m c t.val t.isLt).2.2.2 = blockOf (actG (iblk m c 0 t) (iblk m c 1 t) (iblk m c 2 t) (iblk m c 3 t)) := by
  rw [outsAt0_A m c t h (by omega)]
  dsimp only [sout0_A_1]
  rw [View.read_writes_eq_canon _ _ _ (scover0_A_1 c _ _ _ _ _ _ _ _ _ _ _ _ _ _ _ _ _ _ _ _ _ _ _ _ _), gate_stored]

/-- The point before. -/
def prev (t : Fin cfg0.N) : Fin cfg0.N := ⟨t.val - 1, Nat.lt_of_le_of_lt (Nat.sub_le _ _) t.isLt⟩

/-- The third result's block, at a point of the second kind. -/
theorem third_at (t : Fin cfg0.N) (h : t.val % 2 = 1) : (outsAt0 m c t.val t.isLt).2.2.1 = blockOf (fun n l => unit (actG (iblk m c 0 (prev t)) (iblk m c 1 (prev t)) (iblk m c 2 (prev t)) (iblk m c 3 (prev t)) n l)
    * actG (iblk m c 0 t) (iblk m c 1 t) (iblk m c 2 t) (iblk m c 3 t) n l) := by
  rw [outsAt0_B m c t (by omega) h]
  dsimp only [out0_B_6]
  rw [View.read_writes_eq_canon _ _ _ (cover0_B_6 c _ _ _ _ _ _ _ _ _ _ _ _ _ _ _ _ _ _ _ _ _ _ _ _ _ _)]
  refine unit_stored c _ _ _ _ _ _ _ _ _ _ _ _ _ _ _ _ _ _ _ _ _ _ _ _ _ _ (grid0.coords start) start_first start_second _ fun n l => ?_
  exact congrFun (gate_at m c (prev t) (by show (t.val - 1) % 2 = 0; omega)) (ix2 n l)

/-! The blocks of the arrays. -/

/-- Which block of each array a grid point reads … -/
theorem idx_blocks : ∀ t : Fin cfg0.N, win0_0.index t 0 = 0 ∧ win0_0.index t 1 = 0 ∧ win0_1.index t 0 = 0 ∧ win0_1.index t 1 = 12 * (t.val % 2) + t.val / 2 ∧ win0_2.index t 0 = 0
    ∧ win0_2.index t 1 = 12 * (t.val % 2) + t.val / 2 ∧ win0_3.index t 0 = 0 ∧ win0_3.index t 1 = 12 * (t.val % 2) + t.val / 2 :=
  (by decide +kernel : ∀ t : Fin grid0.N, win0_0.index t 0 = 0 ∧ win0_0.index t 1 = 0 ∧ win0_1.index t 0 = 0 ∧ win0_1.index t 1 = 12 * (t.val % 2) + t.val / 2 ∧ win0_2.index t 0 = 0
    ∧ win0_2.index t 1 = 12 * (t.val % 2) + t.val / 2 ∧ win0_3.index t 0 = 0 ∧ win0_3.index t 1 = 12 * (t.val % 2) + t.val / 2)

/-- … or writes. -/
theorem idx_results : ∀ t : Fin cfg0.N, win0_4.index t 0 = 0 ∧ win0_4.index t 1 = 12 * (t.val % 2) + t.val / 2 ∧ win0_5.index t 0 = 0 ∧ win0_5.index t 1 = 12 * (t.val % 2) + t.val / 2
    ∧ win0_6.index t 0 = 0 ∧ win0_6.index t 1 = t.val / 2 :=
  (by decide +kernel : ∀ t : Fin grid0.N, win0_4.index t 0 = 0 ∧ win0_4.index t 1 = 12 * (t.val % 2) + t.val / 2 ∧ win0_5.index t 0 = 0 ∧ win0_5.index t 1 = 12 * (t.val % 2) + t.val / 2
    ∧ win0_6.index t 0 = 0 ∧ win0_6.index t 1 = t.val / 2)

/-- The third result is written back at points of the second kind. -/
theorem flush_odd : ∀ t : Fin cfg0.N, win0_6.flush t = true → t.val % 2 = 1 :=
  (by decide +kernel : ∀ t : Fin grid0.N, _)

theorem lt_points (t : Fin cfg0.N) : t.val < 24 := t.isLt

/-- Column `l` of the block of a point. -/
def col (t : Fin cfg0.N) (l : Fin 256) : Fin 6144 := ⟨256 * (12 * (t.val % 2) + t.val / 2) + l.val, by have := lt_points t; omega⟩

/-- The input's block is the whole. -/
theorem block0 (t : Fin cfg0.N) (n : Fin 2048) (k : Fin 1024) : (iblk m c 0 t : Vec Ideal S2048x1024 .bf16) (ix2 n k) = argH m c (ix2 n k) := by
  obtain ⟨z, h, -⟩ := idx_blocks t
  unfold argH
  rw [← V_main_arg0 m c]
  blk_simp [iblk, h, z]
  blk_ext
  all_goals (simp only [h, z]; omega)

/-- The matrix's block. -/
theorem block1 (t : Fin cfg0.N) (k : Fin 1024) (l : Fin 256) : (iblk m c 1 t : Vec Ideal S1024x256 .bf16) (ix2 k l) = argU m c (ix2 k (col t l)) := by
  obtain ⟨-, -, z, h, -⟩ := idx_blocks t
  unfold argU
  rw [← V_main_arg1 m c]
  blk_simp [iblk, h, z]
  blk_ext
  all_goals (simp only [h, z, col]; omega)

/-- The taps' block. -/
theorem block2 (t : Fin cfg0.N) (k : Fin 3) (l : Fin 256) : (iblk m c 2 t : Vec Ideal S3x256 .f32) (ix2 k l) = argW m c (ix2 k (col t l)) := by
  obtain ⟨-, -, -, -, z, h, -⟩ := idx_blocks t
  unfold argW
  rw [← V_main_arg2 m c]
  blk_simp [iblk, h, z]
  blk_ext
  all_goals (simp only [h, z, col]; omega)

/-- The bias, as the host's line leaves it. -/
theorem hostBias (q : Fin 6144) : (V m c main_v0 : Vec Ideal S1x6144 .f32) (ix2 0 q) = argB m c (ix1 q) := by
  unfold V hostOps0 argB
  after_results_simp
  pointwise

/-- The bias's block. -/
theorem block3 (t : Fin cfg0.N) (l : Fin 256) : (iblk m c 3 t : Vec Ideal S1x256 .f32) (ix2 0 l) = argB m c (ix1 (col t l)) := by
  obtain ⟨-, -, -, -, -, -, z, h⟩ := idx_blocks t
  rw [← hostBias m c]
  blk_simp [iblk, h, z]
  blk_ext
  all_goals (simp only [h, z, col]; omega)

/-- The product in a point's blocks. -/
theorem pad_at (t : Fin cfg0.N) (n : ℕ) (l : Fin 256) : upPad (iblk m c 0 t) (iblk m c 1 t) n l = padA (argH m c) (argU m c) n (col t l) := by
  unfold upPad padA
  by_cases h : 8 ≤ n ∧ n < 2056
  · rw [dif_pos h, dif_pos h]
    exact Finset.sum_congr rfl fun k _ => congrArg₂ (· * ·) (block0 m c t _ k) (block1 m c t k l)
  · rw [dif_neg h, dif_neg h]

/-- The convolution in a point's blocks. -/
theorem act_at (t : Fin cfg0.N) (n : ℕ) (l : Fin 256) : actG (iblk m c 0 t) (iblk m c 1 t) (iblk m c 2 t) (iblk m c 3 t) n l = actA (argH m c) (argU m c) (argW m c) (argB m c) n (col t l) := by
  unfold actG causal actA
  simp only [pad_at]
  rw [block2, block2, block2, block3]

/-! The result arrays. -/

theorem upArr_at (A0 : Vec Ideal S2048x1024 .bf16) (A1 : Vec Ideal S1024x6144 .bf16) (y : S2048x6144.Idx) (n : Fin 2048) (q : Fin 6144) (hn : (y 0).val = n.val) (hq : (y 1).val = q.val) :
    upArr A0 A1 y = padA A0 A1 (n.val + 8) q := by
  unfold upArr
  rw [show y 0 = n from Fin.ext hn, show y 1 = q from Fin.ext hq, padA, dif_pos ⟨by omega, by omega⟩]
  rfl

theorem actArr_at (A0 : Vec Ideal S2048x1024 .bf16) (A1 : Vec Ideal S1024x6144 .bf16) (A2 : Vec Ideal S3x6144 .f32) (A3 : Vec Ideal S6144 .f32) (y : S2048x6144.Idx) (n : Fin 2048) (q : Fin 6144)
    (hn : (y 0).val = n.val) (hq : (y 1).val = q.val) : actArr A0 A1 A2 A3 y = actA A0 A1 A2 A3 n.val q := by
  unfold actArr
  rw [hn, show y 1 = q from Fin.ext hq]

theorem unitArr_at (A0 : Vec Ideal S2048x1024 .bf16) (A1 : Vec Ideal S1024x6144 .bf16) (A2 : Vec Ideal S3x6144 .f32) (A3 : Vec Ideal S6144 .f32) (y : S2048x3072.Idx) (n : Fin 2048) (p q : Fin 6144)
    (hn : (y 0).val = n.val) (hp : (y 1).val = p.val) (hq : 3072 + (y 1).val = q.val) : unitArr A0 A1 A2 A3 y = unit (actA A0 A1 A2 A3 n.val p) * actA A0 A1 A2 A3 n.val q := by
  unfold unitArr
  rw [hn, show low (y 1) = p from Fin.ext hp, show high (y 1) = q from Fin.ext hq]

/-- The first result. -/
theorem first_result : (dats m 0 c).arrAt 4 cfg0.N = upArr (argH m c) (argU m c) := by
  refine (dats m 0 c).arrAt_eq_of_covers 4 _ (by decide +kernel) fun t hf y => ?_
  obtain ⟨z, h, -⟩ := idx_results t
  blk_simp
  rw [after0_4, first_at]
  idx_vars y
  refine Eq.trans ?_ (upArr_at _ _ _ y0 (col t y1) ?_ ?_).symm
  · exact pad_at m c t (y0.val + 8) y1
  all_goals (blk_simp [z, h, col]; try first | omega | (dsimp only; omega))

/-- The second result. -/
theorem second_result : (dats m 0 c).arrAt 5 cfg0.N = actArr (argH m c) (argU m c) (argW m c) (argB m c) := by
  refine (dats m 0 c).arrAt_eq_of_covers 5 _ (by decide +kernel) fun t hf y => ?_
  obtain ⟨-, -, z, h, -⟩ := idx_results t
  blk_simp
  rw [after0_5, second_at]
  idx_vars y
  refine Eq.trans ?_ (actArr_at _ _ _ _ _ y0 (col t y1) ?_ ?_).symm
  · exact act_at m c t y0.val y1
  all_goals (blk_simp [z, h, col]; try first | omega | (dsimp only; omega))

/-- The third result. -/
theorem third_result : (dats m 0 c).arrAt 6 cfg0.N = unitArr (argH m c) (argU m c) (argW m c) (argB m c) := by
  refine (dats m 0 c).arrAt_eq_of_covers 6 _ (by decide +kernel) fun t hf y => ?_
  obtain ⟨-, -, -, -, z, h⟩ := idx_results t
  have ho := flush_odd t hf
  have hl := lt_points t
  blk_simp
  rw [after0_6, third_at m c t ho]
  idx_vars y
  refine Eq.trans ?_ (unitArr_at _ _ _ _ _ y0 (col (prev t) y1) (col t y1) ?_ ?_ ?_).symm
  · exact congrArg₂ (fun a b => unit a * b) (act_at m c (prev t) y0.val y1) (act_at m c t y0.val y1)
  all_goals (blk_simp [z, h, col, prev]; try first | omega | (dsimp only; omega))

end Cert.Kernel9Ideal.FfnFwd

end
-- ==== Proof.FfnFwd.Plain.lean ====
/- The reference's three results: the same closed forms. -/
module

public import proofs.«01_k».proof.Proof.FfnFwd.Arrays
public import proofs.«01_k».proof.Proof.FfnUp.Plain
public import proofs.«01_k».proof.Proof.Gen.Reference9Ideal.Run

@[expose] public section

set_option maxRecDepth 16384

noncomputable section

namespace Cert.Reference9Ideal.FfnFwd

open Cert.Reference9Ideal Cert.Reference9Ideal.Gen Cert.Reference9Ideal.Value Idealize.ShloMosaic Idealize.ShloMosaic.TcCoe Idealize.SL.Sem
open Cert.Kernel4Ideal.FfnUp (upA padA)
open Cert.Kernel9Ideal.FfnFwd (upArr actA actArr unitArr unit low high)
open Cert.Reference4Ideal.FfnUp (padA_eq padA_zero)

/-- The padded product, as the reference's padding gives it, times a tap. -/
theorem pad_dite (A0 : Vec Ideal S2048x1024 .bf16) (A1 : Vec Ideal S1024x6144 .bf16) (k : ℕ) (P : Prop) [Decidable P] (n : ¬P → Fin 2048) (q : Fin 6144) (hP : P → k < 8)
    (hk : ∀ h, k = (n h).val + 8) (w : EReal) : (if h : P then 0 else ∑ x : Fin 1024, A0 (ix2 (n h) x) * A1 (ix2 x q)) * w = w * padA A0 A1 k q := by
  split
  · next h => rw [padA_zero A0 A1 k (hP h) q, mul_comm]
  · next h => rw [padA_eq A0 A1 (n h) k (hk h) q, mul_comm]

/-- The convolution with its bias, as the reference's lines give it. -/
theorem act_sum (A0 : Vec Ideal S2048x1024 .bf16) (A1 : Vec Ideal S1024x6144 .bf16) (A2 : Vec Ideal S3x6144 .f32) (A3 : Vec Ideal S6144 .f32) (n : Fin 2048) (q : Fin 6144) :
    (if h : n.val < 2 then 0 else ∑ x : Fin 1024, A0 (ix2 ⟨n.val - 2, by omega⟩ x) * A1 (ix2 x q)) * A2 (ix2 0 q)
      + (if h : 1 + n.val < 2 then 0 else ∑ x : Fin 1024, A0 (ix2 ⟨1 + n.val - 2, by omega⟩ x) * A1 (ix2 x q)) * A2 (ix2 1 q)
      + (∑ x : Fin 1024, A0 (ix2 n x) * A1 (ix2 x q)) * A2 (ix2 2 q) + A3 (ix1 q) = actA A0 A1 A2 A3 n.val q := by
  rw [pad_dite A0 A1 (n.val + 6) _ (fun h => ⟨n.val - 2, by omega⟩) q (by omega) (by intro h; dsimp only; omega),
    pad_dite A0 A1 (n.val + 7) _ (fun h => ⟨1 + n.val - 2, by omega⟩) q (by omega) (by intro h; dsimp only; omega),
    padA_eq A0 A1 n (n.val + 8) rfl q, mul_comm (padA A0 A1 (n.val + 8) q)]
  rfl

/-- The smooth unit in the reference's order of factors. -/
theorem unit_eq (x : EReal) : x * (Ideal.ofBits FTy.f32 1056964608#32 * (1 + Ideal.tanh (Ideal.ofBits FTy.f32 1061962282#32 * (x + Ideal.ofBits FTy.f32 1027024659#32 * (x * x * x))))) = unit x := by
  unfold unit
  rw [← mul_assoc, mul_comm x, ← mul_assoc (Ideal.ofBits FTy.f32 1027024659#32) (x * x) x, ← mul_assoc (Ideal.ofBits FTy.f32 1027024659#32) x x]
  pointwise

variable (m : (ℓ : Loc nD τ sig) → Buf (Elt Ideal) ℓ) (c : Dev nD)

set_option maxHeartbeats 2000000 in
/-- The reference's run ends with the closed forms in its result arrays and the arguments as they were. -/
theorem run_closed (ρ : Dev nD → PrngReg) :
    θ_run defs (onTc (τ := τ) (main (F := Ideal))) ⟨m, fun _ => 0, ρ⟩ fun r => ∀ c : Dev nD,
      r.2.mem ((c.tc : Thread nD τ).loc main_v46) = upArr (m ((c : Thread nD τ).loc main_arg0)) (m ((c : Thread nD τ).loc main_arg1))
      ∧ r.2.mem ((c.tc : Thread nD τ).loc main_v47) = actArr (m ((c : Thread nD τ).loc main_arg0)) (m ((c : Thread nD τ).loc main_arg1)) (m ((c : Thread nD τ).loc main_arg2)) (m ((c : Thread nD τ).loc main_arg3))
      ∧ r.2.mem ((c.tc : Thread nD τ).loc main_v48) = unitArr (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2⟩) (Cert.Reference9Ideal.Value.run (F := Ideal) m ρ)
  all_goals
    clear h
    try unfold res_main_v48
    generalize m ((c : Thread nD τ).loc main_arg0) = A0
    generalize m ((c : Thread nD τ).loc main_arg1) = A1
    try generalize m ((c : Thread nD τ).loc main_arg2) = A2
    try generalize m ((c : Thread nD τ).loc main_arg3) = A3
    change Vec Ideal S2048x1024 .bf16 at A0
    change Vec Ideal S1024x6144 .bf16 at A1
    try change Vec Ideal S3x6144 .f32 at A2
    try change Vec Ideal S6144 .f32 at A3
    clean_types
    funext j
    idx_vars j
    pointwise
  · rfl
  · exact act_sum A0 A1 A2 A3 j0 j1
  · rw [act_sum A0 A1 A2 A3 j0 ⟨j1.val, by omega⟩, act_sum A0 A1 A2 A3 j0 ⟨3072 + j1.val, by omega⟩, unit_eq]
    rfl

end Cert.Reference9Ideal.FfnFwd

end
-- ==== Proof.FfnFwd.Claim.lean ====
/- The claims about the first feed-forward call of the forward pass: the reference's frame, and that both programs compute the same three arrays. -/
module

public import proofs.«01_k».proof.Defs
public import proofs.«01_k».proof.Proof.FfnFwd.Plain
public import Idealize.ShloMosaic.Lib.Quiescent

@[expose] public section

noncomputable section

namespace Cert.Proof.FfnFwd

open Idealize.ShloMosaic Idealize.ShloMosaic.TcCoe Idealize.SL.Sem
open Cert.Kernel9Ideal.FfnFwd (argH argU argW argB upArr actArr unitArr)

/-- The reference terminates, leaves its arguments as they were, and no semaphore is ever raised. -/
theorem frame_reference9 : Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run (F := Ideal) m ρ)

/-- Both programs end with the closed forms of the arguments in their three result arrays. -/
theorem algebraic9 : Cert.algebraic_Kernel9Ideal_Reference9Ideal := by
  intro m ρ m' ρ' _ hagree
  refine ⟨fun c => upArr (argH m c) (argU m c), fun c => actArr (argH m c) (argU m c) (argW m c) (argB m c), fun c => unitArr (argH m c) (argU m c) (argW m c) (argB m c), ?_, ?_⟩
  · refine (θ_run Cert.Kernel9Ideal.defs _ _).mono (fun _ h c => ?_) (Cert.Kernel9Ideal.Value.run_blocks (F := Ideal) m ρ)
    exact ⟨(h c).1.trans (Cert.Kernel9Ideal.FfnFwd.first_result m c), (h c).2.1.trans (Cert.Kernel9Ideal.FfnFwd.second_result m c),
      (h c).2.2.1.trans (Cert.Kernel9Ideal.FfnFwd.third_result m c), (h c).2.2.2⟩
  · refine (θ_run Cert.Reference9Ideal.defs _ _).mono (fun _ h c => ?_) (Cert.Reference9Ideal.FfnFwd.run_closed m' ρ')
    obtain ⟨a0, a1, a2, a3⟩ := hagree c
    refine ⟨(h c).1.trans ?_, (h c).2.1.trans ?_, (h c).2.2.1.trans ?_, (h c).2.2.2⟩
    · rw [a0, a1]
    · rw [a0, a1, a2, a3]
    · rw [a0, a1, a2, a3]

end Cert.Proof.FfnFwd

end
-- ==== Proof.Products.GradTn.lean ====
/- The gradient of the second matrix of the feed-forward block: both programs compute the gated unit and the products of its columns with the cotangent's. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Pipeline.ReadBack
public import Idealize.ShloMosaic.Lib.Quiescent

@[expose] public section

set_option maxRecDepth 16384

noncomputable section

namespace Cert.Kernel10Ideal.Products

open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The products of the columns. -/
def columns (A : Vec Ideal S2048x3072 .bf16) (B : Vec Ideal S2048x1024 .bf16) : Vec Ideal S3072x1024 .bf16 := fun y => ∑ s : Fin 2048, A (ix2 s (y 0)) * B (ix2 s (y 1))

/-- Which block of each array a grid point reads or writes. -/
theorem idx_points : ∀ t : Fin cfg0.N, win0_0.index t 0 = 0 ∧ win0_0.index t 1 = t.val ∧ win0_1.index t 0 = 0 ∧ win0_1.index t 1 = 0 ∧ win0_2.index t 0 = t.val ∧ win0_2.index t 1 = 0 :=
  (by decide +kernel : ∀ t : Fin grid0.N, _)

theorem lt_points (t : Fin cfg0.N) : t.val < 3 := t.isLt

/-- What a point stores. -/
theorem stored (x0 x1 : Vec Ideal S2048x1024 .bf16) (r d : Fin 1024) : out0_2 x0 x1 (ix2 r d) = ∑ s : Fin 2048, x0 (ix2 s r) * x1 (ix2 s d) := by
  unfold out0_2
  rw [View.canon_cons_unit_lit _ _ _ (by decide), View.ld_unit_lit _ _ (by decide), View.ld_unit_lit _ _ (by decide)]
  unfold k0_pay1
  pointwise

/-- The result array: `main_v19` is the gated unit, as the host's lines leave it. -/
theorem result : (dats m 0 c).arrAt 2 cfg0.N = columns (V m c main_v19) (m ((c : Thread nD τ).loc main_arg1)) := by
  refine (dats m 0 c).arrAt_eq_of_covers 2 _ (by decide +kernel) fun t hf y => ?_
  obtain ⟨h0, h1, h2, h3, h4, h5⟩ := idx_points t
  have ht := lt_points t
  blk_simp
  rw [after0_2]
  idx_vars y
  refine (stored _ _ y0 y1).trans (Finset.sum_congr rfl fun s _ => congrArg₂ (· * ·) ?_ ?_)
  · blk_simp [iblk, h0, h1, h4, h5]
    blk_ext
    all_goals (simp only [h0, h1, h4, h5]; try omega)
  · rw [← V_main_arg1 m c]
    blk_simp [iblk, h2, h3, h4, h5]
    blk_ext
    all_goals (simp only [h2, h3, h4, h5]; try omega)

end Cert.Kernel10Ideal.Products

namespace Cert.Proof.Products

open Idealize.ShloMosaic Idealize.ShloMosaic.TcCoe Idealize.SL.Sem

/-- The reference terminates, leaves its arguments as they were, and no semaphore is ever raised. -/
theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Both programs end with the products of the columns in their result array. -/
theorem algebraic10 : Cert.algebraic_Kernel10Ideal_Reference10Ideal := by
  intro m ρ m' ρ' _ hagree
  refine ⟨fun c => Cert.Kernel10Ideal.Products.columns (Cert.Kernel10Ideal.Gen.V m c Cert.Kernel10Ideal.main_v19) (m ((c.tc : Thread Cert.Kernel10Ideal.nD Cert.Kernel10Ideal.τ).loc Cert.Kernel10Ideal.main_arg1)), ?_, ?_⟩
  · refine (θ_run Cert.Kernel10Ideal.defs _ _).mono (fun _ h c => ?_) (Cert.Kernel10Ideal.Value.run_blocks (F := Ideal) m ρ)
    exact ⟨(h c).1.trans (Cert.Kernel10Ideal.Products.result m c), (h c).2⟩
  · refine (θ_run Cert.Reference10Ideal.defs _ _).mono (fun _ h c => ?_) (Cert.Reference10Ideal.Value.run (F := Ideal) m' ρ')
    refine ⟨(h c).1.trans ?_, (h c).2⟩
    dsimp only
    rw [(hagree c).1, (hagree c).2]
    clear h hagree
    unfold Cert.Kernel10Ideal.Gen.V Cert.Kernel10Ideal.Gen.hostOps0
    after_results_simp
    generalize m ((c.tc : Thread Cert.Kernel10Ideal.nD Cert.Kernel10Ideal.τ).loc Cert.Kernel10Ideal.main_arg0) = A
    generalize m ((c.tc : Thread Cert.Kernel10Ideal.nD Cert.Kernel10Ideal.τ).loc Cert.Kernel10Ideal.main_arg1) = B
    funext y
    idx_vars y
    pointwise
    refine Finset.sum_congr rfl fun s _ => (mul_comm _ _).trans (congrArg (· * _) (Eq.symm ?_))
    show truncf .bf16 _ _ (ix2 s y0) = _
    pointwise

end Cert.Proof.Products

end
-- ==== Proof.Products.InProjWgrad.lean ====
/- The gradient of the input projection's matrix: both programs compute the normalised rows and the products of their columns with the seven cotangents'. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Pipeline.ReadBack
public import Idealize.ShloMosaic.Lib.Quiescent

@[expose] public section

set_option maxRecDepth 16384

noncomputable section

namespace Cert.Kernel11Ideal.Products

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- Column `q` of the cotangents laid side by side. -/
def beside (A1 : Vec Ideal S3x2048x1024 .bf16) (A2 A3 : Vec Ideal S2x2048x1024 .bf16) (n : Fin 2048) (q : Fin 7168) : EReal :=
  let k : Fin 1024 := ⟨q.val % 1024, Nat.mod_lt _ (by decide)⟩
  if h : q.val < 3072 then A1 (ix3 ⟨q.val / 1024, by omega⟩ n k) else if h' : q.val < 5120 then A2 (ix3 ⟨q.val / 1024 - 3, by omega⟩ n k) else A3 (ix3 ⟨q.val / 1024 - 5, by omega⟩ n k)

/-- The products of the columns. -/
def columns (A0 : Vec Ideal S2048x1024 .bf16) (A1 : Vec Ideal S3x2048x1024 .bf16) (A2 A3 : Vec Ideal S2x2048x1024 .bf16) : Vec Ideal S1024x7168 .bf16 := fun y => ∑ n : Fin 2048, A0 (ix2 n (y 0)) * beside A1 A2 A3 n (y 1)

/-- Which block of each array a grid point reads or writes. -/
theorem idx_points : ∀ t : Fin cfg0.N, (win0_0.index t 0 = 0 ∧ win0_0.index t 1 = 0) ∧ (t.val < 3 → win0_1.index t 0 = t.val ∧ win0_1.index t 1 = 0 ∧ win0_1.index t 2 = 0)
    ∧ (3 ≤ t.val → t.val ≤ 4 → win0_2.index t 0 = t.val - 3 ∧ win0_2.index t 1 = 0 ∧ win0_2.index t 2 = 0) ∧ (5 ≤ t.val → win0_3.index t 0 = t.val - 5 ∧ win0_3.index t 1 = 0 ∧ win0_3.index t 2 = 0)
    ∧ win0_4.index t 0 = 0 ∧ win0_4.index t 1 = t.val :=
  (by decide +kernel : ∀ t : Fin grid0.N, _)

/-- A product's entry. -/
theorem product_at (v : Vec Ideal S2048x1024 .bf16) (w : Vec Ideal S1x2048x1024 .bf16) (r d : Fin 1024) : k0_pay1 v w (ix2 r d) = ∑ n : Fin 2048, v (ix2 n r) * w (ix3 0 n d) := by
  unfold k0_pay1
  pointwise

theorem ix3_eq {a b k : ℕ} {i i' : Fin a} {j : Fin b} {d d' : Fin k} (h : i.val = i'.val) (h' : d.val = d'.val) : ix3 i j d = ix3 i' j d' := by
  rw [Fin.ext h, Fin.ext h']

/-- What a point stores. -/
theorem stored (t : Fin cfg0.N) (r d : Fin 1024) (q : Fin 7168) (hq : q.val = 1024 * t.val + d.val) :
    outsAt0 m c t.val t.isLt (ix2 r d) = columns (V m c main_v13) (m ((c : Thread nD τ).loc main_arg2)) (m ((c : Thread nD τ).loc main_arg3)) (m ((c : Thread nD τ).loc main_arg4)) (ix2 r q) := by
  obtain ⟨⟨a, a'⟩, b, e, f, -⟩ := idx_points t
  have ht : t.val < 7 := t.isLt
  have hw : ∀ n : Fin 2048, (iblk m c 0 t : Vec Ideal S2048x1024 .bf16) (ix2 n r) = (V m c main_v13 : Vec Ideal S2048x1024 .bf16) (ix2 n r) := fun n => by
    blk_simp [iblk, a, a']
    blk_ext
    all_goals (simp only [a, a']; try omega)
  rcases (by omega : t.val < 3 ∨ (3 ≤ t.val ∧ t.val ≤ 4) ∨ 5 ≤ t.val) with h | h | h
  all_goals
    first
    | (rw [outsAt0_A m c t (by omega) (by omega) (by omega)]; unfold out0_A_4; rw [View.read_writes_eq_canon _ _ _ (cover0_A_4 c _ _ _ _ _ _ _ _ _ _ _ _ _ _ _ _ _ _)]; unfold kernelRun0_A)
    | (rw [outsAt0_B m c t (by omega) (by omega) (by omega)]; unfold out0_B_4; rw [View.read_writes_eq_canon _ _ _ (cover0_B_4 c _ _ _ _ _ _ _ _ _ _ _ _ _ _ _ _ _ _)]; unfold kernelRun0_B)
    | (rw [outsAt0_C m c t (by omega) (by omega) (by omega)]; unfold out0_C_4; rw [View.read_writes_eq_canon _ _ _ (cover0_C_4 c _ _ _ _ _ _ _ _ _ _ _ _ _ _ _ _ _ _)]; unfold kernelRun0_C)
    dsimp only
    rw [View.canon_cons_unit_lit _ _ _ (by decide)]
    sl_unfold_words
    simp only [View.readAt_eq_ld, (hs0_0 t).read_unread, (hs0_1 t).read_unread, (hs0_2 t).read_unread, (hs0_3 t).read_unread]
    rw [View.ld_unit_lit _ _ (by decide), View.ld_unit_lit _ _ (by decide)]
    refine (product_at _ _ r d).trans (Finset.sum_congr rfl fun n _ => congrArg₂ (· * ·) (hw n) ?_)
    show _ = beside _ _ _ n q
    unfold beside
    dsimp only
  · obtain ⟨b, b', b''⟩ := b h
    rw [dif_pos (by omega), ← V_main_arg2 m c]
    blk_simp [iblk, b, b', b'']
    blk_ext
    all_goals (simp only [b, b', b'']; try omega)
  · obtain ⟨b, b', b''⟩ := e h.1 h.2
    rw [dif_neg (by omega), dif_pos (by omega), ← V_main_arg3 m c]
    blk_simp [iblk, b, b', b'']
    blk_ext
    all_goals (simp only [b, b', b'']; try omega)
  · obtain ⟨b, b', b''⟩ := f h
    rw [dif_neg (by omega), dif_neg (by omega), ← V_main_arg4 m c]
    blk_simp [iblk, b, b', b'']
    blk_ext
    all_goals (simp only [b, b', b'']; try omega)

/-- The result array: `main_v13` holds the normalised rows, as the host's lines leave them. -/
theorem result : (dats m 0 c).arrAt 4 cfg0.N = columns (V m c main_v13) (m ((c : Thread nD τ).loc main_arg2)) (m ((c : Thread nD τ).loc main_arg3)) (m ((c : Thread nD τ).loc main_arg4)) := by
  refine (dats m 0 c).arrAt_eq_of_covers 4 _ (by decide +kernel) fun t hf y => ?_
  obtain ⟨-, -, -, -, h, h'⟩ := idx_points t
  have ht : t.val < 7 := t.isLt
  blk_simp
  rw [after0_4]
  idx_vars y
  refine (stored m c t y0 y1 ⟨1024 * t.val + y1.val, by omega⟩ rfl).trans (congrArg _ ?_)
  blk_ext
  all_goals (simp only [h, h']; try omega)

end Cert.Kernel11Ideal.Products

namespace Cert.Proof.Products

open Idealize.ShloMosaic Idealize.ShloMosaic.TcCoe Idealize.SL.Sem

/-- The reference terminates, leaves its arguments as they were, and no semaphore is ever raised. -/
theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- Both programs end with the products of the columns in their result array. -/
theorem algebraic11 : Cert.algebraic_Kernel11Ideal_Reference11Ideal := by
  intro m ρ m' ρ' _ hagree
  refine ⟨fun c => Cert.Kernel11Ideal.Products.columns (Cert.Kernel11Ideal.Gen.V m c Cert.Kernel11Ideal.main_v13) (m ((c.tc : Thread Cert.Kernel11Ideal.nD Cert.Kernel11Ideal.τ).loc Cert.Kernel11Ideal.main_arg2))
    (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)), ?_, ?_⟩
  · refine (θ_run Cert.Kernel11Ideal.defs _ _).mono (fun _ h c => ?_) (Cert.Kernel11Ideal.Value.run_blocks (F := Ideal) m ρ)
    exact ⟨(h c).1.trans (Cert.Kernel11Ideal.Products.result m c), (h c).2⟩
  · refine (θ_run Cert.Reference11Ideal.defs _ _).mono (fun _ h c => ?_) (Cert.Reference11Ideal.Value.run (F := Ideal) m' ρ')
    refine ⟨(h c).1.trans ?_, (h c).2⟩
    dsimp only
    rw [(hagree c).1, (hagree c).2.1, (hagree c).2.2.1, (hagree c).2.2.2.1, (hagree c).2.2.2.2]
    clear h hagree
    unfold Cert.Kernel11Ideal.Gen.V Cert.Kernel11Ideal.Gen.hostOps0
    after_results_simp
    generalize m ((c.tc : Thread Cert.Kernel11Ideal.nD Cert.Kernel11Ideal.τ).loc Cert.Kernel11Ideal.main_arg0) = A
    generalize m ((c.tc : Thread Cert.Kernel11Ideal.nD Cert.Kernel11Ideal.τ).loc Cert.Kernel11Ideal.main_arg1) = G
    change Vec Ideal Cert.Kernel11Ideal.S2048x1024 .f32 at A
    change Vec Ideal Cert.Kernel11Ideal.S1024 .f32 at G
    funext y
    idx_vars y
    pointwise
    refine Finset.sum_congr rfl fun n _ => (mul_comm _ _).trans (congrArg₂ (· * ·) (Eq.symm ?_) ?_)
    · show truncf .bf16 _ _ (ix2 n y0) = _
      pointwise
    show _ = Cert.Kernel11Ideal.Products.beside _ _ _ n y1
    unfold Cert.Kernel11Ideal.Products.beside
    dsimp only
    repeat' split
    all_goals first | (exfalso; omega) | exact congrArg _ (Cert.Kernel11Ideal.Products.ix3_eq (by first | omega | (dsimp; omega)) (by dsimp only; omega))

end Cert.Proof.Products

end
-- ==== Proof.Optimiser.Adam.lean ====
/- The optimiser's step of one weight matrix: both programs compute the same sum, step and moments, entry by entry. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Pipeline.ReadBack
public import Idealize.ShloMosaic.Lib.Quiescent

@[expose] public section

set_option maxRecDepth 16384

noncomputable section

namespace Cert.Kernel12Ideal.Optimiser

open Cert.Kernel12Ideal Cert.Kernel12Ideal.Gen Idealize.ShloMosaic Idealize.ShloMosaic.TcCoe Idealize.SL.Sem

/-- What one entry of the results is made of: the weight, its two moments, the device's own gradient and the others'. -/
structure Entry where
  (w m v own : EReal)
  other : Fin 3 → EReal

/-- The summed gradient. -/
def Entry.g (e : Entry) : EReal := e.own + ∑ k, e.other k
/-- The new first moment. -/
def Entry.m' (e : Entry) : EReal := Ideal.ofBits .f32 0x3F666666#32 * e.m + Ideal.ofBits .f32 0x3DCCCCCD#32 * e.g
/-- The new second moment. -/
def Entry.v' (e : Entry) : EReal := Ideal.ofBits .f32 0x3F7FBE77#32 * e.v + Ideal.ofBits .f32 0x3A83126F#32 * (e.g * e.g)
/-- The step. -/
def Entry.d (e : Entry) : EReal := Ideal.ofBits .f32 0xBA83126F#32 * (Ideal.div (Ideal.div e.m' (Ideal.ofBits .f32 0x3F26BD02#32)) (Ideal.sqrt (Ideal.div e.v' (Ideal.ofBits .f32 0x3C231ACC#32)) + Ideal.ofBits .f32 0x322BCC77#32)
  + Ideal.ofBits .f32 0x3C23D70A#32 * e.w)

section Stored

variable (x0 x1 x2 : Vec Ideal S512x896 .f32) (x3 : Vec Ideal S1x512x896 .bf16) (x4 : Vec Ideal S3x512x896 .bf16)

/-- The entry of a block. -/
def entryB (r : Fin 512) (d : Fin 896) : Entry := ⟨x0 (ix2 r d), x1 (ix2 r d), x2 (ix2 r d), x3 (ix3 0 r d), fun k => x4 (ix3 k r d)⟩

/-- What a point stores. -/
theorem g_stored (r : Fin 512) (d : Fin 896) : k0_pay2 (View.ld x3 r0_0) (View.ld x4 r0_1) (View.ld x4 r0_2) (View.ld x4 r0_3) (ix2 r d) = (entryB x0 x1 x2 x3 x4 r d).g := by
  unfold k0_pay2
  pointwise
  show x3 (ix3 0 r d) + x4 (ix3 0 r d) + x4 (ix3 1 r d) + x4 (ix3 2 r d) = x3 (ix3 0 r d) + ∑ k : Fin 3, x4 (ix3 k r d)
  rw [Fin.sum_univ_three]
  simp only [add_assoc]

theorem stored (r : Fin 512) (d : Fin 896) : out0_5 x0 x1 x2 x3 x4 (ix2 r d) = (entryB x0 x1 x2 x3 x4 r d).g ∧ out0_6 x0 x1 x2 x3 x4 (ix2 r d) = (entryB x0 x1 x2 x3 x4 r d).d
    ∧ out0_7 x0 x1 x2 x3 x4 (ix2 r d) = (entryB x0 x1 x2 x3 x4 r d).m' ∧ out0_8 x0 x1 x2 x3 x4 (ix2 r d) = (entryB x0 x1 x2 x3 x4 r d).v' := by
  have e := g_stored x0 x1 x2 x3 x4 r d
  unfold out0_5 out0_6 out0_7 out0_8 k0_pay6
  rw [View.canon_cons_unit_lit _ _ _ (by decide), View.canon_cons_unit_lit _ _ _ (by decide), View.canon_cons_unit_lit _ _ _ (by decide), View.canon_cons_unit_lit _ _ _ (by decide)]
  simp only [show ∀ x : Vec Ideal S512x896 .f32, View.ld x r0_4 = x from fun x => View.ld_unit_lit _ _ (by decide)]
  unfold k0_pay1 k0_pay5 k0_pay4 k0_pay3
  generalize k0_pay2 (View.ld x3 r0_0) (View.ld x4 r0_1) (View.ld x4 r0_2) (View.ld x4 r0_3) = G at e ⊢
  refine ⟨e, ?_, ?_, ?_⟩
  all_goals
    pointwise
    rw [e]
    rfl

end Stored

/-- The entry of the arguments. -/
def entryA (A0 A1 A2 : Vec Ideal S1024x896 .f32) (A3 : Vec Ideal S4x1024x896 .bf16) (A4 : Vec Ideal S3x1024x896 .bf16) (n : Fin 1024) (d : Fin 896) : Entry :=
  ⟨A0 (ix2 n d), A1 (ix2 n d), A2 (ix2 n d), A3 (ix3 0 n d), fun k => A4 (ix3 k n d)⟩

variable (m : (ℓ : Loc nD τ sig) → Buf (Elt Ideal) ℓ) (c : Dev nD)

/-- The entry of the launched arguments. -/
def entryM (n : Fin 1024) (d : Fin 896) : Entry :=
  entryA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n d

/-- An array of a function of the launched entries. -/
def arrayM (f : Entry → EReal) : Vec Ideal S1024x896 .f32 := fun y => f (entryM m c (y 0) (y 1))

/-- Which block of each array a grid point reads or writes: two stand on the same rows. -/
theorem idx_in : ∀ t : Fin cfg0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = 0 ∧ win0_3.index t 1 = t.val ∧ win0_3.index t 2 = 0) ∧ win0_4.index t 0 = 0 ∧ win0_4.index t 1 = t.val ∧ win0_4.index t 2 = 0 :=
  (by decide +kernel : ∀ t : Fin grid0.N, _)

theorem idx_out : ∀ t : Fin cfg0.N, (win0_5.index t 0 = t.val ∧ win0_5.index t 1 = 0) ∧ (win0_6.index t 0 = t.val ∧ win0_6.index t 1 = 0) ∧ (win0_7.index t 0 = t.val ∧ win0_7.index t 1 = 0) ∧ win0_8.index t 0 = t.val ∧ win0_8.index t 1 = 0 :=
  (by decide +kernel : ∀ t : Fin grid0.N, _)

/-- A row of a point's block, among the arrays' rows. -/
def rowOf (t : Fin cfg0.N) (r : Fin 512) : Fin 1024 := ⟨512 * t.val + r.val, by have : t.val < 2 := t.isLt; omega⟩

/-- A block's entry is the launched arguments'. -/
theorem entry_at (t : Fin cfg0.N) (r : Fin 512) (d : Fin 896) : entryB (iblk m c 0 t) (iblk m c 1 t) (iblk m c 2 t) (iblk m c 3 t) (iblk m c 4 t) r d = entryM m c (rowOf t r) d := by
  obtain ⟨⟨a, a'⟩, ⟨b, b'⟩, ⟨e, e'⟩, ⟨f, f', f''⟩, h, h', h''⟩ := idx_in t
  unfold entryB entryM entryA
  rw [← V_main_arg0 m c, ← V_main_arg1 m c, ← V_main_arg2 m c, ← V_main_arg3 m c, ← V_main_arg4 m c]
  congr 1
  case e_other => funext k; blk_simp [iblk, h, h', h'']; blk_ext; all_goals (simp only [h, h', h'', rowOf]; try omega)
  all_goals
    blk_simp [iblk, a, a', b, b', e, e', f, f', f'']
    blk_ext
    all_goals (simp only [a, a', b, b', e, e', f, f', f'', rowOf]; try omega)

/-- The result arrays. -/
theorem results : (dats m 0 c).arrAt 5 cfg0.N = arrayM m c Entry.g ∧ (dats m 0 c).arrAt 6 cfg0.N = arrayM m c Entry.d ∧ (dats m 0 c).arrAt 7 cfg0.N = arrayM m c Entry.m' ∧ (dats m 0 c).arrAt 8 cfg0.N = arrayM m c Entry.v' := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    obtain ⟨⟨a, a'⟩, ⟨b, b'⟩, ⟨e, e'⟩, h, h'⟩ := idx_out t
    blk_simp
    idx_vars y
    have s := stored (iblk m c 0 t) (iblk m c 1 t) (iblk m c 2 t) (iblk m c 3 t) (iblk m c 4 t) y0 y1
    rw [entry_at] at s
    first | (rw [after0_5]; refine s.1.trans ?_) | (rw [after0_6]; refine s.2.1.trans ?_) | (rw [after0_7]; refine s.2.2.1.trans ?_) | (rw [after0_8]; refine s.2.2.2.trans ?_)
    unfold arrayM
    congr 2
    all_goals (apply Fin.ext; blk_simp [a, a', b, b', e, e', h, h', rowOf]; try first | omega | (dsimp only; omega))

end Cert.Kernel12Ideal.Optimiser

namespace Cert.Proof.Optimiser

open Idealize.ShloMosaic Idealize.ShloMosaic.TcCoe Idealize.SL.Sem
open Cert.Kernel12Ideal.Optimiser

/-- The reference terminates, leaves its arguments as they were, and no semaphore is ever raised. -/
theorem frame_reference12 : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

/-- Both programs end with the entries' sum, step and moments in their result arrays. -/
theorem algebraic12 : Cert.algebraic_Kernel12Ideal_Reference12Ideal := by
  intro m ρ m' ρ' _ hagree
  refine ⟨fun c => arrayM m c Entry.g, fun c => arrayM m c Entry.d, fun c => arrayM m c Entry.m', fun c => arrayM m c Entry.v', ?_, ?_⟩
  · refine (θ_run Cert.Kernel12Ideal.defs _ _).mono (fun _ h c => ?_) (Cert.Kernel12Ideal.Value.run_blocks (F := Ideal) m ρ)
    obtain ⟨r1, r2, r3, r4⟩ := results m c
    exact ⟨(h c).1.trans r1, (h c).2.1.trans r2, (h c).2.2.1.trans r3, (h c).2.2.2.1.trans r4, (h c).2.2.2.2⟩
  · refine (θ_run Cert.Reference12Ideal.defs _ _).mono (fun _ h c => ?_) (Cert.Reference12Ideal.Value.run (F := Ideal) m' ρ')
    refine ⟨(h c).1.trans ?_, (h c).2.1.trans ?_, (h c).2.2.1.trans ?_, (h c).2.2.2.1.trans ?_, (h c).2.2.2.2⟩
    all_goals
      dsimp only
      simp only [(hagree c).1, (hagree c).2.1, (hagree c).2.2.1, (hagree c).2.2.2.1, (hagree c).2.2.2.2]
      funext y
      idx_vars y
      pointwise
      rfl

end Cert.Proof.Optimiser

end
-- ==== Proof.lean ====
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference5Ideal.Run
public import proofs.«01_k».proof.Proof.Gen.Kernel5
public import proofs.«01_k».proof.Proof.Gen.Kernel5Ideal.Frame.Runs
public import proofs.«01_k».proof.Proof.Gen.Pre_merge_args_finite
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel2.Skeleton
public import proofs.«01_k».proof.Proof.Gen.Kernel2Ideal.Skeleton
public import proofs.«01_k».proof.Proof.Gen.Kernel2Ideal.Loops
public import proofs.«01_k».proof.Proof.Conv.Claim
public import proofs.«01_k».proof.Proof.Lru.Claim
public import proofs.«01_k».proof.Proof.Steps.Frames
public import proofs.«01_k».proof.Proof.FfnDown.Claim
public import proofs.«01_k».proof.Proof.FfnUp.Claim
public import proofs.«01_k».proof.Proof.Gen.Pre_loss_args_finite
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import Idealize.ShloMosaic.Adequacy
public import Idealize.ShloMosaic.Init
public import proofs.«01_k».proof.Proof.Merge.Frames
public import proofs.«01_k».proof.Proof.Merge.Claim
public import proofs.«01_k».proof.Proof.Gen.Pre_xgrad_args_finite
public import proofs.«01_k».proof.Proof.InProj.Claim
public import proofs.«01_k».proof.Proof.ConvFwd.Claim
public import proofs.«01_k».proof.Proof.MergeFwd.Claim
public import proofs.«01_k».proof.Proof.FfnFwd.Claim
public import proofs.«01_k».proof.Proof.Products.GradTn
public import proofs.«01_k».proof.Proof.Products.InProjWgrad
public import proofs.«01_k».proof.Proof.Optimiser.Adam
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_loss_args_finite.Gen.facts, Cert.Pre_merge_args_finite.Gen.facts, Cert.Pre_xgrad_args_finite.Gen.facts,
  fun m ρ _ => Cert.Kernel.Gen.frame m ρ, fun m ρ _ => Cert.KernelIdeal.Gen.frame m ρ, Cert.Proof.Conv.frame_reference,
  Cert.Proof.Lru.frame_words, fun m ρ _ => Cert.Kernel2Ideal.Lru.frame m ρ, Cert.Proof.Lru.frame_reference,
  fun m ρ _ => Cert.Kernel3.Gen.frame m ρ, fun m ρ _ => Cert.Kernel3Ideal.Gen.frame m ρ, fun m ρ _ => Cert.Kernel3Ideal.Gen.frame m ρ,
  Cert.Proof.Steps.frame_reference3, fun m ρ _ => Cert.Proof.Steps.frame_reference3 m ρ trivial,
  fun m ρ _ => Cert.Kernel4.Gen.frame m ρ, fun m ρ _ => Cert.Kernel4Ideal.Gen.frame m ρ, Cert.Proof.Steps.frame_reference4,
  Cert.Proof.Merge.frame_words, fun m ρ _ => Cert.Kernel5Ideal.Merge.frame m ρ, fun m ρ _ => Cert.Kernel5Ideal.Merge.frame m ρ,
  Cert.Proof.Merge.frame_reference, fun m ρ _ => Cert.Proof.Merge.frame_reference m ρ trivial,
  fun m ρ _ => Cert.Kernel6.Gen.frame m ρ, fun m ρ _ => Cert.Kernel6Ideal.Gen.frame m ρ, fun m ρ _ => Cert.Kernel6Ideal.Gen.frame m ρ,
  Cert.Proof.Steps.frame_reference6, fun m ρ _ => Cert.Proof.Steps.frame_reference6 m ρ trivial,
  fun m ρ _ => Cert.Kernel7.Gen.frame m ρ, fun m ρ _ => Cert.Kernel7Ideal.Gen.frame m ρ, Cert.Proof.ConvFwd.frame_reference7,
  fun m ρ _ => Cert.Kernel8.Gen.frame m ρ, fun m ρ _ => Cert.Kernel8Ideal.Gen.frame m ρ, Cert.Proof.MergeFwd.frame_reference8,
  fun m ρ _ => Cert.Kernel9.Gen.frame m ρ, fun m ρ _ => Cert.Kernel9Ideal.Gen.frame m ρ, Cert.Proof.FfnFwd.frame_reference9,
  fun m ρ _ => Cert.Kernel10.Gen.frame m ρ, fun m ρ _ => Cert.Kernel10Ideal.Gen.frame m ρ, Cert.Proof.Products.frame_reference10,
  fun m ρ _ => Cert.Kernel11.Gen.frame m ρ, fun m ρ _ => Cert.Kernel11Ideal.Gen.frame m ρ, Cert.Proof.Products.frame_reference11,
  fun m ρ _ => Cert.Kernel12.Gen.frame m ρ, fun m ρ _ => Cert.Kernel12Ideal.Gen.frame m ρ, Cert.Proof.Optimiser.frame_reference12,
  trivial, Cert.Proof.Conv.algebraic, trivial,
  ⟨IdealRules.named_const.statement Cert.Kernel3Ideal.κ "gelu_c" .f32 0x3D372713#32 _ rfl,
    IdealRules.named_const.statement Cert.Kernel3Ideal.κ "gelu_3c" .f32 0x3E095D4F#32 _ rfl⟩,
  Cert.Proof.FfnDown.algebraic, trivial, Cert.Proof.FfnUp.algebraic, trivial,
  Cert.Proof.Merge.algebraic, trivial, Cert.Proof.InProj.algebraic,
  trivial, Cert.Proof.ConvFwd.algebraic7, trivial, Cert.Proof.MergeFwd.algebraic8, trivial, Cert.Proof.FfnFwd.algebraic9,
  trivial, Cert.Proof.Products.algebraic10, trivial, Cert.Proof.Products.algebraic11, trivial, Cert.Proof.Optimiser.algebraic12⟩

end Cert.Proof

end
